-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v27)) (v1 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_v30) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11)) (v1 : (c : Dev Cert.Kernel4Ideal.nD) → Buf (Elt Ideal) ((c.tc : Thread Cert.Kernel4Ideal.nD Cert.Kernel4Ideal.τ).loc Cert.Kernel4Ideal.main_v12)) (v2 : (c : Dev Cert.Kernel4Ideal.nD) → Buf (Elt Ideal) ((c.tc : Thread Cert.Kernel4Ideal.nD Cert.Kernel4Ideal.τ).loc Cert.Kernel4Ideal.main_v14)) (v3 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_v14) = v2 c
          ∧ r.2.mem ((c.tc : Thread Cert.Kernel4Ideal.nD Cert.Kernel4Ideal.τ).loc Cert.Kernel4Ideal.main_v16) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v21) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v37)) (v1 : (c : Dev Cert.Kernel5Ideal.nD) → Buf (Elt Ideal) ((c.tc : Thread Cert.Kernel5Ideal.nD Cert.Kernel5Ideal.τ).loc Cert.Kernel5Ideal.main_v36_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_v36_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v34)) (v1 : (c : Dev Cert.Kernel6Ideal.nD) → Buf (Elt Ideal) ((c.tc : Thread Cert.Kernel6Ideal.nD Cert.Kernel6Ideal.τ).loc Cert.Kernel6Ideal.main_v33_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v64)) (v1 : (c : Dev Cert.Kernel7Ideal.nD) → Buf (Elt Ideal) ((c.tc : Thread Cert.Kernel7Ideal.nD Cert.Kernel7Ideal.τ).loc Cert.Kernel7Ideal.main_v65)) (v2 : (c : Dev Cert.Kernel7Ideal.nD) → Buf (Elt Ideal) ((c.tc : Thread Cert.Kernel7Ideal.nD Cert.Kernel7Ideal.τ).loc Cert.Kernel7Ideal.main_v66)) (v3 : (c : Dev Cert.Kernel7Ideal.nD) → Buf (Elt Ideal) ((c.tc : Thread Cert.Kernel7Ideal.nD Cert.Kernel7Ideal.τ).loc Cert.Kernel7Ideal.main_v68)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v64) = v0 c
          ∧ r.2.mem ((c.tc : Thread Cert.Kernel7Ideal.nD Cert.Kernel7Ideal.τ).loc Cert.Kernel7Ideal.main_v65) = v1 c
          ∧ r.2.mem ((c.tc : Thread Cert.Kernel7Ideal.nD Cert.Kernel7Ideal.τ).loc Cert.Kernel7Ideal.main_v66) = v2 c
          ∧ r.2.mem ((c.tc : Thread Cert.Kernel7Ideal.nD Cert.Kernel7Ideal.τ).loc Cert.Kernel7Ideal.main_v68) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v90) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_v84) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "log2_e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15)) (v1 : (c : Dev Cert.Kernel8Ideal.nD) → Buf (Elt Ideal) ((c.tc : Thread Cert.Kernel8Ideal.nD Cert.Kernel8Ideal.τ).loc Cert.Kernel8Ideal.main_v16)) (v2 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_v16) = v1 c
          ∧ r.2.mem ((c.tc : Thread Cert.Kernel8Ideal.nD Cert.Kernel8Ideal.τ).loc Cert.Kernel8Ideal.main_v17) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v13)) (v1 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_v15) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)) (v1 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_v4) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v14)) (v1 : (c : Dev Cert.Kernel11Ideal.nD) → Buf (Elt Ideal) ((c.tc : Thread Cert.Kernel11Ideal.nD Cert.Kernel11Ideal.τ).loc Cert.Kernel11Ideal.main_v15)) (v2 : (c : Dev Cert.Kernel11Ideal.nD) → Buf (Elt Ideal) ((c.tc : Thread Cert.Kernel11Ideal.nD Cert.Kernel11Ideal.τ).loc Cert.Kernel11Ideal.main_v17)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_v15) = v1 c
          ∧ r.2.mem ((c.tc : Thread Cert.Kernel11Ideal.nD Cert.Kernel11Ideal.τ).loc Cert.Kernel11Ideal.main_v17) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v21)) (v1 : (c : Dev Cert.Kernel12Ideal.nD) → Buf (Elt Ideal) ((c.tc : Thread Cert.Kernel12Ideal.nD Cert.Kernel12Ideal.τ).loc Cert.Kernel12Ideal.main_v24)) (v2 : (c : Dev Cert.Kernel12Ideal.nD) → Buf (Elt Ideal) ((c.tc : Thread Cert.Kernel12Ideal.nD Cert.Kernel12Ideal.τ).loc Cert.Kernel12Ideal.main_v27)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v21) = v0 c
          ∧ r.2.mem ((c.tc : Thread Cert.Kernel12Ideal.nD Cert.Kernel12Ideal.τ).loc Cert.Kernel12Ideal.main_v24) = v1 c
          ∧ r.2.mem ((c.tc : Thread Cert.Kernel12Ideal.nD Cert.Kernel12Ideal.τ).loc Cert.Kernel12Ideal.main_v27) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v3) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  IdealRules.named_const.Statement Cert.Kernel13Ideal.κ "log2_e" .f32 0x3FB8AA3B#32 (((Real.log 2)⁻¹ : ℝ) : EReal)

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v10) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts) (hPre_finite8 : Cert.Pre_finite8.Facts) (hPre_finite9 : Cert.Pre_finite9.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S1x8x2048 : Shape := ⟨3, ![1, 8, 2048]⟩
abbrev S1x2048x8 : Shape := ⟨3, ![1, 2048, 8]⟩
abbrev S1x8 : Shape := ⟨2, ![1, 8]⟩
abbrev S_ : Shape := ⟨0, ![]⟩

class Facts : Prop where
  bcast_S_S1x8x2048 : S_.BroadcastsInDim S1x8x2048 (![] : Fin 0 → Fin S1x8x2048.rank)

variable [Facts]

def fn {F : FTy → Type} [FloatOps F] (main_arg0 : FVec F S1x8x2048 .f32) (main_arg1 : FVec F S1x2048x8 .f32) (main_arg2 : FVec F S1x8 .f32) : IVec S1x8x2048 1 :=
  let main_v0 : FVec F S1x8x2048 .f32 := Host.absf main_arg0
  let main_cst : FVec F S_ .f32 := constant S_ .f32 0x7F800000#32
  let main_v1 : FVec F S1x8x2048 .f32 := broadcastInDim S1x8x2048 ![] bcast_S_S1x8x2048 main_cst
  let main_v2 : IVec S1x8x2048 1 := cmpf .olt main_v0 main_v1
  main_v2
-- ==== Pre_finite13.lean ====
abbrev S1x2048x512 : Shape := ⟨3, ![1, 2048, 512]⟩
abbrev S_ : Shape := ⟨0, ![]⟩

class Facts : Prop where
  bcast_S_S1x2048x512 : S_.BroadcastsInDim S1x2048x512 (![] : Fin 0 → Fin S1x2048x512.rank)

variable [Facts]

def fn {F : FTy → Type} [FloatOps F] (main_arg0 : FVec F S1x2048x512 .f32) (main_arg1 : FVec F S1x2048x512 .f32) (main_arg2 : FVec F S1x2048x512 .f32) : IVec S1x2048x512 1 × IVec S1x2048x512 1 × IVec S1x2048x512 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  (main_v2, main_v5, main_v8)
-- ==== Pre_finite14.lean ====
abbrev S1x2048x8 : Shape := ⟨3, ![1, 2048, 8]⟩
abbrev S1x8 : Shape := ⟨2, ![1, 8]⟩
abbrev S_ : Shape := ⟨0, ![]⟩

class Facts : Prop where
  bcast_S_S1x2048x8 : S_.BroadcastsInDim S1x2048x8 (![] : Fin 0 → Fin S1x2048x8.rank)
  bcast_S_S1x8 : S_.BroadcastsInDim S1x8 (![] : Fin 0 → Fin S1x8.rank)

variable [Facts]

def fn {F : FTy → Type} [FloatOps F] (main_arg0 : FVec F S1x2048x8 .f32) (main_arg1 : FVec F S1x8 .f32) : IVec S1x2048x8 1 × IVec S1x8 1 :=
  let main_v0 : FVec F S1x2048x8 .f32 := Host.absf main_arg0
  let main_cst : FVec F S_ .f32 := constant S_ .f32 0x7F800000#32
  let main_v1 : FVec F S1x2048x8 .f32 := broadcastInDim S1x2048x8 ![] bcast_S_S1x2048x8 main_cst
  let main_v2 : IVec S1x2048x8 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  (main_v2, main_v5)
-- ==== Pre_finite2.lean ====
abbrev S1x2048x1024 : Shape := ⟨3, ![1, 2048, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1024 .f32) (main_arg2 : FVec F S1x2048x1024 .f32) : IVec S1x2048x1024 1 × IVec S1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_finite3.lean ====
abbrev S1x2048x1024 : Shape := ⟨3, ![1, 2048, 1024]⟩
abbrev S1x2048x2816 : Shape := ⟨3, ![1, 2048, 2816]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x2048x1024 : S_.BroadcastsInDim S1x2048x1024 (![] : Fin 0 → Fin S1x2048x1024.rank)
  bcast_S_S1x2048x2816 : S_.BroadcastsInDim S1x2048x2816 (![] : Fin 0 → Fin S1x2048x2816.rank)
  bcast_S_S1x2816x1024 : S_.BroadcastsInDim S1x2816x1024 (![] : Fin 0 → Fin S1x2816x1024.rank)

variable [Facts]

def fn {F : FTy → Type} [FloatOps F] (main_arg0 : FVec F S1x2048x1024 .f32) (main_arg1 : FVec F S1x2048x2816 .f32) (main_arg2 : FVec F S1x2048x2816 .f32) (main_arg3 : FVec F S1x1024x2816 .f32) (main_arg4 : FVec F S1x1024x2816 .f32) (main_arg5 : FVec F S1x2816x1024 .f32) : IVec S1x2048x1024 1 × IVec S1x2048x2816 1 × IVec S1x2816x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x2816 .f32 := Host.absf main_arg2
  let main_cst_0 : FVec F S_ .f32 := constant S_ .f32 0x7F800000#32
  let main_v4 : FVec F S1x2048x2816 .f32 := broadcastInDim S1x2048x2816 ![] bcast_S_S1x2048x2816 main_cst_0
  let main_v5 : IVec S1x2048x2816 1 := cmpf .olt main_v3 main_v4
  let main_v6 : FVec F S1x2816x1024 .f32 := Host.absf main_arg5
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  (main_v2, main_v5, main_v8)
-- ==== Pre_finite5.lean ====
abbrev S1x2048x1024 : Shape := ⟨3, ![1, 2048, 1024]⟩
abbrev S1x2048x2816 : Shape := ⟨3, ![1, 2048, 2816]⟩
abbrev S1x1024 : Shape := ⟨2, ![1, 1024]⟩
abbrev S1x1024x2816 : Shape := ⟨3, ![1, 1024, 2816]⟩
abbrev S_ : Shape := ⟨0, ![]⟩

class Facts : Prop where
  bcast_S_S1x2048x2816 : S_.BroadcastsInDim S1x2048x2816 (![] : Fin 0 → Fin S1x2048x2816.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)

variable [Facts]

def fn {F : FTy → Type} [FloatOps F] (main_arg0 : FVec F S1x2048x1024 .f32) (main_arg1 : FVec F S1x2048x2816 .f32) (main_arg2 : FVec F S1x2048x2816 .f32) (main_arg3 : FVec F S1x2048x1024 .f32) (main_arg4 : FVec F S1x1024 .f32) (main_arg5 : FVec F S1x1024x2816 .f32) (main_arg6 : FVec F S1x1024x2816 .f32) : IVec S1x2048x2816 1 × IVec S1x2048x2816 1 × IVec S1x2048x1024 1 × IVec S1x1024 1 × IVec S1x1024x2816 1 × IVec S1x1024x2816 1 :=
  let main_v0 : FVec F S1x2048x2816 .f32 := Host.absf main_arg1
  let main_cst : FVec F S_ .f32 := constant S_ .f32 0x7F800000#32
  let main_v1 : FVec F S1x2048x2816 .f32 := broadcastInDim S1x2048x2816 ![] bcast_S_S1x2048x2816 main_cst
  let main_v2 : IVec S1x2048x2816 1 := cmpf .olt main_v0 main_v1
  let main_v3 : FVec F S1x2048x2816 .f32 := Host.absf main_arg2
  let main_cst_0 : FVec F S_ .f32 := constant S_ .f32 0x7F800000#32
  let main_v4 : FVec F S1x2048x2816 .f32 := broadcastInDim S1x2048x2816 ![] bcast_S_S1x2048x2816 main_cst_0
  let main_v5 : IVec S1x2048x2816 1 := cmpf .olt main_v3 main_v4
  let main_v6 : FVec F S1x2048x1024 .f32 := Host.absf main_arg3
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x2816 .f32 := Host.absf main_arg5
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x1024x2816 .f32 := Host.absf main_arg6
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  (main_v2, main_v5, main_v8, main_v11, main_v14, main_v17)
-- ==== Pre_finite6.lean ====
abbrev S1x2048x1024 : Shape := ⟨3, ![1, 2048, 1024]⟩
abbrev S1x2048x3080 : Shape := ⟨3, ![1, 2048, 3080]⟩
abbrev S1x2048x2048 : Shape := ⟨3, ![1, 2048, 2048]⟩
abbrev S1x1024 : Shape := ⟨2, ![1, 1024]⟩
abbrev S1x1024x3080 : Shape := ⟨3, ![1, 1024, 3080]⟩
abbrev S1x1024x2048 : Shape := ⟨3, ![1, 1024, 2048]⟩
abbrev S_ : Shape := ⟨0, ![]⟩

class Facts : Prop where
  bcast_S_S1x2048x3080 : S_.BroadcastsInDim S1x2048x3080 (![] : Fin 0 → Fin S1x2048x3080.rank)
  bcast_S_S1x2048x2048 : S_.BroadcastsInDim S1x2048x2048 (![] : Fin 0 → Fin S1x2048x2048.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x3080 : S_.BroadcastsInDim S1x1024x3080 (![] : Fin 0 → Fin S1x1024x3080.rank)
  bcast_S_S1x1024x2048 : S_.BroadcastsInDim S1x1024x2048 (![] : Fin 0 → Fin S1x1024x2048.rank)

variable [Facts]

def fn {F : FTy → Type} [FloatOps F] (main_arg0 : FVec F S1x2048x1024 .f32) (main_arg1 : FVec F S1x2048x3080 .f32) (main_arg2 : FVec F S1x2048x2048 .f32) (main_arg3 : FVec F S1x2048x1024 .f32) (main_arg4 : FVec F S1x1024 .f32) (main_arg5 : FVec F S1x1024x3080 .f32) (main_arg6 : FVec F S1x1024x2048 .f32) : IVec S1x2048x3080 1 × IVec S1x2048x2048 1 × IVec S1x2048x1024 1 × IVec S1x1024 1 × IVec S1x1024x3080 1 × IVec S1x1024x2048 1 :=
  let main_v0 : FVec F S1x2048x3080 .f32 := Host.absf main_arg1
  let main_cst : FVec F S_ .f32 := constant S_ .f32 0x7F800000#32
  let main_v1 : FVec F S1x2048x3080 .f32 := broadcastInDim S1x2048x3080 ![] bcast_S_S1x2048x3080 main_cst
  let main_v2 : IVec S1x2048x3080 1 := cmpf .olt main_v0 main_v1
  let main_v3 : FVec F S1x2048x2048 .f32 := Host.absf main_arg2
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048x1024 .f32 := Host.absf main_arg3
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x3080 .f32 := Host.absf main_arg5
  let main_cst_3 : FVec F S_ .f32 := constant S_ .f32 0x7F800000#32
  let main_v13 : FVec F S1x1024x3080 .f32 := broadcastInDim S1x1024x3080 ![] bcast_S_S1x1024x3080 main_cst_3
  let main_v14 : IVec S1x1024x3080 1 := cmpf .olt main_v12 main_v13
  let main_v15 : FVec F S1x1024x2048 .f32 := Host.absf main_arg6
  let main_cst_4 : FVec F S_ .f32 := constant S_ .f32 0x7F800000#32
  let main_v16 : FVec F S1x1024x2048 .f32 := broadcastInDim S1x1024x2048 ![] bcast_S_S1x1024x2048 main_cst_4
  let main_v17 : IVec S1x1024x2048 1 := cmpf .olt main_v15 main_v16
  (main_v2, main_v5, main_v8, main_v11, main_v14, main_v17)
-- ==== Pre_finite7.lean ====
abbrev S1x2048x512 : Shape := ⟨3, ![1, 2048, 512]⟩
abbrev S1x8x2048 : Shape := ⟨3, ![1, 8, 2048]⟩
abbrev S_ : Shape := ⟨0, ![]⟩

class Facts : Prop where
  bcast_S_S1x2048x512 : S_.BroadcastsInDim S1x2048x512 (![] : Fin 0 → Fin S1x2048x512.rank)
  bcast_S_S1x8x2048 : S_.BroadcastsInDim S1x8x2048 (![] : Fin 0 → Fin S1x8x2048.rank)

variable [Facts]

def fn {F : FTy → Type} [FloatOps F] (main_arg0 : FVec F S1x2048x512 .f32) (main_arg1 : FVec F S1x2048x512 .f32) (main_arg2 : FVec F S1x2048x512 .f32) (main_arg3 : FVec F S1x8x2048 .f32) (main_arg4 : FVec F S1x2048x512 .f32) : IVec S1x2048x512 1 × IVec S1x2048x512 1 × IVec S1x2048x512 1 × IVec S1x8x2048 1 × IVec S1x2048x512 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  let main_v9 : FVec F S1x8x2048 .f32 := Host.absf main_arg3
  let main_cst_2 : FVec F S_ .f32 := constant S_ .f32 0x7F800000#32
  let main_v10 : FVec F S1x8x2048 .f32 := broadcastInDim S1x8x2048 ![] bcast_S_S1x8x2048 main_cst_2
  let main_v11 : IVec S1x8x2048 1 := cmpf .olt main_v9 main_v10
  let main_v12 : FVec F S1x2048x512 .f32 := Host.absf main_arg4
  let main_cst_3 : FVec F S_ .f32 := constant S_ .f32 0x7F800000#32
  let main_v13 : FVec F S1x2048x512 .f32 := broadcastInDim S1x2048x512 ![] bcast_S_S1x2048x512 main_cst_3
  let main_v14 : IVec S1x2048x512 1 := cmpf .olt main_v12 main_v13
  (main_v2, main_v5, main_v8, main_v11, main_v14)
-- ==== Pre_finite8.lean ====
abbrev S1x2048x512 : Shape := ⟨3, ![1, 2048, 512]⟩
abbrev S_ : Shape := ⟨0, ![]⟩

class Facts : Prop where
  bcast_S_S1x2048x512 : S_.BroadcastsInDim S1x2048x512 (![] : Fin 0 → Fin S1x2048x512.rank)

variable [Facts]

def fn {F : FTy → Type} [FloatOps F] (main_arg0 : FVec F S1x2048x512 .f32) (main_arg1 : FVec F S1x2048x512 .f32) (main_arg2 : FVec F S1x2048x512 .f32) (main_arg3 : FVec F S1x2048x512 .f32) : IVec S1x2048x512 1 × IVec S1x2048x512 1 × IVec S1x2048x512 1 × IVec S1x2048x512 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  let main_v9 : FVec F S1x2048x512 .f32 := Host.absf main_arg3
  let main_cst_2 : FVec F S_ .f32 := constant S_ .f32 0x7F800000#32
  let main_v10 : FVec F S1x2048x512 .f32 := broadcastInDim S1x2048x512 ![] bcast_S_S1x2048x512 main_cst_2
  let main_v11 : IVec S1x2048x512 1 := cmpf .olt main_v9 main_v10
  (main_v2, main_v5, main_v8, main_v11)
-- ==== Pre_finite9.lean ====
abbrev S1x2048x512 : Shape := ⟨3, ![1, 2048, 512]⟩
abbrev S1x8x2048 : Shape := ⟨3, ![1, 8, 2048]⟩
abbrev S_ : Shape := ⟨0, ![]⟩

class Facts : Prop where
  bcast_S_S1x2048x512 : S_.BroadcastsInDim S1x2048x512 (![] : Fin 0 → Fin S1x2048x512.rank)
  bcast_S_S1x8x2048 : S_.BroadcastsInDim S1x8x2048 (![] : Fin 0 → Fin S1x8x2048.rank)

variable [Facts]

def fn {F : FTy → Type} [FloatOps F] (main_arg0 : FVec F S1x2048x512 .f32) (main_arg1 : FVec F S1x2048x512 .f32) (main_arg2 : FVec F S1x2048x512 .f32) (main_arg3 : FVec F S1x8x2048 .f32) : IVec S1x2048x512 1 × IVec S1x2048x512 1 × IVec S1x2048x512 1 × IVec S1x8x2048 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  let main_v9 : FVec F S1x8x2048 .f32 := Host.absf main_arg3
  let main_cst_2 : FVec F S_ .f32 := constant S_ .f32 0x7F800000#32
  let main_v10 : FVec F S1x8x2048 .f32 := broadcastInDim S1x8x2048 ![] bcast_S_S1x8x2048 main_cst_2
  let main_v11 : IVec S1x8x2048 1 := cmpf .olt main_v9 main_v10
  (main_v2, main_v5, main_v8, main_v11)
-- ==== Kernel.lean ====
abbrev S1x8x2048 : Shape := ⟨3, ![1, 8, 2048]⟩
abbrev S1x2048x8 : Shape := ⟨3, ![1, 2048, 8]⟩
abbrev S1x8 : Shape := ⟨2, ![1, 8]⟩
abbrev S8x2048 : Shape := ⟨2, ![8, 2048]⟩
abbrev S2048x8 : Shape := ⟨2, ![2048, 8]⟩
abbrev S_ : Shape := ⟨0, ![]⟩
abbrev S2048x128 : Shape := ⟨2, ![2048, 128]⟩
abbrev S1x128 : Shape := ⟨2, ![1, 128]⟩
abbrev S128x128 : Shape := ⟨2, ![128, 128]⟩
abbrev S128 : Shape := ⟨1, ![128]⟩

abbrev nBuf : Space → Nat
  | .hbm => 20
  | .vmem => 5
  | .smem => 0
  | _ => 0

abbrev bufTy : (tb : Table) → Fin (tcTables nBuf tb) → BufTy
  | .hbm, ⟨0, _⟩ => ⟨S1x8x2048, .f32⟩
  | .hbm, ⟨1, _⟩ => ⟨S1x2048x8, .f32⟩
  | .hbm, ⟨2, _⟩ => ⟨S1x8, .f32⟩
  | .hbm, ⟨3, _⟩ => ⟨S8x2048, .f32⟩
  | .hbm, ⟨4, _⟩ => ⟨S2048x8, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x8, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S2048x128, .f32⟩
  | .hbm, ⟨16, _⟩ => ⟨S1x128, .f32⟩
  | .hbm, ⟨17, _⟩ => ⟨S2048x8, .f32⟩
  | .hbm, ⟨18, _⟩ => ⟨S1x2048x8, .f32⟩
  | .hbm, ⟨19, _⟩ => ⟨S1x8, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S1x128, .f32⟩
  | _, _ => ⟨S1x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c15_i32 : BitVec 32 := 15#32
  let c0_i32 : BitVec 32 := 0#32
  let c1_i32 : BitVec 32 := 1#32
  let arg5 : BitVec 32 := Scf.iv c0_i32 c1_i32 k0_t1
  let v10 : BitVec 32 := Scalar.subi c15_i32 arg5
  let c128_i32 : BitVec 32 := 128#32
  let v11 : BitVec 32 := Scalar.muli v10 c128_i32
  v11
def k0_off1 (k0_t1 : Fin k0_t1_loop.trips) : Fin 2 → Nat :=
  let c15_i32 : BitVec 32 := 15#32
  let c0_i32 : BitVec 32 := 0#32
  let c1_i32 : BitVec 32 := 1#32
  let arg5 : BitVec 32 := Scf.iv c0_i32 c1_i32 k0_t1
  let v10 : BitVec 32 := Scalar.subi c15_i32 arg5
  let c128_i32 : BitVec 32 := 128#32
  let v11 : BitVec 32 := Scalar.muli v10 c128_i32
  let v12 : BitVec 32 := v11
  let v13 : Index := Scalar.indexCast v12
  let c0_2 : Index := 0#32
  ![v13.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x8x2048 : Shape := ⟨3, ![1, 8, 2048]⟩
abbrev S1x2048x8 : Shape := ⟨3, ![1, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S1x8x2048, .f32⟩
  | .hbm, ⟨1, _⟩ => ⟨S1x2048x8, .f32⟩
  | .hbm, ⟨2, _⟩ => ⟨S1x8, .f32⟩
  | .hbm, ⟨3, _⟩ => ⟨S8, .f32⟩
  | .hbm, ⟨4, _⟩ => ⟨S1x1x8, .f32⟩
  | .hbm, ⟨5, _⟩ => ⟨S1x2048x8, .f32⟩
  | .hbm, ⟨6, _⟩ => ⟨S1x2048x8, .f32⟩
  | .hbm, ⟨7, _⟩ => ⟨S1x2048x8, .f32⟩
  | .hbm, ⟨8, _⟩ => ⟨S_, .f32⟩
  | .hbm, ⟨9, _⟩ => ⟨S1x2048x8, .f32⟩
  | .hbm, ⟨10, _⟩ => ⟨S1x2048x8, .f32⟩
  | .hbm, ⟨11, _⟩ => ⟨S1x2048x8, .f32⟩
  | .hbm, ⟨12, _⟩ => ⟨S1x2048x8, .f32⟩
  | .hbm, ⟨13, _⟩ => ⟨S1x2048x8, .i1⟩
  | .hbm, ⟨14, _⟩ => ⟨S1x2048x8, .f32⟩
  | .hbm, ⟨15, _⟩ => ⟨S1x2048x8, .f32⟩
  | .hbm, ⟨16, _⟩ => ⟨S1x2048x8, .f32⟩
  | .hbm, ⟨17, _⟩ => ⟨S1x2048x8, .f32⟩
  | .hbm, ⟨18, _⟩ => ⟨S1x2048x8, .f32⟩
  | .hbm, ⟨19, _⟩ => ⟨S1x2048x8, .f32⟩
  | .hbm, ⟨20, _⟩ => ⟨S1x2048x8, .f32⟩
  | .hbm, ⟨21, _⟩ => ⟨S1x2048x8, .f32⟩
  | .hbm, ⟨22, _⟩ => ⟨S_, .f32⟩
  | .hbm, ⟨23, _⟩ => ⟨S1x2048x8, .f32⟩
  | .hbm, ⟨24, _⟩ => ⟨S1x2048x8, .i1⟩
  | .hbm, ⟨25, _⟩ => ⟨S_, .f32⟩
  | .hbm, ⟨26, _⟩ => ⟨S1x2048x8, .f32⟩
  | .hbm, ⟨27, _⟩ => ⟨S1x2048x8, .f32⟩
  | .hbm, ⟨28, _⟩ => ⟨S_, .f32⟩
  | .hbm, ⟨29, _⟩ => ⟨S1x2048x8, .f32⟩
  | .hbm, ⟨30, _⟩ => ⟨S1x2048x8, .i1⟩
  | .hbm, ⟨31, _⟩ => ⟨S_, .f32⟩
  | .hbm, ⟨32, _⟩ => ⟨S1x2048x8, .f32⟩
  | .hbm, ⟨33, _⟩ => ⟨S1x2048x8, .f32⟩
  | .hbm, ⟨34, _⟩ => ⟨S1x2048x8, .f32⟩
  | .hbm, ⟨35, _⟩ => ⟨S1x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x2048x8, .f32⟩
  | .hbm, ⟨44, _⟩ => ⟨S1x2048x8, .i1⟩
  | .hbm, ⟨45, _⟩ => ⟨S_, .f32⟩
  | .hbm, ⟨46, _⟩ => ⟨S1x2048x8, .f32⟩
  | .hbm, ⟨47, _⟩ => ⟨S1x2048x8, .f32⟩
  | .hbm, ⟨48, _⟩ => ⟨S1x2048x8, .f32⟩
  | .hbm, ⟨49, _⟩ => ⟨S1x2048x8, .f32⟩
  | .hbm, ⟨50, _⟩ => ⟨S1x2048x8, .f32⟩
  | .hbm, ⟨51, _⟩ => ⟨S_, .f32⟩
  | .hbm, ⟨52, _⟩ => ⟨S1x2048x8, .f32⟩
  | .hbm, ⟨53, _⟩ => ⟨S1x2048x8, .f32⟩
  | .hbm, ⟨54, _⟩ => ⟨S1x2048x8, .f32⟩
  | .hbm, ⟨55, _⟩ => ⟨S_, .f32⟩
  | .hbm, ⟨56, _⟩ => ⟨S_, .f32⟩
  | .hbm, ⟨57, _⟩ => ⟨S1x2048x8, .f32⟩
  | .hbm, ⟨58, _⟩ => ⟨S1x8x2048, .f32⟩
  | .hbm, ⟨59, _⟩ => ⟨S1x2048x8, .f32⟩
  | .hbm, ⟨60, _⟩ => ⟨S_, .f32⟩
  | .hbm, ⟨61, _⟩ => ⟨S_, .f32⟩
  | .hbm, ⟨62, _⟩ => ⟨S1x2048x8, .f32⟩
  | .hbm, ⟨63, _⟩ => ⟨S1x2048x8, .f32⟩
  | .hbm, ⟨64, _⟩ => ⟨S1x2048x8, .f32⟩
  | .hbm, ⟨65, _⟩ => ⟨S1x2048x8, .f32⟩
  | .hbm, ⟨66, _⟩ => ⟨S_, .f32⟩
  | .hbm, ⟨67, _⟩ => ⟨S1x8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S1x8, .f32⟩
  | _, _ => ⟨S1x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩

abbrev nD : Nat := 1
abbrev τ : Topo := Topo.v7x

variable {F : FTy → Type} [FloatOps F]
-- ==== Kernel2.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1, .f32⟩
  | .hbm, ⟨9, _⟩ => ⟨S_, .f32⟩
  | .hbm, ⟨10, _⟩ => ⟨S1x2048x1024, .f32⟩
  | .hbm, ⟨11, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_17 : BitVec 32 := 0#32
  let v48 : BitVec 1 := Scalar.cmpi .ne v47 c0_i32_17
  v48

def k0_cond2 (i : grid0.Coords) : BitVec 1 :=
  let arg0 : BitVec 32 := BitVec.ofNat 32 (i 0).val
  let c0_i32_18 : BitVec 32 := 0#32
  let v49 : BitVec 1 := Scalar.cmpi .ne arg0 c0_i32_18
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel3.lean ====
abbrev S1x2048x1024 : Shape := ⟨3, ![1, 2048, 1024]⟩
abbrev S1x2048x2816 : Shape := ⟨3, ![1, 2048, 2816]⟩
abbrev S1x1024x2816 : Shape := ⟨3, ![1, 1024, 2816]⟩
abbrev S1x2816x1024 : Shape := ⟨3, ![1, 2816, 1024]⟩
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S512x1024 : Shape := ⟨2, ![512, 1024]⟩
abbrev S1x1x704x1024 : Shape := ⟨4, ![1, 1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 38
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2048x2816, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S1024x2816, .f32⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S2816x1024, .f32⟩
  | .hbm, ⟨16, _⟩ => ⟨S4x704x1024, .f32⟩
  | .hbm, ⟨17, _⟩ => ⟨S4x704x1024, .bf16⟩
  | .hbm, ⟨18, _⟩ => ⟨S4x1x704x1024, .bf16⟩
  | .hbm, ⟨19, _⟩ => ⟨S4x1x704x1024, .bf16⟩
  | .hbm, ⟨20, _⟩ => ⟨S4x1x704x1024, .bf16⟩
  | .hbm, ⟨21, _⟩ => ⟨S4x3x704x1024, .bf16⟩
  | .hbm, ⟨22, _⟩ => ⟨S2048x2816, .f32⟩
  | .hbm, ⟨23, _⟩ => ⟨S2048x4x704, .f32⟩
  | .hbm, ⟨24, _⟩ => ⟨S4x2048x704, .f32⟩
  | .hbm, ⟨25, _⟩ => ⟨S4x2048x704, .bf16⟩
  | .hbm, ⟨26, _⟩ => ⟨S2048x2816, .f32⟩
  | .hbm, ⟨27, _⟩ => ⟨S2048x4x704, .f32⟩
  | .hbm, ⟨28, _⟩ => ⟨S4x2048x704, .f32⟩
  | .hbm, ⟨29, _⟩ => ⟨S4x2048x704, .bf16⟩
  | .hbm, ⟨30, _⟩ => ⟨S4x2048x704, .bf16⟩
  | .hbm, ⟨31, _⟩ => ⟨S4x2048x704, .bf16⟩
  | .hbm, ⟨32, _⟩ => ⟨S2048x4x704, .bf16⟩
  | .hbm, ⟨33, _⟩ => ⟨S1x2048x2816, .bf16⟩
  | .hbm, ⟨34, _⟩ => ⟨S1x2048x2816, .f32⟩
  | .hbm, ⟨35, _⟩ => ⟨S2048x4x704, .bf16⟩
  | .hbm, ⟨36, _⟩ => ⟨S1x2048x2816, .bf16⟩
  | .hbm, ⟨37, _⟩ => ⟨S1x2048x2816, .f32⟩
  | .local _ .vmem, ⟨0, _⟩ => ⟨S512x1024, .f32⟩
  | .local _ .vmem, ⟨1, _⟩ => ⟨S512x1024, .f32⟩
  | .local _ .vmem, ⟨2, _⟩ => ⟨S1x1x704x1024, .bf16⟩
  | .local _ .vmem, ⟨3, _⟩ => ⟨S1x1x704x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S1x2048x1024 : Shape := ⟨3, ![1, 2048, 1024]⟩
abbrev S1x2048x2816 : Shape := ⟨3, ![1, 2048, 2816]⟩
abbrev S1x1024x2816 : Shape := ⟨3, ![1, 1024, 2816]⟩
abbrev S1x2816x1024 : Shape := ⟨3, ![1, 2816, 1024]⟩
abbrev S_ : Shape := ⟨0, ![]⟩
abbrev S2816x1024 : Shape := ⟨2, ![2816, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2048x2816, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x2048x2816, .f32⟩
  | .hbm, ⟨7, _⟩ => ⟨S1x2048x2816, .f32⟩
  | .hbm, ⟨8, _⟩ => ⟨S_, .f32⟩
  | .hbm, ⟨9, _⟩ => ⟨S1x2048x2816, .f32⟩
  | .hbm, ⟨10, _⟩ => ⟨S1x2048x2816, .f32⟩
  | .hbm, ⟨11, _⟩ => ⟨S_, .f32⟩
  | .hbm, ⟨12, _⟩ => ⟨S1x2048x2816, .f32⟩
  | .hbm, ⟨13, _⟩ => ⟨S1x2048x2816, .f32⟩
  | .hbm, ⟨14, _⟩ => ⟨S_, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S1x2048x2816, .f32⟩
  | .hbm, ⟨20, _⟩ => ⟨S2816x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S1x2048x2816, .f32⟩
  | .hbm, ⟨29, _⟩ => ⟨S1x2048x2816, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩

abbrev nD : Nat := 1
abbrev τ : Topo := Topo.v7x

variable {F : FTy → Type} [FloatOps F]
-- ==== Kernel4.lean ====
abbrev S1x2048x1024 : Shape := ⟨3, ![1, 2048, 1024]⟩
abbrev S1x2048x2048 : Shape := ⟨3, ![1, 2048, 2048]⟩
abbrev S1x2048 : Shape := ⟨2, ![1, 2048]⟩
abbrev S1x1024x1024 : Shape := ⟨3, ![1, 1024, 1024]⟩
abbrev S2048x1024 : Shape := ⟨2, ![2048, 1024]⟩
abbrev S1024x1024 : Shape := ⟨2, ![1024, 1024]⟩
abbrev S2048x2048 : Shape := ⟨2, ![2048, 2048]⟩
abbrev S1x1024 : Shape := ⟨2, ![1, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩

abbrev nBuf : Space → Nat
  | .hbm => 28
  | .vmem => 24
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2048, .f32⟩
  | .hbm, ⟨2, _⟩ => ⟨S1x2048, .f32⟩
  | .hbm, ⟨3, _⟩ => ⟨S1x2048x1024, .f32⟩
  | .hbm, ⟨4, _⟩ => ⟨S1x2048x1024, .f32⟩
  | .hbm, ⟨5, _⟩ => ⟨S1x1024x1024, .f32⟩
  | .hbm, ⟨6, _⟩ => ⟨S2048x1024, .f32⟩
  | .hbm, ⟨7, _⟩ => ⟨S1024x1024, .f32⟩
  | .hbm, ⟨8, _⟩ => ⟨S1024x1024, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S1x1024, .f32⟩
  | .hbm, ⟨19, _⟩ => ⟨S1x1024, .f32⟩
  | .hbm, ⟨20, _⟩ => ⟨S2048x2048, .bf16⟩
  | .hbm, ⟨21, _⟩ => ⟨S1x2048x2048, .bf16⟩
  | .hbm, ⟨22, _⟩ => ⟨S1x2048x2048, .f32⟩
  | .hbm, ⟨23, _⟩ => ⟨S1x2048, .f32⟩
  | .hbm, ⟨24, _⟩ => ⟨S1x2048x1024, .bf16⟩
  | .hbm, ⟨25, _⟩ => ⟨S1x2048x1024, .f32⟩
  | .hbm, ⟨26, _⟩ => ⟨S1x2048x1024, .bf16⟩
  | .hbm, ⟨27, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_29 : BitVec 32 := 0#32
  let v54 : BitVec 1 := Scalar.cmpi .ne v53 c0_i32_29
  v54

def k0_cond2 (i : grid0.Coords) : BitVec 1 :=
  let arg1 : BitVec 32 := BitVec.ofNat 32 (i 1).val
  let c0_i32_30 : BitVec 32 := 0#32
  let v55 : BitVec 1 := Scalar.cmpi .ne arg1 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S1x2048x1024 : Shape := ⟨3, ![1, 2048, 1024]⟩
abbrev S1x2048x2048 : Shape := ⟨3, ![1, 2048, 2048]⟩
abbrev S1x2048 : Shape := ⟨2, ![1, 2048]⟩
abbrev S1x1024x1024 : Shape := ⟨3, ![1, 1024, 1024]⟩
abbrev S2048 : Shape := ⟨1, ![2048]⟩
abbrev S1x1x2048 : Shape := ⟨3, ![1, 1, 2048]⟩
abbrev S_ : Shape := ⟨0, ![]⟩
abbrev S1024x1024 : Shape := ⟨2, ![1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2048, .f32⟩
  | .hbm, ⟨2, _⟩ => ⟨S1x2048, .f32⟩
  | .hbm, ⟨3, _⟩ => ⟨S1x2048x1024, .f32⟩
  | .hbm, ⟨4, _⟩ => ⟨S1x2048x1024, .f32⟩
  | .hbm, ⟨5, _⟩ => ⟨S1x1024x1024, .f32⟩
  | .hbm, ⟨6, _⟩ => ⟨S2048, .f32⟩
  | .hbm, ⟨7, _⟩ => ⟨S1x1x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S1x2048x2048, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1024x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048, .f32⟩
  | .hbm, ⟨38, _⟩ => ⟨S1x1x2048, .f32⟩
  | .hbm, ⟨39, _⟩ => ⟨S_, .f32⟩
  | .hbm, ⟨40, _⟩ => ⟨S2048, .f32⟩
  | .hbm, ⟨41, _⟩ => ⟨S1x2048, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel5.lean ====
abbrev S1x2048x1024 : Shape := ⟨3, ![1, 2048, 1024]⟩
abbrev S1x2048x2816 : Shape := ⟨3, ![1, 2048, 2816]⟩
abbrev S1x1024 : Shape := ⟨2, ![1, 1024]⟩
abbrev S1x1024x2816 : Shape := ⟨3, ![1, 1024, 2816]⟩
abbrev S_ : Shape := ⟨0, ![]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x1024 : Shape := ⟨2, ![2048, 1024]⟩
abbrev S2048 : Shape := ⟨1, ![2048]⟩
abbrev S2048x1 : Shape := ⟨2, ![2048, 1]⟩
abbrev S2048x2816 : Shape := ⟨2, ![2048, 2816]⟩
abbrev S2048x4x704 : Shape := ⟨3, ![2048, 4, 704]⟩
abbrev S4x2048x704 : Shape := ⟨3, ![4, 2048, 704]⟩
abbrev S4x256x704 : Shape := ⟨3, ![4, 256, 704]⟩
abbrev S256x1024 : Shape := ⟨2, ![256, 1024]⟩
abbrev S256x1 : Shape := ⟨2, ![256, 1]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S1024 : Shape := ⟨1, ![1024]⟩

abbrev nBuf : Space → Nat
  | .hbm => 50
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2048x2816, .f32⟩
  | .hbm, ⟨3, _⟩ => ⟨S1x2048x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S_, .f32⟩
  | .hbm, ⟨8, _⟩ => ⟨S1x2816x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S1024x2816, .f32⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | .hbm, ⟨20, _⟩ => ⟨S4x1x704x1024, .bf16⟩
  | .hbm, ⟨21, _⟩ => ⟨S4x1x704x1024, .bf16⟩
  | .hbm, ⟨22, _⟩ => ⟨S4x1x704x1024, .bf16⟩
  | .hbm, ⟨23, _⟩ => ⟨S4x3x704x1024, .bf16⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x2816, .f32⟩
  | .hbm, ⟨38, _⟩ => ⟨S2048x4x704, .f32⟩
  | .hbm, ⟨39, _⟩ => ⟨S4x2048x704, .f32⟩
  | .hbm, ⟨40, _⟩ => ⟨S4x2048x704, .bf16⟩
  | .hbm, ⟨41, _⟩ => ⟨S2048x2816, .f32⟩
  | .hbm, ⟨42, _⟩ => ⟨S2048x4x704, .f32⟩
  | .hbm, ⟨43, _⟩ => ⟨S4x2048x704, .f32⟩
  | .hbm, ⟨44, _⟩ => ⟨S4x2048x704, .bf16⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S1x2048x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x256x704, .bf16⟩
  | .local _ .vmem, ⟨3, _⟩ => ⟨S4x256x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_72 : BitVec 32 := 0#32
  let v75 : BitVec 1 := Scalar.cmpi .ne v74 c0_i32_72
  v75

def k0_cond2 (i : grid0.Coords) : BitVec 1 :=
  let arg0 : BitVec 32 := BitVec.ofNat 32 (i 0).val
  let c0_i32_73 : BitVec 32 := 0#32
  let v76 : BitVec 1 := Scalar.cmpi .ne arg0 c0_i32_73
  let v77 : BitVec 32 := Scalar.extui v76
  let c0_i32_74 : BitVec 32 := 0#32
  let v78 : BitVec 1 := Scalar.cmpi .ne v77 c0_i32_74
  v78

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S1x2048x1024 : Shape := ⟨3, ![1, 2048, 1024]⟩
abbrev S1x2048x2816 : Shape := ⟨3, ![1, 2048, 2816]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x2816 : Shape := ⟨2, ![1024, 2816]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2048x2816, .f32⟩
  | .hbm, ⟨3, _⟩ => ⟨S1x2048x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1024x2816, .f32⟩
  | .hbm, ⟨29, _⟩ => ⟨S1x2048x2816, .f32⟩
  | .hbm, ⟨30, _⟩ => ⟨S1024x2816, .f32⟩
  | .hbm, ⟨31, _⟩ => ⟨S1x2048x2816, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1024, .f32⟩
  | .hbm, ⟨43, _⟩ => ⟨S1x2048x1024, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel6.lean ====
abbrev S1x2048x1024 : Shape := ⟨3, ![1, 2048, 1024]⟩
abbrev S1x2048x3080 : Shape := ⟨3, ![1, 2048, 3080]⟩
abbrev S1x2048x2048 : Shape := ⟨3, ![1, 2048, 2048]⟩
abbrev S1x1024 : Shape := ⟨2, ![1, 1024]⟩
abbrev S1x1024x3080 : Shape := ⟨3, ![1, 1024, 3080]⟩
abbrev S1x1024x2048 : Shape := ⟨3, ![1, 1024, 2048]⟩
abbrev S1024x3080 : Shape := ⟨2, ![1024, 3080]⟩
abbrev S3080x1024 : Shape := ⟨2, ![3080, 1024]⟩
abbrev S1024x2048 : Shape := ⟨2, ![1024, 2048]⟩
abbrev S2048x1024 : Shape := ⟨2, ![2048, 1024]⟩
abbrev S8x1024 : Shape := ⟨2, ![8, 1024]⟩
abbrev S_ : Shape := ⟨0, ![]⟩
abbrev S128x1024 : Shape := ⟨2, ![128, 1024]⟩
abbrev S1x2048x3072 : Shape := ⟨3, ![1, 2048, 3072]⟩
abbrev S2048x3072 : Shape := ⟨2, ![2048, 3072]⟩
abbrev S1x2048x8 : Shape := ⟨3, ![1, 2048, 8]⟩
abbrev S2048x8 : Shape := ⟨2, ![2048, 8]⟩
abbrev S2048x128 : Shape := ⟨2, ![2048, 128]⟩
abbrev S2048 : Shape := ⟨1, ![2048]⟩
abbrev S2048x1 : Shape := ⟨2, ![2048, 1]⟩
abbrev S256x3072 : Shape := ⟨2, ![256, 3072]⟩
abbrev S256x1024 : Shape := ⟨2, ![256, 1024]⟩
abbrev S256x128 : Shape := ⟨2, ![256, 128]⟩
abbrev S3072x1024 : Shape := ⟨2, ![3072, 1024]⟩
abbrev S1024x1024 : Shape := ⟨2, ![1024, 1024]⟩
abbrev S256x1 : Shape := ⟨2, ![256, 1]⟩
abbrev S256 : Shape := ⟨1, ![256]⟩
abbrev S1024 : Shape := ⟨1, ![1024]⟩

abbrev nBuf : Space → Nat
  | .hbm => 50
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3080, .f32⟩
  | .hbm, ⟨2, _⟩ => ⟨S1x2048x2048, .f32⟩
  | .hbm, ⟨3, _⟩ => ⟨S1x2048x1024, .f32⟩
  | .hbm, ⟨4, _⟩ => ⟨S1x1024, .f32⟩
  | .hbm, ⟨5, _⟩ => ⟨S1x1024x3080, .f32⟩
  | .hbm, ⟨6, _⟩ => ⟨S1x1024x2048, .f32⟩
  | .hbm, ⟨7, _⟩ => ⟨S1024x3080, .f32⟩
  | .hbm, ⟨8, _⟩ => ⟨S3080x1024, .f32⟩
  | .hbm, ⟨9, _⟩ => ⟨S3080x1024, .bf16⟩
  | .hbm, ⟨10, _⟩ => ⟨S1024x2048, .f32⟩
  | .hbm, ⟨11, _⟩ => ⟨S2048x1024, .f32⟩
  | .hbm, ⟨12, _⟩ => ⟨S2048x1024, .bf16⟩
  | .hbm, ⟨13, _⟩ => ⟨S8x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S1x2048x3072, .f32⟩
  | .hbm, ⟨18, _⟩ => ⟨S2048x3072, .f32⟩
  | .hbm, ⟨19, _⟩ => ⟨S2048x3072, .bf16⟩
  | .hbm, ⟨20, _⟩ => ⟨S1x2048x8, .f32⟩
  | .hbm, ⟨21, _⟩ => ⟨S2048x8, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x128, .bf16⟩
  | .hbm, ⟨26, _⟩ => ⟨S1x2048x1024, .f32⟩
  | .hbm, ⟨27, _⟩ => ⟨S2048x1024, .f32⟩
  | .hbm, ⟨28, _⟩ => ⟨S2048x1024, .bf16⟩
  | .hbm, ⟨29, _⟩ => ⟨S1x2048x1024, .f32⟩
  | .hbm, ⟨30, _⟩ => ⟨S2048x1024, .f32⟩
  | .hbm, ⟨31, _⟩ => ⟨S2048x1024, .bf16⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S1x2048x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S3072x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .bf16⟩
  | .local _ .vmem, ⟨12, _⟩ => ⟨S256x1024, .f32⟩
  | .local _ .vmem, ⟨13, _⟩ => ⟨S256x1024, .f32⟩
  | .local _ .vmem, ⟨14, _⟩ => ⟨S256x1, .f32⟩
  | .local _ .vmem, ⟨15, _⟩ => ⟨S256x1, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_31 : BitVec 32 := 0#32
  let v51 : BitVec 1 := Scalar.cmpi .ne v50 c0_i32_31
  v51

def k0_cond2 (i : grid0.Coords) : BitVec 1 :=
  let arg0 : BitVec 32 := BitVec.ofNat 32 (i 0).val
  let c0_i32_32 : BitVec 32 := 0#32
  let v52 : BitVec 1 := Scalar.cmpi .ne arg0 c0_i32_32
  let v53 : BitVec 32 := Scalar.extui v52
  let c0_i32_33 : BitVec 32 := 0#32
  let v54 : BitVec 1 := Scalar.cmpi .ne v53 c0_i32_33
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S1x2048x1024 : Shape := ⟨3, ![1, 2048, 1024]⟩
abbrev S1x2048x3080 : Shape := ⟨3, ![1, 2048, 3080]⟩
abbrev S1x2048x2048 : Shape := ⟨3, ![1, 2048, 2048]⟩
abbrev S1x1024 : Shape := ⟨2, ![1, 1024]⟩
abbrev S1x1024x3080 : Shape := ⟨3, ![1, 1024, 3080]⟩
abbrev S1x1024x2048 : Shape := ⟨3, ![1, 1024, 2048]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3080 : Shape := ⟨2, ![1024, 3080]⟩
abbrev S1024x2048 : Shape := ⟨2, ![1024, 2048]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3080, .f32⟩
  | .hbm, ⟨2, _⟩ => ⟨S1x2048x2048, .f32⟩
  | .hbm, ⟨3, _⟩ => ⟨S1x2048x1024, .f32⟩
  | .hbm, ⟨4, _⟩ => ⟨S1x1024, .f32⟩
  | .hbm, ⟨5, _⟩ => ⟨S1x1024x3080, .f32⟩
  | .hbm, ⟨6, _⟩ => ⟨S1x1024x2048, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1024x3080, .f32⟩
  | .hbm, ⟨29, _⟩ => ⟨S1x2048x3080, .f32⟩
  | .hbm, ⟨30, _⟩ => ⟨S1024x2048, .f32⟩
  | .hbm, ⟨31, _⟩ => ⟨S1x2048x2048, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1024, .f32⟩
  | .hbm, ⟨43, _⟩ => ⟨S1x2048x1024, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel7.lean ====
abbrev S1x2048x512 : Shape := ⟨3, ![1, 2048, 512]⟩
abbrev S1x8x2048 : Shape := ⟨3, ![1, 8, 2048]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x512 : Shape := ⟨2, ![2048, 512]⟩
abbrev S8x2048x1 : Shape := ⟨3, ![8, 2048, 1]⟩
abbrev S2048x1536 : Shape := ⟨2, ![2048, 1536]⟩
abbrev S2048x3072 : Shape := ⟨2, ![2048, 3072]⟩
abbrev S8x2048 : Shape := ⟨2, ![8, 2048]⟩
abbrev S8x8x1x256 : Shape := ⟨4, ![8, 8, 1, 256]⟩
abbrev S4x2048x128 : Shape := ⟨3, ![4, 2048, 128]⟩
abbrev S2048x128 : Shape := ⟨2, ![2048, 128]⟩
abbrev S2x2048x1 : Shape := ⟨3, ![2, 2048, 1]⟩
abbrev S2x8x1x256 : Shape := ⟨4, ![2, 8, 1, 256]⟩
abbrev S1x2048x128 : Shape := ⟨3, ![1, 2048, 128]⟩
abbrev S8x128x256 : Shape := ⟨3, ![8, 128, 256]⟩
abbrev S3x2048x128 : Shape := ⟨3, ![3, 2048, 128]⟩
abbrev S128x2048 : Shape := ⟨2, ![128, 2048]⟩
abbrev S1x2048x1 : Shape := ⟨3, ![1, 2048, 1]⟩
abbrev S256x128 : Shape := ⟨2, ![256, 128]⟩
abbrev S2048x256 : Shape := ⟨2, ![2048, 256]⟩
abbrev S1x1x1x256 : Shape := ⟨4, ![1, 1, 1, 256]⟩
abbrev S1x256 : Shape := ⟨2, ![1, 256]⟩
abbrev S1x128x256 : Shape := ⟨3, ![1, 128, 256]⟩
abbrev S128x256 : Shape := ⟨2, ![128, 256]⟩
abbrev S256 : Shape := ⟨1, ![256]⟩
abbrev S1792x128 : Shape := ⟨2, ![1792, 128]⟩
abbrev S1792x256 : Shape := ⟨2, ![1792, 256]⟩
abbrev S1792x1 : Shape := ⟨2, ![1792, 1]⟩
abbrev S128x1792 : Shape := ⟨2, ![128, 1792]⟩
abbrev S1792 : Shape := ⟨1, ![1792]⟩
abbrev S256x1 : Shape := ⟨2, ![256, 1]⟩
abbrev S1536x128 : Shape := ⟨2, ![1536, 128]⟩
abbrev S1536x256 : Shape := ⟨2, ![1536, 256]⟩
abbrev S1536x1 : Shape := ⟨2, ![1536, 1]⟩
abbrev S128x1536 : Shape := ⟨2, ![128, 1536]⟩
abbrev S512x128 : Shape := ⟨2, ![512, 128]⟩
abbrev S1536 : Shape := ⟨1, ![1536]⟩
abbrev S512x1 : Shape := ⟨2, ![512, 1]⟩
abbrev S1280x128 : Shape := ⟨2, ![1280, 128]⟩
abbrev S1280x256 : Shape := ⟨2, ![1280, 256]⟩
abbrev S1280x1 : Shape := ⟨2, ![1280, 1]⟩
abbrev S128x1280 : Shape := ⟨2, ![128, 1280]⟩
abbrev S768x128 : Shape := ⟨2, ![768, 128]⟩
abbrev S1280 : Shape := ⟨1, ![1280]⟩
abbrev S768x1 : Shape := ⟨2, ![768, 1]⟩
abbrev S1024x128 : Shape := ⟨2, ![1024, 128]⟩
abbrev S1024x256 : Shape := ⟨2, ![1024, 256]⟩
abbrev S1024x1 : Shape := ⟨2, ![1024, 1]⟩
abbrev S128x1024 : Shape := ⟨2, ![128, 1024]⟩
abbrev S1024 : Shape := ⟨1, ![1024]⟩
abbrev S768x256 : Shape := ⟨2, ![768, 256]⟩
abbrev S128x768 : Shape := ⟨2, ![128, 768]⟩
abbrev S768 : Shape := ⟨1, ![768]⟩
abbrev S512x256 : Shape := ⟨2, ![512, 256]⟩
abbrev S128x512 : Shape := ⟨2, ![128, 512]⟩
abbrev S512 : Shape := ⟨1, ![512]⟩
abbrev S256x256 : Shape := ⟨2, ![256, 256]⟩
abbrev S1x256x128 : Shape := ⟨3, ![1, 256, 128]⟩
abbrev S4x2048x2 : Shape := ⟨3, ![4, 2048, 2]⟩
abbrev S2048x4x2 : Shape := ⟨3, ![2048, 4, 2]⟩
abbrev S2048x8 : Shape := ⟨2, ![2048, 8]⟩
abbrev S1x2048x1536 : Shape := ⟨3, ![1, 2048, 1536]⟩

abbrev nBuf : Space → Nat
  | .hbm => 86
  | .vmem => 26
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x8x2048, .f32⟩
  | .hbm, ⟨4, _⟩ => ⟨S1x2048x512, .f32⟩
  | .hbm, ⟨5, _⟩ => ⟨S1x2048x8x64, .f32⟩
  | .hbm, ⟨6, _⟩ => ⟨S1x8x2048x64, .f32⟩
  | .hbm, ⟨7, _⟩ => ⟨S1x2048x8x64, .f32⟩
  | .hbm, ⟨8, _⟩ => ⟨S1x8x2048x64, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S1x8x2048x1, .f32⟩
  | .hbm, ⟨14, _⟩ => ⟨S1x8x2048x2048, .f32⟩
  | .hbm, ⟨15, _⟩ => ⟨S1x8x2048x2048, .f32⟩
  | .hbm, ⟨16, _⟩ => ⟨S1x8x1x2048, .f32⟩
  | .hbm, ⟨17, _⟩ => ⟨S1x8x2048x2048, .f32⟩
  | .hbm, ⟨18, _⟩ => ⟨S1x8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S1x8x2048x2048, .i1⟩
  | .hbm, ⟨29, _⟩ => ⟨S1x8x2048x2048, .f32⟩
  | .hbm, ⟨30, _⟩ => ⟨S1x8x2048x2048, .f32⟩
  | .hbm, ⟨31, _⟩ => ⟨S_, .f32⟩
  | .hbm, ⟨32, _⟩ => ⟨S1x8x2048, .f32⟩
  | .hbm, ⟨33, _⟩ => ⟨S1x8x2048x1, .f32⟩
  | .hbm, ⟨34, _⟩ => ⟨S1x8x2048x2048, .f32⟩
  | .hbm, ⟨35, _⟩ => ⟨S1x8x2048x2048, .f32⟩
  | .hbm, ⟨36, _⟩ => ⟨S1x8x2048x2048, .f32⟩
  | .hbm, ⟨37, _⟩ => ⟨S_, .f32⟩
  | .hbm, ⟨38, _⟩ => ⟨S1x8x2048, .f32⟩
  | .hbm, ⟨39, _⟩ => ⟨S1x8x2048x1, .f32⟩
  | .hbm, ⟨40, _⟩ => ⟨S1x8x2048x2048, .f32⟩
  | .hbm, ⟨41, _⟩ => ⟨S1x8x2048x2048, .f32⟩
  | .hbm, ⟨42, _⟩ => ⟨S1x2048x8x64, .f32⟩
  | .hbm, ⟨43, _⟩ => ⟨S1x8x2048x64, .f32⟩
  | .hbm, ⟨44, _⟩ => ⟨S1x8x2048x64, .f32⟩
  | .hbm, ⟨45, _⟩ => ⟨S1x2048x8x64, .f32⟩
  | .hbm, ⟨46, _⟩ => ⟨S1x2048x512, .f32⟩
  | .hbm, ⟨47, _⟩ => ⟨S2048x512, .f32⟩
  | .hbm, ⟨48, _⟩ => ⟨S2048x512, .bf16⟩
  | .hbm, ⟨49, _⟩ => ⟨S1x8x2048x1, .f32⟩
  | .hbm, ⟨50, _⟩ => ⟨S1x8x2048x1, .f32⟩
  | .hbm, ⟨51, _⟩ => ⟨S8x2048x1, .f32⟩
  | .hbm, ⟨52, _⟩ => ⟨S_, .f32⟩
  | .hbm, ⟨53, _⟩ => ⟨S2048x1536, .f32⟩
  | .hbm, ⟨54, _⟩ => ⟨S2048x512, .f32⟩
  | .hbm, ⟨55, _⟩ => ⟨S_, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x3072, .f32⟩
  | .hbm, ⟨61, _⟩ => ⟨S2048x3072, .bf16⟩
  | .hbm, ⟨62, _⟩ => ⟨S8x2048, .f32⟩
  | .hbm, ⟨63, _⟩ => ⟨S2048x512, .f32⟩
  | .hbm, ⟨64, _⟩ => ⟨S2048x512, .bf16⟩
  | .hbm, ⟨65, _⟩ => ⟨S8x2048x1, .f32⟩
  | .hbm, ⟨66, _⟩ => ⟨S8x8x1x256, .f32⟩
  | .hbm, ⟨67, _⟩ => ⟨S_, .bf16⟩
  | .hbm, ⟨68, _⟩ => ⟨S2048x3072, .bf16⟩
  | .hbm, ⟨69, _⟩ => ⟨S2048x3072, .bf16⟩
  | .hbm, ⟨70, _⟩ => ⟨S4x2048x128, .f32⟩
  | .hbm, ⟨71, _⟩ => ⟨S8x8x1x256, .f32⟩
  | .hbm, ⟨72, _⟩ => ⟨S4x2048x2, .f32⟩
  | .hbm, ⟨73, _⟩ => ⟨S2048x4x2, .f32⟩
  | .hbm, ⟨74, _⟩ => ⟨S2048x8, .f32⟩
  | .hbm, ⟨75, _⟩ => ⟨S8x2048, .f32⟩
  | .hbm, ⟨76, _⟩ => ⟨S2048x8, .f32⟩
  | .hbm, ⟨77, _⟩ => ⟨S2048x8, .f32⟩
  | .hbm, ⟨78, _⟩ => ⟨S2048x1536, .bf16⟩
  | .hbm, ⟨79, _⟩ => ⟨S1x2048x1536, .bf16⟩
  | .hbm, ⟨80, _⟩ => ⟨S1x2048x1536, .f32⟩
  | .hbm, ⟨81, _⟩ => ⟨S1x2048x512, .f32⟩
  | .hbm, ⟨82, _⟩ => ⟨S1x2048x512, .f32⟩
  | .hbm, ⟨83, _⟩ => ⟨S1x2048x512, .f32⟩
  | .hbm, ⟨84, _⟩ => ⟨S8x2048, .f32⟩
  | .hbm, ⟨85, _⟩ => ⟨S1x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x2048x1, .f32⟩
  | .local _ .vmem, ⟨11, _⟩ => ⟨S2x2048x1, .f32⟩
  | .local _ .vmem, ⟨12, _⟩ => ⟨S2x2048x1, .f32⟩
  | .local _ .vmem, ⟨13, _⟩ => ⟨S2x2048x1, .f32⟩
  | .local _ .vmem, ⟨14, _⟩ => ⟨S2x8x1x256, .f32⟩
  | .local _ .vmem, ⟨15, _⟩ => ⟨S2x8x1x256, .f32⟩
  | .local _ .vmem, ⟨16, _⟩ => ⟨S2048x128, .bf16⟩
  | .local _ .vmem, ⟨17, _⟩ => ⟨S2048x128, .bf16⟩
  | .local _ .vmem, ⟨18, _⟩ => ⟨S1x2048x128, .f32⟩
  | .local _ .vmem, ⟨19, _⟩ => ⟨S1x2048x128, .f32⟩
  | .local _ .vmem, ⟨20, _⟩ => ⟨S2x8x1x256, .f32⟩
  | .local _ .vmem, ⟨21, _⟩ => ⟨S2x8x1x256, .f32⟩
  | .local _ .vmem, ⟨22, _⟩ => ⟨S8x128x256, .f32⟩
  | .local _ .vmem, ⟨23, _⟩ => ⟨S8x128x256, .f32⟩
  | .local _ .vmem, ⟨24, _⟩ => ⟨S2x8x1x256, .f32⟩
  | .local _ .vmem, ⟨25, _⟩ => ⟨S3x2048x128, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54_0 : Ref sig .tc := ⟨.hbm, 69, rfl⟩
abbrev main_v54_1 : Ref sig .tc := ⟨.hbm, 70, rfl⟩
abbrev main_v54_2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_17 : BitVec 32 := 0#32
  let c2048_i32 : BitVec 32 := 2048#32
  let v24 : BitVec 32 := Scalar.muli c0_i32_17 c2048_i32
  v24
def k0_off1 : Fin 2 → Nat :=
  let c0_i32_17 : BitVec 32 := 0#32
  let c2048_i32 : BitVec 32 := 2048#32
  let v24 : BitVec 32 := Scalar.muli c0_i32_17 c2048_i32
  let v25 : BitVec 32 := v24
  let v26 : Index := Scalar.indexCast v25
  let c0_18 : Index := 0#32
  ![v26.toNat, 0]
def k0_mult2 : BitVec 32 :=
  let c0_i32_17 : BitVec 32 := 0#32
  let c2048_i32_19 : BitVec 32 := 2048#32
  let v29 : BitVec 32 := Scalar.muli c0_i32_17 c2048_i32_19
  v29
def k0_mult3 : BitVec 32 :=
  let c0_i32_17 : BitVec 32 := 0#32
  let c2048_i32_25 : BitVec 32 := 2048#32
  let v55 : BitVec 32 := Scalar.muli c0_i32_17 c2048_i32_25
  v55
def k0_mult4 : BitVec 32 :=
  let c0_i32_17 : BitVec 32 := 0#32
  let c2048_i32_31 : BitVec 32 := 2048#32
  let v70 : BitVec 32 := Scalar.muli c0_i32_17 c2048_i32_31
  v70
def k0_off2 : Fin 3 → Nat :=
  let c0_32 : Index := 0#32
  let c0_i32_17 : BitVec 32 := 0#32
  let c2048_i32_31 : BitVec 32 := 2048#32
  let v70 : BitVec 32 := Scalar.muli c0_i32_17 c2048_i32_31
  let v71 : BitVec 32 := v70
  let v72 : Index := Scalar.indexCast v71
  let c0_33 : Index := 0#32
  ![0, v72.toNat, 0]
def k0_mult5 : BitVec 32 :=
  let c0_i32_17 : BitVec 32 := 0#32
  let c2048_i32_34 : BitVec 32 := 2048#32
  let v75 : BitVec 32 := Scalar.muli c0_i32_17 c2048_i32_34
  v75
def k0_off3 : Fin 3 → Nat :=
  let c1 : Index := 1#32
  let c0_i32_17 : BitVec 32 := 0#32
  let c2048_i32_34 : BitVec 32 := 2048#32
  let v75 : BitVec 32 := Scalar.muli c0_i32_17 c2048_i32_34
  let v76 : BitVec 32 := v75
  let v77 : Index := Scalar.indexCast v76
  let c0_35 : Index := 0#32
  ![1, v77.toNat, 0]
def k0_mult6 : BitVec 32 :=
  let c0_i32_17 : BitVec 32 := 0#32
  let c2048_i32_36 : BitVec 32 := 2048#32
  let v80 : BitVec 32 := Scalar.muli c0_i32_17 c2048_i32_36
  v80
def k0_mult7 : BitVec 32 :=
  let c0_i32_17 : BitVec 32 := 0#32
  let c2048_i32_39 : BitVec 32 := 2048#32
  let v85 : BitVec 32 := Scalar.muli c0_i32_17 c2048_i32_39
  v85
@[reducible] def k0_t1_loop : Scf.Loop 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_45 : BitVec 32 := 1#32
  ⟨c0_i32_44, v96, c1_i32_45⟩
def k0_mult8 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c0_i32_590 : BitVec 32 := 0#32
  let v1400 : BitVec 32 := Scalar.addi v1399 c0_i32_590
  let c256_i32_591 : BitVec 32 := 256#32
  let v1401 : BitVec 32 := Scalar.muli v1400 c256_i32_591
  v1401
def k0_off4 (k0_t1 : Fin k0_t1_loop.trips) (c0_i32_590 : BitVec 32) : Fin 2 → Nat :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let v1400 : BitVec 32 := Scalar.addi v1399 c0_i32_590
  let c256_i32_591 : BitVec 32 := 256#32
  let v1401 : BitVec 32 := Scalar.muli v1400 c256_i32_591
  let v1402 : BitVec 32 := v1401
  let v1403 : Index := Scalar.indexCast v1402
  let c0_592 : Index := 0#32
  ![v1403.toNat, 0]
def k0_mult9 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c0_i32_590 : BitVec 32 := 0#32
  let v1400 : BitVec 32 := Scalar.addi v1399 c0_i32_590
  let c256_i32_593 : BitVec 32 := 256#32
  let v1406 : BitVec 32 := Scalar.muli v1400 c256_i32_593
  v1406
def k0_off5 (k0_t1 : Fin k0_t1_loop.trips) (c0_i32_590 : BitVec 32) : Fin 4 → Nat :=
  let c0_596 : Index := 0#32
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let v1400 : BitVec 32 := Scalar.addi v1399 c0_i32_590
  let v1414 : Index := Scalar.indexCast v1400
  let c0_597 : Index := 0#32
  let c0_598 : Index := 0#32
  ![0, v1414.toNat, 0, 0]
def k0_off6 (k0_t1 : Fin k0_t1_loop.trips) (c0_i32_590 : BitVec 32) : Fin 3 → Nat :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let v1400 : BitVec 32 := Scalar.addi v1399 c0_i32_590
  let v1426 : Index := Scalar.indexCast v1400
  let c0_600 : Index := 0#32
  let c0_601 : Index := 0#32
  ![v1426.toNat, 0, 0]
def k0_off7 (k0_t1 : Fin k0_t1_loop.trips) (c0_i32_590 : BitVec 32) : Fin 4 → Nat :=
  let c1_620 : Index := 1#32
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let v1400 : BitVec 32 := Scalar.addi v1399 c0_i32_590
  let v1464 : Index := Scalar.indexCast v1400
  let c0_621 : Index := 0#32
  let c0_622 : Index := 0#32
  ![1, v1464.toNat, 0, 0]
def k0_mult10 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c1_i32_643 : BitVec 32 := 1#32
  let v1511 : BitVec 32 := Scalar.addi v1399 c1_i32_643
  let c256_i32_644 : BitVec 32 := 256#32
  let v1512 : BitVec 32 := Scalar.muli v1511 c256_i32_644
  v1512
def k0_mult11 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c1_i32_643 : BitVec 32 := 1#32
  let v1511 : BitVec 32 := Scalar.addi v1399 c1_i32_643
  let c256_i32_646 : BitVec 32 := 256#32
  let v1517 : BitVec 32 := Scalar.muli v1511 c256_i32_646
  v1517
def k0_mult12 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c2_i32_696 : BitVec 32 := 2#32
  let v1622 : BitVec 32 := Scalar.addi v1399 c2_i32_696
  let c256_i32_697 : BitVec 32 := 256#32
  let v1623 : BitVec 32 := Scalar.muli v1622 c256_i32_697
  v1623
def k0_mult13 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c2_i32_696 : BitVec 32 := 2#32
  let v1622 : BitVec 32 := Scalar.addi v1399 c2_i32_696
  let c256_i32_699 : BitVec 32 := 256#32
  let v1628 : BitVec 32 := Scalar.muli v1622 c256_i32_699
  v1628
def k0_mult14 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c3_i32_749 : BitVec 32 := 3#32
  let v1733 : BitVec 32 := Scalar.addi v1399 c3_i32_749
  let c256_i32_750 : BitVec 32 := 256#32
  let v1734 : BitVec 32 := Scalar.muli v1733 c256_i32_750
  v1734
def k0_mult15 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c3_i32_749 : BitVec 32 := 3#32
  let v1733 : BitVec 32 := Scalar.addi v1399 c3_i32_749
  let c256_i32_752 : BitVec 32 := 256#32
  let v1739 : BitVec 32 := Scalar.muli v1733 c256_i32_752
  v1739
def k0_mult16 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c4_i32_802 : BitVec 32 := 4#32
  let v1844 : BitVec 32 := Scalar.addi v1399 c4_i32_802
  let c256_i32_803 : BitVec 32 := 256#32
  let v1845 : BitVec 32 := Scalar.muli v1844 c256_i32_803
  v1845
def k0_mult17 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c4_i32_802 : BitVec 32 := 4#32
  let v1844 : BitVec 32 := Scalar.addi v1399 c4_i32_802
  let c256_i32_805 : BitVec 32 := 256#32
  let v1850 : BitVec 32 := Scalar.muli v1844 c256_i32_805
  v1850
def k0_mult18 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c5_i32_855 : BitVec 32 := 5#32
  let v1955 : BitVec 32 := Scalar.addi v1399 c5_i32_855
  let c256_i32_856 : BitVec 32 := 256#32
  let v1956 : BitVec 32 := Scalar.muli v1955 c256_i32_856
  v1956
def k0_mult19 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c5_i32_855 : BitVec 32 := 5#32
  let v1955 : BitVec 32 := Scalar.addi v1399 c5_i32_855
  let c256_i32_858 : BitVec 32 := 256#32
  let v1961 : BitVec 32 := Scalar.muli v1955 c256_i32_858
  v1961
def k0_mult20 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c6_i32_908 : BitVec 32 := 6#32
  let v2066 : BitVec 32 := Scalar.addi v1399 c6_i32_908
  let c256_i32_909 : BitVec 32 := 256#32
  let v2067 : BitVec 32 := Scalar.muli v2066 c256_i32_909
  v2067
def k0_mult21 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c6_i32_908 : BitVec 32 := 6#32
  let v2066 : BitVec 32 := Scalar.addi v1399 c6_i32_908
  let c256_i32_911 : BitVec 32 := 256#32
  let v2072 : BitVec 32 := Scalar.muli v2066 c256_i32_911
  v2072
def k0_mult22 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c7_i32_961 : BitVec 32 := 7#32
  let v2177 : BitVec 32 := Scalar.addi v1399 c7_i32_961
  let c256_i32_962 : BitVec 32 := 256#32
  let v2178 : BitVec 32 := Scalar.muli v2177 c256_i32_962
  v2178
def k0_mult23 (k0_t1 : Fin k0_t1_loop.trips) : BitVec 32 :=
  let c0_i32_44 : BitVec 32 := 0#32
  let c1_i32_45 : BitVec 32 := 1#32
  let arg18 : BitVec 32 := Scf.iv c0_i32_44 c1_i32_45 k0_t1
  let c8_i32_589 : BitVec 32 := 8#32
  let v1399 : BitVec 32 := Scalar.muli arg18 c8_i32_589
  let c7_i32_961 : BitVec 32 := 7#32
  let v2177 : BitVec 32 := Scalar.addi v1399 c7_i32_961
  let c256_i32_964 : BitVec 32 := 256#32
  let v2183 : BitVec 32 := Scalar.muli v2177 c256_i32_964
  v2183
@[reducible] def k0_t2_loop : Scf.Loop 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let v93 : BitVec 32 := Scalar.addi c0_i32_44 v92
  let c1_i32_46 : BitVec 32 := 1#32
  ⟨v96, v93, c1_i32_46⟩
def k0_mult24 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c0_i32_590 : BitVec 32 := 0#32
  let v1400 : BitVec 32 := Scalar.addi v1399 c0_i32_590
  let c256_i32_591 : BitVec 32 := 256#32
  let v1401 : BitVec 32 := Scalar.muli v1400 c256_i32_591
  v1401
def k0_off8 (k0_t2 : Fin k0_t2_loop.trips) (c0_i32_590 : BitVec 32) : Fin 2 → Nat :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let v1400 : BitVec 32 := Scalar.addi v1399 c0_i32_590
  let c256_i32_591 : BitVec 32 := 256#32
  let v1401 : BitVec 32 := Scalar.muli v1400 c256_i32_591
  let v1402 : BitVec 32 := v1401
  let v1403 : Index := Scalar.indexCast v1402
  let c0_592 : Index := 0#32
  ![v1403.toNat, 0]
def k0_mult25 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c0_i32_590 : BitVec 32 := 0#32
  let v1400 : BitVec 32 := Scalar.addi v1399 c0_i32_590
  let c256_i32_593 : BitVec 32 := 256#32
  let v1406 : BitVec 32 := Scalar.muli v1400 c256_i32_593
  v1406
def k0_off9 (k0_t2 : Fin k0_t2_loop.trips) (c0_i32_590 : BitVec 32) : Fin 4 → Nat :=
  let c0_596 : Index := 0#32
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let v1400 : BitVec 32 := Scalar.addi v1399 c0_i32_590
  let v1414 : Index := Scalar.indexCast v1400
  let c0_597 : Index := 0#32
  let c0_598 : Index := 0#32
  ![0, v1414.toNat, 0, 0]
def k0_off10 (k0_t2 : Fin k0_t2_loop.trips) (c0_i32_590 : BitVec 32) : Fin 3 → Nat :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let v1400 : BitVec 32 := Scalar.addi v1399 c0_i32_590
  let v1426 : Index := Scalar.indexCast v1400
  let c0_600 : Index := 0#32
  let c0_601 : Index := 0#32
  ![v1426.toNat, 0, 0]
def k0_off11 (k0_t2 : Fin k0_t2_loop.trips) (c0_i32_590 : BitVec 32) : Fin 4 → Nat :=
  let c1_620 : Index := 1#32
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let v1400 : BitVec 32 := Scalar.addi v1399 c0_i32_590
  let v1464 : Index := Scalar.indexCast v1400
  let c0_621 : Index := 0#32
  let c0_622 : Index := 0#32
  ![1, v1464.toNat, 0, 0]
def k0_mult26 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c1_i32_643 : BitVec 32 := 1#32
  let v1511 : BitVec 32 := Scalar.addi v1399 c1_i32_643
  let c256_i32_644 : BitVec 32 := 256#32
  let v1512 : BitVec 32 := Scalar.muli v1511 c256_i32_644
  v1512
def k0_mult27 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c1_i32_643 : BitVec 32 := 1#32
  let v1511 : BitVec 32 := Scalar.addi v1399 c1_i32_643
  let c256_i32_646 : BitVec 32 := 256#32
  let v1517 : BitVec 32 := Scalar.muli v1511 c256_i32_646
  v1517
def k0_mult28 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c2_i32_696 : BitVec 32 := 2#32
  let v1622 : BitVec 32 := Scalar.addi v1399 c2_i32_696
  let c256_i32_697 : BitVec 32 := 256#32
  let v1623 : BitVec 32 := Scalar.muli v1622 c256_i32_697
  v1623
def k0_mult29 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c2_i32_696 : BitVec 32 := 2#32
  let v1622 : BitVec 32 := Scalar.addi v1399 c2_i32_696
  let c256_i32_699 : BitVec 32 := 256#32
  let v1628 : BitVec 32 := Scalar.muli v1622 c256_i32_699
  v1628
def k0_mult30 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c3_i32_749 : BitVec 32 := 3#32
  let v1733 : BitVec 32 := Scalar.addi v1399 c3_i32_749
  let c256_i32_750 : BitVec 32 := 256#32
  let v1734 : BitVec 32 := Scalar.muli v1733 c256_i32_750
  v1734
def k0_mult31 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c3_i32_749 : BitVec 32 := 3#32
  let v1733 : BitVec 32 := Scalar.addi v1399 c3_i32_749
  let c256_i32_752 : BitVec 32 := 256#32
  let v1739 : BitVec 32 := Scalar.muli v1733 c256_i32_752
  v1739
def k0_mult32 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c4_i32_802 : BitVec 32 := 4#32
  let v1844 : BitVec 32 := Scalar.addi v1399 c4_i32_802
  let c256_i32_803 : BitVec 32 := 256#32
  let v1845 : BitVec 32 := Scalar.muli v1844 c256_i32_803
  v1845
def k0_mult33 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c4_i32_802 : BitVec 32 := 4#32
  let v1844 : BitVec 32 := Scalar.addi v1399 c4_i32_802
  let c256_i32_805 : BitVec 32 := 256#32
  let v1850 : BitVec 32 := Scalar.muli v1844 c256_i32_805
  v1850
def k0_mult34 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c5_i32_855 : BitVec 32 := 5#32
  let v1955 : BitVec 32 := Scalar.addi v1399 c5_i32_855
  let c256_i32_856 : BitVec 32 := 256#32
  let v1956 : BitVec 32 := Scalar.muli v1955 c256_i32_856
  v1956
def k0_mult35 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c5_i32_855 : BitVec 32 := 5#32
  let v1955 : BitVec 32 := Scalar.addi v1399 c5_i32_855
  let c256_i32_858 : BitVec 32 := 256#32
  let v1961 : BitVec 32 := Scalar.muli v1955 c256_i32_858
  v1961
def k0_mult36 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c6_i32_908 : BitVec 32 := 6#32
  let v2066 : BitVec 32 := Scalar.addi v1399 c6_i32_908
  let c256_i32_909 : BitVec 32 := 256#32
  let v2067 : BitVec 32 := Scalar.muli v2066 c256_i32_909
  v2067
def k0_mult37 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c6_i32_908 : BitVec 32 := 6#32
  let v2066 : BitVec 32 := Scalar.addi v1399 c6_i32_908
  let c256_i32_911 : BitVec 32 := 256#32
  let v2072 : BitVec 32 := Scalar.muli v2066 c256_i32_911
  v2072
def k0_mult38 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c7_i32_961 : BitVec 32 := 7#32
  let v2177 : BitVec 32 := Scalar.addi v1399 c7_i32_961
  let c256_i32_962 : BitVec 32 := 256#32
  let v2178 : BitVec 32 := Scalar.muli v2177 c256_i32_962
  v2178
def k0_mult39 (k0_t2 : Fin k0_t2_loop.trips) : BitVec 32 :=
  let c0_i32_44 : BitVec 32 := 0#32
  let c0_i32_17 : BitVec 32 := 0#32
  let v92 : BitVec 32 := Scalar.subi c0_i32_17 c0_i32_44
  let c1_i32 : BitVec 32 := 1#32
  let v94 : BitVec 32 := Scalar.divsi v92 c1_i32
  let v95 : BitVec 32 := Scalar.muli v94 c1_i32
  let v96 : BitVec 32 := Scalar.addi c0_i32_44 v95
  let c1_i32_46 : BitVec 32 := 1#32
  let arg18 : BitVec 32 := Scf.iv v96 c1_i32_46 k0_t2
  let c8_i32_589 : BitVec 32 := 8#32
  let v1399 : BitVec 32 := Scalar.muli arg18 c8_i32_589
  let c7_i32_961 : BitVec 32 := 7#32
  let v2177 : BitVec 32 := Scalar.addi v1399 c7_i32_961
  let c256_i32_964 : BitVec 32 := 256#32
  let v2183 : BitVec 32 := Scalar.muli v2177 c256_i32_964
  v2183
def k0_mult40 : BitVec 32 :=
  let c0_i32_17 : BitVec 32 := 0#32
  let c8_i32 : BitVec 32 := 8#32
  let v99 : BitVec 32 := Scalar.muli c0_i32_17 c8_i32
  let c0_i32_47 : BitVec 32 := 0#32
  let v100 : BitVec 32 := Scalar.addi v99 c0_i32_47
  let c256_i32 : BitVec 32 := 256#32
  let v101 : BitVec 32 := Scalar.muli v100 c256_i32
  v101
def k0_off12 (c0_i32_47 : BitVec 32) : Fin 2 → Nat :=
  let c0_i32_17 : BitVec 32 := 0#32
  let c8_i32 : BitVec 32 := 8#32
  let v99 : BitVec 32 := Scalar.muli c0_i32_17 c8_i32
  let v100 : BitVec 32 := Scalar.addi v99 c0_i32_47
  let c256_i32 : BitVec 32 := 256#32
  let v101 : BitVec 32 := Scalar.muli v100 c256_i32
  let v102 : BitVec 32 := v101
  let v103 : Index := Scalar.indexCast v102
  let c0_48 : Index := 0#32
  ![v103.toNat, 0]
def k0_mult41 : BitVec 32 :=
  let c0_i32_17 : BitVec 32 := 0#32
  let c8_i32 : BitVec 32 := 8#32
  let v99 : BitVec 32 := Scalar.muli c0_i32_17 c8_i32
  let c0_i32_47 : BitVec 32 := 0#32
  let v100 : BitVec 32 := Scalar.addi v99 c0_i32_47
  let c256_i32_49 : BitVec 32 := 256#32
  let v106 : BitVec 32 := Scalar.muli v100 c256_i32_49
  v106
def k0_off13 (c0_i32_47 : BitVec 32) : Fin 4 → Nat :=
  let c0_52 : Index := 0#32
  let c0_i32_17 : BitVec 32 := 0#32
  let c8_i32 : BitVec 32 := 8#32
  let v99 : BitVec 32 := Scalar.muli c0_i32_17 c8_i32
  let v100 : BitVec 32 := Scalar.addi v99 c0_i32_47
  let v114 : Index := Scalar.indexCast v100
  let c0_53 : Index := 0#32
  let c0_54 : Index := 0#32
  ![0, v114.toNat, 0, 0]
def k0_off14 (c0_i32_47 : BitVec 32) : Fin 3 → Nat :=
  let c0_i32_17 : BitVec 32 := 0#32
  let c8_i32 : BitVec 32 := 8#32
  let v99 : BitVec 32 := Scalar.muli c0_i32_17 c8_i32
  let v100 : BitVec 32 := Scalar.addi v99 c0_i32_47
  let v131 : Index := Scalar.indexCast v100
  let c0_57 : Index := 0#32
  let c0_58 : Index := 0#32
  ![v131.toNat, 0, 0]
def k0_off15 (c0_i32_47 : BitVec 32) : Fin 4 → Nat :=
  let c1_77 : Index := 1#32
  let c0_i32_17 : BitVec 32 := 0#32
  let c8_i32 : BitVec 32 := 8#32
  let v99 : BitVec 32 := Scalar.muli c0_i32_17 c8_i32
  let v100 : BitVec 32 := Scalar.addi v99 c0_i32_47
  let v169 : Index := Scalar.indexCast v100
  let c0_78 : Index := 0#32
  let c0_79 : Index := 0#32
  ![1, v169.toNat, 0, 0]
def k0_mult42 : BitVec 32 :=
  let c0_i32_17 : BitVec 32 := 0#32
  let c8_i32_101 : BitVec 32 := 8#32
  let v221 : BitVec 32 := Scalar.muli c0_i32_17 c8_i32_101
  let c1_i32_102 : BitVec 32 := 1#32
  let v222 : BitVec 32 := Scalar.addi v221 c1_i32_102
  let c256_i32_103 : BitVec 32 := 256#32
  let v223 : BitVec 32 := Scalar.muli v222 c256_i32_103
  v223
def k0_mult43 : BitVec 32 :=
  let c0_i32_17 : BitVec 32 := 0#32
  let c8_i32_101 : BitVec 32 := 8#32
  let v221 : BitVec 32 := Scalar.muli c0_i32_17 c8_i32_101
  let c1_i32_102 : BitVec 32 := 1#32
  let v222 : BitVec 32 := Scalar.addi v221 c1_i32_102
  let c256_i32_105 : BitVec 32 := 256#32
  let v228 : BitVec 32 := Scalar.muli v222 c256_i32_105
  v228
def k0_mult44 : BitVec 32 :=
  let c0_i32_17 : BitVec 32 := 0#32
  let c8_i32_157 : BitVec 32 := 8#32
  let v369 : BitVec 32 := Scalar.muli c0_i32_17 c8_i32_157
  let c2_i32 : BitVec 32 := 2#32
  let v370 : BitVec 32 := Scalar.addi v369 c2_i32
  let c256_i32_158 : BitVec 32 := 256#32
  let v371 : BitVec 32 := Scalar.muli v370 c256_i32_158
  v371
def k0_mult45 : BitVec 32 :=
  let c0_i32_17 : BitVec 32 := 0#32
  let c8_i32_157 : BitVec 32 := 8#32
  let v369 : BitVec 32 := Scalar.muli c0_i32_17 c8_i32_157
  let c2_i32 : BitVec 32 := 2#32
  let v370 : BitVec 32 := Scalar.addi v369 c2_i32
  let c256_i32_160 : BitVec 32 := 256#32
  let v376 : BitVec 32 := Scalar.muli v370 c256_i32_160
  v376
def k0_mult46 : BitVec 32 :=
  let c0_i32_17 : BitVec 32 := 0#32
  let c8_i32_212 : BitVec 32 := 8#32
  let v517 : BitVec 32 := Scalar.muli c0_i32_17 c8_i32_212
  let c3_i32 : BitVec 32 := 3#32
  let v518 : BitVec 32 := Scalar.addi v517 c3_i32
  let c256_i32_213 : BitVec 32 := 256#32
  let v519 : BitVec 32 := Scalar.muli v518 c256_i32_213
  v519
def k0_mult47 : BitVec 32 :=
  let c0_i32_17 : BitVec 32 := 0#32
  let c8_i32_212 : BitVec 32 := 8#32
  let v517 : BitVec 32 := Scalar.muli c0_i32_17 c8_i32_212
  let c3_i32 : BitVec 32 := 3#32
  let v518 : BitVec 32 := Scalar.addi v517 c3_i32
  let c256_i32_215 : BitVec 32 := 256#32
  let v524 : BitVec 32 := Scalar.muli v518 c256_i32_215
  v524
def k0_mult48 : BitVec 32 :=
  let c0_i32_17 : BitVec 32 := 0#32
  let c8_i32_267 : BitVec 32 := 8#32
  let v665 : BitVec 32 := Scalar.muli c0_i32_17 c8_i32_267
  let c4_i32 : BitVec 32 := 4#32
  let v666 : BitVec 32 := Scalar.addi v665 c4_i32
  let c256_i32_268 : BitVec 32 := 256#32
  let v667 : BitVec 32 := Scalar.muli v666 c256_i32_268
  v667
def k0_mult49 : BitVec 32 :=
  let c0_i32_17 : BitVec 32 := 0#32
  let c8_i32_267 : BitVec 32 := 8#32
  let v665 : BitVec 32 := Scalar.muli c0_i32_17 c8_i32_267
  let c4_i32 : BitVec 32 := 4#32
  let v666 : BitVec 32 := Scalar.addi v665 c4_i32
  let c256_i32_270 : BitVec 32 := 256#32
  let v672 : BitVec 32 := Scalar.muli v666 c256_i32_270
  v672
def k0_mult50 : BitVec 32 :=
  let c0_i32_17 : BitVec 32 := 0#32
  let c8_i32_322 : BitVec 32 := 8#32
  let v813 : BitVec 32 := Scalar.muli c0_i32_17 c8_i32_322
  let c5_i32 : BitVec 32 := 5#32
  let v814 : BitVec 32 := Scalar.addi v813 c5_i32
  let c256_i32_323 : BitVec 32 := 256#32
  let v815 : BitVec 32 := Scalar.muli v814 c256_i32_323
  v815
def k0_mult51 : BitVec 32 :=
  let c0_i32_17 : BitVec 32 := 0#32
  let c8_i32_322 : BitVec 32 := 8#32
  let v813 : BitVec 32 := Scalar.muli c0_i32_17 c8_i32_322
  let c5_i32 : BitVec 32 := 5#32
  let v814 : BitVec 32 := Scalar.addi v813 c5_i32
  let c256_i32_325 : BitVec 32 := 256#32
  let v820 : BitVec 32 := Scalar.muli v814 c256_i32_325
  v820
def k0_mult52 : BitVec 32 :=
  let c0_i32_17 : BitVec 32 := 0#32
  let c8_i32_377 : BitVec 32 := 8#32
  let v961 : BitVec 32 := Scalar.muli c0_i32_17 c8_i32_377
  let c6_i32 : BitVec 32 := 6#32
  let v962 : BitVec 32 := Scalar.addi v961 c6_i32
  let c256_i32_378 : BitVec 32 := 256#32
  let v963 : BitVec 32 := Scalar.muli v962 c256_i32_378
  v963
def k0_mult53 : BitVec 32 :=
  let c0_i32_17 : BitVec 32 := 0#32
  let c8_i32_377 : BitVec 32 := 8#32
  let v961 : BitVec 32 := Scalar.muli c0_i32_17 c8_i32_377
  let c6_i32 : BitVec 32 := 6#32
  let v962 : BitVec 32 := Scalar.addi v961 c6_i32
  let c256_i32_380 : BitVec 32 := 256#32
  let v968 : BitVec 32 := Scalar.muli v962 c256_i32_380
  v968
def k0_mult54 : BitVec 32 :=
  let c0_i32_17 : BitVec 32 := 0#32
  let c8_i32_432 : BitVec 32 := 8#32
  let v1109 : BitVec 32 := Scalar.muli c0_i32_17 c8_i32_432
  let c7_i32 : BitVec 32 := 7#32
  let v1110 : BitVec 32 := Scalar.addi v1109 c7_i32
  let c256_i32_433 : BitVec 32 := 256#32
  let v1111 : BitVec 32 := Scalar.muli v1110 c256_i32_433
  v1111
def k0_mult55 : BitVec 32 :=
  let c0_i32_17 : BitVec 32 := 0#32
  let c8_i32_432 : BitVec 32 := 8#32
  let v1109 : BitVec 32 := Scalar.muli c0_i32_17 c8_i32_432
  let c7_i32 : BitVec 32 := 7#32
  let v1110 : BitVec 32 := Scalar.addi v1109 c7_i32
  let c256_i32_435 : BitVec 32 := 256#32
  let v1116 : BitVec 32 := Scalar.muli v1110 c256_i32_435
  v1116
def k0_mult56 : BitVec 32 :=
  let c0_i32_17 : BitVec 32 := 0#32
  let c2048_i32_488 : BitVec 32 := 2048#32
  let v1261 : BitVec 32 := Scalar.muli c0_i32_17 c2048_i32_488
  v1261
def k0_off16 : Fin 3 → Nat :=
  let c0_489 : Index := 0#32
  let c0_i32_17 : BitVec 32 := 0#32
  let c2048_i32_488 : BitVec 32 := 2048#32
  let v1261 : BitVec 32 := Scalar.muli c0_i32_17 c2048_i32_488
  let v1262 : BitVec 32 := v1261
  let v1263 : Index := Scalar.indexCast v1262
  let c0_490 : Index := 0#32
  ![0, v1263.toNat, 0]
def k0_mult57 : BitVec 32 :=
  let c0_i32_17 : BitVec 32 := 0#32
  let c2048_i32_494 : BitVec 32 := 2048#32
  let v1279 : BitVec 32 := Scalar.muli c0_i32_17 c2048_i32_494
  v1279
def k0_off17 : Fin 3 → Nat :=
  let c0_495 : Index := 0#32
  let c0_i32_17 : BitVec 32 := 0#32
  let c2048_i32_494 : BitVec 32 := 2048#32
  let v1279 : BitVec 32 := Scalar.muli c0_i32_17 c2048_i32_494
  let v1280 : BitVec 32 := v1279
  let v1281 : Index := Scalar.indexCast v1280
  let c0_496 : Index := 0#32
  ![0, v1281.toNat, 0]
def k0_off18 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![c0_i32.toNat, v2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x8x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S1x2048x512 : Shape := ⟨3, ![1, 2048, 512]⟩
abbrev S1x8x2048 : Shape := ⟨3, ![1, 8, 2048]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x8x64x2048 : Shape := ⟨4, ![1, 8, 64, 2048]⟩
abbrev S8x2048 : Shape := ⟨2, ![8, 2048]⟩

abbrev nBuf : Space → Nat
  | .hbm => 124
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x8x2048, .f32⟩
  | .hbm, ⟨4, _⟩ => ⟨S1x2048x512, .f32⟩
  | .hbm, ⟨5, _⟩ => ⟨S1x2048x8x64, .f32⟩
  | .hbm, ⟨6, _⟩ => ⟨S1x8x2048x64, .f32⟩
  | .hbm, ⟨7, _⟩ => ⟨S1x2048x8x64, .f32⟩
  | .hbm, ⟨8, _⟩ => ⟨S1x8x2048x64, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S1x8x2048x1, .f32⟩
  | .hbm, ⟨14, _⟩ => ⟨S1x8x2048x2048, .f32⟩
  | .hbm, ⟨15, _⟩ => ⟨S1x8x2048x2048, .f32⟩
  | .hbm, ⟨16, _⟩ => ⟨S1x8x1x2048, .f32⟩
  | .hbm, ⟨17, _⟩ => ⟨S1x8x2048x2048, .f32⟩
  | .hbm, ⟨18, _⟩ => ⟨S1x8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S1x8x2048x2048, .i1⟩
  | .hbm, ⟨29, _⟩ => ⟨S1x8x2048x2048, .f32⟩
  | .hbm, ⟨30, _⟩ => ⟨S1x8x2048x2048, .f32⟩
  | .hbm, ⟨31, _⟩ => ⟨S_, .f32⟩
  | .hbm, ⟨32, _⟩ => ⟨S1x8x2048x2048, .f32⟩
  | .hbm, ⟨33, _⟩ => ⟨S_, .f32⟩
  | .hbm, ⟨34, _⟩ => ⟨S1x8x2048, .f32⟩
  | .hbm, ⟨35, _⟩ => ⟨S1x8x2048x1, .f32⟩
  | .hbm, ⟨36, _⟩ => ⟨S1x8x2048x2048, .f32⟩
  | .hbm, ⟨37, _⟩ => ⟨S1x8x2048x2048, .i1⟩
  | .hbm, ⟨38, _⟩ => ⟨S1x8x2048x2048, .f32⟩
  | .hbm, ⟨39, _⟩ => ⟨S_, .f32⟩
  | .hbm, ⟨40, _⟩ => ⟨S1x8x2048, .f32⟩
  | .hbm, ⟨41, _⟩ => ⟨S_, .f32⟩
  | .hbm, ⟨42, _⟩ => ⟨S1x8x2048, .f32⟩
  | .hbm, ⟨43, _⟩ => ⟨S1x8x2048, .f32⟩
  | .hbm, ⟨44, _⟩ => ⟨S_, .f32⟩
  | .hbm, ⟨45, _⟩ => ⟨S1x8x2048, .f32⟩
  | .hbm, ⟨46, _⟩ => ⟨S1x8x2048, .i1⟩
  | .hbm, ⟨47, _⟩ => ⟨S_, .f32⟩
  | .hbm, ⟨48, _⟩ => ⟨S1x8x2048, .f32⟩
  | .hbm, ⟨49, _⟩ => ⟨S1x8x2048, .i1⟩
  | .hbm, ⟨50, _⟩ => ⟨S_, .f32⟩
  | .hbm, ⟨51, _⟩ => ⟨S1x8x2048, .f32⟩
  | .hbm, ⟨52, _⟩ => ⟨S_, .f32⟩
  | .hbm, ⟨53, _⟩ => ⟨S1x8x2048, .f32⟩
  | .hbm, ⟨54, _⟩ => ⟨S_, .f32⟩
  | .hbm, ⟨55, _⟩ => ⟨S1x8x2048, .f32⟩
  | .hbm, ⟨56, _⟩ => ⟨S1x8x2048, .f32⟩
  | .hbm, ⟨57, _⟩ => ⟨S1x8x2048, .f32⟩
  | .hbm, ⟨58, _⟩ => ⟨S1x8x2048x1, .f32⟩
  | .hbm, ⟨59, _⟩ => ⟨S1x8x2048x2048, .f32⟩
  | .hbm, ⟨60, _⟩ => ⟨S1x8x2048x2048, .f32⟩
  | .hbm, ⟨61, _⟩ => ⟨S1x8x2048x2048, .f32⟩
  | .hbm, ⟨62, _⟩ => ⟨S_, .f32⟩
  | .hbm, ⟨63, _⟩ => ⟨S1x8x2048, .f32⟩
  | .hbm, ⟨64, _⟩ => ⟨S1x8x2048x1, .f32⟩
  | .hbm, ⟨65, _⟩ => ⟨S1x8x2048x2048, .f32⟩
  | .hbm, ⟨66, _⟩ => ⟨S1x8x2048x2048, .f32⟩
  | .hbm, ⟨67, _⟩ => ⟨S1x8x2048x1, .f32⟩
  | .hbm, ⟨68, _⟩ => ⟨S_, .f32⟩
  | .hbm, ⟨69, _⟩ => ⟨S1x8x2048x1, .f32⟩
  | .hbm, ⟨70, _⟩ => ⟨S1x8x2048x1, .f32⟩
  | .hbm, ⟨71, _⟩ => ⟨S1x2048x8x64, .f32⟩
  | .hbm, ⟨72, _⟩ => ⟨S1x8x2048x64, .f32⟩
  | .hbm, ⟨73, _⟩ => ⟨S1x8x2048x64, .f32⟩
  | .hbm, ⟨74, _⟩ => ⟨S1x2048x8x64, .f32⟩
  | .hbm, ⟨75, _⟩ => ⟨S1x2048x512, .f32⟩
  | .hbm, ⟨76, _⟩ => ⟨S1x2048x8x64, .f32⟩
  | .hbm, ⟨77, _⟩ => ⟨S1x8x2048x64, .f32⟩
  | .hbm, ⟨78, _⟩ => ⟨S1x8x64x2048, .f32⟩
  | .hbm, ⟨79, _⟩ => ⟨S1x8x2048x64, .f32⟩
  | .hbm, ⟨80, _⟩ => ⟨S1x8x2048x2048, .f32⟩
  | .hbm, ⟨81, _⟩ => ⟨S1x2048x8x64, .f32⟩
  | .hbm, ⟨82, _⟩ => ⟨S1x2048x512, .f32⟩
  | .hbm, ⟨83, _⟩ => ⟨S1x8x2048x2048, .f32⟩
  | .hbm, ⟨84, _⟩ => ⟨S1x8x2048x2048, .f32⟩
  | .hbm, ⟨85, _⟩ => ⟨S1x8x2048x2048, .f32⟩
  | .hbm, ⟨86, _⟩ => ⟨S_, .f32⟩
  | .hbm, ⟨87, _⟩ => ⟨S1x8x2048, .f32⟩
  | .hbm, ⟨88, _⟩ => ⟨S1x8x2048x1, .f32⟩
  | .hbm, ⟨89, _⟩ => ⟨S1x8x2048x1, .f32⟩
  | .hbm, ⟨90, _⟩ => ⟨S1x8x2048x2048, .f32⟩
  | .hbm, ⟨91, _⟩ => ⟨S1x8x2048x2048, .f32⟩
  | .hbm, ⟨92, _⟩ => ⟨S_, .f32⟩
  | .hbm, ⟨93, _⟩ => ⟨S8x2048, .f32⟩
  | .hbm, ⟨94, _⟩ => ⟨S1x8x2048, .f32⟩
  | .hbm, ⟨95, _⟩ => ⟨S1x8x2048x2048, .f32⟩
  | .hbm, ⟨96, _⟩ => ⟨S1x8x2048x2048, .f32⟩
  | .hbm, ⟨97, _⟩ => ⟨S1x8x2048x2048, .f32⟩
  | .hbm, ⟨98, _⟩ => ⟨S_, .f32⟩
  | .hbm, ⟨99, _⟩ => ⟨S1x8x2048x2048, .f32⟩
  | .hbm, ⟨100, _⟩ => ⟨S1x8x2048x2048, .f32⟩
  | .hbm, ⟨101, _⟩ => ⟨S1x8x2048x2048, .f32⟩
  | .hbm, ⟨102, _⟩ => ⟨S_, .f32⟩
  | .hbm, ⟨103, _⟩ => ⟨S1x8x2048, .f32⟩
  | .hbm, ⟨104, _⟩ => ⟨S1x8x1x2048, .f32⟩
  | .hbm, ⟨105, _⟩ => ⟨S_, .f32⟩
  | .hbm, ⟨106, _⟩ => ⟨S8x2048, .f32⟩
  | .hbm, ⟨107, _⟩ => ⟨S1x8x2048, .f32⟩
  | .hbm, ⟨108, _⟩ => ⟨S_, .f32⟩
  | .hbm, ⟨109, _⟩ => ⟨S1x8x2048, .f32⟩
  | .hbm, ⟨110, _⟩ => ⟨S1x8x2048x1, .f32⟩
  | .hbm, ⟨111, _⟩ => ⟨S_, .f32⟩
  | .hbm, ⟨112, _⟩ => ⟨S8x2048, .f32⟩
  | .hbm, ⟨113, _⟩ => ⟨S1x8x2048, .f32⟩
  | .hbm, ⟨114, _⟩ => ⟨S1x8x2048, .f32⟩
  | .hbm, ⟨115, _⟩ => ⟨S_, .f32⟩
  | .hbm, ⟨116, _⟩ => ⟨S1x8x2048x2048, .f32⟩
  | .hbm, ⟨117, _⟩ => ⟨S1x8x2048x2048, .f32⟩
  | .hbm, ⟨118, _⟩ => ⟨S1x8x2048x64, .f32⟩
  | .hbm, ⟨119, _⟩ => ⟨S1x8x2048x64, .f32⟩
  | .hbm, ⟨120, _⟩ => ⟨S1x2048x8x64, .f32⟩
  | .hbm, ⟨121, _⟩ => ⟨S1x2048x512, .f32⟩
  | .hbm, ⟨122, _⟩ => ⟨S1x2048x8x64, .f32⟩
  | .hbm, ⟨123, _⟩ => ⟨S1x2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Kernel8.lean ====
abbrev S1x2048x512 : Shape := ⟨3, ![1, 2048, 512]⟩
abbrev S2048x512 : Shape := ⟨2, ![2048, 512]⟩
abbrev S_ : Shape := ⟨0, ![]⟩
abbrev S2048x1536 : Shape := ⟨2, ![2048, 1536]⟩
abbrev S2048x3072 : Shape := ⟨2, ![2048, 3072]⟩
abbrev S2048x128 : Shape := ⟨2, ![2048, 128]⟩
abbrev S8x2048x256 : Shape := ⟨3, ![8, 2048, 256]⟩
abbrev S8x128x256 : Shape := ⟨3, ![8, 128, 256]⟩
abbrev S3x2048x128 : Shape := ⟨3, ![3, 2048, 128]⟩
abbrev S256x256 : Shape := ⟨2, ![256, 256]⟩
abbrev S2048x1 : Shape := ⟨2, ![2048, 1]⟩
abbrev S128x2048 : Shape := ⟨2, ![128, 2048]⟩
abbrev S256x128 : Shape := ⟨2, ![256, 128]⟩
abbrev S256x1 : Shape := ⟨2, ![256, 1]⟩
abbrev S1x256x256 : Shape := ⟨3, ![1, 256, 256]⟩
abbrev S1x128x256 : Shape := ⟨3, ![1, 128, 256]⟩
abbrev S128x256 : Shape := ⟨2, ![128, 256]⟩
abbrev S256 : Shape := ⟨1, ![256]⟩
abbrev S1792x1 : Shape := ⟨2, ![1792, 1]⟩
abbrev S512x1 : Shape := ⟨2, ![512, 1]⟩
abbrev S512x128 : Shape := ⟨2, ![512, 128]⟩
abbrev S512x256 : Shape := ⟨2, ![512, 256]⟩
abbrev S1x512x256 : Shape := ⟨3, ![1, 512, 256]⟩
abbrev S128x512 : Shape := ⟨2, ![128, 512]⟩
abbrev S512 : Shape := ⟨1, ![512]⟩
abbrev S1536x1 : Shape := ⟨2, ![1536, 1]⟩
abbrev S768x1 : Shape := ⟨2, ![768, 1]⟩
abbrev S768x128 : Shape := ⟨2, ![768, 128]⟩
abbrev S768x256 : Shape := ⟨2, ![768, 256]⟩
abbrev S1x768x256 : Shape := ⟨3, ![1, 768, 256]⟩
abbrev S128x768 : Shape := ⟨2, ![128, 768]⟩
abbrev S768 : Shape := ⟨1, ![768]⟩
abbrev S1280x1 : Shape := ⟨2, ![1280, 1]⟩
abbrev S1024x1 : Shape := ⟨2, ![1024, 1]⟩
abbrev S1024x128 : Shape := ⟨2, ![1024, 128]⟩
abbrev S1024x256 : Shape := ⟨2, ![1024, 256]⟩
abbrev S1x1024x256 : Shape := ⟨3, ![1, 1024, 256]⟩
abbrev S128x1024 : Shape := ⟨2, ![128, 1024]⟩
abbrev S1024 : Shape := ⟨1, ![1024]⟩
abbrev S1280x128 : Shape := ⟨2, ![1280, 128]⟩
abbrev S1280x256 : Shape := ⟨2, ![1280, 256]⟩
abbrev S1x1280x256 : Shape := ⟨3, ![1, 1280, 256]⟩
abbrev S128x1280 : Shape := ⟨2, ![128, 1280]⟩
abbrev S1280 : Shape := ⟨1, ![1280]⟩
abbrev S1536x128 : Shape := ⟨2, ![1536, 128]⟩
abbrev S1536x256 : Shape := ⟨2, ![1536, 256]⟩
abbrev S1x1536x256 : Shape := ⟨3, ![1, 1536, 256]⟩
abbrev S128x1536 : Shape := ⟨2, ![128, 1536]⟩
abbrev S1536 : Shape := ⟨1, ![1536]⟩
abbrev S1792x128 : Shape := ⟨2, ![1792, 128]⟩
abbrev S1792x256 : Shape := ⟨2, ![1792, 256]⟩
abbrev S1x1792x256 : Shape := ⟨3, ![1, 1792, 256]⟩
abbrev S128x1792 : Shape := ⟨2, ![128, 1792]⟩
abbrev S1792 : Shape := ⟨1, ![1792]⟩
abbrev S2048x256 : Shape := ⟨2, ![2048, 256]⟩
abbrev S1x2048x256 : Shape := ⟨3, ![1, 2048, 256]⟩
abbrev S2048 : Shape := ⟨1, ![2048]⟩
abbrev S1x2048x128 : Shape := ⟨3, ![1, 2048, 128]⟩
abbrev S1x256x128 : Shape := ⟨3, ![1, 256, 128]⟩
abbrev S1x2048x1536 : Shape := ⟨3, ![1, 2048, 1536]⟩

abbrev nBuf : Space → Nat
  | .hbm => 25
  | .vmem => 15
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x1536, .f32⟩
  | .hbm, ⟨12, _⟩ => ⟨S2048x3072, .f32⟩
  | .hbm, ⟨13, _⟩ => ⟨S2048x3072, .bf16⟩
  | .hbm, ⟨14, _⟩ => ⟨S2048x512, .f32⟩
  | .hbm, ⟨15, _⟩ => ⟨S2048x512, .bf16⟩
  | .hbm, ⟨16, _⟩ => ⟨S_, .bf16⟩
  | .hbm, ⟨17, _⟩ => ⟨S2048x3072, .bf16⟩
  | .hbm, ⟨18, _⟩ => ⟨S2048x3072, .bf16⟩
  | .hbm, ⟨19, _⟩ => ⟨S2048x1536, .bf16⟩
  | .hbm, ⟨20, _⟩ => ⟨S1x2048x1536, .bf16⟩
  | .hbm, ⟨21, _⟩ => ⟨S1x2048x1536, .f32⟩
  | .hbm, ⟨22, _⟩ => ⟨S1x2048x512, .f32⟩
  | .hbm, ⟨23, _⟩ => ⟨S1x2048x512, .f32⟩
  | .hbm, ⟨24, _⟩ => ⟨S1x2048x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S8x2048x256, .bf16⟩
  | .local _ .vmem, ⟨11, _⟩ => ⟨S8x2048x256, .bf16⟩
  | .local _ .vmem, ⟨12, _⟩ => ⟨S8x128x256, .f32⟩
  | .local _ .vmem, ⟨13, _⟩ => ⟨S8x128x256, .f32⟩
  | .local _ .vmem, ⟨14, _⟩ => ⟨S3x2048x128, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_12 : BitVec 32 := 0#32
  let c2048_i32 : BitVec 32 := 2048#32
  let v32 : BitVec 32 := Scalar.muli c0_i32_12 c2048_i32
  v32
def k0_off1 : Fin 2 → Nat :=
  let c0_i32_12 : BitVec 32 := 0#32
  let c2048_i32 : BitVec 32 := 2048#32
  let v32 : BitVec 32 := Scalar.muli c0_i32_12 c2048_i32
  let v33 : BitVec 32 := v32
  let v34 : Index := Scalar.indexCast v33
  let c0_13 : Index := 0#32
  ![v34.toNat, 0]
def k0_mult2 : BitVec 32 :=
  let c0_i32_12 : BitVec 32 := 0#32
  let c2048_i32_14 : BitVec 32 := 2048#32
  let v37 : BitVec 32 := Scalar.muli c0_i32_12 c2048_i32_14
  v37
def k0_mult3 : BitVec 32 :=
  let c0_i32_12 : BitVec 32 := 0#32
  let c8_i32 : BitVec 32 := 8#32
  let v53 : BitVec 32 := Scalar.muli c0_i32_12 c8_i32
  let c7_i32 : BitVec 32 := 7#32
  let v54 : BitVec 32 := Scalar.addi v53 c7_i32
  let c256_i32 : BitVec 32 := 256#32
  let v55 : BitVec 32 := Scalar.muli v54 c256_i32
  v55
def k0_off2 (c7_i32 : BitVec 32) : Fin 2 → Nat :=
  let c0_i32_12 : BitVec 32 := 0#32
  let c8_i32 : BitVec 32 := 8#32
  let v53 : BitVec 32 := Scalar.muli c0_i32_12 c8_i32
  let v54 : BitVec 32 := Scalar.addi v53 c7_i32
  let c256_i32 : BitVec 32 := 256#32
  let v55 : BitVec 32 := Scalar.muli v54 c256_i32
  let v56 : BitVec 32 := v55
  let v57 : Index := Scalar.indexCast v56
  let c0_19 : Index := 0#32
  ![v57.toNat, 0]
def k0_mult4 : BitVec 32 :=
  let c0_i32_12 : BitVec 32 := 0#32
  let c8_i32 : BitVec 32 := 8#32
  let v53 : BitVec 32 := Scalar.muli c0_i32_12 c8_i32
  let c7_i32 : BitVec 32 := 7#32
  let v54 : BitVec 32 := Scalar.addi v53 c7_i32
  let c256_i32_20 : BitVec 32 := 256#32
  let v60 : BitVec 32 := Scalar.muli v54 c256_i32_20
  v60
def k0_off3 : Fin 3 → Nat :=
  let c0_i32_12 : BitVec 32 := 0#32
  let c8_i32 : BitVec 32 := 8#32
  let v53 : BitVec 32 := Scalar.muli c0_i32_12 c8_i32
  let c7_i32 : BitVec 32 := 7#32
  let v54 : BitVec 32 := Scalar.addi v53 c7_i32
  let v108 : Index := Scalar.indexCast v54
  let c1792 : Index := 1792#32
  let c0_33 : Index := 0#32
  ![v108.toNat, 1792, 0]
def k0_off4 (c7_i32 : BitVec 32) : Fin 3 → Nat :=
  let c0_i32_12 : BitVec 32 := 0#32
  let c8_i32 : BitVec 32 := 8#32
  let v53 : BitVec 32 := Scalar.muli c0_i32_12 c8_i32
  let v54 : BitVec 32 := Scalar.addi v53 c7_i32
  let v118 : Index := Scalar.indexCast v54
  let c0_36 : Index := 0#32
  let c0_37 : Index := 0#32
  ![v118.toNat, 0, 0]
def k0_mult5 : BitVec 32 :=
  let c0_i32_12 : BitVec 32 := 0#32
  let c8_i32_42 : BitVec 32 := 8#32
  let v134 : BitVec 32 := Scalar.muli c0_i32_12 c8_i32_42
  let c6_i32 : BitVec 32 := 6#32
  let v135 : BitVec 32 := Scalar.addi v134 c6_i32
  let c256_i32_43 : BitVec 32 := 256#32
  let v136 : BitVec 32 := Scalar.muli v135 c256_i32_43
  v136
def k0_mult6 : BitVec 32 :=
  let c0_i32_12 : BitVec 32 := 0#32
  let c8_i32_42 : BitVec 32 := 8#32
  let v134 : BitVec 32 := Scalar.muli c0_i32_12 c8_i32_42
  let c6_i32 : BitVec 32 := 6#32
  let v135 : BitVec 32 := Scalar.addi v134 c6_i32
  let c256_i32_45 : BitVec 32 := 256#32
  let v141 : BitVec 32 := Scalar.muli v135 c256_i32_45
  v141
def k0_off5 : Fin 3 → Nat :=
  let c0_i32_12 : BitVec 32 := 0#32
  let c8_i32_42 : BitVec 32 := 8#32
  let v134 : BitVec 32 := Scalar.muli c0_i32_12 c8_i32_42
  let c6_i32 : BitVec 32 := 6#32
  let v135 : BitVec 32 := Scalar.addi v134 c6_i32
  let v189 : Index := Scalar.indexCast v135
  let c1536 : Index := 1536#32
  let c0_58 : Index := 0#32
  ![v189.toNat, 1536, 0]
def k0_mult7 : BitVec 32 :=
  let c0_i32_12 : BitVec 32 := 0#32
  let c8_i32_67 : BitVec 32 := 8#32
  let v215 : BitVec 32 := Scalar.muli c0_i32_12 c8_i32_67
  let c5_i32 : BitVec 32 := 5#32
  let v216 : BitVec 32 := Scalar.addi v215 c5_i32
  let c256_i32_68 : BitVec 32 := 256#32
  let v217 : BitVec 32 := Scalar.muli v216 c256_i32_68
  v217
def k0_mult8 : BitVec 32 :=
  let c0_i32_12 : BitVec 32 := 0#32
  let c8_i32_67 : BitVec 32 := 8#32
  let v215 : BitVec 32 := Scalar.muli c0_i32_12 c8_i32_67
  let c5_i32 : BitVec 32 := 5#32
  let v216 : BitVec 32 := Scalar.addi v215 c5_i32
  let c256_i32_70 : BitVec 32 := 256#32
  let v222 : BitVec 32 := Scalar.muli v216 c256_i32_70
  v222
def k0_off6 : Fin 3 → Nat :=
  let c0_i32_12 : BitVec 32 := 0#32
  let c8_i32_67 : BitVec 32 := 8#32
  let v215 : BitVec 32 := Scalar.muli c0_i32_12 c8_i32_67
  let c5_i32 : BitVec 32 := 5#32
  let v216 : BitVec 32 := Scalar.addi v215 c5_i32
  let v270 : Index := Scalar.indexCast v216
  let c1280 : Index := 1280#32
  let c0_83 : Index := 0#32
  ![v270.toNat, 1280, 0]
def k0_mult9 : BitVec 32 :=
  let c0_i32_12 : BitVec 32 := 0#32
  let c8_i32_92 : BitVec 32 := 8#32
  let v296 : BitVec 32 := Scalar.muli c0_i32_12 c8_i32_92
  let c4_i32 : BitVec 32 := 4#32
  let v297 : BitVec 32 := Scalar.addi v296 c4_i32
  let c256_i32_93 : BitVec 32 := 256#32
  let v298 : BitVec 32 := Scalar.muli v297 c256_i32_93
  v298
def k0_mult10 : BitVec 32 :=
  let c0_i32_12 : BitVec 32 := 0#32
  let c8_i32_92 : BitVec 32 := 8#32
  let v296 : BitVec 32 := Scalar.muli c0_i32_12 c8_i32_92
  let c4_i32 : BitVec 32 := 4#32
  let v297 : BitVec 32 := Scalar.addi v296 c4_i32
  let c256_i32_95 : BitVec 32 := 256#32
  let v303 : BitVec 32 := Scalar.muli v297 c256_i32_95
  v303
def k0_off7 : Fin 3 → Nat :=
  let c0_i32_12 : BitVec 32 := 0#32
  let c8_i32_92 : BitVec 32 := 8#32
  let v296 : BitVec 32 := Scalar.muli c0_i32_12 c8_i32_92
  let c4_i32 : BitVec 32 := 4#32
  let v297 : BitVec 32 := Scalar.addi v296 c4_i32
  let v351 : Index := Scalar.indexCast v297
  let c1024 : Index := 1024#32
  let c0_108 : Index := 0#32
  ![v351.toNat, 1024, 0]
def k0_mult11 : BitVec 32 :=
  let c0_i32_12 : BitVec 32 := 0#32
  let c8_i32_117 : BitVec 32 := 8#32
  let v377 : BitVec 32 := Scalar.muli c0_i32_12 c8_i32_117
  let c3_i32 : BitVec 32 := 3#32
  let v378 : BitVec 32 := Scalar.addi v377 c3_i32
  let c256_i32_118 : BitVec 32 := 256#32
  let v379 : BitVec 32 := Scalar.muli v378 c256_i32_118
  v379
def k0_mult12 : BitVec 32 :=
  let c0_i32_12 : BitVec 32 := 0#32
  let c8_i32_117 : BitVec 32 := 8#32
  let v377 : BitVec 32 := Scalar.muli c0_i32_12 c8_i32_117
  let c3_i32 : BitVec 32 := 3#32
  let v378 : BitVec 32 := Scalar.addi v377 c3_i32
  let c256_i32_120 : BitVec 32 := 256#32
  let v384 : BitVec 32 := Scalar.muli v378 c256_i32_120
  v384
def k0_off8 : Fin 3 → Nat :=
  let c0_i32_12 : BitVec 32 := 0#32
  let c8_i32_117 : BitVec 32 := 8#32
  let v377 : BitVec 32 := Scalar.muli c0_i32_12 c8_i32_117
  let c3_i32 : BitVec 32 := 3#32
  let v378 : BitVec 32 := Scalar.addi v377 c3_i32
  let v432 : Index := Scalar.indexCast v378
  let c768 : Index := 768#32
  let c0_133 : Index := 0#32
  ![v432.toNat, 768, 0]
def k0_mult13 : BitVec 32 :=
  let c0_i32_12 : BitVec 32 := 0#32
  let c8_i32_142 : BitVec 32 := 8#32
  let v458 : BitVec 32 := Scalar.muli c0_i32_12 c8_i32_142
  let c2_i32 : BitVec 32 := 2#32
  let v459 : BitVec 32 := Scalar.addi v458 c2_i32
  let c256_i32_143 : BitVec 32 := 256#32
  let v460 : BitVec 32 := Scalar.muli v459 c256_i32_143
  v460
def k0_mult14 : BitVec 32 :=
  let c0_i32_12 : BitVec 32 := 0#32
  let c8_i32_142 : BitVec 32 := 8#32
  let v458 : BitVec 32 := Scalar.muli c0_i32_12 c8_i32_142
  let c2_i32 : BitVec 32 := 2#32
  let v459 : BitVec 32 := Scalar.addi v458 c2_i32
  let c256_i32_145 : BitVec 32 := 256#32
  let v465 : BitVec 32 := Scalar.muli v459 c256_i32_145
  v465
def k0_off9 : Fin 3 → Nat :=
  let c0_i32_12 : BitVec 32 := 0#32
  let c8_i32_142 : BitVec 32 := 8#32
  let v458 : BitVec 32 := Scalar.muli c0_i32_12 c8_i32_142
  let c2_i32 : BitVec 32 := 2#32
  let v459 : BitVec 32 := Scalar.addi v458 c2_i32
  let v513 : Index := Scalar.indexCast v459
  let c512 : Index := 512#32
  let c0_158 : Index := 0#32
  ![v513.toNat, 512, 0]
def k0_mult15 : BitVec 32 :=
  let c0_i32_12 : BitVec 32 := 0#32
  let c8_i32_167 : BitVec 32 := 8#32
  let v539 : BitVec 32 := Scalar.muli c0_i32_12 c8_i32_167
  let c1_i32 : BitVec 32 := 1#32
  let v540 : BitVec 32 := Scalar.addi v539 c1_i32
  let c256_i32_168 : BitVec 32 := 256#32
  let v541 : BitVec 32 := Scalar.muli v540 c256_i32_168
  v541
def k0_mult16 : BitVec 32 :=
  let c0_i32_12 : BitVec 32 := 0#32
  let c8_i32_167 : BitVec 32 := 8#32
  let v539 : BitVec 32 := Scalar.muli c0_i32_12 c8_i32_167
  let c1_i32 : BitVec 32 := 1#32
  let v540 : BitVec 32 := Scalar.addi v539 c1_i32
  let c256_i32_170 : BitVec 32 := 256#32
  let v546 : BitVec 32 := Scalar.muli v540 c256_i32_170
  v546
def k0_off10 : Fin 3 → Nat :=
  let c0_i32_12 : BitVec 32 := 0#32
  let c8_i32_167 : BitVec 32 := 8#32
  let v539 : BitVec 32 := Scalar.muli c0_i32_12 c8_i32_167
  let c1_i32 : BitVec 32 := 1#32
  let v540 : BitVec 32 := Scalar.addi v539 c1_i32
  let v594 : Index := Scalar.indexCast v540
  let c256 : Index := 256#32
  let c0_183 : Index := 0#32
  ![v594.toNat, 256, 0]
def k0_mult17 : BitVec 32 :=
  let c0_i32_12 : BitVec 32 := 0#32
  let c8_i32_192 : BitVec 32 := 8#32
  let v620 : BitVec 32 := Scalar.muli c0_i32_12 c8_i32_192
  let c0_i32_193 : BitVec 32 := 0#32
  let v621 : BitVec 32 := Scalar.addi v620 c0_i32_193
  let c256_i32_194 : BitVec 32 := 256#32
  let v622 : BitVec 32 := Scalar.muli v621 c256_i32_194
  v622
def k0_mult18 : BitVec 32 :=
  let c0_i32_12 : BitVec 32 := 0#32
  let c8_i32_192 : BitVec 32 := 8#32
  let v620 : BitVec 32 := Scalar.muli c0_i32_12 c8_i32_192
  let c0_i32_193 : BitVec 32 := 0#32
  let v621 : BitVec 32 := Scalar.addi v620 c0_i32_193
  let c256_i32_196 : BitVec 32 := 256#32
  let v627 : BitVec 32 := Scalar.muli v621 c256_i32_196
  v627
def k0_off11 : Fin 3 → Nat :=
  let c0_i32_12 : BitVec 32 := 0#32
  let c8_i32_192 : BitVec 32 := 8#32
  let v620 : BitVec 32 := Scalar.muli c0_i32_12 c8_i32_192
  let c0_i32_193 : BitVec 32 := 0#32
  let v621 : BitVec 32 := Scalar.addi v620 c0_i32_193
  let v672 : Index := Scalar.indexCast v621
  let c0_209 : Index := 0#32
  let c0_210 : Index := 0#32
  ![v672.toNat, 0, 0]
@[reducible] def k0_t1_loop : Scf.Loop 32 :=
  let c0_i32_219 : BitVec 32 := 0#32
  let c0_i32_12 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_221 : BitVec 32 := 1#32
  ⟨c0_i32_219, v699, c1_i32_221⟩
def k0_mult19 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_838 : BitVec 32 := 256#32
  let v2291 : BitVec 32 := Scalar.muli v2290 c256_i32_838
  v2291
def k0_off12 (k0_t1 : Fin k0_t1_loop.trips) (c7_i32_837 : BitVec 32) : Fin 2 → Nat :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let c256_i32_838 : BitVec 32 := 256#32
  let v2291 : BitVec 32 := Scalar.muli v2290 c256_i32_838
  let v2292 : BitVec 32 := v2291
  let v2293 : Index := Scalar.indexCast v2292
  let c0_839 : Index := 0#32
  ![v2293.toNat, 0]
def k0_mult20 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_840 : BitVec 32 := 256#32
  let v2296 : BitVec 32 := Scalar.muli v2290 c256_i32_840
  v2296
def k0_off13 (k0_t1 : Fin k0_t1_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2331 : Index := Scalar.indexCast v2290
  let c0_851 : Index := 0#32
  let c0_852 : Index := 0#32
  ![v2331.toNat, 0, 0]
def k0_off14 (k0_t1 : Fin k0_t1_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2341 : Index := Scalar.indexCast v2290
  let c0_855 : Index := 0#32
  let c0_856 : Index := 0#32
  ![v2341.toNat, 0, 0]
def k0_mult21 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_862 : BitVec 32 := 256#32
  let v2355 : BitVec 32 := Scalar.muli v2354 c256_i32_862
  v2355
def k0_mult22 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_864 : BitVec 32 := 256#32
  let v2360 : BitVec 32 := Scalar.muli v2354 c256_i32_864
  v2360
def k0_mult23 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_886 : BitVec 32 := 256#32
  let v2419 : BitVec 32 := Scalar.muli v2418 c256_i32_886
  v2419
def k0_mult24 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_888 : BitVec 32 := 256#32
  let v2424 : BitVec 32 := Scalar.muli v2418 c256_i32_888
  v2424
def k0_mult25 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_910 : BitVec 32 := 256#32
  let v2483 : BitVec 32 := Scalar.muli v2482 c256_i32_910
  v2483
def k0_mult26 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_912 : BitVec 32 := 256#32
  let v2488 : BitVec 32 := Scalar.muli v2482 c256_i32_912
  v2488
def k0_mult27 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_934 : BitVec 32 := 256#32
  let v2547 : BitVec 32 := Scalar.muli v2546 c256_i32_934
  v2547
def k0_mult28 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_936 : BitVec 32 := 256#32
  let v2552 : BitVec 32 := Scalar.muli v2546 c256_i32_936
  v2552
def k0_mult29 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_958 : BitVec 32 := 256#32
  let v2611 : BitVec 32 := Scalar.muli v2610 c256_i32_958
  v2611
def k0_mult30 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_960 : BitVec 32 := 256#32
  let v2616 : BitVec 32 := Scalar.muli v2610 c256_i32_960
  v2616
def k0_mult31 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_982 : BitVec 32 := 256#32
  let v2675 : BitVec 32 := Scalar.muli v2674 c256_i32_982
  v2675
def k0_mult32 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_984 : BitVec 32 := 256#32
  let v2680 : BitVec 32 := Scalar.muli v2674 c256_i32_984
  v2680
def k0_mult33 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1006 : BitVec 32 := 256#32
  let v2739 : BitVec 32 := Scalar.muli v2738 c256_i32_1006
  v2739
def k0_mult34 (k0_t1 : Fin k0_t1_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let c1_i32_221 : BitVec 32 := 1#32
  let arg13 : BitVec 32 := Scf.iv c0_i32_219 c1_i32_221 k0_t1
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1008 : BitVec 32 := 256#32
  let v2744 : BitVec 32 := Scalar.muli v2738 c256_i32_1008
  v2744
@[reducible] def k0_t2_loop : Scf.Loop 32 :=
  let c0_i32_219 : BitVec 32 := 0#32
  let c0_i32_12 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let v696 : BitVec 32 := Scalar.addi c0_i32_219 v695
  let c1_i32_222 : BitVec 32 := 1#32
  ⟨v699, v696, c1_i32_222⟩
def k0_mult35 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_838 : BitVec 32 := 256#32
  let v2291 : BitVec 32 := Scalar.muli v2290 c256_i32_838
  v2291
def k0_off15 (k0_t2 : Fin k0_t2_loop.trips) (c7_i32_837 : BitVec 32) : Fin 2 → Nat :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let c256_i32_838 : BitVec 32 := 256#32
  let v2291 : BitVec 32 := Scalar.muli v2290 c256_i32_838
  let v2292 : BitVec 32 := v2291
  let v2293 : Index := Scalar.indexCast v2292
  let c0_839 : Index := 0#32
  ![v2293.toNat, 0]
def k0_mult36 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_840 : BitVec 32 := 256#32
  let v2296 : BitVec 32 := Scalar.muli v2290 c256_i32_840
  v2296
def k0_off16 (k0_t2 : Fin k0_t2_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2331 : Index := Scalar.indexCast v2290
  let c0_851 : Index := 0#32
  let c0_852 : Index := 0#32
  ![v2331.toNat, 0, 0]
def k0_off17 (k0_t2 : Fin k0_t2_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2341 : Index := Scalar.indexCast v2290
  let c0_855 : Index := 0#32
  let c0_856 : Index := 0#32
  ![v2341.toNat, 0, 0]
def k0_mult37 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_862 : BitVec 32 := 256#32
  let v2355 : BitVec 32 := Scalar.muli v2354 c256_i32_862
  v2355
def k0_mult38 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_864 : BitVec 32 := 256#32
  let v2360 : BitVec 32 := Scalar.muli v2354 c256_i32_864
  v2360
def k0_mult39 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_886 : BitVec 32 := 256#32
  let v2419 : BitVec 32 := Scalar.muli v2418 c256_i32_886
  v2419
def k0_mult40 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_888 : BitVec 32 := 256#32
  let v2424 : BitVec 32 := Scalar.muli v2418 c256_i32_888
  v2424
def k0_mult41 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_910 : BitVec 32 := 256#32
  let v2483 : BitVec 32 := Scalar.muli v2482 c256_i32_910
  v2483
def k0_mult42 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_912 : BitVec 32 := 256#32
  let v2488 : BitVec 32 := Scalar.muli v2482 c256_i32_912
  v2488
def k0_mult43 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_934 : BitVec 32 := 256#32
  let v2547 : BitVec 32 := Scalar.muli v2546 c256_i32_934
  v2547
def k0_mult44 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_936 : BitVec 32 := 256#32
  let v2552 : BitVec 32 := Scalar.muli v2546 c256_i32_936
  v2552
def k0_mult45 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_958 : BitVec 32 := 256#32
  let v2611 : BitVec 32 := Scalar.muli v2610 c256_i32_958
  v2611
def k0_mult46 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_960 : BitVec 32 := 256#32
  let v2616 : BitVec 32 := Scalar.muli v2610 c256_i32_960
  v2616
def k0_mult47 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_982 : BitVec 32 := 256#32
  let v2675 : BitVec 32 := Scalar.muli v2674 c256_i32_982
  v2675
def k0_mult48 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_984 : BitVec 32 := 256#32
  let v2680 : BitVec 32 := Scalar.muli v2674 c256_i32_984
  v2680
def k0_mult49 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1006 : BitVec 32 := 256#32
  let v2739 : BitVec 32 := Scalar.muli v2738 c256_i32_1006
  v2739
def k0_mult50 (k0_t2 : Fin k0_t2_loop.trips) : BitVec 32 :=
  let c0_i32_12 : BitVec 32 := 0#32
  let c1_i32_835 : BitVec 32 := 1#32
  let v2287 : BitVec 32 := Scalar.subi c0_i32_12 c1_i32_835
  let c0_i32_219 : BitVec 32 := 0#32
  let v695 : BitVec 32 := Scalar.subi c0_i32_12 c0_i32_219
  let c1_i32_220 : BitVec 32 := 1#32
  let v697 : BitVec 32 := Scalar.divsi v695 c1_i32_220
  let v698 : BitVec 32 := Scalar.muli v697 c1_i32_220
  let v699 : BitVec 32 := Scalar.addi c0_i32_219 v698
  let c1_i32_222 : BitVec 32 := 1#32
  let arg13 : BitVec 32 := Scf.iv v699 c1_i32_222 k0_t2
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1008 : BitVec 32 := 256#32
  let v2744 : BitVec 32 := Scalar.muli v2738 c256_i32_1008
  v2744
@[reducible] def k0_t3_loop : Scf.Loop 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_226 : BitVec 32 := 1#32
  ⟨c0_i32_224, v707, c1_i32_226⟩
def k0_mult51 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c0_i32_836 : BitVec 32 := 0#32
  let v2288 : BitVec 32 := Scalar.addi v2287 c0_i32_836
  let c256_i32_837 : BitVec 32 := 256#32
  let v2289 : BitVec 32 := Scalar.muli v2288 c256_i32_837
  v2289
def k0_off18 (k0_t3 : Fin k0_t3_loop.trips) (c0_i32_836 : BitVec 32) : Fin 2 → Nat :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let v2288 : BitVec 32 := Scalar.addi v2287 c0_i32_836
  let c256_i32_837 : BitVec 32 := 256#32
  let v2289 : BitVec 32 := Scalar.muli v2288 c256_i32_837
  let v2290 : BitVec 32 := v2289
  let v2291 : Index := Scalar.indexCast v2290
  let c0_838 : Index := 0#32
  ![v2291.toNat, 0]
def k0_off19 (k0_t3 : Fin k0_t3_loop.trips) (c0_i32_836 : BitVec 32) : Fin 3 → Nat :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let v2288 : BitVec 32 := Scalar.addi v2287 c0_i32_836
  let v2294 : Index := Scalar.indexCast v2288
  let c0_839 : Index := 0#32
  let c0_840 : Index := 0#32
  ![v2294.toNat, 0, 0]
def k0_off20 (k0_t3 : Fin k0_t3_loop.trips) (c0_i32_836 : BitVec 32) : Fin 3 → Nat :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let v2288 : BitVec 32 := Scalar.addi v2287 c0_i32_836
  let v2311 : Index := Scalar.indexCast v2288
  let c0_845 : Index := 0#32
  let c0_846 : Index := 0#32
  ![v2311.toNat, 0, 0]
def k0_mult52 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c1_i32_852 : BitVec 32 := 1#32
  let v2325 : BitVec 32 := Scalar.addi v2287 c1_i32_852
  let c256_i32_853 : BitVec 32 := 256#32
  let v2326 : BitVec 32 := Scalar.muli v2325 c256_i32_853
  v2326
def k0_mult53 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c2_i32_868 : BitVec 32 := 2#32
  let v2362 : BitVec 32 := Scalar.addi v2287 c2_i32_868
  let c256_i32_869 : BitVec 32 := 256#32
  let v2363 : BitVec 32 := Scalar.muli v2362 c256_i32_869
  v2363
def k0_mult54 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c3_i32_884 : BitVec 32 := 3#32
  let v2399 : BitVec 32 := Scalar.addi v2287 c3_i32_884
  let c256_i32_885 : BitVec 32 := 256#32
  let v2400 : BitVec 32 := Scalar.muli v2399 c256_i32_885
  v2400
def k0_mult55 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c4_i32_900 : BitVec 32 := 4#32
  let v2436 : BitVec 32 := Scalar.addi v2287 c4_i32_900
  let c256_i32_901 : BitVec 32 := 256#32
  let v2437 : BitVec 32 := Scalar.muli v2436 c256_i32_901
  v2437
def k0_mult56 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c5_i32_916 : BitVec 32 := 5#32
  let v2473 : BitVec 32 := Scalar.addi v2287 c5_i32_916
  let c256_i32_917 : BitVec 32 := 256#32
  let v2474 : BitVec 32 := Scalar.muli v2473 c256_i32_917
  v2474
def k0_mult57 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c6_i32_932 : BitVec 32 := 6#32
  let v2510 : BitVec 32 := Scalar.addi v2287 c6_i32_932
  let c256_i32_933 : BitVec 32 := 256#32
  let v2511 : BitVec 32 := Scalar.muli v2510 c256_i32_933
  v2511
def k0_mult58 (k0_t3 : Fin k0_t3_loop.trips) : BitVec 32 :=
  let c0_i32_224 : BitVec 32 := 0#32
  let c1_i32_226 : BitVec 32 := 1#32
  let arg13 : BitVec 32 := Scf.iv c0_i32_224 c1_i32_226 k0_t3
  let c8_i32_835 : BitVec 32 := 8#32
  let v2287 : BitVec 32 := Scalar.muli arg13 c8_i32_835
  let c7_i32_948 : BitVec 32 := 7#32
  let v2547 : BitVec 32 := Scalar.addi v2287 c7_i32_948
  let c256_i32_949 : BitVec 32 := 256#32
  let v2548 : BitVec 32 := Scalar.muli v2547 c256_i32_949
  v2548
@[reducible] def k0_t4_loop : Scf.Loop 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let v704 : BitVec 32 := Scalar.addi c0_i32_224 v703
  let c1_i32_227 : BitVec 32 := 1#32
  ⟨v707, v704, c1_i32_227⟩
def k0_mult59 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c0_i32_836 : BitVec 32 := 0#32
  let v2288 : BitVec 32 := Scalar.addi v2287 c0_i32_836
  let c256_i32_837 : BitVec 32 := 256#32
  let v2289 : BitVec 32 := Scalar.muli v2288 c256_i32_837
  v2289
def k0_off21 (k0_t4 : Fin k0_t4_loop.trips) (c0_i32_836 : BitVec 32) : Fin 2 → Nat :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let v2288 : BitVec 32 := Scalar.addi v2287 c0_i32_836
  let c256_i32_837 : BitVec 32 := 256#32
  let v2289 : BitVec 32 := Scalar.muli v2288 c256_i32_837
  let v2290 : BitVec 32 := v2289
  let v2291 : Index := Scalar.indexCast v2290
  let c0_838 : Index := 0#32
  ![v2291.toNat, 0]
def k0_off22 (k0_t4 : Fin k0_t4_loop.trips) (c0_i32_836 : BitVec 32) : Fin 3 → Nat :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let v2288 : BitVec 32 := Scalar.addi v2287 c0_i32_836
  let v2294 : Index := Scalar.indexCast v2288
  let c0_839 : Index := 0#32
  let c0_840 : Index := 0#32
  ![v2294.toNat, 0, 0]
def k0_off23 (k0_t4 : Fin k0_t4_loop.trips) (c0_i32_836 : BitVec 32) : Fin 3 → Nat :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let v2288 : BitVec 32 := Scalar.addi v2287 c0_i32_836
  let v2311 : Index := Scalar.indexCast v2288
  let c0_845 : Index := 0#32
  let c0_846 : Index := 0#32
  ![v2311.toNat, 0, 0]
def k0_mult60 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c1_i32_852 : BitVec 32 := 1#32
  let v2325 : BitVec 32 := Scalar.addi v2287 c1_i32_852
  let c256_i32_853 : BitVec 32 := 256#32
  let v2326 : BitVec 32 := Scalar.muli v2325 c256_i32_853
  v2326
def k0_mult61 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c2_i32_868 : BitVec 32 := 2#32
  let v2362 : BitVec 32 := Scalar.addi v2287 c2_i32_868
  let c256_i32_869 : BitVec 32 := 256#32
  let v2363 : BitVec 32 := Scalar.muli v2362 c256_i32_869
  v2363
def k0_mult62 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c3_i32_884 : BitVec 32 := 3#32
  let v2399 : BitVec 32 := Scalar.addi v2287 c3_i32_884
  let c256_i32_885 : BitVec 32 := 256#32
  let v2400 : BitVec 32 := Scalar.muli v2399 c256_i32_885
  v2400
def k0_mult63 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c4_i32_900 : BitVec 32 := 4#32
  let v2436 : BitVec 32 := Scalar.addi v2287 c4_i32_900
  let c256_i32_901 : BitVec 32 := 256#32
  let v2437 : BitVec 32 := Scalar.muli v2436 c256_i32_901
  v2437
def k0_mult64 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c5_i32_916 : BitVec 32 := 5#32
  let v2473 : BitVec 32 := Scalar.addi v2287 c5_i32_916
  let c256_i32_917 : BitVec 32 := 256#32
  let v2474 : BitVec 32 := Scalar.muli v2473 c256_i32_917
  v2474
def k0_mult65 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c6_i32_932 : BitVec 32 := 6#32
  let v2510 : BitVec 32 := Scalar.addi v2287 c6_i32_932
  let c256_i32_933 : BitVec 32 := 256#32
  let v2511 : BitVec 32 := Scalar.muli v2510 c256_i32_933
  v2511
def k0_mult66 (k0_t4 : Fin k0_t4_loop.trips) : BitVec 32 :=
  let c0_i32_224 : BitVec 32 := 0#32
  let c0_i32_12 : BitVec 32 := 0#32
  let v703 : BitVec 32 := Scalar.subi c0_i32_12 c0_i32_224
  let c1_i32_225 : BitVec 32 := 1#32
  let v705 : BitVec 32 := Scalar.divsi v703 c1_i32_225
  let v706 : BitVec 32 := Scalar.muli v705 c1_i32_225
  let v707 : BitVec 32 := Scalar.addi c0_i32_224 v706
  let c1_i32_227 : BitVec 32 := 1#32
  let arg13 : BitVec 32 := Scf.iv v707 c1_i32_227 k0_t4
  let c8_i32_835 : BitVec 32 := 8#32
  let v2287 : BitVec 32 := Scalar.muli arg13 c8_i32_835
  let c7_i32_948 : BitVec 32 := 7#32
  let v2547 : BitVec 32 := Scalar.addi v2287 c7_i32_948
  let c256_i32_949 : BitVec 32 := 256#32
  let v2548 : BitVec 32 := Scalar.muli v2547 c256_i32_949
  v2548
def k0_mult67 : BitVec 32 :=
  let c0_i32_12 : BitVec 32 := 0#32
  let c8_i32_228 : BitVec 32 := 8#32
  let v710 : BitVec 32 := Scalar.muli c0_i32_12 c8_i32_228
  let c0_i32_229 : BitVec 32 := 0#32
  let v711 : BitVec 32 := Scalar.addi v710 c0_i32_229
  let c256_i32_230 : BitVec 32 := 256#32
  let v712 : BitVec 32 := Scalar.muli v711 c256_i32_230
  v712
def k0_mult68 : BitVec 32 :=
  let c0_i32_12 : BitVec 32 := 0#32
  let c8_i32_246 : BitVec 32 := 8#32
  let v753 : BitVec 32 := Scalar.muli c0_i32_12 c8_i32_246
  let c1_i32_247 : BitVec 32 := 1#32
  let v754 : BitVec 32 := Scalar.addi v753 c1_i32_247
  let c256_i32_248 : BitVec 32 := 256#32
  let v755 : BitVec 32 := Scalar.muli v754 c256_i32_248
  v755
def k0_mult69 : BitVec 32 :=
  let c0_i32_12 : BitVec 32 := 0#32
  let c8_i32_264 : BitVec 32 := 8#32
  let v804 : BitVec 32 := Scalar.muli c0_i32_12 c8_i32_264
  let c2_i32_265 : BitVec 32 := 2#32
  let v805 : BitVec 32 := Scalar.addi v804 c2_i32_265
  let c256_i32_266 : BitVec 32 := 256#32
  let v806 : BitVec 32 := Scalar.muli v805 c256_i32_266
  v806
def k0_mult70 : BitVec 32 :=
  let c0_i32_12 : BitVec 32 := 0#32
  let c8_i32_282 : BitVec 32 := 8#32
  let v855 : BitVec 32 := Scalar.muli c0_i32_12 c8_i32_282
  let c3_i32_283 : BitVec 32 := 3#32
  let v856 : BitVec 32 := Scalar.addi v855 c3_i32_283
  let c256_i32_284 : BitVec 32 := 256#32
  let v857 : BitVec 32 := Scalar.muli v856 c256_i32_284
  v857
def k0_mult71 : BitVec 32 :=
  let c0_i32_12 : BitVec 32 := 0#32
  let c8_i32_300 : BitVec 32 := 8#32
  let v906 : BitVec 32 := Scalar.muli c0_i32_12 c8_i32_300
  let c4_i32_301 : BitVec 32 := 4#32
  let v907 : BitVec 32 := Scalar.addi v906 c4_i32_301
  let c256_i32_302 : BitVec 32 := 256#32
  let v908 : BitVec 32 := Scalar.muli v907 c256_i32_302
  v908
def k0_mult72 : BitVec 32 :=
  let c0_i32_12 : BitVec 32 := 0#32
  let c8_i32_318 : BitVec 32 := 8#32
  let v957 : BitVec 32 := Scalar.muli c0_i32_12 c8_i32_318
  let c5_i32_319 : BitVec 32 := 5#32
  let v958 : BitVec 32 := Scalar.addi v957 c5_i32_319
  let c256_i32_320 : BitVec 32 := 256#32
  let v959 : BitVec 32 := Scalar.muli v958 c256_i32_320
  v959
def k0_mult73 : BitVec 32 :=
  let c0_i32_12 : BitVec 32 := 0#32
  let c8_i32_336 : BitVec 32 := 8#32
  let v1008 : BitVec 32 := Scalar.muli c0_i32_12 c8_i32_336
  let c6_i32_337 : BitVec 32 := 6#32
  let v1009 : BitVec 32 := Scalar.addi v1008 c6_i32_337
  let c256_i32_338 : BitVec 32 := 256#32
  let v1010 : BitVec 32 := Scalar.muli v1009 c256_i32_338
  v1010
def k0_mult74 : BitVec 32 :=
  let c0_i32_12 : BitVec 32 := 0#32
  let c8_i32_354 : BitVec 32 := 8#32
  let v1059 : BitVec 32 := Scalar.muli c0_i32_12 c8_i32_354
  let c7_i32_355 : BitVec 32 := 7#32
  let v1060 : BitVec 32 := Scalar.addi v1059 c7_i32_355
  let c256_i32_356 : BitVec 32 := 256#32
  let v1061 : BitVec 32 := Scalar.muli v1060 c256_i32_356
  v1061
def k0_mult75 : BitVec 32 :=
  let c0_i32_12 : BitVec 32 := 0#32
  let c8_i32_373 : BitVec 32 := 8#32
  let v1114 : BitVec 32 := Scalar.muli c0_i32_12 c8_i32_373
  let c7_i32_374 : BitVec 32 := 7#32
  let v1115 : BitVec 32 := Scalar.addi v1114 c7_i32_374
  let c256_i32_375 : BitVec 32 := 256#32
  let v1116 : BitVec 32 := Scalar.muli v1115 c256_i32_375
  v1116
def k0_mult76 : BitVec 32 :=
  let c0_i32_12 : BitVec 32 := 0#32
  let c8_i32_373 : BitVec 32 := 8#32
  let v1114 : BitVec 32 := Scalar.muli c0_i32_12 c8_i32_373
  let c7_i32_374 : BitVec 32 := 7#32
  let v1115 : BitVec 32 := Scalar.addi v1114 c7_i32_374
  let c256_i32_377 : BitVec 32 := 256#32
  let v1121 : BitVec 32 := Scalar.muli v1115 c256_i32_377
  v1121
def k0_mult77 : BitVec 32 :=
  let c0_i32_12 : BitVec 32 := 0#32
  let c8_i32_400 : BitVec 32 := 8#32
  let v1195 : BitVec 32 := Scalar.muli c0_i32_12 c8_i32_400
  let c6_i32_401 : BitVec 32 := 6#32
  let v1196 : BitVec 32 := Scalar.addi v1195 c6_i32_401
  let c256_i32_402 : BitVec 32 := 256#32
  let v1197 : BitVec 32 := Scalar.muli v1196 c256_i32_402
  v1197
def k0_mult78 : BitVec 32 :=
  let c0_i32_12 : BitVec 32 := 0#32
  let c8_i32_400 : BitVec 32 := 8#32
  let v1195 : BitVec 32 := Scalar.muli c0_i32_12 c8_i32_400
  let c6_i32_401 : BitVec 32 := 6#32
  let v1196 : BitVec 32 := Scalar.addi v1195 c6_i32_401
  let c256_i32_404 : BitVec 32 := 256#32
  let v1202 : BitVec 32 := Scalar.muli v1196 c256_i32_404
  v1202
def k0_mult79 : BitVec 32 :=
  let c0_i32_12 : BitVec 32 := 0#32
  let c8_i32_427 : BitVec 32 := 8#32
  let v1276 : BitVec 32 := Scalar.muli c0_i32_12 c8_i32_427
  let c5_i32_428 : BitVec 32 := 5#32
  let v1277 : BitVec 32 := Scalar.addi v1276 c5_i32_428
  let c256_i32_429 : BitVec 32 := 256#32
  let v1278 : BitVec 32 := Scalar.muli v1277 c256_i32_429
  v1278
def k0_mult80 : BitVec 32 :=
  let c0_i32_12 : BitVec 32 := 0#32
  let c8_i32_427 : BitVec 32 := 8#32
  let v1276 : BitVec 32 := Scalar.muli c0_i32_12 c8_i32_427
  let c5_i32_428 : BitVec 32 := 5#32
  let v1277 : BitVec 32 := Scalar.addi v1276 c5_i32_428
  let c256_i32_431 : BitVec 32 := 256#32
  let v1283 : BitVec 32 := Scalar.muli v1277 c256_i32_431
  v1283
def k0_mult81 : BitVec 32 :=
  let c0_i32_12 : BitVec 32 := 0#32
  let c8_i32_454 : BitVec 32 := 8#32
  let v1357 : BitVec 32 := Scalar.muli c0_i32_12 c8_i32_454
  let c4_i32_455 : BitVec 32 := 4#32
  let v1358 : BitVec 32 := Scalar.addi v1357 c4_i32_455
  let c256_i32_456 : BitVec 32 := 256#32
  let v1359 : BitVec 32 := Scalar.muli v1358 c256_i32_456
  v1359
def k0_mult82 : BitVec 32 :=
  let c0_i32_12 : BitVec 32 := 0#32
  let c8_i32_454 : BitVec 32 := 8#32
  let v1357 : BitVec 32 := Scalar.muli c0_i32_12 c8_i32_454
  let c4_i32_455 : BitVec 32 := 4#32
  let v1358 : BitVec 32 := Scalar.addi v1357 c4_i32_455
  let c256_i32_458 : BitVec 32 := 256#32
  let v1364 : BitVec 32 := Scalar.muli v1358 c256_i32_458
  v1364
def k0_mult83 : BitVec 32 :=
  let c0_i32_12 : BitVec 32 := 0#32
  let c8_i32_481 : BitVec 32 := 8#32
  let v1438 : BitVec 32 := Scalar.muli c0_i32_12 c8_i32_481
  let c3_i32_482 : BitVec 32 := 3#32
  let v1439 : BitVec 32 := Scalar.addi v1438 c3_i32_482
  let c256_i32_483 : BitVec 32 := 256#32
  let v1440 : BitVec 32 := Scalar.muli v1439 c256_i32_483
  v1440
def k0_mult84 : BitVec 32 :=
  let c0_i32_12 : BitVec 32 := 0#32
  let c8_i32_481 : BitVec 32 := 8#32
  let v1438 : BitVec 32 := Scalar.muli c0_i32_12 c8_i32_481
  let c3_i32_482 : BitVec 32 := 3#32
  let v1439 : BitVec 32 := Scalar.addi v1438 c3_i32_482
  let c256_i32_485 : BitVec 32 := 256#32
  let v1445 : BitVec 32 := Scalar.muli v1439 c256_i32_485
  v1445
def k0_mult85 : BitVec 32 :=
  let c0_i32_12 : BitVec 32 := 0#32
  let c8_i32_508 : BitVec 32 := 8#32
  let v1519 : BitVec 32 := Scalar.muli c0_i32_12 c8_i32_508
  let c2_i32_509 : BitVec 32 := 2#32
  let v1520 : BitVec 32 := Scalar.addi v1519 c2_i32_509
  let c256_i32_510 : BitVec 32 := 256#32
  let v1521 : BitVec 32 := Scalar.muli v1520 c256_i32_510
  v1521
def k0_mult86 : BitVec 32 :=
  let c0_i32_12 : BitVec 32 := 0#32
  let c8_i32_508 : BitVec 32 := 8#32
  let v1519 : BitVec 32 := Scalar.muli c0_i32_12 c8_i32_508
  let c2_i32_509 : BitVec 32 := 2#32
  let v1520 : BitVec 32 := Scalar.addi v1519 c2_i32_509
  let c256_i32_512 : BitVec 32 := 256#32
  let v1526 : BitVec 32 := Scalar.muli v1520 c256_i32_512
  v1526
def k0_mult87 : BitVec 32 :=
  let c0_i32_12 : BitVec 32 := 0#32
  let c8_i32_535 : BitVec 32 := 8#32
  let v1600 : BitVec 32 := Scalar.muli c0_i32_12 c8_i32_535
  let c1_i32_536 : BitVec 32 := 1#32
  let v1601 : BitVec 32 := Scalar.addi v1600 c1_i32_536
  let c256_i32_537 : BitVec 32 := 256#32
  let v1602 : BitVec 32 := Scalar.muli v1601 c256_i32_537
  v1602
def k0_mult88 : BitVec 32 :=
  let c0_i32_12 : BitVec 32 := 0#32
  let c8_i32_535 : BitVec 32 := 8#32
  let v1600 : BitVec 32 := Scalar.muli c0_i32_12 c8_i32_535
  let c1_i32_536 : BitVec 32 := 1#32
  let v1601 : BitVec 32 := Scalar.addi v1600 c1_i32_536
  let c256_i32_539 : BitVec 32 := 256#32
  let v1607 : BitVec 32 := Scalar.muli v1601 c256_i32_539
  v1607
def k0_mult89 : BitVec 32 :=
  let c0_i32_12 : BitVec 32 := 0#32
  let c8_i32_562 : BitVec 32 := 8#32
  let v1681 : BitVec 32 := Scalar.muli c0_i32_12 c8_i32_562
  let c0_i32_563 : BitVec 32 := 0#32
  let v1682 : BitVec 32 := Scalar.addi v1681 c0_i32_563
  let c256_i32_564 : BitVec 32 := 256#32
  let v1683 : BitVec 32 := Scalar.muli v1682 c256_i32_564
  v1683
def k0_mult90 : BitVec 32 :=
  let c0_i32_12 : BitVec 32 := 0#32
  let c8_i32_562 : BitVec 32 := 8#32
  let v1681 : BitVec 32 := Scalar.muli c0_i32_12 c8_i32_562
  let c0_i32_563 : BitVec 32 := 0#32
  let v1682 : BitVec 32 := Scalar.addi v1681 c0_i32_563
  let c256_i32_566 : BitVec 32 := 256#32
  let v1688 : BitVec 32 := Scalar.muli v1682 c256_i32_566
  v1688
@[reducible] def k0_t5_loop : Scf.Loop 32 :=
  let c0_i32_589 : BitVec 32 := 0#32
  let c0_i32_12 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_591 : BitVec 32 := 1#32
  ⟨c0_i32_589, v1760, c1_i32_591⟩
def k0_mult91 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_838 : BitVec 32 := 256#32
  let v2291 : BitVec 32 := Scalar.muli v2290 c256_i32_838
  v2291
def k0_off24 (k0_t5 : Fin k0_t5_loop.trips) (c7_i32_837 : BitVec 32) : Fin 2 → Nat :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let c256_i32_838 : BitVec 32 := 256#32
  let v2291 : BitVec 32 := Scalar.muli v2290 c256_i32_838
  let v2292 : BitVec 32 := v2291
  let v2293 : Index := Scalar.indexCast v2292
  let c0_839 : Index := 0#32
  ![v2293.toNat, 0]
def k0_mult92 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_840 : BitVec 32 := 256#32
  let v2296 : BitVec 32 := Scalar.muli v2290 c256_i32_840
  v2296
def k0_off25 (k0_t5 : Fin k0_t5_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2331 : Index := Scalar.indexCast v2290
  let c0_851 : Index := 0#32
  let c0_852 : Index := 0#32
  ![v2331.toNat, 0, 0]
def k0_off26 (k0_t5 : Fin k0_t5_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2341 : Index := Scalar.indexCast v2290
  let c0_855 : Index := 0#32
  let c0_856 : Index := 0#32
  ![v2341.toNat, 0, 0]
def k0_mult93 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_862 : BitVec 32 := 256#32
  let v2355 : BitVec 32 := Scalar.muli v2354 c256_i32_862
  v2355
def k0_mult94 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_864 : BitVec 32 := 256#32
  let v2360 : BitVec 32 := Scalar.muli v2354 c256_i32_864
  v2360
def k0_mult95 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_886 : BitVec 32 := 256#32
  let v2419 : BitVec 32 := Scalar.muli v2418 c256_i32_886
  v2419
def k0_mult96 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_888 : BitVec 32 := 256#32
  let v2424 : BitVec 32 := Scalar.muli v2418 c256_i32_888
  v2424
def k0_mult97 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_910 : BitVec 32 := 256#32
  let v2483 : BitVec 32 := Scalar.muli v2482 c256_i32_910
  v2483
def k0_mult98 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_912 : BitVec 32 := 256#32
  let v2488 : BitVec 32 := Scalar.muli v2482 c256_i32_912
  v2488
def k0_mult99 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_934 : BitVec 32 := 256#32
  let v2547 : BitVec 32 := Scalar.muli v2546 c256_i32_934
  v2547
def k0_mult100 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_936 : BitVec 32 := 256#32
  let v2552 : BitVec 32 := Scalar.muli v2546 c256_i32_936
  v2552
def k0_mult101 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_958 : BitVec 32 := 256#32
  let v2611 : BitVec 32 := Scalar.muli v2610 c256_i32_958
  v2611
def k0_mult102 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_960 : BitVec 32 := 256#32
  let v2616 : BitVec 32 := Scalar.muli v2610 c256_i32_960
  v2616
def k0_mult103 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_982 : BitVec 32 := 256#32
  let v2675 : BitVec 32 := Scalar.muli v2674 c256_i32_982
  v2675
def k0_mult104 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_984 : BitVec 32 := 256#32
  let v2680 : BitVec 32 := Scalar.muli v2674 c256_i32_984
  v2680
def k0_mult105 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1006 : BitVec 32 := 256#32
  let v2739 : BitVec 32 := Scalar.muli v2738 c256_i32_1006
  v2739
def k0_mult106 (k0_t5 : Fin k0_t5_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let c1_i32_591 : BitVec 32 := 1#32
  let arg13 : BitVec 32 := Scf.iv c0_i32_589 c1_i32_591 k0_t5
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1008 : BitVec 32 := 256#32
  let v2744 : BitVec 32 := Scalar.muli v2738 c256_i32_1008
  v2744
@[reducible] def k0_t6_loop : Scf.Loop 32 :=
  let c0_i32_589 : BitVec 32 := 0#32
  let c0_i32_12 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let v1757 : BitVec 32 := Scalar.addi c0_i32_589 v1756
  let c1_i32_592 : BitVec 32 := 1#32
  ⟨v1760, v1757, c1_i32_592⟩
def k0_mult107 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_838 : BitVec 32 := 256#32
  let v2291 : BitVec 32 := Scalar.muli v2290 c256_i32_838
  v2291
def k0_off27 (k0_t6 : Fin k0_t6_loop.trips) (c7_i32_837 : BitVec 32) : Fin 2 → Nat :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let c256_i32_838 : BitVec 32 := 256#32
  let v2291 : BitVec 32 := Scalar.muli v2290 c256_i32_838
  let v2292 : BitVec 32 := v2291
  let v2293 : Index := Scalar.indexCast v2292
  let c0_839 : Index := 0#32
  ![v2293.toNat, 0]
def k0_mult108 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c7_i32_837 : BitVec 32 := 7#32
  let v2290 : BitVec 32 := Scalar.addi v2289 c7_i32_837
  let c256_i32_840 : BitVec 32 := 256#32
  let v2296 : BitVec 32 := Scalar.muli v2290 c256_i32_840
  v2296
def k0_off28 (k0_t6 : Fin k0_t6_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2331 : Index := Scalar.indexCast v2290
  let c0_851 : Index := 0#32
  let c0_852 : Index := 0#32
  ![v2331.toNat, 0, 0]
def k0_off29 (k0_t6 : Fin k0_t6_loop.trips) (c7_i32_837 : BitVec 32) : Fin 3 → Nat :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let v2290 : BitVec 32 := Scalar.addi v2289 c7_i32_837
  let v2341 : Index := Scalar.indexCast v2290
  let c0_855 : Index := 0#32
  let c0_856 : Index := 0#32
  ![v2341.toNat, 0, 0]
def k0_mult109 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_862 : BitVec 32 := 256#32
  let v2355 : BitVec 32 := Scalar.muli v2354 c256_i32_862
  v2355
def k0_mult110 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c6_i32_861 : BitVec 32 := 6#32
  let v2354 : BitVec 32 := Scalar.addi v2289 c6_i32_861
  let c256_i32_864 : BitVec 32 := 256#32
  let v2360 : BitVec 32 := Scalar.muli v2354 c256_i32_864
  v2360
def k0_mult111 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_886 : BitVec 32 := 256#32
  let v2419 : BitVec 32 := Scalar.muli v2418 c256_i32_886
  v2419
def k0_mult112 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c5_i32_885 : BitVec 32 := 5#32
  let v2418 : BitVec 32 := Scalar.addi v2289 c5_i32_885
  let c256_i32_888 : BitVec 32 := 256#32
  let v2424 : BitVec 32 := Scalar.muli v2418 c256_i32_888
  v2424
def k0_mult113 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_910 : BitVec 32 := 256#32
  let v2483 : BitVec 32 := Scalar.muli v2482 c256_i32_910
  v2483
def k0_mult114 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c4_i32_909 : BitVec 32 := 4#32
  let v2482 : BitVec 32 := Scalar.addi v2289 c4_i32_909
  let c256_i32_912 : BitVec 32 := 256#32
  let v2488 : BitVec 32 := Scalar.muli v2482 c256_i32_912
  v2488
def k0_mult115 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_934 : BitVec 32 := 256#32
  let v2547 : BitVec 32 := Scalar.muli v2546 c256_i32_934
  v2547
def k0_mult116 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c3_i32_933 : BitVec 32 := 3#32
  let v2546 : BitVec 32 := Scalar.addi v2289 c3_i32_933
  let c256_i32_936 : BitVec 32 := 256#32
  let v2552 : BitVec 32 := Scalar.muli v2546 c256_i32_936
  v2552
def k0_mult117 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_958 : BitVec 32 := 256#32
  let v2611 : BitVec 32 := Scalar.muli v2610 c256_i32_958
  v2611
def k0_mult118 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c2_i32_957 : BitVec 32 := 2#32
  let v2610 : BitVec 32 := Scalar.addi v2289 c2_i32_957
  let c256_i32_960 : BitVec 32 := 256#32
  let v2616 : BitVec 32 := Scalar.muli v2610 c256_i32_960
  v2616
def k0_mult119 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_982 : BitVec 32 := 256#32
  let v2675 : BitVec 32 := Scalar.muli v2674 c256_i32_982
  v2675
def k0_mult120 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c1_i32_981 : BitVec 32 := 1#32
  let v2674 : BitVec 32 := Scalar.addi v2289 c1_i32_981
  let c256_i32_984 : BitVec 32 := 256#32
  let v2680 : BitVec 32 := Scalar.muli v2674 c256_i32_984
  v2680
def k0_mult121 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1006 : BitVec 32 := 256#32
  let v2739 : BitVec 32 := Scalar.muli v2738 c256_i32_1006
  v2739
def k0_mult122 (k0_t6 : Fin k0_t6_loop.trips) : BitVec 32 :=
  let c0_i32_12 : BitVec 32 := 0#32
  let c1_i32_835 : BitVec 32 := 1#32
  let v2287 : BitVec 32 := Scalar.subi c0_i32_12 c1_i32_835
  let c0_i32_589 : BitVec 32 := 0#32
  let v1756 : BitVec 32 := Scalar.subi c0_i32_12 c0_i32_589
  let c1_i32_590 : BitVec 32 := 1#32
  let v1758 : BitVec 32 := Scalar.divsi v1756 c1_i32_590
  let v1759 : BitVec 32 := Scalar.muli v1758 c1_i32_590
  let v1760 : BitVec 32 := Scalar.addi c0_i32_589 v1759
  let c1_i32_592 : BitVec 32 := 1#32
  let arg13 : BitVec 32 := Scf.iv v1760 c1_i32_592 k0_t6
  let v2288 : BitVec 32 := Scalar.subi v2287 arg13
  let c8_i32_836 : BitVec 32 := 8#32
  let v2289 : BitVec 32 := Scalar.muli v2288 c8_i32_836
  let c0_i32_1005 : BitVec 32 := 0#32
  let v2738 : BitVec 32 := Scalar.addi v2289 c0_i32_1005
  let c256_i32_1008 : BitVec 32 := 256#32
  let v2744 : BitVec 32 := Scalar.muli v2738 c256_i32_1008
  v2744
@[reducible] def k0_t7_loop : Scf.Loop 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_596 : BitVec 32 := 1#32
  ⟨c0_i32_594, v1768, c1_i32_596⟩
def k0_mult123 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c0_i32_836 : BitVec 32 := 0#32
  let v2288 : BitVec 32 := Scalar.addi v2287 c0_i32_836
  let c256_i32_837 : BitVec 32 := 256#32
  let v2289 : BitVec 32 := Scalar.muli v2288 c256_i32_837
  v2289
def k0_off30 (k0_t7 : Fin k0_t7_loop.trips) (c0_i32_836 : BitVec 32) : Fin 2 → Nat :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let v2288 : BitVec 32 := Scalar.addi v2287 c0_i32_836
  let c256_i32_837 : BitVec 32 := 256#32
  let v2289 : BitVec 32 := Scalar.muli v2288 c256_i32_837
  let v2290 : BitVec 32 := v2289
  let v2291 : Index := Scalar.indexCast v2290
  let c0_838 : Index := 0#32
  ![v2291.toNat, 0]
def k0_off31 (k0_t7 : Fin k0_t7_loop.trips) (c0_i32_836 : BitVec 32) : Fin 3 → Nat :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let v2288 : BitVec 32 := Scalar.addi v2287 c0_i32_836
  let v2294 : Index := Scalar.indexCast v2288
  let c0_839 : Index := 0#32
  let c0_840 : Index := 0#32
  ![v2294.toNat, 0, 0]
def k0_off32 (k0_t7 : Fin k0_t7_loop.trips) (c0_i32_836 : BitVec 32) : Fin 3 → Nat :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let v2288 : BitVec 32 := Scalar.addi v2287 c0_i32_836
  let v2311 : Index := Scalar.indexCast v2288
  let c0_845 : Index := 0#32
  let c0_846 : Index := 0#32
  ![v2311.toNat, 0, 0]
def k0_mult124 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c1_i32_852 : BitVec 32 := 1#32
  let v2325 : BitVec 32 := Scalar.addi v2287 c1_i32_852
  let c256_i32_853 : BitVec 32 := 256#32
  let v2326 : BitVec 32 := Scalar.muli v2325 c256_i32_853
  v2326
def k0_mult125 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c2_i32_868 : BitVec 32 := 2#32
  let v2362 : BitVec 32 := Scalar.addi v2287 c2_i32_868
  let c256_i32_869 : BitVec 32 := 256#32
  let v2363 : BitVec 32 := Scalar.muli v2362 c256_i32_869
  v2363
def k0_mult126 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c3_i32_884 : BitVec 32 := 3#32
  let v2399 : BitVec 32 := Scalar.addi v2287 c3_i32_884
  let c256_i32_885 : BitVec 32 := 256#32
  let v2400 : BitVec 32 := Scalar.muli v2399 c256_i32_885
  v2400
def k0_mult127 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c4_i32_900 : BitVec 32 := 4#32
  let v2436 : BitVec 32 := Scalar.addi v2287 c4_i32_900
  let c256_i32_901 : BitVec 32 := 256#32
  let v2437 : BitVec 32 := Scalar.muli v2436 c256_i32_901
  v2437
def k0_mult128 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c5_i32_916 : BitVec 32 := 5#32
  let v2473 : BitVec 32 := Scalar.addi v2287 c5_i32_916
  let c256_i32_917 : BitVec 32 := 256#32
  let v2474 : BitVec 32 := Scalar.muli v2473 c256_i32_917
  v2474
def k0_mult129 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c6_i32_932 : BitVec 32 := 6#32
  let v2510 : BitVec 32 := Scalar.addi v2287 c6_i32_932
  let c256_i32_933 : BitVec 32 := 256#32
  let v2511 : BitVec 32 := Scalar.muli v2510 c256_i32_933
  v2511
def k0_mult130 (k0_t7 : Fin k0_t7_loop.trips) : BitVec 32 :=
  let c0_i32_594 : BitVec 32 := 0#32
  let c1_i32_596 : BitVec 32 := 1#32
  let arg13 : BitVec 32 := Scf.iv c0_i32_594 c1_i32_596 k0_t7
  let c8_i32_835 : BitVec 32 := 8#32
  let v2287 : BitVec 32 := Scalar.muli arg13 c8_i32_835
  let c7_i32_948 : BitVec 32 := 7#32
  let v2547 : BitVec 32 := Scalar.addi v2287 c7_i32_948
  let c256_i32_949 : BitVec 32 := 256#32
  let v2548 : BitVec 32 := Scalar.muli v2547 c256_i32_949
  v2548
@[reducible] def k0_t8_loop : Scf.Loop 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let v1765 : BitVec 32 := Scalar.addi c0_i32_594 v1764
  let c1_i32_597 : BitVec 32 := 1#32
  ⟨v1768, v1765, c1_i32_597⟩
def k0_mult131 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c0_i32_836 : BitVec 32 := 0#32
  let v2288 : BitVec 32 := Scalar.addi v2287 c0_i32_836
  let c256_i32_837 : BitVec 32 := 256#32
  let v2289 : BitVec 32 := Scalar.muli v2288 c256_i32_837
  v2289
def k0_off33 (k0_t8 : Fin k0_t8_loop.trips) (c0_i32_836 : BitVec 32) : Fin 2 → Nat :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let v2288 : BitVec 32 := Scalar.addi v2287 c0_i32_836
  let c256_i32_837 : BitVec 32 := 256#32
  let v2289 : BitVec 32 := Scalar.muli v2288 c256_i32_837
  let v2290 : BitVec 32 := v2289
  let v2291 : Index := Scalar.indexCast v2290
  let c0_838 : Index := 0#32
  ![v2291.toNat, 0]
def k0_off34 (k0_t8 : Fin k0_t8_loop.trips) (c0_i32_836 : BitVec 32) : Fin 3 → Nat :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let v2288 : BitVec 32 := Scalar.addi v2287 c0_i32_836
  let v2294 : Index := Scalar.indexCast v2288
  let c0_839 : Index := 0#32
  let c0_840 : Index := 0#32
  ![v2294.toNat, 0, 0]
def k0_off35 (k0_t8 : Fin k0_t8_loop.trips) (c0_i32_836 : BitVec 32) : Fin 3 → Nat :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let v2288 : BitVec 32 := Scalar.addi v2287 c0_i32_836
  let v2311 : Index := Scalar.indexCast v2288
  let c0_845 : Index := 0#32
  let c0_846 : Index := 0#32
  ![v2311.toNat, 0, 0]
def k0_mult132 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c1_i32_852 : BitVec 32 := 1#32
  let v2325 : BitVec 32 := Scalar.addi v2287 c1_i32_852
  let c256_i32_853 : BitVec 32 := 256#32
  let v2326 : BitVec 32 := Scalar.muli v2325 c256_i32_853
  v2326
def k0_mult133 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c2_i32_868 : BitVec 32 := 2#32
  let v2362 : BitVec 32 := Scalar.addi v2287 c2_i32_868
  let c256_i32_869 : BitVec 32 := 256#32
  let v2363 : BitVec 32 := Scalar.muli v2362 c256_i32_869
  v2363
def k0_mult134 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c3_i32_884 : BitVec 32 := 3#32
  let v2399 : BitVec 32 := Scalar.addi v2287 c3_i32_884
  let c256_i32_885 : BitVec 32 := 256#32
  let v2400 : BitVec 32 := Scalar.muli v2399 c256_i32_885
  v2400
def k0_mult135 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c4_i32_900 : BitVec 32 := 4#32
  let v2436 : BitVec 32 := Scalar.addi v2287 c4_i32_900
  let c256_i32_901 : BitVec 32 := 256#32
  let v2437 : BitVec 32 := Scalar.muli v2436 c256_i32_901
  v2437
def k0_mult136 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c5_i32_916 : BitVec 32 := 5#32
  let v2473 : BitVec 32 := Scalar.addi v2287 c5_i32_916
  let c256_i32_917 : BitVec 32 := 256#32
  let v2474 : BitVec 32 := Scalar.muli v2473 c256_i32_917
  v2474
def k0_mult137 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c6_i32_932 : BitVec 32 := 6#32
  let v2510 : BitVec 32 := Scalar.addi v2287 c6_i32_932
  let c256_i32_933 : BitVec 32 := 256#32
  let v2511 : BitVec 32 := Scalar.muli v2510 c256_i32_933
  v2511
def k0_mult138 (k0_t8 : Fin k0_t8_loop.trips) : BitVec 32 :=
  let c0_i32_594 : BitVec 32 := 0#32
  let c0_i32_12 : BitVec 32 := 0#32
  let v1764 : BitVec 32 := Scalar.subi c0_i32_12 c0_i32_594
  let c1_i32_595 : BitVec 32 := 1#32
  let v1766 : BitVec 32 := Scalar.divsi v1764 c1_i32_595
  let v1767 : BitVec 32 := Scalar.muli v1766 c1_i32_595
  let v1768 : BitVec 32 := Scalar.addi c0_i32_594 v1767
  let c1_i32_597 : BitVec 32 := 1#32
  let arg13 : BitVec 32 := Scf.iv v1768 c1_i32_597 k0_t8
  let c8_i32_835 : BitVec 32 := 8#32
  let v2287 : BitVec 32 := Scalar.muli arg13 c8_i32_835
  let c7_i32_948 : BitVec 32 := 7#32
  let v2547 : BitVec 32 := Scalar.addi v2287 c7_i32_948
  let c256_i32_949 : BitVec 32 := 256#32
  let v2548 : BitVec 32 := Scalar.muli v2547 c256_i32_949
  v2548
def k0_mult139 : BitVec 32 :=
  let c0_i32_12 : BitVec 32 := 0#32
  let c8_i32_598 : BitVec 32 := 8#32
  let v1771 : BitVec 32 := Scalar.muli c0_i32_12 c8_i32_598
  let c0_i32_599 : BitVec 32 := 0#32
  let v1772 : BitVec 32 := Scalar.addi v1771 c0_i32_599
  let c256_i32_600 : BitVec 32 := 256#32
  let v1773 : BitVec 32 := Scalar.muli v1772 c256_i32_600
  v1773
def k0_mult140 : BitVec 32 :=
  let c0_i32_12 : BitVec 32 := 0#32
  let c8_i32_616 : BitVec 32 := 8#32
  let v1814 : BitVec 32 := Scalar.muli c0_i32_12 c8_i32_616
  let c1_i32_617 : BitVec 32 := 1#32
  let v1815 : BitVec 32 := Scalar.addi v1814 c1_i32_617
  let c256_i32_618 : BitVec 32 := 256#32
  let v1816 : BitVec 32 := Scalar.muli v1815 c256_i32_618
  v1816
def k0_mult141 : BitVec 32 :=
  let c0_i32_12 : BitVec 32 := 0#32
  let c8_i32_634 : BitVec 32 := 8#32
  let v1865 : BitVec 32 := Scalar.muli c0_i32_12 c8_i32_634
  let c2_i32_635 : BitVec 32 := 2#32
  let v1866 : BitVec 32 := Scalar.addi v1865 c2_i32_635
  let c256_i32_636 : BitVec 32 := 256#32
  let v1867 : BitVec 32 := Scalar.muli v1866 c256_i32_636
  v1867
def k0_mult142 : BitVec 32 :=
  let c0_i32_12 : BitVec 32 := 0#32
  let c8_i32_652 : BitVec 32 := 8#32
  let v1916 : BitVec 32 := Scalar.muli c0_i32_12 c8_i32_652
  let c3_i32_653 : BitVec 32 := 3#32
  let v1917 : BitVec 32 := Scalar.addi v1916 c3_i32_653
  let c256_i32_654 : BitVec 32 := 256#32
  let v1918 : BitVec 32 := Scalar.muli v1917 c256_i32_654
  v1918
def k0_mult143 : BitVec 32 :=
  let c0_i32_12 : BitVec 32 := 0#32
  let c8_i32_670 : BitVec 32 := 8#32
  let v1967 : BitVec 32 := Scalar.muli c0_i32_12 c8_i32_670
  let c4_i32_671 : BitVec 32 := 4#32
  let v1968 : BitVec 32 := Scalar.addi v1967 c4_i32_671
  let c256_i32_672 : BitVec 32 := 256#32
  let v1969 : BitVec 32 := Scalar.muli v1968 c256_i32_672
  v1969
def k0_mult144 : BitVec 32 :=
  let c0_i32_12 : BitVec 32 := 0#32
  let c8_i32_688 : BitVec 32 := 8#32
  let v2018 : BitVec 32 := Scalar.muli c0_i32_12 c8_i32_688
  let c5_i32_689 : BitVec 32 := 5#32
  let v2019 : BitVec 32 := Scalar.addi v2018 c5_i32_689
  let c256_i32_690 : BitVec 32 := 256#32
  let v2020 : BitVec 32 := Scalar.muli v2019 c256_i32_690
  v2020
def k0_mult145 : BitVec 32 :=
  let c0_i32_12 : BitVec 32 := 0#32
  let c8_i32_706 : BitVec 32 := 8#32
  let v2069 : BitVec 32 := Scalar.muli c0_i32_12 c8_i32_706
  let c6_i32_707 : BitVec 32 := 6#32
  let v2070 : BitVec 32 := Scalar.addi v2069 c6_i32_707
  let c256_i32_708 : BitVec 32 := 256#32
  let v2071 : BitVec 32 := Scalar.muli v2070 c256_i32_708
  v2071
def k0_mult146 : BitVec 32 :=
  let c0_i32_12 : BitVec 32 := 0#32
  let c8_i32_724 : BitVec 32 := 8#32
  let v2120 : BitVec 32 := Scalar.muli c0_i32_12 c8_i32_724
  let c7_i32_725 : BitVec 32 := 7#32
  let v2121 : BitVec 32 := Scalar.addi v2120 c7_i32_725
  let c256_i32_726 : BitVec 32 := 256#32
  let v2122 : BitVec 32 := Scalar.muli v2121 c256_i32_726
  v2122
def k0_mult147 : BitVec 32 :=
  let c0_i32_12 : BitVec 32 := 0#32
  let c2048_i32_742 : BitVec 32 := 2048#32
  let v2169 : BitVec 32 := Scalar.muli c0_i32_12 c2048_i32_742
  v2169
def k0_off36 : Fin 3 → Nat :=
  let c0_743 : Index := 0#32
  let c0_i32_12 : BitVec 32 := 0#32
  let c2048_i32_742 : BitVec 32 := 2048#32
  let v2169 : BitVec 32 := Scalar.muli c0_i32_12 c2048_i32_742
  let v2170 : BitVec 32 := v2169
  let v2171 : Index := Scalar.indexCast v2170
  let c0_744 : Index := 0#32
  ![0, v2171.toNat, 0]
def k0_off37 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel8Ideal.lean ====
variable {F : FTy → Type} [FloatOps F] [Named F]
def κ : String → Option EReal := fun
  | "log2_e" => some (((Real.log 2)⁻¹ : ℝ) : EReal)
  | _ => none
-- ==== Reference8Ideal.lean ====
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩

abbrev nBuf : Space → Nat
  | .hbm => 177
  | .vmem => 0
  | .smem => 0
  | _ => 0

abbrev hbmTy0_0 (i : Nat) : BufTy := match i % 128 with
  | 0 => ⟨S1x2048x512, .f32⟩
  | 1 => ⟨S1x2048x512, .f32⟩
  | 2 => ⟨S1x2048x512, .f32⟩
  | 3 => ⟨S1x2048x512, .f32⟩
  | 4 => ⟨S1x2048x8x64, .f32⟩
  | 5 => ⟨S1x8x2048x64, .f32⟩
  | 6 => ⟨S1x2048x8x64, .f32⟩
  | 7 => ⟨S1x8x2048x64, .f32⟩
  | 8 => ⟨S1x8x2048x2048, .f32⟩
  | 9 => ⟨S_, .f32⟩
  | 10 => ⟨S1x8x2048x2048, .f32⟩
  | 11 => ⟨S1x8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S1x8x2048x2048, .f32⟩
  | 20 => ⟨S1x8x2048x2048, .f32⟩
  | 21 => ⟨S_, .f32⟩
  | 22 => ⟨S1x8x2048x2048, .f32⟩
  | 23 => ⟨S1x8x2048x2048, .f32⟩
  | 24 => ⟨S1x8x2048x2048, .f32⟩
  | 25 => ⟨S1x8x2048x2048, .f32⟩
  | 26 => ⟨S1x8x2048x2048, .i1⟩
  | 27 => ⟨S1x8x2048x2048, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S_, .f32⟩
  | 36 => ⟨S1x8x2048x2048, .f32⟩
  | 37 => ⟨S1x8x2048x2048, .i1⟩
  | 38 => ⟨S_, .f32⟩
  | 39 => ⟨S1x8x2048x2048, .f32⟩
  | 40 => ⟨S1x8x2048x2048, .f32⟩
  | 41 => ⟨S_, .f32⟩
  | 42 => ⟨S1x8x2048x2048, .f32⟩
  | 43 => ⟨S1x8x2048x2048, .i1⟩
  | 44 => ⟨S_, .f32⟩
  | 45 => ⟨S1x8x2048x2048, .f32⟩
  | 46 => ⟨S1x8x2048x2048, .f32⟩
  | 47 => ⟨S1x8x2048x2048, .f32⟩
  | 48 => ⟨S1x8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S1x8x2048x2048, .f32⟩
  | 57 => ⟨S1x8x2048x2048, .i1⟩
  | 58 => ⟨S_, .f32⟩
  | 59 => ⟨S1x8x2048x2048, .f32⟩
  | 60 => ⟨S1x8x2048x2048, .f32⟩
  | 61 => ⟨S1x8x2048x2048, .f32⟩
  | 62 => ⟨S1x8x2048x2048, .f32⟩
  | 63 => ⟨S1x8x2048x2048, .f32⟩
  | 64 => ⟨S_, .f32⟩
  | 65 => ⟨S1x8x2048x2048, .f32⟩
  | 66 => ⟨S1x8x2048x2048, .f32⟩
  | 67 => ⟨S1x8x2048x2048, .f32⟩
  | 68 => ⟨S_, .f32⟩
  | 69 => ⟨S_, .f32⟩
  | 70 => ⟨S1x8x2048x2048, .i1⟩
  | 71 => ⟨S1x8x2048x2048, .f32⟩
  | 72 => ⟨S1x8x2048x2048, .f32⟩
  | 73 => ⟨S_, .f32⟩
  | 74 => ⟨S1x8x2048x2048, .f32⟩
  | 75 => ⟨S_, .f32⟩
  | 76 => ⟨S_, .f32⟩
  | 77 => ⟨S1x8x2048x2048, .f32⟩
  | 78 => ⟨S1x8x2048x2048, .f32⟩
  | 79 => ⟨S1x8x2048x2048, .f32⟩
  | 80 => ⟨S_, .f32⟩
  | 81 => ⟨S1x8x2048x2048, .f32⟩
  | 82 => ⟨S1x8x2048x2048, .f32⟩
  | 83 => ⟨S1x8x2048x2048, .f32⟩
  | 84 => ⟨S1x8x2048x2048, .f32⟩
  | 85 => ⟨S1x8x2048x2048, .i1⟩
  | 86 => ⟨S1x8x2048x2048, .f32⟩
  | 87 => ⟨S1x8x2048x2048, .f32⟩
  | 88 => ⟨S1x8x2048x2048, .f32⟩
  | 89 => ⟨S1x8x2048x2048, .f32⟩
  | 90 => ⟨S1x8x2048x2048, .f32⟩
  | 91 => ⟨S1x8x2048x2048, .f32⟩
  | 92 => ⟨S1x8x2048x2048, .f32⟩
  | 93 => ⟨S1x8x2048x2048, .f32⟩
  | 94 => ⟨S_, .f32⟩
  | 95 => ⟨S1x8x2048x2048, .f32⟩
  | 96 => ⟨S1x8x2048x2048, .i1⟩
  | 97 => ⟨S_, .f32⟩
  | 98 => ⟨S1x8x2048x2048, .f32⟩
  | 99 => ⟨S1x8x2048x2048, .f32⟩
  | 100 => ⟨S_, .f32⟩
  | 101 => ⟨S1x8x2048x2048, .f32⟩
  | 102 => ⟨S1x8x2048x2048, .i1⟩
  | 103 => ⟨S_, .f32⟩
  | 104 => ⟨S1x8x2048x2048, .f32⟩
  | 105 => ⟨S1x8x2048x2048, .f32⟩
  | 106 => ⟨S1x8x2048x2048, .f32⟩
  | 107 => ⟨S1x8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S1x8x2048x2048, .f32⟩
  | 116 => ⟨S1x8x2048x2048, .i1⟩
  | 117 => ⟨S_, .f32⟩
  | 118 => ⟨S1x8x2048x2048, .f32⟩
  | 119 => ⟨S1x8x2048x2048, .f32⟩
  | 120 => ⟨S1x8x2048x2048, .f32⟩
  | 121 => ⟨S1x8x2048x2048, .f32⟩
  | 122 => ⟨S1x8x2048x2048, .f32⟩
  | 123 => ⟨S_, .f32⟩
  | 124 => ⟨S1x8x2048x2048, .f32⟩
  | 125 => ⟨S1x8x2048x2048, .f32⟩
  | 126 => ⟨S1x8x2048x2048, .f32⟩
  | 127 => ⟨S1x8x2048x2048, .f32⟩
  | _ => ⟨S1x2048x512, .f32⟩

abbrev hbmTy0_1 (i : Nat) : BufTy := match i % 128 with
  | 0 => ⟨S1x8x2048x2048, .f32⟩
  | 1 => ⟨S_, .f32⟩
  | 2 => ⟨S_, .f32⟩
  | 3 => ⟨S1x8x2048x2048, .i1⟩
  | 4 => ⟨S1x8x2048x2048, .f32⟩
  | 5 => ⟨S1x8x2048x2048, .f32⟩
  | 6 => ⟨S_, .f32⟩
  | 7 => ⟨S1x8x2048x2048, .f32⟩
  | 8 => ⟨S1x2048x8x64, .f32⟩
  | 9 => ⟨S1x8x2048x64, .f32⟩
  | 10 => ⟨S1x8x2048x64, .f32⟩
  | 11 => ⟨S1x2048x8x64, .f32⟩
  | 12 => ⟨S1x2048x512, .f32⟩
  | 13 => ⟨S1x2048x8x64, .f32⟩
  | 14 => ⟨S1x8x2048x64, .f32⟩
  | 15 => ⟨S1x8x64x2048, .f32⟩
  | 16 => ⟨S1x8x2048x64, .f32⟩
  | 17 => ⟨S1x8x2048x2048, .f32⟩
  | 18 => ⟨S1x2048x8x64, .f32⟩
  | 19 => ⟨S1x2048x512, .f32⟩
  | 20 => ⟨S_, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S1x8x2048x2048, .f32⟩
  | 26 => ⟨S1x8x2048x2048, .f32⟩
  | 27 => ⟨S1x8x2048x2048, .f32⟩
  | 28 => ⟨S_, .f32⟩
  | 29 => ⟨S_, .f32⟩
  | 30 => ⟨S1x8x2048x2048, .f32⟩
  | 31 => ⟨S1x8x2048x2048, .f32⟩
  | 32 => ⟨S_, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S1x8x2048x2048, .f32⟩
  | 38 => ⟨S1x8x2048x2048, .f32⟩
  | 39 => ⟨S1x8x2048x2048, .f32⟩
  | 40 => ⟨S_, .f32⟩
  | 41 => ⟨S1x8x2048x2048, .f32⟩
  | 42 => ⟨S1x8x2048x2048, .f32⟩
  | 43 => ⟨S1x8x2048x64, .f32⟩
  | 44 => ⟨S1x8x2048x64, .f32⟩
  | 45 => ⟨S1x2048x8x64, .f32⟩
  | 46 => ⟨S1x2048x512, .f32⟩
  | 47 => ⟨S1x2048x8x64, .f32⟩
  | 48 => ⟨S1x2048x512, .f32⟩
  | _ => ⟨S1x2048x512, .f32⟩

abbrev hbmTy (i : Nat) : BufTy := match i / 128 with
  | 0 => hbmTy0_0 i
  | 1 => hbmTy0_1 i
  | _ => ⟨S1x2048x512, .f32⟩

abbrev bufTy : (tb : Table) → Fin (tcTables nBuf tb) → BufTy
  | .hbm, ⟨i, _⟩ => hbmTy i
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v15_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v15_2 : Ref sig .tc := ⟨.hbm, 66, rfl⟩
abbrev main_v15_0 : Ref sig .tc := ⟨.hbm, 67, rfl⟩
abbrev main_cst_0 : Ref sig .tc := ⟨.hbm, 68, rfl⟩
abbrev main_call1_v0 : Ref sig .tc := ⟨.hbm, 69, rfl⟩
abbrev main_v16_1 : Ref sig .tc := ⟨.hbm, 70, rfl⟩
abbrev main_call1_v2 : Ref sig .tc := ⟨.hbm, 71, rfl⟩
abbrev main_v16_0 : Ref sig .tc := ⟨.hbm, 72, rfl⟩
abbrev main_call1_cst : Ref sig .tc := ⟨.hbm, 73, rfl⟩
abbrev main_v16_2 : Ref sig .tc := ⟨.hbm, 74, rfl⟩
abbrev main_call2_cst : Ref sig .tc := ⟨.hbm, 75, rfl⟩
abbrev main_call2_v0 : Ref sig .tc := ⟨.hbm, 76, rfl⟩
abbrev main_v17 : Ref sig .tc := ⟨.hbm, 77, rfl⟩
abbrev main_v18 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v19_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v19_2 : Ref sig .tc := ⟨.hbm, 125, rfl⟩
abbrev main_v19_0 : Ref sig .tc := ⟨.hbm, 126, rfl⟩
abbrev main_v20 : Ref sig .tc := ⟨.hbm, 127, rfl⟩
abbrev main_v21 : Ref sig .tc := ⟨.hbm, 128, rfl⟩
abbrev main_cst_1 : Ref sig .tc := ⟨.hbm, 129, rfl⟩
abbrev main_call4_v0 : Ref sig .tc := ⟨.hbm, 130, rfl⟩
abbrev main_v22_1 : Ref sig .tc := ⟨.hbm, 131, rfl⟩
abbrev main_call4_v2 : Ref sig .tc := ⟨.hbm, 132, rfl⟩
abbrev main_v22_0 : Ref sig .tc := ⟨.hbm, 133, rfl⟩
abbrev main_call4_cst : Ref sig .tc := ⟨.hbm, 134, rfl⟩
abbrev main_v22_2 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call5_cst : Ref sig .tc := ⟨.hbm, 148, rfl⟩
abbrev main_call5_v0 : Ref sig .tc := ⟨.hbm, 149, rfl⟩
abbrev main_v35 : Ref sig .tc := ⟨.hbm, 150, rfl⟩
abbrev main_v36 : Ref sig .tc := ⟨.hbm, 151, rfl⟩
abbrev main_call6_v0 : Ref sig .tc := ⟨.hbm, 152, rfl⟩
abbrev main_call6_v1 : Ref sig .tc := ⟨.hbm, 153, rfl⟩
abbrev main_v37 : Ref sig .tc := ⟨.hbm, 154, rfl⟩
abbrev main_v38 : Ref sig .tc := ⟨.hbm, 155, rfl⟩
abbrev main_call7_cst : Ref sig .tc := ⟨.hbm, 156, rfl⟩
abbrev main_call7_v0 : Ref sig .tc := ⟨.hbm, 157, rfl⟩
abbrev main_v39 : Ref sig .tc := ⟨.hbm, 158, rfl⟩
abbrev main_v40 : Ref sig .tc := ⟨.hbm, 159, rfl⟩
abbrev main_call8_cst : Ref sig .tc := ⟨.hbm, 160, rfl⟩
abbrev main_call8_v0 : Ref sig .tc := ⟨.hbm, 161, rfl⟩
abbrev main_v41 : Ref sig .tc := ⟨.hbm, 162, rfl⟩
abbrev main_call9_v0 : Ref sig .tc := ⟨.hbm, 163, rfl⟩
abbrev main_call9_v1 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩

abbrev nD : Nat := 1
abbrev τ : Topo := Topo.v7x

variable {F : FTy → Type} [FloatOps F]
-- ==== Kernel9.lean ====
abbrev S1x2048x512 : Shape := ⟨3, ![1, 2048, 512]⟩
abbrev S1x8x2048 : Shape := ⟨3, ![1, 8, 2048]⟩
abbrev S_ : Shape := ⟨0, ![]⟩
abbrev S2048x1536 : Shape := ⟨2, ![2048, 1536]⟩
abbrev S2048x512 : Shape := ⟨2, ![2048, 512]⟩
abbrev S2048x3072 : Shape := ⟨2, ![2048, 3072]⟩
abbrev S8x2048 : Shape := ⟨2, ![8, 2048]⟩
abbrev S8x2048x1 : Shape := ⟨3, ![8, 2048, 1]⟩
abbrev S8x8x1x256 : Shape := ⟨4, ![8, 8, 1, 256]⟩
abbrev S2048x128 : Shape := ⟨2, ![2048, 128]⟩
abbrev S2x2048x1 : Shape := ⟨3, ![2, 2048, 1]⟩
abbrev S2x8x1x256 : Shape := ⟨4, ![2, 8, 1, 256]⟩
abbrev S1x2048x1 : Shape := ⟨3, ![1, 2048, 1]⟩
abbrev S2048x1 : Shape := ⟨2, ![2048, 1]⟩
abbrev S256x128 : Shape := ⟨2, ![256, 128]⟩
abbrev S2048x256 : Shape := ⟨2, ![2048, 256]⟩
abbrev S1x1x1x256 : Shape := ⟨4, ![1, 1, 1, 256]⟩
abbrev S1x256 : Shape := ⟨2, ![1, 256]⟩
abbrev S2048 : Shape := ⟨1, ![2048]⟩
abbrev S1792x1 : Shape := ⟨2, ![1792, 1]⟩
abbrev S1792x128 : Shape := ⟨2, ![1792, 128]⟩
abbrev S1792x256 : Shape := ⟨2, ![1792, 256]⟩
abbrev S1792 : Shape := ⟨1, ![1792]⟩
abbrev S256x1 : Shape := ⟨2, ![256, 1]⟩
abbrev S1536x1 : Shape := ⟨2, ![1536, 1]⟩
abbrev S1536x128 : Shape := ⟨2, ![1536, 128]⟩
abbrev S1536x256 : Shape := ⟨2, ![1536, 256]⟩
abbrev S1536 : Shape := ⟨1, ![1536]⟩
abbrev S512x1 : Shape := ⟨2, ![512, 1]⟩
abbrev S512x128 : Shape := ⟨2, ![512, 128]⟩
abbrev S1280x1 : Shape := ⟨2, ![1280, 1]⟩
abbrev S1280x128 : Shape := ⟨2, ![1280, 128]⟩
abbrev S1280x256 : Shape := ⟨2, ![1280, 256]⟩
abbrev S1280 : Shape := ⟨1, ![1280]⟩
abbrev S768x1 : Shape := ⟨2, ![768, 1]⟩
abbrev S768x128 : Shape := ⟨2, ![768, 128]⟩
abbrev S1024x1 : Shape := ⟨2, ![1024, 1]⟩
abbrev S1024x128 : Shape := ⟨2, ![1024, 128]⟩
abbrev S1024x256 : Shape := ⟨2, ![1024, 256]⟩
abbrev S1024 : Shape := ⟨1, ![1024]⟩
abbrev S768x256 : Shape := ⟨2, ![768, 256]⟩
abbrev S768 : Shape := ⟨1, ![768]⟩
abbrev S512x256 : Shape := ⟨2, ![512, 256]⟩
abbrev S512 : Shape := ⟨1, ![512]⟩
abbrev S256x256 : Shape := ⟨2, ![256, 256]⟩
abbrev S256 : Shape := ⟨1, ![256]⟩

abbrev nBuf : Space → Nat
  | .hbm => 23
  | .vmem => 14
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x8x2048, .f32⟩
  | .hbm, ⟨4, _⟩ => ⟨S_, .f32⟩
  | .hbm, ⟨5, _⟩ => ⟨S2048x1536, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x3072, .f32⟩
  | .hbm, ⟨13, _⟩ => ⟨S2048x3072, .bf16⟩
  | .hbm, ⟨14, _⟩ => ⟨S8x2048, .f32⟩
  | .hbm, ⟨15, _⟩ => ⟨S8x2048x1, .f32⟩
  | .hbm, ⟨16, _⟩ => ⟨S8x8x1x256, .f32⟩
  | .hbm, ⟨17, _⟩ => ⟨S2048x512, .bf16⟩
  | .hbm, ⟨18, _⟩ => ⟨S8x2048x1, .f32⟩
  | .hbm, ⟨19, _⟩ => ⟨S1x2048x512, .bf16⟩
  | .hbm, ⟨20, _⟩ => ⟨S1x2048x512, .f32⟩
  | .hbm, ⟨21, _⟩ => ⟨S8x2048, .f32⟩
  | .hbm, ⟨22, _⟩ => ⟨S1x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x2048x1, .f32⟩
  | .local _ .vmem, ⟨7, _⟩ => ⟨S2x2048x1, .f32⟩
  | .local _ .vmem, ⟨8, _⟩ => ⟨S2x8x1x256, .f32⟩
  | .local _ .vmem, ⟨9, _⟩ => ⟨S2x8x1x256, .f32⟩
  | .local _ .vmem, ⟨10, _⟩ => ⟨S2048x128, .bf16⟩
  | .local _ .vmem, ⟨11, _⟩ => ⟨S2048x128, .bf16⟩
  | .local _ .vmem, ⟨12, _⟩ => ⟨S2x2048x1, .f32⟩
  | .local _ .vmem, ⟨13, _⟩ => ⟨S2x2048x1, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c2048_i32 : BitVec 32 := 2048#32
  let v5 : BitVec 32 := Scalar.muli c0_i32 c2048_i32
  v5
def k0_off1 : Fin 2 → Nat :=
  let c0_i32 : BitVec 32 := 0#32
  let c2048_i32 : BitVec 32 := 2048#32
  let v5 : BitVec 32 := Scalar.muli c0_i32 c2048_i32
  let v6 : BitVec 32 := v5
  let v7 : Index := Scalar.indexCast v6
  let c0 : Index := 0#32
  ![v7.toNat, 0]
def k0_mult2 : BitVec 32 :=
  let c0_i32 : BitVec 32 := 0#32
  let c2048_i32_2 : BitVec 32 := 2048#32
  let v14 : BitVec 32 := Scalar.muli c0_i32 c2048_i32_2
  v14
def k0_off2 : Fin 3 → Nat :=
  let c0_3 : Index := 0#32
  let c0_i32 : BitVec 32 := 0#32
  let c2048_i32_2 : BitVec 32 := 2048#32
  let v14 : BitVec 32 := Scalar.muli c0_i32 c2048_i32_2
  let v15 : BitVec 32 := v14
  let v16 : Index := Scalar.indexCast v15
  let c0_4 : Index := 0#32
  ![0, v16.toNat, 0]
def k0_mult3 : BitVec 32 :=
  let c0_i32 : BitVec 32 := 0#32
  let c2048_i32_5 : BitVec 32 := 2048#32
  let v19 : BitVec 32 := Scalar.muli c0_i32 c2048_i32_5
  v19
def k0_off3 : Fin 3 → Nat :=
  let c1 : Index := 1#32
  let c0_i32 : BitVec 32 := 0#32
  let c2048_i32_5 : BitVec 32 := 2048#32
  let v19 : BitVec 32 := Scalar.muli c0_i32 c2048_i32_5
  let v20 : BitVec 32 := v19
  let v21 : Index := Scalar.indexCast v20
  let c0_6 : Index := 0#32
  ![1, v21.toNat, 0]
@[reducible] def k0_t1_loop : Scf.Loop 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_11 : BitVec 32 := 1#32
  ⟨c0_i32_10, v31, c1_i32_11⟩
def k0_mult4 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c0_i32_207 : BitVec 32 := 0#32
  let v871 : BitVec 32 := Scalar.addi v870 c0_i32_207
  let c256_i32_208 : BitVec 32 := 256#32
  let v872 : BitVec 32 := Scalar.muli v871 c256_i32_208
  v872
def k0_off4 (k0_t1 : Fin k0_t1_loop.trips) (c0_i32_207 : BitVec 32) : Fin 2 → Nat :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let v871 : BitVec 32 := Scalar.addi v870 c0_i32_207
  let c256_i32_208 : BitVec 32 := 256#32
  let v872 : BitVec 32 := Scalar.muli v871 c256_i32_208
  let v873 : BitVec 32 := v872
  let v874 : Index := Scalar.indexCast v873
  let c0_209 : Index := 0#32
  ![v874.toNat, 0]
def k0_mult5 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c0_i32_207 : BitVec 32 := 0#32
  let v871 : BitVec 32 := Scalar.addi v870 c0_i32_207
  let c256_i32_210 : BitVec 32 := 256#32
  let v877 : BitVec 32 := Scalar.muli v871 c256_i32_210
  v877
def k0_off5 (k0_t1 : Fin k0_t1_loop.trips) (c0_i32_207 : BitVec 32) : Fin 4 → Nat :=
  let c0_213 : Index := 0#32
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let v871 : BitVec 32 := Scalar.addi v870 c0_i32_207
  let v885 : Index := Scalar.indexCast v871
  let c0_214 : Index := 0#32
  let c0_215 : Index := 0#32
  ![0, v885.toNat, 0, 0]
def k0_off6 (k0_t1 : Fin k0_t1_loop.trips) (c0_i32_207 : BitVec 32) : Fin 4 → Nat :=
  let c1_220 : Index := 1#32
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let v871 : BitVec 32 := Scalar.addi v870 c0_i32_207
  let v910 : Index := Scalar.indexCast v871
  let c0_221 : Index := 0#32
  let c0_222 : Index := 0#32
  ![1, v910.toNat, 0, 0]
def k0_mult6 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c1_i32_226 : BitVec 32 := 1#32
  let v932 : BitVec 32 := Scalar.addi v870 c1_i32_226
  let c256_i32_227 : BitVec 32 := 256#32
  let v933 : BitVec 32 := Scalar.muli v932 c256_i32_227
  v933
def k0_mult7 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c1_i32_226 : BitVec 32 := 1#32
  let v932 : BitVec 32 := Scalar.addi v870 c1_i32_226
  let c256_i32_229 : BitVec 32 := 256#32
  let v938 : BitVec 32 := Scalar.muli v932 c256_i32_229
  v938
def k0_mult8 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c2_i32_245 : BitVec 32 := 2#32
  let v993 : BitVec 32 := Scalar.addi v870 c2_i32_245
  let c256_i32_246 : BitVec 32 := 256#32
  let v994 : BitVec 32 := Scalar.muli v993 c256_i32_246
  v994
def k0_mult9 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c2_i32_245 : BitVec 32 := 2#32
  let v993 : BitVec 32 := Scalar.addi v870 c2_i32_245
  let c256_i32_248 : BitVec 32 := 256#32
  let v999 : BitVec 32 := Scalar.muli v993 c256_i32_248
  v999
def k0_mult10 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c3_i32_264 : BitVec 32 := 3#32
  let v1054 : BitVec 32 := Scalar.addi v870 c3_i32_264
  let c256_i32_265 : BitVec 32 := 256#32
  let v1055 : BitVec 32 := Scalar.muli v1054 c256_i32_265
  v1055
def k0_mult11 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c3_i32_264 : BitVec 32 := 3#32
  let v1054 : BitVec 32 := Scalar.addi v870 c3_i32_264
  let c256_i32_267 : BitVec 32 := 256#32
  let v1060 : BitVec 32 := Scalar.muli v1054 c256_i32_267
  v1060
def k0_mult12 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c4_i32_283 : BitVec 32 := 4#32
  let v1115 : BitVec 32 := Scalar.addi v870 c4_i32_283
  let c256_i32_284 : BitVec 32 := 256#32
  let v1116 : BitVec 32 := Scalar.muli v1115 c256_i32_284
  v1116
def k0_mult13 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c4_i32_283 : BitVec 32 := 4#32
  let v1115 : BitVec 32 := Scalar.addi v870 c4_i32_283
  let c256_i32_286 : BitVec 32 := 256#32
  let v1121 : BitVec 32 := Scalar.muli v1115 c256_i32_286
  v1121
def k0_mult14 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c5_i32_302 : BitVec 32 := 5#32
  let v1176 : BitVec 32 := Scalar.addi v870 c5_i32_302
  let c256_i32_303 : BitVec 32 := 256#32
  let v1177 : BitVec 32 := Scalar.muli v1176 c256_i32_303
  v1177
def k0_mult15 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c5_i32_302 : BitVec 32 := 5#32
  let v1176 : BitVec 32 := Scalar.addi v870 c5_i32_302
  let c256_i32_305 : BitVec 32 := 256#32
  let v1182 : BitVec 32 := Scalar.muli v1176 c256_i32_305
  v1182
def k0_mult16 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c6_i32_321 : BitVec 32 := 6#32
  let v1237 : BitVec 32 := Scalar.addi v870 c6_i32_321
  let c256_i32_322 : BitVec 32 := 256#32
  let v1238 : BitVec 32 := Scalar.muli v1237 c256_i32_322
  v1238
def k0_mult17 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c6_i32_321 : BitVec 32 := 6#32
  let v1237 : BitVec 32 := Scalar.addi v870 c6_i32_321
  let c256_i32_324 : BitVec 32 := 256#32
  let v1243 : BitVec 32 := Scalar.muli v1237 c256_i32_324
  v1243
def k0_mult18 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c7_i32_340 : BitVec 32 := 7#32
  let v1298 : BitVec 32 := Scalar.addi v870 c7_i32_340
  let c256_i32_341 : BitVec 32 := 256#32
  let v1299 : BitVec 32 := Scalar.muli v1298 c256_i32_341
  v1299
def k0_mult19 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_206 : BitVec 32 := 8#32
  let v870 : BitVec 32 := Scalar.muli arg8 c8_i32_206
  let c7_i32_340 : BitVec 32 := 7#32
  let v1298 : BitVec 32 := Scalar.addi v870 c7_i32_340
  let c256_i32_343 : BitVec 32 := 256#32
  let v1304 : BitVec 32 := Scalar.muli v1298 c256_i32_343
  v1304
@[reducible] def k0_t2_loop : Scf.Loop 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let v28 : BitVec 32 := Scalar.addi c0_i32_10 v27
  let c1_i32_12 : BitVec 32 := 1#32
  ⟨v31, v28, c1_i32_12⟩
def k0_mult20 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c0_i32_207 : BitVec 32 := 0#32
  let v871 : BitVec 32 := Scalar.addi v870 c0_i32_207
  let c256_i32_208 : BitVec 32 := 256#32
  let v872 : BitVec 32 := Scalar.muli v871 c256_i32_208
  v872
def k0_off7 (k0_t2 : Fin k0_t2_loop.trips) (c0_i32_207 : BitVec 32) : Fin 2 → Nat :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let v871 : BitVec 32 := Scalar.addi v870 c0_i32_207
  let c256_i32_208 : BitVec 32 := 256#32
  let v872 : BitVec 32 := Scalar.muli v871 c256_i32_208
  let v873 : BitVec 32 := v872
  let v874 : Index := Scalar.indexCast v873
  let c0_209 : Index := 0#32
  ![v874.toNat, 0]
def k0_mult21 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c0_i32_207 : BitVec 32 := 0#32
  let v871 : BitVec 32 := Scalar.addi v870 c0_i32_207
  let c256_i32_210 : BitVec 32 := 256#32
  let v877 : BitVec 32 := Scalar.muli v871 c256_i32_210
  v877
def k0_off8 (k0_t2 : Fin k0_t2_loop.trips) (c0_i32_207 : BitVec 32) : Fin 4 → Nat :=
  let c0_213 : Index := 0#32
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let v871 : BitVec 32 := Scalar.addi v870 c0_i32_207
  let v885 : Index := Scalar.indexCast v871
  let c0_214 : Index := 0#32
  let c0_215 : Index := 0#32
  ![0, v885.toNat, 0, 0]
def k0_off9 (k0_t2 : Fin k0_t2_loop.trips) (c0_i32_207 : BitVec 32) : Fin 4 → Nat :=
  let c1_220 : Index := 1#32
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let v871 : BitVec 32 := Scalar.addi v870 c0_i32_207
  let v910 : Index := Scalar.indexCast v871
  let c0_221 : Index := 0#32
  let c0_222 : Index := 0#32
  ![1, v910.toNat, 0, 0]
def k0_mult22 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c1_i32_226 : BitVec 32 := 1#32
  let v932 : BitVec 32 := Scalar.addi v870 c1_i32_226
  let c256_i32_227 : BitVec 32 := 256#32
  let v933 : BitVec 32 := Scalar.muli v932 c256_i32_227
  v933
def k0_mult23 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c1_i32_226 : BitVec 32 := 1#32
  let v932 : BitVec 32 := Scalar.addi v870 c1_i32_226
  let c256_i32_229 : BitVec 32 := 256#32
  let v938 : BitVec 32 := Scalar.muli v932 c256_i32_229
  v938
def k0_mult24 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c2_i32_245 : BitVec 32 := 2#32
  let v993 : BitVec 32 := Scalar.addi v870 c2_i32_245
  let c256_i32_246 : BitVec 32 := 256#32
  let v994 : BitVec 32 := Scalar.muli v993 c256_i32_246
  v994
def k0_mult25 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c2_i32_245 : BitVec 32 := 2#32
  let v993 : BitVec 32 := Scalar.addi v870 c2_i32_245
  let c256_i32_248 : BitVec 32 := 256#32
  let v999 : BitVec 32 := Scalar.muli v993 c256_i32_248
  v999
def k0_mult26 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c3_i32_264 : BitVec 32 := 3#32
  let v1054 : BitVec 32 := Scalar.addi v870 c3_i32_264
  let c256_i32_265 : BitVec 32 := 256#32
  let v1055 : BitVec 32 := Scalar.muli v1054 c256_i32_265
  v1055
def k0_mult27 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c3_i32_264 : BitVec 32 := 3#32
  let v1054 : BitVec 32 := Scalar.addi v870 c3_i32_264
  let c256_i32_267 : BitVec 32 := 256#32
  let v1060 : BitVec 32 := Scalar.muli v1054 c256_i32_267
  v1060
def k0_mult28 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c4_i32_283 : BitVec 32 := 4#32
  let v1115 : BitVec 32 := Scalar.addi v870 c4_i32_283
  let c256_i32_284 : BitVec 32 := 256#32
  let v1116 : BitVec 32 := Scalar.muli v1115 c256_i32_284
  v1116
def k0_mult29 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c4_i32_283 : BitVec 32 := 4#32
  let v1115 : BitVec 32 := Scalar.addi v870 c4_i32_283
  let c256_i32_286 : BitVec 32 := 256#32
  let v1121 : BitVec 32 := Scalar.muli v1115 c256_i32_286
  v1121
def k0_mult30 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c5_i32_302 : BitVec 32 := 5#32
  let v1176 : BitVec 32 := Scalar.addi v870 c5_i32_302
  let c256_i32_303 : BitVec 32 := 256#32
  let v1177 : BitVec 32 := Scalar.muli v1176 c256_i32_303
  v1177
def k0_mult31 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c5_i32_302 : BitVec 32 := 5#32
  let v1176 : BitVec 32 := Scalar.addi v870 c5_i32_302
  let c256_i32_305 : BitVec 32 := 256#32
  let v1182 : BitVec 32 := Scalar.muli v1176 c256_i32_305
  v1182
def k0_mult32 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c6_i32_321 : BitVec 32 := 6#32
  let v1237 : BitVec 32 := Scalar.addi v870 c6_i32_321
  let c256_i32_322 : BitVec 32 := 256#32
  let v1238 : BitVec 32 := Scalar.muli v1237 c256_i32_322
  v1238
def k0_mult33 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c6_i32_321 : BitVec 32 := 6#32
  let v1237 : BitVec 32 := Scalar.addi v870 c6_i32_321
  let c256_i32_324 : BitVec 32 := 256#32
  let v1243 : BitVec 32 := Scalar.muli v1237 c256_i32_324
  v1243
def k0_mult34 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c7_i32_340 : BitVec 32 := 7#32
  let v1298 : BitVec 32 := Scalar.addi v870 c7_i32_340
  let c256_i32_341 : BitVec 32 := 256#32
  let v1299 : BitVec 32 := Scalar.muli v1298 c256_i32_341
  v1299
def k0_mult35 (k0_t2 : Fin k0_t2_loop.trips) : BitVec 32 :=
  let c0_i32_10 : BitVec 32 := 0#32
  let c0_i32 : BitVec 32 := 0#32
  let v27 : BitVec 32 := Scalar.subi c0_i32 c0_i32_10
  let c1_i32 : BitVec 32 := 1#32
  let v29 : BitVec 32 := Scalar.divsi v27 c1_i32
  let v30 : BitVec 32 := Scalar.muli v29 c1_i32
  let v31 : BitVec 32 := Scalar.addi c0_i32_10 v30
  let c1_i32_12 : BitVec 32 := 1#32
  let arg8 : BitVec 32 := Scf.iv v31 c1_i32_12 k0_t2
  let c8_i32_206 : BitVec 32 := 8#32
  let v870 : BitVec 32 := Scalar.muli arg8 c8_i32_206
  let c7_i32_340 : BitVec 32 := 7#32
  let v1298 : BitVec 32 := Scalar.addi v870 c7_i32_340
  let c256_i32_343 : BitVec 32 := 256#32
  let v1304 : BitVec 32 := Scalar.muli v1298 c256_i32_343
  v1304
def k0_mult36 : BitVec 32 :=
  let c0_i32 : BitVec 32 := 0#32
  let c8_i32 : BitVec 32 := 8#32
  let v34 : BitVec 32 := Scalar.muli c0_i32 c8_i32
  let c0_i32_13 : BitVec 32 := 0#32
  let v35 : BitVec 32 := Scalar.addi v34 c0_i32_13
  let c256_i32 : BitVec 32 := 256#32
  let v36 : BitVec 32 := Scalar.muli v35 c256_i32
  v36
def k0_off10 (c0_i32_13 : BitVec 32) : Fin 2 → Nat :=
  let c0_i32 : BitVec 32 := 0#32
  let c8_i32 : BitVec 32 := 8#32
  let v34 : BitVec 32 := Scalar.muli c0_i32 c8_i32
  let v35 : BitVec 32 := Scalar.addi v34 c0_i32_13
  let c256_i32 : BitVec 32 := 256#32
  let v36 : BitVec 32 := Scalar.muli v35 c256_i32
  let v37 : BitVec 32 := v36
  let v38 : Index := Scalar.indexCast v37
  let c0_14 : Index := 0#32
  ![v38.toNat, 0]
def k0_mult37 : BitVec 32 :=
  let c0_i32 : BitVec 32 := 0#32
  let c8_i32 : BitVec 32 := 8#32
  let v34 : BitVec 32 := Scalar.muli c0_i32 c8_i32
  let c0_i32_13 : BitVec 32 := 0#32
  let v35 : BitVec 32 := Scalar.addi v34 c0_i32_13
  let c256_i32_15 : BitVec 32 := 256#32
  let v41 : BitVec 32 := Scalar.muli v35 c256_i32_15
  v41
def k0_off11 (c0_i32_13 : BitVec 32) : Fin 4 → Nat :=
  let c0_18 : Index := 0#32
  let c0_i32 : BitVec 32 := 0#32
  let c8_i32 : BitVec 32 := 8#32
  let v34 : BitVec 32 := Scalar.muli c0_i32 c8_i32
  let v35 : BitVec 32 := Scalar.addi v34 c0_i32_13
  let v49 : Index := Scalar.indexCast v35
  let c0_19 : Index := 0#32
  let c0_20 : Index := 0#32
  ![0, v49.toNat, 0, 0]
def k0_off12 (c0_i32_13 : BitVec 32) : Fin 4 → Nat :=
  let c1_27 : Index := 1#32
  let c0_i32 : BitVec 32 := 0#32
  let c8_i32 : BitVec 32 := 8#32
  let v34 : BitVec 32 := Scalar.muli c0_i32 c8_i32
  let v35 : BitVec 32 := Scalar.addi v34 c0_i32_13
  let v84 : Index := Scalar.indexCast v35
  let c0_28 : Index := 0#32
  let c0_29 : Index := 0#32
  ![1, v84.toNat, 0, 0]
def k0_mult38 : BitVec 32 :=
  let c0_i32 : BitVec 32 := 0#32
  let c8_i32_35 : BitVec 32 := 8#32
  let v116 : BitVec 32 := Scalar.muli c0_i32 c8_i32_35
  let c1_i32_36 : BitVec 32 := 1#32
  let v117 : BitVec 32 := Scalar.addi v116 c1_i32_36
  let c256_i32_37 : BitVec 32 := 256#32
  let v118 : BitVec 32 := Scalar.muli v117 c256_i32_37
  v118
def k0_mult39 : BitVec 32 :=
  let c0_i32 : BitVec 32 := 0#32
  let c8_i32_35 : BitVec 32 := 8#32
  let v116 : BitVec 32 := Scalar.muli c0_i32 c8_i32_35
  let c1_i32_36 : BitVec 32 := 1#32
  let v117 : BitVec 32 := Scalar.addi v116 c1_i32_36
  let c256_i32_39 : BitVec 32 := 256#32
  let v123 : BitVec 32 := Scalar.muli v117 c256_i32_39
  v123
def k0_mult40 : BitVec 32 :=
  let c0_i32 : BitVec 32 := 0#32
  let c8_i32_59 : BitVec 32 := 8#32
  let v220 : BitVec 32 := Scalar.muli c0_i32 c8_i32_59
  let c2_i32 : BitVec 32 := 2#32
  let v221 : BitVec 32 := Scalar.addi v220 c2_i32
  let c256_i32_60 : BitVec 32 := 256#32
  let v222 : BitVec 32 := Scalar.muli v221 c256_i32_60
  v222
def k0_mult41 : BitVec 32 :=
  let c0_i32 : BitVec 32 := 0#32
  let c8_i32_59 : BitVec 32 := 8#32
  let v220 : BitVec 32 := Scalar.muli c0_i32 c8_i32_59
  let c2_i32 : BitVec 32 := 2#32
  let v221 : BitVec 32 := Scalar.addi v220 c2_i32
  let c256_i32_62 : BitVec 32 := 256#32
  let v227 : BitVec 32 := Scalar.muli v221 c256_i32_62
  v227
def k0_mult42 : BitVec 32 :=
  let c0_i32 : BitVec 32 := 0#32
  let c8_i32_82 : BitVec 32 := 8#32
  let v324 : BitVec 32 := Scalar.muli c0_i32 c8_i32_82
  let c3_i32 : BitVec 32 := 3#32
  let v325 : BitVec 32 := Scalar.addi v324 c3_i32
  let c256_i32_83 : BitVec 32 := 256#32
  let v326 : BitVec 32 := Scalar.muli v325 c256_i32_83
  v326
def k0_mult43 : BitVec 32 :=
  let c0_i32 : BitVec 32 := 0#32
  let c8_i32_82 : BitVec 32 := 8#32
  let v324 : BitVec 32 := Scalar.muli c0_i32 c8_i32_82
  let c3_i32 : BitVec 32 := 3#32
  let v325 : BitVec 32 := Scalar.addi v324 c3_i32
  let c256_i32_85 : BitVec 32 := 256#32
  let v331 : BitVec 32 := Scalar.muli v325 c256_i32_85
  v331
def k0_mult44 : BitVec 32 :=
  let c0_i32 : BitVec 32 := 0#32
  let c8_i32_105 : BitVec 32 := 8#32
  let v428 : BitVec 32 := Scalar.muli c0_i32 c8_i32_105
  let c4_i32 : BitVec 32 := 4#32
  let v429 : BitVec 32 := Scalar.addi v428 c4_i32
  let c256_i32_106 : BitVec 32 := 256#32
  let v430 : BitVec 32 := Scalar.muli v429 c256_i32_106
  v430
def k0_mult45 : BitVec 32 :=
  let c0_i32 : BitVec 32 := 0#32
  let c8_i32_105 : BitVec 32 := 8#32
  let v428 : BitVec 32 := Scalar.muli c0_i32 c8_i32_105
  let c4_i32 : BitVec 32 := 4#32
  let v429 : BitVec 32 := Scalar.addi v428 c4_i32
  let c256_i32_108 : BitVec 32 := 256#32
  let v435 : BitVec 32 := Scalar.muli v429 c256_i32_108
  v435
def k0_mult46 : BitVec 32 :=
  let c0_i32 : BitVec 32 := 0#32
  let c8_i32_128 : BitVec 32 := 8#32
  let v532 : BitVec 32 := Scalar.muli c0_i32 c8_i32_128
  let c5_i32 : BitVec 32 := 5#32
  let v533 : BitVec 32 := Scalar.addi v532 c5_i32
  let c256_i32_129 : BitVec 32 := 256#32
  let v534 : BitVec 32 := Scalar.muli v533 c256_i32_129
  v534
def k0_mult47 : BitVec 32 :=
  let c0_i32 : BitVec 32 := 0#32
  let c8_i32_128 : BitVec 32 := 8#32
  let v532 : BitVec 32 := Scalar.muli c0_i32 c8_i32_128
  let c5_i32 : BitVec 32 := 5#32
  let v533 : BitVec 32 := Scalar.addi v532 c5_i32
  let c256_i32_131 : BitVec 32 := 256#32
  let v539 : BitVec 32 := Scalar.muli v533 c256_i32_131
  v539
def k0_mult48 : BitVec 32 :=
  let c0_i32 : BitVec 32 := 0#32
  let c8_i32_151 : BitVec 32 := 8#32
  let v636 : BitVec 32 := Scalar.muli c0_i32 c8_i32_151
  let c6_i32 : BitVec 32 := 6#32
  let v637 : BitVec 32 := Scalar.addi v636 c6_i32
  let c256_i32_152 : BitVec 32 := 256#32
  let v638 : BitVec 32 := Scalar.muli v637 c256_i32_152
  v638
def k0_mult49 : BitVec 32 :=
  let c0_i32 : BitVec 32 := 0#32
  let c8_i32_151 : BitVec 32 := 8#32
  let v636 : BitVec 32 := Scalar.muli c0_i32 c8_i32_151
  let c6_i32 : BitVec 32 := 6#32
  let v637 : BitVec 32 := Scalar.addi v636 c6_i32
  let c256_i32_154 : BitVec 32 := 256#32
  let v643 : BitVec 32 := Scalar.muli v637 c256_i32_154
  v643
def k0_mult50 : BitVec 32 :=
  let c0_i32 : BitVec 32 := 0#32
  let c8_i32_174 : BitVec 32 := 8#32
  let v740 : BitVec 32 := Scalar.muli c0_i32 c8_i32_174
  let c7_i32 : BitVec 32 := 7#32
  let v741 : BitVec 32 := Scalar.addi v740 c7_i32
  let c256_i32_175 : BitVec 32 := 256#32
  let v742 : BitVec 32 := Scalar.muli v741 c256_i32_175
  v742
def k0_mult51 : BitVec 32 :=
  let c0_i32 : BitVec 32 := 0#32
  let c8_i32_174 : BitVec 32 := 8#32
  let v740 : BitVec 32 := Scalar.muli c0_i32 c8_i32_174
  let c7_i32 : BitVec 32 := 7#32
  let v741 : BitVec 32 := Scalar.addi v740 c7_i32
  let c256_i32_177 : BitVec 32 := 256#32
  let v747 : BitVec 32 := Scalar.muli v741 c256_i32_177
  v747
def k0_mult52 : BitVec 32 :=
  let c0_i32 : BitVec 32 := 0#32
  let c2048_i32_197 : BitVec 32 := 2048#32
  let v850 : BitVec 32 := Scalar.muli c0_i32 c2048_i32_197
  v850
def k0_mult53 : BitVec 32 :=
  let c0_i32 : BitVec 32 := 0#32
  let c2048_i32_199 : BitVec 32 := 2048#32
  let v856 : BitVec 32 := Scalar.muli c0_i32 c2048_i32_199
  v856
def k0_mult54 : BitVec 32 :=
  let c0_i32 : BitVec 32 := 0#32
  let c2048_i32_202 : BitVec 32 := 2048#32
  let v864 : BitVec 32 := Scalar.muli c0_i32 c2048_i32_202
  v864
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1x2048x512 : Shape := ⟨3, ![1, 2048, 512]⟩
abbrev S1x8x2048 : Shape := ⟨3, ![1, 8, 2048]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S1x8x2048x1 : Shape := ⟨4, ![1, 8, 2048, 1]⟩
abbrev S1x8x1x2048 : Shape := ⟨4, ![1, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x8x2048, .f32⟩
  | .hbm, ⟨4, _⟩ => ⟨S1x2048x8x64, .f32⟩
  | .hbm, ⟨5, _⟩ => ⟨S1x8x2048x64, .f32⟩
  | .hbm, ⟨6, _⟩ => ⟨S1x2048x8x64, .f32⟩
  | .hbm, ⟨7, _⟩ => ⟨S1x8x2048x64, .f32⟩
  | .hbm, ⟨8, _⟩ => ⟨S1x8x2048x2048, .f32⟩
  | .hbm, ⟨9, _⟩ => ⟨S_, .f32⟩
  | .hbm, ⟨10, _⟩ => ⟨S1x8x2048x2048, .f32⟩
  | .hbm, ⟨11, _⟩ => ⟨S1x8x2048x2048, .f32⟩
  | .hbm, ⟨12, _⟩ => ⟨S1x8x2048x1, .f32⟩
  | .hbm, ⟨13, _⟩ => ⟨S1x8x2048x2048, .f32⟩
  | .hbm, ⟨14, _⟩ => ⟨S1x8x2048x2048, .f32⟩
  | .hbm, ⟨15, _⟩ => ⟨S1x8x1x2048, .f32⟩
  | .hbm, ⟨16, _⟩ => ⟨S1x8x2048x2048, .f32⟩
  | .hbm, ⟨17, _⟩ => ⟨S1x8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S1x8x2048x2048, .i1⟩
  | .hbm, ⟨28, _⟩ => ⟨S1x8x2048x2048, .f32⟩
  | .hbm, ⟨29, _⟩ => ⟨S1x8x2048x2048, .f32⟩
  | .hbm, ⟨30, _⟩ => ⟨S_, .f32⟩
  | .hbm, ⟨31, _⟩ => ⟨S1x8x2048, .f32⟩
  | .hbm, ⟨32, _⟩ => ⟨S_, .f32⟩
  | .hbm, ⟨33, _⟩ => ⟨S1x8x2048, .f32⟩
  | .hbm, ⟨34, _⟩ => ⟨S1x8x2048, .f32⟩
  | .hbm, ⟨35, _⟩ => ⟨S1x8x2048x1, .f32⟩
  | .hbm, ⟨36, _⟩ => ⟨S1x8x2048x2048, .f32⟩
  | .hbm, ⟨37, _⟩ => ⟨S1x8x2048x2048, .f32⟩
  | .hbm, ⟨38, _⟩ => ⟨S1x8x2048x2048, .f32⟩
  | .hbm, ⟨39, _⟩ => ⟨S_, .f32⟩
  | .hbm, ⟨40, _⟩ => ⟨S1x8x2048, .f32⟩
  | .hbm, ⟨41, _⟩ => ⟨S1x8x2048x1, .f32⟩
  | .hbm, ⟨42, _⟩ => ⟨S1x8x2048x2048, .f32⟩
  | .hbm, ⟨43, _⟩ => ⟨S1x8x2048x2048, .f32⟩
  | .hbm, ⟨44, _⟩ => ⟨S1x2048x8x64, .f32⟩
  | .hbm, ⟨45, _⟩ => ⟨S1x8x2048x64, .f32⟩
  | .hbm, ⟨46, _⟩ => ⟨S1x8x2048x64, .f32⟩
  | .hbm, ⟨47, _⟩ => ⟨S1x2048x8x64, .f32⟩
  | .hbm, ⟨48, _⟩ => ⟨S1x2048x512, .f32⟩
  | .hbm, ⟨49, _⟩ => ⟨S1x8x2048x2048, .f32⟩
  | .hbm, ⟨50, _⟩ => ⟨S_, .f32⟩
  | .hbm, ⟨51, _⟩ => ⟨S1x8x2048, .f32⟩
  | .hbm, ⟨52, _⟩ => ⟨S1x8x2048, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel10.lean ====
abbrev S1x2048x1024 : Shape := ⟨3, ![1, 2048, 1024]⟩
abbrev S1x1024 : Shape := ⟨2, ![1, 1024]⟩
abbrev S2048x1024 : Shape := ⟨2, ![2048, 1024]⟩
abbrev S2048x1 : Shape := ⟨2, ![2048, 1]⟩
abbrev S256x1024 : Shape := ⟨2, ![256, 1024]⟩
abbrev S256x1 : Shape := ⟨2, ![256, 1]⟩
abbrev S256 : Shape := ⟨1, ![256]⟩
abbrev S1x2048x1 : Shape := ⟨3, ![1, 2048, 1]⟩

abbrev nBuf : Space → Nat
  | .hbm => 8
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S2048x1, .f32⟩
  | .hbm, ⟨5, _⟩ => ⟨S1x2048x1024, .bf16⟩
  | .hbm, ⟨6, _⟩ => ⟨S1x2048x1024, .f32⟩
  | .hbm, ⟨7, _⟩ => ⟨S1x2048x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1, .f32⟩
  | .local _ .vmem, ⟨6, _⟩ => ⟨S256x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S_, .f32⟩
  | .hbm, ⟨27, _⟩ => ⟨S1x2048x1, .f32⟩
  | .hbm, ⟨28, _⟩ => ⟨S1x2048x1, .f32⟩
  | .hbm, ⟨29, _⟩ => ⟨S1x2048x1, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel11.lean ====
abbrev S1x2048x512 : Shape := ⟨3, ![1, 2048, 512]⟩
abbrev S1x2048x2048 : Shape := ⟨3, ![1, 2048, 2048]⟩
abbrev S1x2048 : Shape := ⟨2, ![1, 2048]⟩
abbrev S1x512x1024 : Shape := ⟨3, ![1, 512, 1024]⟩
abbrev S512x1024 : Shape := ⟨2, ![512, 1024]⟩
abbrev S1024x1024 : Shape := ⟨2, ![1024, 1024]⟩
abbrev S1024x4x256 : Shape := ⟨3, ![1024, 4, 256]⟩
abbrev S4x1024x256 : Shape := ⟨3, ![4, 1024, 256]⟩
abbrev S2048x512 : Shape := ⟨2, ![2048, 512]⟩
abbrev S2048x2048 : Shape := ⟨2, ![2048, 2048]⟩
abbrev S2048x1024 : Shape := ⟨2, ![2048, 1024]⟩
abbrev S512x512 : Shape := ⟨2, ![512, 512]⟩
abbrev S1x512x256 : Shape := ⟨3, ![1, 512, 256]⟩
abbrev S512x256 : Shape := ⟨2, ![512, 256]⟩
abbrev S1x2048x1024 : Shape := ⟨3, ![1, 2048, 1024]⟩

abbrev nBuf : Space → Nat
  | .hbm => 26
  | .vmem => 18
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x2048, .f32⟩
  | .hbm, ⟨3, _⟩ => ⟨S1x2048, .f32⟩
  | .hbm, ⟨4, _⟩ => ⟨S1x512x1024, .f32⟩
  | .hbm, ⟨5, _⟩ => ⟨S1x512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x1024, .bf16⟩
  | .hbm, ⟨10, _⟩ => ⟨S1024x4x256, .bf16⟩
  | .hbm, ⟨11, _⟩ => ⟨S4x1024x256, .bf16⟩
  | .hbm, ⟨12, _⟩ => ⟨S2048x512, .f32⟩
  | .hbm, ⟨13, _⟩ => ⟨S2048x512, .bf16⟩
  | .hbm, ⟨14, _⟩ => ⟨S2048x512, .f32⟩
  | .hbm, ⟨15, _⟩ => ⟨S2048x512, .bf16⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1x2048x1024, .f32⟩
  | .hbm, ⟨23, _⟩ => ⟨S1x2048x1024, .f32⟩
  | .hbm, ⟨24, _⟩ => ⟨S1x2048x1024, .bf16⟩
  | .hbm, ⟨25, _⟩ => ⟨S1x2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .bf16⟩
  | .local _ .vmem, ⟨17, _⟩ => ⟨S512x256, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S1x2048x512 : Shape := ⟨3, ![1, 2048, 512]⟩
abbrev S1x2048x2048 : Shape := ⟨3, ![1, 2048, 2048]⟩
abbrev S1x2048 : Shape := ⟨2, ![1, 2048]⟩
abbrev S1x512x1024 : Shape := ⟨3, ![1, 512, 1024]⟩
abbrev S2048 : Shape := ⟨1, ![2048]⟩
abbrev S1x1x2048 : Shape := ⟨3, ![1, 1, 2048]⟩
abbrev S_ : Shape := ⟨0, ![]⟩
abbrev S1x2048x1024 : Shape := ⟨3, ![1, 2048, 1024]⟩
abbrev S512x1024 : Shape := ⟨2, ![512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x2048, .f32⟩
  | .hbm, ⟨3, _⟩ => ⟨S1x2048, .f32⟩
  | .hbm, ⟨4, _⟩ => ⟨S1x512x1024, .f32⟩
  | .hbm, ⟨5, _⟩ => ⟨S1x512x1024, .f32⟩
  | .hbm, ⟨6, _⟩ => ⟨S2048, .f32⟩
  | .hbm, ⟨7, _⟩ => ⟨S1x1x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S1x2048x1024, .f32⟩
  | .hbm, ⟨19, _⟩ => ⟨S1x2048x1024, .f32⟩
  | .hbm, ⟨20, _⟩ => ⟨S512x1024, .f32⟩
  | .hbm, ⟨21, _⟩ => ⟨S1x2048x1024, .f32⟩
  | .hbm, ⟨22, _⟩ => ⟨S512x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel12.lean ====
abbrev S1x2048x1024 : Shape := ⟨3, ![1, 2048, 1024]⟩
abbrev S1x1024x2816 : Shape := ⟨3, ![1, 1024, 2816]⟩
abbrev S_ : Shape := ⟨0, ![]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x1024 : Shape := ⟨2, ![2048, 1024]⟩
abbrev S4x2048x704 : Shape := ⟨3, ![4, 2048, 704]⟩
abbrev S512x1024 : Shape := ⟨2, ![512, 1024]⟩
abbrev S1x1x704x1024 : Shape := ⟨4, ![1, 1, 704, 1024]⟩
abbrev S1x512x704 : Shape := ⟨3, ![1, 512, 704]⟩
abbrev S704x1024 : Shape := ⟨2, ![704, 1024]⟩
abbrev S512x704 : Shape := ⟨2, ![512, 704]⟩
abbrev S2048x4x704 : Shape := ⟨3, ![2048, 4, 704]⟩
abbrev S1x2048x2816 : Shape := ⟨3, ![1, 2048, 2816]⟩

abbrev nBuf : Space → Nat
  | .hbm => 34
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1024x2816, .f32⟩
  | .hbm, ⟨2, _⟩ => ⟨S1x1024x2816, .f32⟩
  | .hbm, ⟨3, _⟩ => ⟨S_, .f32⟩
  | .hbm, ⟨4, _⟩ => ⟨S1x2816x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S4x1x704x1024, .bf16⟩
  | .hbm, ⟨17, _⟩ => ⟨S4x1x704x1024, .bf16⟩
  | .hbm, ⟨18, _⟩ => ⟨S4x1x704x1024, .bf16⟩
  | .hbm, ⟨19, _⟩ => ⟨S4x3x704x1024, .bf16⟩
  | .hbm, ⟨20, _⟩ => ⟨S2048x1024, .f32⟩
  | .hbm, ⟨21, _⟩ => ⟨S2048x1024, .bf16⟩
  | .hbm, ⟨22, _⟩ => ⟨S4x2048x704, .bf16⟩
  | .hbm, ⟨23, _⟩ => ⟨S4x2048x704, .bf16⟩
  | .hbm, ⟨24, _⟩ => ⟨S4x2048x704, .bf16⟩
  | .hbm, ⟨25, _⟩ => ⟨S2048x4x704, .bf16⟩
  | .hbm, ⟨26, _⟩ => ⟨S1x2048x2816, .bf16⟩
  | .hbm, ⟨27, _⟩ => ⟨S1x2048x2816, .f32⟩
  | .hbm, ⟨28, _⟩ => ⟨S2048x4x704, .bf16⟩
  | .hbm, ⟨29, _⟩ => ⟨S1x2048x2816, .bf16⟩
  | .hbm, ⟨30, _⟩ => ⟨S1x2048x2816, .f32⟩
  | .hbm, ⟨31, _⟩ => ⟨S2048x4x704, .bf16⟩
  | .hbm, ⟨32, _⟩ => ⟨S1x2048x2816, .bf16⟩
  | .hbm, ⟨33, _⟩ => ⟨S1x2048x2816, .f32⟩
  | .local _ .vmem, ⟨0, _⟩ => ⟨S512x1024, .bf16⟩
  | .local _ .vmem, ⟨1, _⟩ => ⟨S512x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S1x2048x1024 : Shape := ⟨3, ![1, 2048, 1024]⟩
abbrev S1x1024x2816 : Shape := ⟨3, ![1, 1024, 2816]⟩
abbrev S1024x2816 : Shape := ⟨2, ![1024, 2816]⟩
abbrev S1x2048x2816 : Shape := ⟨3, ![1, 2048, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S1x2048x2816, .f32⟩
  | .hbm, ⟨5, _⟩ => ⟨S1024x2816, .f32⟩
  | .hbm, ⟨6, _⟩ => ⟨S1x2048x2816, .f32⟩
  | .hbm, ⟨7, _⟩ => ⟨S1x2048x2816, .f32⟩
  | .hbm, ⟨8, _⟩ => ⟨S1x2048x2816, .f32⟩
  | .hbm, ⟨9, _⟩ => ⟨S_, .f32⟩
  | .hbm, ⟨10, _⟩ => ⟨S1x2048x2816, .f32⟩
  | .hbm, ⟨11, _⟩ => ⟨S1x2048x2816, .f32⟩
  | .hbm, ⟨12, _⟩ => ⟨S_, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel13.lean ====
abbrev S1x2048x512 : Shape := ⟨3, ![1, 2048, 512]⟩
abbrev S2048x512 : Shape := ⟨2, ![2048, 512]⟩
abbrev S_ : Shape := ⟨0, ![]⟩
abbrev S2048x1536 : Shape := ⟨2, ![2048, 1536]⟩
abbrev S2048x3072 : Shape := ⟨2, ![2048, 3072]⟩
abbrev S2048x128 : Shape := ⟨2, ![2048, 128]⟩
abbrev S256x256 : Shape := ⟨2, ![256, 256]⟩
abbrev S2048x1 : Shape := ⟨2, ![2048, 1]⟩
abbrev S256x128 : Shape := ⟨2, ![256, 128]⟩
abbrev S256x1 : Shape := ⟨2, ![256, 1]⟩
abbrev S256 : Shape := ⟨1, ![256]⟩
abbrev S1792x1 : Shape := ⟨2, ![1792, 1]⟩
abbrev S1792x128 : Shape := ⟨2, ![1792, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1536x1 : Shape := ⟨2, ![1536, 1]⟩
abbrev S1536x128 : Shape := ⟨2, ![1536, 128]⟩
abbrev S768x128 : Shape := ⟨2, ![768, 128]⟩
abbrev S768x1 : Shape := ⟨2, ![768, 1]⟩
abbrev S768x256 : Shape := ⟨2, ![768, 256]⟩
abbrev S768 : Shape := ⟨1, ![768]⟩
abbrev S1280x1 : Shape := ⟨2, ![1280, 1]⟩
abbrev S1280x128 : Shape := ⟨2, ![1280, 128]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩
abbrev S1280x256 : Shape := ⟨2, ![1280, 256]⟩
abbrev S1280 : Shape := ⟨1, ![1280]⟩
abbrev S1536x256 : Shape := ⟨2, ![1536, 256]⟩
abbrev S1536 : Shape := ⟨1, ![1536]⟩
abbrev S1792x256 : Shape := ⟨2, ![1792, 256]⟩
abbrev S1792 : Shape := ⟨1, ![1792]⟩
abbrev S2048x256 : Shape := ⟨2, ![2048, 256]⟩
abbrev S2048 : Shape := ⟨1, ![2048]⟩

abbrev nBuf : Space → Nat
  | .hbm => 16
  | .vmem => 8
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x1536, .f32⟩
  | .hbm, ⟨11, _⟩ => ⟨S2048x3072, .f32⟩
  | .hbm, ⟨12, _⟩ => ⟨S2048x3072, .bf16⟩
  | .hbm, ⟨13, _⟩ => ⟨S2048x512, .bf16⟩
  | .hbm, ⟨14, _⟩ => ⟨S1x2048x512, .bf16⟩
  | .hbm, ⟨15, _⟩ => ⟨S1x2048x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c2048_i32 : BitVec 32 := 2048#32
  let v11 : BitVec 32 := Scalar.muli c0_i32 c2048_i32
  v11
def k0_off1 : Fin 2 → Nat :=
  let c0_i32 : BitVec 32 := 0#32
  let c2048_i32 : BitVec 32 := 2048#32
  let v11 : BitVec 32 := Scalar.muli c0_i32 c2048_i32
  let v12 : BitVec 32 := v11
  let v13 : Index := Scalar.indexCast v12
  let c0 : Index := 0#32
  ![v13.toNat, 0]
def k0_mult2 : BitVec 32 :=
  let c0_i32 : BitVec 32 := 0#32
  let c8_i32 : BitVec 32 := 8#32
  let v22 : BitVec 32 := Scalar.muli c0_i32 c8_i32
  let c7_i32 : BitVec 32 := 7#32
  let v23 : BitVec 32 := Scalar.addi v22 c7_i32
  let c256_i32 : BitVec 32 := 256#32
  let v24 : BitVec 32 := Scalar.muli v23 c256_i32
  v24
def k0_off2 (c7_i32 : BitVec 32) : Fin 2 → Nat :=
  let c0_i32 : BitVec 32 := 0#32
  let c8_i32 : BitVec 32 := 8#32
  let v22 : BitVec 32 := Scalar.muli c0_i32 c8_i32
  let v23 : BitVec 32 := Scalar.addi v22 c7_i32
  let c256_i32 : BitVec 32 := 256#32
  let v24 : BitVec 32 := Scalar.muli v23 c256_i32
  let v25 : BitVec 32 := v24
  let v26 : Index := Scalar.indexCast v25
  let c0_4 : Index := 0#32
  ![v26.toNat, 0]
def k0_mult3 : BitVec 32 :=
  let c0_i32 : BitVec 32 := 0#32
  let c8_i32 : BitVec 32 := 8#32
  let v22 : BitVec 32 := Scalar.muli c0_i32 c8_i32
  let c7_i32 : BitVec 32 := 7#32
  let v23 : BitVec 32 := Scalar.addi v22 c7_i32
  let c256_i32_5 : BitVec 32 := 256#32
  let v29 : BitVec 32 := Scalar.muli v23 c256_i32_5
  v29
def k0_mult4 : BitVec 32 :=
  let c0_i32 : BitVec 32 := 0#32
  let c8_i32_31 : BitVec 32 := 8#32
  let v136 : BitVec 32 := Scalar.muli c0_i32 c8_i32_31
  let c6_i32 : BitVec 32 := 6#32
  let v137 : BitVec 32 := Scalar.addi v136 c6_i32
  let c256_i32_32 : BitVec 32 := 256#32
  let v138 : BitVec 32 := Scalar.muli v137 c256_i32_32
  v138
def k0_mult5 : BitVec 32 :=
  let c0_i32 : BitVec 32 := 0#32
  let c8_i32_31 : BitVec 32 := 8#32
  let v136 : BitVec 32 := Scalar.muli c0_i32 c8_i32_31
  let c6_i32 : BitVec 32 := 6#32
  let v137 : BitVec 32 := Scalar.addi v136 c6_i32
  let c256_i32_34 : BitVec 32 := 256#32
  let v143 : BitVec 32 := Scalar.muli v137 c256_i32_34
  v143
def k0_mult6 : BitVec 32 :=
  let c0_i32 : BitVec 32 := 0#32
  let c8_i32_60 : BitVec 32 := 8#32
  let v250 : BitVec 32 := Scalar.muli c0_i32 c8_i32_60
  let c5_i32 : BitVec 32 := 5#32
  let v251 : BitVec 32 := Scalar.addi v250 c5_i32
  let c256_i32_61 : BitVec 32 := 256#32
  let v252 : BitVec 32 := Scalar.muli v251 c256_i32_61
  v252
def k0_mult7 : BitVec 32 :=
  let c0_i32 : BitVec 32 := 0#32
  let c8_i32_60 : BitVec 32 := 8#32
  let v250 : BitVec 32 := Scalar.muli c0_i32 c8_i32_60
  let c5_i32 : BitVec 32 := 5#32
  let v251 : BitVec 32 := Scalar.addi v250 c5_i32
  let c256_i32_63 : BitVec 32 := 256#32
  let v257 : BitVec 32 := Scalar.muli v251 c256_i32_63
  v257
def k0_mult8 : BitVec 32 :=
  let c0_i32 : BitVec 32 := 0#32
  let c8_i32_89 : BitVec 32 := 8#32
  let v364 : BitVec 32 := Scalar.muli c0_i32 c8_i32_89
  let c4_i32 : BitVec 32 := 4#32
  let v365 : BitVec 32 := Scalar.addi v364 c4_i32
  let c256_i32_90 : BitVec 32 := 256#32
  let v366 : BitVec 32 := Scalar.muli v365 c256_i32_90
  v366
def k0_mult9 : BitVec 32 :=
  let c0_i32 : BitVec 32 := 0#32
  let c8_i32_89 : BitVec 32 := 8#32
  let v364 : BitVec 32 := Scalar.muli c0_i32 c8_i32_89
  let c4_i32 : BitVec 32 := 4#32
  let v365 : BitVec 32 := Scalar.addi v364 c4_i32
  let c256_i32_92 : BitVec 32 := 256#32
  let v371 : BitVec 32 := Scalar.muli v365 c256_i32_92
  v371
def k0_mult10 : BitVec 32 :=
  let c0_i32 : BitVec 32 := 0#32
  let c8_i32_118 : BitVec 32 := 8#32
  let v478 : BitVec 32 := Scalar.muli c0_i32 c8_i32_118
  let c3_i32 : BitVec 32 := 3#32
  let v479 : BitVec 32 := Scalar.addi v478 c3_i32
  let c256_i32_119 : BitVec 32 := 256#32
  let v480 : BitVec 32 := Scalar.muli v479 c256_i32_119
  v480
def k0_mult11 : BitVec 32 :=
  let c0_i32 : BitVec 32 := 0#32
  let c8_i32_118 : BitVec 32 := 8#32
  let v478 : BitVec 32 := Scalar.muli c0_i32 c8_i32_118
  let c3_i32 : BitVec 32 := 3#32
  let v479 : BitVec 32 := Scalar.addi v478 c3_i32
  let c256_i32_121 : BitVec 32 := 256#32
  let v485 : BitVec 32 := Scalar.muli v479 c256_i32_121
  v485
def k0_mult12 : BitVec 32 :=
  let c0_i32 : BitVec 32 := 0#32
  let c8_i32_147 : BitVec 32 := 8#32
  let v592 : BitVec 32 := Scalar.muli c0_i32 c8_i32_147
  let c2_i32 : BitVec 32 := 2#32
  let v593 : BitVec 32 := Scalar.addi v592 c2_i32
  let c256_i32_148 : BitVec 32 := 256#32
  let v594 : BitVec 32 := Scalar.muli v593 c256_i32_148
  v594
def k0_mult13 : BitVec 32 :=
  let c0_i32 : BitVec 32 := 0#32
  let c8_i32_147 : BitVec 32 := 8#32
  let v592 : BitVec 32 := Scalar.muli c0_i32 c8_i32_147
  let c2_i32 : BitVec 32 := 2#32
  let v593 : BitVec 32 := Scalar.addi v592 c2_i32
  let c256_i32_150 : BitVec 32 := 256#32
  let v599 : BitVec 32 := Scalar.muli v593 c256_i32_150
  v599
def k0_mult14 : BitVec 32 :=
  let c0_i32 : BitVec 32 := 0#32
  let c8_i32_176 : BitVec 32 := 8#32
  let v706 : BitVec 32 := Scalar.muli c0_i32 c8_i32_176
  let c1_i32 : BitVec 32 := 1#32
  let v707 : BitVec 32 := Scalar.addi v706 c1_i32
  let c256_i32_177 : BitVec 32 := 256#32
  let v708 : BitVec 32 := Scalar.muli v707 c256_i32_177
  v708
def k0_mult15 : BitVec 32 :=
  let c0_i32 : BitVec 32 := 0#32
  let c8_i32_176 : BitVec 32 := 8#32
  let v706 : BitVec 32 := Scalar.muli c0_i32 c8_i32_176
  let c1_i32 : BitVec 32 := 1#32
  let v707 : BitVec 32 := Scalar.addi v706 c1_i32
  let c256_i32_179 : BitVec 32 := 256#32
  let v713 : BitVec 32 := Scalar.muli v707 c256_i32_179
  v713
def k0_mult16 : BitVec 32 :=
  let c0_i32 : BitVec 32 := 0#32
  let c8_i32_205 : BitVec 32 := 8#32
  let v820 : BitVec 32 := Scalar.muli c0_i32 c8_i32_205
  let c0_i32_206 : BitVec 32 := 0#32
  let v821 : BitVec 32 := Scalar.addi v820 c0_i32_206
  let c256_i32_207 : BitVec 32 := 256#32
  let v822 : BitVec 32 := Scalar.muli v821 c256_i32_207
  v822
def k0_mult17 : BitVec 32 :=
  let c0_i32 : BitVec 32 := 0#32
  let c8_i32_205 : BitVec 32 := 8#32
  let v820 : BitVec 32 := Scalar.muli c0_i32 c8_i32_205
  let c0_i32_206 : BitVec 32 := 0#32
  let v821 : BitVec 32 := Scalar.addi v820 c0_i32_206
  let c256_i32_209 : BitVec 32 := 256#32
  let v827 : BitVec 32 := Scalar.muli v821 c256_i32_209
  v827
@[reducible] def k0_t1_loop : Scf.Loop 32 :=
  let c0_i32_235 : BitVec 32 := 0#32
  let c0_i32 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_237 : BitVec 32 := 1#32
  ⟨c0_i32_235, v922, c1_i32_237⟩
def k0_mult18 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c7_i32_244 : BitVec 32 := 7#32
  let v934 : BitVec 32 := Scalar.addi v933 c7_i32_244
  let c256_i32_245 : BitVec 32 := 256#32
  let v935 : BitVec 32 := Scalar.muli v934 c256_i32_245
  v935
def k0_off3 (k0_t1 : Fin k0_t1_loop.trips) (c7_i32_244 : BitVec 32) : Fin 2 → Nat :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let v934 : BitVec 32 := Scalar.addi v933 c7_i32_244
  let c256_i32_245 : BitVec 32 := 256#32
  let v935 : BitVec 32 := Scalar.muli v934 c256_i32_245
  let v936 : BitVec 32 := v935
  let v937 : Index := Scalar.indexCast v936
  let c0_246 : Index := 0#32
  ![v937.toNat, 0]
def k0_mult19 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c7_i32_244 : BitVec 32 := 7#32
  let v934 : BitVec 32 := Scalar.addi v933 c7_i32_244
  let c256_i32_247 : BitVec 32 := 256#32
  let v940 : BitVec 32 := Scalar.muli v934 c256_i32_247
  v940
def k0_mult20 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c6_i32_269 : BitVec 32 := 6#32
  let v1011 : BitVec 32 := Scalar.addi v933 c6_i32_269
  let c256_i32_270 : BitVec 32 := 256#32
  let v1012 : BitVec 32 := Scalar.muli v1011 c256_i32_270
  v1012
def k0_mult21 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c6_i32_269 : BitVec 32 := 6#32
  let v1011 : BitVec 32 := Scalar.addi v933 c6_i32_269
  let c256_i32_272 : BitVec 32 := 256#32
  let v1017 : BitVec 32 := Scalar.muli v1011 c256_i32_272
  v1017
def k0_mult22 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c5_i32_294 : BitVec 32 := 5#32
  let v1088 : BitVec 32 := Scalar.addi v933 c5_i32_294
  let c256_i32_295 : BitVec 32 := 256#32
  let v1089 : BitVec 32 := Scalar.muli v1088 c256_i32_295
  v1089
def k0_mult23 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c5_i32_294 : BitVec 32 := 5#32
  let v1088 : BitVec 32 := Scalar.addi v933 c5_i32_294
  let c256_i32_297 : BitVec 32 := 256#32
  let v1094 : BitVec 32 := Scalar.muli v1088 c256_i32_297
  v1094
def k0_mult24 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c4_i32_319 : BitVec 32 := 4#32
  let v1165 : BitVec 32 := Scalar.addi v933 c4_i32_319
  let c256_i32_320 : BitVec 32 := 256#32
  let v1166 : BitVec 32 := Scalar.muli v1165 c256_i32_320
  v1166
def k0_mult25 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c4_i32_319 : BitVec 32 := 4#32
  let v1165 : BitVec 32 := Scalar.addi v933 c4_i32_319
  let c256_i32_322 : BitVec 32 := 256#32
  let v1171 : BitVec 32 := Scalar.muli v1165 c256_i32_322
  v1171
def k0_mult26 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c3_i32_344 : BitVec 32 := 3#32
  let v1242 : BitVec 32 := Scalar.addi v933 c3_i32_344
  let c256_i32_345 : BitVec 32 := 256#32
  let v1243 : BitVec 32 := Scalar.muli v1242 c256_i32_345
  v1243
def k0_mult27 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c3_i32_344 : BitVec 32 := 3#32
  let v1242 : BitVec 32 := Scalar.addi v933 c3_i32_344
  let c256_i32_347 : BitVec 32 := 256#32
  let v1248 : BitVec 32 := Scalar.muli v1242 c256_i32_347
  v1248
def k0_mult28 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c2_i32_369 : BitVec 32 := 2#32
  let v1319 : BitVec 32 := Scalar.addi v933 c2_i32_369
  let c256_i32_370 : BitVec 32 := 256#32
  let v1320 : BitVec 32 := Scalar.muli v1319 c256_i32_370
  v1320
def k0_mult29 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c2_i32_369 : BitVec 32 := 2#32
  let v1319 : BitVec 32 := Scalar.addi v933 c2_i32_369
  let c256_i32_372 : BitVec 32 := 256#32
  let v1325 : BitVec 32 := Scalar.muli v1319 c256_i32_372
  v1325
def k0_mult30 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c1_i32_394 : BitVec 32 := 1#32
  let v1396 : BitVec 32 := Scalar.addi v933 c1_i32_394
  let c256_i32_395 : BitVec 32 := 256#32
  let v1397 : BitVec 32 := Scalar.muli v1396 c256_i32_395
  v1397
def k0_mult31 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c1_i32_394 : BitVec 32 := 1#32
  let v1396 : BitVec 32 := Scalar.addi v933 c1_i32_394
  let c256_i32_397 : BitVec 32 := 256#32
  let v1402 : BitVec 32 := Scalar.muli v1396 c256_i32_397
  v1402
def k0_mult32 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c0_i32_419 : BitVec 32 := 0#32
  let v1473 : BitVec 32 := Scalar.addi v933 c0_i32_419
  let c256_i32_420 : BitVec 32 := 256#32
  let v1474 : BitVec 32 := Scalar.muli v1473 c256_i32_420
  v1474
def k0_mult33 (k0_t1 : Fin k0_t1_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let c1_i32_237 : BitVec 32 := 1#32
  let arg5 : BitVec 32 := Scf.iv c0_i32_235 c1_i32_237 k0_t1
  let v932 : BitVec 32 := Scalar.subi v931 arg5
  let c8_i32_243 : BitVec 32 := 8#32
  let v933 : BitVec 32 := Scalar.muli v932 c8_i32_243
  let c0_i32_419 : BitVec 32 := 0#32
  let v1473 : BitVec 32 := Scalar.addi v933 c0_i32_419
  let c256_i32_422 : BitVec 32 := 256#32
  let v1479 : BitVec 32 := Scalar.muli v1473 c256_i32_422
  v1479
@[reducible] def k0_t2_loop : Scf.Loop 32 :=
  let c0_i32_235 : BitVec 32 := 0#32
  let c0_i32 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let v919 : BitVec 32 := Scalar.addi c0_i32_235 v918
  let c1_i32_238 : BitVec 32 := 1#32
  ⟨v922, v919, c1_i32_238⟩
def k0_mult34 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c7_i32_244 : BitVec 32 := 7#32
  let v934 : BitVec 32 := Scalar.addi v933 c7_i32_244
  let c256_i32_245 : BitVec 32 := 256#32
  let v935 : BitVec 32 := Scalar.muli v934 c256_i32_245
  v935
def k0_off4 (k0_t2 : Fin k0_t2_loop.trips) (c7_i32_244 : BitVec 32) : Fin 2 → Nat :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let v934 : BitVec 32 := Scalar.addi v933 c7_i32_244
  let c256_i32_245 : BitVec 32 := 256#32
  let v935 : BitVec 32 := Scalar.muli v934 c256_i32_245
  let v936 : BitVec 32 := v935
  let v937 : Index := Scalar.indexCast v936
  let c0_246 : Index := 0#32
  ![v937.toNat, 0]
def k0_mult35 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c7_i32_244 : BitVec 32 := 7#32
  let v934 : BitVec 32 := Scalar.addi v933 c7_i32_244
  let c256_i32_247 : BitVec 32 := 256#32
  let v940 : BitVec 32 := Scalar.muli v934 c256_i32_247
  v940
def k0_mult36 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c6_i32_269 : BitVec 32 := 6#32
  let v1011 : BitVec 32 := Scalar.addi v933 c6_i32_269
  let c256_i32_270 : BitVec 32 := 256#32
  let v1012 : BitVec 32 := Scalar.muli v1011 c256_i32_270
  v1012
def k0_mult37 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c6_i32_269 : BitVec 32 := 6#32
  let v1011 : BitVec 32 := Scalar.addi v933 c6_i32_269
  let c256_i32_272 : BitVec 32 := 256#32
  let v1017 : BitVec 32 := Scalar.muli v1011 c256_i32_272
  v1017
def k0_mult38 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c5_i32_294 : BitVec 32 := 5#32
  let v1088 : BitVec 32 := Scalar.addi v933 c5_i32_294
  let c256_i32_295 : BitVec 32 := 256#32
  let v1089 : BitVec 32 := Scalar.muli v1088 c256_i32_295
  v1089
def k0_mult39 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c5_i32_294 : BitVec 32 := 5#32
  let v1088 : BitVec 32 := Scalar.addi v933 c5_i32_294
  let c256_i32_297 : BitVec 32 := 256#32
  let v1094 : BitVec 32 := Scalar.muli v1088 c256_i32_297
  v1094
def k0_mult40 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c4_i32_319 : BitVec 32 := 4#32
  let v1165 : BitVec 32 := Scalar.addi v933 c4_i32_319
  let c256_i32_320 : BitVec 32 := 256#32
  let v1166 : BitVec 32 := Scalar.muli v1165 c256_i32_320
  v1166
def k0_mult41 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c4_i32_319 : BitVec 32 := 4#32
  let v1165 : BitVec 32 := Scalar.addi v933 c4_i32_319
  let c256_i32_322 : BitVec 32 := 256#32
  let v1171 : BitVec 32 := Scalar.muli v1165 c256_i32_322
  v1171
def k0_mult42 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c3_i32_344 : BitVec 32 := 3#32
  let v1242 : BitVec 32 := Scalar.addi v933 c3_i32_344
  let c256_i32_345 : BitVec 32 := 256#32
  let v1243 : BitVec 32 := Scalar.muli v1242 c256_i32_345
  v1243
def k0_mult43 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c3_i32_344 : BitVec 32 := 3#32
  let v1242 : BitVec 32 := Scalar.addi v933 c3_i32_344
  let c256_i32_347 : BitVec 32 := 256#32
  let v1248 : BitVec 32 := Scalar.muli v1242 c256_i32_347
  v1248
def k0_mult44 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c2_i32_369 : BitVec 32 := 2#32
  let v1319 : BitVec 32 := Scalar.addi v933 c2_i32_369
  let c256_i32_370 : BitVec 32 := 256#32
  let v1320 : BitVec 32 := Scalar.muli v1319 c256_i32_370
  v1320
def k0_mult45 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c2_i32_369 : BitVec 32 := 2#32
  let v1319 : BitVec 32 := Scalar.addi v933 c2_i32_369
  let c256_i32_372 : BitVec 32 := 256#32
  let v1325 : BitVec 32 := Scalar.muli v1319 c256_i32_372
  v1325
def k0_mult46 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c1_i32_394 : BitVec 32 := 1#32
  let v1396 : BitVec 32 := Scalar.addi v933 c1_i32_394
  let c256_i32_395 : BitVec 32 := 256#32
  let v1397 : BitVec 32 := Scalar.muli v1396 c256_i32_395
  v1397
def k0_mult47 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c1_i32_394 : BitVec 32 := 1#32
  let v1396 : BitVec 32 := Scalar.addi v933 c1_i32_394
  let c256_i32_397 : BitVec 32 := 256#32
  let v1402 : BitVec 32 := Scalar.muli v1396 c256_i32_397
  v1402
def k0_mult48 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c0_i32_419 : BitVec 32 := 0#32
  let v1473 : BitVec 32 := Scalar.addi v933 c0_i32_419
  let c256_i32_420 : BitVec 32 := 256#32
  let v1474 : BitVec 32 := Scalar.muli v1473 c256_i32_420
  v1474
def k0_mult49 (k0_t2 : Fin k0_t2_loop.trips) : BitVec 32 :=
  let c0_i32 : BitVec 32 := 0#32
  let c1_i32_242 : BitVec 32 := 1#32
  let v931 : BitVec 32 := Scalar.subi c0_i32 c1_i32_242
  let c0_i32_235 : BitVec 32 := 0#32
  let v918 : BitVec 32 := Scalar.subi c0_i32 c0_i32_235
  let c1_i32_236 : BitVec 32 := 1#32
  let v920 : BitVec 32 := Scalar.divsi v918 c1_i32_236
  let v921 : BitVec 32 := Scalar.muli v920 c1_i32_236
  let v922 : BitVec 32 := Scalar.addi c0_i32_235 v921
  let c1_i32_238 : BitVec 32 := 1#32
  let arg5 : BitVec 32 := Scf.iv v922 c1_i32_238 k0_t2
  let v932 : BitVec 32 := Scalar.subi v931 arg5
  let c8_i32_243 : BitVec 32 := 8#32
  let v933 : BitVec 32 := Scalar.muli v932 c8_i32_243
  let c0_i32_419 : BitVec 32 := 0#32
  let v1473 : BitVec 32 := Scalar.addi v933 c0_i32_419
  let c256_i32_422 : BitVec 32 := 256#32
  let v1479 : BitVec 32 := Scalar.muli v1473 c256_i32_422
  v1479
def k0_mult50 : BitVec 32 :=
  let c0_i32 : BitVec 32 := 0#32
  let c2048_i32_239 : BitVec 32 := 2048#32
  let v927 : BitVec 32 := Scalar.muli c0_i32 c2048_i32_239
  v927
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel13Ideal.lean ====
variable {F : FTy → Type} [FloatOps F] [Named F]
def κ : String → Option EReal := fun
  | "log2_e" => some (((Real.log 2)⁻¹ : ℝ) : EReal)
  | _ => none
-- ==== Reference13Ideal.lean ====
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x8x64, .f32⟩
  | .hbm, ⟨4, _⟩ => ⟨S1x8x2048x64, .f32⟩
  | .hbm, ⟨5, _⟩ => ⟨S1x2048x8x64, .f32⟩
  | .hbm, ⟨6, _⟩ => ⟨S1x8x2048x64, .f32⟩
  | .hbm, ⟨7, _⟩ => ⟨S1x8x2048x2048, .f32⟩
  | .hbm, ⟨8, _⟩ => ⟨S_, .f32⟩
  | .hbm, ⟨9, _⟩ => ⟨S1x8x2048x2048, .f32⟩
  | .hbm, ⟨10, _⟩ => ⟨S1x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S1x8x2048x2048, .f32⟩
  | .hbm, ⟨19, _⟩ => ⟨S1x8x2048x2048, .f32⟩
  | .hbm, ⟨20, _⟩ => ⟨S_, .f32⟩
  | .hbm, ⟨21, _⟩ => ⟨S1x8x2048x2048, .f32⟩
  | .hbm, ⟨22, _⟩ => ⟨S1x8x2048x2048, .f32⟩
  | .hbm, ⟨23, _⟩ => ⟨S1x8x2048x2048, .f32⟩
  | .hbm, ⟨24, _⟩ => ⟨S1x8x2048x2048, .f32⟩
  | .hbm, ⟨25, _⟩ => ⟨S1x8x2048x2048, .i1⟩
  | .hbm, ⟨26, _⟩ => ⟨S1x8x2048x2048, .f32⟩
  | .hbm, ⟨27, _⟩ => ⟨S1x8x2048x2048, .f32⟩
  | .hbm, ⟨28, _⟩ => ⟨S1x8x2048x2048, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S1x8x2048x2048, .f32⟩
  | .hbm, ⟨33, _⟩ => ⟨S1x8x2048x2048, .f32⟩
  | .hbm, ⟨34, _⟩ => ⟨S1x8x2048x2048, .f32⟩
  | .hbm, ⟨35, _⟩ => ⟨S_, .f32⟩
  | .hbm, ⟨36, _⟩ => ⟨S_, .f32⟩
  | .hbm, ⟨37, _⟩ => ⟨S1x8x2048x2048, .i1⟩
  | .hbm, ⟨38, _⟩ => ⟨S1x8x2048x2048, .f32⟩
  | .hbm, ⟨39, _⟩ => ⟨S1x8x2048x2048, .f32⟩
  | .hbm, ⟨40, _⟩ => ⟨S_, .f32⟩
  | .hbm, ⟨41, _⟩ => ⟨S_, .f32⟩
  | .hbm, ⟨42, _⟩ => ⟨S1x8x2048x2048, .f32⟩
  | .hbm, ⟨43, _⟩ => ⟨S1x8x2048x2048, .f32⟩
  | .hbm, ⟨44, _⟩ => ⟨S1x8x2048x2048, .f32⟩
  | .hbm, ⟨45, _⟩ => ⟨S_, .f32⟩
  | .hbm, ⟨46, _⟩ => ⟨S1x8x2048x2048, .f32⟩
  | .hbm, ⟨47, _⟩ => ⟨S1x8x2048x2048, .f32⟩
  | .hbm, ⟨48, _⟩ => ⟨S1x8x2048x2048, .f32⟩
  | .hbm, ⟨49, _⟩ => ⟨S1x8x2048x2048, .f32⟩
  | .hbm, ⟨50, _⟩ => ⟨S1x8x2048x2048, .i1⟩
  | .hbm, ⟨51, _⟩ => ⟨S1x8x2048x2048, .f32⟩
  | .hbm, ⟨52, _⟩ => ⟨S1x8x2048x2048, .f32⟩
  | .hbm, ⟨53, _⟩ => ⟨S1x8x2048x2048, .f32⟩
  | .hbm, ⟨54, _⟩ => ⟨S1x8x2048x2048, .f32⟩
  | .hbm, ⟨55, _⟩ => ⟨S1x8x2048x2048, .f32⟩
  | .hbm, ⟨56, _⟩ => ⟨S1x8x2048x2048, .f32⟩
  | .hbm, ⟨57, _⟩ => ⟨S1x8x2048x2048, .f32⟩
  | .hbm, ⟨58, _⟩ => ⟨S1x8x2048x2048, .f32⟩
  | .hbm, ⟨59, _⟩ => ⟨S1x8x2048x2048, .f32⟩
  | .hbm, ⟨60, _⟩ => ⟨S1x8x2048x2048, .f32⟩
  | .hbm, ⟨61, _⟩ => ⟨S1x8x2048x2048, .f32⟩
  | .hbm, ⟨62, _⟩ => ⟨S_, .f32⟩
  | .hbm, ⟨63, _⟩ => ⟨S_, .f32⟩
  | .hbm, ⟨64, _⟩ => ⟨S1x8x2048x2048, .i1⟩
  | .hbm, ⟨65, _⟩ => ⟨S1x8x2048x2048, .f32⟩
  | .hbm, ⟨66, _⟩ => ⟨S1x8x2048x2048, .f32⟩
  | .hbm, ⟨67, _⟩ => ⟨S1x2048x8x64, .f32⟩
  | .hbm, ⟨68, _⟩ => ⟨S1x8x2048x64, .f32⟩
  | .hbm, ⟨69, _⟩ => ⟨S1x8x2048x64, .f32⟩
  | .hbm, ⟨70, _⟩ => ⟨S1x2048x8x64, .f32⟩
  | .hbm, ⟨71, _⟩ => ⟨S1x2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel14.lean ====
abbrev S1x2048x8 : Shape := ⟨3, ![1, 2048, 8]⟩
abbrev S1x8 : Shape := ⟨2, ![1, 8]⟩
abbrev S2048x8 : Shape := ⟨2, ![2048, 8]⟩
abbrev S_ : Shape := ⟨0, ![]⟩
abbrev S2048x128 : Shape := ⟨2, ![2048, 128]⟩
abbrev S1x128 : Shape := ⟨2, ![1, 128]⟩
abbrev S128x128 : Shape := ⟨2, ![128, 128]⟩
abbrev S8x2048 : Shape := ⟨2, ![8, 2048]⟩
abbrev S1x8x2048 : Shape := ⟨3, ![1, 8, 2048]⟩

abbrev nBuf : Space → Nat
  | .hbm => 13
  | .vmem => 3
  | .smem => 0
  | _ => 0

abbrev bufTy : (tb : Table) → Fin (tcTables nBuf tb) → BufTy
  | .hbm, ⟨0, _⟩ => ⟨S1x2048x8, .f32⟩
  | .hbm, ⟨1, _⟩ => ⟨S1x8, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S2048x128, .f32⟩
  | .hbm, ⟨10, _⟩ => ⟨S2048x8, .f32⟩
  | .hbm, ⟨11, _⟩ => ⟨S8x2048, .f32⟩
  | .hbm, ⟨12, _⟩ => ⟨S1x8x2048, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | _, _ => ⟨S1x2048x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  v9
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  let v10 : BitVec 32 := v9
  let v11 : Index := Scalar.indexCast v10
  let c0 : Index := 0#32
  ![v11.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference14Ideal.lean ====
abbrev S1x2048x8 : Shape := ⟨3, ![1, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S1x8x2048 : Shape := ⟨3, ![1, 8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x8, .f32⟩
  | .hbm, ⟨1, _⟩ => ⟨S1x8, .f32⟩
  | .hbm, ⟨2, _⟩ => ⟨S8, .f32⟩
  | .hbm, ⟨3, _⟩ => ⟨S1x1x8, .f32⟩
  | .hbm, ⟨4, _⟩ => ⟨S1x2048x8, .f32⟩
  | .hbm, ⟨5, _⟩ => ⟨S1x2048x8, .f32⟩
  | .hbm, ⟨6, _⟩ => ⟨S1x2048x8, .f32⟩
  | .hbm, ⟨7, _⟩ => ⟨S_, .f32⟩
  | .hbm, ⟨8, _⟩ => ⟨S1x2048x8, .f32⟩
  | .hbm, ⟨9, _⟩ => ⟨S1x2048x8, .f32⟩
  | .hbm, ⟨10, _⟩ => ⟨S1x2048x8, .f32⟩
  | .hbm, ⟨11, _⟩ => ⟨S1x2048x8, .f32⟩
  | .hbm, ⟨12, _⟩ => ⟨S1x2048x8, .i1⟩
  | .hbm, ⟨13, _⟩ => ⟨S1x2048x8, .f32⟩
  | .hbm, ⟨14, _⟩ => ⟨S1x2048x8, .f32⟩
  | .hbm, ⟨15, _⟩ => ⟨S1x2048x8, .f32⟩
  | .hbm, ⟨16, _⟩ => ⟨S1x2048x8, .f32⟩
  | .hbm, ⟨17, _⟩ => ⟨S1x2048x8, .f32⟩
  | .hbm, ⟨18, _⟩ => ⟨S1x2048x8, .f32⟩
  | .hbm, ⟨19, _⟩ => ⟨S1x2048x8, .f32⟩
  | .hbm, ⟨20, _⟩ => ⟨S1x2048x8, .f32⟩
  | .hbm, ⟨21, _⟩ => ⟨S1x2048x8, .f32⟩
  | .hbm, ⟨22, _⟩ => ⟨S_, .f32⟩
  | .hbm, ⟨23, _⟩ => ⟨S_, .f32⟩
  | .hbm, ⟨24, _⟩ => ⟨S1x2048x8, .f32⟩
  | .hbm, ⟨25, _⟩ => ⟨S1x8x2048, .f32⟩
  | _, _ => ⟨S1x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Proof.Real.lean ====
module

public import Idealize.ShloMosaic.Lib.Pipeline.ValueKit
public import proofs.«01_k».proof.Defs

@[expose] public section

noncomputable section

namespace Cert.Real

open Idealize.ShloMosaic

abbrev S0 : Shape := ⟨0, ![]⟩

theorem real_of_lt (y : EReal) (h : BitVec.ofBool (decide (max y (-y) < ⊤)) = 1#1) : ∃ r : ℝ, y = (r : EReal) := by
  induction y using EReal.rec with
  | bot => simp at h
  | top => simp at h
  | coe r => exact ⟨r, rfl⟩

/-- An array that passes the finiteness test is an array of real numbers. -/
theorem of_finite {s : Shape} (hb : S0.BroadcastsInDim s (![] : Fin 0 → Fin s.rank)) (x : FVec Ideal s .f32)
    (h : cmpf .olt (Host.absf x) (broadcastInDim s ![] hb (constant S0 .f32 0x7F800000#32)) = fun _ => 1#1) :
    ∃ r : s.Idx → ℝ, ∀ i, x i = ((r i : ℝ) : EReal) := by
  have htop : Ideal.ofBits .f32 0x7F800000#32 = ⊤ := by simp [Ideal.ofBits, Ideal.ieee]
  have (i : s.Idx) : ∃ r : ℝ, x i = (r : EReal) := by
    have hi := congrFun h i
    revert hi
    pointwise
    rw [htop]
    exact fun hi => real_of_lt (x i) hi
  exact ⟨fun i => (this i).choose, fun i => (this i).choose_spec⟩

theorem half : Ideal.ofBits .f32 0x3F000000#32 = ((1 / 2 : ℝ) : EReal) := by
  simp [Ideal.ofBits, Ideal.ieee]
  rw [← EReal.coe_mul]; norm_num

/-- A finite sum of real numbers is a real number. -/
theorem sum_coe {ι : Type} [Fintype ι] (f : ι → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- The logistic function as the kernels spell it. -/
def SG (x : EReal) : EReal := Ideal.div 1 (1 + Ideal.exp (0 - x))

theorem SG_coe (r : ℝ) : SG (r : EReal) = ((1 / (1 + Real.exp (-r)) : ℝ) : EReal) := by
  have h : (1 + Real.exp (-r)) ≠ 0 := by positivity
  unfold SG
  rw [zero_sub, ← EReal.coe_neg, Ideal.exp_coe, ← EReal.coe_one, ← EReal.coe_add, Ideal.div_coe h, ← EReal.coe_mul, one_mul]

theorem SG_top : SG ⊤ = 1 := by
  have h : Ideal.exp (0 - ⊤) = 0 := by rw [zero_sub, EReal.neg_top]; rfl
  unfold SG
  rw [h, add_zero, ← EReal.coe_one, Ideal.div_coe one_ne_zero]
  simp

theorem SG_bot : SG ⊥ = 0 := by
  have h : Ideal.exp (0 - ⊥) = ⊤ := by rw [zero_sub, EReal.neg_bot]; rfl
  unfold SG
  rw [h, ← EReal.coe_one, EReal.coe_add_top]
  simp [Ideal.div]

/-- The gradient through `x · σ(x)`, grouped in two ways; `x` need not be finite. -/
theorem silu_grad (d b : ℝ) (x : EReal) :
    (d : EReal) * b * (SG x * (1 + x * (1 - SG x))) = (d : EReal) * b * SG x + x * ((d : EReal) * b) * (SG x * (1 - SG x)) := by
  induction x using EReal.rec with
  | bot => rw [SG_bot]; simp
  | top =>
    have h : (1 : EReal) - 1 = 0 := by rw [← EReal.coe_one, ← EReal.coe_sub, sub_self, EReal.coe_zero]
    rw [SG_top, h]; simp
  | coe r =>
    rw [SG_coe]
    norm_cast
    ring

/-- A sum over two axes of size one is the entry. -/
theorem sum_unit_axes {n : ℕ} (h : (⟨3, ![1, 1, n]⟩ : Shape).ReducesTo [0, 1] ⟨1, ![n]⟩) (x : (⟨3, ![1, 1, n]⟩ : Shape).Idx → EReal) (init : EReal) (q : Fin n) :
    Ideal.hostReduceAdd h x init (ix1 q) = init + x (ix3 0 0 q) := by
  unfold Ideal.hostReduceAdd
  have hv (i : (⟨3, ![1, 1, n]⟩ : Shape).Idx) : (h.drop i 0).val = (i 2).val := rfl
  rw [Finset.sum_eq_single_of_mem (ix3 0 0 q)]
  · simp only [Finset.mem_filter, Finset.mem_univ, true_and]
    funext b
    obtain rfl : b = 0 := Subsingleton.elim _ _
    rfl
  · intro i hi hne
    simp only [Finset.mem_filter, Finset.mem_univ, true_and] at hi
    exfalso
    apply hne
    have h2 : (i 2).val = q.val := congrArg Fin.val (congrFun hi 0)
    funext b
    match b with
    | 0 => exact Subsingleton.elim (α := Fin 1) _ _
    | 1 => exact Subsingleton.elim (α := Fin 1) _ _
    | 2 => exact Fin.ext h2

/-- A sum over a front and a back axis of size one is the entry. -/
theorem sum_unit_ends {n : ℕ} (h : (⟨3, ![1, n, 1]⟩ : Shape).ReducesTo [0, 2] ⟨1, ![n]⟩) (x : (⟨3, ![1, n, 1]⟩ : Shape).Idx → EReal) (init : EReal) (q : Fin n) :
    Ideal.hostReduceAdd h x init (ix1 q) = init + x (ix3 0 q 0) := by
  unfold Ideal.hostReduceAdd
  have hv (i : (⟨3, ![1, n, 1]⟩ : Shape).Idx) : (h.drop i 0).val = (i 1).val := rfl
  rw [Finset.sum_eq_single_of_mem (ix3 0 q 0)]
  · simp only [Finset.mem_filter, Finset.mem_univ, true_and]
    funext b
    obtain rfl : b = 0 := Subsingleton.elim _ _
    rfl
  · intro i hi hne
    simp only [Finset.mem_filter, Finset.mem_univ, true_and] at hi
    exfalso
    apply hne
    have h2 : (i 1).val = q.val := congrArg Fin.val (congrFun hi 0)
    funext b
    match b with
    | 0 => exact Subsingleton.elim (α := Fin 1) _ _
    | 1 => exact Fin.ext h2
    | 2 => exact Subsingleton.elim (α := Fin 1) _ _

/-! ## The norm -/

abbrev WIDTH : EReal := Ideal.ofBits FTy.f32 0x44800000#32
abbrev EPS : EReal := Ideal.ofBits FTy.f32 0x358637BD#32

theorem width : WIDTH = ((1024 : ℝ) : EReal) := by
  simp [Ideal.ofBits, Ideal.ieee]
  rw [← EReal.coe_mul]; norm_num

theorem eps : ∃ e : ℝ, 0 < e ∧ EPS = (e : EReal) := by
  refine ⟨8796093 * 2 ^ (-43 : ℤ), by positivity, ?_⟩
  simp [Ideal.ofBits, Ideal.ieee]

theorem neg_half : Ideal.ofBits FTy.f32 0xBF000000#32 = ((-(1 / 2) : ℝ) : EReal) := by
  simp [Ideal.ofBits, Ideal.ieee]
  rw [← EReal.coe_mul]; norm_num

theorem two : Ideal.ofBits FTy.f32 0x40000000#32 = ((2 : ℝ) : EReal) := by
  simp [Ideal.ofBits, Ideal.ieee]
  rw [← EReal.coe_mul]; norm_num

theorem inv_width : Ideal.ofBits FTy.f32 0x3A800000#32 = ((1 / 1024 : ℝ) : EReal) := by
  simp [Ideal.ofBits, Ideal.ieee]
  rw [← EReal.coe_mul]; norm_num

theorem div_width (x : EReal) : Ideal.div x WIDTH = x * ((1 / 1024 : ℝ) : EReal) := by
  rw [width, Ideal.div_coe (by norm_num)]

/-- The mean square of a row of real numbers and its inverse root. -/
theorem norm_row (f : Fin 1024 → ℝ) : ∃ A r : ℝ, 0 < A ∧ r * r * A = 1 ∧
    Ideal.div (∑ k, ((f k : ℝ) : EReal) * ((f k : ℝ) : EReal)) WIDTH + EPS = (A : EReal) ∧ Ideal.rsqrt (A : EReal) = (r : EReal) := by
  obtain ⟨e, he, hE⟩ := eps
  have hp : 0 < (∑ k, f k * f k) * (1 / 1024) + e := by
    have : 0 ≤ ∑ k, f k * f k := Finset.sum_nonneg fun k _ => mul_self_nonneg _
    positivity
  refine ⟨(∑ k, f k * f k) * (1 / 1024) + e, (Real.sqrt ((∑ k, f k * f k) * (1 / 1024) + e))⁻¹, hp, ?_, ?_, ?_⟩
  · rw [← mul_inv, Real.mul_self_sqrt hp.le, inv_mul_cancel₀ hp.ne']
  · simp only [← EReal.coe_mul]
    rw [div_width, sum_coe, hE, ← EReal.coe_mul, ← EReal.coe_add]
  · rw [Ideal.rsqrt_coe, if_neg (not_lt.mpr hp.le), if_neg hp.ne']

/-- The gradient of a norm, as two derivations spell it. -/
theorem norm_grad (A r : ℝ) (hA : 0 < A) (hr : r * r * A = 1) (f w : Fin 1024 → ℝ) (q : Fin 1024) :
    ((w q : EReal) * (r : EReal) + (f q : EReal) * Ideal.div ((∑ k, (f k : EReal) * (w k : EReal)) * (Ideal.ofBits FTy.f32 0xBF000000#32 * Ideal.div (r : EReal) (A : EReal))) WIDTH)
      + Ideal.div ((∑ k, (f k : EReal) * (w k : EReal)) * (Ideal.ofBits FTy.f32 0xBF000000#32 * Ideal.div (r : EReal) (A : EReal))) WIDTH * (f q : EReal)
    = (r : EReal) * ((w q : EReal) - (f q : EReal) * (r : EReal) * Ideal.div (∑ k, (w k : EReal) * ((f k : EReal) * (r : EReal))) WIDTH) := by
  simp only [div_width, Ideal.div_coe hA.ne', neg_half, ← EReal.coe_mul, sum_coe, ← EReal.coe_add, ← EReal.coe_sub]
  congr 1
  have h1 : ∑ k, w k * (f k * r) = (∑ k, f k * w k) * r := by
    rw [Finset.sum_mul]
    exact Finset.sum_congr rfl fun k _ => by ring
  have h2 : 1 / A = r * r := by rw [← hr]; field_simp
  rw [h1, h2]
  ring

end Cert.Real
-- ==== Proof.Act.lean ====
module

public import proofs.«01_k».proof.Defs
public import proofs.«01_k».proof.Proof.Gen.Kernel3Ideal.Frame
public import proofs.«01_k».proof.Proof.Gen.Reference3Ideal.Run
public import proofs.«01_k».proof.Proof.Real

@[expose] public section

set_option maxRecDepth 16384

noncomputable section

namespace Cert.Pre_finite3
instance facts : Facts where
  bcast_S_S1x2048x1024 := by decide
  bcast_S_S1x2048x2816 := by decide
  bcast_S_S1x2816x1024 := by decide
end Cert.Pre_finite3

namespace Cert.Kernel3Ideal.Value

open Idealize.ShloMosaic Idealize.ShloMosaic.TcCoe Idealize.SL.Sem
open Idealize.ShloMosaic.Pipeline (Dat)
open Cert.Real (SG)
open Cert.Kernel3Ideal Cert.Kernel3Ideal.Gen

variable (m : (ℓ : Loc nD τ sig) → Buf (Elt Ideal) ℓ)

/-- What the host makes of a result of the region: the four shards side by side. -/
def TL (A : FVec Ideal S4x2048x704 .bf16) : FVec Ideal S1x2048x2816 .f32 :=
  extf .f32 (shapeCast S1x2048x2816 (transpose S2048x4x704 [1, 0, 2] A transposes_S4x2048x704_S2048x4x704_1_0_2) shapeCasts_S2048x4x704_S1x2048x2816) bitsLt_bf16_f32

theorem inj : Function.Injective (Pipeline.arrRef spec0) := by decide +kernel

theorem tail4 (c : Dev nD) : Pipeline.afterTail₀ cfgs (dats m) 0 (V0 m) [hostOps1] c main_v27 = TL ((dats m 0 c).arrAt 4 (cfgs 0).N) := by
  unfold Pipeline.afterTail₀
  simp only [hostOps1, List.flatten_cons, List.flatten_nil, List.append_nil, List.cons_append]
  after_results
  exact congrArg TL (Pipeline.withArrays_arr spec0 inj c (V0 m c) (fun w => (dats m 0 c).arrAt w (cfgs 0).N) 4)

def ff (j : Fin 4) (f : Fin 704) : Fin 2816 := ⟨j.val * 704 + f.val, by omega⟩

theorem v0 (c : Dev nD) (t : Fin 2048) (k : Fin 1024) : V m c main_v0 (ix2 t k) = m ((c : Thread nD τ).loc main_arg0) (ix3 0 t k) := by
  simp only [V, V0, hostOps0, List.flatten_cons, List.flatten_nil, List.append_nil, List.cons_append, List.nil_append]
  after_results
  pointwise

theorem v15 (c : Dev nD) (j : Fin 4) (f : Fin 704) (k : Fin 1024) : V m c main_v15 (ix4 j 2 f k) = m ((c : Thread nD τ).loc main_arg5) (ix3 0 (ff j f) k) := by
  simp only [V, V0, hostOps0, List.flatten_cons, List.flatten_nil, List.append_nil, List.cons_append, List.nil_append]
  after_results
  pointwise
  after_results_simp
  pointwise [ff]

theorem v23 (c : Dev nD) (j : Fin 4) (t : Fin 2048) (f : Fin 704) : V m c main_v23 (ix3 j t f) = m ((c : Thread nD τ).loc main_arg2) (ix3 0 t (ff j f)) := by
  simp only [V, V0, hostOps0, List.flatten_cons, List.flatten_nil, List.append_nil, List.cons_append, List.nil_append]
  after_results
  pointwise [ff]

theorem v19 (c : Dev nD) (j : Fin 4) (t : Fin 2048) (f : Fin 704) : V m c main_v19 (ix3 j t f) = m ((c : Thread nD τ).loc main_arg1) (ix3 0 t (ff j f)) := by
  simp only [V, V0, hostOps0, List.flatten_cons, List.flatten_nil, List.append_nil, List.cons_append, List.nil_append]
  after_results
  pointwise [ff]

theorem idx : ∀ t : Fin cfg0.N, win0_0.index t = ![t.val % 4, 0] ∧ win0_1.index t = ![t.val / 4, 2, 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0] :=
  (by decide +kernel : ∀ t : Fin grid0.N, _)

def DS (dx : FVec Ideal S1x2048x1024 .f32) (wd : FVec Ideal S1x2816x1024 .f32) (t : Fin 2048) (q : Fin 2816) : EReal :=
  ∑ k : Fin 1024, Ideal.ofBits FTy.f32 1056964608#32 * dx (ix3 0 t k) * wd (ix3 0 q k)

def GA (dx : FVec Ideal S1x2048x1024 .f32) (a b : FVec Ideal S1x2048x2816 .f32) (wd : FVec Ideal S1x2816x1024 .f32) : FVec Ideal S4x2048x704 .bf16 := fun i =>
  DS dx wd (i 1) (ff (i 0) (i 2)) * b (ix3 0 (i 1) (ff (i 0) (i 2)))
    * (SG (a (ix3 0 (i 1) (ff (i 0) (i 2)))) * (1 + a (ix3 0 (i 1) (ff (i 0) (i 2))) * (1 - SG (a (ix3 0 (i 1) (ff (i 0) (i 2)))))))

def jj (t : Fin cfg0.N) : Fin 4 := ⟨t.val / 4, by have : t.val < 16 := t.isLt; omega⟩

def tt (t : Fin cfg0.N) (r : Fin 512) : Fin 2048 := ⟨t.val % 4 * 512 + r.val, by have : t.val < 16 := t.isLt; omega⟩

theorem b0 (c : Dev nD) (t : Fin cfg0.N) (r : Fin 512) (k : Fin 1024) : iblk m c 0 t (ix2 r k) = m ((c : Thread nD τ).loc main_arg0) (ix3 0 (tt t r) k) := by
  unfold iblk
  rw [View.read, cast_eq]
  exact (congrArg (V m c main_v0) (by blk_ext [idx t, tt])).trans (v0 m c (tt t r) k)

theorem b1 (c : Dev nD) (t : Fin cfg0.N) (f : Fin 704) (k : Fin 1024) : iblk m c 1 t (ix4 0 0 f k) = m ((c : Thread nD τ).loc main_arg5) (ix3 0 (ff (jj t) f) k) := by
  unfold iblk
  rw [View.read, cast_eq]
  exact (congrArg (V m c main_v15) (by blk_ext [idx t, jj])).trans (v15 m c (jj t) f k)

theorem b2 (c : Dev nD) (t : Fin cfg0.N) (a : Fin 1) (r : Fin 512) (f : Fin 704) : iblk m c 2 t (ix3 a r f) = m ((c : Thread nD τ).loc main_arg1) (ix3 0 (tt t r) (ff (jj t) f)) := by
  unfold iblk
  rw [View.read, cast_eq]
  exact (congrArg (V m c main_v19) (by blk_ext [idx t, tt, jj])).trans (v19 m c (jj t) (tt t r) f)

theorem b3 (c : Dev nD) (t : Fin cfg0.N) (a : Fin 1) (r : Fin 512) (f : Fin 704) : iblk m c 3 t (ix3 a r f) = m ((c : Thread nD τ).loc main_arg2) (ix3 0 (tt t r) (ff (jj t) f)) := by
  unfold iblk
  rw [View.read, cast_eq]
  exact (congrArg (V m c main_v23) (by blk_ext [idx t, tt, jj])).trans (v23 m c (jj t) (tt t r) f)

theorem emb4 (t : Fin cfg0.N) (a : Fin 1) (r : Fin 512) (f : Fin 704) : ((cfg0.win 4).blk t).view.emb (ix3 a r f) = ix3 (jj t) (tt t r) f := by
  blk_ext [idx t, tt, jj]

theorem emb5 (t : Fin cfg0.N) (a : Fin 1) (r : Fin 512) (f : Fin 704) : ((cfg0.win 5).blk t).view.emb (ix3 a r f) = ix3 (jj t) (tt t r) f := by
  blk_ext [idx t, tt, jj]

theorem point4 (c : Dev nD) (t : Fin cfg0.N) (y) : k0_pay5 (iblk m c 0 t) (iblk m c 1 t) (iblk m c 2 t) (iblk m c 3 t) y
    = GA (m ((c : Thread nD τ).loc main_arg0)) (m ((c : Thread nD τ).loc main_arg1)) (m ((c : Thread nD τ).loc main_arg2)) (m ((c : Thread nD τ).loc main_arg5)) (((cfg0.win 4).blk t).view.emb y) := by
  idx_vars y
  rw [emb4]
  pointwise [k0_pay5, k0_pay4, k0_pay3, k0_pay2]
  simp only [b0, b1, b2, b3]
  rfl

theorem fin4 (c : Dev nD) : (dats m 0 c).arrAt 4 (cfgs 0).N
    = GA (m ((c : Thread nD τ).loc main_arg0)) (m ((c : Thread nD τ).loc main_arg1)) (m ((c : Thread nD τ).loc main_arg2)) (m ((c : Thread nD τ).loc main_arg5)) := by
  refine (dats m 0 c).arrAt_eq_of_covers 4 _ (by decide +kernel) fun t _ y => ?_
  blk_simp
  rw [after0_4]; frame_out
  exact point4 m c t y

def GB (dx : FVec Ideal S1x2048x1024 .f32) (a : FVec Ideal S1x2048x2816 .f32) (wd : FVec Ideal S1x2816x1024 .f32) : FVec Ideal S4x2048x704 .bf16 := fun i =>
  DS dx wd (i 1) (ff (i 0) (i 2)) * (a (ix3 0 (i 1) (ff (i 0) (i 2))) * SG (a (ix3 0 (i 1) (ff (i 0) (i 2)))))

theorem point5 (c : Dev nD) (t : Fin cfg0.N) (y) : k0_pay1 (k0_pay6 (iblk m c 0 t) (iblk m c 1 t) (iblk m c 2 t)) y
    = GB (m ((c : Thread nD τ).loc main_arg0)) (m ((c : Thread nD τ).loc main_arg1)) (m ((c : Thread nD τ).loc main_arg5)) (((cfg0.win 5).blk t).view.emb y) := by
  idx_vars y
  rw [emb5]
  pointwise [k0_pay1, k0_pay6, k0_pay4, k0_pay3, k0_pay2]
  simp only [b0, b1, b2, b3]
  rfl

theorem fin5 (c : Dev nD) : (dats m 0 c).arrAt 5 (cfgs 0).N
    = GB (m ((c : Thread nD τ).loc main_arg0)) (m ((c : Thread nD τ).loc main_arg1)) (m ((c : Thread nD τ).loc main_arg5)) := by
  refine (dats m 0 c).arrAt_eq_of_covers 5 _ (by decide +kernel) fun t _ y => ?_
  blk_simp
  rw [after0_5]; frame_out
  exact point5 m c t y

theorem tail5 (c : Dev nD) : Pipeline.afterTail₀ cfgs (dats m) 0 (V0 m) [hostOps1] c main_v30 = TL ((dats m 0 c).arrAt 5 (cfgs 0).N) := by
  unfold Pipeline.afterTail₀
  simp only [hostOps1, List.flatten_cons, List.flatten_nil, List.append_nil, List.cons_append]
  after_results
  exact congrArg TL (Pipeline.withArrays_arr spec0 inj c (V0 m c) (fun w => (dats m 0 c).arrAt w (cfgs 0).N) 5)

theorem TL_at (A : FVec Ideal S4x2048x704 .bf16) (z : Fin 1) (t : Fin 2048) (q : Fin 2816) :
    TL A (ix3 z t q) = A (ix3 ⟨q.val / 704, by omega⟩ t ⟨q.val % 704, by omega⟩) := by
  pointwise [TL]

/-- The reference's two results, as it computes them. -/
def RA (dx : FVec Ideal S1x2048x1024 .f32) (a b : FVec Ideal S1x2048x2816 .f32) (wd : FVec Ideal S1x2816x1024 .f32) : FVec Ideal S1x2048x2816 .f32 :=
  addf (mulf (mulf (Host.dotGeneral Cert.Reference3Ideal.dot_S1x2048x1024_S2816x1024_S1x2048x2816_2_1_01_0_n_n none (mulf (broadcastInDim Cert.Reference3Ideal.S1x2048x1024 ![] Cert.Reference3Ideal.Gen.bcast_S_S1x2048x1024 (constant Cert.Reference3Ideal.S_ .f32 0x3F000000#32)) dx) (shapeCast _ wd Cert.Reference3Ideal.Gen.shapeCasts_S1x2816x1024_S2816x1024)) b) (Host.divf (broadcastInDim Cert.Reference3Ideal.S1x2048x2816 ![] Cert.Reference3Ideal.Gen.bcast_S_S1x2048x2816 (constant Cert.Reference3Ideal.S_ .f32 0x3F800000#32)) (addf (broadcastInDim Cert.Reference3Ideal.S1x2048x2816 ![] Cert.Reference3Ideal.Gen.bcast_S_S1x2048x2816 (constant Cert.Reference3Ideal.S_ .f32 0x3F800000#32)) (Host.exp (Host.negf a))))) (mulf (mulf a (mulf (Host.dotGeneral Cert.Reference3Ideal.dot_S1x2048x1024_S2816x1024_S1x2048x2816_2_1_01_0_n_n none (mulf (broadcastInDim Cert.Reference3Ideal.S1x2048x1024 ![] Cert.Reference3Ideal.Gen.bcast_S_S1x2048x1024 (constant Cert.Reference3Ideal.S_ .f32 0x3F000000#32)) dx) (shapeCast _ wd Cert.Reference3Ideal.Gen.shapeCasts_S1x2816x1024_S2816x1024)) b)) (mulf (Host.divf (broadcastInDim Cert.Reference3Ideal.S1x2048x2816 ![] Cert.Reference3Ideal.Gen.bcast_S_S1x2048x2816 (constant Cert.Reference3Ideal.S_ .f32 0x3F800000#32)) (addf (broadcastInDim Cert.Reference3Ideal.S1x2048x2816 ![] Cert.Reference3Ideal.Gen.bcast_S_S1x2048x2816 (constant Cert.Reference3Ideal.S_ .f32 0x3F800000#32)) (Host.exp (Host.negf a)))) (subf (broadcastInDim Cert.Reference3Ideal.S1x2048x2816 ![] Cert.Reference3Ideal.Gen.bcast_S_S1x2048x2816 (constant Cert.Reference3Ideal.S_ .f32 0x3F800000#32)) (Host.divf (broadcastInDim Cert.Reference3Ideal.S1x2048x2816 ![] Cert.Reference3Ideal.Gen.bcast_S_S1x2048x2816 (constant Cert.Reference3Ideal.S_ .f32 0x3F800000#32)) (addf (broadcastInDim Cert.Reference3Ideal.S1x2048x2816 ![] Cert.Reference3Ideal.Gen.bcast_S_S1x2048x2816 (constant Cert.Reference3Ideal.S_ .f32 0x3F800000#32)) (Host.exp (Host.negf a)))))))

def RB (dx : FVec Ideal S1x2048x1024 .f32) (a b : FVec Ideal S1x2048x2816 .f32) (wd : FVec Ideal S1x2816x1024 .f32) : FVec Ideal S1x2048x2816 .f32 :=
  mulf (mulf a (Host.divf (broadcastInDim Cert.Reference3Ideal.S1x2048x2816 ![] Cert.Reference3Ideal.Gen.bcast_S_S1x2048x2816 (constant Cert.Reference3Ideal.S_ .f32 0x3F800000#32)) (addf (broadcastInDim Cert.Reference3Ideal.S1x2048x2816 ![] Cert.Reference3Ideal.Gen.bcast_S_S1x2048x2816 (constant Cert.Reference3Ideal.S_ .f32 0x3F800000#32)) (Host.exp (Host.negf a))))) (Host.dotGeneral Cert.Reference3Ideal.dot_S1x2048x1024_S2816x1024_S1x2048x2816_2_1_01_0_n_n none (mulf (broadcastInDim Cert.Reference3Ideal.S1x2048x1024 ![] Cert.Reference3Ideal.Gen.bcast_S_S1x2048x1024 (constant Cert.Reference3Ideal.S_ .f32 0x3F000000#32)) dx) (shapeCast _ wd Cert.Reference3Ideal.Gen.shapeCasts_S1x2816x1024_S2816x1024))

theorem RA_at (dx : FVec Ideal S1x2048x1024 .f32) (a b : FVec Ideal S1x2048x2816 .f32) (wd : FVec Ideal S1x2816x1024 .f32) (t : Fin 2048) (q : Fin 2816) :
    RA dx a b wd (ix3 0 t q) = DS dx wd t q * b (ix3 0 t q) * SG (a (ix3 0 t q))
      + a (ix3 0 t q) * (DS dx wd t q * b (ix3 0 t q)) * (SG (a (ix3 0 t q)) * (1 - SG (a (ix3 0 t q)))) := by
  pointwise [RA]
  simp only [SG, zero_sub]
  rfl

theorem RB_at (dx : FVec Ideal S1x2048x1024 .f32) (a b : FVec Ideal S1x2048x2816 .f32) (wd : FVec Ideal S1x2816x1024 .f32) (t : Fin 2048) (q : Fin 2816) :
    RB dx a b wd (ix3 0 t q) = a (ix3 0 t q) * SG (a (ix3 0 t q)) * DS dx wd t q := by
  pointwise [RB]
  simp only [SG, zero_sub]
  rfl

theorem ff_eq (q : Fin 2816) : ff ⟨q.val / 704, by omega⟩ ⟨q.val % 704, by omega⟩ = q := by
  apply Fin.ext
  show q.val / 704 * 704 + q.val % 704 = q.val
  omega

theorem DS_real (dx : FVec Ideal S1x2048x1024 .f32) (wd : FVec Ideal S1x2816x1024 .f32) (x : S1x2048x1024.Idx → ℝ) (w : S1x2816x1024.Idx → ℝ)
    (hx : ∀ i, dx i = (x i : EReal)) (hw : ∀ i, wd i = (w i : EReal)) (t : Fin 2048) (q : Fin 2816) :
    DS dx wd t q = ((∑ k : Fin 1024, 1 / 2 * x (ix3 0 t k) * w (ix3 0 q k) : ℝ) : EReal) := by
  rw [← Cert.Real.sum_coe]
  refine Finset.sum_congr rfl fun k _ => ?_
  rw [Cert.Real.half, hx, hw, ← EReal.coe_mul, ← EReal.coe_mul]

theorem RA_eq (dx : FVec Ideal S1x2048x1024 .f32) (a b : FVec Ideal S1x2048x2816 .f32) (wd : FVec Ideal S1x2816x1024 .f32)
    (h : ∃ x : S1x2048x1024.Idx → ℝ, ∀ i, dx i = (x i : EReal)) (hb : ∃ x : S1x2048x2816.Idx → ℝ, ∀ i, b i = (x i : EReal))
    (hw : ∃ x : S1x2816x1024.Idx → ℝ, ∀ i, wd i = (x i : EReal)) : RA dx a b wd = TL (GA dx a b wd) := by
  obtain ⟨x, hx⟩ := h
  obtain ⟨y, hy⟩ := hb
  obtain ⟨w, hw⟩ := hw
  funext i
  idx_vars i
  obtain rfl : i0 = 0 := Subsingleton.elim _ _
  rw [RA_at, TL_at]
  show _ = DS dx wd i1 (ff ⟨i2.val / 704, _⟩ ⟨i2.val % 704, _⟩) * b (ix3 0 i1 (ff ⟨i2.val / 704, _⟩ ⟨i2.val % 704, _⟩)) * (SG (a (ix3 0 i1 (ff ⟨i2.val / 704, _⟩ ⟨i2.val % 704, _⟩))) * (1 + a (ix3 0 i1 (ff ⟨i2.val / 704, _⟩ ⟨i2.val % 704, _⟩)) * (1 - SG (a (ix3 0 i1 (ff ⟨i2.val / 704, _⟩ ⟨i2.val % 704, _⟩))))))
  rw [ff_eq, DS_real dx wd x w hx hw, hy]
  exact (Cert.Real.silu_grad _ _ _).symm

theorem RB_eq (dx : FVec Ideal S1x2048x1024 .f32) (a b : FVec Ideal S1x2048x2816 .f32) (wd : FVec Ideal S1x2816x1024 .f32) :
    RB dx a b wd = TL (GB dx a wd) := by
  funext i
  idx_vars i
  obtain rfl : i0 = 0 := Subsingleton.elim _ _
  rw [RB_at, TL_at]
  show _ = DS dx wd i1 (ff ⟨i2.val / 704, _⟩ ⟨i2.val % 704, _⟩) * (a (ix3 0 i1 (ff ⟨i2.val / 704, _⟩ ⟨i2.val % 704, _⟩)) * SG (a (ix3 0 i1 (ff ⟨i2.val / 704, _⟩ ⟨i2.val % 704, _⟩))))
  rw [ff_eq, mul_comm]

theorem algebraic : Cert.algebraic_Kernel3Ideal_Reference3Ideal_pre_finite3 := by
  pair_intro
  · run_from Cert.Kernel3Ideal.Gen.run_main m g & Cert.Kernel3Ideal.Gen.unchanged m g
  · run_from Cert.Reference3Ideal.Value.run m' g'
    · rw [tail4, fin4]
      obtain ⟨h0, h1, h2⟩ := hpre c
      exact RA_eq _ _ _ _ (Cert.Real.of_finite _ _ h0) (Cert.Real.of_finite _ _ h1) (Cert.Real.of_finite _ _ h2)
    · rw [tail5, fin5]
      exact RB_eq _ _ (m ((c : Thread nD τ).loc main_arg2)) _

end Cert.Kernel3Ideal.Value
-- ==== Proof.ChannelGate.lean ====
module

public import proofs.«01_k».proof.Defs
public import proofs.«01_k».proof.Proof.Gen.Kernel4Ideal.Frame
public import proofs.«01_k».proof.Proof.Gen.Reference4Ideal.Run
public import proofs.«01_k».proof.Proof.Real

@[expose] public section

set_option maxRecDepth 16384

noncomputable section

namespace Cert.Reference4Ideal.Value

open Idealize.ShloMosaic
open Cert.Real (SG)
open Cert.Reference4Ideal Cert.Reference4Ideal.Gen

/-- The gradient of the gated sum: the cotangent times the transposed output weight. -/
def DMs (dx : FVec Ideal S1x2048x1024 .f32) (wo : FVec Ideal S1x1024x1024 .f32) (t : Fin 2048) (q : Fin 1024) : EReal :=
  ∑ k : Fin 1024, dx (ix3 0 t k) * wo (ix3 0 q k)

/-- A gate. -/
def GT (p : FVec Ideal S1x2048x2048 .f32) (bg : FVec Ideal S1x2048 .f32) (t : Fin 2048) (q : Fin 2048) : EReal :=
  SG (p (ix3 0 t q) + bg (ix2 0 q))

def DM (dx : FVec Ideal S1x2048x1024 .f32) (wo : FVec Ideal S1x1024x1024 .f32) : FVec Ideal S1x2048x1024 .f32 :=
  Host.dotGeneral dot_S1x2048x1024_S1024x1024_S1x2048x1024_2_1_01_0_n_n none dx (shapeCast _ wo shapeCasts_S1x1024x1024_S1024x1024)

def ONE : FVec Ideal S1x2048x2048 .f32 := broadcastInDim S1x2048x2048 ![] bcast_S_S1x2048x2048 (constant S_ .f32 0x3F800000#32)

def SGV (p : FVec Ideal S1x2048x2048 .f32) (bg : FVec Ideal S1x2048 .f32) : FVec Ideal S1x2048x2048 .f32 :=
  Host.divf ONE (addf ONE (Host.exp (Host.negf (addf p (broadcastInDim S1x2048x2048 ![0, 1, 2] bcast_S1x1x2048_S1x2048x2048_0_1_2 (broadcastInDim S1x1x2048 ![2] bcast_S2048_S1x1x2048_2 (shapeCast _ bg shapeCasts_S1x2048_S2048)))))))

def RP (dx : FVec Ideal S1x2048x1024 .f32) (p : FVec Ideal S1x2048x2048 .f32) (bg : FVec Ideal S1x2048 .f32) (ua ub : FVec Ideal S1x2048x1024 .f32) (wo : FVec Ideal S1x1024x1024 .f32) : FVec Ideal S1x2048x2048 .f32 :=
  mulf (concatenate S1x2048x2048 2 [⟨S1x2048x1024, (mulf (DM dx wo) ua)⟩, ⟨S1x2048x1024, (mulf (DM dx wo) ub)⟩] concatenates_S1x2048x1024_S1x2048x1024_S1x2048x2048_d2) (mulf (SGV p bg) (subf ONE (SGV p bg)))

def RB (P : FVec Ideal S1x2048x2048 .f32) : FVec Ideal S1x2048 .f32 :=
  broadcastInDim S1x2048 ![1] bcast_S2048_S1x2048_1 (Host.reduceAdd (shapeCast _ (Host.reduceAdd P (constant S_ .f32 0x00000000#32) reducesTo_S1x2048x2048_S1x2048_d1 h_S_) shapeCasts_S1x2048_S1x1x2048) (constant S_ .f32 0x00000000#32) reducesTo_S1x1x2048_S2048_d0_1 h_S_)

def RU (dx : FVec Ideal S1x2048x1024 .f32) (p : FVec Ideal S1x2048x2048 .f32) (bg : FVec Ideal S1x2048 .f32) (wo : FVec Ideal S1x1024x1024 .f32) : FVec Ideal S1x2048x1024 .f32 :=
  mulf (extractStridedSlice S1x2048x1024 ![0, 0, 0] (SGV p bg) slices_S1x2048x2048_S1x2048x1024_0_0_0) (DM dx wo)

def RV (dx : FVec Ideal S1x2048x1024 .f32) (p : FVec Ideal S1x2048x2048 .f32) (bg : FVec Ideal S1x2048 .f32) (wo : FVec Ideal S1x1024x1024 .f32) : FVec Ideal S1x2048x1024 .f32 :=
  mulf (extractStridedSlice S1x2048x1024 ![0, 0, 1024] (SGV p bg) slices_S1x2048x2048_S1x2048x1024_0_0_1024) (DM dx wo)

theorem DM_at (dx : FVec Ideal S1x2048x1024 .f32) (wo : FVec Ideal S1x1024x1024 .f32) (t : Fin 2048) (q : Fin 1024) :
    DM dx wo (ix3 0 t q) = DMs dx wo t q := by
  pointwise [DM]
  rfl

theorem SGV_at (p : FVec Ideal S1x2048x2048 .f32) (bg : FVec Ideal S1x2048 .f32) (t : Fin 2048) (q : Fin 2048) :
    SGV p bg (ix3 0 t q) = GT p bg t q := by
  pointwise [SGV, ONE]
  simp only [GT, SG, zero_sub]

theorem ONE_at (i) : ONE i = 1 := by
  pointwise [ONE]

def lo (q : Fin 1024) : Fin 2048 := ⟨q.val, by omega⟩
def hi (q : Fin 1024) : Fin 2048 := ⟨1024 + q.val, by omega⟩

theorem RU_at (dx : FVec Ideal S1x2048x1024 .f32) (p : FVec Ideal S1x2048x2048 .f32) (bg : FVec Ideal S1x2048 .f32) (wo : FVec Ideal S1x1024x1024 .f32) (t : Fin 2048) (q : Fin 1024) :
    RU dx p bg wo (ix3 0 t q) = GT p bg t (lo q) * DMs dx wo t q := by
  pointwise [RU]
  rw [SGV_at, DM_at]; rfl

theorem RV_at (dx : FVec Ideal S1x2048x1024 .f32) (p : FVec Ideal S1x2048x2048 .f32) (bg : FVec Ideal S1x2048 .f32) (wo : FVec Ideal S1x1024x1024 .f32) (t : Fin 2048) (q : Fin 1024) :
    RV dx p bg wo (ix3 0 t q) = GT p bg t (hi q) * DMs dx wo t q := by
  pointwise [RV]
  rw [SGV_at, DM_at]; rfl

theorem RP_at (dx : FVec Ideal S1x2048x1024 .f32) (p : FVec Ideal S1x2048x2048 .f32) (bg : FVec Ideal S1x2048 .f32) (ua ub : FVec Ideal S1x2048x1024 .f32) (wo : FVec Ideal S1x1024x1024 .f32) (t : Fin 2048) (q : Fin 2048) :
    RP dx p bg ua ub wo (ix3 0 t q) = (if h : q.val < 1024 then DMs dx wo t ⟨q.val, h⟩ * ua (ix3 0 t ⟨q.val, h⟩) else DMs dx wo t ⟨q.val - 1024, by omega⟩ * ub (ix3 0 t ⟨q.val - 1024, by omega⟩)) * (GT p bg t q * (1 - GT p bg t q)) := by
  pointwise [RP]
  simp only [DM_at, SGV_at, ONE_at]

theorem RB_at (P : FVec Ideal S1x2048x2048 .f32) (q : Fin 2048) :
    RB P (ix2 0 q) = ∑ t : Fin 2048, P (ix3 0 t q) := by
  pointwise [RB]
  rw [Cert.Real.sum_unit_axes]
  pointwise

end Cert.Reference4Ideal.Value

namespace Cert.Kernel4Ideal.Value

open Idealize.ShloMosaic Idealize.ShloMosaic.TcCoe Idealize.SL.Sem
open Idealize.ShloMosaic.Pipeline (Dat)
open Cert.Real (SG)
open Cert.Reference4Ideal.Value (DMs GT lo hi RP RB RU RV RP_at RB_at RU_at RV_at)
open Cert.Kernel4Ideal Cert.Kernel4Ideal.Gen

variable (m : (ℓ : Loc nD τ sig) → Buf (Elt Ideal) ℓ)

abbrev a0 (c : Dev nD) : FVec Ideal S1x2048x1024 .f32 := m ((c : Thread nD τ).loc main_arg0)
abbrev a1 (c : Dev nD) : FVec Ideal S1x2048x2048 .f32 := m ((c : Thread nD τ).loc main_arg1)
abbrev a2 (c : Dev nD) : FVec Ideal S1x2048 .f32 := m ((c : Thread nD τ).loc main_arg2)
abbrev a3 (c : Dev nD) : FVec Ideal S1x2048x1024 .f32 := m ((c : Thread nD τ).loc main_arg3)
abbrev a4 (c : Dev nD) : FVec Ideal S1x2048x1024 .f32 := m ((c : Thread nD τ).loc main_arg4)
abbrev a5 (c : Dev nD) : FVec Ideal S1x1024x1024 .f32 := m ((c : Thread nD τ).loc main_arg5)

/-- What the host makes of a result of the region: a unit axis in front. -/
def TU (A : FVec Ideal S2048x1024 .bf16) : FVec Ideal S1x2048x1024 .f32 :=
  extf .f32 (broadcastInDim S1x2048x1024 ![1, 2] bcast_S2048x1024_S1x2048x1024_1_2 A) bitsLt_bf16_f32

/-- The two halves of the pre-activation's gradient side by side. -/
def TP (A B : FVec Ideal S2048x1024 .bf16) : FVec Ideal S1x2048x2048 .f32 :=
  extf .f32 (broadcastInDim S1x2048x2048 ![1, 2] bcast_S2048x2048_S1x2048x2048_1_2 (concatenate S2048x2048 1 [⟨S2048x1024, A⟩, ⟨S2048x1024, B⟩] concatenates_S2048x1024_S2048x1024_S2048x2048_d1)) bitsLt_bf16_f32

/-- The two halves of the bias's gradient side by side. -/
def TB (A B : FVec Ideal S1x1024 .f32) : FVec Ideal S1x2048 .f32 :=
  concatenate S1x2048 1 [⟨S1x1024, A⟩, ⟨S1x1024, B⟩] concatenates_S1x1024_S1x1024_S1x2048_d1

theorem arr (c : Dev nD) (w : Fin 12) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

theorem tail14 (c : Dev nD) : Pipeline.afterTail₀ cfgs (dats m) 0 (V0 m) [hostOps1] c main_v14 = TU ((dats m 0 c).arrAt 6 (cfgs 0).N) := by
  unfold Pipeline.afterTail₀
  simp only [hostOps1, List.flatten_cons, List.flatten_nil, List.append_nil, List.cons_append]
  after_results
  exact congrArg TU (arr m c 6)

theorem tail16 (c : Dev nD) : Pipeline.afterTail₀ cfgs (dats m) 0 (V0 m) [hostOps1] c main_v16 = TU ((dats m 0 c).arrAt 7 (cfgs 0).N) := by
  unfold Pipeline.afterTail₀
  simp only [hostOps1, List.flatten_cons, List.flatten_nil, List.append_nil, List.cons_append]
  after_results
  exact congrArg TU (arr m c 7)

theorem tail11 (c : Dev nD) : Pipeline.afterTail₀ cfgs (dats m) 0 (V0 m) [hostOps1] c main_v11 = TP ((dats m 0 c).arrAt 8 (cfgs 0).N) ((dats m 0 c).arrAt 9 (cfgs 0).N) := by
  unfold Pipeline.afterTail₀
  simp only [hostOps1, List.flatten_cons, List.flatten_nil, List.append_nil, List.cons_append]
  after_results
  exact congrArg₂ TP (arr m c 8) (arr m c 9)

theorem tail12 (c : Dev nD) : Pipeline.afterTail₀ cfgs (dats m) 0 (V0 m) [hostOps1] c main_v12 = TB ((dats m 0 c).arrAt 10 (cfgs 0).N) ((dats m 0 c).arrAt 11 (cfgs 0).N) := by
  unfold Pipeline.afterTail₀
  simp only [hostOps1, List.flatten_cons, List.flatten_nil, List.append_nil, List.cons_append]
  after_results
  exact congrArg₂ TB (arr m c 10) (arr m c 11)

theorem v0 (c : Dev nD) (t : Fin 2048) (k : Fin 1024) : V m c main_v0 (ix2 t k) = a0 m c (ix3 0 t k) := by
  simp only [V, V0, hostOps0, List.flatten_cons, List.flatten_nil, List.append_nil, List.cons_append, List.nil_append]
  after_results
  pointwise

theorem v2 (c : Dev nD) (t : Fin 1024) (k : Fin 1024) : V m c main_v2 (ix2 t k) = a5 m c (ix3 0 t k) := by
  simp only [V, V0, hostOps0, List.flatten_cons, List.flatten_nil, List.append_nil, List.cons_append, List.nil_append]
  after_results
  pointwise

theorem v5 (c : Dev nD) (t : Fin 2048) (k : Fin 2048) : V m c main_v5 (ix2 t k) = a1 m c (ix3 0 t k) + a2 m c (ix2 0 k) := by
  simp only [V, V0, hostOps0, List.flatten_cons, List.flatten_nil, List.append_nil, List.cons_append, List.nil_append]
  after_results
  pointwise

theorem v6 (c : Dev nD) (t : Fin 2048) (k : Fin 1024) : V m c main_v6 (ix2 t k) = a3 m c (ix3 0 t k) := by
  simp only [V, V0, hostOps0, List.flatten_cons, List.flatten_nil, List.append_nil, List.cons_append, List.nil_append]
  after_results
  pointwise

theorem v7 (c : Dev nD) (t : Fin 2048) (k : Fin 1024) : V m c main_v7 (ix2 t k) = a4 m c (ix3 0 t k) := by
  simp only [V, V0, hostOps0, List.flatten_cons, List.flatten_nil, List.append_nil, List.cons_append, List.nil_append]
  after_results
  pointwise

theorem idx : ∀ t : Fin cfg0.N, win0_0.index t = ![t.val % 4, 0] ∧ win0_1.index t = ![t.val / 4, 0]
    ∧ win0_2.index t = ![t.val % 4, t.val / 4] ∧ win0_3.index t = ![t.val % 4, 2 + t.val / 4]
    ∧ win0_4.index t = ![t.val % 4, t.val / 4] ∧ win0_5.index t = ![t.val % 4, t.val / 4]
    ∧ win0_6.index t = ![t.val % 4, t.val / 4] ∧ win0_7.index t = ![t.val % 4, t.val / 4]
    ∧ win0_8.index t = ![t.val % 4, t.val / 4] ∧ win0_9.index t = ![t.val % 4, t.val / 4]
    ∧ win0_10.index t = ![0, t.val / 4] ∧ win0_11.index t = ![0, t.val / 4] :=
  (by decide +kernel : ∀ t : Fin grid0.N, _)

def tt (t : Fin cfg0.N) (r : Fin 512) : Fin 2048 := ⟨t.val % 4 * 512 + r.val, by have : t.val < 8 := t.isLt; omega⟩
def cc (t : Fin cfg0.N) (f : Fin 512) : Fin 1024 := ⟨t.val / 4 * 512 + f.val, by have : t.val < 8 := t.isLt; omega⟩

theorem b0 (c : Dev nD) (t : Fin cfg0.N) (r : Fin 512) (k : Fin 1024) : iblk m c 0 t (ix2 r k) = a0 m c (ix3 0 (tt t r) k) := by
  unfold iblk
  rw [View.read, cast_eq]
  exact (congrArg (V m c main_v0) (by blk_ext [idx t, tt])).trans (v0 m c (tt t r) k)

theorem b1 (c : Dev nD) (t : Fin cfg0.N) (f : Fin 512) (k : Fin 1024) : iblk m c 1 t (ix2 f k) = a5 m c (ix3 0 (cc t f) k) := by
  unfold iblk
  rw [View.read, cast_eq]
  exact (congrArg (V m c main_v2) (by blk_ext [idx t, cc])).trans (v2 m c (cc t f) k)

theorem b2 (c : Dev nD) (t : Fin cfg0.N) (r : Fin 512) (f : Fin 512) : iblk m c 2 t (ix2 r f) = a1 m c (ix3 0 (tt t r) (lo (cc t f))) + a2 m c (ix2 0 (lo (cc t f))) := by
  unfold iblk
  rw [View.read, cast_eq]
  exact (congrArg (V m c main_v5) (by blk_ext [idx t, tt, cc, lo])).trans (v5 m c (tt t r) (lo (cc t f)))

theorem b3 (c : Dev nD) (t : Fin cfg0.N) (r : Fin 512) (f : Fin 512) : iblk m c 3 t (ix2 r f) = a1 m c (ix3 0 (tt t r) (hi (cc t f))) + a2 m c (ix2 0 (hi (cc t f))) := by
  unfold iblk
  rw [View.read, cast_eq]
  exact (congrArg (V m c main_v5) (by blk_ext [idx t, tt, cc, hi])).trans (v5 m c (tt t r) (hi (cc t f)))

theorem b4 (c : Dev nD) (t : Fin cfg0.N) (r : Fin 512) (f : Fin 512) : iblk m c 4 t (ix2 r f) = a3 m c (ix3 0 (tt t r) (cc t f)) := by
  unfold iblk
  rw [View.read, cast_eq]
  exact (congrArg (V m c main_v6) (by blk_ext [idx t, tt, cc])).trans (v6 m c (tt t r) (cc t f))

theorem b5 (c : Dev nD) (t : Fin cfg0.N) (r : Fin 512) (f : Fin 512) : iblk m c 5 t (ix2 r f) = a4 m c (ix3 0 (tt t r) (cc t f)) := by
  unfold iblk
  rw [View.read, cast_eq]
  exact (congrArg (V m c main_v7) (by blk_ext [idx t, tt, cc])).trans (v7 m c (tt t r) (cc t f))

theorem emb6 (t : Fin cfg0.N) (r f : Fin 512) : ((cfg0.win 6).blk t).view.emb (ix2 r f) = ix2 (tt t r) (cc t f) := by blk_ext [idx t, tt, cc]
theorem emb7 (t : Fin cfg0.N) (r f : Fin 512) : ((cfg0.win 7).blk t).view.emb (ix2 r f) = ix2 (tt t r) (cc t f) := by blk_ext [idx t, tt, cc]
theorem emb8 (t : Fin cfg0.N) (r f : Fin 512) : ((cfg0.win 8).blk t).view.emb (ix2 r f) = ix2 (tt t r) (cc t f) := by blk_ext [idx t, tt, cc]
theorem emb9 (t : Fin cfg0.N) (r f : Fin 512) : ((cfg0.win 9).blk t).view.emb (ix2 r f) = ix2 (tt t r) (cc t f) := by blk_ext [idx t, tt, cc]
theorem emb10 (t : Fin cfg0.N) (z : Fin 1) (f : Fin 512) : ((cfg0.win 10).blk t).view.emb (ix2 z f) = ix2 0 (cc t f) := by blk_ext [idx t, cc]
theorem emb11 (t : Fin cfg0.N) (z : Fin 1) (f : Fin 512) : ((cfg0.win 11).blk t).view.emb (ix2 z f) = ix2 0 (cc t f) := by blk_ext [idx t, cc]

/-- A gradient of the gate's pre-activation, as the kernel multiplies it out. -/
def EP (dx : FVec Ideal S1x2048x1024 .f32) (p : FVec Ideal S1x2048x2048 .f32) (bg : FVec Ideal S1x2048 .f32) (u : FVec Ideal S1x2048x1024 .f32) (wo : FVec Ideal S1x1024x1024 .f32) (h : Fin 1024 → Fin 2048) (t : Fin 2048) (q : Fin 1024) : EReal :=
  DMs dx wo t q * u (ix3 0 t q) * GT p bg t (h q) * (1 - GT p bg t (h q))

def EU (dx : FVec Ideal S1x2048x1024 .f32) (p : FVec Ideal S1x2048x2048 .f32) (bg : FVec Ideal S1x2048 .f32) (wo : FVec Ideal S1x1024x1024 .f32) (h : Fin 1024 → Fin 2048) (t : Fin 2048) (q : Fin 1024) : EReal :=
  DMs dx wo t q * GT p bg t (h q)

theorem p12 (c : Dev nD) (t : Fin cfg0.N) (r f : Fin 512) : k0_pay12 (iblk m c 0 t) (iblk m c 1 t) (iblk m c 2 t) (ix2 r f)
    = EU (a0 m c) (a1 m c) (a2 m c) (a5 m c) lo (tt t r) (cc t f) := by
  pointwise [k0_pay12, k0_pay9, k0_pay10]
  simp only [b0, b1, b2]
  rfl

theorem p13 (c : Dev nD) (t : Fin cfg0.N) (r f : Fin 512) : k0_pay13 (iblk m c 0 t) (iblk m c 1 t) (iblk m c 3 t) (ix2 r f)
    = EU (a0 m c) (a1 m c) (a2 m c) (a5 m c) hi (tt t r) (cc t f) := by
  pointwise [k0_pay13, k0_pay9, k0_pay11]
  simp only [b0, b1, b3]
  rfl

theorem p1 (c : Dev nD) (t : Fin cfg0.N) (r f : Fin 512) : k0_pay1 (k0_pay10 (iblk m c 2 t)) (k0_pay14 (iblk m c 0 t) (iblk m c 1 t) (iblk m c 2 t) (iblk m c 4 t)) (Scalar.ofBits .f32 0x3F800000#32) (ix2 r f)
    = EP (a0 m c) (a1 m c) (a2 m c) (a3 m c) (a5 m c) lo (tt t r) (cc t f) := by
  pointwise [k0_pay1, k0_pay14, k0_pay9, k0_pay10]
  simp only [b0, b1, b2, b4]
  rfl

theorem p2 (c : Dev nD) (t : Fin cfg0.N) (r f : Fin 512) : k0_pay2 (k0_pay9 (iblk m c 0 t) (iblk m c 1 t)) (k0_pay11 (iblk m c 3 t)) (iblk m c 5 t) (ix2 r f)
    = EP (a0 m c) (a1 m c) (a2 m c) (a4 m c) (a5 m c) hi (tt t r) (cc t f) := by
  pointwise [k0_pay2, k0_pay9, k0_pay11]
  simp only [b0, b1, b3, b5]
  rfl

theorem fin6 (c : Dev nD) : (dats m 0 c).arrAt 6 (cfgs 0).N
    = fun i => EU (a0 m c) (a1 m c) (a2 m c) (a5 m c) lo (i 0) (i 1) := by
  refine (dats m 0 c).arrAt_eq_of_covers 6 _ (by decide +kernel) fun t _ y => ?_
  blk_simp
  rw [after0_6]
  have hp (y : S512x512.Idx) : k0_pay12 (iblk m c 0 t) (iblk m c 1 t) (iblk m c 2 t) y = (fun i : S2048x1024.Idx => EU (a0 m c) (a1 m c) (a2 m c) (a5 m c) lo (i 0) (i 1)) (((cfg0.win 6).blk t).view.emb y) := by
    idx_vars y; rw [emb6]; exact p12 m c t _ _
  by_cases h : t.val % 4 = 0
  · rw [outsAt0_A m c t h (by omega)]; frame_out; exact hp y
  · rw [outsAt0_B m c t h (by omega)]; frame_out; exact hp y

theorem fin7 (c : Dev nD) : (dats m 0 c).arrAt 7 (cfgs 0).N
    = fun i => EU (a0 m c) (a1 m c) (a2 m c) (a5 m c) hi (i 0) (i 1) := by
  refine (dats m 0 c).arrAt_eq_of_covers 7 _ (by decide +kernel) fun t _ y => ?_
  blk_simp
  rw [after0_7]
  have hp (y : S512x512.Idx) : k0_pay13 (iblk m c 0 t) (iblk m c 1 t) (iblk m c 3 t) y = (fun i : S2048x1024.Idx => EU (a0 m c) (a1 m c) (a2 m c) (a5 m c) hi (i 0) (i 1)) (((cfg0.win 7).blk t).view.emb y) := by
    idx_vars y; rw [emb7]; exact p13 m c t _ _
  by_cases h : t.val % 4 = 0
  · rw [outsAt0_A m c t h (by omega)]; frame_out; exact hp y
  · rw [outsAt0_B m c t h (by omega)]; frame_out; exact hp y

theorem fin8 (c : Dev nD) : (dats m 0 c).arrAt 8 (cfgs 0).N
    = fun i => EP (a0 m c) (a1 m c) (a2 m c) (a3 m c) (a5 m c) lo (i 0) (i 1) := by
  refine (dats m 0 c).arrAt_eq_of_covers 8 _ (by decide +kernel) fun t _ y => ?_
  blk_simp
  rw [after0_8]
  have hp (y : S512x512.Idx) : k0_pay3 (k0_pay10 (iblk m c 2 t)) (k0_pay14 (iblk m c 0 t) (iblk m c 1 t) (iblk m c 2 t) (iblk m c 4 t)) (Scalar.ofBits .f32 0x3F800000#32) y = (fun i : S2048x1024.Idx => EP (a0 m c) (a1 m c) (a2 m c) (a3 m c) (a5 m c) lo (i 0) (i 1)) (((cfg0.win 8).blk t).view.emb y) := by
    idx_vars y; rw [emb8]; exact p1 m c t _ _
  by_cases h : t.val % 4 = 0
  · rw [outsAt0_A m c t h (by omega)]; frame_out; exact hp y
  · rw [outsAt0_B m c t h (by omega)]; frame_out; exact hp y

theorem fin9 (c : Dev nD) : (dats m 0 c).arrAt 9 (cfgs 0).N
    = fun i => EP (a0 m c) (a1 m c) (a2 m c) (a4 m c) (a5 m c) hi (i 0) (i 1) := by
  refine (dats m 0 c).arrAt_eq_of_covers 9 _ (by decide +kernel) fun t _ y => ?_
  blk_simp
  rw [after0_9]
  have hp (y : S512x512.Idx) : k0_pay4 (k0_pay9 (iblk m c 0 t) (iblk m c 1 t)) (k0_pay11 (iblk m c 3 t)) (iblk m c 5 t) y = (fun i : S2048x1024.Idx => EP (a0 m c) (a1 m c) (a2 m c) (a4 m c) (a5 m c) hi (i 0) (i 1)) (((cfg0.win 9).blk t).view.emb y) := by
    idx_vars y; rw [emb9]; exact p2 m c t _ _
  by_cases h : t.val % 4 = 0
  · rw [outsAt0_A m c t h (by omega)]; frame_out; exact hp y
  · rw [outsAt0_B m c t h (by omega)]; frame_out; exact hp y

theorem tt_run (t : Fin cfg0.N) (s : Fin 4) (k : Fin 512) (h1 : 4 * (t.val / 4) + s.val < cfg0.N) (h2 : s.val * 512 + k.val < 2048) : tt ⟨4 * (t.val / 4) + s.val, h1⟩ k = ⟨s.val * 512 + k.val, h2⟩ := by
  apply Fin.ext
  show (4 * (t.val / 4) + s.val) % 4 * 512 + k.val = s.val * 512 + k.val
  omega

theorem cc_run (t : Fin cfg0.N) (s : Fin 4) (f : Fin 512) (h1 : 4 * (t.val / 4) + s.val < cfg0.N) : cc ⟨4 * (t.val / 4) + s.val, h1⟩ f = cc t f := by
  apply Fin.ext
  show (4 * (t.val / 4) + s.val) / 4 * 512 + f.val = t.val / 4 * 512 + f.val
  omega

/-- The rows of a column's sum that one grid point adds. -/
theorem p5 (c : Dev nD) (t : Fin cfg0.N) (z : Fin 1) (f : Fin 512) : k0_pay5 (k0_pay10 (iblk m c 2 t)) (k0_pay14 (iblk m c 0 t) (iblk m c 1 t) (iblk m c 2 t) (iblk m c 4 t)) (Scalar.ofBits .f32 0x3F800000#32) (ix2 z f)
    = ∑ r : Fin 512, EP (a0 m c) (a1 m c) (a2 m c) (a3 m c) (a5 m c) lo (tt t r) (cc t f) := by
  pointwise [k0_pay5]
  exact Finset.sum_congr rfl fun r _ => (congrArg (fun o => k0_pay1 (k0_pay10 (iblk m c 2 t)) (k0_pay14 (iblk m c 0 t) (iblk m c 1 t) (iblk m c 2 t) (iblk m c 4 t)) o (ix2 r f)) Ideal.ofBits_one_f32.symm).trans (p1 m c t r f)

theorem p6 (c : Dev nD) (t : Fin cfg0.N) (z : Fin 1) (f : Fin 512) : k0_pay6 (k0_pay9 (iblk m c 0 t) (iblk m c 1 t)) (k0_pay11 (iblk m c 3 t)) (iblk m c 5 t) (ix2 z f)
    = ∑ r : Fin 512, EP (a0 m c) (a1 m c) (a2 m c) (a4 m c) (a5 m c) hi (tt t r) (cc t f) := by
  pointwise [k0_pay6]
  exact Finset.sum_congr rfl fun r _ => p2 m c t r f

theorem p7 (A B : FVec Ideal S512x512 .f32) (x : FVec Ideal S1x512 .f32) (y) : k0_pay7 A B (Scalar.ofBits .f32 0x3F800000#32) x y = x y + k0_pay5 A B (Scalar.ofBits .f32 0x3F800000#32) y := by
  idx_vars y
  pointwise [k0_pay7]

theorem p8 (A B C : FVec Ideal S512x512 .f32) (x : FVec Ideal S1x512 .f32) (y) : k0_pay8 A B C x y = x y + k0_pay6 A B C y := by
  idx_vars y
  pointwise [k0_pay8]

theorem fin10 (c : Dev nD) : (dats m 0 c).arrAt 10 (cfgs 0).N
    = fun i => ∑ t : Fin 2048, EP (a0 m c) (a1 m c) (a2 m c) (a3 m c) (a5 m c) lo t (i 1) := by
  refine (dats m 0 c).arrAt_eq_of_covers 10 _ (by decide +kernel) fun t hf y => ?_
  blk_simp
  rw [after0_10, Pipeline.eq_sum_fin_of_reset_step_apply_of_flush (fun n h => (outsAt0 m c n h).2.2.2.2.1) 4 (fun _ => 0)
    (fun t y => ∑ r : Fin 512, EP (a0 m c) (a1 m c) (a2 m c) (a3 m c) (a5 m c) lo (tt t r) (cc t (y 1)))
    (fun t h y => by
      rw [outsAt0_A m c t h (by omega)]; frame_out; rw [zero_add]
      idx_vars y; exact p5 m c t _ _)
    (fun t h y => by
      rw [outsAt0_B m c t h (by omega)]; frame_out
      idx_vars y
      rw [p7]
      exact congrArg (HAdd.hAdd _) (p5 m c t _ _))
    t ((flush0_10 t).mp hf) _, zero_add]
  idx_vars y
  rw [emb10]
  refine Fin.sum_mul_add_congr fun s k hl => ?_
  rw [tt_run t s k _ hl, cc_run]
  rfl

theorem fin11 (c : Dev nD) : (dats m 0 c).arrAt 11 (cfgs 0).N
    = fun i => ∑ t : Fin 2048, EP (a0 m c) (a1 m c) (a2 m c) (a4 m c) (a5 m c) hi t (i 1) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2) 4 (fun _ => 0)
    (fun t y => ∑ r : Fin 512, EP (a0 m c) (a1 m c) (a2 m c) (a4 m c) (a5 m c) hi (tt t r) (cc t (y 1)))
    (fun t h y => by
      rw [outsAt0_A m c t h (by omega)]; frame_out; rw [zero_add]
      idx_vars y; exact p6 m c t _ _)
    (fun t h y => by
      rw [outsAt0_B m c t h (by omega)]; frame_out
      idx_vars y
      rw [p8]
      exact congrArg (HAdd.hAdd _) (p6 m c t _ _))
    t ((flush0_11 t).mp hf) _, zero_add]
  idx_vars y
  rw [emb11]
  refine Fin.sum_mul_add_congr fun s k hl => ?_
  rw [tt_run t s k _ hl, cc_run]
  rfl

theorem TU_at (A : FVec Ideal S2048x1024 .bf16) (z : Fin 1) (t : Fin 2048) (q : Fin 1024) : TU A (ix3 z t q) = A (ix2 t q) := by
  pointwise [TU]

theorem TP_at (A B : FVec Ideal S2048x1024 .bf16) (z : Fin 1) (t : Fin 2048) (q : Fin 2048) :
    TP A B (ix3 z t q) = if h : q.val < 1024 then A (ix2 t ⟨q.val, h⟩) else B (ix2 t ⟨q.val - 1024, by omega⟩) := by
  pointwise [TP]

theorem TB_at (A B : FVec Ideal S1x1024 .f32) (z : Fin 1) (q : Fin 2048) :
    TB A B (ix2 z q) = if h : q.val < 1024 then A (ix2 z ⟨q.val, h⟩) else B (ix2 z ⟨q.val - 1024, by omega⟩) := by
  obtain rfl : z = 0 := Subsingleton.elim _ _
  pointwise [TB]

theorem lo_eq (q : Fin 2048) (h : q.val < 1024) : lo ⟨q.val, h⟩ = q := rfl

theorem hi_eq (q : Fin 2048) (h : ¬q.val < 1024) : hi ⟨q.val - 1024, by omega⟩ = q := by
  apply Fin.ext
  show 1024 + (q.val - 1024) = q.val
  omega

theorem RU_eq (dx : FVec Ideal S1x2048x1024 .f32) (p : FVec Ideal S1x2048x2048 .f32) (bg : FVec Ideal S1x2048 .f32) (wo : FVec Ideal S1x1024x1024 .f32) :
    RU dx p bg wo = TU (fun i => EU dx p bg wo lo (i 0) (i 1)) := by
  funext i
  idx_vars i
  obtain rfl : i0 = 0 := Subsingleton.elim _ _
  rw [RU_at, TU_at, mul_comm]
  rfl

theorem RV_eq (dx : FVec Ideal S1x2048x1024 .f32) (p : FVec Ideal S1x2048x2048 .f32) (bg : FVec Ideal S1x2048 .f32) (wo : FVec Ideal S1x1024x1024 .f32) :
    RV dx p bg wo = TU (fun i => EU dx p bg wo hi (i 0) (i 1)) := by
  funext i
  idx_vars i
  obtain rfl : i0 = 0 := Subsingleton.elim _ _
  rw [RV_at, TU_at, mul_comm]
  rfl

/-- One entry of the pre-activation's gradient, in the half it lies in. -/
theorem RP_half (dx : FVec Ideal S1x2048x1024 .f32) (p : FVec Ideal S1x2048x2048 .f32) (bg : FVec Ideal S1x2048 .f32) (ua ub : FVec Ideal S1x2048x1024 .f32) (wo : FVec Ideal S1x1024x1024 .f32) (t : Fin 2048) (q : Fin 2048) :
    RP dx p bg ua ub wo (ix3 0 t q) = if h : q.val < 1024 then EP dx p bg ua wo lo t ⟨q.val, h⟩ else EP dx p bg ub wo hi t ⟨q.val - 1024, by omega⟩ := by
  rw [RP_at]
  by_cases h : q.val < 1024
  · rw [dif_pos h, dif_pos h, EP, lo_eq, ← mul_assoc]
  · rw [dif_neg h, dif_neg h, EP, hi_eq q h, ← mul_assoc]

theorem RP_eq (dx : FVec Ideal S1x2048x1024 .f32) (p : FVec Ideal S1x2048x2048 .f32) (bg : FVec Ideal S1x2048 .f32) (ua ub : FVec Ideal S1x2048x1024 .f32) (wo : FVec Ideal S1x1024x1024 .f32) :
    RP dx p bg ua ub wo = TP (fun i => EP dx p bg ua wo lo (i 0) (i 1)) (fun i => EP dx p bg ub wo hi (i 0) (i 1)) := by
  funext i
  idx_vars i
  obtain rfl : i0 = 0 := Subsingleton.elim _ _
  rw [RP_half, TP_at]
  rfl

theorem RB_eq (dx : FVec Ideal S1x2048x1024 .f32) (p : FVec Ideal S1x2048x2048 .f32) (bg : FVec Ideal S1x2048 .f32) (ua ub : FVec Ideal S1x2048x1024 .f32) (wo : FVec Ideal S1x1024x1024 .f32) :
    RB (RP dx p bg ua ub wo) = TB (fun i => ∑ t : Fin 2048, EP dx p bg ua wo lo t (i 1)) (fun i => ∑ t : Fin 2048, EP dx p bg ub wo hi t (i 1)) := by
  funext i
  idx_vars i
  obtain rfl : i0 = 0 := Subsingleton.elim _ _
  rw [RB_at, TB_at]
  simp only [RP_half]
  by_cases h : i1.val < 1024
  · simp only [dif_pos h]
    rfl
  · simp only [dif_neg h]
    rfl

theorem res_p (c : Dev nD) : RP (a0 m c) (a1 m c) (a2 m c) (a3 m c) (a4 m c) (a5 m c) = Pipeline.afterTail₀ cfgs (dats m) 0 (V0 m) [hostOps1] c main_v11 := by
  rw [tail11, fin8, fin9]
  exact RP_eq _ _ _ _ _ _

theorem res_b (c : Dev nD) : RB (RP (a0 m c) (a1 m c) (a2 m c) (a3 m c) (a4 m c) (a5 m c)) = Pipeline.afterTail₀ cfgs (dats m) 0 (V0 m) [hostOps1] c main_v12 := by
  rw [tail12, fin10, fin11]
  exact RB_eq _ _ _ _ _ _

theorem res_u (c : Dev nD) : RU (a0 m c) (a1 m c) (a2 m c) (a5 m c) = Pipeline.afterTail₀ cfgs (dats m) 0 (V0 m) [hostOps1] c main_v14 := by
  rw [tail14, fin6]
  exact RU_eq _ _ _ _

theorem res_v (c : Dev nD) : RV (a0 m c) (a1 m c) (a2 m c) (a5 m c) = Pipeline.afterTail₀ cfgs (dats m) 0 (V0 m) [hostOps1] c main_v16 := by
  rw [tail16, fin7]
  exact RV_eq _ _ _ _

theorem algebraic : Cert.algebraic_Kernel4Ideal_Reference4Ideal := by
  pair_intro
  · run_from Cert.Kernel4Ideal.Gen.run_main m g & Cert.Kernel4Ideal.Gen.unchanged m g
  · run_from Cert.Reference4Ideal.Value.run m' g'
    · obtain ⟨h0, h1, h2, h3, h4, h5⟩ := hagree c
      exact (show RP (a0 m c) (a1 m c) (a2 m c) _ _ _ = RP (a0 m c) (a1 m c) (a2 m c) (a3 m c) (a4 m c) (a5 m c) by rw [h3, h4, h5]).trans (res_p m c)
    · obtain ⟨h0, h1, h2, h3, h4, h5⟩ := hagree c
      exact (show RB (RP (a0 m c) (a1 m c) (a2 m c) _ _ _) = RB (RP (a0 m c) (a1 m c) (a2 m c) (a3 m c) (a4 m c) (a5 m c)) by rw [h3, h4, h5]).trans (res_b m c)
    · exact res_u m c
    · exact res_v m c

end Cert.Kernel4Ideal.Value
-- ==== Proof.ForgetGate.lean ====
module

public import proofs.«01_k».proof.Defs
public import proofs.«01_k».proof.Proof.Gen.KernelIdeal.Frame
public import proofs.«01_k».proof.Proof.Gen.ReferenceIdeal.Run
public import proofs.«01_k».proof.Proof.Real

@[expose] public section

set_option maxRecDepth 16384
set_option maxRecDepth 16384

noncomputable section

namespace Cert.Pre_finite
instance facts : Facts where
  bcast_S_S1x8x2048 := by decide
end Cert.Pre_finite

namespace Cert.ReferenceIdeal.Value

open Idealize.ShloMosaic
open Cert.ReferenceIdeal Cert.ReferenceIdeal.Gen

abbrev NEGU (f : FVec Ideal S1x2048x8 .f32) (b : FVec Ideal S1x8 .f32) : FVec Ideal S1x2048x8 .f32 :=
  Host.negf (addf f (broadcastInDim S1x2048x8 ![0, 1, 2] bcast_S1x1x8_S1x2048x8_0_1_2 (broadcastInDim S1x1x8 ![2] bcast_S8_S1x1x8_2 (shapeCast _ b shapeCasts_S1x8_S8))))

abbrev ZZ : FVec Ideal S1x2048x8 .f32 := broadcastInDim S1x2048x8 ![] bcast_S_S1x2048x8 (constant S_ .f32 0x00000000#32)
abbrev II : FVec Ideal S1x2048x8 .f32 := broadcastInDim S1x2048x8 ![] bcast_S_S1x2048x8 (constant S_ .f32 0x7F800000#32)

/-- The softplus of an array. -/
def SP (n : FVec Ideal S1x2048x8 .f32) : FVec Ideal S1x2048x8 .f32 :=
  select (cmpf .une (subf n ZZ) (subf n ZZ)) (addf n ZZ) (addf (maximumf n ZZ) (Host.log1p (Host.exp (Host.negf (Host.absf (subf n ZZ))))))

/-- Its derivative. -/
def SD (n s : FVec Ideal S1x2048x8 .f32) : FVec Ideal S1x2048x8 .f32 :=
  Host.exp (subf (select (cmpf .oeq n II) ZZ n) (select (cmpf .oeq s II) ZZ s))

/-- The cotangent of the logarithm, a running sum from the end. -/
def CU (x : FVec Ideal S1x8x2048 .f32) : FVec Ideal S1x2048x8 .f32 :=
  Host.reduceWindowAdd ![1, 2048, 1] ![1, 1, 1] ![0, 0, 0] ![0, 2047, 0] (transpose S1x2048x8 [0, 2, 1] x transposes_S1x8x2048_S1x2048x8_0_2_1) (broadcastInDim S_ ![] bcast_S_S_ (constant S_ .f32 0x00000000#32)) reduceWindows_S1x2048x8_S1x2048x8_w1s1p0_0_w2048s1p0_2047_w1s1p0_0 h_S_

def RF (x : FVec Ideal S1x8x2048 .f32) (f : FVec Ideal S1x2048x8 .f32) (b : FVec Ideal S1x8 .f32) : FVec Ideal S1x2048x8 .f32 :=
  Host.negf (mulf (Host.negf (CU x)) (SD (NEGU f b) (SP (NEGU f b))))

def RB (d : FVec Ideal S1x2048x8 .f32) : FVec Ideal S1x8 .f32 :=
  broadcastInDim S1x8 ![1] bcast_S8_S1x8_1 (Host.reduceAdd (shapeCast _ (Host.reduceAdd d (constant S_ .f32 0x00000000#32) reducesTo_S1x2048x8_S1x8_d1 h_S_) shapeCasts_S1x8_S1x1x8) (constant S_ .f32 0x00000000#32) reducesTo_S1x1x8_S8_d0_1 h_S_)

theorem res9 (m : (ℓ : Loc nD τ sig) → Buf (Elt Ideal) ℓ) (c : Dev nD) : res_main_v9 m c = RF (m ((c.tc : Thread nD τ).loc main_arg0)) (m ((c.tc : Thread nD τ).loc main_arg1)) (m ((c.tc : Thread nD τ).loc main_arg2)) := rfl

theorem res13 (m : (ℓ : Loc nD τ sig) → Buf (Elt Ideal) ℓ) (c : Dev nD) : res_main_v13 m c = RB (RF (m ((c.tc : Thread nD τ).loc main_arg0)) (m ((c.tc : Thread nD τ).loc main_arg1)) (m ((c.tc : Thread nD τ).loc main_arg2))) := rfl

/-- The softplus at a number. -/
def sp (n : EReal) : EReal := max n 0 + Ideal.log1p (Ideal.exp (-max n (-n)))

/-- Its derivative, written through the two. -/
def sd (n : EReal) : EReal := Ideal.exp ((if n = ⊤ then 0 else n) - (if sp n = ⊤ then 0 else sp n))

theorem top_word : Ideal.ofBits FTy.f32 2139095040#32 = ⊤ := by simp [Ideal.ofBits, Ideal.ieee]

theorem SP_at (n : FVec Ideal S1x2048x8 .f32) (i) : SP n i = sp (n i) := by
  pointwise [SP]
  rw [if_neg (fun h => h rfl)]
  rfl

theorem SD_at (n : FVec Ideal S1x2048x8 .f32) (i) : SD n (SP n) i = sd (n i) := by
  pointwise [SD]
  rw [SP_at, top_word]
  rfl

theorem NEGU_at (f : FVec Ideal S1x2048x8 .f32) (b : FVec Ideal S1x8 .f32) (t : Fin 2048) (h : Fin 8) : NEGU f b (ix3 0 t h) = -(f (ix3 0 t h) + b (ix2 0 h)) := by
  pointwise

theorem RB_at (d : FVec Ideal S1x2048x8 .f32) (z : Fin 1) (h : Fin 8) : RB d (ix2 z h) = ∑ t : Fin 2048, d (ix3 0 t h) := by
  pointwise [RB]
  simp only [Cert.Real.sum_unit_axes]
  rw [zero_add]
  pointwise

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The entries met by a window that starts `L` before an entry, off the ends 0. -/
theorem slide {N : ℕ} (L : ℕ) (f : Fin N → EReal) (s : Fin N) :
    (∑ w : Fin N, if h : L ≤ s.val + w.val ∧ s.val + w.val - L < N then f ⟨s.val + w.val - L, h.2⟩ else 0) = ∑ r : Fin N, if s.val ≤ r.val + L ∧ r.val + L < s.val + N then f r else 0 := by
  rw [← Finset.sum_filter, ← Finset.sum_filter_of_ne (p := fun w : Fin N => L ≤ s.val + w.val ∧ s.val + w.val - L < N) (fun w _ hw => by by_contra h; exact hw (dif_neg h))]
  refine Finset.sum_bij' (fun w hw => ⟨s.val + w.val - L, (Finset.mem_filter.1 hw).2.2⟩) (fun r hr => ⟨r.val + L - s.val, by have := (Finset.mem_filter.1 hr).2; omega⟩) (fun w hw => ?_) (fun r hr => ?_) (fun w hw => ?_) (fun r hr => ?_) (fun w hw => ?_)
  · have := (Finset.mem_filter.1 hw).2
    exact Finset.mem_filter.2 ⟨Finset.mem_univ _, by show s.val ≤ s.val + w.val - L + L ∧ s.val + w.val - L + L < s.val + N; omega⟩
  · have := (Finset.mem_filter.1 hr).2
    exact Finset.mem_filter.2 ⟨Finset.mem_univ _, by show L ≤ s.val + (r.val + L - s.val) ∧ s.val + (r.val + L - s.val) - L < N; omega⟩
  · have := (Finset.mem_filter.1 hw).2
    exact Fin.ext (by show s.val + w.val - L + L - s.val = w.val; omega)
  · have := (Finset.mem_filter.1 hr).2
    exact Fin.ext (by show s.val + (r.val + L - s.val) - L = r.val; omega)
  · exact dif_pos (Finset.mem_filter.1 hw).2

/-- A running sum over the rows, as one window that reaches past an end. -/
theorem window_at {N H : ℕ} (L K : ℕ) (y : FVec Ideal ⟨3, ![1, N, H]⟩ .f32) (init : FVec Ideal S_ .f32) (hi : init ix0 = 0)
    (hr : (⟨3, ![1, N, H]⟩ : Shape).ReduceWindows (![1, N, 1] : Fin 3 → ℕ) ![1, 1, 1] ![0, L, 0] ![0, K, 0] ⟨3, ![1, N, H]⟩) (hu : 0 < S_.numel) (t : Fin N) (h : Fin H) :
    Host.reduceWindowAdd (![1, N, 1] : Fin 3 → ℕ) ![1, 1, 1] ![0, L, 0] ![0, K, 0] y init hr hu (ix3 0 t h) = ∑ r : Fin N, if t.val ≤ r.val + L ∧ r.val + L < t.val + N then y (ix3 0 r h) else 0 := by
  have hv : init (Shape.Idx.first hu) = (0 : EReal) := (congrArg init (funext fun a => a.elim0)).trans hi
  have hh := h.isLt
  rw [Host.reduceWindowAdd, Ideal.hostReduceWindowAdd_def, hv]
  unfold Ideal.hostReduceWindowAdd Host.reduceWindow
  refine (foldl_sum _ _ _).trans ?_
  rw [zero_add, ← List.ofFn_eq_map, List.sum_ofFn]
  refine (Fintype.sum_equiv (⟨3, ![1, N, 1]⟩ : Shape).rowMajor.symm _ (fun w => if hin : ∀ a : Fin 3, (![0, L, 0] : Fin 3 → ℕ) a ≤ ((ix3 0 t h : (⟨3, ![1, N, H]⟩ : Shape).Idx) a).val * (![1, 1, 1] : Fin 3 → ℕ) a + (w a).val ∧ ((ix3 0 t h : (⟨3, ![1, N, H]⟩ : Shape).Idx) a).val * (![1, 1, 1] : Fin 3 → ℕ) a + (w a).val - (![0, L, 0] : Fin 3 → ℕ) a < (⟨3, ![1, N, H]⟩ : Shape).size a then y (fun a => ⟨((ix3 0 t h : (⟨3, ![1, N, H]⟩ : Shape).Idx) a).val * (![1, 1, 1] : Fin 3 → ℕ) a + (w a).val - (![0, L, 0] : Fin 3 → ℕ) a, (hin a).2⟩) else (0 : EReal)) fun n => by
    split
    · next hin => refine ((dif_pos ?_).trans ?_).symm <;> first | exact hin | rfl
    · next hin => refine ((dif_neg ?_).trans ?_).symm <;> first | exact hin | rfl).trans ?_
  rw [sum_idx3, Fin.sum_univ_one]
  simp only [Fin.sum_univ_one]
  refine Eq.trans (Finset.sum_congr rfl fun w _ => ?_) (slide L (fun s => y (ix3 0 s h)) t)
  by_cases hw : L ≤ t.val + w.val ∧ t.val + w.val - L < N
  · rw [dif_pos hw, dif_pos]
    · refine congrArg y (funext fun a => Fin.ext ?_)
      match a with
      | ⟨0, _⟩ => rfl
      | ⟨1, _⟩ => show t.val * 1 + w.val - L = t.val + w.val - L; omega
      | ⟨2, _⟩ => show h.val * 1 + 0 - 0 = h.val; omega
    · intro a
      match a with
      | ⟨0, _⟩ => show 0 ≤ 0 * 1 + 0 ∧ 0 * 1 + 0 - 0 < 1; omega
      | ⟨1, _⟩ => show L ≤ t.val * 1 + w.val ∧ t.val * 1 + w.val - L < N; omega
      | ⟨2, _⟩ => show 0 ≤ h.val * 1 + 0 ∧ h.val * 1 + 0 - 0 < H; omega
  · rw [dif_neg hw, dif_neg]
    intro hin
    have h1 := hin 1
    change L ≤ t.val * 1 + w.val ∧ t.val * 1 + w.val - L < N at h1
    omega

theorem CU_at (x : FVec Ideal S1x8x2048 .f32) (t : Fin 2048) (h : Fin 8) : CU x (ix3 0 t h) = ∑ s : Fin 2048, if t.val ≤ s.val then x (ix3 0 h s) else 0 := by
  refine (window_at 0 2047 _ _ (by pointwise) _ _ t h).trans (Finset.sum_congr rfl fun s _ => if_congr (by omega) ?_ rfl)
  pointwise

theorem RF_at (x : FVec Ideal S1x8x2048 .f32) (f : FVec Ideal S1x2048x8 .f32) (b : FVec Ideal S1x8 .f32) (t : Fin 2048) (h : Fin 8) :
    RF x f b (ix3 0 t h) = (∑ s : Fin 2048, if t.val ≤ s.val then x (ix3 0 h s) else 0) * sd (-(f (ix3 0 t h) + b (ix2 0 h))) := by
  pointwise [RF]
  rw [CU_at, SD_at, NEGU_at, neg_mul, neg_neg]

attribute [irreducible] RF RB

/-- The reference's run, its results in the terms above. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = RF (m ((c.tc : Thread nD τ).loc main_arg0)) (m ((c.tc : Thread nD τ).loc main_arg1)) (m ((c.tc : Thread nD τ).loc main_arg2))
      ∧ r.2.mem ((c.tc : Thread nD τ).loc main_v13) = RB (RF (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run m ρ) fun _ h c => ⟨(h c).1.trans (res9 m c), (h c).2.1.trans (res13 m c), (h c).2.2⟩

end Cert.ReferenceIdeal.Value

namespace Cert.KernelIdeal.Value

open Idealize.ShloMosaic Idealize.ShloMosaic.TcCoe Idealize.SL.Sem
open Idealize.ShloMosaic.Pipeline (Dat)
open Cert.KernelIdeal Cert.KernelIdeal.Gen

section loop

variable (c : Dev nD) (arg0 : Memref sig .tc .vmem S2048x128 .f32) (harg0 : arg0.IsWhole) (arg1 : Memref sig .tc .vmem S2048x128 .f32) (harg1 : arg1.IsWhole) (arg2 : Memref sig .tc .vmem S1x128 .f32) (harg2 : arg2.IsWhole) (arg3 : Memref sig .tc .vmem S2048x128 .f32) (harg3 : arg3.IsWhole) (arg4 : Memref sig .tc .vmem S1x128 .f32) (harg4 : arg4.IsWhole)
    (x0 : Vec Ideal S2048x128 .f32) (x1 : Vec Ideal S2048x128 .f32) (x2 : Vec Ideal S1x128 .f32)

/-- A suffix sum: the entries from `n` on. -/
def SUF {M : Type} [AddCommMonoid M] (f : Fin 2048 → M) (n : ℕ) : M := ∑ s : Fin 2048, if n ≤ s.val then f s else 0

/-- The factor of the forgetting gate's derivative, as the kernel spells it. -/
def GT (u : EReal) : EReal := Ideal.exp (min (0 - u) 0 - Ideal.log (1 + Ideal.exp (0 - max u (-u))))

theorem trips_eq : k0_t1_loop.trips = 16 := by decide

theorem off_eq : ∀ k : Fin k0_t1_loop.trips, k0_off1 k = ![(15 - k.val) * 128, 0] := by decide +kernel

/-- The row that trip `k` meets at its row `r`. -/
def rw_ (k : Fin k0_t1_loop.trips) (r : Fin 128) : Fin 2048 := ⟨(15 - k.val) * 128 + r.val, by omega⟩

theorem emb_eq (k : Fin k0_t1_loop.trips) (r l : Fin 128) (inb) : (Rect.unit (s := S2048x128) (k0_off1 k) S128x128.size inb).emb (ix2 r l) = ix2 (rw_ k r) l := by
  funext a
  apply Fin.ext
  match a with
  | ⟨0, _⟩ =>
    show k0_off1 k 0 + 1 * r.val = (15 - k.val) * 128 + r.val
    rw [off_eq k]; simp
  | ⟨1, _⟩ =>
    show k0_off1 k 1 + 1 * l.val = l.val
    rw [off_eq k]; simp

theorem emb_row (r : Fin 1) (l : Fin 128) (inb) : (Rect.unit (s := S1x128) ![0, 0] S1x128.size inb).emb (ix2 r l) = ix2 r l := by
  funext a
  apply Fin.ext
  match a with
  | ⟨0, _⟩ => show 0 + 1 * r.val = r.val; omega
  | ⟨1, _⟩ => show 0 + 1 * l.val = l.val; omega

/-- A suffix sum from a row of a block of 128: the rest of the block, and the blocks after. -/
theorem SUF_split {M : Type} [AddCommMonoid M] (f : Fin 2048 → M) (k : Fin k0_t1_loop.trips) (r : Fin 128) :
    SUF f (rw_ k r).val = (∑ s : Fin 128, if r ≤ s then f (rw_ k s) else 0) + SUF f ((16 - k.val) * 128) := by
  have hk : k.val < 16 := k.isLt
  have h (n : ℕ) : SUF f n = ∑ b : Fin 16, ∑ s : Fin 128, if n ≤ b.val * 128 + s.val then f ⟨b.val * 128 + s.val, by omega⟩ else 0 :=
    (Fin.sum_mul_add_congr fun b s hl => rfl).symm
  rw [h, h]
  have h0 : (∑ s : Fin 128, if r ≤ s then f (rw_ k s) else 0) = ∑ b : Fin 16, if b = ⟨15 - k.val, by omega⟩ then (∑ s : Fin 128, if r ≤ s then f (rw_ k s) else 0) else 0 := by
    rw [Finset.sum_ite_eq' Finset.univ (⟨15 - k.val, by omega⟩ : Fin 16)]
    simp
  rw [h0, ← Finset.sum_add_distrib]
  refine Finset.sum_congr rfl fun b _ => ?_
  by_cases hb : b = ⟨15 - k.val, by omega⟩
  · subst hb
    rw [if_pos rfl, ← Finset.sum_add_distrib]
    refine Finset.sum_congr rfl fun s _ => ?_
    rw [if_neg (c := (16 - k.val) * 128 ≤ _) (by show ¬ (16 - k.val) * 128 ≤ (15 - k.val) * 128 + s.val; omega), add_zero]
    refine if_congr ?_ rfl rfl
    show (15 - k.val) * 128 + r.val ≤ (15 - k.val) * 128 + s.val ↔ r.val ≤ s.val
    omega
  · rw [if_neg hb, zero_add]
    refine Finset.sum_congr rfl fun s _ => if_congr ?_ rfl rfl
    have : b.val ≠ 15 - k.val := fun h => hb (Fin.ext h)
    show (15 - k.val) * 128 + r.val ≤ _ ↔ _
    omega

theorem upper_mask : ∀ r s : Fin 128, BitVec.setWidth 32 (IntOp.cmpi CmpIPredicate.sge (BitVec.ofNat 32 s.val) (BitVec.ofNat 32 r.val)) = if r ≤ s then 1#32 else 0#32 := by
  decide +kernel

theorem upper (r s : Fin 128) : k0_pay1 (F := Ideal) (ix2 r s) = if r ≤ s then 1 else 0 := by
  pointwise [k0_pay1]
  rw [upper_mask]
  show (((if r ≤ s then 1#32 else 0#32).toInt : ℝ) : EReal) = _
  split <;> simp

variable (D : Fin 2048 → Fin 128 → ℝ)

theorem pay4 (v14 : Vec Ideal S128x128 .f32) (a : FVec Ideal S1x128 .f32) (d : Fin 128 → Fin 128 → ℝ) (hv : ∀ s l, v14 (ix2 s l) = (d s l : EReal)) (r l : Fin 128) :
    k0_pay4 (k0_pay1 (F := Ideal)) a v14 (ix2 r l) = ((∑ s : Fin 128, if r ≤ s then d s l else 0 : ℝ) : EReal) + a (ix2 0 l) := by
  pointwise [k0_pay4]
  simp only [upper, hv]
  refine congrArg (· + a (ix2 0 l)) ?_
  have h (x : Fin 128) : ((if r ≤ x then 1 else 0 : EReal)) = ((if r ≤ x then 1 else 0 : ℝ) : EReal) := by split <;> simp
  simp only [h, ← EReal.coe_sub, ← EReal.coe_mul, Cert.Real.sum_coe, ← EReal.coe_add]
  simp

theorem pay5 (v5) (a : FVec Ideal S1x128 .f32) (v14 v31 : Vec Ideal S128x128 .f32) (v33 : Vec Ideal S1x128 .f32) (r l : Fin 128) :
    k0_pay5 v5 a v14 v31 v33 (ix2 r l) = k0_pay4 v5 a v14 (ix2 r l) * GT (v31 (ix2 r l) + v33 (ix2 0 l)) := by
  pointwise [k0_pay5]
  rfl

theorem pay6 (v5) (a : FVec Ideal S1x128 .f32) (v14 : Vec Ideal S128x128 .f32) (z : Fin 1) (l : Fin 128) :
    k0_pay6 v5 a v14 (ix2 z l) = k0_pay4 v5 a v14 (ix2 0 l) := by
  pointwise [k0_pay6]

theorem pay3 (a : FVec Ideal S1x128 .f32) (v : FVec Ideal S128x128 .f32) (z : Fin 1) (l : Fin 128) :
    k0_pay3 a v (ix2 z l) = a (ix2 z l) + ∑ r : Fin 128, v (ix2 r l) := by
  pointwise [k0_pay3]

theorem pay2 (y) : k0_pay2 (F := Ideal) y = 0 := by
  pointwise [k0_pay2]

abbrev st (n : ℕ) := st_k0_t1 (F := Ideal) Variants.none c none arg0 harg0 arg1 harg1 arg2 harg2 arg3 harg3 arg4 harg4 (harg0.unread x0) (harg1.unread x1) (harg2.unread x2) (k0_pay2, k0_pay2) n

abbrev rd0 (k : Fin k0_t1_loop.trips) : Vec Ideal S128x128 .f32 := View.readAt (Elt Ideal) arg0.view (Rect.unit (s := S2048x128) (k0_off1 k) S128x128.size (k0_off1_inb k)).toLoadRect (harg0.unread x0)
abbrev rd2 : Vec Ideal S1x128 .f32 := View.readAt (Elt Ideal) arg2.view (Rect.unit (s := S1x128) ![0, 0] S1x128.size inb_S1x128_S1x128_0_0).toLoadRect (harg2.unread x2)

theorem rd0_at (k : Fin k0_t1_loop.trips) (r l : Fin 128) : rd0 arg0 harg0 x0 k (ix2 r l) = x0 (ix2 (rw_ k r) l) :=
  (congrFun (harg0.read_unread x0) _).trans (congrArg x0 (emb_eq k r l _))

theorem rd2_at (z : Fin 1) (l : Fin 128) : rd2 arg2 harg2 x2 (ix2 z l) = x2 (ix2 z l) :=
  (congrFun (harg2.read_unread x2) _).trans (congrArg x2 (emb_row z l _))

theorem trip_fst (k : Fin k0_t1_loop.trips) (acc : FVec Ideal S1x128 .f32 × FVec Ideal S1x128 .f32) :
    tripR_k0_t1 (F := Ideal) Variants.none c none arg0 harg0 arg1 harg1 arg2 harg2 arg3 harg3 arg4 harg4 (harg0.unread x0) (harg1.unread x1) (harg2.unread x2) k acc
      = (k0_pay6 k0_pay1 acc.1 (rd0 arg0 harg0 x0 k), k0_pay3 acc.2 (k0_pay5 k0_pay1 acc.1 (rd0 arg0 harg0 x0 k) (rd0 arg1 harg1 x1 k) (rd2 arg2 harg2 x2))) := by
  unfold tripR_k0_t1 trip_k0_t1
  rfl

theorem trip_snd (k : Fin k0_t1_loop.trips) (acc : FVec Ideal S1x128 .f32 × FVec Ideal S1x128 .f32) :
    tripL_k0_t1 (F := Ideal) Variants.none c none arg0 harg0 arg1 harg1 arg2 harg2 arg3 harg3 arg4 harg4 (harg0.unread x0) (harg1.unread x1) (harg2.unread x2) k acc
      = [⟨Rect.unit (s := S2048x128) (k0_off1 k) S128x128.size (k0_off1_inb k), k0_pay5 k0_pay1 acc.1 (rd0 arg0 harg0 x0 k) (rd0 arg1 harg1 x1 k) (rd2 arg2 harg2 x2)⟩] := by
  unfold tripL_k0_t1 trip_k0_t1
  rfl

/-- The logit's gradient. -/
def DF (t : Fin 2048) (l : Fin 128) : EReal := ((SUF (fun s => D s l) t.val : ℝ) : EReal) * GT (x1 (ix2 t l) + x2 (ix2 0 l))

theorem SUF_zero {M : Type} [AddCommMonoid M] (f : Fin 2048 → M) : SUF f ((16 - 0) * 128) = 0 :=
  Finset.sum_eq_zero fun s _ => if_neg (by omega)

theorem state (hD : ∀ t l, x0 (ix2 t l) = (D t l : EReal)) (n : ℕ) (hn : n ≤ 16) :
    (∀ l, (st c arg0 harg0 arg1 harg1 arg2 harg2 arg3 harg3 arg4 harg4 x0 x1 x2 n).1.1 (ix2 0 l) = ((SUF (fun s => D s l) ((16 - n) * 128) : ℝ) : EReal))
    ∧ (∀ l, (st c arg0 harg0 arg1 harg1 arg2 harg2 arg3 harg3 arg4 harg4 x0 x1 x2 n).1.2 (ix2 0 l) = SUF (fun t => DF x1 x2 D t l) ((16 - n) * 128))
    ∧ (∀ p ∈ (st c arg0 harg0 arg1 harg1 arg2 harg2 arg3 harg3 arg4 harg4 x0 x1 x2 n).2, ∀ x, p.2 x = (fun y : S2048x128.Idx => DF x1 x2 D (y 0) (y 1)) (p.1.emb x)) := by
  induction n with
  | zero =>
    refine ⟨fun l => ?_, fun l => ?_, fun p hp => absurd hp List.not_mem_nil⟩
    · rw [SUF_zero, EReal.coe_zero]; exact pay2 (ix2 0 l)
    · rw [SUF_zero]; exact pay2 (ix2 0 l)
  | succ n ih =>
    obtain ⟨h1, h2, h3⟩ := ih (by omega)
    have hn' : n < k0_t1_loop.trips := by rw [trips_eq]; omega
    have hs := st_k0_t1_succ (F := Ideal) Variants.none c none arg0 harg0 arg1 harg1 arg2 harg2 arg3 harg3 arg4 harg4 (harg0.unread x0) (harg1.unread x1) (harg2.unread x2) (k0_pay2, k0_pay2) ⟨n, hn'⟩
    rw [trip_fst, trip_snd] at hs
    set S := st c arg0 harg0 arg1 harg1 arg2 harg2 arg3 harg3 arg4 harg4 x0 x1 x2 n with hS
    have h4 (r l : Fin 128) : k0_pay4 (k0_pay1 (F := Ideal)) S.1.1 (rd0 arg0 harg0 x0 ⟨n, hn'⟩) (ix2 r l) = ((SUF (fun s => D s l) (rw_ ⟨n, hn'⟩ r).val : ℝ) : EReal) := by
      rw [pay4 _ _ (fun s l => D (rw_ ⟨n, hn'⟩ s) l) (fun s l => (rd0_at arg0 harg0 x0 _ s l).trans (hD _ _)), h1, SUF_split, EReal.coe_add]
    have h5 (r l : Fin 128) : k0_pay5 (k0_pay1 (F := Ideal)) S.1.1 (rd0 arg0 harg0 x0 ⟨n, hn'⟩) (rd0 arg1 harg1 x1 ⟨n, hn'⟩) (rd2 arg2 harg2 x2) (ix2 r l) = DF x1 x2 D (rw_ ⟨n, hn'⟩ r) l := by
      rw [pay5, h4, rd0_at, rd2_at]; rfl
    have he : (16 - (n + 1)) * 128 = (rw_ ⟨n, hn'⟩ 0).val := by
      show _ = (15 - n) * 128 + 0
      omega
    rw [show st c arg0 harg0 arg1 harg1 arg2 harg2 arg3 harg3 arg4 harg4 x0 x1 x2 (n + 1) = _ from hs]
    refine ⟨fun l => ?_, fun l => ?_, fun p hp => ?_⟩
    · rw [he]
      exact (pay6 _ _ _ 0 l).trans (h4 0 l)
    · rw [he, SUF_split]
      refine (pay3 _ _ 0 l).trans ?_
      rw [h2, add_comm]
      refine congrArg (· + _) (Finset.sum_congr rfl fun r _ => ?_)
      rw [if_pos (Fin.zero_le r)]
      exact h5 r l
    · rcases List.mem_append.mp hp with hp | hp
      · obtain rfl := List.mem_singleton.mp hp
        intro x
        idx_vars x
        rw [emb_eq]
        exact h5 _ _
      · exact h3 p hp

theorem out3 (hD : ∀ t l, x0 (ix2 t l) = (D t l : EReal)) (y : S2048x128.Idx) :
    out0_A_3 c arg0 harg0 arg1 harg1 arg2 harg2 arg3 harg3 arg4 harg4 x0 x1 x2 y = DF x1 x2 D (y 0) (y 1) := by
  unfold out0_A_3
  refine View.read_writes_apply_of_pieces _ _ (fun y : S2048x128.Idx => DF x1 x2 D (y 0) (y 1)) _ ?_ y (cover0_A_3 c arg0 harg0 arg1 harg1 arg2 harg2 arg3 harg3 arg4 harg4 x0 x1 x2 y)
  rw [show (kernelRun0_A c arg0 harg0 arg1 harg1 arg2 harg2 arg3 harg3 arg4 harg4 x0 x1 x2).1 = (st c arg0 harg0 arg1 harg1 arg2 harg2 arg3 harg3 arg4 harg4 x0 x1 x2 16).2 by unfold kernelRun0_A; rfl]
  exact (state c arg0 harg0 arg1 harg1 arg2 harg2 arg3 harg3 arg4 harg4 x0 x1 x2 D hD 16 le_rfl).2.2

theorem out4 (hD : ∀ t l, x0 (ix2 t l) = (D t l : EReal)) (y : S1x128.Idx) :
    out0_A_4 c arg0 harg0 arg1 harg1 arg2 harg2 arg3 harg3 arg4 harg4 x0 x1 x2 y = ∑ t : Fin 2048, DF x1 x2 D t (y 1) := by
  unfold out0_A_4
  refine View.read_writes_apply_of_pieces _ _ (fun y : S1x128.Idx => ∑ t : Fin 2048, DF x1 x2 D t (y 1)) _ ?_ y (cover0_A_4 c arg0 harg0 arg1 harg1 arg2 harg2 arg3 harg3 arg4 harg4 x0 x1 x2 y)
  rw [show (kernelRun0_A c arg0 harg0 arg1 harg1 arg2 harg2 arg3 harg3 arg4 harg4 x0 x1 x2).2.1 = [⟨Rect.unit (s := S1x128) ![0, 0] S1x128.size inb_S1x128_S1x128_0_0, (st c arg0 harg0 arg1 harg1 arg2 harg2 arg3 harg3 arg4 harg4 x0 x1 x2 16).1.2⟩] by unfold kernelRun0_A; rfl]
  intro p hp
  obtain rfl := List.mem_singleton.mp hp
  intro z
  idx_vars z
  obtain rfl : z0 = 0 := Subsingleton.elim _ _
  rw [emb_row]
  refine ((state c arg0 harg0 arg1 harg1 arg2 harg2 arg3 harg3 arg4 harg4 x0 x1 x2 D hD 16 le_rfl).2.1 _).trans ?_
  exact Finset.sum_congr rfl fun t _ => if_pos (Nat.zero_le _)

end loop

variable (m : (ℓ : Loc nD τ sig) → Buf (Elt Ideal) ℓ)

abbrev a0 (c : Dev nD) : FVec Ideal S1x8x2048 .f32 := m ((c : Thread nD τ).loc main_arg0)
abbrev a1 (c : Dev nD) : FVec Ideal S1x2048x8 .f32 := m ((c : Thread nD τ).loc main_arg1)
abbrev a2 (c : Dev nD) : FVec Ideal S1x8 .f32 := m ((c : Thread nD τ).loc main_arg2)

def TF (A : FVec Ideal S2048x128 .f32) : FVec Ideal S1x2048x8 .f32 := broadcastInDim S1x2048x8 ![1, 2] bcast_S2048x8_S1x2048x8_1_2 (extractStridedSlice S2048x8 ![0, 0] A slices_S2048x128_S2048x8_0_0)
def TB (A : FVec Ideal S1x128 .f32) : FVec Ideal S1x8 .f32 := extractStridedSlice S1x8 ![0, 0] A slices_S1x128_S1x8_0_0

theorem inj : Function.Injective (Pipeline.arrRef spec0) := by decide +kernel

theorem tail8 (c : Dev nD) : Pipeline.afterTail₀ cfgs (dats m) 0 (V0 m) [hostOps1] c main_v8 = TF ((dats m 0 c).arrAt 3 (cfgs 0).N) := by
  unfold Pipeline.afterTail₀
  simp only [hostOps1, List.flatten_cons, List.flatten_nil, List.append_nil, List.cons_append]
  after_results
  exact congrArg TF (Pipeline.withArrays_arr spec0 inj c (V0 m c) (fun w => (dats m 0 c).arrAt w (cfgs 0).N) 3)

theorem tail9 (c : Dev nD) : Pipeline.afterTail₀ cfgs (dats m) 0 (V0 m) [hostOps1] c main_v9 = TB ((dats m 0 c).arrAt 4 (cfgs 0).N) := by
  unfold Pipeline.afterTail₀
  simp only [hostOps1, List.flatten_cons, List.flatten_nil, List.append_nil, List.cons_append]
  after_results
  exact congrArg TB (Pipeline.withArrays_arr spec0 inj c (V0 m c) (fun w => (dats m 0 c).arrAt w (cfgs 0).N) 4)

/-- The cotangent, one row per position, in lanes padded with zeros. -/
def P0 (x : FVec Ideal S1x8x2048 .f32) (t : Fin 2048) (l : Fin 128) : EReal := if h : l.val < 8 then x (ix3 0 ⟨l.val, h⟩ t) else 0

/-- The logits (or the bias), in lanes padded with zeros. -/
def P1 (x : FVec Ideal S1x2048x8 .f32) (t : Fin 2048) (l : Fin 128) : EReal := if h : l.val < 8 then x (ix3 0 t ⟨l.val, h⟩) else 0
def P2 (x : FVec Ideal S1x8 .f32) (l : Fin 128) : EReal := if h : l.val < 8 then x (ix2 0 ⟨l.val, h⟩) else 0

theorem zero_word : (FloatOps.sitofp (F := Ideal) FTy.f32 0#32 : EReal) = 0 := by
  show (((0#32 : BitVec 32).toInt : ℝ) : EReal) = 0
  simp

theorem v2 (c : Dev nD) (t : Fin 2048) (l : Fin 128) : V m c main_v2 (ix2 t l) = P0 (a0 m c) t l := by
  simp only [V, V0, hostOps0, hostOps0_1, hostOps0_2, hostOps0_3, hostOps0_4, hostOps0_5, List.flatten_cons, List.flatten_nil, List.append_nil, List.cons_append, List.nil_append]
  after_results
  show pad S2048x128 ![0, 0] ![0, 120] ![0, 0] (transpose S2048x8 [1, 0] (shapeCast S8x2048 (a0 m c) shapeCasts_S1x8x2048_S8x2048) transposes_S8x2048_S2048x8_1_0) (sitofp FTy.f32 (constantI S_ 32 0#32)) pads_S2048x8_S2048x128_000_01200 h_S_ (ix2 t l) = _
  pointwise
  rw [zero_word]
  rfl

theorem v4 (c : Dev nD) (t : Fin 2048) (l : Fin 128) : V m c main_v4 (ix2 t l) = P1 (a1 m c) t l := by
  simp only [V, V0, hostOps0, hostOps0_1, hostOps0_2, hostOps0_3, hostOps0_4, hostOps0_5, List.flatten_cons, List.flatten_nil, List.append_nil, List.cons_append, List.nil_append]
  after_results
  show pad S2048x128 ![0, 0] ![0, 120] ![0, 0] (shapeCast S2048x8 (a1 m c) shapeCasts_S1x2048x8_S2048x8) (sitofp FTy.f32 (constantI S_ 32 0#32)) pads_S2048x8_S2048x128_000_01200 h_S_ (ix2 t l) = _
  pointwise
  rw [zero_word]
  rfl

theorem v5 (c : Dev nD) (z : Fin 1) (l : Fin 128) : V m c main_v5 (ix2 z l) = P2 (a2 m c) l := by
  simp only [V, V0, hostOps0, hostOps0_1, hostOps0_2, hostOps0_3, hostOps0_4, hostOps0_5, List.flatten_cons, List.flatten_nil, List.append_nil, List.cons_append, List.nil_append]
  after_results
  show pad S1x128 ![0, 0] ![0, 120] ![0, 0] (a2 m c) (sitofp FTy.f32 (constantI S_ 32 0#32)) pads_S1x8_S1x128_000_01200 h_S_ (ix2 z l) = _
  pointwise
  rw [zero_word]
  rfl

theorem idx : ∀ t : Fin cfg0.N, win0_0.index t = ![0, 0] ∧ win0_1.index t = ![0, 0] ∧ win0_2.index t = ![0, 0] ∧ win0_3.index t = ![0, 0] ∧ win0_4.index t = ![0, 0] := by
  decide +kernel

theorem b0 (c : Dev nD) (t : Fin cfg0.N) (r : Fin 2048) (k : Fin 128) : iblk m c 0 t (ix2 r k) = P0 (a0 m c) r k := by
  rw [← v2 m c r k]
  exact congrArg (V m c main_v2) (by blk_ext [idx t])

theorem b1 (c : Dev nD) (t : Fin cfg0.N) (r : Fin 2048) (k : Fin 128) : iblk m c 1 t (ix2 r k) = P1 (a1 m c) r k := by
  rw [← v4 m c r k]
  exact congrArg (V m c main_v4) (by blk_ext [idx t])

theorem b2 (c : Dev nD) (t : Fin cfg0.N) (z : Fin 1) (k : Fin 128) : iblk m c 2 t (ix2 z k) = P2 (a2 m c) k := by
  rw [← v5 m c z k]
  exact congrArg (V m c main_v5) (by blk_ext [idx t])

theorem emb3 (t : Fin cfg0.N) (r : Fin 2048) (f : Fin 128) : ((cfg0.win 3).blk t).view.emb (ix2 r f) = ix2 r f := by blk_ext [idx t]
theorem emb4 (t : Fin cfg0.N) (z : Fin 1) (f : Fin 128) : ((cfg0.win 4).blk t).view.emb (ix2 z f) = ix2 z f := by blk_ext [idx t]

/-- The logit's gradient, in padded lanes. -/
def DP (f : FVec Ideal S1x2048x8 .f32) (b : FVec Ideal S1x8 .f32) (D : Fin 2048 → Fin 128 → ℝ) (t : Fin 2048) (l : Fin 128) : EReal :=
  ((SUF (fun s => D s l) t.val : ℝ) : EReal) * GT (P1 f t l + P2 b l)

theorem DF_eq (c : Dev nD) (t : Fin cfg0.N) (D : Fin 2048 → Fin 128 → ℝ) (r : Fin 2048) (l : Fin 128) : DF (iblk m c 1 t) (iblk m c 2 t) D r l = DP (a1 m c) (a2 m c) D r l := by
  rw [DF, b1, b2, DP]

theorem fin3 (c : Dev nD) (D : Fin 2048 → Fin 128 → ℝ) (hD : ∀ t l, P0 (a0 m c) t l = (D t l : EReal)) : (dats m 0 c).arrAt 3 (cfgs 0).N = fun i => DP (a1 m c) (a2 m c) D (i 0) (i 1) := by
  refine (dats m 0 c).arrAt_eq_of_covers 3 _ (by decide +kernel) fun t _ y => ?_
  blk_simp
  rw [after0_3]
  idx_vars y
  rw [emb3]
  exact (out3 c _ _ _ _ _ _ _ _ _ _ _ _ _ D (fun t' l => (b0 m c t t' l).trans (hD t' l)) _).trans (DF_eq m c t D _ _)

theorem fin4 (c : Dev nD) (D : Fin 2048 → Fin 128 → ℝ) (hD : ∀ t l, P0 (a0 m c) t l = (D t l : EReal)) : (dats m 0 c).arrAt 4 (cfgs 0).N = fun i => ∑ t : Fin 2048, DP (a1 m c) (a2 m c) D t (i 1) := by
  refine (dats m 0 c).arrAt_eq_of_covers 4 _ (by decide +kernel) fun t _ y => ?_
  blk_simp
  rw [after0_4]
  idx_vars y
  rw [emb4]
  exact (out4 c _ _ _ _ _ _ _ _ _ _ _ _ _ D (fun t' l => (b0 m c t t' l).trans (hD t' l)) _).trans (Finset.sum_congr rfl fun r _ => DF_eq m c t D r _)

open Cert.ReferenceIdeal.Value (RF RB RF_at RB_at sd sp)

/-- The two spellings of the gate's derivative agree at every extended real. -/
theorem gate (u : EReal) : sd (-u) = GT u := by
  have l1 : Ideal.log 1 = 0 := by
    rw [← EReal.coe_one, Ideal.log_coe, if_neg (by norm_num), Real.log_one, EReal.coe_zero]
  have e0 : Ideal.exp 0 = 1 := by
    rw [← EReal.coe_zero, Ideal.exp_coe, Real.exp_zero, EReal.coe_one]
  have cmax (x y : ℝ) : ((max x y : ℝ) : EReal) = max (x : EReal) y := EReal.coe_strictMono.monotone.map_max
  have cmin (x y : ℝ) : ((min x y : ℝ) : EReal) = min (x : EReal) y := EReal.coe_strictMono.monotone.map_min
  induction u using EReal.rec with
  | bot => simp [sd, sp, GT, Ideal.log1p, l1, e0]
  | top => simp [sd, sp, GT, Ideal.log1p, l1, e0]
  | coe r =>
    have hl (x : ℝ) : Ideal.log ((1 + Real.exp x : ℝ) : EReal) = ((Real.log (1 + Real.exp x) : ℝ) : EReal) := by
      rw [Ideal.log_coe, if_neg (not_le.2 (by positivity))]
    have hs : sp (-(r : EReal)) = ((max (-r) 0 + Real.log (1 + Real.exp (-max (-r) r)) : ℝ) : EReal) := by
      rw [sp, Ideal.log1p, neg_neg, ← EReal.coe_neg, ← EReal.coe_zero, ← cmax, ← cmax, ← EReal.coe_neg, Ideal.exp_coe, ← EReal.coe_one, ← EReal.coe_add, hl, ← EReal.coe_add]
    rw [sd, hs, if_neg (EReal.coe_ne_top _), ← EReal.coe_neg, if_neg (EReal.coe_ne_top _), ← EReal.coe_sub, Ideal.exp_coe]
    rw [GT, ← EReal.coe_neg, ← EReal.coe_zero, ← EReal.coe_sub, ← cmin, ← cmax, ← EReal.coe_sub, Ideal.exp_coe, ← EReal.coe_one, ← EReal.coe_add, hl, ← EReal.coe_sub, Ideal.exp_coe]
    congr 2
    rw [zero_sub, zero_sub, max_comm (-r) r]
    rcases le_total 0 r with h | h
    · rw [max_eq_right (neg_nonpos.2 h), min_eq_left (neg_nonpos.2 h)]; ring
    · rw [max_eq_left (neg_nonneg.2 h), min_eq_right (neg_nonneg.2 h)]; ring

/-- The lanes of the padded arrays that hold a head. -/
def ln (h : Fin 8) : Fin 128 := ⟨h.val, by omega⟩

theorem P0_ln (x : FVec Ideal S1x8x2048 .f32) (t : Fin 2048) (h : Fin 8) : P0 x t (ln h) = x (ix3 0 h t) := dif_pos h.isLt
theorem P1_ln (x : FVec Ideal S1x2048x8 .f32) (t : Fin 2048) (h : Fin 8) : P1 x t (ln h) = x (ix3 0 t h) := dif_pos h.isLt
theorem P2_ln (x : FVec Ideal S1x8 .f32) (h : Fin 8) : P2 x (ln h) = x (ix2 0 h) := dif_pos h.isLt

theorem TF_at (A : FVec Ideal S2048x128 .f32) (t : Fin 2048) (h : Fin 8) : TF A (ix3 0 t h) = A (ix2 t (ln h)) := by
  pointwise [TF]
  rfl

theorem TB_at (A : FVec Ideal S1x128 .f32) (h : Fin 8) : TB A (ix2 0 h) = A (ix2 0 (ln h)) := by
  pointwise [TB]
  rfl

theorem real0 (x : FVec Ideal S1x8x2048 .f32) (hx : ∃ r : S1x8x2048.Idx → ℝ, ∀ i, x i = ((r i : ℝ) : EReal)) : ∃ D : Fin 2048 → Fin 128 → ℝ, ∀ t l, P0 x t l = (D t l : EReal) := by
  obtain ⟨r, hr⟩ := hx
  refine ⟨fun t l => if h : l.val < 8 then r (ix3 0 ⟨l.val, h⟩ t) else 0, fun t l => ?_⟩
  unfold P0
  by_cases h : l.val < 8
  · simp only [dif_pos h, hr]
  · simp only [dif_neg h, EReal.coe_zero]

theorem DP_at (x : FVec Ideal S1x8x2048 .f32) (f : FVec Ideal S1x2048x8 .f32) (b : FVec Ideal S1x8 .f32) (D : Fin 2048 → Fin 128 → ℝ) (hD : ∀ t l, P0 x t l = (D t l : EReal)) (t : Fin 2048) (h : Fin 8) :
    DP f b D t (ln h) = RF x f b (ix3 0 t h) := by
  rw [RF_at, gate, DP, P1_ln, P2_ln]
  congr 1
  rw [SUF, ← Cert.Real.sum_coe]
  refine Finset.sum_congr rfl fun s _ => ?_
  rw [← P0_ln x, hD]
  split <;> simp

theorem res_f (c : Dev nD) (hx : ∃ r : S1x8x2048.Idx → ℝ, ∀ i, a0 m c i = ((r i : ℝ) : EReal)) : RF (a0 m c) (a1 m c) (a2 m c) = Pipeline.afterTail₀ cfgs (dats m) 0 (V0 m) [hostOps1] c main_v8 := by
  obtain ⟨D, hD⟩ := real0 _ hx
  rw [tail8, fin3 m c D hD]
  funext i
  idx_vars i
  obtain rfl : i0 = 0 := Subsingleton.elim _ _
  exact (DP_at (a0 m c) _ _ D hD i1 i2).symm.trans (TF_at (fun i => DP (a1 m c) (a2 m c) D (i 0) (i 1)) i1 i2).symm

theorem res_b (c : Dev nD) (hx : ∃ r : S1x8x2048.Idx → ℝ, ∀ i, a0 m c i = ((r i : ℝ) : EReal)) : RB (RF (a0 m c) (a1 m c) (a2 m c)) = Pipeline.afterTail₀ cfgs (dats m) 0 (V0 m) [hostOps1] c main_v9 := by
  obtain ⟨D, hD⟩ := real0 _ hx
  rw [tail9, fin4 m c D hD]
  funext i
  idx_vars i
  obtain rfl : i0 = 0 := Subsingleton.elim _ _
  exact (RB_at _ 0 i1).trans ((Finset.sum_congr rfl fun t _ => (DP_at (a0 m c) _ _ D hD t i1).symm).trans (TB_at (fun i => ∑ t, DP (a1 m c) (a2 m c) D t (i 1)) i1).symm)

theorem algebraic : Cert.algebraic_KernelIdeal_ReferenceIdeal_pre_finite := by
  pair_intro
  · run_from Cert.KernelIdeal.Gen.run_main m g & Cert.KernelIdeal.Gen.unchanged m g
  · run_from Cert.ReferenceIdeal.Value.run_terms m' g'
    · exact res_f m c (Cert.Real.of_finite _ _ (hpre c))
    · exact res_b m c (Cert.Real.of_finite _ _ (hpre c))

end Cert.KernelIdeal.Value
-- ==== Proof.FoxHost.lean ====
/- The forgetting attention and its gradient as the host writes them, entry by entry. -/
module

public import proofs.«01_k».proof.Defs
public import proofs.«01_k».proof.Proof.Gen.Reference7Ideal.Run
public import proofs.«01_k».proof.Proof.Real
public import Idealize.ShloMosaic.Lib.MatmulPlain
public import Idealize.ShloMosaic.Lib.WordCmp

@[expose] public section

set_option maxRecDepth 16384

noncomputable section

namespace Cert.Reference7Ideal.Value

open Idealize.ShloMosaic
open Cert.Reference7Ideal Cert.Reference7Ideal.Gen

/-- A head's lane among the features. -/
def ln (h : Fin 8) (d : Fin 64) : Fin 512 := ⟨h.val * 64 + d.val, by omega⟩

abbrev Rows := FVec Ideal S1x2048x512 .f32
abbrev Heads := FVec Ideal S1x8x2048x64 .f32
abbrev Pairs := FVec Ideal S1x8x2048x2048 .f32
abbrev Nums := FVec Ideal S1x8x2048 .f32

def HD (x : Rows) : Heads := transpose S1x8x2048x64 [0, 2, 1, 3] (shapeCast _ x shapeCasts_S1x2048x512_S1x2048x8x64) transposes_S1x2048x8x64_S1x8x2048x64_0_2_1_3
def MG (x : Heads) : Rows := shapeCast _ (transpose S1x2048x8x64 [0, 2, 1, 3] x transposes_S1x8x2048x64_S1x2048x8x64_0_2_1_3) shapeCasts_S1x2048x8x64_S1x2048x512
def DOT (x y : Heads) : Pairs := Host.dotGeneral dot_S1x8x2048x64_S1x8x2048x64_S1x8x2048x2048_3_3_2_2_01_01 none x y
/-- A number for each row, at each pair. -/
def BR (x : Nums) : Pairs := broadcastInDim S1x8x2048x2048 ![0, 1, 2, 3] bcast_S1x8x2048x1_S1x8x2048x2048_0_1_2_3 (broadcastInDim S1x8x2048x1 ![0, 1, 2] bcast_S1x8x2048_S1x8x2048x1_0_1_2 x)
def BC (x : Nums) : Pairs := broadcastInDim S1x8x2048x2048 ![0, 1, 2, 3] bcast_S1x8x1x2048_S1x8x2048x2048_0_1_2_3 (broadcastInDim S1x8x1x2048 ![0, 1, 3] bcast_S1x8x2048_S1x8x1x2048_0_1_3 x)
def BK (b : BitVec 32) : Pairs := broadcastInDim S1x8x2048x2048 ![] bcast_S_S1x8x2048x2048 (constant S_ .f32 b)
def MK : IVec S1x8x2048x2048 1 := broadcastInDim S1x8x2048x2048 ![2, 3] bcast_S2048x2048_S1x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- The logits, those of later keys at minus infinity. -/
def LG (q k : Rows) (c : Nums) : Pairs := select MK (subf (addf (mulf (DOT (HD q) (HD k)) (BK 0x3E000000#32)) (BR c)) (BC c)) (BK 0xFF800000#32)
def MX (l : Pairs) : Nums := Host.reduce FloatOps.maximumf l (constant S_ .f32 0xFF800000#32) reducesTo_S1x8x2048x2048_S1x8x2048_d3 h_S_
def SR (l : Pairs) : Nums := Host.reduceAdd l (constant S_ .f32 0x00000000#32) reducesTo_S1x8x2048x2048_S1x8x2048_d3 h_S_
def SC (l : Pairs) : Nums := Host.reduceAdd l (constant S_ .f32 0x00000000#32) reducesTo_S1x8x2048x2048_S1x8x2048_d2 h_S_
def EX (l : Pairs) (x : Nums) : Pairs := Host.exp (subf l (BR x))
def PR (e : Pairs) : Pairs := Host.divf e (BR (SR e))
/-- The rows' maxima as the reference takes them. -/
def MB (x : Nums) : Nums := maximumf (broadcastInDim S1x8x2048 ![] bcast_S_S1x8x2048 (constant S_ .f32 0xFF800000#32)) x

/-- A sum over unit axes: only one index is left. -/
theorem sum_one {s u : Shape} {axes : List (Fin s.rank)} (h : s.ReducesTo axes u) (x : s.Idx → EReal) (b : EReal) (j : u.Idx) (i : s.Idx) (hi : h.drop i = j) (hu : ∀ i', h.drop i' = j → i' = i) :
    Ideal.hostReduceAdd h x b j = b + x i := by
  unfold Ideal.hostReduceAdd
  rw [Finset.sum_eq_single_of_mem i]
  · simp only [Finset.mem_filter, Finset.mem_univ, true_and]
    exact hi
  · intro i' hi' hne
    simp only [Finset.mem_filter, Finset.mem_univ, true_and] at hi'
    exact absurd (hu i' hi') hne

/-- A number for each row, through a sum over unit axes. -/
def UR (x : FVec Ideal S1x8x2048x1 .f32) : Nums := broadcastInDim S1x8x2048 ![1, 2] bcast_S8x2048_S1x8x2048_1_2 (Host.reduceAdd x (constant S_ .f32 0x00000000#32) reducesTo_S1x8x2048x1_S8x2048_d0_3 h_S_)
def UC (x : FVec Ideal S1x8x1x2048 .f32) : Nums := broadcastInDim S1x8x2048 ![1, 2] bcast_S8x2048_S1x8x2048_1_2 (Host.reduceAdd x (constant S_ .f32 0x00000000#32) reducesTo_S1x8x1x2048_S8x2048_d0_2 h_S_)
def CR (x : Nums) : FVec Ideal S1x8x2048x1 .f32 := shapeCast _ x shapeCasts_S1x8x2048_S1x8x2048x1
def CC (x : Nums) : FVec Ideal S1x8x1x2048 .f32 := shapeCast _ x shapeCasts_S1x8x2048_S1x8x1x2048
/-- One over the squared total. -/
def IT (n : Nums) : Pairs := broadcastInDim S1x8x2048x2048 ![0, 1, 2, 3] bcast_S1x8x2048x1_S1x8x2048x2048_0_1_2_3 (Host.divf (broadcastInDim S1x8x2048x1 ![] bcast_S_S1x8x2048x1 (constant S_ .f32 0x3F800000#32)) (mulf (broadcastInDim S1x8x2048x1 ![0, 1, 2] bcast_S1x8x2048_S1x8x2048x1_0_1_2 n) (broadcastInDim S1x8x2048x1 ![0, 1, 2] bcast_S1x8x2048_S1x8x2048x1_0_1_2 n)))
def B3 (x : Nums) : Pairs := broadcastInDim S1x8x2048x2048 ![0, 1, 2] bcast_S1x8x2048_S1x8x2048x2048_0_1_2 x
/-- The gradient at the logits. -/
def DS (e g : Pairs) : Pairs := select MK (mulf (addf (Host.divf g (BR (SR e))) (B3 (UR (Host.negf (CR (SR (mulf (mulf g (IT (SR e))) e))))))) e) (BK 0x00000000#32)
def EE (q k : Rows) (c : Nums) : Pairs := EX (LG q k c) (MB (MX (LG q k c)))
def DV (e : Pairs) (d : Rows) : Rows := MG (transpose S1x8x2048x64 [0, 1, 3, 2] (Host.dotGeneral dot_S1x8x2048x64_S1x8x2048x2048_S1x8x64x2048_2_2_3_3_01_01 none (HD d) (PR e)) transposes_S1x8x64x2048_S1x8x2048x64_0_1_3_2)
def DQ (s : Pairs) (k : Rows) : Rows := MG (Host.dotGeneral dot_S1x8x2048x2048_S1x8x2048x64_S1x8x2048x64_3_2_2_3_01_01 none (mulf s (BK 0x3E000000#32)) (HD k))
def DK (s : Pairs) (q : Rows) : Rows := MG (Host.dotGeneral dot_S1x8x2048x2048_S1x8x2048x64_S1x8x2048x64_2_2_3_3_01_01 none (mulf s (BK 0x3E000000#32)) (HD q))
def DC (s : Pairs) : Nums := addf (UC (CC (SC (Host.negf s)))) (UR (CR (SR s)))

theorem UR_at (x : FVec Ideal S1x8x2048x1 .f32) (h : Fin 8) (t : Fin 2048) : UR x (ix3 0 h t) = x (ix4 0 h t 0) := by
  pointwise [UR]
  rw [sum_one _ x _ _ (ix4 0 h t 0), zero_add]
  · funext b
    match b with
    | 0 => rfl
    | 1 => rfl
  · intro i e
    funext b
    match b with
    | 0 => exact Subsingleton.elim (α := Fin 1) _ _
    | 1 => exact congrFun e 0
    | 2 => exact congrFun e 1
    | 3 => exact Subsingleton.elim (α := Fin 1) _ _
theorem UC_at (x : FVec Ideal S1x8x1x2048 .f32) (h : Fin 8) (t : Fin 2048) : UC x (ix3 0 h t) = x (ix4 0 h 0 t) := by
  pointwise [UC]
  rw [sum_one _ x _ _ (ix4 0 h 0 t), zero_add]
  · funext b
    match b with
    | 0 => rfl
    | 1 => rfl
  · intro i e
    funext b
    match b with
    | 0 => exact Subsingleton.elim (α := Fin 1) _ _
    | 1 => exact congrFun e 0
    | 2 => exact Subsingleton.elim (α := Fin 1) _ _
    | 3 => exact congrFun e 1
theorem CR_at (x : Nums) (h : Fin 8) (t : Fin 2048) : CR x (ix4 0 h t 0) = x (ix3 0 h t) := by
  pointwise [CR]
theorem CC_at (x : Nums) (h : Fin 8) (t : Fin 2048) : CC x (ix4 0 h 0 t) = x (ix3 0 h t) := by
  pointwise [CC]
theorem B3_at (x : Nums) (h : Fin 8) (t s : Fin 2048) : B3 x (ix4 0 h t s) = x (ix3 0 h t) := by
  pointwise [B3]
theorem IT_at (x : Nums) (h : Fin 8) (t s : Fin 2048) : IT x (ix4 0 h t s) = Ideal.div 1 (x (ix3 0 h t) * x (ix3 0 h t)) := by
  pointwise [IT]

theorem HD_at (x : Rows) (h : Fin 8) (t : Fin 2048) (d : Fin 64) : HD x (ix4 0 h t d) = x (ix3 0 t (ln h d)) := by
  pointwise [HD]
  rfl
theorem MG_at (x : Heads) (t : Fin 2048) (h : Fin 8) (d : Fin 64) : MG x (ix3 0 t (ln h d)) = x (ix4 0 h t d) := by
  pointwise [MG]
  have e : (ln h d).val = h.val * 64 + d.val := rfl
  exact congrArg₂ (fun a b => x (ix4 0 a t b)) (Fin.ext (show (ln h d).val / 64 = h.val by omega)) (Fin.ext (show (ln h d).val % 64 = d.val by omega))
theorem DOT_at (x y : Heads) (h : Fin 8) (t s : Fin 2048) : DOT x y (ix4 0 h t s) = ∑ d : Fin 64, x (ix4 0 h t d) * y (ix4 0 h s d) := by
  pointwise [DOT]
theorem BR_at (x : Nums) (h : Fin 8) (t s : Fin 2048) : BR x (ix4 0 h t s) = x (ix3 0 h t) := by
  pointwise [BR]
theorem BC_at (x : Nums) (h : Fin 8) (t s : Fin 2048) : BC x (ix4 0 h t s) = x (ix3 0 h s) := by
  pointwise [BC]
theorem BK_at (b : BitVec 32) (h : Fin 8) (t s : Fin 2048) : BK b (ix4 0 h t s) = Ideal.ofBits .f32 b := by
  pointwise [BK]
theorem MK_at (h : Fin 8) (t s : Fin 2048) : MK (ix4 0 h t s) = BitVec.ofBool (decide (s.val ≤ t.val)) := by
  pointwise [MK]
  word_cmp
theorem SR_at (l : Pairs) (h : Fin 8) (t : Fin 2048) : SR l (ix3 0 h t) = ∑ s : Fin 2048, l (ix4 0 h t s) := by
  pointwise [SR]
theorem SC_at (l : Pairs) (h : Fin 8) (s : Fin 2048) : SC l (ix3 0 h s) = ∑ t : Fin 2048, l (ix4 0 h t s) := by
  pointwise [SC]
theorem EX_at (l : Pairs) (x : Nums) (h : Fin 8) (t s : Fin 2048) : EX l x (ix4 0 h t s) = Ideal.exp (l (ix4 0 h t s) - x (ix3 0 h t)) := by
  pointwise [EX, BR]
theorem PR_at (e : Pairs) (h : Fin 8) (t s : Fin 2048) : PR e (ix4 0 h t s) = Ideal.div (e (ix4 0 h t s)) (∑ s : Fin 2048, e (ix4 0 h t s)) := by
  pointwise [PR, BR, SR]
theorem bot : Ideal.ofBits FTy.f32 0xFF800000#32 = ⊥ := by simp [Ideal.ofBits, Ideal.ieee]
theorem MX_at (l : Pairs) (h : Fin 8) (t : Fin 2048) : MX l (ix3 0 h t) = Finset.fold max ⊥ (fun s => l (ix4 0 h t s)) Finset.univ := by
  rw [← bot]
  pointwise [MX]
theorem MB_at (x : Nums) (i : S1x8x2048.Idx) : MB x i = x i := by
  pointwise [MB]
  rw [bot, bot_sup_eq]

theorem DV_at (e : Pairs) (d : Rows) (h : Fin 8) (s : Fin 2048) (j : Fin 64) : DV e d (ix3 0 s (ln h j)) = ∑ t : Fin 2048, d (ix3 0 t (ln h j)) * PR e (ix4 0 h t s) := by
  unfold DV
  rw [MG_at]
  pointwise
  exact Finset.sum_congr rfl fun t _ => congrArg (· * PR e (ix4 0 h t s)) (HD_at d h t j)
theorem DQ_at (g : Pairs) (k : Rows) (h : Fin 8) (t : Fin 2048) (j : Fin 64) : DQ g k (ix3 0 t (ln h j)) = ∑ s : Fin 2048, g (ix4 0 h t s) * Ideal.ofBits .f32 0x3E000000#32 * k (ix3 0 s (ln h j)) := by
  unfold DQ
  rw [MG_at]
  pointwise
  exact Finset.sum_congr rfl fun s _ => congrArg₂ (fun x y => g (ix4 0 h t s) * x * y) (BK_at _ h t s) (HD_at k h s j)
theorem DK_at (g : Pairs) (q : Rows) (h : Fin 8) (s : Fin 2048) (j : Fin 64) : DK g q (ix3 0 s (ln h j)) = ∑ t : Fin 2048, g (ix4 0 h t s) * Ideal.ofBits .f32 0x3E000000#32 * q (ix3 0 t (ln h j)) := by
  unfold DK
  rw [MG_at]
  pointwise
  exact Finset.sum_congr rfl fun t _ => congrArg₂ (fun x y => g (ix4 0 h t s) * x * y) (BK_at _ h t s) (HD_at q h t j)
theorem DC_at (g : Pairs) (h : Fin 8) (t : Fin 2048) : DC g (ix3 0 h t) = ∑ s : Fin 2048, -g (ix4 0 h s t) + ∑ s : Fin 2048, g (ix4 0 h t s) := by
  show UC (CC (SC (Host.negf g))) (ix3 0 h t) + UR (CR (SR g)) (ix3 0 h t) = _
  rw [UC_at, CC_at, UR_at, CR_at, SC_at, SR_at]
  rfl
theorem DS_at (e g : Pairs) (h : Fin 8) (t s : Fin 2048) : DS e g (ix4 0 h t s) = if s.val ≤ t.val then (Ideal.div (g (ix4 0 h t s)) (SR e (ix3 0 h t)) + -∑ r : Fin 2048, g (ix4 0 h t r) * Ideal.div 1 (SR e (ix3 0 h t) * SR e (ix3 0 h t)) * e (ix4 0 h t r)) * e (ix4 0 h t s) else 0 := by
  show Scalar.select (MK (ix4 0 h t s)) ((Ideal.div (g (ix4 0 h t s)) (BR (SR e) (ix4 0 h t s)) + B3 (UR (Host.negf (CR (SR (mulf (mulf g (IT (SR e))) e))))) (ix4 0 h t s)) * e (ix4 0 h t s)) (BK 0x00000000#32 (ix4 0 h t s)) = _
  have e1 : SR (mulf (mulf g (IT (SR e))) e) (ix3 0 h t) = ∑ r : Fin 2048, g (ix4 0 h t r) * Ideal.div 1 (SR e (ix3 0 h t) * SR e (ix3 0 h t)) * e (ix4 0 h t r) :=
    (SR_at _ h t).trans (Finset.sum_congr rfl fun r _ => congrArg (fun x => g (ix4 0 h t r) * x * e (ix4 0 h t r)) (IT_at (SR e) h t r))
  rw [MK_at, BR_at, B3_at, UR_at, BK_at, Ideal.ofBits_zero_f32, show Host.negf (CR (SR (mulf (mulf g (IT (SR e))) e))) (ix4 0 h t 0) = -CR (SR (mulf (mulf g (IT (SR e))) e)) (ix4 0 h t 0) from rfl, CR_at, e1]
  by_cases h : s.val ≤ t.val <;> simp [h, Scalar.select]
theorem LG_at (q k : Rows) (c : Nums) (h : Fin 8) (t s : Fin 2048) : LG q k c (ix4 0 h t s) = if s.val ≤ t.val then (∑ j : Fin 64, q (ix3 0 t (ln h j)) * k (ix3 0 s (ln h j))) * Ideal.ofBits .f32 0x3E000000#32 + c (ix3 0 h t) - c (ix3 0 h s) else ⊥ := by
  show Scalar.select (MK (ix4 0 h t s)) (DOT (HD q) (HD k) (ix4 0 h t s) * BK 0x3E000000#32 (ix4 0 h t s) + BR c (ix4 0 h t s) - BC c (ix4 0 h t s)) (BK 0xFF800000#32 (ix4 0 h t s)) = _
  rw [MK_at, DOT_at, BK_at, BR_at, BC_at, BK_at, bot]
  simp only [HD_at]
  by_cases h : s.val ≤ t.val <;> simp [h, Scalar.select]

/-! ## In real numbers -/

/-- The arguments as real numbers, and a number for each row that its logits are measured from. -/
structure Vals where
  q : Fin 2048 → Fin 512 → ℝ
  k : Fin 2048 → Fin 512 → ℝ
  v : Fin 2048 → Fin 512 → ℝ
  d : Fin 2048 → Fin 512 → ℝ
  c : Fin 8 → Fin 2048 → ℝ
  M : Fin 8 → Fin 2048 → ℝ

namespace Vals
variable (g : Vals)

def X (h : Fin 8) (t s : Fin 2048) : ℝ := (∑ j : Fin 64, g.q t (ln h j) * g.k s (ln h j)) * (1 / 8) + g.c h t - g.c h s
def E (h : Fin 8) (t s : Fin 2048) : ℝ := if s.val ≤ t.val then Real.exp (g.X h t s - g.M h t) else 0
def T (h : Fin 8) (t : Fin 2048) : ℝ := ∑ s, g.E h t s
/-- The probability, the gradient at it, and the gradient at the logit. -/
def P (h : Fin 8) (t s : Fin 2048) : ℝ := g.E h t s / g.T h t
def G (h : Fin 8) (t s : Fin 2048) : ℝ := ∑ j : Fin 64, g.d t (ln h j) * g.v s (ln h j)
def S (h : Fin 8) (t s : Fin 2048) : ℝ := g.P h t s * (g.G h t s - ∑ r, g.P h t r * g.G h t r)

theorem T_pos (h : Fin 8) (t : Fin 2048) : 0 < g.T h t := by
  refine Finset.sum_pos' (fun s _ => ?_) ⟨t, Finset.mem_univ t, ?_⟩
  · unfold E; split <;> positivity
  · unfold E; rw [if_pos le_rfl]; positivity
end Vals

/-- The arrays are these real numbers. -/
structure Are (q' k' v' d' : Rows) (c' : Nums) (g : Vals) : Prop where
  q : ∀ t j, q' (ix3 0 t j) = ((g.q t j : ℝ) : EReal)
  k : ∀ t j, k' (ix3 0 t j) = ((g.k t j : ℝ) : EReal)
  v : ∀ t j, v' (ix3 0 t j) = ((g.v t j : ℝ) : EReal)
  d : ∀ t j, d' (ix3 0 t j) = ((g.d t j : ℝ) : EReal)
  c : ∀ h t, c' (ix3 0 h t) = ((g.c h t : ℝ) : EReal)
  M : ∀ h t, MX (LG q' k' c') (ix3 0 h t) = ((g.M h t : ℝ) : EReal)

theorem eighth : Ideal.ofBits .f32 0x3E000000#32 = ((1 / 8 : ℝ) : EReal) := by
  simp [Ideal.ofBits, Ideal.ieee]
  rw [← EReal.coe_mul]; norm_num

/-- The greatest of some real numbers and minus infinities is real where one of them is. -/
theorem max_real {ι : Type} [Fintype ι] (f : ι → EReal) (hf : ∀ i, f i < ⊤) (i : ι) (hi : f i ≠ ⊥) : ∃ r : ℝ, Finset.fold max ⊥ f Finset.univ = (r : EReal) := by
  have e : Finset.fold max ⊥ f Finset.univ = Finset.univ.sup f := rfl
  rw [e]
  refine ⟨(Finset.univ.sup f).toReal, (EReal.coe_toReal ?_ ?_).symm⟩
  · exact ((Finset.sup_lt_iff bot_lt_top).mpr fun i _ => hf i).ne
  · exact fun h => hi (le_bot_iff.mp (h ▸ Finset.le_sup (f := f) (Finset.mem_univ i)))

section
variable {q k v d : Rows} {c : Nums}

theorem LG_real (g : Vals) (hq : ∀ t j, q (ix3 0 t j) = ((g.q t j : ℝ) : EReal)) (hk : ∀ t j, k (ix3 0 t j) = ((g.k t j : ℝ) : EReal)) (hc : ∀ h t, c (ix3 0 h t) = ((g.c h t : ℝ) : EReal)) (h : Fin 8) (t s : Fin 2048) :
    LG q k c (ix4 0 h t s) = if s.val ≤ t.val then ((g.X h t s : ℝ) : EReal) else ⊥ := by
  rw [LG_at]
  simp only [hq, hk, hc, eighth, ← EReal.coe_mul, Cert.Real.sum_coe, ← EReal.coe_add, ← EReal.coe_sub]
  rfl

theorem exists_vals (hq : ∃ r : S1x2048x512.Idx → ℝ, ∀ i, q i = ((r i : ℝ) : EReal)) (hk : ∃ r : S1x2048x512.Idx → ℝ, ∀ i, k i = ((r i : ℝ) : EReal)) (hv : ∃ r : S1x2048x512.Idx → ℝ, ∀ i, v i = ((r i : ℝ) : EReal)) (hc : ∃ r : S1x8x2048.Idx → ℝ, ∀ i, c i = ((r i : ℝ) : EReal)) (hd : ∃ r : S1x2048x512.Idx → ℝ, ∀ i, d i = ((r i : ℝ) : EReal)) :
    ∃ g, Are q k v d c g := by
  obtain ⟨q', hq⟩ := hq
  obtain ⟨k', hk⟩ := hk
  obtain ⟨v', hv⟩ := hv
  obtain ⟨c', hc⟩ := hc
  obtain ⟨d', hd⟩ := hd
  let g0 : Vals := ⟨fun t j => q' (ix3 0 t j), fun t j => k' (ix3 0 t j), fun t j => v' (ix3 0 t j), fun t j => d' (ix3 0 t j), fun h t => c' (ix3 0 h t), fun _ _ => 0⟩
  have hL := LG_real (q := q) (k := k) (c := c) g0 (fun t j => hq _) (fun t j => hk _) (fun h t => hc _)
  have hM (h : Fin 8) (t : Fin 2048) : ∃ r : ℝ, MX (LG q k c) (ix3 0 h t) = (r : EReal) := by
    rw [MX_at]
    refine max_real _ (fun s => ?_) t ?_
    · rw [hL]; split
      · exact EReal.coe_lt_top _
      · exact bot_lt_top
    · rw [hL, if_pos le_rfl]; exact EReal.coe_ne_bot _
  exact ⟨⟨g0.q, g0.k, g0.v, g0.d, g0.c, fun h t => (hM h t).choose⟩, fun t j => hq _, fun t j => hk _, fun t j => hv _, fun t j => hd _, fun h t => hc _, fun h t => (hM h t).choose_spec⟩

variable {g : Vals} (H : Are q k v d c g)
include H

theorem EX_is (h : Fin 8) (t s : Fin 2048) : EX (LG q k c) (MX (LG q k c)) (ix4 0 h t s) = ((g.E h t s : ℝ) : EReal) := by
  rw [EX_at, H.M, LG_real g H.q H.k H.c]
  unfold Vals.E
  split
  · rw [← EReal.coe_sub, Ideal.exp_coe]
  · rw [EReal.bot_sub]; rfl

theorem EE_is (h : Fin 8) (t s : Fin 2048) : EE q k c (ix4 0 h t s) = ((g.E h t s : ℝ) : EReal) := by
  rw [← EX_is H, EE, EX_at, EX_at, MB_at]

theorem SR_is (e : Pairs) (he : ∀ h t s, e (ix4 0 h t s) = ((g.E h t s : ℝ) : EReal)) (h : Fin 8) (t : Fin 2048) : SR e (ix3 0 h t) = ((g.T h t : ℝ) : EReal) := by
  rw [SR_at]
  simp only [he, Cert.Real.sum_coe, Vals.T]

theorem PR_is (e : Pairs) (he : ∀ h t s, e (ix4 0 h t s) = ((g.E h t s : ℝ) : EReal)) (h : Fin 8) (t s : Fin 2048) : PR e (ix4 0 h t s) = ((g.P h t s : ℝ) : EReal) := by
  rw [PR_at, ← SR_at, SR_is H e he, he, Ideal.div_coe (g.T_pos h t).ne', ← EReal.coe_mul, mul_one_div]
  rfl

theorem G_is (h : Fin 8) (t s : Fin 2048) : DOT (HD d) (HD v) (ix4 0 h t s) = ((g.G h t s : ℝ) : EReal) := by
  rw [DOT_at]
  simp only [HD_at, H.d, H.v, ← EReal.coe_mul, Cert.Real.sum_coe]
  rfl

theorem DS_is (h : Fin 8) (t s : Fin 2048) : DS (EE q k c) (DOT (HD d) (HD v)) (ix4 0 h t s) = ((g.S h t s : ℝ) : EReal) := by
  have hT := g.T_pos h t
  rw [DS_at, SR_is H _ (EE_is H)]
  simp only [G_is H, EE_is H, ← EReal.coe_one, ← EReal.coe_mul, Ideal.div_coe hT.ne', Ideal.div_coe (mul_pos hT hT).ne', Cert.Real.sum_coe, ← EReal.coe_neg, ← EReal.coe_add]
  have e : ∑ r, g.P h t r * g.G h t r = (∑ r, g.G h t r * g.E h t r) / g.T h t := by
    rw [Finset.sum_div]
    exact Finset.sum_congr rfl fun r _ => by unfold Vals.P; ring
  have e' : ∑ r, g.G h t r * (1 * (1 / (g.T h t * g.T h t))) * g.E h t r = (∑ r, g.G h t r * g.E h t r) / (g.T h t * g.T h t) := by
    rw [Finset.sum_div]
    exact Finset.sum_congr rfl fun r _ => by ring
  rw [e']
  unfold Vals.S
  rw [e]
  by_cases hs : s.val ≤ t.val
  · rw [if_pos hs]
    congr 1
    unfold Vals.P
    field_simp
    ring
  · rw [if_neg hs]
    have : g.P h t s = 0 := by unfold Vals.P Vals.E; rw [if_neg hs, zero_div]
    rw [this, zero_mul]; rfl

theorem dq_is (h : Fin 8) (t : Fin 2048) (j : Fin 64) : DQ (DS (EE q k c) (DOT (HD d) (HD v))) k (ix3 0 t (ln h j)) = ((∑ s, g.S h t s * (1 / 8) * g.k s (ln h j) : ℝ) : EReal) := by
  rw [DQ_at]
  simp only [DS_is H, H.k, eighth, ← EReal.coe_mul, Cert.Real.sum_coe]

theorem dk_is (h : Fin 8) (s : Fin 2048) (j : Fin 64) : DK (DS (EE q k c) (DOT (HD d) (HD v))) q (ix3 0 s (ln h j)) = ((∑ t, g.S h t s * (1 / 8) * g.q t (ln h j) : ℝ) : EReal) := by
  rw [DK_at]
  simp only [DS_is H, H.q, eighth, ← EReal.coe_mul, Cert.Real.sum_coe]

theorem dv_is (h : Fin 8) (s : Fin 2048) (j : Fin 64) : DV (EE q k c) d (ix3 0 s (ln h j)) = ((∑ t, g.d t (ln h j) * g.P h t s : ℝ) : EReal) := by
  rw [DV_at]
  simp only [PR_is H _ (EE_is H), H.d, ← EReal.coe_mul, Cert.Real.sum_coe]

theorem dc_is (h : Fin 8) (t : Fin 2048) : DC (DS (EE q k c) (DOT (HD d) (HD v))) (ix3 0 h t) = ((∑ s, -g.S h s t + ∑ s, g.S h t s : ℝ) : EReal) := by
  rw [DC_at]
  simp only [DS_is H, ← EReal.coe_neg, Cert.Real.sum_coe, ← EReal.coe_add]
end

/-! ## The reference's results -/

theorem run_dq (m : (ℓ : Loc nD τ sig) → Buf (Elt Ideal) ℓ) (c : Dev nD) : res_out0 m c = DQ (DS (EE (m ((c.tc : Thread nD τ).loc main_arg0)) (m ((c.tc : Thread nD τ).loc main_arg1)) (m ((c.tc : Thread nD τ).loc main_arg3))) (DOT (HD (m ((c.tc : Thread nD τ).loc main_arg4))) (HD (m ((c.tc : Thread nD τ).loc main_arg2))))) (m ((c.tc : Thread nD τ).loc main_arg1)) := by
  unfold res_out0 res_main_v92
  rfl
theorem run_dk (m : (ℓ : Loc nD τ sig) → Buf (Elt Ideal) ℓ) (c : Dev nD) : res_out1 m c = DK (DS (EE (m ((c.tc : Thread nD τ).loc main_arg0)) (m ((c.tc : Thread nD τ).loc main_arg1)) (m ((c.tc : Thread nD τ).loc main_arg3))) (DOT (HD (m ((c.tc : Thread nD τ).loc main_arg4))) (HD (m ((c.tc : Thread nD τ).loc main_arg2))))) (m ((c.tc : Thread nD τ).loc main_arg0)) := by
  unfold res_out1 res_main_v90
  rfl
theorem run_dv (m : (ℓ : Loc nD τ sig) → Buf (Elt Ideal) ℓ) (c : Dev nD) : res_out2 m c = DV (EE (m ((c.tc : Thread nD τ).loc main_arg0)) (m ((c.tc : Thread nD τ).loc main_arg1)) (m ((c.tc : Thread nD τ).loc main_arg3))) (m ((c.tc : Thread nD τ).loc main_arg4)) := by
  unfold res_out2 res_main_v60
  rfl
theorem run_dc (m : (ℓ : Loc nD τ sig) → Buf (Elt Ideal) ℓ) (c : Dev nD) : res_out3 m c = DC (DS (EE (m ((c.tc : Thread nD τ).loc main_arg0)) (m ((c.tc : Thread nD τ).loc main_arg1)) (m ((c.tc : Thread nD τ).loc main_arg3))) (DOT (HD (m ((c.tc : Thread nD τ).loc main_arg4))) (HD (m ((c.tc : Thread nD τ).loc main_arg2))))) := by
  unfold res_out3 res_main_v84
  rfl

end Cert.Reference7Ideal.Value
-- ==== Proof.SbRun.lean ====
/- The body of the stick-breaking attention's gradient, run once at each of its two kinds of point. -/
module

public import proofs.«01_k».proof.Proof.Gen.Kernel8Ideal.Skeleton
public import proofs.«01_k».proof.Proof.Gen.Kernel8Ideal.Frame

@[expose] public section

set_option maxRecDepth 16384

noncomputable section

namespace Cert.Kernel8Ideal.Sb

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where the point works, its coordinate along the three results is 0. -/
theorem offset_work (i : grid0.Coords) (hc : k0_cond1 i = 1#1) : k0_off37 i = ![0, 0, 0] := by
  revert i; decide +kernel

instance closedOff_work (i : grid0.Coords) [h : Fact (k0_cond1 i = 1#1)] : ClosedOff (k0_off37 i) := ⟨![0, 0, 0], offset_work i h.out⟩

set_option maxHeartbeats 16000000 in
/-- A point that works: from the four staged blocks it leaves the pieces of the three results, whatever the scratch held. -/
def runWork (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .hbm S2048x3072 .bf16) (harg6 : arg6.IsWhole) (arg7 : Memref sig .tc .vmem S2048x128 .bf16) (harg7 : arg7.IsWhole) (arg8 : Memref sig .tc .vmem S8x2048x256 .bf16) (harg8 : arg8.IsWhole) (arg9 : Memref sig .tc .vmem S8x2048x256 .bf16) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S3x2048x128 .bf16) (harg12 : arg12.IsWhole) (hc : k0_cond1 i = 1#1)
    (x2 : Vec F S2048x128 .bf16) (x3 : Vec F S2048x128 .bf16) (x4 : Vec F S2048x128 .bf16) (x5 : Vec F S2048x128 .bf16) :
    Σ' (L7 : List (View.Piece (Elt F) S2048x128 .bf16)), { L12 : List (View.Piece (Elt F) S3x2048x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg7.view.loc (c : Thread nD τ) ↦[arg7.view.set]{fullShare} arg7.view.writes (Elt F) f L7) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f L12)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_sb_bwd_eq_skeleton]; unfold cc0_sb_bwd_skel
    simp only [k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5
    haveI : Fact (k0_cond1 i = 1#1) := ⟨hc⟩
    have htr1 : k0_t1_loop.trips = 0 := by decide
    have htr2 : k0_t2_loop.trips = 0 := by decide
    have htr3 : k0_t3_loop.trips = 0 := by decide
    have htr4 : k0_t4_loop.trips = 0 := by decide
    have htr5 : k0_t5_loop.trips = 0 := by decide
    have htr6 : k0_t6_loop.trips = 0 := by decide
    have htr7 : k0_t7_loop.trips = 0 := by decide
    have htr8 : k0_t8_loop.trips = 0 := by decide
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]; · iexists _; iexact H7
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    isplitl [H11]
    · iexists _, _; isplitr
      swap; · iexact H11
      ipureintro; rfl
    iexists _; iexact H12

end Cert.Kernel8Ideal.Sb
-- ==== Proof.SbHand.lean ====
/- The body of the stick-breaking attention's gradient, run at a point that only hands a result on. -/
module

public import proofs.«01_k».proof.Proof.Gen.Kernel8Ideal.Skeleton
public import proofs.«01_k».proof.Proof.Gen.Kernel8Ideal.Frame

@[expose] public section

set_option maxRecDepth 16384

noncomputable section

namespace Cert.Kernel8Ideal.Sb

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A point that only hands on a result kept from the point that worked. -/
def runHand (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .hbm S2048x3072 .bf16) (harg6 : arg6.IsWhole) (arg7 : Memref sig .tc .vmem S2048x128 .bf16) (harg7 : arg7.IsWhole) (arg8 : Memref sig .tc .vmem S8x2048x256 .bf16) (harg8 : arg8.IsWhole) (arg9 : Memref sig .tc .vmem S8x2048x256 .bf16) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S3x2048x128 .bf16) (harg12 : arg12.IsWhole) (hc : ¬k0_cond1 i = 1#1)
    (x12 : Vec F S3x2048x128 .bf16) :
    { L7 : List (View.Piece (Elt F) S2048x128 .bf16) //
      ∀ (E : Set ℕ) (K : PUnit → sProp 𝕄),
        iprop((∃ d, owns (c : Thread nD τ) arg7 fullShare d) ∗ owns (c : Thread nD τ) arg12 fullShare x12
            ∗ (iprop((∃ f, arg7.view.loc (c : Thread nD τ) ↦[arg7.view.set]{fullShare} arg7.view.writes (Elt F) f L7) ∗ owns (c : Thread nD τ) arg12 fullShare x12) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_sb_bwd_eq_skeleton]; unfold cc0_sb_bwd_skel
    unfold owns
    iintro ⟨⟨%d7, %f7, -, H7⟩, ⟨%f12, %hf12, H12⟩, Hk⟩
    obtain rfl := harg12.eq_unread hf12
    sl_exec (disch := first | sl_exact hc)
    sl_step
    iapply Hk
    isplitl [H7]; · iexists _; iexact H7
    iexists _; isplitr; · ipureintro; exact harg12.read_unread _
    iexact H12

end Cert.Kernel8Ideal.Sb
-- ==== Proof.SbFrame.lean ====
/- The stick-breaking attention's gradient over its grid: what each point leaves, and the run of the whole program. -/
module

public import proofs.«01_k».proof.Proof.SbRun
public import proofs.«01_k».proof.Proof.SbHand
public import Idealize.ShloMosaic.Lib.Claim
public import Idealize.ShloMosaic.Lib.Pipeline.TableIdle

@[expose] public section

set_option maxRecDepth 16384

noncomputable section

namespace Cert.Kernel8Ideal.Sb

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points work, and what a run of theirs is -/

/-- The point works exactly where its second coordinate is 0. -/
theorem works_iff : ∀ t : Fin cfg0.N, k0_cond1 (grid0.coords t) = 1#1 ↔ t.val % 3 = 0 := by
  intro t
  have ht : t.val < 12 := Nat.lt_of_lt_of_eq t.isLt N_0
  have e1 : (grid0.coords t 1).val = t.val / 1 % 3 := Pipeline.Grid.coords_val t 1 (by decide) rfl
  simp only [k0_cond1, e1]
  word_cmp

/-- The run of a working point at its own staged blocks. -/
def work (c : Dev nD) (t : Fin cfg0.N) (h : t.val % 3 = 0) :=
  runWork (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole main_v10) (Memref.isWhole_whole _) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((works_iff t).mpr h) (iblk m c 0 t) (iblk m c 1 t) (iblk m c 2 t) (iblk m c 3 t)

/-! ## What a point leaves -/

abbrev outView : View sig .tc .vmem S2048x128 .bf16 := (Memref.whole cc0_stg4_0 : Memref sig .tc .vmem S2048x128 .bf16).view
theorem cover_out (c : Dev nD) (t : Fin cfg0.N) (h : t.val % 3 = 0) (y : S2048x128.Idx) : ∃ pc ∈ (work m c t h).1, y ∈ pc.1.set :=
  View.cover_of_tiledL (work m c t h).1 S2048x128.size (by sl_kernel_rfl) y
/-- The result that a working point hands on itself. -/
def first (c : Dev nD) (t : Fin cfg0.N) (h : t.val % 3 = 0) : Vec F S2048x128 .bf16 := outView.read (Elt F) (outView.writes (Elt F) outView.junk (work m c t h).1)

/-- The pieces of the three results tile, at each of the four points that work. -/
theorem tiled (c : Dev nD) (t : Fin cfg0.N) (h : t.val % 3 = 0) : View.Piece.tiledBy (work m c t h).2.1 ![1, 256, 128] = true := by
  rcases fin_N0 t with rfl | rfl | rfl | rfl | rfl | rfl | rfl | rfl | rfl | rfl | rfl | rfl
  all_goals first | exact absurd h (by decide) | sl_kernel_rfl
abbrev keptView : View sig .tc .vmem S3x2048x128 .bf16 := (Memref.whole cc0_scratch4 : Memref sig .tc .vmem S3x2048x128 .bf16).view
theorem cover_kept (c : Dev nD) (t : Fin cfg0.N) (h : t.val % 3 = 0) (y : S3x2048x128.Idx) : ∃ pc ∈ (work m c t h).2.1, y ∈ pc.1.set :=
  View.cover_of_tiledBy (work m c t h).2.1 ![1, 256, 128] (tiled m c t h) y
/-- The three results that it keeps in scratch. -/
def res (c : Dev nD) (t : Fin cfg0.N) (h : t.val % 3 = 0) : Vec F S3x2048x128 .bf16 := keptView.read (Elt F) (keptView.writes (Elt F) keptView.junk (work m c t h).2.1)

/-- The run of a point that hands on a kept result. -/
def hand (c : Dev nD) (t : Fin cfg0.N) (h : ¬t.val % 3 = 0) (x : Vec F S3x2048x128 .bf16) :=
  runHand (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole main_v10) (Memref.isWhole_whole _) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun e => h ((works_iff t).mp e)) x
theorem cover_hand (c : Dev nD) (t : Fin cfg0.N) (h : ¬t.val % 3 = 0) (x : Vec F S3x2048x128 .bf16) (y : S2048x128.Idx) : ∃ pc ∈ (hand c t h x).1, y ∈ pc.1.set :=
  View.cover_of_tiledL (hand c t h x).1 S2048x128.size (by sl_kernel_rfl) y
/-- What it leaves. -/
def later (c : Dev nD) (t : Fin cfg0.N) (h : ¬t.val % 3 = 0) (x : Vec F S3x2048x128 .bf16) : Vec F S2048x128 .bf16 := outView.read (Elt F) (outView.writes (Elt F) outView.junk (hand c t h x).1)

/-- The working point of a point's round. -/
def base (t : Fin cfg0.N) : Fin cfg0.N := ⟨t.val - t.val % 3, Nat.lt_of_le_of_lt (Nat.sub_le _ _) t.isLt⟩
theorem base_mod (t : Fin cfg0.N) : (base t).val % 3 = 0 := by simp only [base]; omega

/-- The three results kept in a point's round, and what the point hands on. -/
def resAt (c : Dev nD) (t : Fin cfg0.N) : Vec F S3x2048x128 .bf16 := res m c (base t) (base_mod t)
def outAt (c : Dev nD) (t : Fin cfg0.N) : Vec F S2048x128 .bf16 := if h : t.val % 3 = 0 then first m c t h else later c t h (resAt m c t)

theorem res_congr (c : Dev nD) {u t : Fin cfg0.N} (e : u = t) (hu : u.val % 3 = 0) (h : t.val % 3 = 0) : res m c u hu = res m c t h := by subst e; rfl
theorem resAt_work (c : Dev nD) (t : Fin cfg0.N) (h : t.val % 3 = 0) : resAt m c t = res m c t h :=
  res_congr m c (Fin.ext (by simp only [base]; omega)) _ _
theorem resAt_pred (c : Dev nD) (t : Fin cfg0.N) (h : ¬t.val % 3 = 0) : resAt m c ⟨t.val - 1, Nat.lt_of_le_of_lt (Nat.sub_le _ _) t.isLt⟩ = resAt m c t :=
  res_congr m c (Fin.ext (by simp only [base]; omega)) _ _

/-! ## The proof data -/

/-- The scratch that keeps the results: at anything before a round, at the round's results within it. -/
def keeps (c : Dev nD) (t : Fin (cfg0.N + 1)) : sProp 𝕄 :=
  if h : t.val % 3 = 0 then iprop(∃ d, owns (c : Thread nD τ) (Memref.whole cc0_scratch4 : Memref sig .tc .vmem S3x2048x128 .bf16) fullShare d)
  else owns (c : Thread nD τ) (Memref.whole cc0_scratch4 : Memref sig .tc .vmem S3x2048x128 .bf16) fullShare (resAt m c ⟨t.val - 1, by have := t.isLt; omega⟩)

/-- The four buffers of scratch that a working point starts and ends with at anything. -/
def loose (c : Dev nD) : sProp 𝕄 :=
  iprop((∃ d, owns (c : Thread nD τ) (Memref.whole cc0_scratch0 : Memref sig .tc .vmem S8x2048x256 .bf16) fullShare d)
    ∗ (∃ d, owns (c : Thread nD τ) (Memref.whole cc0_scratch1 : Memref sig .tc .vmem S8x2048x256 .bf16) fullShare d)
    ∗ (∃ d, owns (c : Thread nD τ) (Memref.whole cc0_scratch2 : Memref sig .tc .vmem S8x128x256 .f32) fullShare d)
    ∗ (∃ d, owns (c : Thread nD τ) (Memref.whole cc0_scratch3 : Memref sig .tc .vmem S8x128x256 .f32) fullShare d))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := iprop(loose c ∗ keeps m c t ∗ ∃ r, prngReg c r)
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-! ## The body at a point -/

/-- What the body starts with at a point. -/
def starts (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it ends with. -/
def ends (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem keeps_loose (c : Dev nD) (t : Fin (cfg0.N + 1)) (h : t.val % 3 = 0) :
    keeps m c t = (iprop(∃ d, owns (c : Thread nD τ) (Memref.whole cc0_scratch4 : Memref sig .tc .vmem S3x2048x128 .bf16) fullShare d) : sProp 𝕄) := dif_pos h
theorem keeps_cast (c : Dev nD) (t : Fin cfg0.N) (h : ¬t.val % 3 = 0) :
    keeps m c t.castSucc = (owns (c : Thread nD τ) (Memref.whole cc0_scratch4 : Memref sig .tc .vmem S3x2048x128 .bf16) fullShare (resAt m c t) : sProp 𝕄) := by
  rw [← resAt_pred m c t h]
  exact dif_neg (by simpa using h)
theorem keeps_next (c : Dev nD) (t : Fin cfg0.N) :
    owns (c : Thread nD τ) (Memref.whole cc0_scratch4 : Memref sig .tc .vmem S3x2048x128 .bf16) fullShare (resAt m c t) ⊢ (keeps m c t.succ : sProp 𝕄) := by
  by_cases h2 : t.val % 3 = 2
  · rw [keeps_loose m c t.succ (by simp only [Fin.val_succ]; omega)]
    iintro H; iexists _; iexact H
  · rw [show keeps m c t.succ = (owns (c : Thread nD τ) (Memref.whole cc0_scratch4 : Memref sig .tc .vmem S3x2048x128 .bf16) fullShare (resAt m c t) : sProp 𝕄) from
      dif_neg (by simp only [Fin.val_succ]; omega)]

set_option maxHeartbeats 1600000 in
theorem body_work (c : Dev nD) (t : Fin cfg0.N) (h : t.val % 3 = 0) :
    starts m c t ⊢ wp frame (wpE (defs₀ (F := F)) Variants.none c none) Set.univ (bodyAt0 t) (fun _ => ends m c t) := by
  unfold starts ends bodyAt0
  simp only [before0, before1, before2, before3]
  rw [after0, after1, after2, after3, after4,
    show outAt m c t = first m c t h from dif_pos h,
    show (dats m 0 c).Φ t.castSucc = iprop(loose c ∗ keeps m c t.castSucc ∗ ∃ r, prngReg c r) from rfl,
    show (dats m 0 c).Φ t.succ = iprop(loose c ∗ keeps m c t.succ ∗ ∃ r, prngReg c r) from rfl,
    keeps_loose m c t.castSucc h,
    show (dats m 0 c).owesAt () t.succ = (dats m 0 c).owesAt () t.castSucc from rfl]
  unfold loose
  iintro ⟨⟨⟨HA, HB, HC, HD⟩, HE, Hr⟩, Ho, ⟨%d0, H0⟩, ⟨%d1, H1⟩, ⟨%d2, H2⟩, ⟨%d3, H3⟩, ⟨%d4, H4⟩⟩
  iapply ((work m c t h).2.2 Set.univ _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  isplitl [HC]; · iexact HC
  isplitl [HD]; · iexact HD
  isplitl [HE]; · iexact HE
  iintro ⟨H0, H1, H2, H3, ⟨%e4, H4⟩, HA, HB, HC, HD, ⟨%e5, HE⟩⟩
  isplitl [HA HB HC HD HE Hr]
  · isplitl [HA HB HC HD]
    · isplitl [HA]; · iexact HA
      isplitl [HB]; · iexact HB
      isplitl [HC]; · iexact HC
      iexact HD
    isplitl [HE]
    · iapply (keeps_next m c t)
      rw [resAt_work m c t h]
      unfold owns; iexists _; isplitr
      swap; · iexact HE
      ipureintro; exact View.read_writes_of_cover _ _ _ _ _ (cover_kept m c t h)
    iexact Hr
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_out m c t h)

set_option maxHeartbeats 1600000 in
theorem body_hand (c : Dev nD) (t : Fin cfg0.N) (h : ¬t.val % 3 = 0) :
    starts m c t ⊢ wp frame (wpE (defs₀ (F := F)) Variants.none c none) Set.univ (bodyAt0 t) (fun _ => ends m c t) := by
  unfold starts ends bodyAt0
  simp only [before0, before1, before2, before3]
  rw [after0, after1, after2, after3, after4,
    show outAt m c t = later c t h (resAt m c t) from dif_neg h,
    show (dats m 0 c).Φ t.castSucc = iprop(loose c ∗ keeps m c t.castSucc ∗ ∃ r, prngReg c r) from rfl,
    show (dats m 0 c).Φ t.succ = iprop(loose c ∗ keeps m c t.succ ∗ ∃ r, prngReg c r) from rfl,
    keeps_cast m c t h,
    show (dats m 0 c).owesAt () t.succ = (dats m 0 c).owesAt () t.castSucc from rfl]
  iintro ⟨⟨HL, HE, Hr⟩, Ho, ⟨%d0, H0⟩, ⟨%d1, H1⟩, ⟨%d2, H2⟩, ⟨%d3, H3⟩, ⟨%d4, H4⟩⟩
  iapply ((hand c t h (resAt m c t)).2 Set.univ _)
  isplitl [H4]; · iexists _; iexact H4
  isplitl [HE]; · iexact HE
  iintro ⟨⟨%e4, H4⟩, HE⟩
  isplitl [HL HE Hr]
  · isplitl [HL]; · iexact HL
    isplitl [HE]; · iapply (keeps_next m c t); iexact HE
    iexact Hr
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_hand c t h (resAt m c t))

/-- The body at every point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val % 3 = 0
  · exact triple_restated (body_work m c t h) rfl .rfl fun _ => .rfl
  · exact triple_restated (body_hand m c t h) rfl .rfl fun _ => .rfl

/-! ## The run -/

theorem enter (c : Dev nD) : (Pipeline.ΦA spec0 c : sProp 𝕄) ⊢ (dats m 0 c).Φ 0 := by
  rw [show (dats m 0 c).Φ 0 = iprop(loose c ∗ keeps m c 0 ∗ ∃ r, prngReg c r) from rfl, keeps_loose m c 0 rfl]
  unfold Pipeline.ΦA loose; rw [scopedRest0_eq]
  iintro ⟨⟨⟨%f0, H0⟩, ⟨%f1, H1⟩, ⟨%f2, H2⟩, ⟨%f3, H3⟩, ⟨%f4, H4⟩⟩, Hr⟩
  isplitl [H0 H1 H2 H3]
  · isplitl [H0]; · iexists f0; rw [owns_whole]; iexact H0
    isplitl [H1]; · iexists f1; rw [owns_whole]; iexact H1
    isplitl [H2]; · iexists f2; rw [owns_whole]; iexact H2
    iexists f3; rw [owns_whole]; iexact H3
  isplitl [H4]; · iexists f4; rw [owns_whole]; iexact H4
  iexact Hr

theorem leave (c : Dev nD) : (dats m 0 c).Φ (Fin.last cfg0.N) ⊢ (Pipeline.ΦA spec0 c : sProp 𝕄) := by
  rw [show (dats m 0 c).Φ (Fin.last cfg0.N) = iprop(loose c ∗ keeps m c (Fin.last cfg0.N) ∗ ∃ r, prngReg c r) from rfl,
    keeps_loose m c (Fin.last cfg0.N) (by rw [Fin.val_last, show cfg0.N = 12 from N_0])]
  unfold Pipeline.ΦA loose; rw [scopedRest0_eq]
  simp only [owns_whole]
  iintro ⟨⟨H0, H1, H2, H3⟩, H4, Hr⟩
  isplitl [H0 H1 H2 H3 H4]
  · isplitl [H0]; · iexact H0
    isplitl [H1]; · iexact H1
    isplitl [H2]; · iexact H2
    isplitl [H3]; · iexact H3
    iexact H4
  iexact Hr

set_option backward.isDefEq.respectTransparency.types false in
set_option maxHeartbeats 800000 in
/-- The whole program ends, its arrays as the proof data say and every counter at zero. -/
theorem run_still : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_all m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_still m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_still m ρ))

end Cert.Kernel8Ideal.Sb

end
-- ==== Proof.FoxRun.lean ====
/- The body of the forgetting attention's gradient, run once at each of its two kinds of point. -/
module

public import proofs.«01_k».proof.Proof.Gen.Kernel7Ideal.Skeleton
public import proofs.«01_k».proof.Proof.Gen.Kernel7Ideal.Frame

@[expose] public section

set_option maxRecDepth 16384

noncomputable section

namespace Cert.Kernel7Ideal.Fox

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the point works, its coordinate along the three results is 0. -/
theorem off18_work (i : grid0.Coords) (hc : k0_cond1 i = 1#1) : k0_off18 i = ![0, 0, 0] := by
  revert i; decide +kernel

instance closedOff_work (i : grid0.Coords) [h : Fact (k0_cond1 i = 1#1)] : ClosedOff (k0_off18 i) := ⟨![0, 0, 0], off18_work i h.out⟩

set_option maxHeartbeats 8000000 in
/-- A point that works: from the staged blocks it leaves the results' pieces, whatever the scratch held. -/
def runWork (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2x2048x1 .f32) (harg7 : arg7.IsWhole) (arg8 : Memref sig .tc .vmem S2x2048x1 .f32) (harg8 : arg8.IsWhole) (arg9 : Memref sig .tc .vmem S2x8x1x256 .f32) (harg9 : arg9.IsWhole) (arg10 : Memref sig .tc .hbm S2048x3072 .bf16) (harg10 : arg10.IsWhole) (arg11 : Memref sig .tc .vmem S2048x128 .bf16) (harg11 : arg11.IsWhole) (arg12 : Memref sig .tc .vmem S1x2048x128 .f32) (harg12 : arg12.IsWhole) (arg13 : Memref sig .tc .vmem S2x8x1x256 .f32) (harg13 : arg13.IsWhole) (arg14 : Memref sig .tc .vmem S8x128x256 .f32) (harg14 : arg14.IsWhole) (arg15 : Memref sig .tc .vmem S8x128x256 .f32) (harg15 : arg15.IsWhole) (arg16 : Memref sig .tc .vmem S2x8x1x256 .f32) (harg16 : arg16.IsWhole) (arg17 : Memref sig .tc .vmem S3x2048x128 .bf16) (harg17 : arg17.IsWhole) (hc : k0_cond1 i = 1#1)
    (x2 : Vec F S2048x128 .bf16) (x3 : Vec F S2048x128 .bf16) (x4 : Vec F S2048x128 .bf16) (x5 : Vec F S2048x128 .bf16) (x6 : Vec F S2048x128 .bf16) (x7 : Vec F S2x2048x1 .f32) (x8 : Vec F S2x2048x1 .f32) (x9 : Vec F S2x8x1x256 .f32) :
    Σ' (L11 : List (View.Piece (Elt F) S2048x128 .bf16)) (L12 : List (View.Piece (Elt F) S1x2048x128 .f32)) (L13 : List (View.Piece (Elt F) S2x8x1x256 .f32)), { L17 : List (View.Piece (Elt F) S3x2048x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L17)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_fox_bwd_eq_skeleton]; unfold cc0_fox_bwd_skel
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    haveI : Fact (k0_cond1 i = 1#1) := ⟨hc⟩
    have htr1 : k0_t1_loop.trips = 0 := by decide
    have htr2 : k0_t2_loop.trips = 0 := by decide
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]; · iexists _; iexact H11
    isplitl [H12]; · iexists _; iexact H12
    isplitl [H13]; · iexists _; iexact H13
    isplitl [H14]
    · iexists _, _; isplitr
      swap; · iexact H14
      ipureintro; rfl
    isplitl [H15]
    · iexists _, _; isplitr
      swap; · iexact H15
      ipureintro; rfl
    isplitl [H16]
    · iexists _, _; isplitr
      swap; · iexact H16
      ipureintro; rfl
    iexists _; iexact H17

end Cert.Kernel7Ideal.Fox
-- ==== Proof.FoxHand.lean ====
/- The body of the forgetting attention's gradient, run once at each of its two kinds of point. -/
module

public import proofs.«01_k».proof.Proof.Gen.Kernel7Ideal.Skeleton
public import proofs.«01_k».proof.Proof.Gen.Kernel7Ideal.Frame

@[expose] public section

set_option maxRecDepth 16384

noncomputable section

namespace Cert.Kernel7Ideal.Fox

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point that only hands on a result kept from the point that worked. -/
def runHand (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2x2048x1 .f32) (harg7 : arg7.IsWhole) (arg8 : Memref sig .tc .vmem S2x2048x1 .f32) (harg8 : arg8.IsWhole) (arg9 : Memref sig .tc .vmem S2x8x1x256 .f32) (harg9 : arg9.IsWhole) (arg10 : Memref sig .tc .hbm S2048x3072 .bf16) (harg10 : arg10.IsWhole) (arg11 : Memref sig .tc .vmem S2048x128 .bf16) (harg11 : arg11.IsWhole) (arg12 : Memref sig .tc .vmem S1x2048x128 .f32) (harg12 : arg12.IsWhole) (arg13 : Memref sig .tc .vmem S2x8x1x256 .f32) (harg13 : arg13.IsWhole) (arg14 : Memref sig .tc .vmem S8x128x256 .f32) (harg14 : arg14.IsWhole) (arg15 : Memref sig .tc .vmem S8x128x256 .f32) (harg15 : arg15.IsWhole) (arg16 : Memref sig .tc .vmem S2x8x1x256 .f32) (harg16 : arg16.IsWhole) (arg17 : Memref sig .tc .vmem S3x2048x128 .bf16) (harg17 : arg17.IsWhole) (hc : ¬k0_cond1 i = 1#1)
    (x17 : Vec F S3x2048x128 .bf16) :
    { L11 : List (View.Piece (Elt F) S2048x128 .bf16) //
      ∀ (E : Set ℕ) (K : PUnit → sProp 𝕄),
        iprop((∃ d, owns (c : Thread nD τ) arg11 fullShare d) ∗ owns (c : Thread nD τ) arg17 fullShare x17
            ∗ (iprop((∃ f, arg11.view.loc (c : Thread nD τ) ↦[arg11.view.set]{fullShare} arg11.view.writes (Elt F) f L11) ∗ owns (c : Thread nD τ) arg17 fullShare x17) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_fox_bwd_eq_skeleton]; unfold cc0_fox_bwd_skel
    unfold owns
    iintro ⟨⟨%d11, %f11, -, H11⟩, ⟨%f17, %hf17, H17⟩, Hk⟩
    obtain rfl := harg17.eq_unread hf17
    sl_exec (disch := first | sl_exact hc)
    sl_step
    iapply Hk
    isplitl [H11]; · iexists _; iexact H11
    iexists _; isplitr; · ipureintro; exact harg17.read_unread _
    iexact H17

end Cert.Kernel7Ideal.Fox
-- ==== Proof.FoxFrame.lean ====
/- The forgetting attention's gradient over its grid: what each point leaves, and the run of the whole program. -/
module

public import proofs.«01_k».proof.Proof.FoxRun
public import proofs.«01_k».proof.Proof.FoxHand
public import Idealize.ShloMosaic.Lib.Claim
public import Idealize.ShloMosaic.Lib.Pipeline.TableIdle

@[expose] public section

set_option maxRecDepth 16384

noncomputable section

namespace Cert.Kernel7Ideal.Fox

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points work, and which windows they leave alone -/

/-- The point works exactly where its second coordinate is 0. -/
theorem works_iff : ∀ t : Fin cfg0.N, k0_cond1 (grid0.coords t) = 1#1 ↔ t.val % 3 = 0 := by
  intro t
  have ht : t.val < 12 := Nat.lt_of_lt_of_eq t.isLt N_0
  have e1 : (grid0.coords t 1).val = t.val / 1 % 3 := Pipeline.Grid.coords_val t 1 (by decide) rfl
  simp only [k0_cond1, e1]
  word_cmp

theorem idle9_iff : ∀ t : Fin cfg0.N, cfg0.idle 9 (grid0.coords t) = decide (t.val % 3 ≠ 0) := by decide +kernel
theorem idle10_iff : ∀ t : Fin cfg0.N, cfg0.idle 10 (grid0.coords t) = decide (t.val % 3 ≠ 0) := by decide +kernel

/-- A kept result's buffer is fresh until the first point of its round has worked. -/
def fresher (n : ℕ) : Bool := n % 3 = 0
theorem step9 : ∀ t : Fin cfg0.N, fresher (t.val + 1) = ((cfg0.win 9).flush t || (cfg0.idle 9 (cfg0.grid.coords t) && fresher t.val)) := by decide +kernel
theorem step10 : ∀ t : Fin cfg0.N, fresher (t.val + 1) = ((cfg0.win 10).flush t || (cfg0.idle 10 (cfg0.grid.coords t) && fresher t.val)) := by decide +kernel
theorem fresh9 (t : Fin cfg0.N) : cfg0.fresh 9 t.val = fresher t.val := Pipeline.Cfg.fresh_tab cfg0 9 fresher rfl step9 t.val (Nat.le_of_lt t.isLt)
theorem fresh10 (t : Fin cfg0.N) : cfg0.fresh 10 t.val = fresher t.val := Pipeline.Cfg.fresh_tab cfg0 10 fresher rfl step10 t.val (Nat.le_of_lt t.isLt)

/-! ## What a point leaves -/

/-- The run of a working point at its own staged blocks. -/
def work (c : Dev nD) (t : Fin cfg0.N) (h : t.val % 3 = 0) :=
  runWork (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_v53) (Memref.isWhole_whole _) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) ((works_iff t).mpr h) (iblk m c 0 t) (iblk m c 1 t) (iblk m c 2 t) (iblk m c 3 t) (iblk m c 4 t) (iblk m c 5 t) (iblk m c 6 t) (iblk m c 7 t)

abbrev view11 : View sig .tc .vmem S2048x128 .bf16 := (Memref.whole cc0_stg8_0 : Memref sig .tc .vmem S2048x128 .bf16).view
theorem cover11 (c : Dev nD) (t : Fin cfg0.N) (h : t.val % 3 = 0) (y : S2048x128.Idx) : ∃ pc ∈ (work m c t h).1, y ∈ pc.1.set :=
  View.cover_of_tiledL (work m c t h).1 S2048x128.size (by sl_kernel_rfl) y
/-- What a working point leaves there. -/
def first (c : Dev nD) (t : Fin cfg0.N) (h : t.val % 3 = 0) : Vec F S2048x128 .bf16 := view11.read (Elt F) (view11.writes (Elt F) view11.junk (work m c t h).1)

abbrev view12 : View sig .tc .vmem S1x2048x128 .f32 := (Memref.whole cc0_stg9_0 : Memref sig .tc .vmem S1x2048x128 .f32).view
theorem cover12 (c : Dev nD) (t : Fin cfg0.N) (h : t.val % 3 = 0) (y : S1x2048x128.Idx) : ∃ pc ∈ (work m c t h).2.1, y ∈ pc.1.set :=
  View.cover_of_tiledL (work m c t h).2.1 S1x2048x128.size (by sl_kernel_rfl) y
/-- What a working point leaves there. -/
def dcc (c : Dev nD) (t : Fin cfg0.N) (h : t.val % 3 = 0) : Vec F S1x2048x128 .f32 := view12.read (Elt F) (view12.writes (Elt F) view12.junk (work m c t h).2.1)

abbrev view13 : View sig .tc .vmem S2x8x1x256 .f32 := (Memref.whole cc0_stg10_0 : Memref sig .tc .vmem S2x8x1x256 .f32).view
theorem cover13 (c : Dev nD) (t : Fin cfg0.N) (h : t.val % 3 = 0) (y : S2x8x1x256.Idx) : ∃ pc ∈ (work m c t h).2.2.1, y ∈ pc.1.set :=
  View.cover_of_tiledL (work m c t h).2.2.1 S2x8x1x256.size (by sl_kernel_rfl) y
/-- What a working point leaves there. -/
def dcr (c : Dev nD) (t : Fin cfg0.N) (h : t.val % 3 = 0) : Vec F S2x8x1x256 .f32 := view13.read (Elt F) (view13.writes (Elt F) view13.junk (work m c t h).2.2.1)

/-- The kept results' pieces tile, at each of the four points that work. -/
theorem tiled17 (c : Dev nD) (t : Fin cfg0.N) (h : t.val % 3 = 0) : View.Piece.tiledBy (work m c t h).2.2.2.1 ![1, 256, 128] = true := by
  rcases fin_N0 t with rfl | rfl | rfl | rfl | rfl | rfl | rfl | rfl | rfl | rfl | rfl | rfl
  all_goals first | exact absurd h (by decide) | sl_kernel_rfl
abbrev view17 : View sig .tc .vmem S3x2048x128 .bf16 := (Memref.whole cc0_scratch3 : Memref sig .tc .vmem S3x2048x128 .bf16).view
theorem cover17 (c : Dev nD) (t : Fin cfg0.N) (h : t.val % 3 = 0) (y : S3x2048x128.Idx) : ∃ pc ∈ (work m c t h).2.2.2.1, y ∈ pc.1.set :=
  by
  exact View.cover_of_tiledBy (work m c t h).2.2.2.1 ![1, 256, 128] (tiled17 m c t h) y
/-- What a working point leaves there. -/
def res (c : Dev nD) (t : Fin cfg0.N) (h : t.val % 3 = 0) : Vec F S3x2048x128 .bf16 := view17.read (Elt F) (view17.writes (Elt F) view17.junk (work m c t h).2.2.2.1)

/-- The run of a point that hands on a kept result. -/
def hand (c : Dev nD) (t : Fin cfg0.N) (h : ¬t.val % 3 = 0) (x17 : Vec F S3x2048x128 .bf16) :=
  runHand (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_v53) (Memref.isWhole_whole _) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun e => h ((works_iff t).mp e)) x17
theorem coverHand (c : Dev nD) (t : Fin cfg0.N) (h : ¬t.val % 3 = 0) (x17 : Vec F S3x2048x128 .bf16) (y : S2048x128.Idx) : ∃ pc ∈ (hand c t h x17).1, y ∈ pc.1.set :=
  View.cover_of_tiledL (hand c t h x17).1 S2048x128.size (by sl_kernel_rfl) y
/-- What a point that hands on leaves in the first result's buffer. -/
def later (c : Dev nD) (t : Fin cfg0.N) (h : ¬t.val % 3 = 0) (x17 : Vec F S3x2048x128 .bf16) : Vec F S2048x128 .bf16 := view11.read (Elt F) (view11.writes (Elt F) view11.junk (hand c t h x17).1)

/-- The working point of a point's round. -/
def base (t : Fin cfg0.N) : Fin cfg0.N := ⟨t.val - t.val % 3, Nat.lt_of_le_of_lt (Nat.sub_le _ _) t.isLt⟩
theorem base_mod (t : Fin cfg0.N) : (base t).val % 3 = 0 := by simp only [base]; omega
theorem base_of_work (t : Fin cfg0.N) (h : t.val % 3 = 0) : base t = t := Fin.ext (by simp only [base]; omega)
theorem base_pred (t : Fin cfg0.N) (h : ¬t.val % 3 = 0) : base ⟨t.val - 1, Nat.lt_of_le_of_lt (Nat.sub_le _ _) t.isLt⟩ = base t := Fin.ext (by simp only [base]; omega)

/-- The three results kept in a point's round, and the two it carries out beside them. -/
def resAt (c : Dev nD) (t : Fin cfg0.N) : Vec F S3x2048x128 .bf16 := res m c (base t) (base_mod t)
def dccAt (c : Dev nD) (t : Fin cfg0.N) : Vec F S1x2048x128 .f32 := dcc m c (base t) (base_mod t)
def dcrAt (c : Dev nD) (t : Fin cfg0.N) : Vec F S2x8x1x256 .f32 := dcr m c (base t) (base_mod t)
def outAt (c : Dev nD) (t : Fin cfg0.N) : Vec F S2048x128 .bf16 := if h : t.val % 3 = 0 then first m c t h else later c t h (resAt m c t)

theorem resAt_work (c : Dev nD) (t : Fin cfg0.N) (h : t.val % 3 = 0) : resAt m c t = res m c t h := by
  have e := base_of_work t h
  have : ∀ (u : Fin cfg0.N) (hu : u.val % 3 = 0), u = t → res m c u hu = res m c t h := by rintro u hu rfl; rfl
  exact this _ _ e
theorem resAt_pred (c : Dev nD) (t : Fin cfg0.N) (h : ¬t.val % 3 = 0) : resAt m c ⟨t.val - 1, Nat.lt_of_le_of_lt (Nat.sub_le _ _) t.isLt⟩ = resAt m c t := by
  have e := base_pred t h
  have : ∀ (u : Fin cfg0.N) (hu : u.val % 3 = 0), u = base t → res m c u hu = res m c (base t) (base_mod t) := by rintro u hu rfl; rfl
  exact this _ _ e
theorem dccAt_work (c : Dev nD) (t : Fin cfg0.N) (h : t.val % 3 = 0) : dccAt m c t = dcc m c t h := by
  have e := base_of_work t h
  have : ∀ (u : Fin cfg0.N) (hu : u.val % 3 = 0), u = t → dcc m c u hu = dcc m c t h := by rintro u hu rfl; rfl
  exact this _ _ e
theorem dccAt_pred (c : Dev nD) (t : Fin cfg0.N) (h : ¬t.val % 3 = 0) : dccAt m c ⟨t.val - 1, Nat.lt_of_le_of_lt (Nat.sub_le _ _) t.isLt⟩ = dccAt m c t := by
  have e := base_pred t h
  have : ∀ (u : Fin cfg0.N) (hu : u.val % 3 = 0), u = base t → dcc m c u hu = dcc m c (base t) (base_mod t) := by rintro u hu rfl; rfl
  exact this _ _ e
theorem dcrAt_work (c : Dev nD) (t : Fin cfg0.N) (h : t.val % 3 = 0) : dcrAt m c t = dcr m c t h := by
  have e := base_of_work t h
  have : ∀ (u : Fin cfg0.N) (hu : u.val % 3 = 0), u = t → dcr m c u hu = dcr m c t h := by rintro u hu rfl; rfl
  exact this _ _ e
theorem dcrAt_pred (c : Dev nD) (t : Fin cfg0.N) (h : ¬t.val % 3 = 0) : dcrAt m c ⟨t.val - 1, Nat.lt_of_le_of_lt (Nat.sub_le _ _) t.isLt⟩ = dcrAt m c t := by
  have e := base_pred t h
  have : ∀ (u : Fin cfg0.N) (hu : u.val % 3 = 0), u = base t → dcr m c u hu = dcr m c (base t) (base_mod t) := by rintro u hu rfl; rfl
  exact this _ _ e

/-! ## The proof data -/

/-- Between points: three scratch buffers at anything, the fourth at the round's results while they are still being handed on. -/
def keeps (c : Dev nD) (t : Fin (cfg0.N + 1)) : sProp 𝕄 :=
  if h : t.val % 3 = 0 then iprop(∃ d, owns (c : Thread nD τ) (Memref.whole cc0_scratch3 : Memref sig .tc .vmem S3x2048x128 .bf16) fullShare d)
  else owns (c : Thread nD τ) (Memref.whole cc0_scratch3 : Memref sig .tc .vmem S3x2048x128 .bf16) fullShare (resAt m c ⟨t.val - 1, by have := t.isLt; omega⟩)

/-- The three scratch buffers a working point starts and ends with at anything. -/
def loose3 (c : Dev nD) : sProp 𝕄 :=
  iprop((∃ d, owns (c : Thread nD τ) (Memref.whole cc0_scratch0 : Memref sig .tc .vmem S8x128x256 .f32) fullShare d)
    ∗ (∃ d, owns (c : Thread nD τ) (Memref.whole cc0_scratch1 : Memref sig .tc .vmem S8x128x256 .f32) fullShare d)
    ∗ (∃ d, owns (c : Thread nD τ) (Memref.whole cc0_scratch2 : Memref sig .tc .vmem S2x8x1x256 .f32) fullShare d))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => dccAt m c t
    | ⟨10, _⟩ => dcrAt m c t
  Φ t := iprop(loose3 c ∗ keeps m c t ∗ ∃ r, prngReg c r)
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem after9 (c : Dev nD) (t : Fin cfg0.N) : (dats m 0 c).after 9 t = dccAt m c t := by dsimp only [dats]
theorem after10 (c : Dev nD) (t : Fin cfg0.N) : (dats m 0 c).after 10 t = dcrAt m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem carry9 (c : Dev nD) (t : Fin cfg0.N) (_ : t.val ≠ 0) (hi : cfg0.idle 9 (grid0.coords t) = true) (_ : cfg0.fresh 9 t.val = false) :
    (dats m 0 c).after 9 t = (dats m 0 c).after 9 ⟨t.val - 1, by omega⟩ := by
  rw [after9, after9]
  exact (dccAt_pred m c t (by rw [idle9_iff] at hi; exact of_decide_eq_true hi)).symm
theorem before9 (c : Dev nD) (t : Fin cfg0.N) (h : ¬t.val % 3 = 0) (d) : (dats m 0 c).before 9 t d = dccAt m c t := by
  rw [Dat.before_out_traj _ 9 rfl (fun _ _ => rfl) (carry9 m c) t.val t rfl d,
    if_neg (by rw [fresh9 t]; simpa only [fresher, decide_eq_true_eq] using h), after9]
  exact dccAt_pred m c t h
theorem carry10 (c : Dev nD) (t : Fin cfg0.N) (_ : t.val ≠ 0) (hi : cfg0.idle 10 (grid0.coords t) = true) (_ : cfg0.fresh 10 t.val = false) :
    (dats m 0 c).after 10 t = (dats m 0 c).after 10 ⟨t.val - 1, by omega⟩ := by
  rw [after10, after10]
  exact (dcrAt_pred m c t (by rw [idle10_iff] at hi; exact of_decide_eq_true hi)).symm
theorem before10 (c : Dev nD) (t : Fin cfg0.N) (h : ¬t.val % 3 = 0) (d) : (dats m 0 c).before 10 t d = dcrAt m c t := by
  rw [Dat.before_out_traj _ 10 rfl (fun _ _ => rfl) (carry10 m c) t.val t rfl d,
    if_neg (by rw [fresh10 t]; simpa only [fresher, decide_eq_true_eq] using h), after10]
  exact dcrAt_pred m c t h
theorem leaves9_hand (c : Dev nD) (t : Fin cfg0.N) (h : ¬t.val % 3 = 0) (d : (cfg0.win 9).block.Idx → Elt F (cfg0.win 9).elt) :
    owns (c : Thread nD τ) (st0_9 t) fullShare (dccAt m c t) ⊢ ((dats m 0 c).leavesExact 9 t : sProp 𝕄) := by
  have hi : cfg0.idle 9 (cfg0.grid.coords t) = true := (idle9_iff t).trans (decide_eq_true h)
  cases hf : (cfg0.win 9).flush t with
  | false =>
    rw [Pipeline.Dat.leavesExact_idle _ 9 t hi hf]
    iintro H; iexists d; rw [before9 m c t h]; iexact H
  | true =>
    unfold Dat.leavesExact; rw [hi, hf, after9]
theorem leaves10_hand (c : Dev nD) (t : Fin cfg0.N) (h : ¬t.val % 3 = 0) (d : (cfg0.win 10).block.Idx → Elt F (cfg0.win 10).elt) :
    owns (c : Thread nD τ) (st0_10 t) fullShare (dcrAt m c t) ⊢ ((dats m 0 c).leavesExact 10 t : sProp 𝕄) := by
  have hi : cfg0.idle 10 (cfg0.grid.coords t) = true := (idle10_iff t).trans (decide_eq_true h)
  cases hf : (cfg0.win 10).flush t with
  | false =>
    rw [Pipeline.Dat.leavesExact_idle _ 10 t hi hf]
    iintro H; iexists d; rw [before10 m c t h]; iexact H
  | true =>
    unfold Dat.leavesExact; rw [hi, hf, after10]

/-! ## The body at a point -/

/-- What the body starts with at a point. -/
def starts (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it ends with. -/
def ends (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0 (c : Dev nD) (t : Fin cfg0.N) : (dats m 0 c).leavesExact 0 t = owns (c : Thread nD τ) (st0_0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (st0_1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (st0_2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (st0_3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (st0_4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (st0_5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (st0_6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (st0_7 t) fullShare ((dats m 0 c).after 7 t) := by
  unfold Dat.leavesExact; rw [show cfg0.idle 7 (cfg0.grid.coords t) = false from rfl]
theorem leaves8 (c : Dev nD) (t : Fin cfg0.N) : (dats m 0 c).leavesExact 8 t = owns (c : Thread nD τ) (st0_8 t) fullShare ((dats m 0 c).after 8 t) := by
  unfold Dat.leavesExact; rw [show cfg0.idle 8 (cfg0.grid.coords t) = false from rfl]
theorem leaves9_work (c : Dev nD) (t : Fin cfg0.N) (h : t.val % 3 = 0) : (dats m 0 c).leavesExact 9 t = owns (c : Thread nD τ) (st0_9 t) fullShare ((dats m 0 c).after 9 t) := by
  unfold Dat.leavesExact; rw [show cfg0.idle 9 (cfg0.grid.coords t) = false from (idle9_iff t).trans (decide_eq_false (fun e => e h))]
theorem leaves10_work (c : Dev nD) (t : Fin cfg0.N) (h : t.val % 3 = 0) : (dats m 0 c).leavesExact 10 t = owns (c : Thread nD τ) (st0_10 t) fullShare ((dats m 0 c).after 10 t) := by
  unfold Dat.leavesExact; rw [show cfg0.idle 10 (cfg0.grid.coords t) = false from (idle10_iff t).trans (decide_eq_false (fun e => e h))]

theorem keeps_zero (c : Dev nD) (t : Fin (cfg0.N + 1)) (h : t.val % 3 = 0) :
    keeps m c t = (iprop(∃ d, owns (c : Thread nD τ) (Memref.whole cc0_scratch3 : Memref sig .tc .vmem S3x2048x128 .bf16) fullShare d) : sProp 𝕄) := dif_pos h
theorem keeps_succ (c : Dev nD) (t : Fin cfg0.N) (h : t.val % 3 ≠ 2) :
    keeps m c t.succ = (owns (c : Thread nD τ) (Memref.whole cc0_scratch3 : Memref sig .tc .vmem S3x2048x128 .bf16) fullShare (resAt m c t) : sProp 𝕄) :=
  dif_neg (by simp only [Fin.val_succ]; omega)
theorem keeps_cast (c : Dev nD) (t : Fin cfg0.N) (h : ¬t.val % 3 = 0) :
    keeps m c t.castSucc = (owns (c : Thread nD τ) (Memref.whole cc0_scratch3 : Memref sig .tc .vmem S3x2048x128 .bf16) fullShare (resAt m c t) : sProp 𝕄) := by
  rw [← resAt_pred m c t h]
  exact dif_neg (by simpa using h)

set_option maxHeartbeats 1600000 in
theorem body_work (c : Dev nD) (t : Fin cfg0.N) (h : t.val % 3 = 0) :
    starts m c t ⊢ wp frame (wpE (defs₀ (F := F)) Variants.none c none) Set.univ (bodyAt0 t) (fun _ => ends m c t) := by
  unfold starts ends bodyAt0
  simp only [before0, before1, before2, before3, before4, before5, before6, before7]
  rw [leaves0, leaves1, leaves2, leaves3, leaves4, leaves5, leaves6, leaves7, leaves8, leaves9_work m c t h, leaves10_work m c t h,
    after0, after1, after2, after3, after4, after5, after6, after7, after8, after9, after10, dccAt_work m c t h, dcrAt_work m c t h,
    show outAt m c t = first m c t h from dif_pos h,
    show (dats m 0 c).Φ t.castSucc = iprop(loose3 c ∗ keeps m c t.castSucc ∗ ∃ r, prngReg c r) from rfl,
    show (dats m 0 c).Φ t.succ = iprop(loose3 c ∗ keeps m c t.succ ∗ ∃ r, prngReg c r) from rfl,
    keeps_zero m c t.castSucc h, keeps_succ m c t (by omega), resAt_work m c t h,
    show (dats m 0 c).owesAt () t.succ = (dats m 0 c).owesAt () t.castSucc from rfl]
  unfold loose3
  iintro ⟨⟨⟨HA, HB, HC⟩, HD, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((work m c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HA]; · iexact HA
  isplitl [HB]; · iexact HB
  isplitl [HC]; · iexact HC
  isplitl [HD]; · iexact HD
  iintro ⟨H0, H1, H2, H3, H4, H5, H6, H7, ⟨%e8, H8⟩, ⟨%e9, H9⟩, ⟨%e10, H10⟩, HA, HB, HC, ⟨%e17, HD⟩⟩
  isplitl [HA HB HC HD Hr]
  · isplitl [HA HB HC]
    · isplitl [HA]; · iexact HA
      isplitl [HB]; · iexact HB
      iexact HC
    isplitl [HD]
    · unfold owns; iexists _; isplitr
      swap; · iexact HD
      ipureintro; exact View.read_writes_of_cover _ _ _ _ _ (cover17 m c t h)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover11 m c t h)
  isplitl [H9]
  · unfold owns; iexists _; isplitr
    swap; · iexact H9
    ipureintro; exact View.read_writes_of_cover _ _ _ _ _ (cover12 m c t h)
  unfold owns; iexists _; isplitr
  swap; · iexact H10
  ipureintro; exact View.read_writes_of_cover _ _ _ _ _ (cover13 m c t h)

theorem keeps_next (c : Dev nD) (t : Fin cfg0.N) (h : ¬t.val % 3 = 0) :
    owns (c : Thread nD τ) (Memref.whole cc0_scratch3 : Memref sig .tc .vmem S3x2048x128 .bf16) fullShare (resAt m c t) ⊢ (keeps m c t.succ : sProp 𝕄) := by
  by_cases h2 : t.val % 3 = 2
  · rw [keeps_zero m c t.succ (by simp only [Fin.val_succ]; omega)]
    iintro H; iexists _; iexact H
  · rw [keeps_succ m c t h2]

set_option maxHeartbeats 1600000 in
theorem body_hand (c : Dev nD) (t : Fin cfg0.N) (h : ¬t.val % 3 = 0) :
    starts m c t ⊢ wp frame (wpE (defs₀ (F := F)) Variants.none c none) Set.univ (bodyAt0 t) (fun _ => ends m c t) := by
  unfold starts ends bodyAt0
  simp only [before0, before1, before2, before3, before4, before5, before6, before7, before9 m c t h, before10 m c t h]
  rw [leaves0, leaves1, leaves2, leaves3, leaves4, leaves5, leaves6, leaves7, leaves8,
    after0, after1, after2, after3, after4, after5, after6, after7, after8,
    show outAt m c t = later c t h (resAt m c t) from dif_neg h,
    show (dats m 0 c).Φ t.castSucc = iprop(loose3 c ∗ keeps m c t.castSucc ∗ ∃ r, prngReg c r) from rfl,
    show (dats m 0 c).Φ t.succ = iprop(loose3 c ∗ keeps m c t.succ ∗ ∃ r, prngReg c r) from rfl,
    keeps_cast m c t h,
    show (dats m 0 c).owesAt () t.succ = (dats m 0 c).owesAt () t.castSucc from rfl]
  iintro ⟨⟨HL, HD, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((hand c t h (resAt m c t)).2 Set.univ _)
  isplitl [H8]; · iexists _; iexact H8
  isplitl [HD]; · iexact HD
  iintro ⟨⟨%e8, H8⟩, HD⟩
  isplitl [HL HD Hr]
  · isplitl [HL]; · iexact HL
    isplitl [HD]; · iapply (keeps_next m c t h); iexact HD
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverHand c t h (resAt m c t))
  isplitl [H9]; · iapply (leaves9_hand m c t h d9); iexact H9
  iapply (leaves10_hand m c t h d10); iexact H10

/-- The body at every point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val % 3 = 0
  · exact triple_restated (body_work m c t h) rfl .rfl fun _ => .rfl
  · exact triple_restated (body_hand m c t h) rfl .rfl fun _ => .rfl

/-! ## The run -/

theorem enter (c : Dev nD) : (Pipeline.ΦA spec0 c : sProp 𝕄) ⊢ (dats m 0 c).Φ 0 := by
  rw [show (dats m 0 c).Φ 0 = iprop(loose3 c ∗ keeps m c 0 ∗ ∃ r, prngReg c r) from rfl, keeps_zero m c 0 rfl]
  unfold Pipeline.ΦA loose3; rw [scopedRest0_eq]
  iintro ⟨⟨⟨%f0, H0⟩, ⟨%f1, H1⟩, ⟨%f2, H2⟩, ⟨%f3, H3⟩⟩, Hr⟩
  isplitl [H0 H1 H2]
  · isplitl [H0]; · iexists f0; rw [owns_whole]; iexact H0
    isplitl [H1]; · iexists f1; rw [owns_whole]; iexact H1
    iexists f2; rw [owns_whole]; iexact H2
  isplitl [H3]; · iexists f3; rw [owns_whole]; iexact H3
  iexact Hr

theorem leave (c : Dev nD) : (dats m 0 c).Φ (Fin.last cfg0.N) ⊢ (Pipeline.ΦA spec0 c : sProp 𝕄) := by
  rw [show (dats m 0 c).Φ (Fin.last cfg0.N) = iprop(loose3 c ∗ keeps m c (Fin.last cfg0.N) ∗ ∃ r, prngReg c r) from rfl,
    keeps_zero m c (Fin.last cfg0.N) (by rw [Fin.val_last, show cfg0.N = 12 from N_0])]
  unfold Pipeline.ΦA loose3; rw [scopedRest0_eq]
  simp only [owns_whole]
  iintro ⟨⟨H0, H1, H2⟩, H3, Hr⟩
  isplitl [H0 H1 H2 H3]
  · isplitl [H0]; · iexact H0
    isplitl [H1]; · iexact H1
    isplitl [H2]; · iexact H2
    iexact H3
  iexact Hr

set_option backward.isDefEq.respectTransparency.types false in
set_option maxHeartbeats 800000 in
/-- The whole program ends, its arrays as the proof data say and every counter at zero. -/
theorem run_still : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_all m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_still m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_still m ρ))

end Cert.Kernel7Ideal.Fox

end
-- ==== Proof.FoxTile.lean ====
/- One tile of the forgetting attention's gradient: a head's rows from one on against one chunk of keys, at any number of rows. -/
module

public import proofs.«01_k».proof.Proof.FoxFrame
public import proofs.«01_k».proof.Proof.Real
public import Idealize.ShloMosaic.Lib.MatmulPlain

@[expose] public section

set_option maxRecDepth 16384

noncomputable section

namespace Cert.Fox

open Idealize.ShloMosaic Idealize.ShloMosaic.TcCoe

/-- A rank-two shape. -/
abbrev Sh (a b : ℕ) : Shape := ⟨2, ![a, b]⟩

/-- What a tile of `n` rows and 256 keys asks of its shapes. -/
class Tall (n : ℕ) : Prop where
  col : (Sh n 1).Broadcasts (Sh n 256)
  row : (Sh 1 256).Broadcasts (Sh n 256)
  i0 : (Sh n 256).Iotas .tc 32 [0]
  i1 : (Sh n 256).Iotas .tc 32 [1]
  r0 : (Sh n 256).Reduces [0] ⟨1, ![256]⟩
  r1 : (Sh n 256).Reduces [1] ⟨1, ![n]⟩
  up : (⟨1, ![n]⟩ : Shape).ShapeCasts (Sh n 1)
  small : n ≤ 2048

theorem cr_cast : (⟨4, ![1, 1, 1, 256]⟩ : Shape).ShapeCasts (Sh 1 256) := by decide
theorem cr_back : (Sh 1 256).ShapeCasts ⟨4, ![1, 1, 1, 256]⟩ := by decide
theorem row_up : (⟨1, ![256]⟩ : Shape).ShapeCasts (Sh 1 256) := by decide
theorem blk_cast : (⟨3, ![1, 128, 256]⟩ : Shape).ShapeCasts (Sh 128 256) := by decide
theorem blk_back : (Sh 128 256).ShapeCasts ⟨3, ![1, 128, 256]⟩ := by decide
theorem narrow : FTy.bf16.bits < FTy.f32.bits := by decide

variable (n : ℕ) [T : Tall n]

/-- The tile's probabilities. -/
def PT (q : FVec Ideal (Sh n 128) .bf16) (k : FVec Ideal (Sh 256 128) .bf16) (cc lse : FVec Ideal (Sh n 1) .f32) (cr : FVec Ideal ⟨4, ![1, 1, 1, 256]⟩ .f32) : FVec Ideal (Sh n 256) .f32 :=
  select (cmpi .sle (iota .tc (Sh n 256) 32 [1] T.i1) (iota .tc (Sh n 256) 32 [0] T.i0))
    (exp (subf (subf (addf (matmul (DotDims.transposedRhs n 128 256) none q k (constant (Sh n 256) .f32 0x00000000#32)) (broadcastTo (Sh n 256) cc T.col)) (broadcastTo (Sh n 256) (shapeCast (Sh 1 256) cr cr_cast) T.row)) (broadcastTo (Sh n 256) lse T.col)))
    (broadcast (Sh n 256) (Scalar.ofBits (F := Ideal) .f32 0x00000000#32))

/-- The logits' gradient over the tile, from its probabilities. -/
def DT (p : FVec Ideal (Sh n 256) .f32) (d : FVec Ideal (Sh n 128) .bf16) (v : FVec Ideal (Sh 256 128) .bf16) (del : FVec Ideal (Sh n 1) .f32) : FVec Ideal (Sh n 256) .f32 :=
  mulf p (subf (matmul (DotDims.transposedRhs n 128 256) none d v (constant (Sh n 256) .f32 0x00000000#32)) (broadcastTo (Sh n 256) del T.col))

/-- A transposed gradient block of the chunk's keys, with the tile's part added. -/
def KT (a : FVec Ideal (Sh 128 n) .bf16) (w : FVec Ideal (Sh n 256) .f32) (x : FVec Ideal ⟨3, ![1, 128, 256]⟩ .f32) : FVec Ideal ⟨3, ![1, 128, 256]⟩ .f32 :=
  shapeCast ⟨3, ![1, 128, 256]⟩ (addf (shapeCast (Sh 128 256) x blk_cast) (matmul (DotDims.plain 128 n 256) none a (truncf .bf16 w narrow) (constant (Sh 128 256) .f32 0x00000000#32))) blk_back

/-- The chunk's row of the decay's gradient, with the tile's part taken off. -/
def RT (w : FVec Ideal (Sh n 256) .f32) (x : FVec Ideal ⟨4, ![1, 1, 1, 256]⟩ .f32) : FVec Ideal ⟨4, ![1, 1, 1, 256]⟩ .f32 :=
  shapeCast ⟨4, ![1, 1, 1, 256]⟩ (subf (shapeCast (Sh 1 256) x cr_cast) (shapeCast (Sh 1 256) (multiReduction .add [0] ⟨1, ![256]⟩ w 0x00000000#32 T.r0 (.inl rfl) rfl) row_up)) cr_back

/-- The rows' own gradient, with the tile's part added. -/
def QT (w : FVec Ideal (Sh n 256) .f32) (k : FVec Ideal (Sh 256 128) .bf16) (x : FVec Ideal (Sh n 128) .f32) : FVec Ideal (Sh n 128) .f32 :=
  addf x (matmul (DotDims.plain n 256 128) none (truncf .bf16 w narrow) k (constant (Sh n 128) .f32 0x00000000#32))

/-- The rows' decay's gradient, with the tile's part added. -/
def CT (w : FVec Ideal (Sh n 256) .f32) (x : FVec Ideal (Sh n 1) .f32) : FVec Ideal (Sh n 1) .f32 :=
  addf x (shapeCast (Sh n 1) (multiReduction .add [1] ⟨1, ![n]⟩ w 0x00000000#32 T.r1 (.inl rfl) rfl) T.up)

theorem ix_eq {M N : ℕ} (r : Fin M) (c : Fin N) : ValueIdx.ix2 r c = ix2 r c := by
  funext a
  match a with
  | ⟨0, _⟩ => rfl
  | ⟨1, _⟩ => rfl

theorem mt_at {M K N : ℕ} {φ₁ φ₂ : FTy} (a : FVec Ideal (Sh M K) φ₁) (b : FVec Ideal (Sh N K) φ₂) (r : Fin M) (c : Fin N) :
    matmul (DotDims.transposedRhs M K N) none a b (constant (Sh M N) .f32 0x00000000#32) (ix2 r c) = ∑ k : Fin K, a (ix2 r k) * b (ix2 c k) := by
  refine ((congrArg _ (ix_eq r c).symm).trans (Ideal.matmul_transposedRhs_apply none a b _ r c)).trans ?_
  show Ideal.ofBits .f32 0x00000000#32 + _ = _
  simp only [Ideal.ofBits_zero_f32, zero_add, ix_eq]

theorem mp_at {M K N : ℕ} {φ₁ φ₂ : FTy} (a : FVec Ideal (Sh M K) φ₁) (b : FVec Ideal (Sh K N) φ₂) (r : Fin M) (c : Fin N) :
    matmul (DotDims.plain M K N) none a b (constant (Sh M N) .f32 0x00000000#32) (ix2 r c) = ∑ k : Fin K, a (ix2 r k) * b (ix2 k c) := by
  refine ((congrArg _ (ix_eq r c).symm).trans (Ideal.matmul_plain_apply none a b _ r c)).trans ?_
  show Ideal.ofBits .f32 0x00000000#32 + _ = _
  simp only [Ideal.ofBits_zero_f32, zero_add, ix_eq]

theorem col_at {α : Type} (x : (Sh n 1).Idx → α) (h : (Sh n 1).Broadcasts (Sh n 256)) (t : Fin n) (s : Fin 256) : broadcastTo (Sh n 256) x h (ix2 t s) = x (ix2 t 0) :=
  broadcastTo_apply x h (ix2 t s) (ix2 t 0) (fun a => by
    match a with
    | ⟨0, _⟩ =>
      show t.val = if n = 1 then 0 else t.val
      split
      · omega
      · rfl
    | ⟨1, _⟩ => rfl)

theorem PT_at (q k cc lse cr) (t : Fin n) (s : Fin 256) : PT n q k cc lse cr (ix2 t s)
    = if s.val ≤ t.val then Ideal.exp (∑ d : Fin 128, q (ix2 t d) * k (ix2 s d) + cc (ix2 t 0) - cr (ix4 0 0 0 s) - lse (ix2 t 0)) else 0 := by
  have hn := T.small
  have hc : cmpi .sle (iota .tc (Sh n 256) 32 [1] T.i1) (iota .tc (Sh n 256) 32 [0] T.i0) (ix2 t s) = BitVec.ofBool (decide (s.val ≤ t.val)) := by
    pointwise
    word_cmp
  show Scalar.select (cmpi .sle (iota .tc (Sh n 256) 32 [1] T.i1) (iota .tc (Sh n 256) 32 [0] T.i0) (ix2 t s)) (Ideal.exp (matmul (DotDims.transposedRhs n 128 256) none q k (constant (Sh n 256) .f32 0x00000000#32) (ix2 t s) + broadcastTo (Sh n 256) cc T.col (ix2 t s) - broadcastTo (Sh n 256) (shapeCast (Sh 1 256) cr cr_cast) T.row (ix2 t s) - broadcastTo (Sh n 256) lse T.col (ix2 t s))) (Ideal.ofBits .f32 0x00000000#32) = _
  have hr : broadcastTo (Sh n 256) (shapeCast (Sh 1 256) cr cr_cast) T.row (ix2 t s) = cr (ix4 0 0 0 s) := by pointwise
  rw [hc, mt_at, col_at, col_at, hr, Ideal.ofBits_zero_f32]
  by_cases h : s.val ≤ t.val <;> simp [h, Scalar.select]

theorem DT_at (p d v del) (t : Fin n) (s : Fin 256) : DT n p d v del (ix2 t s) = p (ix2 t s) * (∑ e : Fin 128, d (ix2 t e) * v (ix2 s e) - del (ix2 t 0)) := by
  show p (ix2 t s) * (matmul (DotDims.transposedRhs n 128 256) none d v (constant (Sh n 256) .f32 0x00000000#32) (ix2 t s) - broadcastTo (Sh n 256) del T.col (ix2 t s)) = _
  rw [mt_at, col_at]

theorem KT_at (a w x) (z : Fin 1) (d : Fin 128) (s : Fin 256) : KT n a w x (ix3 z d s) = x (ix3 0 d s) + ∑ t : Fin n, a (ix2 d t) * w (ix2 t s) := by
  refine Eq.trans ?_ (congrArg (x (ix3 0 d s) + ·) (mp_at a (truncf .bf16 w narrow) d s))
  unfold KT
  generalize matmul (DotDims.plain 128 n 256) none a (truncf .bf16 w narrow) (constant (Sh 128 256) .f32 0x00000000#32) = y
  pointwise [KT]

theorem RT_at (w x) (y z u : Fin 1) (s : Fin 256) : RT n w x (ix4 y z u s) = x (ix4 0 0 0 s) - ∑ t : Fin n, w (ix2 t s) := by
  pointwise [RT]

theorem QT_at (w k x) (t : Fin n) (d : Fin 128) : QT n w k x (ix2 t d) = x (ix2 t d) + ∑ s : Fin 256, w (ix2 t s) * k (ix2 s d) :=
  congrArg (x (ix2 t d) + ·) (mp_at (truncf .bf16 w narrow) k t d)

theorem CT_at (w x) (t : Fin n) : CT n w x (ix2 t 0) = x (ix2 t 0) + ∑ s : Fin 256, w (ix2 t s) := by
  have e : shapeCast (Sh n 1) (multiReduction .add [1] ⟨1, ![n]⟩ w 0x00000000#32 T.r1 (.inl rfl) rfl) T.up (ix2 t 0) = multiReduction .add [1] ⟨1, ![n]⟩ w 0x00000000#32 T.r1 (.inl rfl) rfl (ix1 t) := by
    refine shapeCast_apply _ T.up (ix2 t 0) (ix1 t) ?_
    rw [Shape.rowMajor_val_one, Shape.rowMajor_val_two]
    show t.val = t.val * 1 + 0
    omega
  refine (congrArg (x (ix2 t 0) + ·) e).trans (congrArg (x (ix2 t 0) + ·) ?_)
  pointwise

end Cert.Fox
-- ==== Proof.FoxLink.lean ====
/- What a working point of the forgetting attention's gradient leaves, written as one recursion over its chunks of keys. -/
module

public import proofs.«01_k».proof.Proof.FoxTile

@[expose] public section

set_option maxRecDepth 16384

noncomputable section

namespace Cert.Fox

open Idealize.ShloMosaic Idealize.ShloMosaic.TcCoe
open Cert.Kernel7Ideal Cert.Kernel7Ideal.Gen

/-- The rows from chunk `kc` on. -/
def nn (kc : Fin 8) : ℕ := 2048 - 256 * kc.val

instance tall (kc : Fin 8) : Tall (nn kc) where
  col := by revert kc; decide
  row := by revert kc; decide
  i0 := by revert kc; decide
  i1 := by revert kc; decide
  r0 := by revert kc; decide
  r1 := by revert kc; decide
  up := by revert kc; decide +kernel
  small := Nat.sub_le _ _

theorem cut_ok (b n : ℕ) (h : n + 1 < 8) : (Sh 2048 b).Slices ![256 * (n + 1), 0] (Sh (nn ⟨n + 1, h⟩) b) := ⟨rfl, fun a => by
  match a with
  | ⟨0, _⟩ => show 256 * (n + 1) + (2048 - 256 * (n + 1)) ≤ 2048; omega
  | ⟨1, _⟩ => show 0 + b ≤ b; omega⟩
theorem cutT_ok (n : ℕ) (h : n + 1 < 8) : (Sh 128 2048).Slices ![0, 256 * (n + 1)] (Sh 128 (nn ⟨n + 1, h⟩)) := ⟨rfl, fun a => by
  match a with
  | ⟨0, _⟩ => show 0 + 128 ≤ 128; omega
  | ⟨1, _⟩ => show 256 * (n + 1) + (2048 - 256 * (n + 1)) ≤ 2048; omega⟩
theorem head_ok (b n : ℕ) (h : n + 1 < 8) : (Sh 2048 b).Slices ![0, 0] (Sh (256 * (n + 1)) b) := ⟨rfl, fun a => by
  match a with
  | ⟨0, _⟩ => show 0 + 256 * (n + 1) ≤ 2048; omega
  | ⟨1, _⟩ => show 0 + b ≤ b; omega⟩
theorem join_ok (b n : ℕ) (h : n + 1 < 8) : Shape.Concatenates [Sh (256 * (n + 1)) b, Sh (nn ⟨n + 1, h⟩) b] (Sh 2048 b) 0 := ⟨Nat.le_refl 2, by
  intro s hs
  refine ⟨by rcases List.mem_pair.mp hs with rfl | rfl <;> rfl, fun a ha => ?_⟩
  match a with
  | ⟨0, _⟩ => exact absurd rfl ha
  | ⟨1, _⟩ => rcases List.mem_pair.mp hs with rfl | rfl <;> rfl, by
  show 256 * (n + 1) + (2048 - 256 * (n + 1) + 0) = 2048
  omega⟩

/-- The rows from chunk `kc` on, cut out of all rows. -/
def tl {b : ℕ} {φ : FTy} : (kc : Fin 8) → FVec Ideal (Sh 2048 b) φ → FVec Ideal (Sh (nn kc) b) φ
  | ⟨0, _⟩, x => x
  | ⟨n + 1, h⟩, x => extractStridedSlice (Sh (nn ⟨n + 1, h⟩) b) ![256 * (n + 1), 0] x (cut_ok b n h)

/-- The same of the columns. -/
def tlT {φ : FTy} : (kc : Fin 8) → FVec Ideal (Sh 128 2048) φ → FVec Ideal (Sh 128 (nn kc)) φ
  | ⟨0, _⟩, x => x
  | ⟨n + 1, h⟩, x => extractStridedSlice (Sh 128 (nn ⟨n + 1, h⟩)) ![0, 256 * (n + 1)] x (cutT_ok n h)

/-- All rows again: the first ones as they were, the rest replaced. -/
def bk {b : ℕ} {φ : FTy} : (kc : Fin 8) → FVec Ideal (Sh 2048 b) φ → FVec Ideal (Sh (nn kc) b) φ → FVec Ideal (Sh 2048 b) φ
  | ⟨0, _⟩, x, y => y
  | ⟨n + 1, h⟩, x, y => concatenate (Sh 2048 b) 0 [⟨Sh (256 * (n + 1)) b, extractStridedSlice (Sh (256 * (n + 1)) b) ![0, 0] x (head_ok b n h)⟩, ⟨Sh (nn ⟨n + 1, h⟩) b, y⟩] (join_ok b n h)

/-- What a working point loads. -/
structure Loads where
  q : FVec Ideal S2048x128 .bf16
  y : FVec Ideal S2048x128 .bf16
  d : FVec Ideal S2048x128 .bf16
  k : Fin 8 → FVec Ideal S256x128 .bf16
  v : Fin 8 → FVec Ideal S256x128 .bf16
  lse : Fin 2 → FVec Ideal S1x2048x1 .f32
  cc : Fin 2 → FVec Ideal S1x2048x1 .f32
  cr : Fin 2 → Fin 8 → FVec Ideal S1x1x1x256 .f32

variable (L : Loads)

/-- The lanes of a head. -/
def lanes : Fin 2 → IVec S2048x128 1
  | ⟨0, _⟩ => k0_pay312
  | ⟨1, _⟩ => k0_pay313

def qm (h : Fin 2) : FVec Ideal S2048x128 .bf16 := select (lanes h) (shapeCast S2048x128 L.q shapeCasts_S2048x128_S2048x128) (broadcast S2048x128 (Scalar.ofBits (F := Ideal) .bf16 0x0000#16))
def dm (h : Fin 2) : FVec Ideal S2048x128 .bf16 := select (lanes h) (shapeCast S2048x128 L.d shapeCasts_S2048x128_S2048x128) (broadcast S2048x128 (Scalar.ofBits (F := Ideal) .bf16 0x0000#16))
def tp (x : FVec Ideal S2048x128 .bf16) : FVec Ideal S128x2048 .bf16 := truncf .bf16 (transpose S128x2048 [1, 0] (extf .f32 x bitsLt_bf16_f32) transposes_S2048x128_p1_0_S128x2048) bitsLt_bf16_f32
def del (h : Fin 2) : FVec Ideal S2048x1 .f32 :=
  shapeCast S2048x1 (multiReduction .add [1] S2048 (select (lanes h) (mulf (extf .f32 (shapeCast S2048x128 L.d shapeCasts_S2048x128_S2048x128) bitsLt_bf16_f32) (extf .f32 (shapeCast S2048x128 L.y shapeCasts_S2048x128_S2048x128) bitsLt_bf16_f32)) (broadcast S2048x128 (Scalar.ofBits (F := Ideal) .f32 0x00000000#32))) 0x00000000#32 reduces_S2048x128_S2048 (.inl rfl) rfl) shapeCasts_S2048_S2048x1
def cm (h : Fin 2) : FVec Ideal S2048x1 .f32 := shapeCast S2048x1 (L.cc h) shapeCasts_S1x2048x1_S2048x1
def lm (h : Fin 2) : FVec Ideal S2048x1 .f32 := shapeCast S2048x1 (L.lse h) shapeCasts_S1x2048x1_S2048x1
def km (kc : Fin 8) : FVec Ideal S256x128 .bf16 := shapeCast S256x128 (L.k kc) shapeCasts_S256x128_S256x128
def vm (kc : Fin 8) : FVec Ideal S256x128 .bf16 := shapeCast S256x128 (L.v kc) shapeCasts_S256x128_S256x128

/-- A head's probabilities against a chunk. -/
def Pt (h : Fin 2) (kc : Fin 8) : FVec Ideal (Sh (nn kc) 256) .f32 := PT (nn kc) (tl kc (qm L h)) (km L kc) (tl kc (cm L h)) (tl kc (lm L h)) (L.cr h kc)
/-- A head's logits' gradient against a chunk. -/
def Dt (h : Fin 2) (kc : Fin 8) : FVec Ideal (Sh (nn kc) 256) .f32 := DT (nn kc) (Pt L h kc) (tl kc (dm L h)) (vm L kc) (tl kc (del L h))

/-- The queries' gradient after `n` chunks. -/
def accQ (h : Fin 2) : (n : ℕ) → n ≤ 8 → FVec Ideal (Sh 2048 128) .f32
  | 0, _ => k0_pay334
  | n + 1, e => bk ⟨n, e⟩ (accQ h n (Nat.le_of_succ_le e)) (QT (nn ⟨n, e⟩) (Dt L h ⟨n, e⟩) (km L ⟨n, e⟩) (tl ⟨n, e⟩ (accQ h n (Nat.le_of_succ_le e))))

/-- The rows' decay's gradient after `n` chunks. -/
def accC (h : Fin 2) : (n : ℕ) → n ≤ 8 → FVec Ideal (Sh 2048 1) .f32
  | 0, _ => k0_pay335
  | n + 1, e => bk ⟨n, e⟩ (accC h n (Nat.le_of_succ_le e)) (CT (nn ⟨n, e⟩) (Dt L h ⟨n, e⟩) (tl ⟨n, e⟩ (accC h n (Nat.le_of_succ_le e))))

/-- A chunk's block of the keys' or values' gradient. -/
abbrev rk (n : ℕ) (e : n < 8) : Rect S8x128x256 := Rect.unit ![n, 0, 0] S1x128x256.size (fun a => by
  match a with
  | ⟨0, _⟩ => show n + 1 ≤ 8; omega
  | ⟨1, _⟩ => show 0 + 128 ≤ 128; omega
  | ⟨2, _⟩ => show 0 + 256 ≤ 256; omega)
/-- A head's chunk of the columns' decay's gradient. -/
abbrev rc (h : Fin 2) (n : ℕ) (e : n < 8) : Rect S2x8x1x256 := Rect.unit ![h.val, n, 0, 0] S1x1x1x256.size (fun a => by
  match a with
  | ⟨0, _⟩ => show h.val + 1 ≤ 2; omega
  | ⟨1, _⟩ => show n + 1 ≤ 8; omega
  | ⟨2, _⟩ => show 0 + 1 ≤ 1; omega
  | ⟨3, _⟩ => show 0 + 256 ≤ 256; omega)

/-- The two writes of a chunk's block, one of each head. -/
def twice (v : View sig .tc .vmem S8x128x256 .f32) (a : Fin 2 → FVec Ideal S128x2048 .bf16) (w : Fin 2 → (kc : Fin 8) → FVec Ideal (Sh (nn kc) 256) .f32) (Z : FVec Ideal S8x128x256 .f32) : (n : ℕ) → n ≤ 8 → List (View.Piece (Elt Ideal) S8x128x256 .f32)
  | 0, _ => [⟨Rect.unit ![0, 0, 0] S8x128x256.size inb_S8x128x256_S8x128x256_0_0_0, Z⟩]
  | n + 1, e =>
    ⟨rk n e, KT (nn ⟨n, e⟩) (tlT ⟨n, e⟩ (a 1)) (w 1 ⟨n, e⟩) (v.readCov (⟨rk n e, KT (nn ⟨n, e⟩) (tlT ⟨n, e⟩ (a 0)) (w 0 ⟨n, e⟩) (v.readCov (twice v a w Z n (Nat.le_of_succ_le e)) (rk n e).toLoadRect)⟩ :: twice v a w Z n (Nat.le_of_succ_le e)) (rk n e).toLoadRect)⟩
    :: ⟨rk n e, KT (nn ⟨n, e⟩) (tlT ⟨n, e⟩ (a 0)) (w 0 ⟨n, e⟩) (v.readCov (twice v a w Z n (Nat.le_of_succ_le e)) (rk n e).toLoadRect)⟩ :: twice v a w Z n (Nat.le_of_succ_le e)

/-- The columns' decay's gradient, each chunk written for one head and then the other. -/
def cols (v : View sig .tc .vmem S2x8x1x256 .f32) : (n : ℕ) → n ≤ 8 → List (View.Piece (Elt Ideal) S2x8x1x256 .f32)
  | 0, _ => [⟨Rect.unit ![0, 0, 0, 0] S2x8x1x256.size inb_S2x8x1x256_S2x8x1x256_0_0_0_0, k0_pay316 (F := Ideal)⟩]
  | n + 1, e =>
    ⟨rc 1 n e, RT (nn ⟨n, e⟩) (Dt L 1 ⟨n, e⟩) (v.readCov (⟨rc 0 n e, RT (nn ⟨n, e⟩) (Dt L 0 ⟨n, e⟩) (v.readCov (cols v n (Nat.le_of_succ_le e)) (rc 0 n e).toLoadRect)⟩ :: cols v n (Nat.le_of_succ_le e)) (rc 1 n e).toLoadRect)⟩
    :: ⟨rc 0 n e, RT (nn ⟨n, e⟩) (Dt L 0 ⟨n, e⟩) (v.readCov (cols v n (Nat.le_of_succ_le e)) (rc 0 n e).toLoadRect)⟩ :: cols v n (Nat.le_of_succ_le e)

end Cert.Fox
-- ==== Proof.FoxReal.lean ====
/- The recursion over a working point's chunks, in real numbers: each result is a plain sum over all rows or all keys. -/
module

public import proofs.«01_k».proof.Proof.FoxLink
public import Idealize.ShloMosaic.Lib.Pipeline.ReadBack

@[expose] public section

set_option maxRecDepth 16384

noncomputable section

namespace Cert.Fox

open Idealize.ShloMosaic Idealize.ShloMosaic.TcCoe
open Cert.Kernel7Ideal Cert.Kernel7Ideal.Gen

/-- The real numbers a working point loads: rows of lanes, and for each head a number per row. -/
structure Fns where
  q : ℕ → ℕ → ℝ
  k : ℕ → ℕ → ℝ
  v : ℕ → ℕ → ℝ
  y : ℕ → ℕ → ℝ
  d : ℕ → ℕ → ℝ
  lse : Fin 2 → ℕ → ℝ
  cc : Fin 2 → ℕ → ℝ
  cr : Fin 2 → ℕ → ℝ

namespace Fns
variable (f : Fns)

/-- A row's lane where it belongs to the head. -/
def on (h : Fin 2) (g : ℕ → ℕ → ℝ) (t d : ℕ) : ℝ := if d / 64 = h.val then g t d else 0
def del (h : Fin 2) (t : ℕ) : ℝ := ∑ d : Fin 128, on h (fun t d => f.d t d * f.y t d) t d
def P (h : Fin 2) (t s : ℕ) : ℝ := if s ≤ t then Real.exp (∑ d : Fin 128, on h f.q t d * f.k s d + f.cc h t - f.cr h s - f.lse h t) else 0
def D (h : Fin 2) (t s : ℕ) : ℝ := f.P h t s * (∑ d : Fin 128, on h f.d t d * f.v s d - f.del h t)

theorem P_late (h : Fin 2) (t s : ℕ) (e : t < s) : f.P h t s = 0 := if_neg (Nat.not_le.mpr e)
theorem D_late (h : Fin 2) (t s : ℕ) (e : t < s) : f.D h t s = 0 := by rw [D, P_late f h t s e, zero_mul]
end Fns

/-- The loads are these real numbers. -/
structure Of (L : Loads) (f : Fns) : Prop where
  q : ∀ (t : Fin 2048) (d : Fin 128), L.q (ix2 t d) = ((f.q t d : ℝ) : EReal)
  y : ∀ (t : Fin 2048) (d : Fin 128), L.y (ix2 t d) = ((f.y t d : ℝ) : EReal)
  d : ∀ (t : Fin 2048) (d : Fin 128), L.d (ix2 t d) = ((f.d t d : ℝ) : EReal)
  k : ∀ (kc : Fin 8) (s : Fin 256) (d : Fin 128), L.k kc (ix2 s d) = ((f.k (256 * kc.val + s.val) d : ℝ) : EReal)
  v : ∀ (kc : Fin 8) (s : Fin 256) (d : Fin 128), L.v kc (ix2 s d) = ((f.v (256 * kc.val + s.val) d : ℝ) : EReal)
  lse : ∀ (h : Fin 2) (t : Fin 2048), L.lse h (ix3 0 t 0) = ((f.lse h t : ℝ) : EReal)
  cc : ∀ (h : Fin 2) (t : Fin 2048), L.cc h (ix3 0 t 0) = ((f.cc h t : ℝ) : EReal)
  cr : ∀ (h : Fin 2) (kc : Fin 8) (s : Fin 256), L.cr h kc (ix4 0 0 0 s) = ((f.cr h (256 * kc.val + s.val) : ℝ) : EReal)

/-- The entries are the numbers `g`, the rows counted from `o`. -/
def Is {a b : ℕ} {φ : FTy} (o : ℕ) (x : FVec Ideal (Sh a b) φ) (g : ℕ → ℕ → ℝ) : Prop :=
  ∀ (t : Fin a) (d : Fin b), x (ix2 t d) = ((g (o + t.val) d.val : ℝ) : EReal)

/-! ## Cutting rows out, and putting them back -/

theorem tl_is {b : ℕ} {φ : FTy} (kc : Fin 8) (x : FVec Ideal (Sh 2048 b) φ) (g : ℕ → ℕ → ℝ) (hx : Is 0 x g) : Is (256 * kc.val) (tl kc x) g := by
  intro t d
  match kc, t with
  | ⟨0, e⟩, t =>
    exact Eq.trans (show tl ⟨0, e⟩ x (ix2 t d) = x (ix2 t d) from rfl) ((hx t d).trans (by simp))
  | ⟨n + 1, e⟩, t =>
    have ht : t.val < 2048 - 256 * (n + 1) := t.isLt
    have h := hx ⟨256 * (n + 1) + t.val, by omega⟩ d
    rw [zero_add] at h
    refine Eq.trans (extractStridedSlice_apply _ x (cut_ok b n e) (ix2 t d) (ix2 ⟨256 * (n + 1) + t.val, by omega⟩ d) (fun a => ?_)) h
    match a with
    | ⟨0, _⟩ => rfl
    | ⟨1, _⟩ => exact (Nat.zero_add _).symm

theorem tlT_is {φ : FTy} (kc : Fin 8) (x : FVec Ideal (Sh 128 2048) φ) (g : ℕ → ℕ → ℝ) (hx : ∀ (d : Fin 128) (t : Fin 2048), x (ix2 d t) = ((g t d : ℝ) : EReal))
    (d : Fin 128) (t : Fin (nn kc)) : tlT kc x (ix2 d t) = ((g (256 * kc.val + t.val) d : ℝ) : EReal) := by
  match kc, t with
  | ⟨0, e⟩, t =>
    exact Eq.trans (show tlT ⟨0, e⟩ x (ix2 d t) = x (ix2 d t) from rfl) ((hx d t).trans (by simp))
  | ⟨n + 1, e⟩, t =>
    have ht : t.val < 2048 - 256 * (n + 1) := t.isLt
    refine Eq.trans (extractStridedSlice_apply _ x (cutT_ok n e) (ix2 d t) (ix2 d ⟨256 * (n + 1) + t.val, by omega⟩) (fun a => ?_)) (hx d ⟨256 * (n + 1) + t.val, by omega⟩)
    match a with
    | ⟨0, _⟩ => exact (Nat.zero_add _).symm
    | ⟨1, _⟩ => rfl

theorem bk_is {b : ℕ} {φ : FTy} (kc : Fin 8) (x : FVec Ideal (Sh 2048 b) φ) (y : FVec Ideal (Sh (nn kc) b) φ) (g : ℕ → ℕ → ℝ)
    (hx : ∀ (t : Fin 2048) (d : Fin b), t.val < 256 * kc.val → x (ix2 t d) = ((g t d : ℝ) : EReal)) (hy : Is (256 * kc.val) y g) : Is 0 (bk kc x y) g := by
  intro t d
  rw [zero_add]
  match kc with
  | ⟨0, e⟩ =>
    exact Eq.trans (show bk ⟨0, e⟩ x y (ix2 t d) = y (ix2 t d) from rfl) ((hy t d).trans (by simp))
  | ⟨n + 1, e⟩ =>
    by_cases ht : t.val < 256 * (n + 1)
    · refine Eq.trans (concatenate_pair_apply_left (s₁ := Sh (256 * (n + 1)) b) 0 _ y (join_ok b n e) (ix2 t d) rfl (ix2 (⟨t.val, ht⟩ : Fin (256 * (n + 1))) d) (fun a => ?_)) ?_
      · match a with
        | ⟨0, _⟩ => rfl
        | ⟨1, _⟩ => rfl
      · refine Eq.trans (extractStridedSlice_apply _ x (head_ok b n e) (ix2 (⟨t.val, ht⟩ : Fin (256 * (n + 1))) d) (ix2 t d) (fun a => ?_)) (hx t d ht)
        match a with
        | ⟨0, _⟩ => exact (Nat.zero_add _).symm
        | ⟨1, _⟩ => exact (Nat.zero_add _).symm
    · have h2 : t.val - 256 * (n + 1) < nn ⟨n + 1, e⟩ := by have := t.isLt; show t.val - 256 * (n + 1) < 2048 - 256 * (n + 1); omega
      refine Eq.trans (concatenate_pair_apply_right (s₁ := Sh (256 * (n + 1)) b) 0 _ y (join_ok b n e) (ix2 t d) rfl rfl (ix2 ⟨t.val - 256 * (n + 1), h2⟩ d) (fun a ha => ?_) ?_) ?_
      · match a with
        | ⟨0, _⟩ => exact absurd rfl ha
        | ⟨1, _⟩ => rfl
      · show t.val - 256 * (n + 1) + 256 * (n + 1) = t.val
        omega
      · rw [hy]
        show ((g (256 * (n + 1) + (t.val - 256 * (n + 1))) d : ℝ) : EReal) = _
        rw [Nat.add_sub_cancel' (Nat.not_lt.mp ht)]

/-! ## Sums over part of the rows -/

/-- A sum over all rows of what is 0 before chunk `kc` is the sum over the rows from it on. -/
theorem sum_tail (kc : Fin 8) (g : ℕ → ℝ) (hg : ∀ t, t < 256 * kc.val → g t = 0) : ∑ t ∈ Finset.range 2048, g t = ∑ t : Fin (nn kc), g (256 * kc.val + t.val) := by
  have e : 2048 = 256 * kc.val + nn kc := by have := kc.isLt; show 2048 = 256 * kc.val + (2048 - 256 * kc.val); omega
  rw [e, Finset.sum_range_add, Finset.sum_eq_zero (fun t ht => hg t (Finset.mem_range.mp ht)), zero_add, Finset.sum_range]

theorem sum_step (n : ℕ) (g : ℕ → ℝ) : ∑ s ∈ Finset.range (256 * (n + 1)), g s = ∑ s ∈ Finset.range (256 * n), g s + ∑ s : Fin 256, g (256 * n + s.val) := by
  rw [Nat.mul_succ, Finset.sum_range_add, Finset.sum_range (n := 256)]

variable {L : Loads} {f : Fns} (hL : Of L f)

/-! ## The operands -/

theorem lanes_at (h : Fin 2) (t : Fin 2048) (d : Fin 128) : lanes h (ix2 t d) = BitVec.ofBool (decide (d.val / 64 = h.val)) := by
  match h with
  | ⟨0, _⟩ =>
    show k0_pay312 (ix2 t d) = _
    pointwise [k0_pay312]
    word_cmp
    refine congrArg BitVec.ofBool (decide_eq_decide.mpr ?_)
    omega
  | ⟨1, _⟩ =>
    show k0_pay313 (ix2 t d) = _
    pointwise [k0_pay313]
    word_cmp
    refine congrArg BitVec.ofBool (decide_eq_decide.mpr ?_)
    omega

theorem sel_at (h : Fin 2) (t d : ℕ) (g : ℕ → ℕ → ℝ) (x : EReal) (hx : x = ((g t d : ℝ) : EReal)) :
    Scalar.select (BitVec.ofBool (decide (d / 64 = h.val))) x 0 = ((Fns.on h g t d : ℝ) : EReal) := by
  unfold Fns.on
  by_cases e : d / 64 = h.val <;> simp [e, Scalar.select, hx]

theorem zero16 : Ideal.ofBits .bf16 0x0000#16 = 0 := by simp [Ideal.ofBits, Ideal.ieee]

include hL

theorem qm_is (h : Fin 2) : Is 0 (qm L h) (Fns.on h f.q) := by
  intro t d
  rw [zero_add, ← sel_at h t d f.q _ (hL.q t d), ← lanes_at h t d, ← zero16]
  pointwise [qm]

theorem dm_is (h : Fin 2) : Is 0 (dm L h) (Fns.on h f.d) := by
  intro t d
  rw [zero_add, ← sel_at h t d f.d _ (hL.d t d), ← lanes_at h t d, ← zero16]
  pointwise [dm]

omit hL in
theorem tp_is (x : FVec Ideal S2048x128 .bf16) (g : ℕ → ℕ → ℝ) (hx : Is 0 x g) (d : Fin 128) (t : Fin 2048) : tp x (ix2 d t) = ((g t d : ℝ) : EReal) := by
  have h := hx t d
  rw [zero_add] at h
  rw [← h]
  pointwise [tp]

theorem cm_is (h : Fin 2) : Is 0 (cm L h) (fun t _ => f.cc h t) := by
  intro t d
  obtain rfl : d = 0 := Subsingleton.elim _ _
  show cm L h (ix2 t 0) = ((f.cc h (0 + t.val) : ℝ) : EReal)
  rw [zero_add, ← hL.cc h t]
  pointwise [cm]

theorem lm_is (h : Fin 2) : Is 0 (lm L h) (fun t _ => f.lse h t) := by
  intro t d
  obtain rfl : d = 0 := Subsingleton.elim _ _
  show lm L h (ix2 t 0) = ((f.lse h (0 + t.val) : ℝ) : EReal)
  rw [zero_add, ← hL.lse h t]
  pointwise [lm]

theorem km_is (kc : Fin 8) : Is (256 * kc.val) (km L kc) f.k := by
  intro s d
  rw [← hL.k kc s d]
  pointwise [km]

theorem vm_is (kc : Fin 8) : Is (256 * kc.val) (vm L kc) f.v := by
  intro s d
  rw [← hL.v kc s d]
  pointwise [vm]

theorem del_is (h : Fin 2) : Is 0 (del L h) (fun t _ => f.del h t) := by
  intro t d
  obtain rfl : d = 0 := Subsingleton.elim _ _
  show del L h (ix2 t 0) = ((f.del h (0 + t.val) : ℝ) : EReal)
  rw [zero_add, Fns.del, ← Cert.Real.sum_coe]
  have e : ∀ d : Fin 128, ((Fns.on h (fun t d => f.d t d * f.y t d) t d : ℝ) : EReal) = Scalar.select (lanes h (ix2 t d)) (L.d (ix2 t d) * L.y (ix2 t d)) (Ideal.ofBits .f32 0x00000000#32) := by
    intro d
    rw [Ideal.ofBits_zero_f32, lanes_at]
    exact (sel_at h t d _ _ (by rw [hL.d, hL.y, EReal.coe_mul])).symm
  rw [Finset.sum_congr rfl fun d _ => e d]
  pointwise [del]

/-! ## The tiles -/

theorem Pt_is (h : Fin 2) (kc : Fin 8) (t : Fin (nn kc)) (s : Fin 256) : Pt L h kc (ix2 t s) = ((f.P h (256 * kc.val + t.val) (256 * kc.val + s.val) : ℝ) : EReal) := by
  rw [Pt, PT_at]
  have e1 := tl_is kc _ _ (qm_is hL h)
  have e2 := km_is hL kc
  have e3 := tl_is kc _ _ (cm_is hL h) t 0
  have e4 := tl_is kc _ _ (lm_is hL h) t 0
  rw [e3, e4, hL.cr h kc s, Finset.sum_congr rfl fun d _ => by rw [e1 t d, e2 s d, ← EReal.coe_mul], Cert.Real.sum_coe, ← EReal.coe_add, ← EReal.coe_sub, ← EReal.coe_sub, Ideal.exp_coe]
  unfold Fns.P
  by_cases c : s.val ≤ t.val
  · rw [if_pos c, if_pos (by omega)]
  · rw [if_neg c, if_neg (by omega), EReal.coe_zero]

theorem Dt_is (h : Fin 2) (kc : Fin 8) (t : Fin (nn kc)) (s : Fin 256) : Dt L h kc (ix2 t s) = ((f.D h (256 * kc.val + t.val) (256 * kc.val + s.val) : ℝ) : EReal) := by
  rw [Dt, DT_at]
  have e1 := tl_is kc _ _ (dm_is hL h)
  have e2 := vm_is hL kc
  have e3 := tl_is kc _ _ (del_is hL h) t 0
  rw [Pt_is hL, e3, Finset.sum_congr rfl fun d _ => by rw [e1 t d, e2 s d, ← EReal.coe_mul], Cert.Real.sum_coe, ← EReal.coe_sub, ← EReal.coe_mul]
  rfl

/-! ## The sums over chunks -/

theorem accQ_is (h : Fin 2) : ∀ (n : ℕ) (e : n ≤ 8), Is 0 (accQ L h n e) (fun t d => ∑ s ∈ Finset.range (256 * n), f.D h t s * f.k s d)
  | 0, _ => by
    intro t d
    show Ideal.ofBits .f32 0x00000000#32 = ((∑ s ∈ Finset.range (256 * 0), _ : ℝ) : EReal)
    rw [Ideal.ofBits_zero_f32]
    simp
  | n + 1, e => by
    have ih := accQ_is h n (Nat.le_of_succ_le e)
    refine bk_is ⟨n, e⟩ _ _ _ (fun t d ht => ?_) (fun t d => ?_)
    · rw [ih t d, zero_add, sum_step, Finset.sum_eq_zero (s := Finset.univ) (fun s _ => by rw [f.D_late h _ _ (Nat.lt_of_lt_of_le ht (Nat.le_add_right _ _)), zero_mul]), add_zero]
    · rw [QT_at, tl_is ⟨n, e⟩ _ _ ih t d, Finset.sum_congr rfl fun s _ => by rw [Dt_is hL, km_is hL ⟨n, e⟩ s d, ← EReal.coe_mul], Cert.Real.sum_coe, ← EReal.coe_add, sum_step]

theorem accC_is (h : Fin 2) : ∀ (n : ℕ) (e : n ≤ 8), Is 0 (accC L h n e) (fun t _ => ∑ s ∈ Finset.range (256 * n), f.D h t s)
  | 0, _ => by
    intro t d
    show Ideal.ofBits .f32 0x00000000#32 = ((∑ s ∈ Finset.range (256 * 0), _ : ℝ) : EReal)
    rw [Ideal.ofBits_zero_f32]
    simp
  | n + 1, e => by
    have ih := accC_is h n (Nat.le_of_succ_le e)
    refine bk_is ⟨n, e⟩ _ _ _ (fun t d ht => ?_) (fun t d => ?_)
    · rw [ih t d, zero_add, sum_step, Finset.sum_eq_zero (s := Finset.univ) (fun s _ => f.D_late h _ _ (Nat.lt_of_lt_of_le ht (Nat.le_add_right _ _))), add_zero]
    · obtain rfl : d = 0 := Subsingleton.elim _ _
      rw [CT_at, tl_is ⟨n, e⟩ _ _ ih t 0, Finset.sum_congr rfl fun s _ => by rw [Dt_is hL], Cert.Real.sum_coe, ← EReal.coe_add, sum_step]

/-! ## The blocks of the chunks, as they are read back -/

omit hL in
theorem KT_is (n : ℕ) (e : n < 8) (a : FVec Ideal S128x2048 .bf16) (w : FVec Ideal (Sh (nn ⟨n, e⟩) 256) .f32) (x : FVec Ideal S1x128x256 .f32) (ga gw : ℕ → ℕ → ℝ) (X : ℝ)
    (ha : ∀ (d : Fin 128) (t : Fin 2048), a (ix2 d t) = ((ga t d : ℝ) : EReal)) (hw : ∀ (t : Fin (nn ⟨n, e⟩)) (s : Fin 256), w (ix2 t s) = ((gw (256 * n + t.val) (256 * n + s.val) : ℝ) : EReal))
    (late : ∀ t s, t < s → gw t s = 0) (z : Fin 1) (d : Fin 128) (s : Fin 256) (hx : x (ix3 0 d s) = ((X : ℝ) : EReal)) :
    KT (nn ⟨n, e⟩) (tlT ⟨n, e⟩ a) w x (ix3 z d s) = ((X + ∑ t ∈ Finset.range 2048, ga t d * gw t (256 * n + s.val) : ℝ) : EReal) := by
  rw [KT_at, hx, Finset.sum_congr rfl fun t _ => by rw [tlT_is ⟨n, e⟩ a ga ha d t, hw t s, ← EReal.coe_mul], Cert.Real.sum_coe, ← EReal.coe_add]
  rw [sum_tail ⟨n, e⟩ (fun t => ga t d * gw t (256 * n + s.val)) (fun t ht => by rw [late _ _ (Nat.lt_of_lt_of_le ht (Nat.le_add_right _ _)), mul_zero])]

omit hL in
theorem RT_is (n : ℕ) (e : n < 8) (w : FVec Ideal (Sh (nn ⟨n, e⟩) 256) .f32) (x : FVec Ideal S1x1x1x256 .f32) (gw : ℕ → ℕ → ℝ) (X : ℝ)
    (hw : ∀ (t : Fin (nn ⟨n, e⟩)) (s : Fin 256), w (ix2 t s) = ((gw (256 * n + t.val) (256 * n + s.val) : ℝ) : EReal))
    (late : ∀ t s, t < s → gw t s = 0) (y z u : Fin 1) (s : Fin 256) (hx : x (ix4 0 0 0 s) = ((X : ℝ) : EReal)) :
    RT (nn ⟨n, e⟩) w x (ix4 y z u s) = ((X - ∑ t ∈ Finset.range 2048, gw t (256 * n + s.val) : ℝ) : EReal) := by
  rw [RT_at, hx, Finset.sum_congr rfl fun t _ => hw t s, Cert.Real.sum_coe, ← EReal.coe_sub]
  rw [sum_tail ⟨n, e⟩ (fun t => gw t (256 * n + s.val)) (fun t ht => late _ _ (Nat.lt_of_lt_of_le ht (Nat.le_add_right _ _)))]

omit hL in
theorem rk_disj (j n : ℕ) (ej : j < 8) (en : n < 8) (h : j ≠ n) : LoadRect.disj (rk n en) (rk j ej).toLoadRect = true := by
  refine decide_eq_true ⟨0, Or.inr (Or.inr ?_)⟩
  show n + 1 * (1 - 1) < j ∨ j + 1 * (1 - 1) < n
  omega

omit hL in
theorem rc_disj (h h' : Fin 2) (j n : ℕ) (ej : j < 8) (en : n < 8) (e : j ≠ n ∨ h ≠ h') : LoadRect.disj (rc h' n en) (rc h j ej).toLoadRect = true := by
  rcases e with e | e
  · refine decide_eq_true ⟨1, Or.inr (Or.inr ?_)⟩
    show n + 1 * (1 - 1) < j ∨ j + 1 * (1 - 1) < n
    omega
  · refine decide_eq_true ⟨0, Or.inr (Or.inr ?_)⟩
    have : h.val ≠ h'.val := fun q => e (Fin.ext q)
    show h'.val + 1 * (1 - 1) < h.val ∨ h.val + 1 * (1 - 1) < h'.val
    omega

omit hL in
/-- A buffer filled with 0 reads 0. -/
theorem fill_is {s : Shape} (v : View sig .tc .vmem s .f32) (off : Fin s.rank → ℕ) (inb : ∀ a, off a + s.size a ≤ s.size a) (Z : FVec Ideal s .f32) (h0 : ∀ a, off a = 0)
    (hZ : ∀ i, Z i = 0) (B : LoadRect s) (i : B.shape.Idx) : v.readCov [(⟨Rect.unit off s.size inb, Z⟩ : View.Piece (Elt Ideal) s .f32)] B i = (0 : EReal) :=
  (congrFun (View.readCov_eq_canon' v _ B) i).trans ((congrFun (View.canon_cons_unit_lit (Val := Elt Ideal) (e := .f32) inb Z [] h0) _).trans (hZ _))

omit hL in
/-- A chunk's block after `n` chunks: both heads' sums once its chunk is past, 0 before. -/
theorem twice_is (v : View sig .tc .vmem S8x128x256 .f32) (a : Fin 2 → FVec Ideal S128x2048 .bf16) (w : Fin 2 → (kc : Fin 8) → FVec Ideal (Sh (nn kc) 256) .f32) (Z : FVec Ideal S8x128x256 .f32)
    (ga gw : Fin 2 → ℕ → ℕ → ℝ) (ha : ∀ h (d : Fin 128) (t : Fin 2048), a h (ix2 d t) = ((ga h t d : ℝ) : EReal))
    (hw : ∀ h (kc : Fin 8) (t : Fin (nn kc)) (s : Fin 256), w h kc (ix2 t s) = ((gw h (256 * kc.val + t.val) (256 * kc.val + s.val) : ℝ) : EReal))
    (late : ∀ h t s, t < s → gw h t s = 0) (hZ : ∀ i, Z i = 0) (j : ℕ) (ej : j < 8) (d : Fin 128) (s : Fin 256) : ∀ (n : ℕ) (e : n ≤ 8),
    v.readCov (twice v a w Z n e) (rk j ej).toLoadRect (ix3 0 d s)
      = ((if j < n then 0 + ∑ t ∈ Finset.range 2048, ga 0 t d * gw 0 t (256 * j + s.val) + ∑ t ∈ Finset.range 2048, ga 1 t d * gw 1 t (256 * j + s.val) else 0 : ℝ) : EReal)
  | 0, _ => by
    rw [if_neg (Nat.not_lt_zero j), EReal.coe_zero]
    unfold twice
    exact fill_is v _ inb_S8x128x256_S8x128x256_0_0_0 Z (by decide) hZ _ _
  | n + 1, e => by
    have ih := twice_is v a w Z ga gw ha hw late hZ j ej d s n (Nat.le_of_succ_le e)
    unfold twice
    by_cases hj : j = n
    · subst hj
      rw [if_neg (Nat.lt_irrefl j), EReal.coe_zero] at ih
      rw [View.readCov_cons_toLoadRect, if_pos (Nat.lt_succ_self j)]
      refine KT_is j e _ _ _ (ga 1) (gw 1) _ (ha 1) (hw 1 ⟨j, e⟩) (late 1) 0 d s ?_
      rw [View.readCov_cons_toLoadRect]
      exact KT_is j e _ _ _ (ga 0) (gw 0) 0 (ha 0) (hw 0 ⟨j, e⟩) (late 0) 0 d s (ih.trans EReal.coe_zero.symm)
    · rw [View.readCov_skip v _ _ _ _ (rk_disj j n ej e hj), View.readCov_skip v _ _ _ _ (rk_disj j n ej e hj), ih]
      have : j < n ↔ j < n + 1 := by omega
      simp only [this]

/-- A head's chunk of the columns' decay's gradient after `n` chunks. -/
theorem cols_is (v : View sig .tc .vmem S2x8x1x256 .f32) (h : Fin 2) (j : ℕ) (ej : j < 8) (s : Fin 256) : ∀ (n : ℕ) (e : n ≤ 8),
    v.readCov (cols L v n e) (rc h j ej).toLoadRect (ix4 0 0 0 s) = ((if j < n then 0 - ∑ t ∈ Finset.range 2048, f.D h t (256 * j + s.val) else 0 : ℝ) : EReal)
  | 0, _ => by
    rw [if_neg (Nat.not_lt_zero j), EReal.coe_zero]
    unfold cols
    exact fill_is v _ inb_S2x8x1x256_S2x8x1x256_0_0_0_0 (k0_pay316 (F := Ideal)) (by decide) (fun _ => Ideal.ofBits_zero_f32) _ _
  | n + 1, e => by
    have ih := cols_is v h j ej s n (Nat.le_of_succ_le e)
    unfold cols
    by_cases hj : j = n
    · subst hj
      rw [if_neg (Nat.lt_irrefl j), EReal.coe_zero] at ih
      rw [if_pos (Nat.lt_succ_self j)]
      match h with
      | ⟨0, _⟩ =>
        rw [View.readCov_skip v _ _ _ _ (rc_disj _ _ j j ej e (Or.inr (Fin.ne_of_val_ne (show (0 : ℕ) ≠ 1 by decide))))]
        refine (congrFun (View.readCov_cons_toLoadRect v (rc 0 j e) _ _) (ix4 0 0 0 s)).trans ?_
        exact RT_is j e _ _ (f.D 0) 0 (Dt_is hL 0 ⟨j, e⟩) (f.D_late 0) 0 0 0 s (ih.trans EReal.coe_zero.symm)
      | ⟨1, _⟩ =>
        refine (congrFun (View.readCov_cons_toLoadRect v (rc 1 j e) _ _) (ix4 0 0 0 s)).trans ?_
        refine RT_is j e _ _ (f.D 1) 0 (Dt_is hL 1 ⟨j, e⟩) (f.D_late 1) 0 0 0 s ?_
        rw [View.readCov_skip v _ _ _ _ (rc_disj _ _ j j ej e (Or.inr (Fin.ne_of_val_ne (show (1 : ℕ) ≠ 0 by decide))))]
        exact ih.trans EReal.coe_zero.symm
    · rw [View.readCov_skip v _ _ _ _ (rc_disj _ _ j n ej e (Or.inl hj)), View.readCov_skip v _ _ _ _ (rc_disj _ _ j n ej e (Or.inl hj)), ih]
      have : j < n ↔ j < n + 1 := by omega
      simp only [this]

end Cert.Fox
-- ==== Proof.SbTile.lean ====
/- One tile of the stick-breaking attention's gradient: a head's rows from one on against one chunk of keys, at any number of rows. -/
module

public import proofs.«01_k».proof.Proof.SbFrame
public import proofs.«01_k».proof.Proof.FoxReal

@[expose] public section

set_option maxRecDepth 16384

noncomputable section

namespace Cert.Stick

open Idealize.ShloMosaic Idealize.ShloMosaic.TcCoe
open Cert.Fox (Sh Tall mt_at mp_at col_at narrow)

/-- A rank-three shape of one slab. -/
abbrev Slab (a b : ℕ) : Shape := ⟨3, ![1, a, b]⟩

/-- What a tile of `n` rows and 256 keys asks besides. -/
class Flat (n : ℕ) : Prop where
  up : (Sh n 256).ShapeCasts (Slab n 256)
  down : (Slab n 256).ShapeCasts (Sh n 256)

/-- One over the logarithm of two, by its name. -/
abbrev kap : Ideal .f32 := Named.named (F := Ideal) Cert.Kernel8Ideal.κ "log2_e" (φ := .f32) 0x3FB8AA3B#32

variable (n : ℕ) [T : Tall n] [U : Flat n]

/-- Earlier keys only. -/
def before : IVec (Sh n 256) 1 := cmpi .slt (iota .tc (Sh n 256) 32 [1] T.i1) (iota .tc (Sh n 256) 32 [0] T.i0)
def nul : FVec Ideal (Sh n 256) .f32 := broadcast (Sh n 256) (Scalar.ofBits (F := Ideal) .f32 0x00000000#32)
def one : FVec Ideal (Sh n 256) .f32 := broadcast (Sh n 256) (Scalar.ofBits (F := Ideal) .f32 0x3F800000#32)
def kaps : FVec Ideal (Sh n 256) .f32 := broadcast (Sh n 256) kap

/-- The logits in base two, the logarithm of what is left, and of what is taken. -/
def ZT (q : FVec Ideal (Sh n 128) .bf16) (k : FVec Ideal (Sh 256 128) .bf16) : FVec Ideal (Sh n 256) .f32 :=
  mulf (matmul (DotDims.transposedRhs n 128 256) none q k (constant (Sh n 256) .f32 0x00000000#32)) (kaps n)
def NT (z : FVec Ideal (Sh n 256) .f32) : FVec Ideal (Sh n 256) .f32 :=
  subf (minimumf (subf (nul n) z) (nul n)) (mulf (log (addf (one n) (exp2 (minimumf z (subf (nul n) z))))) (kaps n))
def ST (z : FVec Ideal (Sh n 256) .f32) : FVec Ideal (Sh n 256) .f32 := addf (NT n z) z
def MT (z : FVec Ideal (Sh n 256) .f32) : FVec Ideal (Sh n 256) .f32 := select (before n) (NT n z) (nul n)

/-- The tile's weights, from its logits and the rows' sums over later chunks. -/
def WT (later : FVec Ideal (Sh 256 256) .bf16) (z : FVec Ideal (Sh n 256) .f32) (car : FVec Ideal (Sh n 1) .f32) : FVec Ideal (Sh n 256) .f32 :=
  select (before n) (exp2 (addf (addf (ST n z) (addf (matmul (DotDims.plain n 256 256) none (truncf .bf16 (MT n z) narrow) later (constant (Sh n 256) .f32 0x00000000#32))
    (matmul (DotDims.plain n 256 256) none (truncf .bf16 (subf (MT n z) (extf .f32 (truncf .bf16 (MT n z) narrow) narrow)) narrow) later (constant (Sh n 256) .f32 0x00000000#32)))) (broadcastTo (Sh n 256) car T.col))) (nul n)

/-- What the tile keeps: its weights times their gradient, and the shares taken. -/
def GT (w : FVec Ideal (Sh n 256) .f32) (d : FVec Ideal (Sh n 128) .bf16) (v : FVec Ideal (Sh 256 128) .bf16) : FVec Ideal (Slab n 256) .bf16 :=
  shapeCast (Slab n 256) (truncf .bf16 (mulf w (matmul (DotDims.transposedRhs n 128 256) none d v (constant (Sh n 256) .f32 0x00000000#32))) narrow) U.up
def BT (z : FVec Ideal (Sh n 256) .f32) : FVec Ideal (Slab n 256) .bf16 := shapeCast (Slab n 256) (truncf .bf16 (exp2 (ST n z)) narrow) U.up

/-- The kept tile again. -/
def flat (x : FVec Ideal (Slab n 256) .bf16) : FVec Ideal (Sh n 256) .bf16 := shapeCast (Sh n 256) x U.down
def wide (x : FVec Ideal (Slab n 256) .bf16) : FVec Ideal (Sh n 256) .f32 := extf .f32 (flat n x) narrow

/-- The logits' gradient, from the kept tiles and the rows' sums over earlier chunks. -/
def DZ (earlier : FVec Ideal (Sh 256 256) .bf16) (g b : FVec Ideal (Slab n 256) .bf16) (car : FVec Ideal (Sh n 1) .f32) : FVec Ideal (Sh n 256) .f32 :=
  select (before n) (subf (mulf (wide n g) (subf (one n) (wide n b)))
    (mulf (wide n b) (addf (matmul (DotDims.plain n 256 256) none (flat n g) earlier (constant (Sh n 256) .f32 0x00000000#32)) (broadcastTo (Sh n 256) car T.col)))) (nul n)

/-- The logarithm of what a logit leaves, in base two. -/
def nb (z : EReal) : EReal := min (0 - z) 0 - Ideal.log (1 + Ideal.exp2 (min z (0 - z))) * kap

theorem before_at (t : Fin n) (s : Fin 256) : before n (ix2 t s) = BitVec.ofBool (decide (s.val < t.val)) := by
  have hn := T.small
  unfold before
  pointwise
  word_cmp

theorem pick (b : Prop) [Decidable b] (x y : EReal) : Scalar.select (BitVec.ofBool (decide b)) x y = if b then x else y := by
  by_cases h : b <;> simp [h, Scalar.select]

theorem nul_at (i) : nul n i = (0 : EReal) := Ideal.ofBits_zero_f32
theorem one_at (i) : one n i = (1 : EReal) := Ideal.ofBits_one_f32

theorem ZT_at (q k) (t : Fin n) (s : Fin 256) : ZT n q k (ix2 t s) = (∑ d : Fin 128, q (ix2 t d) * k (ix2 s d)) * kap :=
  congrArg (· * kap) (mt_at q k t s)

theorem NT_at (z) (i) : NT n z i = nb (z i) := by
  show min (nul n i - z i) (nul n i) - Ideal.log (one n i + Ideal.exp2 (min (z i) (nul n i - z i))) * kap = _
  rw [nul_at, one_at]
  rfl

theorem ST_at (z) (i) : ST n z i = nb (z i) + z i := congrArg (· + z i) (NT_at n z i)

theorem MT_at (z) (t : Fin n) (s : Fin 256) : MT n z (ix2 t s) = if s.val < t.val then nb (z (ix2 t s)) else 0 := by
  show Scalar.select (before n (ix2 t s)) (NT n z (ix2 t s)) (nul n (ix2 t s)) = _
  rw [before_at, NT_at, nul_at, pick]

theorem WT_at (later z car) (t : Fin n) (s : Fin 256) : WT n later z car (ix2 t s) = if s.val < t.val then Ideal.exp2 (nb (z (ix2 t s)) + z (ix2 t s)
    + (∑ k : Fin 256, MT n z (ix2 t k) * later (ix2 k s) + ∑ k : Fin 256, (MT n z (ix2 t k) - MT n z (ix2 t k)) * later (ix2 k s)) + car (ix2 t 0)) else 0 := by
  show Scalar.select (before n (ix2 t s)) (Ideal.exp2 (ST n z (ix2 t s) + (matmul (DotDims.plain n 256 256) none (truncf .bf16 (MT n z) narrow) later (constant (Sh n 256) .f32 0x00000000#32) (ix2 t s)
    + matmul (DotDims.plain n 256 256) none (truncf .bf16 (subf (MT n z) (extf .f32 (truncf .bf16 (MT n z) narrow) narrow)) narrow) later (constant (Sh n 256) .f32 0x00000000#32) (ix2 t s)) + broadcastTo (Sh n 256) car T.col (ix2 t s))) (nul n (ix2 t s)) = _
  rw [before_at, ST_at, nul_at, pick, mp_at, mp_at, col_at]
  rfl

theorem up_at (x : FVec Ideal (Sh n 256) .bf16) (z : Fin 1) (t : Fin n) (s : Fin 256) : shapeCast (Slab n 256) x U.up (ix3 z t s) = x (ix2 t s) := by
  refine shapeCast_apply _ U.up (ix3 z t s) (ix2 t s) ?_
  rw [Shape.rowMajor_val_two, Shape.rowMajor_val_three]
  show t.val * 256 + s.val = (z.val * n + t.val) * 256 + s.val
  have := z.isLt
  obtain rfl : z = 0 := Subsingleton.elim _ _
  simp

theorem flat_at (x) (t : Fin n) (s : Fin 256) : flat n x (ix2 t s) = x (ix3 0 t s) := by
  refine shapeCast_apply _ U.down (ix2 t s) (ix3 0 t s) ?_
  rw [Shape.rowMajor_val_two, Shape.rowMajor_val_three]
  show (0 * n + t.val) * 256 + s.val = t.val * 256 + s.val
  simp

theorem GT_at (w d v) (z : Fin 1) (t : Fin n) (s : Fin 256) : GT n w d v (ix3 z t s) = w (ix2 t s) * ∑ e : Fin 128, d (ix2 t e) * v (ix2 s e) :=
  (up_at n _ z t s).trans (congrArg (w (ix2 t s) * ·) (mt_at d v t s))

theorem BT_at (z) (u : Fin 1) (t : Fin n) (s : Fin 256) : BT n z (ix3 u t s) = Ideal.exp2 (nb (z (ix2 t s)) + z (ix2 t s)) :=
  (up_at n _ u t s).trans (congrArg Ideal.exp2 (ST_at n z (ix2 t s)))

theorem DZ_at (earlier g b car) (t : Fin n) (s : Fin 256) : DZ n earlier g b car (ix2 t s) = if s.val < t.val then g (ix3 0 t s) * (1 - b (ix3 0 t s))
    - b (ix3 0 t s) * (∑ k : Fin 256, g (ix3 0 t k) * earlier (ix2 k s) + car (ix2 t 0)) else 0 := by
  show Scalar.select (before n (ix2 t s)) (flat n g (ix2 t s) * (one n (ix2 t s) - flat n b (ix2 t s)) - flat n b (ix2 t s) * (matmul (DotDims.plain n 256 256) none (flat n g) earlier (constant (Sh n 256) .f32 0x00000000#32) (ix2 t s)
    + broadcastTo (Sh n 256) car T.col (ix2 t s))) (nul n (ix2 t s)) = _
  rw [before_at, nul_at, one_at, pick, mp_at, col_at]
  simp only [flat_at]

end Cert.Stick
-- ==== Proof.SbLink.lean ====
/- What a working point of the stick-breaking attention's gradient leaves, written as recursions over its chunks of keys: from the last to the first, and back. -/
module

public import proofs.«01_k».proof.Proof.SbTile

@[expose] public section

set_option maxRecDepth 16384

noncomputable section

namespace Cert.Stick

open Idealize.ShloMosaic Idealize.ShloMosaic.TcCoe Idealize.ShloMosaic.Tactic
open Cert.Kernel8Ideal Cert.Kernel8Ideal.Gen Cert.Kernel8Ideal.Sb
open Cert.Fox (Sh Tall nn tl tlT bk lanes tp rk KT QT CT)

instance level (kc : Fin 8) : Flat (nn kc) where
  up := by revert kc; decide +kernel
  down := by revert kc; decide +kernel

/-- The chunks from the last on. -/
def rv (i : Fin 8) : Fin 8 := ⟨7 - i.val, by omega⟩

/-- What a working point loads. -/
structure Held where
  q : FVec Ideal S2048x128 .bf16
  d : FVec Ideal S2048x128 .bf16
  k : Fin 8 → FVec Ideal S256x128 .bf16
  v : Fin 8 → FVec Ideal S256x128 .bf16

variable (L : Held)

/-- A head's lanes of a block of rows, 0 elsewhere. -/
def mine (h : Fin 2) (x : FVec Ideal S2048x128 .bf16) : FVec Ideal S2048x128 .bf16 := select (lanes h) (shapeCast S2048x128 x shapeCasts_S2048x128_S2048x128) (broadcast S2048x128 (Scalar.ofBits (F := Ideal) .bf16 0x0000#16))
def kp (kc : Fin 8) : FVec Ideal S256x128 .bf16 := shapeCast S256x128 (L.k kc) shapeCasts_S256x128_S256x128
def vp (kc : Fin 8) : FVec Ideal S256x128 .bf16 := shapeCast S256x128 (L.v kc) shapeCasts_S256x128_S256x128
def none1 : FVec Ideal (Sh 2048 1) .f32 := broadcast S2048x1 (Scalar.ofBits (F := Ideal) .f32 0x00000000#32)
def none128 : FVec Ideal (Sh 2048 128) .f32 := broadcast S2048x128 (Scalar.ofBits (F := Ideal) .f32 0x00000000#32)

/-- A head's logits against a chunk. -/
def Zt (h : Fin 2) (kc : Fin 8) : FVec Ideal (Sh (nn kc) 256) .f32 := ZT (nn kc) (tl kc (mine h L.q)) (kp L kc)

/-- The rows' sums over the last `n` chunks. -/
def left (h : Fin 2) : (n : ℕ) → n ≤ 8 → FVec Ideal (Sh 2048 1) .f32
  | 0, _ => none1
  | n + 1, e => bk (rv ⟨n, e⟩) (left h n (Nat.le_of_succ_le e)) (CT (nn (rv ⟨n, e⟩)) (MT (nn (rv ⟨n, e⟩)) (Zt L h (rv ⟨n, e⟩))) (tl (rv ⟨n, e⟩) (left h n (Nat.le_of_succ_le e))))

/-- The weights of the chunk met after `n` others. -/
def Wt (h : Fin 2) (i : Fin 8) : FVec Ideal (Sh (nn (rv i)) 256) .f32 := WT (nn (rv i)) (k0_pay557 (F := Ideal)) (Zt L h (rv i)) (tl (rv i) (left L h i.val (Nat.le_of_lt i.isLt)))
def Gt (h : Fin 2) (i : Fin 8) : FVec Ideal (Slab (nn (rv i)) 256) .bf16 := GT (nn (rv i)) (Wt L h i) (tl (rv i) (mine h L.d)) (vp L (rv i))
def Bt (h : Fin 2) (i : Fin 8) : FVec Ideal (Slab (nn (rv i)) 256) .bf16 := BT (nn (rv i)) (Zt L h (rv i))

/-- Where a chunk's tile is kept. -/
abbrev rg (kc : Fin 8) : Rect S8x2048x256 := Rect.unit ![kc.val, 256 * kc.val, 0] (Slab (nn kc) 256).size (fun a => by
  match a with
  | ⟨0, _⟩ => show kc.val + 1 ≤ 8; omega
  | ⟨1, _⟩ => show 256 * kc.val + (2048 - 256 * kc.val) ≤ 2048; omega
  | ⟨2, _⟩ => show 0 + 256 ≤ 256; omega)

/-- The tiles kept, from the last chunk on. -/
def put (x : (i : Fin 8) → FVec Ideal (Slab (nn (rv i)) 256) .bf16) (P : List (View.Piece (Elt Ideal) S8x2048x256 .bf16)) : (n : ℕ) → n ≤ 8 → List (View.Piece (Elt Ideal) S8x2048x256 .bf16)
  | 0, _ => P
  | n + 1, e => ⟨rg (rv ⟨n, e⟩), x ⟨n, e⟩⟩ :: put x P n (Nat.le_of_succ_le e)

abbrev viewG : View sig .tc .vmem S8x2048x256 .bf16 := (Memref.whole cc0_scratch0 : Memref sig .tc .vmem S8x2048x256 .bf16).view
abbrev viewB : View sig .tc .vmem S8x2048x256 .bf16 := (Memref.whole cc0_scratch1 : Memref sig .tc .vmem S8x2048x256 .bf16).view
abbrev viewK : View sig .tc .vmem S8x128x256 .f32 := (Memref.whole cc0_scratch2 : Memref sig .tc .vmem S8x128x256 .f32).view
abbrev viewV : View sig .tc .vmem S8x128x256 .f32 := (Memref.whole cc0_scratch3 : Memref sig .tc .vmem S8x128x256 .f32).view

/-- The two buffers of tiles after a head's chunks. -/
def heapG : Fin 2 → List (View.Piece (Elt Ideal) S8x2048x256 .bf16)
  | ⟨0, _⟩ => put (Gt L 0) [] 8 (Nat.le_refl 8)
  | ⟨1, _⟩ => put (Gt L 1) (put (Gt L 0) [] 8 (Nat.le_refl 8)) 8 (Nat.le_refl 8)
def heapB : Fin 2 → List (View.Piece (Elt Ideal) S8x2048x256 .bf16)
  | ⟨0, _⟩ => put (Bt L 0) [] 8 (Nat.le_refl 8)
  | ⟨1, _⟩ => put (Bt L 1) (put (Bt L 0) [] 8 (Nat.le_refl 8)) 8 (Nat.le_refl 8)

/-- A chunk's tiles as they are read back. -/
def gk (h : Fin 2) (kc : Fin 8) : FVec Ideal (Slab (nn kc) 256) .bf16 := viewG.readCov (heapG L h) (rg kc).toLoadRect
def bq (h : Fin 2) (kc : Fin 8) : FVec Ideal (Slab (nn kc) 256) .bf16 := viewB.readCov (heapB L h) (rg kc).toLoadRect

/-- The rows' sums over the first `n` chunks. -/
def past (h : Fin 2) : (n : ℕ) → n ≤ 8 → FVec Ideal (Sh 2048 1) .f32
  | 0, _ => none1
  | n + 1, e => bk ⟨n, e⟩ (past h n (Nat.le_of_succ_le e)) (CT (nn ⟨n, e⟩) (wide (nn ⟨n, e⟩) (gk L h ⟨n, e⟩)) (tl ⟨n, e⟩ (past h n (Nat.le_of_succ_le e))))

/-- A head's logits' gradient against a chunk. -/
def Dz (h : Fin 2) (kc : Fin 8) : FVec Ideal (Sh (nn kc) 256) .f32 := DZ (nn kc) (k0_pay558 (F := Ideal)) (gk L h kc) (bq L h kc) (tl kc (past L h kc.val (Nat.le_of_lt kc.isLt)))

/-- The queries' gradient after `n` chunks. -/
def sumQ (h : Fin 2) : (n : ℕ) → n ≤ 8 → FVec Ideal (Sh 2048 128) .f32
  | 0, _ => none128
  | n + 1, e => bk ⟨n, e⟩ (sumQ h n (Nat.le_of_succ_le e)) (QT (nn ⟨n, e⟩) (Dz L h ⟨n, e⟩) (kp L ⟨n, e⟩) (tl ⟨n, e⟩ (sumQ h n (Nat.le_of_succ_le e))))

/-- A head's writes of its chunks' blocks, in some order. -/
def once (v : View sig .tc .vmem S8x128x256 .f32) (σ : Fin 8 → Fin 8) (a : FVec Ideal S128x2048 .bf16) (w : (i : Fin 8) → FVec Ideal (Sh (nn (σ i)) 256) .f32) (P : List (View.Piece (Elt Ideal) S8x128x256 .f32)) : (n : ℕ) → n ≤ 8 → List (View.Piece (Elt Ideal) S8x128x256 .f32)
  | 0, _ => P
  | n + 1, e => ⟨rk (σ ⟨n, e⟩).val (σ ⟨n, e⟩).isLt, KT (nn (σ ⟨n, e⟩)) (tlT (σ ⟨n, e⟩) a) (w ⟨n, e⟩) (v.readCov (once v σ a w P n (Nat.le_of_succ_le e)) (rk (σ ⟨n, e⟩).val (σ ⟨n, e⟩).isLt).toLoadRect)⟩ :: once v σ a w P n (Nat.le_of_succ_le e)

/-- A buffer of blocks filled with 0. -/
def blank : List (View.Piece (Elt Ideal) S8x128x256 .f32) := [⟨Rect.unit ![0, 0, 0] S8x128x256.size inb_S8x128x256_S8x128x256_0_0_0, k0_pay561 (F := Ideal)⟩]

/-- The keys' and the values' gradient blocks after both heads. -/
def allK : List (View.Piece (Elt Ideal) S8x128x256 .f32) := once viewK id (tp (mine 1 L.q)) (Dz L 1) (once viewK id (tp (mine 0 L.q)) (Dz L 0) blank 8 (Nat.le_refl 8)) 8 (Nat.le_refl 8)
def allV : List (View.Piece (Elt Ideal) S8x128x256 .f32) := once viewV rv (tp (mine 1 L.d)) (Wt L 1) (once viewV rv (tp (mine 0 L.d)) (Wt L 0) blank 8 (Nat.le_refl 8)) 8 (Nat.le_refl 8)

/-- The rows of the kept results that a chunk's block fills. -/
abbrev rr (j : Fin 3) (n : ℕ) (e : n < 8) : Rect S3x2048x128 := Rect.unit ![j.val, 256 * n, 0] S1x256x128.size (fun a => by
  match a with
  | ⟨0, _⟩ => show j.val + 1 ≤ 3; omega
  | ⟨1, _⟩ => show 256 * n + 256 ≤ 2048; omega
  | ⟨2, _⟩ => show 0 + 128 ≤ 128; omega)

/-- The blocks of a buffer, turned and stored among the kept results. -/
def laid (j : Fin 3) (v : View sig .tc .vmem S8x128x256 .f32) (H : List (View.Piece (Elt Ideal) S8x128x256 .f32)) (P : List (View.Piece (Elt Ideal) S3x2048x128 .bf16)) : (n : ℕ) → n ≤ 8 → List (View.Piece (Elt Ideal) S3x2048x128 .bf16)
  | 0, _ => P
  | n + 1, e => ⟨rr j n e, k0_pay942 (v.readCov H (rk n e).toLoadRect)⟩ :: laid j v H P n (Nat.le_of_succ_le e)

/-- The queries' gradient of both heads, scaled, as it is kept. -/
def dq : FVec Ideal S1x2048x128 .bf16 :=
  shapeCast S1x2048x128 (truncf .bf16 (mulf (select (lanes 0) (sumQ L 0 8 (Nat.le_refl 8)) (sumQ L 1 8 (Nat.le_refl 8))) (broadcast S2048x128 (Scalar.ofBits (F := Ideal) .f32 0x3E000000#32))) bitsLt_bf16_f32) shapeCasts_S2048x128_S1x2048x128

/-- All that a working point keeps. -/
def kept : List (View.Piece (Elt Ideal) S3x2048x128 .bf16) :=
  laid 2 viewV (allV L) (laid 1 viewK (allK L) [⟨Rect.unit ![0, 0, 0] S1x2048x128.size (by decide), dq L⟩] 8 (Nat.le_refl 8)) 8 (Nat.le_refl 8)

end Cert.Stick

namespace Cert.Kernel8Ideal.Sb

open Cert.Kernel8Ideal Cert.Kernel8Ideal.Gen Cert.Stick
open Idealize.ShloMosaic Idealize.ShloMosaic.TcCoe Idealize.ShloMosaic.Tactic

variable (m : (ℓ : Loc nD τ sig) → Buf (Elt Ideal) ℓ)

/-- A rectangle of 256 rows of a 2048-row block, one for each chunk, and the whole block. -/
abbrev rq (kc : Fin 8) : Rect S2048x128 := Rect.unit ![256 * kc.val, 0] S256x128.size (fun a => by
  match a with
  | ⟨0, _⟩ => show 256 * kc.val + 256 ≤ 2048; omega
  | ⟨1, _⟩ => show 0 + 128 ≤ 128; omega)
abbrev rw0 : Rect S2048x128 := Rect.unit ![0, 0] S2048x128.size inb_S2048x128_S2048x128_0_0

/-- What a working point loads from its blocks. -/
def held (c : Dev nD) (t : Fin cfg0.N) : Held where
  q := View.readAt (Elt Ideal) (st0_0 t).view rw0.toLoadRect ((hstage0_0 ((cfg0.slots t 0).cast nbuf0_0)).unread (iblk m c 0 t))
  d := View.readAt (Elt Ideal) (st0_3 t).view rw0.toLoadRect ((hstage0_3 ((cfg0.slots t 3).cast nbuf0_3)).unread (iblk m c 3 t))
  k kc := View.readAt (Elt Ideal) (st0_1 t).view (rq kc).toLoadRect ((hstage0_1 ((cfg0.slots t 1).cast nbuf0_1)).unread (iblk m c 1 t))
  v kc := View.readAt (Elt Ideal) (st0_2 t).view (rq kc).toLoadRect ((hstage0_2 ((cfg0.slots t 2).cast nbuf0_2)).unread (iblk m c 2 t))

theorem work_res (c : Dev nD) (t : Fin cfg0.N) (h : t.val % 3 = 0) : (work (F := Ideal) m c t h).2.1 = kept (held m c t) := by
  sl_kernel_rfl

end Cert.Kernel8Ideal.Sb
-- ==== Proof.SbReal.lean ====
/- The recursions over a working point's chunks, in real numbers: each result is a plain sum over all rows or all keys. -/
module

public import proofs.«01_k».proof.Proof.SbLink

@[expose] public section

set_option maxRecDepth 16384

noncomputable section

namespace Cert.Stick

open Idealize.ShloMosaic Idealize.ShloMosaic.TcCoe
open Cert.Kernel8Ideal Cert.Kernel8Ideal.Gen Cert.Kernel8Ideal.Sb
open Cert.Fox (Sh Tall nn tl tlT bk lanes tp rk KT QT CT Is tl_is bk_is QT_at CT_at KT_is tp_is sel_at lanes_at zero16 fill_is rk_disj)

/-- The logarithm of one and an exponential. -/
def lp (x : ℝ) : ℝ := Real.log (1 + Real.exp x)

theorem lp_split (x : ℝ) : lp x = max x 0 + Real.log (1 + Real.exp (min x (-x))) := by
  unfold lp
  rcases le_total x 0 with h | h
  · rw [max_eq_right h, min_eq_left (by linarith), zero_add]
  · rw [max_eq_left h, min_eq_right (by linarith)]
    rw [show 1 + Real.exp x = Real.exp x * (1 + Real.exp (-x)) by rw [mul_add, ← Real.exp_add]; simp [add_comm], Real.log_mul (Real.exp_ne_zero _) (by positivity), Real.log_exp]

theorem lp_neg (x : ℝ) : lp (-x) = lp x - x := by
  rw [lp_split, lp_split, neg_neg, min_comm (-x) x]
  have : max (-x) 0 = max x 0 - x := by
    rcases le_total x 0 with h | h
    · rw [max_eq_right h, max_eq_left (by linarith)]; ring
    · rw [max_eq_left h, max_eq_right (by linarith)]; ring
  rw [this]; ring

/-- What is not taken is left. -/
theorem lp_rest (x : ℝ) : 1 - Real.exp (x - lp x) = Real.exp (-lp x) := by
  have hp : 0 < 1 + Real.exp x := by positivity
  rw [Real.exp_sub, Real.exp_neg, lp, Real.exp_log hp]
  field_simp
  ring

theorem kap_eq : kap = (((Real.log 2)⁻¹ : ℝ) : EReal) := rfl

theorem log2_pos : 0 < Real.log 2 := Real.log_pos (by norm_num)

theorem exp2_at (x : ℝ) : Ideal.exp2 ((x * (Real.log 2)⁻¹ : ℝ) : EReal) = ((Real.exp x : ℝ) : EReal) := by
  rw [Ideal.exp2_coe]
  congr 1
  rw [Real.rpow_eq_pow, Real.rpow_def_of_pos (by norm_num)]
  congr 1
  have := log2_pos.ne'
  field_simp

theorem coe_min (a b : ℝ) : min (a : EReal) (b : EReal) = ((min a b : ℝ) : EReal) := (EReal.coe_strictMono.monotone.map_min (a := a) (b := b)).symm

theorem nb_at (x : ℝ) : nb ((x * (Real.log 2)⁻¹ : ℝ) : EReal) = ((-lp x * (Real.log 2)⁻¹ : ℝ) : EReal) := by
  have hk : 0 < (Real.log 2)⁻¹ := inv_pos.mpr log2_pos
  have hm : min (x * (Real.log 2)⁻¹) (0 - x * (Real.log 2)⁻¹) = min x (-x) * (Real.log 2)⁻¹ := by
    rw [min_mul_of_nonneg _ _ hk.le]; congr 1; ring
  have hz : min (0 - x * (Real.log 2)⁻¹) 0 = -max x 0 * (Real.log 2)⁻¹ := by
    rw [show -max x 0 = min (-x) 0 by rcases le_total x 0 with h | h; (· rw [max_eq_right h, min_eq_right (by linarith), neg_zero]); (· rw [max_eq_left h, min_eq_left (by linarith)]), min_mul_of_nonneg _ _ hk.le]
    congr 1 <;> ring
  unfold nb
  rw [← EReal.coe_zero, ← EReal.coe_sub, coe_min, coe_min, hm, hz, exp2_at, ← EReal.coe_one, ← EReal.coe_add, Ideal.log_coe, if_neg (by have := Real.exp_pos (min x (-x)); linarith), kap_eq, ← EReal.coe_mul, ← EReal.coe_sub, lp_split]
  congr 1
  ring

/-- The real numbers a working point loads. -/
structure Lns where
  q : ℕ → ℕ → ℝ
  k : ℕ → ℕ → ℝ
  v : ℕ → ℕ → ℝ
  d : ℕ → ℕ → ℝ

namespace Lns
open Cert.Fox.Fns (on)
variable (f : Lns)

/-- The logit, the logarithm left by it, the weight, its gradient, both, the share, and the logit's gradient. -/
def z (h : Fin 2) (t s : ℕ) : ℝ := ∑ e : Fin 128, on h f.q t e * f.k s e
def l (h : Fin 2) (t s : ℕ) : ℝ := if s < t then -lp (f.z h t s) else 0
def W (h : Fin 2) (t s : ℕ) : ℝ := if s < t then Real.exp (f.z h t s - lp (f.z h t s) + ∑ r ∈ Finset.Ico (s + 1) 2048, f.l h t r) else 0
def y (h : Fin 2) (t s : ℕ) : ℝ := ∑ e : Fin 128, on h f.d t e * f.v s e
def G (h : Fin 2) (t s : ℕ) : ℝ := f.W h t s * f.y h t s
def B (h : Fin 2) (t s : ℕ) : ℝ := Real.exp (f.z h t s - lp (f.z h t s))
def D (h : Fin 2) (t s : ℕ) : ℝ := if s < t then f.G h t s * (1 - f.B h t s) - f.B h t s * ∑ r ∈ Finset.range s, f.G h t r else 0

theorem l_late (h : Fin 2) (t s : ℕ) (e : t ≤ s) : f.l h t s = 0 := if_neg (Nat.not_lt.mpr e)
theorem W_late (h : Fin 2) (t s : ℕ) (e : t < s) : f.W h t s = 0 := if_neg (Nat.not_lt.mpr e.le)
theorem D_late (h : Fin 2) (t s : ℕ) (e : t < s) : f.D h t s = 0 := if_neg (Nat.not_lt.mpr e.le)
theorem G_late (h : Fin 2) (t s : ℕ) (e : t ≤ s) : f.G h t s = 0 := by rw [G, W, if_neg (Nat.not_lt.mpr e), zero_mul]
end Lns

/-- The loads are these real numbers. -/
structure Hold (L : Held) (f : Lns) : Prop where
  q : ∀ (t : Fin 2048) (d : Fin 128), L.q (ix2 t d) = ((f.q t d : ℝ) : EReal)
  d : ∀ (t : Fin 2048) (d : Fin 128), L.d (ix2 t d) = ((f.d t d : ℝ) : EReal)
  k : ∀ (kc : Fin 8) (s : Fin 256) (d : Fin 128), L.k kc (ix2 s d) = ((f.k (256 * kc.val + s.val) d : ℝ) : EReal)
  v : ∀ (kc : Fin 8) (s : Fin 256) (d : Fin 128), L.v kc (ix2 s d) = ((f.v (256 * kc.val + s.val) d : ℝ) : EReal)

/-! ## Sums over part of the keys -/

/-- The sum past a chunk, the chunk added. -/
theorem ico_step (n : ℕ) (h : n < 8) (g : ℕ → ℝ) : ∑ s ∈ Finset.Ico (256 * n) 2048, g s = ∑ s ∈ Finset.Ico (256 * (n + 1)) 2048, g s + ∑ s : Fin 256, g (256 * n + s.val) := by
  rw [← Finset.sum_Ico_consecutive g (Nat.mul_le_mul_left 256 (Nat.le_succ n)) (by omega : 256 * (n + 1) ≤ 2048), add_comm]
  congr 1
  rw [Finset.sum_Ico_eq_sum_range, ← Finset.sum_range (fun i => g (256 * n + i)), show 256 * (n + 1) - 256 * n = 256 by omega]

/-- The keys past one: those of its chunk, and those of later chunks. -/
theorem ico_later (n : ℕ) (h : n < 8) (s : Fin 256) (g : ℕ → ℝ) : ∑ r ∈ Finset.Ico (256 * n + s.val + 1) 2048, g r = ∑ r : Fin 256, g (256 * n + r.val) * (if s.val < r.val then 1 else 0) + ∑ r ∈ Finset.Ico (256 * (n + 1)) 2048, g r := by
  have hs := s.isLt
  rw [← Finset.sum_Ico_consecutive g (by omega : 256 * n + s.val + 1 ≤ 256 * (n + 1)) (by omega : 256 * (n + 1) ≤ 2048)]
  congr 1
  rw [← Finset.sum_range (fun r => g (256 * n + r) * (if s.val < r then 1 else 0))]
  simp only [mul_ite, mul_one, mul_zero]
  rw [← Finset.sum_filter, show (Finset.range 256).filter (fun r => s.val < r) = Finset.Ico (s.val + 1) 256 by ext r; simp only [Finset.mem_filter, Finset.mem_range, Finset.mem_Ico]; omega,
    Finset.sum_Ico_add g (s.val + 1) 256 (256 * n)]
  congr 2 <;> omega

/-- The keys before one: those of earlier chunks, and those of its chunk. -/
theorem range_earlier (n : ℕ) (s : Fin 256) (g : ℕ → ℝ) : ∑ r ∈ Finset.range (256 * n + s.val), g r = ∑ r : Fin 256, g (256 * n + r.val) * (if r.val < s.val then 1 else 0) + ∑ r ∈ Finset.range (256 * n), g r := by
  have hs := s.isLt
  rw [Finset.sum_range_add, add_comm]
  congr 1
  rw [← Finset.sum_range (fun r => g (256 * n + r) * (if r < s.val then 1 else 0))]
  simp only [mul_ite, mul_one, mul_zero]
  rw [← Finset.sum_filter, show (Finset.range 256).filter (fun r => r < s.val) = Finset.range s.val by ext r; simp only [Finset.mem_filter, Finset.mem_range]; omega]

theorem ite_coe (b : Prop) [Decidable b] (x : ℝ) : (if b then (x : EReal) else 0) = ((if b then x else 0 : ℝ) : EReal) := by
  split <;> rfl

theorem later_at (r s : Fin 256) : k0_pay557 (F := Ideal) (ix2 r s) = ((if s.val < r.val then 1 else 0 : ℝ) : EReal) := by
  have e : cmpi .sgt (iota .tc S256x256 32 [0] iota_S256x256_d0_w32) (iota .tc S256x256 32 [1] iota_S256x256_d1_w32) (ix2 r s) = BitVec.ofBool (decide (s.val < r.val)) := by
    pointwise
    word_cmp
  show ((((cmpi .sgt (iota .tc S256x256 32 [0] iota_S256x256_d0_w32) (iota .tc S256x256 32 [1] iota_S256x256_d1_w32) (ix2 r s)).setWidth 32).toInt : ℝ) : EReal) = _
  rw [e]
  by_cases h : s.val < r.val <;> simp [h]

theorem earlier_at (r s : Fin 256) : k0_pay558 (F := Ideal) (ix2 r s) = ((if r.val < s.val then 1 else 0 : ℝ) : EReal) := by
  have e : cmpi .slt (iota .tc S256x256 32 [0] iota_S256x256_d0_w32) (iota .tc S256x256 32 [1] iota_S256x256_d1_w32) (ix2 r s) = BitVec.ofBool (decide (r.val < s.val)) := by
    pointwise
    word_cmp
  show ((((cmpi .slt (iota .tc S256x256 32 [0] iota_S256x256_d0_w32) (iota .tc S256x256 32 [1] iota_S256x256_d1_w32) (ix2 r s)).setWidth 32).toInt : ℝ) : EReal) = _
  rw [e]
  by_cases h : r.val < s.val <;> simp [h]

/-! ## The operands -/

variable {L : Held} {f : Lns} (hL : Hold L f)

theorem mine_is (h : Fin 2) (x : FVec Ideal S2048x128 .bf16) (g : ℕ → ℕ → ℝ) (hx : ∀ (t : Fin 2048) (d : Fin 128), x (ix2 t d) = ((g t d : ℝ) : EReal)) : Is 0 (mine h x) (Cert.Fox.Fns.on h g) := by
  intro t d
  rw [zero_add, ← sel_at h t d g _ (hx t d), ← lanes_at h t d, ← zero16]
  pointwise [mine]

theorem none1_is (g : ℕ → ℕ → ℝ) (hg : ∀ t d, g t d = 0) : Is 0 none1 g := by
  intro t d
  show Ideal.ofBits .f32 0x00000000#32 = _
  rw [Ideal.ofBits_zero_f32, hg, EReal.coe_zero]
theorem none128_is (g : ℕ → ℕ → ℝ) (hg : ∀ t d, g t d = 0) : Is 0 none128 g := by
  intro t d
  show Ideal.ofBits .f32 0x00000000#32 = _
  rw [Ideal.ofBits_zero_f32, hg, EReal.coe_zero]

include hL

theorem kp_is (kc : Fin 8) : Is (256 * kc.val) (kp L kc) f.k := by
  intro s d
  rw [← hL.k kc s d]
  pointwise [kp]

theorem vp_is (kc : Fin 8) : Is (256 * kc.val) (vp L kc) f.v := by
  intro s d
  rw [← hL.v kc s d]
  pointwise [vp]

/-! ## From the last chunk to the first -/

theorem Zt_is (h : Fin 2) (kc : Fin 8) (t : Fin (nn kc)) (s : Fin 256) : Zt L h kc (ix2 t s) = ((f.z h (256 * kc.val + t.val) (256 * kc.val + s.val) * (Real.log 2)⁻¹ : ℝ) : EReal) := by
  rw [Zt, ZT_at, kap_eq]
  have e1 := tl_is kc _ _ (mine_is h L.q f.q hL.q)
  have e2 := kp_is hL kc
  rw [Finset.sum_congr rfl fun d _ => by rw [e1 t d, e2 s d, ← EReal.coe_mul], Cert.Real.sum_coe, ← EReal.coe_mul]
  rfl

theorem Mt_is (h : Fin 2) (kc : Fin 8) (t : Fin (nn kc)) (s : Fin 256) : MT (nn kc) (Zt L h kc) (ix2 t s) = ((f.l h (256 * kc.val + t.val) (256 * kc.val + s.val) * (Real.log 2)⁻¹ : ℝ) : EReal) := by
  rw [MT_at, Zt_is hL, nb_at, ite_coe]
  unfold Lns.l
  by_cases c : s.val < t.val
  · rw [if_pos c, if_pos (by omega)]
  · rw [if_neg c, if_neg (by omega), zero_mul]

theorem left_is (h : Fin 2) : ∀ (n : ℕ) (e : n ≤ 8), Is 0 (left L h n e) (fun t _ => (∑ s ∈ Finset.Ico (256 * (8 - n)) 2048, f.l h t s) * (Real.log 2)⁻¹)
  | 0, _ => none1_is _ (fun t d => by simp)
  | n + 1, e => by
    have ih := left_is h n (Nat.le_of_succ_le e)
    have e8 : 8 - n = (7 - n) + 1 := by omega
    have e7 : 8 - (n + 1) = 7 - n := by omega
    rw [e8] at ih
    rw [e7]
    refine bk_is (rv ⟨n, e⟩) _ _ _ (fun t d ht => ?_) (fun t d => ?_)
    · rw [ih t d, zero_add, ico_step (7 - n) (by omega), Finset.sum_eq_zero (s := Finset.univ) (f := fun s : Fin 256 => f.l h t.val (256 * (7 - n) + s.val)) (fun s _ => f.l_late h _ _ (Nat.le_trans (Nat.le_of_lt ht) (Nat.le_add_right _ _))), add_zero]
    · obtain rfl : d = 0 := Subsingleton.elim _ _
      rw [CT_at, tl_is (rv ⟨n, e⟩) _ _ ih t 0, Finset.sum_congr rfl fun s _ => by rw [Mt_is hL], Cert.Real.sum_coe, ← EReal.coe_add, ico_step (7 - n) (by omega), add_mul, ← Finset.sum_mul]
      rfl

theorem Wt_is (h : Fin 2) (i : Fin 8) (t : Fin (nn (rv i))) (s : Fin 256) : Wt L h i (ix2 t s) = ((f.W h (256 * (rv i).val + t.val) (256 * (rv i).val + s.val) : ℝ) : EReal) := by
  have c0 := tl_is (rv i) _ _ (left_is hL h i.val (Nat.le_of_lt i.isLt)) t 0
  have e8 : 8 - i.val = (rv i).val + 1 := by show 8 - i.val = 7 - i.val + 1; omega
  rw [e8] at c0
  rw [Wt, WT_at, c0, Zt_is hL, nb_at, Finset.sum_congr rfl fun k _ => by rw [Mt_is hL, later_at, ← EReal.coe_mul], Cert.Real.sum_coe,
    Finset.sum_congr (s₁ := Finset.univ) (g := fun _ => ((0 : ℝ) : EReal)) rfl fun k _ => by rw [Mt_is hL, ← EReal.coe_sub, sub_self, EReal.coe_zero, zero_mul], Cert.Real.sum_coe,
    ← EReal.coe_add, ← EReal.coe_add, ← EReal.coe_add, ← EReal.coe_add]
  have eq : -lp (f.z h (256 * (rv i).val + t.val) (256 * (rv i).val + s.val)) * (Real.log 2)⁻¹ + f.z h (256 * (rv i).val + t.val) (256 * (rv i).val + s.val) * (Real.log 2)⁻¹
      + (∑ k : Fin 256, f.l h (256 * (rv i).val + t.val) (256 * (rv i).val + k.val) * (Real.log 2)⁻¹ * (if s.val < k.val then 1 else 0) + ∑ k : Fin 256, (0 : ℝ))
      + (∑ s ∈ Finset.Ico (256 * ((rv i).val + 1)) 2048, f.l h (256 * (rv i).val + t.val) s) * (Real.log 2)⁻¹
      = (f.z h (256 * (rv i).val + t.val) (256 * (rv i).val + s.val) - lp (f.z h (256 * (rv i).val + t.val) (256 * (rv i).val + s.val)) + ∑ r ∈ Finset.Ico (256 * (rv i).val + s.val + 1) 2048, f.l h (256 * (rv i).val + t.val) r) * (Real.log 2)⁻¹ := by
    rw [ico_later (rv i).val (rv i).isLt s, Finset.sum_congr rfl fun k _ => mul_right_comm _ _ _, ← Finset.sum_mul]
    simp only [Finset.sum_const_zero]
    ring
  rw [eq, exp2_at, ite_coe]
  unfold Lns.W
  by_cases c : s.val < t.val
  · rw [if_pos c, if_pos (by omega)]
  · rw [if_neg c, if_neg (by omega)]

theorem Gt_is (h : Fin 2) (i : Fin 8) (u : Fin 1) (t : Fin (nn (rv i))) (s : Fin 256) : Gt L h i (ix3 u t s) = ((f.G h (256 * (rv i).val + t.val) (256 * (rv i).val + s.val) : ℝ) : EReal) := by
  have e1 := tl_is (rv i) _ _ (mine_is h L.d f.d hL.d)
  have e2 := vp_is hL (rv i)
  rw [Gt, GT_at, Wt_is hL, Finset.sum_congr rfl fun d _ => by rw [e1 t d, e2 s d, ← EReal.coe_mul], Cert.Real.sum_coe, ← EReal.coe_mul]
  rfl

theorem Bt_is (h : Fin 2) (i : Fin 8) (u : Fin 1) (t : Fin (nn (rv i))) (s : Fin 256) : Bt L h i (ix3 u t s) = ((f.B h (256 * (rv i).val + t.val) (256 * (rv i).val + s.val) : ℝ) : EReal) := by
  rw [Bt, BT_at, Zt_is hL, nb_at, ← EReal.coe_add, ← add_mul, exp2_at]
  unfold Lns.B
  congr 2
  ring

/-! ## The kept tiles, read back -/

omit hL in
theorem rg_disj (j n : Fin 8) (h : j ≠ n) : LoadRect.disj (rg n) (rg j).toLoadRect = true := by
  refine decide_eq_true ⟨0, Or.inr (Or.inr ?_)⟩
  have : j.val ≠ n.val := fun e => h (Fin.ext e)
  show n.val + 1 * (1 - 1) < j.val ∨ j.val + 1 * (1 - 1) < n.val
  omega

omit hL in
theorem rv_rv (i : Fin 8) : rv (rv i) = i := Fin.ext (by show 7 - (7 - i.val) = i.val; omega)

omit hL in
/-- A chunk's tile, once it is kept. -/
theorem put_is (v : View sig .tc .vmem S8x2048x256 .bf16) (x : (i : Fin 8) → FVec Ideal (Slab (nn (rv i)) 256) .bf16) (P : List (View.Piece (Elt Ideal) S8x2048x256 .bf16)) (i : Fin 8) : ∀ (n : ℕ) (e : n ≤ 8), i.val < n →
    v.readCov (put x P n e) (rg (rv i)).toLoadRect = x i
  | 0, _, h => absurd h (Nat.not_lt_zero _)
  | n + 1, e, h => by
    unfold put
    by_cases hi : i.val = n
    · obtain rfl : i = ⟨n, e⟩ := Fin.ext hi
      exact View.readCov_cons_toLoadRect v (rg (rv ⟨n, e⟩)) _ _
    · rw [View.readCov_skip v _ _ _ _ (rg_disj (rv i) (rv ⟨n, e⟩) (fun q => hi (by have := congrArg rv q; rw [rv_rv, rv_rv] at this; exact congrArg Fin.val this)))]
      exact put_is v x P i n (Nat.le_of_succ_le e) (by omega)

theorem gk_rv (h : Fin 2) (i : Fin 8) : gk L h (rv i) = Gt L h i := by
  unfold gk
  match h with
  | ⟨0, _⟩ => exact put_is viewG _ _ i 8 (Nat.le_refl 8) i.isLt
  | ⟨1, _⟩ => exact put_is viewG _ _ i 8 (Nat.le_refl 8) i.isLt
theorem bq_rv (h : Fin 2) (i : Fin 8) : bq L h (rv i) = Bt L h i := by
  unfold bq
  match h with
  | ⟨0, _⟩ => exact put_is viewB _ _ i 8 (Nat.le_refl 8) i.isLt
  | ⟨1, _⟩ => exact put_is viewB _ _ i 8 (Nat.le_refl 8) i.isLt

theorem gk_is (h : Fin 2) (kc : Fin 8) (u : Fin 1) (t : Fin (nn kc)) (s : Fin 256) : gk L h kc (ix3 u t s) = ((f.G h (256 * kc.val + t.val) (256 * kc.val + s.val) : ℝ) : EReal) := by
  obtain ⟨i, rfl⟩ : ∃ i, kc = rv i := ⟨rv kc, (rv_rv kc).symm⟩
  rw [gk_rv hL, Gt_is hL]
theorem bq_is (h : Fin 2) (kc : Fin 8) (u : Fin 1) (t : Fin (nn kc)) (s : Fin 256) : bq L h kc (ix3 u t s) = ((f.B h (256 * kc.val + t.val) (256 * kc.val + s.val) : ℝ) : EReal) := by
  obtain ⟨i, rfl⟩ : ∃ i, kc = rv i := ⟨rv kc, (rv_rv kc).symm⟩
  rw [bq_rv hL, Bt_is hL]

/-! ## From the first chunk to the last -/

theorem past_is (h : Fin 2) : ∀ (n : ℕ) (e : n ≤ 8), Is 0 (past L h n e) (fun t _ => ∑ s ∈ Finset.range (256 * n), f.G h t s)
  | 0, _ => none1_is _ (fun t d => by simp)
  | n + 1, e => by
    have ih := past_is h n (Nat.le_of_succ_le e)
    refine bk_is ⟨n, e⟩ _ _ _ (fun t d ht => ?_) (fun t d => ?_)
    · rw [ih t d, zero_add, Cert.Fox.sum_step, Finset.sum_eq_zero (s := Finset.univ) (fun s _ => f.G_late h _ _ (Nat.le_trans (Nat.le_of_lt ht) (Nat.le_add_right _ _))), add_zero]
    · obtain rfl : d = 0 := Subsingleton.elim _ _
      rw [CT_at, tl_is ⟨n, e⟩ _ _ ih t 0, Finset.sum_congr rfl fun s _ => by rw [show wide (nn ⟨n, e⟩) (gk L h ⟨n, e⟩) (ix2 t s) = flat (nn ⟨n, e⟩) (gk L h ⟨n, e⟩) (ix2 t s) from rfl, flat_at, gk_is hL], Cert.Real.sum_coe, ← EReal.coe_add, Cert.Fox.sum_step]

theorem Dz_is (h : Fin 2) (kc : Fin 8) (t : Fin (nn kc)) (s : Fin 256) : Dz L h kc (ix2 t s) = ((f.D h (256 * kc.val + t.val) (256 * kc.val + s.val) : ℝ) : EReal) := by
  have c0 := tl_is kc _ _ (past_is hL h kc.val (Nat.le_of_lt kc.isLt)) t 0
  rw [Dz, DZ_at, c0, gk_is hL, bq_is hL, Finset.sum_congr rfl fun k _ => by rw [gk_is hL, earlier_at, ← EReal.coe_mul], Cert.Real.sum_coe, ← EReal.coe_add, ← EReal.coe_one, ← EReal.coe_sub, ← EReal.coe_mul, ← EReal.coe_mul, ← EReal.coe_sub, ite_coe]
  unfold Lns.D
  rw [range_earlier kc.val s]
  by_cases c : s.val < t.val
  · rw [if_pos c, if_pos (by omega)]
  · rw [if_neg c, if_neg (by omega)]

theorem sumQ_is (h : Fin 2) : ∀ (n : ℕ) (e : n ≤ 8), Is 0 (sumQ L h n e) (fun t d => ∑ s ∈ Finset.range (256 * n), f.D h t s * f.k s d)
  | 0, _ => none128_is _ (fun t d => by simp)
  | n + 1, e => by
    have ih := sumQ_is h n (Nat.le_of_succ_le e)
    refine bk_is ⟨n, e⟩ _ _ _ (fun t d ht => ?_) (fun t d => ?_)
    · rw [ih t d, zero_add, Cert.Fox.sum_step, Finset.sum_eq_zero (s := Finset.univ) (fun s _ => by rw [f.D_late h _ _ (Nat.lt_of_lt_of_le ht (Nat.le_add_right _ _)), zero_mul]), add_zero]
    · rw [QT_at, tl_is ⟨n, e⟩ _ _ ih t d, Finset.sum_congr rfl fun s _ => by rw [Dz_is hL, kp_is hL ⟨n, e⟩ s d, ← EReal.coe_mul], Cert.Real.sum_coe, ← EReal.coe_add, Cert.Fox.sum_step]

/-! ## The blocks of the chunks -/

omit hL in
/-- A chunk's block after some of a head's chunks: the head's sum is added once its chunk is past. -/
theorem once_is (v : View sig .tc .vmem S8x128x256 .f32) (σ : Fin 8 → Fin 8) (hσ : ∀ i, σ (σ i) = i) (a : FVec Ideal S128x2048 .bf16) (w : (i : Fin 8) → FVec Ideal (Sh (nn (σ i)) 256) .f32) (P : List (View.Piece (Elt Ideal) S8x128x256 .f32))
    (ga gw : ℕ → ℕ → ℝ) (ha : ∀ (d : Fin 128) (t : Fin 2048), a (ix2 d t) = ((ga t d : ℝ) : EReal))
    (hw : ∀ (i : Fin 8) (t : Fin (nn (σ i))) (s : Fin 256), w i (ix2 t s) = ((gw (256 * (σ i).val + t.val) (256 * (σ i).val + s.val) : ℝ) : EReal))
    (late : ∀ t s, t < s → gw t s = 0) (j : Fin 8) (d : Fin 128) (s : Fin 256) (X : ℝ) (hP : v.readCov P (rk j.val j.isLt).toLoadRect (ix3 0 d s) = ((X : ℝ) : EReal)) : ∀ (n : ℕ) (e : n ≤ 8),
    v.readCov (once v σ a w P n e) (rk j.val j.isLt).toLoadRect (ix3 0 d s) = ((if (σ j).val < n then X + ∑ t ∈ Finset.range 2048, ga t d * gw t (256 * j.val + s.val) else X : ℝ) : EReal)
  | 0, _ => by
    rw [if_neg (Nat.not_lt_zero _)]
    exact hP
  | n + 1, e => by
    have ih := once_is v σ hσ a w P ga gw ha hw late j d s X hP n (Nat.le_of_succ_le e)
    unfold once
    by_cases hj : (σ j).val = n
    · have hi : σ ⟨n, e⟩ = j := by rw [← hσ j]; exact congrArg σ (Fin.ext hj.symm)
      subst hi
      rw [if_neg (by omega)] at ih
      rw [View.readCov_cons_toLoadRect, if_pos (by omega)]
      exact KT_is (σ ⟨n, e⟩).val (σ ⟨n, e⟩).isLt _ _ _ ga gw _ ha (hw ⟨n, e⟩) late 0 d s ih
    · have hne : j.val ≠ (σ ⟨n, e⟩).val := fun q => hj (by rw [show j = σ ⟨n, e⟩ from Fin.ext q, hσ])
      rw [View.readCov_skip v _ _ _ _ (rk_disj j.val (σ ⟨n, e⟩).val j.isLt _ hne), ih]
      have : (σ j).val < n ↔ (σ j).val < n + 1 := by omega
      simp only [this]

omit hL in
theorem blank_is (v : View sig .tc .vmem S8x128x256 .f32) (B : LoadRect S8x128x256) (i : B.shape.Idx) : v.readCov blank B i = ((0 : ℝ) : EReal) :=
  ((congrFun (View.readCov_eq_canon' v _ B) i).trans ((congrFun (View.canon_cons_unit_lit (Val := Elt Ideal) (e := .f32) inb_S8x128x256_S8x128x256_0_0_0 (k0_pay561 (F := Ideal)) [] (by decide)) _).trans Ideal.ofBits_zero_f32)).trans EReal.coe_zero.symm

theorem allK_is (j : Fin 8) (d : Fin 128) (s : Fin 256) : viewK.readCov (allK L) (rk j.val j.isLt).toLoadRect (ix3 0 d s)
    = ((0 + ∑ t ∈ Finset.range 2048, Cert.Fox.Fns.on 0 f.q t d * f.D 0 t (256 * j.val + s.val) + ∑ t ∈ Finset.range 2048, Cert.Fox.Fns.on 1 f.q t d * f.D 1 t (256 * j.val + s.val) : ℝ) : EReal) := by
  have b0 := once_is viewK id (fun _ => rfl) (tp (mine 0 L.q)) (Dz L 0) blank _ _ (tp_is _ _ (mine_is 0 L.q f.q hL.q)) (Dz_is hL 0) (f.D_late 0) j d s 0 (blank_is _ _ _) 8 (Nat.le_refl 8)
  rw [if_pos (show (id j).val < 8 from j.isLt)] at b0
  have b1 := once_is viewK id (fun _ => rfl) (tp (mine 1 L.q)) (Dz L 1) _ _ _ (tp_is _ _ (mine_is 1 L.q f.q hL.q)) (Dz_is hL 1) (f.D_late 1) j d s _ b0 8 (Nat.le_refl 8)
  rw [if_pos (show (id j).val < 8 from j.isLt)] at b1
  exact b1

theorem allV_is (j : Fin 8) (d : Fin 128) (s : Fin 256) : viewV.readCov (allV L) (rk j.val j.isLt).toLoadRect (ix3 0 d s)
    = ((0 + ∑ t ∈ Finset.range 2048, Cert.Fox.Fns.on 0 f.d t d * f.W 0 t (256 * j.val + s.val) + ∑ t ∈ Finset.range 2048, Cert.Fox.Fns.on 1 f.d t d * f.W 1 t (256 * j.val + s.val) : ℝ) : EReal) := by
  have b0 := once_is viewV rv rv_rv (tp (mine 0 L.d)) (Wt L 0) blank _ _ (tp_is _ _ (mine_is 0 L.d f.d hL.d)) (Wt_is hL 0) (f.W_late 0) j d s 0 (blank_is _ _ _) 8 (Nat.le_refl 8)
  rw [if_pos (rv j).isLt] at b0
  have b1 := once_is viewV rv rv_rv (tp (mine 1 L.d)) (Wt L 1) _ _ _ (tp_is _ _ (mine_is 1 L.d f.d hL.d)) (Wt_is hL 1) (f.W_late 1) j d s _ b0 8 (Nat.le_refl 8)
  rw [if_pos (rv j).isLt] at b1
  exact b1

end Cert.Stick
-- ==== Proof.SbHost.lean ====
/- The stick-breaking attention's gradient as the host writes it, entry by entry and in real numbers. -/
module

public import proofs.«01_k».proof.Proof.FoxHost
public import proofs.«01_k».proof.Proof.ForgetGate
public import proofs.«01_k».proof.Proof.SbReal
public import proofs.«01_k».proof.Proof.Gen.Reference8Ideal.Run

@[expose] public section

set_option maxRecDepth 16384

noncomputable section

namespace Cert.Reference8Ideal.Value

open Idealize.ShloMosaic
open Cert.Reference8Ideal Cert.Reference8Ideal.Gen
open Cert.Reference7Ideal.Value (ln Rows Heads Pairs HD MG DOT BK DQ DK HD_at MG_at DOT_at BK_at DQ_at DK_at eighth)
open Cert.ReferenceIdeal.Value (sp sd top_word foldl_sum slide)
open Cert.Stick (lp lp_neg lp_split)

/-- Where the key is earlier than the query. -/
def EK : IVec S1x8x2048x2048 1 := broadcastInDim S1x8x2048x2048 ![2, 3] bcast_S2048x2048_S1x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
def ZB : Pairs := BK 0x00000000#32
def IB : Pairs := BK 0x7F800000#32
def SPP (n : Pairs) : Pairs := select (cmpf .une (subf n ZB) (subf n ZB)) (addf n ZB) (addf (maximumf n ZB) (Host.log1p (Host.exp (Host.negf (Host.absf (subf n ZB))))))
def SDP (n s : Pairs) : Pairs := Host.exp (subf (select (cmpf .oeq n IB) ZB n) (select (cmpf .oeq s IB) ZB s))
def NIL : FVec Ideal S_ .f32 := broadcastInDim S_ ![] bcast_S_S_ (constant S_ .f32 0x00000000#32)
/-- The running sums over the keys, from the last one and from the first. -/
def RS (x : Pairs) : Pairs := Host.reduceWindowAdd ![1, 1, 1, 2048] ![1, 1, 1, 1] ![0, 0, 0, 0] ![0, 0, 0, 2047] x NIL reduceWindows_S1x8x2048x2048_S1x8x2048x2048_w1s1p0_0_w1s1p0_0_w1s1p0_0_w2048s1p0_2047 h_S_
def FS (x : Pairs) : Pairs := Host.reduceWindowAdd ![1, 1, 1, 2048] ![1, 1, 1, 1] ![0, 0, 0, 2047] ![0, 0, 0, 0] x NIL reduceWindows_S1x8x2048x2048_S1x8x2048x2048_w1s1p0_0_w1s1p0_0_w1s1p0_0_w2048s1p2047_0 h_S_
def ZL (q k : Rows) : Pairs := mulf (DOT (HD q) (HD k)) (BK 0x3E000000#32)
/-- The logarithm of what a key leaves, the whole weight, and the weight of an earlier key. -/
def LB (z : Pairs) : Pairs := select EK (Host.negf (SPP (Host.negf (Host.negf z)))) ZB
def EW (z : Pairs) : Pairs := Host.exp (addf (Host.negf (SPP (Host.negf z))) (subf (RS (LB z)) (LB z)))
def WT (z : Pairs) : Pairs := select EK (EW z) ZB
def GW (z y : Pairs) : Pairs := mulf (select EK y ZB) (EW z)
/-- The gradient at the logits. -/
def DZ (z g : Pairs) : Pairs := addf (Host.negf (mulf (Host.negf g) (SDP (Host.negf z) (SPP (Host.negf z)))))
  (Host.negf (Host.negf (mulf (Host.negf (select EK (addf (Host.negf g) (FS g)) ZB)) (SDP (Host.negf (Host.negf z)) (SPP (Host.negf (Host.negf z)))))))
def DV8 (w : Pairs) (d : Rows) : Rows := MG (transpose S1x8x2048x64 [0, 1, 3, 2] (Host.dotGeneral Cert.Reference7Ideal.dot_S1x8x2048x64_S1x8x2048x2048_S1x8x64x2048_2_2_3_3_01_01 none (HD d) w) transposes_S1x8x64x2048_S1x8x2048x64_0_1_3_2)

theorem EK_at (h : Fin 8) (t s : Fin 2048) : EK (ix4 0 h t s) = BitVec.ofBool (decide (s.val < t.val)) := by
  pointwise [EK]
  word_cmp
theorem ZB_at (i) : ZB i = 0 := by
  show Ideal.ofBits .f32 0x00000000#32 = 0
  exact Ideal.ofBits_zero_f32
theorem IB_at (i) : IB i = ⊤ := top_word

theorem EK_sel (x y : Pairs) (h : Fin 8) (t s : Fin 2048) : select EK x y (ix4 0 h t s) = if s.val < t.val then x (ix4 0 h t s) else y (ix4 0 h t s) := by
  show Scalar.select (EK (ix4 0 h t s)) _ _ = _
  rw [EK_at]
  by_cases e : s.val < t.val <;> simp [e, Scalar.select]

theorem SPP_at (n : Pairs) (i) : SPP n i = sp (n i) := by
  unfold SPP
  pointwise
  rw [ZB_at, if_neg (fun h => h rfl), sub_zero]
  rfl

theorem SDP_at (n : Pairs) (i) : SDP n (SPP n) i = sd (n i) := by
  unfold SDP
  pointwise
  rw [SPP_at, ZB_at, IB_at]
  rfl

theorem sp_is (x : ℝ) : sp (x : EReal) = ((lp x : ℝ) : EReal) := by
  have cmax (a b : ℝ) : max (a : EReal) (b : EReal) = ((max a b : ℝ) : EReal) := (EReal.coe_strictMono.monotone.map_max (a := a) (b := b)).symm
  have hl (y : ℝ) (hy : 0 < y) : Ideal.log (y : EReal) = ((Real.log y : ℝ) : EReal) := by rw [Ideal.log_coe, if_neg (not_le.mpr hy)]
  rw [sp, Ideal.log1p, ← EReal.coe_neg, ← EReal.coe_zero, cmax, cmax, ← EReal.coe_neg, Ideal.exp_coe, ← EReal.coe_one, ← EReal.coe_add, hl _ (by positivity), ← EReal.coe_add, lp_split, ← min_neg_neg, neg_neg, min_comm]

theorem sd_is (x : ℝ) : sd (x : EReal) = ((Real.exp (x - lp x) : ℝ) : EReal) := by
  rw [sd, sp_is, if_neg (EReal.coe_ne_top _), if_neg (EReal.coe_ne_top _), ← EReal.coe_sub, Ideal.exp_coe]

/-! ## The running sums -/

/-- A running sum over the last axis, as one window that reaches past an end. -/
theorem runs_at {N H T : ℕ} (L K : ℕ) (y : FVec Ideal ⟨4, ![1, H, T, N]⟩ .f32) (init : FVec Ideal S_ .f32) (hi : init ix0 = 0)
    (hr : (⟨4, ![1, H, T, N]⟩ : Shape).ReduceWindows (![1, 1, 1, N] : Fin 4 → ℕ) ![1, 1, 1, 1] ![0, 0, 0, L] ![0, 0, 0, K] ⟨4, ![1, H, T, N]⟩) (hu : 0 < S_.numel) (h : Fin H) (t : Fin T) (s : Fin N) :
    Host.reduceWindowAdd (![1, 1, 1, N] : Fin 4 → ℕ) ![1, 1, 1, 1] ![0, 0, 0, L] ![0, 0, 0, K] y init hr hu (ix4 0 h t s) = ∑ r : Fin N, if s.val ≤ r.val + L ∧ r.val + L < s.val + N then y (ix4 0 h t r) else 0 := by
  have hv : init (Shape.Idx.first hu) = (0 : EReal) := (congrArg init (funext fun a => a.elim0)).trans hi
  have hh := h.isLt
  have ht := t.isLt
  rw [Host.reduceWindowAdd, Ideal.hostReduceWindowAdd_def, hv]
  unfold Ideal.hostReduceWindowAdd Host.reduceWindow
  refine (foldl_sum _ _ _).trans ?_
  rw [zero_add, ← List.ofFn_eq_map, List.sum_ofFn]
  refine (Fintype.sum_equiv (⟨4, ![1, 1, 1, N]⟩ : Shape).rowMajor.symm _ (fun w => if hin : ∀ a : Fin 4, (![0, 0, 0, L] : Fin 4 → ℕ) a ≤ ((ix4 0 h t s : (⟨4, ![1, H, T, N]⟩ : Shape).Idx) a).val * (![1, 1, 1, 1] : Fin 4 → ℕ) a + (w a).val ∧ ((ix4 0 h t s : (⟨4, ![1, H, T, N]⟩ : Shape).Idx) a).val * (![1, 1, 1, 1] : Fin 4 → ℕ) a + (w a).val - (![0, 0, 0, L] : Fin 4 → ℕ) a < (⟨4, ![1, H, T, N]⟩ : Shape).size a then y (fun a => ⟨((ix4 0 h t s : (⟨4, ![1, H, T, N]⟩ : Shape).Idx) a).val * (![1, 1, 1, 1] : Fin 4 → ℕ) a + (w a).val - (![0, 0, 0, L] : Fin 4 → ℕ) a, (hin a).2⟩) else (0 : EReal)) fun n => by
    split
    · next hin => refine ((dif_pos ?_).trans ?_).symm <;> first | exact hin | rfl
    · next hin => refine ((dif_neg ?_).trans ?_).symm <;> first | exact hin | rfl).trans ?_
  rw [sum_idx4]
  simp only [Fin.sum_univ_one]
  refine Eq.trans (Finset.sum_congr rfl fun w _ => ?_) (slide L (fun r => y (ix4 0 h t r)) s)
  by_cases hw : L ≤ s.val + w.val ∧ s.val + w.val - L < N
  · rw [dif_pos hw, dif_pos]
    · refine congrArg y (funext fun a => Fin.ext ?_)
      match a with
      | ⟨0, _⟩ => rfl
      | ⟨1, _⟩ => show h.val * 1 + 0 - 0 = h.val; omega
      | ⟨2, _⟩ => show t.val * 1 + 0 - 0 = t.val; omega
      | ⟨3, _⟩ => show s.val * 1 + w.val - L = s.val + w.val - L; omega
    · intro a
      match a with
      | ⟨0, _⟩ => show 0 ≤ 0 * 1 + 0 ∧ 0 * 1 + 0 - 0 < 1; omega
      | ⟨1, _⟩ => show 0 ≤ h.val * 1 + 0 ∧ h.val * 1 + 0 - 0 < H; omega
      | ⟨2, _⟩ => show 0 ≤ t.val * 1 + 0 ∧ t.val * 1 + 0 - 0 < T; omega
      | ⟨3, _⟩ => show L ≤ s.val * 1 + w.val ∧ s.val * 1 + w.val - L < N; omega
  · rw [dif_neg hw, dif_neg]
    intro hin
    have h1 := hin 3
    change L ≤ s.val * 1 + w.val ∧ s.val * 1 + w.val - L < N at h1
    omega

theorem NIL_at : NIL ix0 = 0 := by
  pointwise [NIL]

theorem RS_at (x : Pairs) (h : Fin 8) (t s : Fin 2048) : RS x (ix4 0 h t s) = ∑ r : Fin 2048, if s.val ≤ r.val then x (ix4 0 h t r) else 0 := by
  refine (runs_at 0 2047 x NIL NIL_at _ _ h t s).trans (Finset.sum_congr rfl fun r _ => ?_)
  have := r.isLt
  exact if_congr (by omega) rfl rfl
theorem FS_at (x : Pairs) (h : Fin 8) (t s : Fin 2048) : FS x (ix4 0 h t s) = ∑ r : Fin 2048, if r.val ≤ s.val then x (ix4 0 h t r) else 0 := by
  refine (runs_at 2047 0 x NIL NIL_at _ _ h t s).trans (Finset.sum_congr rfl fun r _ => ?_)
  have := s.isLt
  exact if_congr (by omega) rfl rfl

theorem DV8_at (w : Pairs) (d : Rows) (h : Fin 8) (s : Fin 2048) (j : Fin 64) : DV8 w d (ix3 0 s (ln h j)) = ∑ t : Fin 2048, d (ix3 0 t (ln h j)) * w (ix4 0 h t s) := by
  unfold DV8
  rw [MG_at]
  pointwise
  exact Finset.sum_congr rfl fun t _ => congrArg (· * w (ix4 0 h t s)) (HD_at d h t j)

/-! ## In real numbers -/

/-- The arguments as real numbers. -/
structure Vals where
  q : Fin 2048 → Fin 512 → ℝ
  k : Fin 2048 → Fin 512 → ℝ
  v : Fin 2048 → Fin 512 → ℝ
  d : Fin 2048 → Fin 512 → ℝ

namespace Vals
variable (g : Vals)
def X (h : Fin 8) (t s : Fin 2048) : ℝ := (∑ j : Fin 64, g.q t (ln h j) * g.k s (ln h j)) * (1 / 8)
def L (h : Fin 8) (t s : Fin 2048) : ℝ := if s.val < t.val then -lp (g.X h t s) else 0
def E (h : Fin 8) (t s : Fin 2048) : ℝ := Real.exp (-lp (-g.X h t s) + ((∑ r : Fin 2048, if s.val ≤ r.val then g.L h t r else 0) - g.L h t s))
def W (h : Fin 8) (t s : Fin 2048) : ℝ := if s.val < t.val then g.E h t s else 0
def Y (h : Fin 8) (t s : Fin 2048) : ℝ := ∑ j : Fin 64, g.d t (ln h j) * g.v s (ln h j)
def G (h : Fin 8) (t s : Fin 2048) : ℝ := (if s.val < t.val then g.Y h t s else 0) * g.E h t s
def S (h : Fin 8) (t s : Fin 2048) : ℝ := -(-g.G h t s * Real.exp (-g.X h t s - lp (-g.X h t s)))
  + -(-(-(if s.val < t.val then -g.G h t s + ∑ r : Fin 2048, (if r.val ≤ s.val then g.G h t r else 0) else 0) * Real.exp (g.X h t s - lp (g.X h t s))))
end Vals

/-- The arrays are these real numbers. -/
structure Are (q' k' v' d' : Rows) (g : Vals) : Prop where
  q : ∀ t j, q' (ix3 0 t j) = ((g.q t j : ℝ) : EReal)
  k : ∀ t j, k' (ix3 0 t j) = ((g.k t j : ℝ) : EReal)
  v : ∀ t j, v' (ix3 0 t j) = ((g.v t j : ℝ) : EReal)
  d : ∀ t j, d' (ix3 0 t j) = ((g.d t j : ℝ) : EReal)

section
variable {q k v d : Rows}

theorem exists_vals (hq : ∃ r : S1x2048x512.Idx → ℝ, ∀ i, q i = ((r i : ℝ) : EReal)) (hk : ∃ r : S1x2048x512.Idx → ℝ, ∀ i, k i = ((r i : ℝ) : EReal)) (hv : ∃ r : S1x2048x512.Idx → ℝ, ∀ i, v i = ((r i : ℝ) : EReal)) (hd : ∃ r : S1x2048x512.Idx → ℝ, ∀ i, d i = ((r i : ℝ) : EReal)) :
    ∃ g, Are q k v d g := by
  obtain ⟨q', hq⟩ := hq
  obtain ⟨k', hk⟩ := hk
  obtain ⟨v', hv⟩ := hv
  obtain ⟨d', hd⟩ := hd
  exact ⟨⟨fun t j => q' (ix3 0 t j), fun t j => k' (ix3 0 t j), fun t j => v' (ix3 0 t j), fun t j => d' (ix3 0 t j)⟩, fun t j => hq _, fun t j => hk _, fun t j => hv _, fun t j => hd _⟩

variable {g : Vals} (H : Are q k v d g)
include H

theorem ZL_is (h : Fin 8) (t s : Fin 2048) : ZL q k (ix4 0 h t s) = ((g.X h t s : ℝ) : EReal) := by
  show DOT (HD q) (HD k) (ix4 0 h t s) * BK 0x3E000000#32 (ix4 0 h t s) = _
  rw [DOT_at, BK_at, eighth]
  simp only [HD_at, H.q, H.k, ← EReal.coe_mul, Cert.Real.sum_coe]
  rfl

theorem LB_is (h : Fin 8) (t s : Fin 2048) : LB (ZL q k) (ix4 0 h t s) = ((g.L h t s : ℝ) : EReal) := by
  have e : Host.negf (SPP (Host.negf (Host.negf (ZL q k)))) (ix4 0 h t s) = ((-lp (g.X h t s) : ℝ) : EReal) := by
    show -SPP (Host.negf (Host.negf (ZL q k))) (ix4 0 h t s) = _
    rw [SPP_at, show Host.negf (Host.negf (ZL q k)) (ix4 0 h t s) = -(-ZL q k (ix4 0 h t s)) from rfl, neg_neg, ZL_is H, sp_is, ← EReal.coe_neg]
  rw [LB, EK_sel, e, ZB_at, Cert.Stick.ite_coe]
  rfl

theorem nz (h : Fin 8) (t s : Fin 2048) : Host.negf (ZL q k) (ix4 0 h t s) = ((-g.X h t s : ℝ) : EReal) := by
  rw [EReal.coe_neg, ← ZL_is H]
  rfl

theorem EW_is (h : Fin 8) (t s : Fin 2048) : EW (ZL q k) (ix4 0 h t s) = ((g.E h t s : ℝ) : EReal) := by
  show Ideal.exp (-SPP (Host.negf (ZL q k)) (ix4 0 h t s) + (RS (LB (ZL q k)) (ix4 0 h t s) - LB (ZL q k) (ix4 0 h t s))) = _
  rw [SPP_at, nz H, sp_is, RS_at, LB_is H, Finset.sum_congr rfl fun r _ => by rw [LB_is H, Cert.Stick.ite_coe], Cert.Real.sum_coe, ← EReal.coe_sub, ← EReal.coe_neg, ← EReal.coe_add, Ideal.exp_coe]
  rfl

theorem WT_is (h : Fin 8) (t s : Fin 2048) : WT (ZL q k) (ix4 0 h t s) = ((g.W h t s : ℝ) : EReal) := by
  rw [WT, EK_sel, EW_is H, ZB_at, Cert.Stick.ite_coe]
  rfl

theorem GW_is (h : Fin 8) (t s : Fin 2048) : GW (ZL q k) (DOT (HD d) (HD v)) (ix4 0 h t s) = ((g.G h t s : ℝ) : EReal) := by
  have e : DOT (HD d) (HD v) (ix4 0 h t s) = ((g.Y h t s : ℝ) : EReal) := by
    rw [DOT_at]
    simp only [HD_at, H.d, H.v, ← EReal.coe_mul, Cert.Real.sum_coe]
    rfl
  show select EK (DOT (HD d) (HD v)) ZB (ix4 0 h t s) * EW (ZL q k) (ix4 0 h t s) = _
  rw [EK_sel, e, EW_is H, ZB_at, Cert.Stick.ite_coe, ← EReal.coe_mul]
  rfl

theorem DZ_is (h : Fin 8) (t s : Fin 2048) : DZ (ZL q k) (GW (ZL q k) (DOT (HD d) (HD v))) (ix4 0 h t s) = ((g.S h t s : ℝ) : EReal) := by
  have e : select EK (addf (Host.negf (GW (ZL q k) (DOT (HD d) (HD v)))) (FS (GW (ZL q k) (DOT (HD d) (HD v))))) ZB (ix4 0 h t s) = ((if s.val < t.val then -g.G h t s + ∑ r : Fin 2048, (if r.val ≤ s.val then g.G h t r else 0) else 0 : ℝ) : EReal) := by
    rw [EK_sel, ZB_at, show addf (Host.negf (GW (ZL q k) (DOT (HD d) (HD v)))) (FS (GW (ZL q k) (DOT (HD d) (HD v)))) (ix4 0 h t s) = -GW (ZL q k) (DOT (HD d) (HD v)) (ix4 0 h t s) + FS (GW (ZL q k) (DOT (HD d) (HD v))) (ix4 0 h t s) from rfl,
      FS_at, GW_is H, Finset.sum_congr rfl fun r _ => by rw [GW_is H, Cert.Stick.ite_coe], Cert.Real.sum_coe, ← EReal.coe_neg, ← EReal.coe_add, Cert.Stick.ite_coe]
  have e2 : Host.negf (Host.negf (ZL q k)) (ix4 0 h t s) = ((g.X h t s : ℝ) : EReal) := by
    rw [← ZL_is H, ← neg_neg (ZL q k (ix4 0 h t s))]
    rfl
  show -(-GW (ZL q k) (DOT (HD d) (HD v)) (ix4 0 h t s) * SDP (Host.negf (ZL q k)) (SPP (Host.negf (ZL q k))) (ix4 0 h t s))
    + -(-(-select EK (addf (Host.negf (GW (ZL q k) (DOT (HD d) (HD v)))) (FS (GW (ZL q k) (DOT (HD d) (HD v))))) ZB (ix4 0 h t s) * SDP (Host.negf (Host.negf (ZL q k))) (SPP (Host.negf (Host.negf (ZL q k)))) (ix4 0 h t s))) = _
  rw [e, SDP_at, SDP_at, nz H, e2, sd_is, sd_is, GW_is H]
  simp only [← EReal.coe_neg, ← EReal.coe_mul, ← EReal.coe_add]
  rfl

theorem dq_is (h : Fin 8) (t : Fin 2048) (j : Fin 64) : DQ (DZ (ZL q k) (GW (ZL q k) (DOT (HD d) (HD v)))) k (ix3 0 t (ln h j)) = ((∑ s, g.S h t s * (1 / 8) * g.k s (ln h j) : ℝ) : EReal) := by
  rw [DQ_at]
  simp only [DZ_is H, H.k, eighth, ← EReal.coe_mul, Cert.Real.sum_coe]

theorem dk_is (h : Fin 8) (s : Fin 2048) (j : Fin 64) : DK (DZ (ZL q k) (GW (ZL q k) (DOT (HD d) (HD v)))) q (ix3 0 s (ln h j)) = ((∑ t, g.S h t s * (1 / 8) * g.q t (ln h j) : ℝ) : EReal) := by
  rw [DK_at]
  simp only [DZ_is H, H.q, eighth, ← EReal.coe_mul, Cert.Real.sum_coe]

theorem dv_is (h : Fin 8) (s : Fin 2048) (j : Fin 64) : DV8 (WT (ZL q k)) d (ix3 0 s (ln h j)) = ((∑ t, g.d t (ln h j) * g.W h t s : ℝ) : EReal) := by
  rw [DV8_at]
  simp only [WT_is H, H.d, ← EReal.coe_mul, Cert.Real.sum_coe]
end

/-! ## The reference's results -/

theorem run_dq (m : (ℓ : Loc nD τ sig) → Buf (Elt Ideal) ℓ) (c : Dev nD) : res_out0 m c = DQ (DZ (ZL (m ((c.tc : Thread nD τ).loc main_arg0)) (m ((c.tc : Thread nD τ).loc main_arg1))) (GW (ZL (m ((c.tc : Thread nD τ).loc main_arg0)) (m ((c.tc : Thread nD τ).loc main_arg1))) (DOT (HD (m ((c.tc : Thread nD τ).loc main_arg3))) (HD (m ((c.tc : Thread nD τ).loc main_arg2)))))) (m ((c.tc : Thread nD τ).loc main_arg1)) := by
  unfold res_out0 res_main_v52
  rfl
theorem run_dk (m : (ℓ : Loc nD τ sig) → Buf (Elt Ideal) ℓ) (c : Dev nD) : res_out1 m c = DK (DZ (ZL (m ((c.tc : Thread nD τ).loc main_arg0)) (m ((c.tc : Thread nD τ).loc main_arg1))) (GW (ZL (m ((c.tc : Thread nD τ).loc main_arg0)) (m ((c.tc : Thread nD τ).loc main_arg1))) (DOT (HD (m ((c.tc : Thread nD τ).loc main_arg3))) (HD (m ((c.tc : Thread nD τ).loc main_arg2)))))) (m ((c.tc : Thread nD τ).loc main_arg0)) := by
  unfold res_out1 res_main_v50
  rfl
theorem run_dv (m : (ℓ : Loc nD τ sig) → Buf (Elt Ideal) ℓ) (c : Dev nD) : res_out2 m c = DV8 (WT (ZL (m ((c.tc : Thread nD τ).loc main_arg0)) (m ((c.tc : Thread nD τ).loc main_arg1)))) (m ((c.tc : Thread nD τ).loc main_arg3)) := by
  unfold res_out2 res_main_v34
  rfl

end Cert.Reference8Ideal.Value
-- ==== Proof.Decay.lean ====
/- The cumulated logarithms of the forget gates: the kernel's walk over blocks of 128 rows, and the running sum of the reference. -/
module

public import proofs.«01_k».proof.Proof.ForgetGate
public import proofs.«01_k».proof.Proof.SbHost
public import proofs.«01_k».proof.Proof.Gen.Kernel14Ideal.Frame
public import proofs.«01_k».proof.Proof.Gen.Reference14Ideal.Run
public import proofs.«01_k».proof.Pre_finite14

@[expose] public section

set_option maxRecDepth 16384

noncomputable section

namespace Cert.Pre_finite14
instance facts : Facts where
  bcast_S_S1x2048x8 := by decide
  bcast_S_S1x8 := by decide
end Cert.Pre_finite14

namespace Cert.Reference14Ideal.Value

open Idealize.ShloMosaic
open Cert.Reference14Ideal Cert.Reference14Ideal.Gen
open Cert.Stick (lp)
open Cert.ReferenceIdeal.Value (SP SP_at NEGU NEGU_at sp window_at)

/-- The running sum of the gates' logarithms, a row per head. -/
def RC (f : FVec Ideal S1x2048x8 .f32) (b : FVec Ideal S1x8 .f32) : FVec Ideal S1x8x2048 .f32 :=
  transpose S1x8x2048 [0, 2, 1] (Host.reduceWindowAdd ![1, 2048, 1] ![1, 1, 1] ![0, 2047, 0] ![0, 0, 0] (Host.negf (SP (NEGU f b))) (broadcastInDim S_ ![] bcast_S_S_ (constant S_ .f32 0x00000000#32)) reduceWindows_S1x2048x8_S1x2048x8_w1s1p0_0_w2048s1p2047_0_w1s1p0_0 h_S_) transposes_S1x2048x8_S1x8x2048_0_2_1

/-- The reference's run, its result in the term above. -/
theorem run_rc (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = RC (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run m ρ) fun _ h c => ⟨(h c).1.trans rfl, (h c).2⟩

/-- A gate's logarithm, from its logit. -/
def lg (x : ℝ) : ℝ := -lp (-x)

theorem RC_at (f : FVec Ideal S1x2048x8 .f32) (b : FVec Ideal S1x8 .f32) (h : Fin 8) (u : ℕ → ℝ) (hu : ∀ s : Fin 2048, f (ix3 0 s h) + b (ix2 0 h) = (u s.val : EReal)) (t : Fin 2048) :
    RC f b (ix3 0 h t) = ((∑ s ∈ Finset.range (t.val + 1), lg (u s) : ℝ) : EReal) := by
  have e (s : Fin 2048) : Host.negf (SP (NEGU f b)) (ix3 0 s h) = ((lg (u s.val) : ℝ) : EReal) := by
    show -(SP (NEGU f b) (ix3 0 s h)) = _
    rw [SP_at, NEGU_at, hu, ← EReal.coe_neg, Cert.Reference8Ideal.Value.sp_is, ← EReal.coe_neg, lg]
  refine Eq.trans (b := Host.reduceWindowAdd ![1, 2048, 1] ![1, 1, 1] ![0, 2047, 0] ![0, 0, 0] (Host.negf (SP (NEGU f b))) (broadcastInDim S_ ![] bcast_S_S_ (constant S_ .f32 0x00000000#32)) reduceWindows_S1x2048x8_S1x2048x8_w1s1p0_0_w2048s1p2047_0_w1s1p0_0 h_S_ (ix3 0 t h)) (by pointwise [RC]) ?_
  refine (window_at 2047 0 _ _ (by pointwise) _ _ t h).trans ?_
  simp only [e, Cert.Stick.ite_coe, Cert.Real.sum_coe]
  refine congrArg _ ?_
  rw [← Finset.sum_range (fun s => if t.val ≤ s + 2047 ∧ s + 2047 < t.val + 2048 then lg (u s) else 0), ← Finset.sum_filter]
  refine Finset.sum_congr (Finset.ext fun s => ?_) fun s _ => rfl
  simp only [Finset.mem_filter, Finset.mem_range]
  omega

attribute [irreducible] RC

end Cert.Reference14Ideal.Value

namespace Cert.Kernel14Ideal.Value

open Idealize.ShloMosaic Idealize.ShloMosaic.TcCoe Idealize.SL.Sem
open Idealize.ShloMosaic.Pipeline (Dat)
open Cert.Kernel14Ideal Cert.Kernel14Ideal.Gen
open Cert.Reference14Ideal.Value (lg RC RC_at run_rc)
open Cert.KernelIdeal.Value (P1 P2 P1_ln P2_ln zero_word ln emb_row)
open Cert.Stick (lp lp_split)

/-! ## A block of 128 rows -/

/-- A gate's logarithm, as the kernel spells it. -/
def LG (u : EReal) : EReal := min u 0 - Ideal.log (1 + Ideal.exp (0 - max u (-u)))

theorem LG_is (x : ℝ) : LG (x : EReal) = ((lg x : ℝ) : EReal) := by
  have cmax (a b : ℝ) : max (a : EReal) (b : EReal) = ((max a b : ℝ) : EReal) := (EReal.coe_strictMono.monotone.map_max (a := a) (b := b)).symm
  have cmin (a b : ℝ) : min (a : EReal) (b : EReal) = ((min a b : ℝ) : EReal) := (EReal.coe_strictMono.monotone.map_min (a := a) (b := b)).symm
  have hl (y : ℝ) (hy : 0 < y) : Ideal.log (y : EReal) = ((Real.log y : ℝ) : EReal) := by rw [Ideal.log_coe, if_neg (not_le.mpr hy)]
  rw [LG, ← EReal.coe_neg, ← EReal.coe_zero, cmin, cmax, ← EReal.coe_sub, Ideal.exp_coe, ← EReal.coe_one, ← EReal.coe_add, hl _ (by positivity), ← EReal.coe_sub, lg, lp_split, neg_neg]
  have a : min (-x) x = 0 - max x (-x) := by rw [zero_sub, ← min_neg_neg, neg_neg]
  have b : max (-x) 0 = -min x 0 := by rw [← max_neg_neg, neg_zero]
  rw [a, b]
  congr 1
  ring

/-- Where a row is not after another. -/
def MK : FVec Ideal S128x128 .bf16 := truncf .bf16 (sitofp .f32 (extui 32 (cmpi .sle (iota .tc S128x128 32 [1] iota_S128x128_d1_w32) (iota .tc S128x128 32 [0] iota_S128x128_d0_w32)) natLt_1_32)) bitsLt_bf16_f32

theorem lower_mask : ∀ r s : Fin 128, BitVec.setWidth 32 (IntOp.cmpi CmpIPredicate.sle (BitVec.ofNat 32 s.val) (BitVec.ofNat 32 r.val)) = if s.val ≤ r.val then 1#32 else 0#32 := by
  decide +kernel

theorem MK_at (r s : Fin 128) : MK (ix2 r s) = ((if s.val ≤ r.val then 1 else 0 : ℝ) : EReal) := by
  pointwise [MK]
  rw [lower_mask]
  show (((if s.val ≤ r.val then 1#32 else 0#32).toInt : ℝ) : EReal) = _
  split <;> simp

/-- The logarithms of a block. -/
def LS (v : Vec Ideal S128x128 .f32) (w : Vec Ideal S1x128 .f32) : FVec Ideal S128x128 .f32 :=
  have u : FVec Ideal S128x128 .f32 := addf (shapeCast S128x128 v shapeCasts_S128x128_S128x128) (broadcastTo S128x128 (shapeCast S1x128 w shapeCasts_S1x128_S1x128) broadcasts_S1x128_S128x128)
  subf (minimumf u (broadcast S128x128 (Scalar.ofBits .f32 0x00000000#32)))
    (log (addf (broadcast S128x128 (Scalar.ofBits .f32 0x3F800000#32)) (exp (subf (broadcast S128x128 (Scalar.ofBits .f32 0x00000000#32)) (absf u)))))

theorem LS_at (v : Vec Ideal S128x128 .f32) (w : Vec Ideal S1x128 .f32) (r l : Fin 128) : LS v w (ix2 r l) = LG (v (ix2 r l) + w (ix2 0 l)) := by
  pointwise [LS]
  rfl

/-- The running sums of a block, in three parts that add up to it, on a row. -/
def RUN (x : FVec Ideal S128x128 .f32) (a : FVec Ideal S1x128 .f32) : FVec Ideal S128x128 .f32 :=
  have part (y : FVec Ideal S128x128 .f32) : FVec Ideal S128x128 .f32 := matmul dot_S128x128_S128x128_S128x128_1_0_0_1_n_n none MK (truncf .bf16 y bitsLt_bf16_f32) (constant S128x128 .f32 0x00000000#32)
  have rest (y : FVec Ideal S128x128 .f32) : FVec Ideal S128x128 .f32 := subf y (extf .f32 (truncf .bf16 y bitsLt_bf16_f32) bitsLt_bf16_f32)
  addf (addf (addf (part x) (part (rest x))) (part (rest (rest x)))) (broadcastTo S128x128 a broadcasts_S1x128_S128x128)

theorem RUN_at (x : FVec Ideal S128x128 .f32) (a : FVec Ideal S1x128 .f32) (d : Fin 128 → Fin 128 → ℝ) (hx : ∀ s l, x (ix2 s l) = (d s l : EReal)) (r l : Fin 128) :
    RUN x a (ix2 r l) = ((∑ s : Fin 128, if s.val ≤ r.val then d s l else 0 : ℝ) : EReal) + a (ix2 0 l) := by
  pointwise [RUN]
  simp only [MK_at, hx]
  refine congrArg (· + a (ix2 0 l)) ?_
  simp only [← EReal.coe_sub, ← EReal.coe_mul, Cert.Real.sum_coe, ← EReal.coe_add]
  simp

theorem pay2_is (a : FVec Ideal S1x128 .f32) (v : Vec Ideal S128x128 .f32) (w : Vec Ideal S1x128 .f32) : k0_pay2 a v w = RUN (LS v w) a := rfl

theorem pay3_at (a : FVec Ideal S1x128 .f32) (v : Vec Ideal S128x128 .f32) (w : Vec Ideal S1x128 .f32) (l : Fin 128) : k0_pay3 a v w (ix2 0 l) = k0_pay2 a v w (ix2 127 l) := by
  pointwise [k0_pay3]

theorem pay1_at (y) : k0_pay1 (F := Ideal) y = 0 := by
  pointwise [k0_pay1]

/-- A running sum up to a row of a block: the block's rows so far, and the blocks before. -/
theorem so_far (f : ℕ → ℝ) (n : ℕ) (r : Fin 128) : ∑ s ∈ Finset.range (n * 128 + r.val + 1), f s = (∑ s : Fin 128, if s.val ≤ r.val then f (n * 128 + s.val) else 0) + ∑ s ∈ Finset.range (n * 128), f s := by
  have hr := r.isLt
  rw [Nat.add_assoc, Finset.sum_range_add, add_comm]
  congr 1
  rw [← Finset.sum_range (fun s => if s ≤ r.val then f (n * 128 + s) else 0), ← Finset.sum_filter]
  refine Finset.sum_congr (Finset.ext fun s => ?_) fun s _ => rfl
  simp only [Finset.mem_filter, Finset.mem_range]
  omega

/-! ## The walk -/

section loop

variable (c : Dev nD) (arg0 : Memref sig .tc .vmem S2048x128 .f32) (harg0 : arg0.IsWhole) (arg1 : Memref sig .tc .vmem S1x128 .f32) (harg1 : arg1.IsWhole) (arg2 : Memref sig .tc .vmem S2048x128 .f32) (harg2 : arg2.IsWhole)
    (x0 : Vec Ideal S2048x128 .f32) (x1 : Vec Ideal S1x128 .f32)

theorem off_eq : ∀ k : Fin k0_t1_loop.trips, k0_off1 k = ![k.val * 128, 0] := by decide +kernel

/-- The row that trip `k` meets at its row `r`. -/
def rw_ (k : Fin k0_t1_loop.trips) (r : Fin 128) : Fin 2048 := ⟨k.val * 128 + r.val, by have hk : k.val < 16 := k.isLt; omega⟩

theorem emb_eq (k : Fin k0_t1_loop.trips) (r l : Fin 128) (inb) : (Rect.unit (s := S2048x128) (k0_off1 k) S128x128.size inb).emb (ix2 r l) = ix2 (rw_ k r) l := by
  funext a
  refine Fin.ext ?_
  match a with
  | ⟨0, _⟩ => exact (congrArg (· 0 + 1 * r.val) (off_eq k)).trans (congrArg (k.val * 128 + ·) (Nat.one_mul _))
  | ⟨1, _⟩ => exact (congrArg (· 1 + 1 * l.val) (off_eq k)).trans ((Nat.zero_add _).trans (Nat.one_mul _))

abbrev st (n : ℕ) := st_k0_t1 (F := Ideal) Variants.none c none arg0 harg0 arg1 harg1 arg2 harg2 (harg0.unread x0) (harg1.unread x1) k0_pay1 n

abbrev rows (k : Fin k0_t1_loop.trips) : Vec Ideal S128x128 .f32 := View.readAt (Elt Ideal) arg0.view (Rect.unit (s := S2048x128) (k0_off1 k) S128x128.size (k0_off1_inb k)).toLoadRect (harg0.unread x0)
abbrev bias : Vec Ideal S1x128 .f32 := View.readAt (Elt Ideal) arg1.view (Rect.unit (s := S1x128) ![0, 0] S1x128.size inb_S1x128_S1x128_0_0).toLoadRect (harg1.unread x1)

theorem rows_at (k : Fin k0_t1_loop.trips) (r l : Fin 128) : rows arg0 harg0 x0 k (ix2 r l) = x0 (ix2 (rw_ k r) l) :=
  (congrFun (harg0.read_unread x0) _).trans (congrArg x0 (emb_eq k r l _))

theorem bias_at (l : Fin 128) : bias arg1 harg1 x1 (ix2 0 l) = x1 (ix2 0 l) :=
  (congrFun (harg1.read_unread x1) _).trans (congrArg x1 (emb_row 0 l _))

theorem trip_is (k : Fin k0_t1_loop.trips) (a : FVec Ideal S1x128 .f32) :
    tripR_k0_t1 (F := Ideal) Variants.none c none arg0 harg0 arg1 harg1 arg2 harg2 (harg0.unread x0) (harg1.unread x1) k a = k0_pay3 a (rows arg0 harg0 x0 k) (bias arg1 harg1 x1)
    ∧ tripL_k0_t1 (F := Ideal) Variants.none c none arg0 harg0 arg1 harg1 arg2 harg2 (harg0.unread x0) (harg1.unread x1) k a
      = [⟨Rect.unit (s := S2048x128) (k0_off1 k) S128x128.size (k0_off1_inb k), k0_pay2 a (rows arg0 harg0 x0 k) (bias arg1 harg1 x1)⟩] := by
  unfold tripR_k0_t1 tripL_k0_t1 trip_k0_t1
  exact ⟨rfl, rfl⟩

/-- The sum of a lane's logarithms before row `n`. -/
def PRE (D : ℕ → Fin 128 → ℝ) (n : ℕ) (l : Fin 128) : ℝ := ∑ s ∈ Finset.range n, lg (D s l)

/-- A lane's sums up to each row, that row included. -/
def OUT (D : ℕ → Fin 128 → ℝ) : FVec Ideal S2048x128 .f32 := fun i => (PRE D ((i 0).val + 1) (i 1) : EReal)

variable (D : ℕ → Fin 128 → ℝ)

theorem state (hD : ∀ (t : Fin 2048) l, x0 (ix2 t l) + x1 (ix2 0 l) = (D t.val l : EReal)) : ∀ n ≤ 16,
    (∀ l, (st c arg0 harg0 arg1 harg1 arg2 harg2 x0 x1 n).1 (ix2 0 l) = (PRE D (n * 128) l : EReal))
    ∧ ∀ p ∈ (st c arg0 harg0 arg1 harg1 arg2 harg2 x0 x1 n).2, ∀ x, p.2 x = OUT D (p.1.emb x)
  | 0, _ => ⟨fun l => (pay1_at (ix2 0 l)).trans (by rw [PRE, Nat.zero_mul, Finset.range_zero, Finset.sum_empty, EReal.coe_zero]), fun p hp => absurd hp List.not_mem_nil⟩
  | n + 1, e => by
    obtain ⟨h1, h2⟩ := state hD n (Nat.le_of_succ_le e)
    have hn : n < k0_t1_loop.trips := e
    have hs := st_k0_t1_succ (F := Ideal) Variants.none c none arg0 harg0 arg1 harg1 arg2 harg2 (harg0.unread x0) (harg1.unread x1) k0_pay1 ⟨n, hn⟩
    rw [(trip_is c arg0 harg0 arg1 harg1 arg2 harg2 x0 x1 _ _).1, (trip_is c arg0 harg0 arg1 harg1 arg2 harg2 x0 x1 _ _).2] at hs
    set S := st c arg0 harg0 arg1 harg1 arg2 harg2 x0 x1 n with hS
    have h3 (r l : Fin 128) : k0_pay2 S.1 (rows arg0 harg0 x0 ⟨n, hn⟩) (bias arg1 harg1 x1) (ix2 r l) = (PRE D ((rw_ ⟨n, hn⟩ r).val + 1) l : EReal) := by
      rw [pay2_is, RUN_at _ _ (fun s l => lg (D (n * 128 + s.val) l)) (fun s l => by rw [LS_at, rows_at, bias_at, hD, LG_is]; rfl), h1, ← EReal.coe_add]
      exact congrArg _ (so_far (fun s => lg (D s l)) n r).symm
    rw [show st c arg0 harg0 arg1 harg1 arg2 harg2 x0 x1 (n + 1) = _ from hs]
    refine ⟨fun l => (pay3_at _ _ _ l).trans ((h3 127 l).trans (congrArg (fun j => (PRE D j l : EReal)) ?_)), fun p hp => ?_⟩
    · show n * 128 + 127 + 1 = (n + 1) * 128
      omega
    · rcases List.mem_append.mp hp with hp | hp
      · obtain rfl := List.mem_singleton.mp hp
        intro x
        idx_vars x
        rw [emb_eq]
        exact h3 _ _
      · exact h2 p hp

theorem filled (hD : ∀ (t : Fin 2048) l, x0 (ix2 t l) + x1 (ix2 0 l) = (D t.val l : EReal)) (y : S2048x128.Idx) :
    out0_A_2 c arg0 harg0 arg1 harg1 arg2 harg2 x0 x1 y = OUT D y := by
  unfold out0_A_2
  refine View.read_writes_apply_of_pieces _ _ (OUT D) _ ?_ y (cover0_A_2 c arg0 harg0 arg1 harg1 arg2 harg2 x0 x1 y)
  rw [show (kernelRun0_A c arg0 harg0 arg1 harg1 arg2 harg2 x0 x1).1 = (st c arg0 harg0 arg1 harg1 arg2 harg2 x0 x1 16).2 by unfold kernelRun0_A; rfl]
  exact (state c arg0 harg0 arg1 harg1 arg2 harg2 x0 x1 D hD 16 le_rfl).2

end loop

/-! ## The program -/

variable (m : (ℓ : Loc nD τ sig) → Buf (Elt Ideal) ℓ)

abbrev inF (c : Dev nD) : FVec Ideal S1x2048x8 .f32 := m ((c : Thread nD τ).loc main_arg0)
abbrev inB (c : Dev nD) : FVec Ideal S1x8 .f32 := m ((c : Thread nD τ).loc main_arg1)

/-- The heads' lanes, turned. -/
def TT (A : FVec Ideal S2048x128 .f32) : FVec Ideal S1x8x2048 .f32 := broadcastInDim S1x8x2048 ![1, 2] bcast_S8x2048_S1x8x2048_1_2 (transpose S8x2048 [1, 0] (extractStridedSlice S2048x8 ![0, 0] A slices_S2048x128_S2048x8_0_0) transposes_S2048x8_S8x2048_1_0)

theorem TT_at (A : FVec Ideal S2048x128 .f32) (h : Fin 8) (t : Fin 2048) : TT A (ix3 0 h t) = A (ix2 t (ln h)) := by
  pointwise [TT]
  rfl

theorem inj : Function.Injective (Pipeline.arrRef spec0) := by decide +kernel

theorem tail (c : Dev nD) : Pipeline.afterTail₀ cfgs (dats m) 0 (V0 m) [hostOps1] c main_v6 = TT ((dats m 0 c).arrAt 2 (cfgs 0).N) := by
  unfold Pipeline.afterTail₀
  simp only [hostOps1, List.flatten_cons, List.flatten_nil, List.append_nil, List.cons_append]
  after_results
  exact congrArg TT (Pipeline.withArrays_arr spec0 inj c (V0 m c) (fun w => (dats m 0 c).arrAt w (cfgs 0).N) 2)

theorem wide (c : Dev nD) (t : Fin 2048) (l : Fin 128) : V m c main_v1 (ix2 t l) = P1 (inF m c) t l ∧ V m c main_v2 (ix2 0 l) = P2 (inB m c) l := by
  simp only [V, V0, hostOps0, hostOps0_1, hostOps0_2, hostOps0_3, List.flatten_cons, List.flatten_nil, List.append_nil, List.cons_append, List.nil_append]
  constructor
  · after_results
    show pad S2048x128 ![0, 0] ![0, 120] ![0, 0] (shapeCast S2048x8 (inF m c) shapeCasts_S1x2048x8_S2048x8) (sitofp FTy.f32 (constantI S_ 32 0#32)) pads_S2048x8_S2048x128_000_01200 h_S_ (ix2 t l) = _
    pointwise
    rw [zero_word]
    rfl
  · after_results
    show pad S1x128 ![0, 0] ![0, 120] ![0, 0] (inB m c) (sitofp FTy.f32 (constantI S_ 32 0#32)) pads_S1x8_S1x128_000_01200 h_S_ (ix2 0 l) = _
    pointwise
    rw [zero_word]
    rfl

theorem idx : ∀ t : Fin cfg0.N, win0_0.index t = ![0, 0] ∧ win0_1.index t = ![0, 0] ∧ win0_2.index t = ![0, 0] := by
  decide +kernel

theorem given0 (c : Dev nD) (t : Fin cfg0.N) (r : Fin 2048) (l : Fin 128) : iblk m c 0 t (ix2 r l) = P1 (inF m c) r l := by
  rw [← (wide m c r l).1]
  exact congrArg (V m c main_v1) (by blk_ext [idx t])

theorem given1 (c : Dev nD) (t : Fin cfg0.N) (l : Fin 128) : iblk m c 1 t (ix2 0 l) = P2 (inB m c) l := by
  rw [← (wide m c 0 l).2]
  exact congrArg (V m c main_v2) (by blk_ext [idx t])

theorem whole (t : Fin cfg0.N) (r : Fin 2048) (l : Fin 128) : ((cfg0.win 2).blk t).view.emb (ix2 r l) = ix2 r l := by blk_ext [idx t]

theorem made (c : Dev nD) (D : ℕ → Fin 128 → ℝ) (hD : ∀ (t : Fin 2048) l, P1 (inF m c) t l + P2 (inB m c) l = (D t.val l : EReal)) : (dats m 0 c).arrAt 2 (cfgs 0).N = OUT D := by
  refine (dats m 0 c).arrAt_eq_of_covers 2 _ (by decide +kernel) fun t _ y => ?_
  blk_simp
  rw [after0_2]
  idx_vars y
  rw [whole]
  exact filled c _ _ _ _ _ _ _ _ D (fun r l => (congr (congrArg (fun a b : EReal => a + b) (given0 m c t r l)) (given1 m c t l)).trans (hD r l)) _

/-- Finite logits and bias are real numbers, in the lanes too that hold no head. -/
theorem exists_real {f : FVec Ideal S1x2048x8 .f32} {b : FVec Ideal S1x8 .f32} (hf : ∃ r : S1x2048x8.Idx → ℝ, ∀ i, f i = ((r i : ℝ) : EReal)) (hb : ∃ r : S1x8.Idx → ℝ, ∀ i, b i = ((r i : ℝ) : EReal)) :
    ∃ D : ℕ → Fin 128 → ℝ, ∀ (t : Fin 2048) l, P1 f t l + P2 b l = (D t.val l : EReal) := by
  obtain ⟨r, hr⟩ := hf
  obtain ⟨q, hq⟩ := hb
  refine ⟨fun s l => if h : s < 2048 ∧ l.val < 8 then r (ix3 0 ⟨s, h.1⟩ ⟨l.val, h.2⟩) + q (ix2 0 ⟨l.val, h.2⟩) else 0, fun t l => ?_⟩
  beta_reduce
  unfold P1 P2
  by_cases h : l.val < 8
  · rw [dif_pos h, dif_pos h, dif_pos (show t.val < 2048 ∧ l.val < 8 from ⟨t.isLt, h⟩), EReal.coe_add, hr, hq]
  · rw [dif_neg h, dif_neg h, dif_neg (fun e : t.val < 2048 ∧ l.val < 8 => h e.2), EReal.coe_zero, zero_add]

variable {m}

theorem result {c : Dev nD} (hf : ∃ r : S1x2048x8.Idx → ℝ, ∀ i, inF m c i = ((r i : ℝ) : EReal)) (hb : ∃ r : S1x8.Idx → ℝ, ∀ i, inB m c i = ((r i : ℝ) : EReal)) :
    RC (inF m c) (inB m c) = Pipeline.afterTail₀ cfgs (dats m) 0 (V0 m) [hostOps1] c main_v6 := by
  obtain ⟨D, hD⟩ := exists_real hf hb
  rw [tail, made m c D hD]
  funext i
  idx_vars i
  obtain rfl : i0 = 0 := Subsingleton.elim _ _
  refine (RC_at _ _ i1 (fun s => D s (ln i1)) (fun s => ?_) i2).trans (TT_at (OUT D) i1 i2).symm
  rw [← hD, P1_ln, P2_ln]

theorem algebraic : Cert.algebraic_Kernel14Ideal_Reference14Ideal_pre_finite14 := by
  pair_intro
  · run_from Cert.Kernel14Ideal.Gen.run_main m g & Cert.Kernel14Ideal.Gen.unchanged m g
  · run_from run_rc m' g'
    · exact result (Cert.Real.of_finite _ _ (hpre c).1) (Cert.Real.of_finite _ _ (hpre c).2)

end Cert.Kernel14Ideal.Value
-- ==== Proof.LossHead.lean ====
module

public import proofs.«01_k».proof.Defs
public import proofs.«01_k».proof.Proof.Gen.Kernel2Ideal.Frame
public import proofs.«01_k».proof.Proof.Gen.Reference2Ideal.Run
public import proofs.«01_k».proof.Proof.Real

@[expose] public section

set_option maxRecDepth 16384

noncomputable section

namespace Cert.Pre_finite2
instance facts : Facts where
  bcast_S_S1x2048x1024 := by decide
  bcast_S_S1024 := by decide
end Cert.Pre_finite2

namespace Cert.Reference2Ideal.Value

open Idealize.ShloMosaic
open Cert.Real (WIDTH EPS)
open Cert.Reference2Ideal Cert.Reference2Ideal.Gen

abbrev HALF : EReal := Ideal.ofBits FTy.f32 0x3F000000#32

/-- A row's mean square, moved off zero. -/
def AS (x : FVec Ideal S1x2048x1024 .f32) (t : Fin 2048) : EReal :=
  Ideal.div (∑ k : Fin 1024, x (ix3 0 t k) * x (ix3 0 t k)) WIDTH + EPS

/-- The error of a normalised and scaled row. -/
def ES (x : FVec Ideal S1x2048x1024 .f32) (g : FVec Ideal S1024 .f32) (l : FVec Ideal S1x2048x1024 .f32) (t : Fin 2048) (q : Fin 1024) : EReal :=
  x (ix3 0 t q) * Ideal.rsqrt (AS x t) * g (ix1 q) - l (ix3 0 t q)

def AA (x : FVec Ideal S1x2048x1024 .f32) : FVec Ideal S1x2048x1 .f32 :=
  addf (Host.divf (broadcastInDim S1x2048x1 ![0, 1] bcast_S1x2048_S1x2048x1_0_1 (Host.reduceAdd (mulf x x) (constant S_ .f32 0x00000000#32) reducesTo_S1x2048x1024_S1x2048_d2 h_S_)) (broadcastInDim S1x2048x1 ![] bcast_S_S1x2048x1 (constant S_ .f32 0x44800000#32))) (broadcastInDim S1x2048x1 ![] bcast_S_S1x2048x1 (constant S_ .f32 0x358637BD#32))

def RSB (x : FVec Ideal S1x2048x1024 .f32) : FVec Ideal S1x2048x1024 .f32 :=
  broadcastInDim S1x2048x1024 ![0, 1, 2] bcast_S1x2048x1_S1x2048x1024_0_1_2 (Host.rsqrt (AA x))

def GB (g : FVec Ideal S1024 .f32) : FVec Ideal S1x2048x1024 .f32 :=
  broadcastInDim S1x2048x1024 ![0, 1, 2] bcast_S1x1x1024_S1x2048x1024_0_1_2 (broadcastInDim S1x1x1024 ![2] bcast_S1024_S1x1x1024_2 g)

def ER (x : FVec Ideal S1x2048x1024 .f32) (g : FVec Ideal S1024 .f32) (l : FVec Ideal S1x2048x1024 .f32) : FVec Ideal S1x2048x1024 .f32 :=
  subf (mulf (mulf x (RSB x)) (GB g)) l

/-- The loss's gradient at the normalised rows. -/
def CT (x : FVec Ideal S1x2048x1024 .f32) (g : FVec Ideal S1024 .f32) (l : FVec Ideal S1x2048x1024 .f32) : FVec Ideal S1x2048x1024 .f32 :=
  mulf (broadcastInDim S1x2048x1024 ![0, 1] bcast_S1x2048_S1x2048x1024_0_1 (Host.divf (broadcastInDim S1x2048 ![] bcast_S_S1x2048 (mulf (constant S_ .f32 0x3F000000#32) (constant S_ .f32 0x3F800000#32))) (broadcastInDim S1x2048 ![] bcast_S_S1x2048 (constant S_ .f32 0x44800000#32)))) (mulf (broadcastInDim S1x2048x1024 ![] bcast_S_S1x2048x1024 (constant S_ .f32 0x40000000#32)) (ER x g l))

def WW (x : FVec Ideal S1x2048x1024 .f32) (g : FVec Ideal S1024 .f32) (l : FVec Ideal S1x2048x1024 .f32) : FVec Ideal S1x2048x1024 .f32 :=
  mulf (CT x g l) (GB g)

/-- What the mean square adds to a row's gradient, per entry of the row. -/
def QV (x : FVec Ideal S1x2048x1024 .f32) (w : FVec Ideal S1x2048x1024 .f32) : FVec Ideal S1x2048x1 .f32 :=
  Host.divf (mulf (shapeCast _ (Host.reduceAdd (mulf x w) (constant S_ .f32 0x00000000#32) reducesTo_S1x2048x1024_S1x2048_d2 h_S_) shapeCasts_S1x2048_S1x2048x1) (mulf (broadcastInDim S1x2048x1 ![] bcast_S_S1x2048x1 (constant S_ .f32 0xBF000000#32)) (Host.divf (Host.rsqrt (AA x)) (AA x)))) (broadcastInDim S1x2048x1 ![] bcast_S_S1x2048x1 (constant S_ .f32 0x44800000#32))

def QB (q : FVec Ideal S1x2048x1 .f32) : FVec Ideal S1x2048x1024 .f32 :=
  broadcastInDim S1x2048x1024 ![0, 1] bcast_S1x2048_S1x2048x1024_0_1 (broadcastInDim S1x2048 ![1] bcast_S2048_S1x2048_1 (Host.reduceAdd q (constant S_ .f32 0x00000000#32) reducesTo_S1x2048x1_S2048_d0_2 h_S_))

def RX (x : FVec Ideal S1x2048x1024 .f32) (g : FVec Ideal S1024 .f32) (l : FVec Ideal S1x2048x1024 .f32) : FVec Ideal S1x2048x1024 .f32 :=
  addf (addf (mulf (WW x g l) (RSB x)) (mulf x (QB (QV x (WW x g l))))) (mulf (QB (QV x (WW x g l))) x)

def RL (x : FVec Ideal S1x2048x1024 .f32) (g : FVec Ideal S1024 .f32) (l : FVec Ideal S1x2048x1024 .f32) : FVec Ideal S_ .f32 :=
  mulf (constant S_ .f32 0x3F000000#32) (Host.reduceAdd (Host.divf (Host.reduceAdd (mulf (ER x g l) (ER x g l)) (constant S_ .f32 0x00000000#32) reducesTo_S1x2048x1024_S1x2048_d2 h_S_) (broadcastInDim S1x2048 ![] bcast_S_S1x2048 (constant S_ .f32 0x44800000#32))) (constant S_ .f32 0x00000000#32) reducesTo_S1x2048_S_d0_1 h_S_)

def RG (x : FVec Ideal S1x2048x1024 .f32) (g : FVec Ideal S1024 .f32) (l : FVec Ideal S1x2048x1024 .f32) : FVec Ideal S1024 .f32 :=
  Host.reduceAdd (shapeCast _ (Host.reduceAdd (mulf (mulf x (RSB x)) (CT x g l)) (constant S_ .f32 0x00000000#32) reducesTo_S1x2048x1024_S1x1024_d1 h_S_) shapeCasts_S1x1024_S1x1x1024) (constant S_ .f32 0x00000000#32) reducesTo_S1x1x1024_S1024_d0_1 h_S_

theorem AA_at (x : FVec Ideal S1x2048x1024 .f32) (t : Fin 2048) : AA x (ix3 0 t 0) = AS x t := by
  pointwise [AA]
  rfl

theorem RSB_at (x : FVec Ideal S1x2048x1024 .f32) (t : Fin 2048) (q : Fin 1024) : RSB x (ix3 0 t q) = Ideal.rsqrt (AS x t) := by
  pointwise [RSB]
  rw [AA_at]

theorem ER_at (x : FVec Ideal S1x2048x1024 .f32) (g : FVec Ideal S1024 .f32) (l : FVec Ideal S1x2048x1024 .f32) (t : Fin 2048) (q : Fin 1024) : ER x g l (ix3 0 t q) = ES x g l t q := by
  pointwise [ER, GB]
  rw [RSB_at]
  rfl

def CS (x : FVec Ideal S1x2048x1024 .f32) (g : FVec Ideal S1024 .f32) (l : FVec Ideal S1x2048x1024 .f32) (t : Fin 2048) (q : Fin 1024) : EReal :=
  Ideal.div HALF WIDTH * (Ideal.ofBits FTy.f32 0x40000000#32 * ES x g l t q)

theorem CT_at (x : FVec Ideal S1x2048x1024 .f32) (g : FVec Ideal S1024 .f32) (l : FVec Ideal S1x2048x1024 .f32) (t : Fin 2048) (q : Fin 1024) : CT x g l (ix3 0 t q) = CS x g l t q := by
  pointwise [CT]
  rw [ER_at]
  rfl

theorem WW_at (x : FVec Ideal S1x2048x1024 .f32) (g : FVec Ideal S1024 .f32) (l : FVec Ideal S1x2048x1024 .f32) (t : Fin 2048) (q : Fin 1024) : WW x g l (ix3 0 t q) = CS x g l t q * g (ix1 q) := by
  pointwise [WW, GB]
  rw [CT_at]

theorem QV_at (x w : FVec Ideal S1x2048x1024 .f32) (t : Fin 2048) : QV x w (ix3 0 t 0)
    = Ideal.div ((∑ k : Fin 1024, x (ix3 0 t k) * w (ix3 0 t k)) * (Ideal.ofBits FTy.f32 0xBF000000#32 * Ideal.div (Ideal.rsqrt (AS x t)) (AS x t))) WIDTH := by
  pointwise [QV]
  rw [AA_at]

theorem QB_at (v : FVec Ideal S1x2048x1 .f32) (t : Fin 2048) (q : Fin 1024) : QB v (ix3 0 t q) = v (ix3 0 t 0) := by
  pointwise [QB]
  rw [Cert.Real.sum_unit_ends, zero_add]

theorem RL_at (x : FVec Ideal S1x2048x1024 .f32) (g : FVec Ideal S1024 .f32) (l : FVec Ideal S1x2048x1024 .f32) (i) : RL x g l i
    = HALF * ∑ t : Fin 2048, Ideal.div (∑ k : Fin 1024, ES x g l t k * ES x g l t k) WIDTH := by
  pointwise [RL]
  simp only [ER_at, Finset.univ_unique, Finset.sum_singleton]

theorem RG_at (x : FVec Ideal S1x2048x1024 .f32) (g : FVec Ideal S1024 .f32) (l : FVec Ideal S1x2048x1024 .f32) (q : Fin 1024) : RG x g l (ix1 q)
    = ∑ t : Fin 2048, x (ix3 0 t q) * Ideal.rsqrt (AS x t) * CS x g l t q := by
  pointwise [RG]
  rw [Cert.Real.sum_unit_axes]
  pointwise
  simp only [RSB_at, CT_at]

end Cert.Reference2Ideal.Value

namespace Cert.Kernel2Ideal.Value

open Idealize.ShloMosaic Idealize.ShloMosaic.TcCoe Idealize.SL.Sem
open Idealize.ShloMosaic.Pipeline (Dat)
open Cert.Real (WIDTH EPS)
open Cert.Reference2Ideal.Value (HALF AS ES CS RX RL RG RL_at RG_at WW WW_at QV QV_at QB QB_at RSB_at)
open Cert.Kernel2Ideal Cert.Kernel2Ideal.Gen

variable (m : (ℓ : Loc nD τ sig) → Buf (Elt Ideal) ℓ)

abbrev INV : EReal := Ideal.ofBits FTy.f32 0x3A800000#32

abbrev a0 (c : Dev nD) : FVec Ideal S1x2048x1024 .f32 := m ((c : Thread nD τ).loc main_arg0)
abbrev a1 (c : Dev nD) : FVec Ideal S1024 .f32 := m ((c : Thread nD τ).loc main_arg1)
abbrev a2 (c : Dev nD) : FVec Ideal S1x2048x1024 .f32 := m ((c : Thread nD τ).loc main_arg2)

def TX (A : FVec Ideal S2048x1024 .f32) : FVec Ideal S1x2048x1024 .f32 := broadcastInDim S1x2048x1024 ![1, 2] bcast_S2048x1024_S1x2048x1024_1_2 A
def TG (A : FVec Ideal S1x1024 .f32) : FVec Ideal S1024 .f32 := shapeCast S1024 A shapeCasts_S1x1024_S1024
def TL (A : FVec Ideal S1x1 .f32) : FVec Ideal S_ .f32 := shapeCast S_ A shapeCasts_S1x1_S_

theorem inj : Function.Injective (Pipeline.arrRef spec0) := by decide +kernel

theorem tail4 (c : Dev nD) : Pipeline.afterTail₀ cfgs (dats m) 0 (V0 m) [hostOps1] c main_v4 = TL ((dats m 0 c).arrAt 5 (cfgs 0).N) := by
  unfold Pipeline.afterTail₀
  simp only [hostOps1, List.flatten_cons, List.flatten_nil, List.append_nil, List.cons_append]
  after_results
  exact congrArg TL (Pipeline.withArrays_arr spec0 inj c (V0 m c) (fun w => (dats m 0 c).arrAt w (cfgs 0).N) 5)

theorem tail5 (c : Dev nD) : Pipeline.afterTail₀ cfgs (dats m) 0 (V0 m) [hostOps1] c main_v5 = TX ((dats m 0 c).arrAt 3 (cfgs 0).N) := by
  unfold Pipeline.afterTail₀
  simp only [hostOps1, List.flatten_cons, List.flatten_nil, List.append_nil, List.cons_append]
  after_results
  exact congrArg TX (Pipeline.withArrays_arr spec0 inj c (V0 m c) (fun w => (dats m 0 c).arrAt w (cfgs 0).N) 3)

theorem tail6 (c : Dev nD) : Pipeline.afterTail₀ cfgs (dats m) 0 (V0 m) [hostOps1] c main_v6 = TG ((dats m 0 c).arrAt 4 (cfgs 0).N) := by
  unfold Pipeline.afterTail₀
  simp only [hostOps1, List.flatten_cons, List.flatten_nil, List.append_nil, List.cons_append]
  after_results
  exact congrArg TG (Pipeline.withArrays_arr spec0 inj c (V0 m c) (fun w => (dats m 0 c).arrAt w (cfgs 0).N) 4)

theorem v0 (c : Dev nD) (t : Fin 2048) (k : Fin 1024) : V m c main_v0 (ix2 t k) = a0 m c (ix3 0 t k) := by
  simp only [V, V0, hostOps0, List.flatten_cons, List.flatten_nil, List.append_nil, List.cons_append, List.nil_append]
  after_results
  pointwise

theorem v1 (c : Dev nD) (k : Fin 1024) : V m c main_v1 (ix2 0 k) = a1 m c (ix1 k) := by
  simp only [V, V0, hostOps0, List.flatten_cons, List.flatten_nil, List.append_nil, List.cons_append, List.nil_append]
  after_results
  pointwise

theorem v2 (c : Dev nD) (t : Fin 2048) (k : Fin 1024) : V m c main_v2 (ix2 t k) = a2 m c (ix3 0 t k) := by
  simp only [V, V0, hostOps0, List.flatten_cons, List.flatten_nil, List.append_nil, List.cons_append, List.nil_append]
  after_results
  pointwise

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

def tt (t : Fin cfg0.N) (r : Fin 256) : Fin 2048 := ⟨t.val * 256 + r.val, by have : t.val < 8 := t.isLt; omega⟩

theorem b0 (c : Dev nD) (t : Fin cfg0.N) (r : Fin 256) (k : Fin 1024) : iblk m c 0 t (ix2 r k) = a0 m c (ix3 0 (tt t r) k) := by
  unfold iblk
  rw [View.read, cast_eq]
  exact (congrArg (V m c main_v0) (by blk_ext [idx t, tt])).trans (v0 m c (tt t r) k)

theorem b1 (c : Dev nD) (t : Fin cfg0.N) (k : Fin 1024) : iblk m c 1 t (ix2 0 k) = a1 m c (ix1 k) := by
  unfold iblk
  rw [View.read, cast_eq]
  exact (congrArg (V m c main_v1) (by blk_ext [idx t])).trans (v1 m c k)

theorem b2 (c : Dev nD) (t : Fin cfg0.N) (r : Fin 256) (k : Fin 1024) : iblk m c 2 t (ix2 r k) = a2 m c (ix3 0 (tt t r) k) := by
  unfold iblk
  rw [View.read, cast_eq]
  exact (congrArg (V m c main_v2) (by blk_ext [idx t, tt])).trans (v2 m c (tt t r) k)

theorem emb3 (t : Fin cfg0.N) (r : Fin 256) (f : Fin 1024) : ((cfg0.win 3).blk t).view.emb (ix2 r f) = ix2 (tt t r) f := by blk_ext [idx t, tt]
theorem emb4 (t : Fin cfg0.N) (z : Fin 1) (f : Fin 1024) : ((cfg0.win 4).blk t).view.emb (ix2 z f) = ix2 0 f := by blk_ext [idx t]

/-- The row's gradient as the kernel computes it. -/
def KX (x : FVec Ideal S1x2048x1024 .f32) (g : FVec Ideal S1024 .f32) (l : FVec Ideal S1x2048x1024 .f32) (t : Fin 2048) (q : Fin 1024) : EReal :=
  Ideal.rsqrt (AS x t) * (ES x g l t q * INV * g (ix1 q) - x (ix3 0 t q) * Ideal.rsqrt (AS x t) * Ideal.div (∑ k : Fin 1024, ES x g l t k * INV * g (ix1 k) * (x (ix3 0 t k) * Ideal.rsqrt (AS x t))) WIDTH)

def KG (x : FVec Ideal S1x2048x1024 .f32) (g : FVec Ideal S1024 .f32) (l : FVec Ideal S1x2048x1024 .f32) (t : Fin 2048) (q : Fin 1024) : EReal :=
  ES x g l t q * INV * (x (ix3 0 t q) * Ideal.rsqrt (AS x t))

def LS (x : FVec Ideal S1x2048x1024 .f32) (g : FVec Ideal S1024 .f32) (l : FVec Ideal S1x2048x1024 .f32) (t : Fin 2048) : EReal :=
  Ideal.div (∑ k : Fin 1024, ES x g l t k * ES x g l t k) WIDTH

theorem p5 (c : Dev nD) (t : Fin cfg0.N) (r : Fin 256) : k0_pay5 (iblk m c 0 t) (ix2 r 0) = Ideal.rsqrt (AS (a0 m c) (tt t r)) := by
  pointwise [k0_pay5, k0_pay4]
  simp only [b0]
  rfl

theorem p6 (c : Dev nD) (t : Fin cfg0.N) (r : Fin 256) (q : Fin 1024) : k0_pay6 (iblk m c 0 t) (ix2 r q) = a0 m c (ix3 0 (tt t r) q) * Ideal.rsqrt (AS (a0 m c) (tt t r)) := by
  pointwise [k0_pay6, k0_pay4]
  rw [b0, p5]

theorem p8 (c : Dev nD) (t : Fin cfg0.N) (r : Fin 256) (q : Fin 1024) : k0_pay8 (iblk m c 0 t) (iblk m c 1 t) (iblk m c 2 t) (ix2 r q) = ES (a0 m c) (a1 m c) (a2 m c) (tt t r) q := by
  pointwise [k0_pay8, k0_pay7]
  rw [b1, b2, p6]
  rfl

theorem p10 (c : Dev nD) (t : Fin cfg0.N) (r : Fin 256) (q : Fin 1024) : k0_pay10 (iblk m c 0 t) (iblk m c 1 t) (iblk m c 2 t) (ix2 r q) = ES (a0 m c) (a1 m c) (a2 m c) (tt t r) q * INV := by
  pointwise [k0_pay10]
  rw [p8]

theorem p11 (c : Dev nD) (t : Fin cfg0.N) (r : Fin 256) (q : Fin 1024) : k0_pay11 (iblk m c 0 t) (iblk m c 1 t) (iblk m c 2 t) (ix2 r q) = KX (a0 m c) (a1 m c) (a2 m c) (tt t r) q := by
  pointwise [k0_pay11, k0_pay7]
  simp only [b1, p5, p6, p10]
  rfl

theorem p1 (c : Dev nD) (t : Fin cfg0.N) (z : Fin 1) (q : Fin 1024) : k0_pay1 (k0_pay6 (iblk m c 0 t)) (k0_pay10 (iblk m c 0 t) (iblk m c 1 t) (iblk m c 2 t)) (ix2 z q)
    = ∑ r : Fin 256, KG (a0 m c) (a1 m c) (a2 m c) (tt t r) q := by
  pointwise [k0_pay1]
  simp only [p6, p10]
  rfl

theorem p2 (A B : FVec Ideal S256x1024 .f32) (x : FVec Ideal S1x1024 .f32) (y) : k0_pay2 A B x y = x y + k0_pay1 A B y := by
  idx_vars y
  pointwise [k0_pay2]

theorem p3 (A x : FVec Ideal S1x1 .f32) (y) : k0_pay3 A x y = x y + A y := by
  idx_vars y
  pointwise [k0_pay3]

theorem p9 (c : Dev nD) (t : Fin cfg0.N) (y) : k0_pay9 (iblk m c 0 t) (iblk m c 1 t) (iblk m c 2 t) y
    = HALF * ∑ r : Fin 256, LS (a0 m c) (a1 m c) (a2 m c) (tt t r) := by
  idx_vars y
  pointwise [k0_pay9]
  simp only [p8]
  rfl

theorem lt8 (t : Fin cfg0.N) : t.val < 8 := t.isLt

theorem fin3 (c : Dev nD) : (dats m 0 c).arrAt 3 (cfgs 0).N = fun i => KX (a0 m c) (a1 m c) (a2 m c) (i 0) (i 1) := by
  refine (dats m 0 c).arrAt_eq_of_covers 3 _ (by decide +kernel) fun t _ y => ?_
  blk_simp
  rw [after0_3]
  have hp (y : S256x1024.Idx) : k0_pay11 (iblk m c 0 t) (iblk m c 1 t) (iblk m c 2 t) y = (fun i : S2048x1024.Idx => KX (a0 m c) (a1 m c) (a2 m c) (i 0) (i 1)) (((cfg0.win 3).blk t).view.emb y) := by
    idx_vars y; rw [emb3]; exact p11 m c t _ _
  have := lt8 t
  by_cases h : t.val % 8 = 0
  · rw [outsAt0_A m c t h (by omega)]; frame_out; exact hp y
  · rw [outsAt0_B m c t h (by omega)]; frame_out; exact hp y

theorem tt_run (t : Fin cfg0.N) (s : Fin 8) (k : Fin 256) (h1 : 8 * (t.val / 8) + s.val < cfg0.N) (h2 : s.val * 256 + k.val < 2048) : tt ⟨8 * (t.val / 8) + s.val, h1⟩ k = ⟨s.val * 256 + k.val, h2⟩ := by
  apply Fin.ext
  have := lt8 t
  show (8 * (t.val / 8) + s.val) * 256 + k.val = s.val * 256 + k.val
  omega

theorem fin4 (c : Dev nD) : (dats m 0 c).arrAt 4 (cfgs 0).N = fun i => ∑ t : Fin 2048, KG (a0 m c) (a1 m c) (a2 m c) t (i 1) := by
  refine (dats m 0 c).arrAt_eq_of_covers 4 _ (by decide +kernel) fun t hf y => ?_
  blk_simp
  rw [after0_4, Pipeline.eq_sum_fin_of_reset_step_apply_of_flush (fun n h => (outsAt0 m c n h).2.1) 8 (fun _ => 0)
    (fun t y => ∑ r : Fin 256, KG (a0 m c) (a1 m c) (a2 m c) (tt t r) (y 1))
    (fun t h y => by
      have := lt8 t
      rw [outsAt0_A m c t h (by omega)]; frame_out; rw [zero_add]
      idx_vars y; exact p1 m c t _ _)
    (fun t h y => by
      rw [outsAt0_B m c t h (by omega)]; frame_out
      idx_vars y
      rw [p2]
      exact congrArg (HAdd.hAdd _) (p1 m c t _ _))
    t ((flush0_4 t).mp hf) _, zero_add]
  idx_vars y
  rw [emb4]
  refine Fin.sum_mul_add_congr fun s k hl => ?_
  rw [tt_run t s k _ hl]
  rfl

theorem fin5 (c : Dev nD) : (dats m 0 c).arrAt 5 (cfgs 0).N = fun _ => ∑ s : Fin 8, HALF * ∑ r : Fin 256, LS (a0 m c) (a1 m c) (a2 m c) ⟨s.val * 256 + r.val, by omega⟩ := by
  refine (dats m 0 c).arrAt_eq_of_covers 5 _ (by decide +kernel) fun t hf y => ?_
  blk_simp
  rw [after0_5, Pipeline.eq_sum_fin_of_reset_step_apply_of_flush (fun n h => (outsAt0 m c n h).2.2) 8 (fun _ => 0)
    (fun t y => HALF * ∑ r : Fin 256, LS (a0 m c) (a1 m c) (a2 m c) (tt t r))
    (fun t h y => by
      have := lt8 t
      rw [outsAt0_A m c t h (by omega)]; frame_out; rw [zero_add]
      exact p9 m c t _)
    (fun t h y => by
      rw [outsAt0_B m c t h (by omega)]; frame_out
      rw [p3]
      exact congrArg (HAdd.hAdd _) (p9 m c t _))
    t ((flush0_5 t).mp hf) _, zero_add]
  refine Fin.sum_fin_congr fun s => ?_
  exact congrArg (HALF * ·) (Finset.sum_congr rfl fun k _ => by rw [tt_run t s k _ (by omega)])

/-- The three arrays as real numbers. -/
structure Reals (x : FVec Ideal S1x2048x1024 .f32) (g : FVec Ideal S1024 .f32) (l : FVec Ideal S1x2048x1024 .f32) where
  fx : Fin 2048 → Fin 1024 → ℝ
  fg : Fin 1024 → ℝ
  fl : Fin 2048 → Fin 1024 → ℝ
  hx : ∀ t q, x (ix3 0 t q) = (fx t q : EReal)
  hg : ∀ q, g (ix1 q) = (fg q : EReal)
  hl : ∀ t q, l (ix3 0 t q) = (fl t q : EReal)

variable {x : FVec Ideal S1x2048x1024 .f32} {g : FVec Ideal S1024 .f32} {l : FVec Ideal S1x2048x1024 .f32}

theorem row (R : Reals x g l) (t : Fin 2048) : ∃ A r : ℝ, 0 < A ∧ r * r * A = 1 ∧ AS x t = (A : EReal) ∧ Ideal.rsqrt (A : EReal) = (r : EReal) := by
  obtain ⟨A, r, hA, hr, h1, h2⟩ := Cert.Real.norm_row (R.fx t)
  refine ⟨A, r, hA, hr, ?_, h2⟩
  rw [← h1, AS]
  simp only [R.hx]

theorem ES_real (R : Reals x g l) (t : Fin 2048) : ∃ e : Fin 1024 → ℝ, ∀ q, ES x g l t q = (e q : EReal) := by
  obtain ⟨A, r, hA, hr, h1, h2⟩ := row R t
  refine ⟨fun q => R.fx t q * r * R.fg q - R.fl t q, fun q => ?_⟩
  rw [ES, R.hx, R.hg, R.hl, h1, h2]
  norm_cast

theorem CS_eq (R : Reals x g l) (t : Fin 2048) (q : Fin 1024) : CS x g l t q = ES x g l t q * INV := by
  obtain ⟨e, he⟩ := ES_real R t
  rw [CS, he, Cert.Real.div_width, Cert.Real.two, INV, Cert.Real.inv_width]
  simp only [HALF, Cert.Real.half]
  simp only [← EReal.coe_mul]
  congr 1
  ring

theorem TX_at (A : FVec Ideal S2048x1024 .f32) (z : Fin 1) (t : Fin 2048) (q : Fin 1024) : TX A (ix3 z t q) = A (ix2 t q) := by
  pointwise [TX]

theorem TG_at (A : FVec Ideal S1x1024 .f32) (q : Fin 1024) : TG A (ix1 q) = A (ix2 0 q) := by
  pointwise [TG]

theorem TL_at (A : FVec Ideal S1x1 .f32) (i) : TL A i = A (ix2 0 0) := by
  pointwise [TL]

theorem RX_eq (R : Reals x g l) : RX x g l = TX (fun i => KX x g l (i 0) (i 1)) := by
  funext i
  idx_vars i
  obtain rfl : i0 = 0 := Subsingleton.elim _ _
  rw [TX_at]
  show _ = KX x g l i1 i2
  obtain ⟨A, r, hA, hr, h1, h2⟩ := row R i1
  obtain ⟨e, he⟩ := ES_real R i1
  have hw (k : Fin 1024) : ES x g l i1 k * INV * g (ix1 k) = ((e k * (1 / 1024) * R.fg k : ℝ) : EReal) := by
    rw [he, INV, Cert.Real.inv_width, R.hg]
    norm_cast
  pointwise [RX]
  rw [WW_at, QB_at, QV_at, RSB_at]
  simp only [WW_at, CS_eq R, KX, hw, R.hx, h1, h2]
  exact Cert.Real.norm_grad A r hA hr (R.fx i1) (fun k => e k * (1 / 1024) * R.fg k) i2

theorem RG_eq (R : Reals x g l) : RG x g l = TG (fun i => ∑ t : Fin 2048, KG x g l t (i 1)) := by
  funext i
  idx_vars i
  rw [RG_at, TG_at]
  refine Finset.sum_congr rfl fun t _ => ?_
  rw [CS_eq R, mul_comm]
  rfl

theorem RL_eq (R : Reals x g l) : RL x g l = TL (fun _ => ∑ s : Fin 8, HALF * ∑ r : Fin 256, LS x g l ⟨s.val * 256 + r.val, by omega⟩) := by
  funext i
  rw [RL_at, TL_at]
  have hL (t : Fin 2048) : ∃ L : ℝ, LS x g l t = (L : EReal) := by
    obtain ⟨e, he⟩ := ES_real R t
    refine ⟨(∑ k, e k * e k) * (1 / 1024), ?_⟩
    rw [LS]
    simp only [he, Cert.Real.div_width, ← EReal.coe_mul, Cert.Real.sum_coe]
  choose L hL using hL
  show HALF * ∑ t : Fin 2048, LS x g l t = _
  simp only [hL, HALF, Cert.Real.half, Cert.Real.sum_coe, ← EReal.coe_mul]
  congr 1
  rw [← Finset.mul_sum]
  congr 1
  exact (Fin.sum_mul_add_congr fun s k hl => rfl).symm

theorem res_l (c : Dev nD) (R : Reals (a0 m c) (a1 m c) (a2 m c)) : RL (a0 m c) (a1 m c) (a2 m c) = Pipeline.afterTail₀ cfgs (dats m) 0 (V0 m) [hostOps1] c main_v4 := by
  rw [tail4, fin5]
  exact RL_eq R

theorem res_x (c : Dev nD) (R : Reals (a0 m c) (a1 m c) (a2 m c)) : RX (a0 m c) (a1 m c) (a2 m c) = Pipeline.afterTail₀ cfgs (dats m) 0 (V0 m) [hostOps1] c main_v5 := by
  rw [tail5, fin3]
  exact RX_eq R

theorem res_g (c : Dev nD) (R : Reals (a0 m c) (a1 m c) (a2 m c)) : RG (a0 m c) (a1 m c) (a2 m c) = Pipeline.afterTail₀ cfgs (dats m) 0 (V0 m) [hostOps1] c main_v6 := by
  rw [tail6, fin4]
  exact RG_eq R

theorem reals (x : FVec Ideal S1x2048x1024 .f32) (g : FVec Ideal S1024 .f32) (l : FVec Ideal S1x2048x1024 .f32)
    (hx : ∃ r : S1x2048x1024.Idx → ℝ, ∀ i, x i = (r i : EReal)) (hg : ∃ r : S1024.Idx → ℝ, ∀ i, g i = (r i : EReal)) (hl : ∃ r : S1x2048x1024.Idx → ℝ, ∀ i, l i = (r i : EReal)) : Nonempty (Reals x g l) := by
  obtain ⟨u, hu⟩ := hx
  obtain ⟨v, hv⟩ := hg
  obtain ⟨w, hw⟩ := hl
  exact ⟨⟨fun t q => u (ix3 0 t q), fun q => v (ix1 q), fun t q => w (ix3 0 t q), fun t q => hu _, fun q => hv _, fun t q => hw _⟩⟩

theorem args_real (hpre : Cert.Pre_Kernel2Ideal_finite2 m) (c : Dev nD) : Nonempty (Reals (a0 m c) (a1 m c) (a2 m c)) := by
  obtain ⟨h0, h1, h2⟩ := hpre c
  exact reals _ _ _ (Cert.Real.of_finite _ _ h0) (Cert.Real.of_finite _ _ h1) (Cert.Real.of_finite _ _ h2)

theorem algebraic : Cert.algebraic_Kernel2Ideal_Reference2Ideal_pre_finite2 := by
  pair_intro
  · run_from Cert.Kernel2Ideal.Gen.run_main m g & Cert.Kernel2Ideal.Gen.unchanged m g
  · run_from Cert.Reference2Ideal.Value.run m' g'
    · obtain ⟨R⟩ := args_real m hpre c
      exact res_l m c R
    · obtain ⟨h0, h1, h2⟩ := hagree c
      obtain ⟨R⟩ := args_real m hpre c
      exact (show RX _ _ _ = RX (a0 m c) (a1 m c) (a2 m c) by rw [h0, h1, h2]).trans (res_x m c R)
    · obtain ⟨R⟩ := args_real m hpre c
      exact res_g m c R

end Cert.Kernel2Ideal.Value
-- ==== Proof.Norm.lean ====
module

public import proofs.«01_k».proof.Defs
public import proofs.«01_k».proof.Proof.LossHead

@[expose] public section

set_option maxRecDepth 16384

noncomputable section

/-! The gradient of a norm behind a product: what the two calls that end in it share. -/

namespace Cert.Norm

open Idealize.ShloMosaic
open Cert.Real (WIDTH EPS)
open Cert.Reference2Ideal Cert.Reference2Ideal.Gen
open Cert.Reference2Ideal.Value (AS AA RSB GB QV QB RSB_at QV_at QB_at)

theorem casts_gain : S1x1024.ShapeCasts S1024 := by decide
theorem bcast_gain : S1024.BroadcastsInDim S1x1024 ![1] := by decide

/-- The scaled gradient at the normalised rows. -/
def WD (d : FVec Ideal S1x2048x1024 .f32) (g : FVec Ideal S1x1024 .f32) : FVec Ideal S1x2048x1024 .f32 := mulf d (GB (shapeCast _ g casts_gain))

/-- The reference's gradient of the rows, from the gradient `d` at the normalised rows and the gradient `u` that goes past the block. -/
def RX (u d x : FVec Ideal S1x2048x1024 .f32) (g : FVec Ideal S1x1024 .f32) : FVec Ideal S1x2048x1024 .f32 :=
  addf (addf (addf u (mulf (WD d g) (RSB x))) (mulf x (QB (QV x (WD d g))))) (mulf (QB (QV x (WD d g))) x)

/-- The reference's gradient of the gain. -/
def RG (d x : FVec Ideal S1x2048x1024 .f32) : FVec Ideal S1x1024 .f32 :=
  broadcastInDim S1x1024 ![1] bcast_gain (Host.reduceAdd (shapeCast _ (Host.reduceAdd (mulf (mulf x (RSB x)) d) (constant S_ .f32 0x00000000#32) reducesTo_S1x2048x1024_S1x1024_d1 h_S_) shapeCasts_S1x1024_S1x1x1024) (constant S_ .f32 0x00000000#32) reducesTo_S1x1x1024_S1024_d0_1 h_S_)

/-- One entry of the rows' gradient, as the kernel computes it, from a row of the gradient at the normalised rows. -/
def KX (u : EReal) (d : Fin 1024 → EReal) (x : FVec Ideal S1x2048x1024 .f32) (g : FVec Ideal S1x1024 .f32) (t : Fin 2048) (q : Fin 1024) : EReal :=
  u + Ideal.rsqrt (AS x t) * (d q * g (ix2 0 q) - x (ix3 0 t q) * Ideal.rsqrt (AS x t) * Ideal.div (∑ k : Fin 1024, d k * g (ix2 0 k) * (x (ix3 0 t k) * Ideal.rsqrt (AS x t))) WIDTH)

theorem WD_at (d : FVec Ideal S1x2048x1024 .f32) (g : FVec Ideal S1x1024 .f32) (t : Fin 2048) (q : Fin 1024) : WD d g (ix3 0 t q) = d (ix3 0 t q) * g (ix2 0 q) := by
  pointwise [WD, GB]

theorem RG_at (d x : FVec Ideal S1x2048x1024 .f32) (q : Fin 1024) : RG d x (ix2 0 q) = ∑ t : Fin 2048, d (ix3 0 t q) * (x (ix3 0 t q) * Ideal.rsqrt (AS x t)) := by
  pointwise [RG]
  rw [Cert.Real.sum_unit_axes]
  pointwise
  simp only [RSB_at]
  exact Finset.sum_congr rfl fun t _ => mul_comm _ _

theorem RX_at (u d x : FVec Ideal S1x2048x1024 .f32) (g : FVec Ideal S1x1024 .f32) (hd : ∃ f : Fin 2048 → Fin 1024 → ℝ, ∀ t q, d (ix3 0 t q) = (f t q : EReal))
    (hx : ∃ f : S1x2048x1024.Idx → ℝ, ∀ i, x i = (f i : EReal)) (hg : ∃ f : S1x1024.Idx → ℝ, ∀ i, g i = (f i : EReal)) (t : Fin 2048) (q : Fin 1024) :
    RX u d x g (ix3 0 t q) = KX (u (ix3 0 t q)) (fun k => d (ix3 0 t k)) x g t q := by
  obtain ⟨e, he⟩ := hd
  obtain ⟨f, hf⟩ := hx
  obtain ⟨w, hw⟩ := hg
  obtain ⟨A, r, hA, hr, h1, h2⟩ := Cert.Real.norm_row (fun k => f (ix3 0 t k))
  have hA' : AS x t = (A : EReal) := by
    rw [← h1, AS]
    simp only [hf]
  have hdw (k : Fin 1024) : d (ix3 0 t k) * g (ix2 0 k) = ((e t k * w (ix2 0 k) : ℝ) : EReal) := by
    rw [he, hw, EReal.coe_mul]
  pointwise [RX]
  rw [QB_at, QV_at, RSB_at]
  simp only [WD_at, KX, hdw, hf, hA', h2]
  rw [add_assoc, add_assoc, ← add_assoc (((e t q * w (ix2 0 q) : ℝ) : EReal) * _)]
  congr 1
  exact Cert.Real.norm_grad A r hA hr (fun k => f (ix3 0 t k)) (fun k => e t k * w (ix2 0 k)) q

end Cert.Norm
-- ==== Proof.FfnInput.lean ====
module

public import proofs.«01_k».proof.Defs
public import proofs.«01_k».proof.Proof.Gen.Kernel5Ideal.Frame
public import proofs.«01_k».proof.Proof.Gen.Reference5Ideal.Run
public import proofs.«01_k».proof.Proof.Norm

@[expose] public section

set_option maxRecDepth 16384

noncomputable section

namespace Cert.Pre_finite5
instance facts : Facts where
  bcast_S_S1x2048x2816 := by decide
  bcast_S_S1x2048x1024 := by decide
  bcast_S_S1x1024 := by decide
  bcast_S_S1x1024x2816 := by decide
end Cert.Pre_finite5

namespace Cert.Reference5Ideal.Value

open Idealize.ShloMosaic
open Cert.Reference5Ideal Cert.Reference5Ideal.Gen

/-- The reference's gradient at the normalised rows: the two products with the weights of the branches. -/
def DH (da db : FVec Ideal S1x2048x2816 .f32) (wg wu : FVec Ideal S1x1024x2816 .f32) : FVec Ideal S1x2048x1024 .f32 :=
  addf (Host.dotGeneral dot_S1x2048x2816_S1024x2816_S1x2048x1024_2_1_01_0_n_n none db (shapeCast _ wu shapeCasts_S1x1024x2816_S1024x2816)) (Host.dotGeneral dot_S1x2048x2816_S1024x2816_S1x2048x1024_2_1_01_0_n_n none da (shapeCast _ wg shapeCasts_S1x1024x2816_S1024x2816))

theorem DH_at (da db : FVec Ideal S1x2048x2816 .f32) (wg wu : FVec Ideal S1x1024x2816 .f32) (t : Fin 2048) (q : Fin 1024) :
    DH da db wg wu (ix3 0 t q) = ∑ k : Fin 2816, db (ix3 0 t k) * wu (ix3 0 q k) + ∑ k : Fin 2816, da (ix3 0 t k) * wg (ix3 0 q k) := by
  pointwise [DH]

theorem DH_real (da db : FVec Ideal S1x2048x2816 .f32) (wg wu : FVec Ideal S1x1024x2816 .f32)
    (ha : ∃ f : S1x2048x2816.Idx → ℝ, ∀ i, da i = (f i : EReal)) (hb : ∃ f : S1x2048x2816.Idx → ℝ, ∀ i, db i = (f i : EReal))
    (hg : ∃ f : S1x1024x2816.Idx → ℝ, ∀ i, wg i = (f i : EReal)) (hu : ∃ f : S1x1024x2816.Idx → ℝ, ∀ i, wu i = (f i : EReal)) :
    ∃ f : Fin 2048 → Fin 1024 → ℝ, ∀ t q, DH da db wg wu (ix3 0 t q) = (f t q : EReal) := by
  obtain ⟨a, ha⟩ := ha
  obtain ⟨b, hb⟩ := hb
  obtain ⟨g, hg⟩ := hg
  obtain ⟨u, hu⟩ := hu
  refine ⟨fun t q => ∑ k : Fin 2816, b (ix3 0 t k) * u (ix3 0 q k) + ∑ k : Fin 2816, a (ix3 0 t k) * g (ix3 0 q k), fun t q => ?_⟩
  rw [DH_at, EReal.coe_add]
  simp only [ha, hb, hg, hu, ← EReal.coe_mul, Cert.Real.sum_coe]

end Cert.Reference5Ideal.Value

namespace Cert.Kernel5Ideal.Value

open Idealize.ShloMosaic Idealize.ShloMosaic.TcCoe Idealize.SL.Sem
open Idealize.ShloMosaic.Pipeline (Dat)
open Cert.Real (WIDTH EPS)
open Cert.Norm (KX RX RG RX_at RG_at)
open Cert.Reference2Ideal.Value (AS)
open Cert.Reference5Ideal.Value (DH DH_at DH_real)
open Cert.Kernel5Ideal Cert.Kernel5Ideal.Gen

variable (m : (ℓ : Loc nD τ sig) → Buf (Elt Ideal) ℓ)

abbrev a0 (c : Dev nD) : FVec Ideal S1x2048x1024 .f32 := m ((c : Thread nD τ).loc main_arg0)
abbrev a1 (c : Dev nD) : FVec Ideal S1x2048x2816 .f32 := m ((c : Thread nD τ).loc main_arg1)
abbrev a2 (c : Dev nD) : FVec Ideal S1x2048x2816 .f32 := m ((c : Thread nD τ).loc main_arg2)
abbrev a3 (c : Dev nD) : FVec Ideal S1x2048x1024 .f32 := m ((c : Thread nD τ).loc main_arg3)
abbrev a4 (c : Dev nD) : FVec Ideal S1x1024 .f32 := m ((c : Thread nD τ).loc main_arg4)
abbrev a5 (c : Dev nD) : FVec Ideal S1x1024x2816 .f32 := m ((c : Thread nD τ).loc main_arg5)
abbrev a6 (c : Dev nD) : FVec Ideal S1x1024x2816 .f32 := m ((c : Thread nD τ).loc main_arg6)

/-- What the host makes of the region's rows: a unit axis in front. -/
def TX (A : FVec Ideal S2048x1024 .f32) : FVec Ideal S1x2048x1024 .f32 := broadcastInDim S1x2048x1024 ![1, 2] bcast_S2048x1024_S1x2048x1024_1_2 A

theorem arr (c : Dev nD) (w : Fin 10) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

theorem tail37 (c : Dev nD) : Pipeline.afterTail₀ cfgs (dats m) 0 (V0 m) [hostOps1] c main_v37 = TX ((dats m 0 c).arrAt 8 (cfgs 0).N) := by
  unfold Pipeline.afterTail₀
  simp only [hostOps1, List.flatten_cons, List.flatten_nil, List.append_nil, List.cons_append]
  after_results
  exact congrArg TX (arr m c 8)

def ff (j : Fin 4) (f : Fin 704) : Fin 2816 := ⟨j.val * 704 + f.val, by omega⟩

theorem v15_0 (c : Dev nD) (j : Fin 4) (f : Fin 704) (k : Fin 1024) : V m c main_v15 (ix4 j 0 f k) = a5 m c (ix3 0 k (ff j f)) := by
  simp only [V, V0, hostOps0, List.flatten_cons, List.flatten_nil, List.append_nil, List.cons_append, List.nil_append]
  after_results
  pointwise
  after_results_simp
  pointwise [ff]

theorem v15_1 (c : Dev nD) (j : Fin 4) (f : Fin 704) (k : Fin 1024) : V m c main_v15 (ix4 j 1 f k) = a6 m c (ix3 0 k (ff j f)) := by
  simp only [V, V0, hostOps0, List.flatten_cons, List.flatten_nil, List.append_nil, List.cons_append, List.nil_append]
  after_results
  pointwise
  after_results_simp
  pointwise [ff]

theorem v29 (c : Dev nD) (j : Fin 4) (t : Fin 2048) (f : Fin 704) : V m c main_v29 (ix3 j t f) = a1 m c (ix3 0 t (ff j f)) := by
  simp only [V, V0, hostOps0, List.flatten_cons, List.flatten_nil, List.append_nil, List.cons_append, List.nil_append]
  after_results
  pointwise [ff]

theorem v33 (c : Dev nD) (j : Fin 4) (t : Fin 2048) (f : Fin 704) : V m c main_v33 (ix3 j t f) = a2 m c (ix3 0 t (ff j f)) := by
  simp only [V, V0, hostOps0, List.flatten_cons, List.flatten_nil, List.append_nil, List.cons_append, List.nil_append]
  after_results
  pointwise [ff]

theorem v34 (c : Dev nD) (t : Fin 2048) (k : Fin 1024) : V m c main_v34 (ix2 t k) = a3 m c (ix3 0 t k) := by
  simp only [V, V0, hostOps0, List.flatten_cons, List.flatten_nil, List.append_nil, List.cons_append, List.nil_append]
  after_results
  pointwise

theorem v25 (c : Dev nD) (t : Fin 2048) : V m c main_v25 (ix2 t 0) = Ideal.rsqrt (AS (a3 m c) t) := by
  simp only [V, V0, hostOps0, List.flatten_cons, List.flatten_nil, List.append_nil, List.cons_append, List.nil_append]
  after_results
  pointwise [AS]

theorem v35 (c : Dev nD) (t : Fin 2048) (k : Fin 1024) : V m c main_v35 (ix2 t k) = a0 m c (ix3 0 t k) := by
  simp only [V, V0, hostOps0, List.flatten_cons, List.flatten_nil, List.append_nil, List.cons_append, List.nil_append]
  after_results
  pointwise

theorem vg (c : Dev nD) (i : S1x1024.Idx) : V m c main_arg4 i = a4 m c i := by
  simp only [V, V0, hostOps0, List.flatten_cons, List.flatten_nil, List.append_nil, List.cons_append, List.nil_append]
  after_results

theorem idx : ∀ t : Fin cfg0.N, win0_0.index t = ![0, t.val, 0] ∧ win0_1.index t = ![0, t.val, 0]
    ∧ win0_2.index t = ![0, 0, 0, 0] ∧ win0_3.index t = ![0, 1, 0, 0]
    ∧ win0_4.index t = ![t.val, 0] ∧ win0_5.index t = ![t.val, 0] ∧ win0_6.index t = ![0, 0] ∧ win0_7.index t = ![t.val, 0]
    ∧ win0_8.index t = ![t.val, 0] ∧ win0_9.index t = ![0, 0] :=
  (by decide +kernel : ∀ t : Fin grid0.N, _)

def tt (t : Fin cfg0.N) (r : Fin 256) : Fin 2048 := ⟨t.val * 256 + r.val, by have : t.val < 8 := t.isLt; omega⟩

theorem b0 (c : Dev nD) (t : Fin cfg0.N) (j : Fin 4) (r : Fin 256) (f : Fin 704) : iblk m c 0 t (ix3 j r f) = a1 m c (ix3 0 (tt t r) (ff j f)) := by
  unfold iblk
  rw [View.read, cast_eq]
  exact (congrArg (V m c main_v29) (by blk_ext [idx t, tt])).trans (v29 m c j (tt t r) f)

theorem b1 (c : Dev nD) (t : Fin cfg0.N) (j : Fin 4) (r : Fin 256) (f : Fin 704) : iblk m c 1 t (ix3 j r f) = a2 m c (ix3 0 (tt t r) (ff j f)) := by
  unfold iblk
  rw [View.read, cast_eq]
  exact (congrArg (V m c main_v33) (by blk_ext [idx t, tt])).trans (v33 m c j (tt t r) f)

theorem b2 (c : Dev nD) (t : Fin cfg0.N) (j : Fin 4) (z : Fin 1) (f : Fin 704) (k : Fin 1024) : iblk m c 2 t (ix4 j z f k) = a5 m c (ix3 0 k (ff j f)) := by
  obtain rfl : z = 0 := Subsingleton.elim _ _
  unfold iblk
  rw [View.read, cast_eq]
  exact (congrArg (V m c main_v15) (by blk_ext [idx t])).trans (v15_0 m c j f k)

theorem b3 (c : Dev nD) (t : Fin cfg0.N) (j : Fin 4) (z : Fin 1) (f : Fin 704) (k : Fin 1024) : iblk m c 3 t (ix4 j z f k) = a6 m c (ix3 0 k (ff j f)) := by
  obtain rfl : z = 0 := Subsingleton.elim _ _
  unfold iblk
  rw [View.read, cast_eq]
  exact (congrArg (V m c main_v15) (by blk_ext [idx t])).trans (v15_1 m c j f k)

theorem b4 (c : Dev nD) (t : Fin cfg0.N) (r : Fin 256) (k : Fin 1024) : iblk m c 4 t (ix2 r k) = a3 m c (ix3 0 (tt t r) k) := by
  unfold iblk
  rw [View.read, cast_eq]
  exact (congrArg (V m c main_v34) (by blk_ext [idx t, tt])).trans (v34 m c (tt t r) k)

theorem b5 (c : Dev nD) (t : Fin cfg0.N) (r : Fin 256) (z : Fin 1) : iblk m c 5 t (ix2 r z) = Ideal.rsqrt (AS (a3 m c) (tt t r)) := by
  obtain rfl : z = 0 := Subsingleton.elim _ _
  unfold iblk
  rw [View.read, cast_eq]
  exact (congrArg (V m c main_v25) (by blk_ext [idx t, tt])).trans (v25 m c (tt t r))

theorem b6 (c : Dev nD) (t : Fin cfg0.N) (z : Fin 1) (k : Fin 1024) : iblk m c 6 t (ix2 z k) = a4 m c (ix2 0 k) := by
  unfold iblk
  rw [View.read, cast_eq]
  exact (congrArg (V m c main_arg4) (by blk_ext [idx t])).trans (vg m c (ix2 0 k))

theorem b7 (c : Dev nD) (t : Fin cfg0.N) (r : Fin 256) (k : Fin 1024) : iblk m c 7 t (ix2 r k) = a0 m c (ix3 0 (tt t r) k) := by
  unfold iblk
  rw [View.read, cast_eq]
  exact (congrArg (V m c main_v35) (by blk_ext [idx t, tt])).trans (v35 m c (tt t r) k)

theorem emb8 (t : Fin cfg0.N) (r : Fin 256) (q : Fin 1024) : ((cfg0.win 8).blk t).view.emb (ix2 r q) = ix2 (tt t r) q := by blk_ext [idx t, tt]
theorem emb9 (t : Fin cfg0.N) (z : Fin 1) (q : Fin 1024) : ((cfg0.win 9).blk t).view.emb (ix2 z q) = ix2 0 q := by blk_ext [idx t]

theorem lt8 (t : Fin cfg0.N) : t.val < 8 := t.isLt

/-- Shard `j` of a block of hidden gradients, and of the weights, as the body loads it. -/
def la (x : Vec Ideal S4x256x704 .bf16) (j : ℕ) (h : ∀ a : Fin 3, (![j, 0, 0] : Fin 3 → ℕ) a + (![1, 256, 704] : Fin 3 → ℕ) a ≤ S4x256x704.size a) : Vec Ideal S1x256x704 .bf16 :=
  View.ld (S := S4x256x704) (Val := Elt Ideal) (e' := .bf16) x (Rect.unit (s := S4x256x704) ![j, 0, 0] ![1, 256, 704] h)

def lw (x : Vec Ideal S4x1x704x1024 .bf16) (j : ℕ) (h : ∀ a : Fin 4, (![j, 0, 0, 0] : Fin 4 → ℕ) a + (![1, 1, 704, 1024] : Fin 4 → ℕ) a ≤ S4x1x704x1024.size a) : Vec Ideal S1x1x704x1024 .bf16 :=
  View.ld (S := S4x1x704x1024) (Val := Elt Ideal) (e' := .bf16) x (Rect.unit (s := S4x1x704x1024) ![j, 0, 0, 0] ![1, 1, 704, 1024] h)

theorem la_at (x : Vec Ideal S4x256x704 .bf16) (j : Fin 4) (h) (z : Fin 1) (r : Fin 256) (f : Fin 704) : la x j.val h (ix3 z r f) = x (ix3 j r f) :=
  View.ld_unit_apply_of (Val := Elt Ideal) (S := S4x256x704) (e := .bf16) x ![j.val, 0, 0] ![1, 256, 704] h (ix3 z r f) (ix3 j r f) fun a => by
    obtain rfl : z = 0 := Subsingleton.elim _ _
    fin_cases a
    · rfl
    · exact (Nat.zero_add _).symm
    · exact (Nat.zero_add _).symm

theorem lw_at (x : Vec Ideal S4x1x704x1024 .bf16) (j : Fin 4) (h) (z y : Fin 1) (f : Fin 704) (k : Fin 1024) : lw x j.val h (ix4 z y f k) = x (ix4 j 0 f k) :=
  View.ld_unit_apply_of (Val := Elt Ideal) (S := S4x1x704x1024) (e := .bf16) x ![j.val, 0, 0, 0] ![1, 1, 704, 1024] h (ix4 z y f k) (ix4 j 0 f k) fun a => by
    obtain rfl : z = 0 := Subsingleton.elim _ _
    obtain rfl : y = 0 := Subsingleton.elim _ _
    fin_cases a
    · rfl
    · rfl
    · exact (Nat.zero_add _).symm
    · exact (Nat.zero_add _).symm

/-- The gradient at a block of normalised rows, as the body adds it up. -/
def DB (a b : Vec Ideal S4x256x704 .bf16) (g u : Vec Ideal S4x1x704x1024 .bf16) : FVec Ideal S256x1024 .f32 :=
  k0_pay6 (k0_pay5 (la a 0 inb_S4x256x704_S1x256x704_0_0_0) (lw g 0 inb_S4x1x704x1024_S1x1x704x1024_0_0_0_0) (la b 0 inb_S4x256x704_S1x256x704_0_0_0) (lw u 0 inb_S4x1x704x1024_S1x1x704x1024_0_0_0_0)
    (la a 1 inb_S4x256x704_S1x256x704_1_0_0) (lw g 1 inb_S4x1x704x1024_S1x1x704x1024_1_0_0_0) (la b 1 inb_S4x256x704_S1x256x704_1_0_0) (lw u 1 inb_S4x1x704x1024_S1x1x704x1024_1_0_0_0))
    (la a 2 inb_S4x256x704_S1x256x704_2_0_0) (lw g 2 inb_S4x1x704x1024_S1x1x704x1024_2_0_0_0) (la b 2 inb_S4x256x704_S1x256x704_2_0_0) (lw u 2 inb_S4x1x704x1024_S1x1x704x1024_2_0_0_0)
    (la a 3 inb_S4x256x704_S1x256x704_3_0_0) (lw g 3 inb_S4x1x704x1024_S1x1x704x1024_3_0_0_0) (la b 3 inb_S4x256x704_S1x256x704_3_0_0) (lw u 3 inb_S4x1x704x1024_S1x1x704x1024_3_0_0_0)

theorem sum_shards (f : Fin 2816 → EReal) : ∑ k, f k = ∑ k : Fin 704, f (ff 0 k) + ∑ k : Fin 704, f (ff 1 k) + ∑ k : Fin 704, f (ff 2 k) + ∑ k : Fin 704, f (ff 3 k) := by
  rw [← Fin.sum_univ_four fun j : Fin 4 => ∑ k : Fin 704, f (ff j k)]
  exact (Fin.sum_mul_add_congr fun s k hl => rfl).symm

theorem DB_at (c : Dev nD) (t : Fin cfg0.N) (r : Fin 256) (q : Fin 1024) : DB (iblk m c 0 t) (iblk m c 1 t) (iblk m c 2 t) (iblk m c 3 t) (ix2 r q) = DH (a1 m c) (a2 m c) (a5 m c) (a6 m c) (ix3 0 (tt t r) q) := by
  pointwise [DB, k0_pay6, k0_pay5]
  have A0 (x : Vec Ideal S4x256x704 .bf16) (h z r f) : la x 0 h (ix3 z r f) = x (ix3 0 r f) := la_at x 0 h z r f
  have A1 (x : Vec Ideal S4x256x704 .bf16) (h z r f) : la x 1 h (ix3 z r f) = x (ix3 1 r f) := la_at x 1 h z r f
  have A2 (x : Vec Ideal S4x256x704 .bf16) (h z r f) : la x 2 h (ix3 z r f) = x (ix3 2 r f) := la_at x 2 h z r f
  have A3 (x : Vec Ideal S4x256x704 .bf16) (h z r f) : la x 3 h (ix3 z r f) = x (ix3 3 r f) := la_at x 3 h z r f
  have B0 (x : Vec Ideal S4x1x704x1024 .bf16) (h z y f q) : lw x 0 h (ix4 z y f q) = x (ix4 0 0 f q) := lw_at x 0 h z y f q
  have B1 (x : Vec Ideal S4x1x704x1024 .bf16) (h z y f q) : lw x 1 h (ix4 z y f q) = x (ix4 1 0 f q) := lw_at x 1 h z y f q
  have B2 (x : Vec Ideal S4x1x704x1024 .bf16) (h z y f q) : lw x 2 h (ix4 z y f q) = x (ix4 2 0 f q) := lw_at x 2 h z y f q
  have B3 (x : Vec Ideal S4x1x704x1024 .bf16) (h z y f q) : lw x 3 h (ix4 z y f q) = x (ix4 3 0 f q) := lw_at x 3 h z y f q
  simp only [A0, A1, A2, A3, B0, B1, B2, B3, b0, b1, b2, b3]
  rw [DH_at, sum_shards fun k => a2 m c (ix3 0 (tt t r) k) * a6 m c (ix3 0 q k), sum_shards fun k => a1 m c (ix3 0 (tt t r) k) * a5 m c (ix3 0 q k)]
  ac_rfl

theorem p1 (d : FVec Ideal S256x1024 .f32) (r : FVec Ideal S256x1 .f32) (x : FVec Ideal S256x1024 .f32) (g : FVec Ideal S1x1024 .f32) (u : FVec Ideal S256x1024 .f32) (i : Fin 256) (q : Fin 1024) :
    k0_pay2 d (k0_pay7 r) (k0_pay8 x) g u (ix2 i q) = u (ix2 i q) + r (ix2 i 0) * (d (ix2 i q) * g (ix2 0 q) - x (ix2 i q) * r (ix2 i 0) * Ideal.div (∑ k : Fin 1024, d (ix2 i k) * g (ix2 0 k) * (x (ix2 i k) * r (ix2 i 0))) WIDTH) := by
  pointwise [k0_pay2, k0_pay1, k0_pay7, k0_pay8]

theorem p3 (d : FVec Ideal S256x1024 .f32) (r : FVec Ideal S256x1 .f32) (x : FVec Ideal S256x1024 .f32) (z : Fin 1) (q : Fin 1024) :
    k0_pay3 d (k0_pay7 r) (k0_pay8 x) (ix2 z q) = ∑ i : Fin 256, d (ix2 i q) * (x (ix2 i q) * r (ix2 i 0)) := by
  pointwise [k0_pay3, k0_pay1, k0_pay7, k0_pay8]

theorem p4 (d : FVec Ideal S256x1024 .f32) (r : FVec Ideal S256x1 .f32) (x : FVec Ideal S256x1024 .f32) (s : FVec Ideal S1x1024 .f32) (y) :
    k0_pay4 d r x s y = s y + k0_pay3 d r x y := by
  idx_vars y
  pointwise [k0_pay4]

theorem fin8 (c : Dev nD) : (dats m 0 c).arrAt 8 (cfgs 0).N = fun i => KX (a0 m c (ix3 0 (i 0) (i 1))) (fun k => DH (a1 m c) (a2 m c) (a5 m c) (a6 m c) (ix3 0 (i 0) k)) (a3 m c) (a4 m c) (i 0) (i 1) := by
  refine (dats m 0 c).arrAt_eq_of_covers 8 _ (by decide +kernel) fun t _ y => ?_
  blk_simp
  rw [after0_8]
  have hp (y : S256x1024.Idx) : k0_pay2 (DB (iblk m c 0 t) (iblk m c 1 t) (iblk m c 2 t) (iblk m c 3 t)) (k0_pay7 (iblk m c 5 t)) (k0_pay8 (iblk m c 4 t)) (iblk m c 6 t) (iblk m c 7 t) y = (fun i : S2048x1024.Idx => KX (a0 m c (ix3 0 (i 0) (i 1))) (fun k => DH (a1 m c) (a2 m c) (a5 m c) (a6 m c) (ix3 0 (i 0) k)) (a3 m c) (a4 m c) (i 0) (i 1)) (((cfg0.win 8).blk t).view.emb y) := by
    idx_vars y
    rw [emb8, p1]
    show _ = KX (a0 m c (ix3 0 (tt t y0) y1)) (fun k => DH (a1 m c) (a2 m c) (a5 m c) (a6 m c) (ix3 0 (tt t y0) k)) (a3 m c) (a4 m c) (tt t y0) y1
    simp only [DB_at, b4, b5, b6, b7, KX]
  have := lt8 t
  by_cases h : t.val % 8 = 0
  · rw [outsAt0_A m c t h (by omega)]; frame_out; exact hp y
  · rw [outsAt0_B m c t h (by omega)]; frame_out; exact hp y

/-- One entry's share of the gain's gradient. -/
def KG (d x : FVec Ideal S1x2048x1024 .f32) (t : Fin 2048) (q : Fin 1024) : EReal := d (ix3 0 t q) * (x (ix3 0 t q) * Ideal.rsqrt (AS x t))

theorem p3' (c : Dev nD) (t : Fin cfg0.N) (y : S1x1024.Idx) : k0_pay3 (DB (iblk m c 0 t) (iblk m c 1 t) (iblk m c 2 t) (iblk m c 3 t)) (k0_pay7 (iblk m c 5 t)) (k0_pay8 (iblk m c 4 t)) y
    = ∑ r : Fin 256, KG (DH (a1 m c) (a2 m c) (a5 m c) (a6 m c)) (a3 m c) (tt t r) (y 1) := by
  idx_vars y
  rw [p3]
  simp only [DB_at, b4, b5]
  rfl

theorem tt_run (t : Fin cfg0.N) (s : Fin 8) (k : Fin 256) (h1 : 8 * (t.val / 8) + s.val < cfg0.N) (h2 : s.val * 256 + k.val < 2048) : tt ⟨8 * (t.val / 8) + s.val, h1⟩ k = ⟨s.val * 256 + k.val, h2⟩ := by
  apply Fin.ext
  have := lt8 t
  show (8 * (t.val / 8) + s.val) * 256 + k.val = s.val * 256 + k.val
  omega

theorem fin9 (c : Dev nD) : (dats m 0 c).arrAt 9 (cfgs 0).N = fun i => ∑ t : Fin 2048, KG (DH (a1 m c) (a2 m c) (a5 m c) (a6 m c)) (a3 m c) t (i 1) := by
  refine (dats m 0 c).arrAt_eq_of_covers 9 _ (by decide +kernel) fun t hf y => ?_
  blk_simp
  rw [after0_9, Pipeline.eq_sum_fin_of_reset_step_apply_of_flush (fun n h => (outsAt0 m c n h).2) 8 (fun _ => 0)
    (fun t y => ∑ r : Fin 256, KG (DH (a1 m c) (a2 m c) (a5 m c) (a6 m c)) (a3 m c) (tt t r) (y 1))
    (fun t h y => by
      have := lt8 t
      rw [outsAt0_A m c t h (by omega)]; frame_out; rw [zero_add]; exact p3' m c t y)
    (fun t h y => by
      rw [outsAt0_B m c t h (by omega)]; frame_out; rw [p4]; exact congrArg (HAdd.hAdd _) (p3' m c t y))
    t ((flush0_9 t).mp hf) _, zero_add]
  idx_vars y
  rw [emb9]
  refine Fin.sum_mul_add_congr fun s k hl => ?_
  rw [tt_run t s k _ hl]
  rfl

theorem res_x (c : Dev nD) (hd : ∃ f : Fin 2048 → Fin 1024 → ℝ, ∀ t q, DH (a1 m c) (a2 m c) (a5 m c) (a6 m c) (ix3 0 t q) = (f t q : EReal))
    (hx : ∃ f : S1x2048x1024.Idx → ℝ, ∀ i, a3 m c i = (f i : EReal)) (hg : ∃ f : S1x1024.Idx → ℝ, ∀ i, a4 m c i = (f i : EReal)) :
    RX (a0 m c) (DH (a1 m c) (a2 m c) (a5 m c) (a6 m c)) (a3 m c) (a4 m c) = Pipeline.afterTail₀ cfgs (dats m) 0 (V0 m) [hostOps1] c main_v37 := by
  rw [tail37, fin8]
  funext i
  idx_vars i
  obtain rfl : i0 = 0 := Subsingleton.elim _ _
  rw [RX_at _ _ _ _ hd hx hg]
  pointwise [TX]

theorem res_g (c : Dev nD) : RG (DH (a1 m c) (a2 m c) (a5 m c) (a6 m c)) (a3 m c) = (dats m 0 c).arrAt 9 (cfgs 0).N := by
  rw [fin9]
  funext i
  idx_vars i
  obtain rfl : i0 = 0 := Subsingleton.elim _ _
  rw [RG_at]
  rfl

theorem algebraic : Cert.algebraic_Kernel5Ideal_Reference5Ideal_pre_finite5 := by
  pair_intro
  · run_from Cert.Kernel5Ideal.Gen.run_main m g & Cert.Kernel5Ideal.Gen.unchanged m g
  · run_from Cert.Reference5Ideal.Value.run m' g'
    · obtain ⟨h0, h1, h2, h3, h4, h5, h6⟩ := hagree c
      obtain ⟨q1, q2, q3, q4, q5, q6⟩ := hpre c
      exact (show RX _ (DH _ _ _ _) _ _ = RX (a0 m c) (DH (a1 m c) (a2 m c) (a5 m c) (a6 m c)) (a3 m c) (a4 m c) by rw [h0, h1, h2, h3, h4, h5, h6]).trans
        (res_x m c (DH_real _ _ _ _ (Cert.Real.of_finite _ _ q1) (Cert.Real.of_finite _ _ q2) (Cert.Real.of_finite _ _ q5) (Cert.Real.of_finite _ _ q6)) (Cert.Real.of_finite _ _ q3) (Cert.Real.of_finite _ _ q4))
    · exact res_g m c

end Cert.Kernel5Ideal.Value
-- ==== Proof.FfnUp.lean ====
module

public import proofs.«01_k».proof.Defs
public import proofs.«01_k».proof.Proof.Gen.Kernel12Ideal.Frame
public import proofs.«01_k».proof.Proof.Gen.Reference12Ideal.Run
public import proofs.«01_k».proof.Proof.Act

@[expose] public section

set_option maxRecDepth 16384

noncomputable section

/-! A feed-forward block's two products, and the first under its SwiGLU gate times the second. The shards' columns lie side
by side, and each sum stands as in the reference, so nothing is asked of the arguments. -/

namespace Cert.Kernel12Ideal.Value

open Idealize.ShloMosaic Idealize.ShloMosaic.TcCoe Idealize.SL.Sem
open Cert.Real (SG)
open Cert.Kernel3Ideal.Value (TL TL_at ff ff_eq)
open Cert.Kernel12Ideal Cert.Kernel12Ideal.Gen

/-- One entry of a product with a block's weights. -/
def PR (h : FVec Ideal S1x2048x1024 .f32) (w : FVec Ideal S1x1024x2816 .f32) (t : Fin 2048) (q : Fin 2816) : EReal :=
  ∑ k : Fin 1024, h (ix3 0 t k) * w (ix3 0 k q)

/-- One entry of the gated product. -/
def GP (h : FVec Ideal S1x2048x1024 .f32) (u w : FVec Ideal S1x1024x2816 .f32) (t : Fin 2048) (q : Fin 2816) : EReal :=
  PR h u t q * SG (PR h u t q) * PR h w t q

/-- The reference's product, and its gated product. -/
def RP (h : FVec Ideal S1x2048x1024 .f32) (w : FVec Ideal S1x1024x2816 .f32) : FVec Ideal S1x2048x2816 .f32 :=
  Host.dotGeneral Cert.Reference12Ideal.dot_S1x2048x1024_S1024x2816_S1x2048x2816_2_0_01_1_n_n none h (shapeCast _ w Cert.Reference12Ideal.Gen.shapeCasts_S1x1024x2816_S1024x2816)
def RG (h : FVec Ideal S1x2048x1024 .f32) (u w : FVec Ideal S1x1024x2816 .f32) : FVec Ideal S1x2048x2816 .f32 :=
  mulf (mulf (RP h u) (Host.divf (broadcastInDim Cert.Reference12Ideal.S1x2048x2816 ![] Cert.Reference12Ideal.Gen.bcast_S_S1x2048x2816 (constant Cert.Reference12Ideal.S_ .f32 0x3F800000#32))
    (addf (broadcastInDim Cert.Reference12Ideal.S1x2048x2816 ![] Cert.Reference12Ideal.Gen.bcast_S_S1x2048x2816 (constant Cert.Reference12Ideal.S_ .f32 0x3F800000#32)) (Host.exp (Host.negf (RP h u)))))) (RP h w)

theorem RP_at (h : FVec Ideal S1x2048x1024 .f32) (w : FVec Ideal S1x1024x2816 .f32) (t : Fin 2048) (q : Fin 2816) : RP h w (ix3 0 t q) = PR h w t q := by
  pointwise [RP]
  rfl

theorem RG_at (h : FVec Ideal S1x2048x1024 .f32) (u w : FVec Ideal S1x1024x2816 .f32) (t : Fin 2048) (q : Fin 2816) : RG h u w (ix3 0 t q) = GP h u w t q := by
  pointwise [RG]
  simp only [RP_at, GP, SG, zero_sub]

variable (m : (ℓ : Loc nD τ sig) → Buf (Elt Ideal) ℓ)

abbrev hh (c : Dev nD) : FVec Ideal S1x2048x1024 .f32 := m ((c : Thread nD τ).loc main_arg0)
abbrev wg (c : Dev nD) : FVec Ideal S1x1024x2816 .f32 := m ((c : Thread nD τ).loc main_arg1)
abbrev wu (c : Dev nD) : FVec Ideal S1x1024x2816 .f32 := m ((c : Thread nD τ).loc main_arg2)

theorem arr (c : Dev nD) (w : Fin 6) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

theorem tail_a (c : Dev nD) : Pipeline.afterTail₀ cfgs (dats m) 0 (V0 m) [hostOps1] c main_v21 = TL ((dats m 0 c).arrAt 3 (cfgs 0).N) := by
  unfold Pipeline.afterTail₀
  simp only [hostOps1, List.flatten_cons, List.flatten_nil, List.append_nil, List.cons_append]
  after_results
  exact congrArg TL (arr m c 3)

theorem tail_b (c : Dev nD) : Pipeline.afterTail₀ cfgs (dats m) 0 (V0 m) [hostOps1] c main_v24 = TL ((dats m 0 c).arrAt 4 (cfgs 0).N) := by
  unfold Pipeline.afterTail₀
  simp only [hostOps1, List.flatten_cons, List.flatten_nil, List.append_nil, List.cons_append]
  after_results
  exact congrArg TL (arr m c 4)

theorem tail_s (c : Dev nD) : Pipeline.afterTail₀ cfgs (dats m) 0 (V0 m) [hostOps1] c main_v27 = TL ((dats m 0 c).arrAt 5 (cfgs 0).N) := by
  unfold Pipeline.afterTail₀
  simp only [hostOps1, List.flatten_cons, List.flatten_nil, List.append_nil, List.cons_append]
  after_results
  exact congrArg TL (arr m c 5)

theorem host_h (c : Dev nD) (t : Fin 2048) (k : Fin 1024) : V m c main_v17 (ix2 t k) = hh m c (ix3 0 t k) := by
  simp only [V, V0, hostOps0, List.flatten_cons, List.flatten_nil, List.append_nil, List.cons_append, List.nil_append]
  after_results
  pointwise

theorem host_g (c : Dev nD) (j : Fin 4) (f : Fin 704) (k : Fin 1024) : V m c main_v15 (ix4 j 0 f k) = wg m c (ix3 0 k (ff j f)) := by
  simp only [V, V0, hostOps0, List.flatten_cons, List.flatten_nil, List.append_nil, List.cons_append, List.nil_append]
  after_results
  pointwise
  after_results_simp
  pointwise [ff]

theorem host_u (c : Dev nD) (j : Fin 4) (f : Fin 704) (k : Fin 1024) : V m c main_v15 (ix4 j 1 f k) = wu m c (ix3 0 k (ff j f)) := by
  simp only [V, V0, hostOps0, List.flatten_cons, List.flatten_nil, List.append_nil, List.cons_append, List.nil_append]
  after_results
  pointwise
  after_results_simp
  pointwise [ff]

theorem idx : ∀ t : Fin cfg0.N, win0_0.index t = ![t.val % 4, 0] ∧ win0_1.index t = ![t.val / 4, 0, 0, 0] ∧ win0_2.index t = ![t.val / 4, 1, 0, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)

def jj (t : Fin cfg0.N) : Fin 4 := ⟨t.val / 4, by have : t.val < 16 := t.isLt; omega⟩
def tt (t : Fin cfg0.N) (r : Fin 512) : Fin 2048 := ⟨t.val % 4 * 512 + r.val, by have : t.val < 16 := t.isLt; omega⟩

theorem blk_h (c : Dev nD) (t : Fin cfg0.N) (r : Fin 512) (k : Fin 1024) : iblk m c 0 t (ix2 r k) = hh m c (ix3 0 (tt t r) k) := by
  unfold iblk
  rw [View.read, cast_eq]
  exact (congrArg (V m c main_v17) (by blk_ext [idx t, tt])).trans (host_h m c (tt t r) k)

theorem blk_g (c : Dev nD) (t : Fin cfg0.N) (f : Fin 704) (k : Fin 1024) : iblk m c 1 t (ix4 0 0 f k) = wg m c (ix3 0 k (ff (jj t) f)) := by
  unfold iblk
  rw [View.read, cast_eq]
  exact (congrArg (V m c main_v15) (by blk_ext [idx t, jj])).trans (host_g m c (jj t) f k)

theorem blk_u (c : Dev nD) (t : Fin cfg0.N) (f : Fin 704) (k : Fin 1024) : iblk m c 2 t (ix4 0 0 f k) = wu m c (ix3 0 k (ff (jj t) f)) := by
  unfold iblk
  rw [View.read, cast_eq]
  exact (congrArg (V m c main_v15) (by blk_ext [idx t, jj])).trans (host_u m c (jj t) f k)

theorem emb_a (t : Fin cfg0.N) (a : Fin 1) (r : Fin 512) (f : Fin 704) : ((cfg0.win 3).blk t).view.emb (ix3 a r f) = ix3 (jj t) (tt t r) f := by blk_ext [idx t, tt, jj]
theorem emb_b (t : Fin cfg0.N) (a : Fin 1) (r : Fin 512) (f : Fin 704) : ((cfg0.win 4).blk t).view.emb (ix3 a r f) = ix3 (jj t) (tt t r) f := by blk_ext [idx t, tt, jj]
theorem emb_s (t : Fin cfg0.N) (a : Fin 1) (r : Fin 512) (f : Fin 704) : ((cfg0.win 5).blk t).view.emb (ix3 a r f) = ix3 (jj t) (tt t r) f := by blk_ext [idx t, tt, jj]

theorem prod_a (c : Dev nD) (t : Fin cfg0.N) (r : Fin 512) (f : Fin 704) : k0_pay2 (iblk m c 0 t) (iblk m c 1 t) (ix2 r f) = PR (hh m c) (wg m c) (tt t r) (ff (jj t) f) := by
  pointwise [k0_pay2, k0_pay1]
  simp only [blk_h, blk_g]
  rfl

theorem prod_b (c : Dev nD) (t : Fin cfg0.N) (r : Fin 512) (f : Fin 704) : k0_pay3 (iblk m c 0 t) (iblk m c 2 t) (ix2 r f) = PR (hh m c) (wu m c) (tt t r) (ff (jj t) f) := by
  pointwise [k0_pay3, k0_pay1]
  simp only [blk_h, blk_u]
  rfl

theorem arr_a (c : Dev nD) : (dats m 0 c).arrAt 3 (cfgs 0).N = fun i => PR (hh m c) (wg m c) (i 1) (ff (i 0) (i 2)) := by
  refine (dats m 0 c).arrAt_eq_of_covers 3 _ (by decide +kernel) fun t _ y => ?_
  blk_simp
  rw [after0_3]; frame_out
  idx_vars y
  rw [emb_a]
  pointwise [k0_pay4]
  exact prod_a m c t _ _

theorem arr_b (c : Dev nD) : (dats m 0 c).arrAt 4 (cfgs 0).N = fun i => PR (hh m c) (wu m c) (i 1) (ff (i 0) (i 2)) := by
  refine (dats m 0 c).arrAt_eq_of_covers 4 _ (by decide +kernel) fun t _ y => ?_
  blk_simp
  rw [after0_4]; frame_out
  idx_vars y
  rw [emb_b]
  pointwise [k0_pay5]
  exact prod_b m c t _ _

theorem arr_s (c : Dev nD) : (dats m 0 c).arrAt 5 (cfgs 0).N = fun i => GP (hh m c) (wg m c) (wu m c) (i 1) (ff (i 0) (i 2)) := by
  refine (dats m 0 c).arrAt_eq_of_covers 5 _ (by decide +kernel) fun t _ y => ?_
  blk_simp
  rw [after0_5]; frame_out
  idx_vars y
  rw [emb_s]
  pointwise [k0_pay6]
  rw [prod_a, prod_b]
  rfl

theorem res_a (c : Dev nD) : RP (hh m c) (wg m c) = Pipeline.afterTail₀ cfgs (dats m) 0 (V0 m) [hostOps1] c main_v21 := by
  rw [tail_a, arr_a]
  funext i
  idx_vars i
  obtain rfl : i0 = 0 := Subsingleton.elim _ _
  rw [RP_at, TL_at]
  exact congrArg (PR (hh m c) (wg m c) i1) (ff_eq i2).symm

theorem res_b (c : Dev nD) : RP (hh m c) (wu m c) = Pipeline.afterTail₀ cfgs (dats m) 0 (V0 m) [hostOps1] c main_v24 := by
  rw [tail_b, arr_b]
  funext i
  idx_vars i
  obtain rfl : i0 = 0 := Subsingleton.elim _ _
  rw [RP_at, TL_at]
  exact congrArg (PR (hh m c) (wu m c) i1) (ff_eq i2).symm

theorem res_s (c : Dev nD) : RG (hh m c) (wg m c) (wu m c) = Pipeline.afterTail₀ cfgs (dats m) 0 (V0 m) [hostOps1] c main_v27 := by
  rw [tail_s, arr_s]
  funext i
  idx_vars i
  obtain rfl : i0 = 0 := Subsingleton.elim _ _
  rw [RG_at, TL_at]
  exact congrArg (GP (hh m c) (wg m c) (wu m c) i1) (ff_eq i2).symm

theorem algebraic : Cert.algebraic_Kernel12Ideal_Reference12Ideal := by
  pair_intro
  · run_from Cert.Kernel12Ideal.Gen.run_main m g & Cert.Kernel12Ideal.Gen.unchanged m g
  · run_from Cert.Reference12Ideal.Value.run m' g'
    · exact res_a m c
    · exact res_b m c
    · exact res_s m c

end Cert.Kernel12Ideal.Value
-- ==== Proof.FoxWork.lean ====
/- The four results of a working point of the forgetting attention's gradient, named by the recursion over its chunks. -/
module

public import proofs.«01_k».proof.Proof.FoxLink

@[expose] public section

set_option maxRecDepth 16384

noncomputable section

namespace Cert.Kernel7Ideal.Fox

open Cert.Kernel7Ideal Cert.Kernel7Ideal.Gen Cert.Fox
open Idealize.ShloMosaic Idealize.ShloMosaic.TcCoe Idealize.ShloMosaic.Tactic

variable (m : (ℓ : Loc nD τ sig) → Buf (Elt Ideal) ℓ)

/-- A rectangle of 256 rows of a 2048-row block, one for each chunk. -/
abbrev rq (kc : Fin 8) : Rect S2048x128 := Rect.unit ![256 * kc.val, 0] S256x128.size (fun a => by
  match a with
  | ⟨0, _⟩ => show 256 * kc.val + 256 ≤ 2048; omega
  | ⟨1, _⟩ => show 0 + 128 ≤ 128; omega)
abbrev rl (h : Fin 2) : Rect S2x2048x1 := Rect.unit ![h.val, 0, 0] S1x2048x1.size (fun a => by
  match a with
  | ⟨0, _⟩ => show h.val + 1 ≤ 2; omega
  | ⟨1, _⟩ => show 0 + 2048 ≤ 2048; omega
  | ⟨2, _⟩ => show 0 + 1 ≤ 1; omega)
abbrev rw0 : Rect S2048x128 := Rect.unit ![0, 0] S2048x128.size inb_S2048x128_S2048x128_0_0

/-- What a working point loads from its blocks. -/
def loads (c : Dev nD) (t : Fin cfg0.N) : Loads where
  q := View.readAt (Elt Ideal) (st0_0 t).view rw0.toLoadRect ((hstage0_0 ((cfg0.slots t 0).cast nbuf0_0)).unread (iblk m c 0 t))
  y := View.readAt (Elt Ideal) (st0_3 t).view rw0.toLoadRect ((hstage0_3 ((cfg0.slots t 3).cast nbuf0_3)).unread (iblk m c 3 t))
  d := View.readAt (Elt Ideal) (st0_4 t).view rw0.toLoadRect ((hstage0_4 ((cfg0.slots t 4).cast nbuf0_4)).unread (iblk m c 4 t))
  k kc := View.readAt (Elt Ideal) (st0_1 t).view (rq kc).toLoadRect ((hstage0_1 ((cfg0.slots t 1).cast nbuf0_1)).unread (iblk m c 1 t))
  v kc := View.readAt (Elt Ideal) (st0_2 t).view (rq kc).toLoadRect ((hstage0_2 ((cfg0.slots t 2).cast nbuf0_2)).unread (iblk m c 2 t))
  lse h := View.readAt (Elt Ideal) (st0_5 t).view (rl h).toLoadRect ((hstage0_5 ((cfg0.slots t 5).cast nbuf0_5)).unread (iblk m c 5 t))
  cc h := View.readAt (Elt Ideal) (st0_6 t).view (rl h).toLoadRect ((hstage0_6 ((cfg0.slots t 6).cast nbuf0_6)).unread (iblk m c 6 t))
  cr h kc := View.readAt (Elt Ideal) (st0_7 t).view (rc h kc.val kc.isLt).toLoadRect ((hstage0_7 ((cfg0.slots t 7).cast nbuf0_7)).unread (iblk m c 7 t))

abbrev view14 : View sig .tc .vmem S8x128x256 .f32 := (Memref.whole cc0_scratch0 : Memref sig .tc .vmem S8x128x256 .f32).view
abbrev view15 : View sig .tc .vmem S8x128x256 .f32 := (Memref.whole cc0_scratch1 : Memref sig .tc .vmem S8x128x256 .f32).view
abbrev view16 : View sig .tc .vmem S2x8x1x256 .f32 := (Memref.whole cc0_scratch2 : Memref sig .tc .vmem S2x8x1x256 .f32).view

/-- The keys' and the values' gradient blocks after all chunks, as the scratch buffers hold them. -/
def dk (L : Loads) : List (View.Piece (Elt Ideal) S8x128x256 .f32) := twice view14 (fun h => tp (qm L h)) (Dt L) (k0_pay314 (F := Ideal)) 8 (Nat.le_refl 8)
def dv (L : Loads) : List (View.Piece (Elt Ideal) S8x128x256 .f32) := twice view15 (fun h => tp (dm L h)) (Pt L) (k0_pay315 (F := Ideal)) 8 (Nat.le_refl 8)

/-- The rows of the kept results that a chunk's block fills. -/
abbrev rr (j : Fin 3) (n : ℕ) (e : n < 8) : Rect S3x2048x128 := Rect.unit ![j.val, 256 * n, 0] S1x256x128.size (fun a => by
  match a with
  | ⟨0, _⟩ => show j.val + 1 ≤ 3; omega
  | ⟨1, _⟩ => show 256 * n + 256 ≤ 2048; omega
  | ⟨2, _⟩ => show 0 + 128 ≤ 128; omega)

/-- The blocks of a buffer, turned and stored among the kept results. -/
def turned (j : Fin 3) (v : View sig .tc .vmem S8x128x256 .f32) (H : List (View.Piece (Elt Ideal) S8x128x256 .f32)) (T : List (View.Piece (Elt Ideal) S3x2048x128 .bf16)) : (n : ℕ) → n ≤ 8 → List (View.Piece (Elt Ideal) S3x2048x128 .bf16)
  | 0, _ => T
  | n + 1, e => ⟨rr j n e, k0_pay520 (v.readCov H (rk n e).toLoadRect)⟩ :: turned j v H T n (Nat.le_of_succ_le e)

/-- The queries' gradient of both heads, scaled, as it is kept. -/
def dq (L : Loads) : FVec Ideal S1x2048x128 .bf16 := k0_pay518 (select k0_pay312 (accQ L 0 8 (Nat.le_refl 8)) (accQ L 1 8 (Nat.le_refl 8))) k0_pay517

theorem work_row (c : Dev nD) (t : Fin cfg0.N) (h : t.val % 3 = 0) : (work m c t h).2.1 = [⟨Rect.unit ![0, 0, 0] S1x2048x128.size (by decide), k0_pay519 (accC (loads m c t) 0 8 (Nat.le_refl 8)) (accC (loads m c t) 1 8 (Nat.le_refl 8))⟩] := by
  sl_kernel_rfl

theorem work_col (c : Dev nD) (t : Fin cfg0.N) (h : t.val % 3 = 0) : (work m c t h).2.2.1 = [⟨Rect.unit ![0, 0, 0, 0] S2x8x1x256.size inb_S2x8x1x256_S2x8x1x256_0_0_0_0, view16.readCov (cols (loads m c t) view16 8 (Nat.le_refl 8)) (Rect.unit ![0, 0, 0, 0] S2x8x1x256.size inb_S2x8x1x256_S2x8x1x256_0_0_0_0).toLoadRect⟩] := by
  sl_kernel_rfl

theorem work_res (c : Dev nD) (t : Fin cfg0.N) (h : t.val % 3 = 0) : (work m c t h).2.2.2.1 = turned 2 view15 (dv (loads m c t)) (turned 1 view14 (dk (loads m c t)) [⟨Rect.unit ![0, 0, 0] S1x2048x128.size (by decide), dq (loads m c t)⟩] 8 (Nat.le_refl 8)) 8 (Nat.le_refl 8) := by
  sl_kernel_rfl

end Cert.Kernel7Ideal.Fox
-- ==== Proof.FoxPoint.lean ====
/- What a point of the forgetting attention's gradient leaves, in real numbers. -/
module

public import proofs.«01_k».proof.Proof.FoxWork
public import proofs.«01_k».proof.Proof.FoxReal

@[expose] public section

set_option maxRecDepth 16384

noncomputable section

namespace Cert.Kernel7Ideal.Fox

open Cert.Kernel7Ideal Cert.Kernel7Ideal.Gen Cert.Fox
open Idealize.ShloMosaic Idealize.ShloMosaic.TcCoe Idealize.ShloMosaic.Tactic

variable (m : (ℓ : Loc nD τ sig) → Buf (Elt Ideal) ℓ)

theorem rr_disj (j j' : Fin 3) (n k : ℕ) (en : n < 8) (ek : k < 8) (e : j ≠ j' ∨ n ≠ k) : LoadRect.disj (rr j n en) (rr j' k ek).toLoadRect = true := by
  rcases e with e | e
  · refine decide_eq_true ⟨0, Or.inr (Or.inr ?_)⟩
    have : j.val ≠ j'.val := fun q => e (Fin.ext q)
    show j.val + 1 * (1 - 1) < j'.val ∨ j'.val + 1 * (1 - 1) < j.val
    omega
  · refine decide_eq_true ⟨1, Or.inr (Or.inr ?_)⟩
    show 256 * n + 1 * (256 - 1) < 256 * k ∨ 256 * k + 1 * (256 - 1) < 256 * n
    omega

/-- A chunk's rows of a kept result, where that result's blocks were stored. -/
theorem turned_same (j : Fin 3) (v : View sig .tc .vmem S8x128x256 .f32) (H : List (View.Piece (Elt Ideal) S8x128x256 .f32)) (T : List (View.Piece (Elt Ideal) S3x2048x128 .bf16)) (k : ℕ) (ek : k < 8) :
    ∀ (n : ℕ) (e : n ≤ 8), k < n → view17.readCov (turned j v H T n e) (rr j k ek).toLoadRect = k0_pay520 (F := Ideal) (v.readCov H (rk k ek).toLoadRect)
  | 0, _, h => absurd h (Nat.not_lt_zero k)
  | n + 1, e, h => by
    unfold turned
    by_cases hk : k = n
    · subst hk
      exact View.readCov_cons_toLoadRect view17 (rr j k e) _ _
    · rw [View.readCov_skip view17 _ _ _ _ (rr_disj j j n k e ek (Or.inr fun q => hk q.symm))]
      exact turned_same j v H T k ek n (Nat.le_of_succ_le e) (by omega)

/-- The other results' rows are as they were. -/
theorem turned_other (j j' : Fin 3) (hj : j ≠ j') (v : View sig .tc .vmem S8x128x256 .f32) (H : List (View.Piece (Elt Ideal) S8x128x256 .f32)) (T : List (View.Piece (Elt Ideal) S3x2048x128 .bf16)) (k : ℕ) (ek : k < 8) :
    ∀ (n : ℕ) (e : n ≤ 8), view17.readCov (turned j v H T n e) (rr j' k ek).toLoadRect = view17.readCov T (rr j' k ek).toLoadRect
  | 0, _ => rfl
  | n + 1, e => by
    unfold turned
    rw [View.readCov_skip view17 _ _ _ _ (rr_disj j j' n k e ek (Or.inl hj))]
    exact turned_other j j' hj v H T k ek n (Nat.le_of_succ_le e)

theorem eighth : Ideal.ofBits .f32 0x3E000000#32 = ((1 / 8 : ℝ) : EReal) := by
  simp [Ideal.ofBits, Ideal.ieee]
  rw [← EReal.coe_mul]; norm_num

/-- A row of the kept results, in the chunk it lies in. -/
theorem res_chunk (c : Dev nD) (t : Fin cfg0.N) (h : t.val % 3 = 0) (j : Fin 3) (k : ℕ) (ek : k < 8) (s : Fin 256) (d : Fin 128) :
    res m c t h (ix3 j ⟨256 * k + s.val, by omega⟩ d) = view17.readCov (work m c t h).2.2.2.1 (rr j k ek).toLoadRect (ix3 0 s d) := by
  unfold res
  rw [View.read_writes_junk_eq_canon, View.readCov_eq_canon']
  refine congrArg _ (funext fun a => Fin.ext ?_)
  match a with
  | ⟨0, _⟩ => show j.val = j.val + 1 * 0; omega
  | ⟨1, _⟩ => show 256 * k + s.val = 256 * k + 1 * s.val; omega
  | ⟨2, _⟩ => show d.val = 0 + 1 * d.val; omega

/-- The head a lane belongs to. -/
def hd (d : ℕ) : Fin 2 := if d / 64 = 0 then 0 else 1

theorem on_hd (g : ℕ → ℕ → ℝ) (w : Fin 2 → ℕ → ℝ) (d : Fin 128) :
    0 + ∑ t ∈ Finset.range 2048, Fns.on 0 g t d * w 0 t + ∑ t ∈ Finset.range 2048, Fns.on 1 g t d * w 1 t = ∑ t ∈ Finset.range 2048, g t d * w (hd d) t := by
  rw [zero_add, ← Finset.sum_add_distrib]
  refine Finset.sum_congr rfl fun t _ => ?_
  unfold Fns.on hd
  by_cases e : d.val / 64 = 0
  · simp [e]
  · have e1 : d.val / 64 = 1 := by omega
    simp [e1]

/-- A block, turned, reads the other way round. -/
theorem turn_at (x : FVec Ideal S1x128x256 .f32) (s : Fin 256) (d : Fin 128) : k0_pay520 (F := Ideal) x (ix3 0 s d) = x (ix3 0 d s) := by
  pointwise [k0_pay520]

/-- The column results as they are stored, at their two lanes. -/
theorem lane_at (x y : FVec Ideal S2048x1 .f32) (l : Fin 2) (r : Fin 2048) : k0_pay519 (F := Ideal) x y (ix3 0 r ⟨l.val, by omega⟩) = (if l = 0 then x else y) (ix2 r 0) := by
  match l with
  | ⟨0, _⟩ => pointwise [k0_pay519]
  | ⟨1, _⟩ =>
    pointwise [k0_pay519]
    rfl

variable {m} {c : Dev nD} {t : Fin cfg0.N} (h : t.val % 3 = 0) {f : Fns} (hL : Of (loads m c t) f)
include hL

theorem res_v (r : Fin 2048) (d : Fin 128) : res m c t h (ix3 2 r d) = ((∑ t ∈ Finset.range 2048, f.d t d * f.P (hd d) t r : ℝ) : EReal) := by
  have hr : r = ⟨256 * (r.val / 256) + r.val % 256, by omega⟩ := Fin.ext (Nat.div_add_mod r.val 256).symm
  have ek : r.val / 256 < 8 := by omega
  have e := res_chunk m c t h 2 (r.val / 256) ek ⟨r.val % 256, Nat.mod_lt _ (by decide)⟩ d
  rw [← hr] at e
  rw [e, work_res, turned_same 2 view15 _ _ (r.val / 256) ek 8 (Nat.le_refl 8) ek]
  have z : ∀ i, (k0_pay315 (F := Ideal)) i = 0 := fun _ => Ideal.ofBits_zero_f32
  have b := twice_is view15 (fun h => tp (dm (loads m c t) h)) (Pt (loads m c t)) (k0_pay315 (F := Ideal)) (fun h => Fns.on h f.d) f.P (fun h => tp_is _ _ (dm_is hL h)) (Pt_is hL) f.P_late z (r.val / 256) ek d ⟨r.val % 256, Nat.mod_lt _ (by decide)⟩ 8 (Nat.le_refl 8)
  rw [if_pos ek] at b
  simp only [Nat.div_add_mod] at b
  rw [on_hd f.d (fun h t => f.P h t r) d] at b
  rw [← b]
  exact turn_at _ _ _

theorem res_k (r : Fin 2048) (d : Fin 128) : res m c t h (ix3 1 r d) = ((∑ t ∈ Finset.range 2048, f.q t d * f.D (hd d) t r : ℝ) : EReal) := by
  have hr : r = ⟨256 * (r.val / 256) + r.val % 256, by omega⟩ := Fin.ext (Nat.div_add_mod r.val 256).symm
  have ek : r.val / 256 < 8 := by omega
  have e := res_chunk m c t h 1 (r.val / 256) ek ⟨r.val % 256, Nat.mod_lt _ (by decide)⟩ d
  rw [← hr] at e
  rw [e, work_res, turned_other 2 1 (by decide), turned_same 1 view14 _ _ (r.val / 256) ek 8 (Nat.le_refl 8) ek]
  have z : ∀ i, (k0_pay314 (F := Ideal)) i = 0 := fun _ => Ideal.ofBits_zero_f32
  have b := twice_is view14 (fun h => tp (qm (loads m c t) h)) (Dt (loads m c t)) (k0_pay314 (F := Ideal)) (fun h => Fns.on h f.q) f.D (fun h => tp_is _ _ (qm_is hL h)) (Dt_is hL) f.D_late z (r.val / 256) ek d ⟨r.val % 256, Nat.mod_lt _ (by decide)⟩ 8 (Nat.le_refl 8)
  rw [if_pos ek] at b
  simp only [Nat.div_add_mod] at b
  rw [on_hd f.q (fun h t => f.D h t r) d] at b
  rw [← b]
  exact turn_at _ _ _

theorem res_q (r : Fin 2048) (d : Fin 128) : res m c t h (ix3 0 r d) = (((∑ s ∈ Finset.range 2048, f.D (hd d) r s * f.k s d) * (1 / 8) : ℝ) : EReal) := by
  have hr : r = ⟨256 * (r.val / 256) + r.val % 256, by omega⟩ := Fin.ext (Nat.div_add_mod r.val 256).symm
  have ek : r.val / 256 < 8 := by omega
  have e := res_chunk m c t h 0 (r.val / 256) ek ⟨r.val % 256, Nat.mod_lt _ (by decide)⟩ d
  rw [← hr] at e
  rw [e, work_res, turned_other 2 0 (by decide), turned_other 1 0 (by decide), View.readCov_eq_canon']
  have hi : (rr 0 (r.val / 256) ek).toLoadRect.idx (ix3 0 ⟨r.val % 256, Nat.mod_lt _ (by decide)⟩ d) = (Rect.unit (s := S3x2048x128) ![0, 0, 0] S1x2048x128.size (by decide)).emb (ix3 0 r d) := by
    refine funext fun a => Fin.ext ?_
    match a with
    | ⟨0, _⟩ => rfl
    | ⟨1, _⟩ => show 256 * (r.val / 256) + 1 * (r.val % 256) = 0 + 1 * r.val; omega
    | ⟨2, _⟩ => rfl
  refine (congrArg (View.canon _) hi).trans ((View.canon_cons_emb _ _ _ _).trans ?_)
  have q0 := accQ_is hL 0 8 (Nat.le_refl 8) r d
  have q1 := accQ_is hL 1 8 (Nat.le_refl 8) r d
  rw [zero_add] at q0 q1
  have e0 : k0_pay312 (ix2 r d) = BitVec.ofBool (decide (d.val / 64 = (0 : Fin 2).val)) := lanes_at 0 r d
  have : dq (loads m c t) (ix3 0 r d) = Scalar.select (k0_pay312 (ix2 r d)) (accQ (loads m c t) 0 8 (Nat.le_refl 8) (ix2 r d)) (accQ (loads m c t) 1 8 (Nat.le_refl 8) (ix2 r d)) * Ideal.ofBits .f32 0x3E000000#32 := by
    unfold dq
    pointwise [k0_pay518, k0_pay517]
  refine this.trans ?_
  rw [e0, q0, q1, eighth]
  unfold hd
  by_cases c0 : d.val / 64 = 0
  · simp [c0, Scalar.select]
  · simp [c0, Scalar.select]

theorem dcc_is (l : Fin 2) (r : Fin 2048) : dcc m c t h (ix3 0 r ⟨l.val, by omega⟩) = ((∑ s ∈ Finset.range 2048, f.D l r s : ℝ) : EReal) := by
  unfold dcc
  rw [View.read_writes_junk_eq_canon, work_row]
  refine (congrFun (View.canon_cons_unit_lit (Val := Elt Ideal) (e := .f32) (S := S1x2048x128) (off := ![0, 0, 0]) (by decide) _ [] (by decide)) _).trans ?_
  have q := accC_is hL l 8 (Nat.le_refl 8) r 0
  rw [zero_add] at q
  refine (lane_at _ _ l r).trans (Eq.trans ?_ q)
  have : ∀ l : Fin 2, (if l = 0 then accC (loads m c t) 0 8 (Nat.le_refl 8) else accC (loads m c t) 1 8 (Nat.le_refl 8)) = accC (loads m c t) l 8 (Nat.le_refl 8) := by
    intro l
    by_cases e : l = 0
    · rw [e, if_pos rfl]
    · rw [if_neg e, Fin.eq_one_of_ne_zero l e]
  exact congrFun (this l) _

theorem dcr_is (l : Fin 2) (kc : Fin 8) (s : Fin 256) : dcr m c t h (ix4 l kc 0 s) = ((0 - ∑ t ∈ Finset.range 2048, f.D l t (256 * kc.val + s.val) : ℝ) : EReal) := by
  unfold dcr
  rw [View.read_writes_junk_eq_canon, work_col]
  refine (congrFun (View.canon_cons_unit_lit (Val := Elt Ideal) (e := .f32) (S := S2x8x1x256) (off := ![0, 0, 0, 0]) (by decide) _ [] (by decide)) _).trans ?_
  have q := cols_is hL view16 l kc.val kc.isLt s 8 (Nat.le_refl 8)
  rw [if_pos kc.isLt] at q
  refine Eq.trans ?_ q
  rw [View.readCov_eq_canon', View.readCov_eq_canon']
  refine congrArg _ (funext fun a => Fin.ext ?_)
  match a with
  | ⟨0, _⟩ => show 0 + 1 * l.val = l.val + 1 * 0; omega
  | ⟨1, _⟩ => show 0 + 1 * kc.val = kc.val + 1 * 0; omega
  | ⟨2, _⟩ => rfl
  | ⟨3, _⟩ => rfl

end Cert.Kernel7Ideal.Fox
-- ==== Proof.FoxOut.lean ====
/- What every point of the forgetting attention's gradient leaves: a working point's results, and later points' share of them. -/
module

public import proofs.«01_k».proof.Proof.FoxPoint
public import Idealize.ShloMosaic.Lib.WholeRead

@[expose] public section

set_option maxRecDepth 16384

noncomputable section

namespace Cert.Kernel7Ideal.Fox

open Cert.Kernel7Ideal Cert.Kernel7Ideal.Gen Cert.Fox
open Idealize.ShloMosaic Idealize.ShloMosaic.TcCoe Idealize.ShloMosaic.Tactic
open Idealize.ShloMosaic.Pipeline (Dat)

variable (m : (ℓ : Loc nD τ sig) → Buf (Elt Ideal) ℓ)

theorem lt12 (t : Fin cfg0.N) : t.val < 12 := t.isLt

/-- The kept result that a point stores. -/
def jj (t : Fin cfg0.N) : Fin 3 := ⟨t.val % 3, Nat.mod_lt _ (by decide)⟩

/-- The rectangle a point reads among the kept results. -/
abbrev rs (t : Fin cfg0.N) : Rect S3x2048x128 := Rect.unit (k0_off18 (grid0.coords t)) S1x2048x128.size (k0_off18_inb (grid0.coords t))

theorem rs_off : ∀ t : Fin cfg0.N, k0_off18 (grid0.coords t) = ![t.val % 3, 0, 0] := (by decide +kernel : ∀ t : Fin grid0.N, _)

theorem rs_idx (t : Fin cfg0.N) (r : Fin 2048) (d : Fin 128) : (rs t).toLoadRect.idx (ix3 0 r d) = ix3 (jj t) r d := by
  funext a
  apply Fin.ext
  have e := rs_off t
  match a with
  | ⟨0, _⟩ => show k0_off18 (grid0.coords t) 0 + 1 * 0 = t.val % 3; rw [e]; rfl
  | ⟨1, _⟩ => show k0_off18 (grid0.coords t) 1 + 1 * r.val = r.val; rw [e]; show 0 + 1 * r.val = r.val; omega
  | ⟨2, _⟩ => show k0_off18 (grid0.coords t) 2 + 1 * d.val = d.val; rw [e]; show 0 + 1 * d.val = d.val; omega

theorem work_out (c : Dev nD) (t : Fin cfg0.N) (h : t.val % 3 = 0) : (work m c t h).1 = [⟨rw0, k0_pay1 (F := Ideal) (view17.readCov (work m c t h).2.2.2.1 (rs t).toLoadRect)⟩] := by
  sl_kernel_rfl

theorem hand_out (c : Dev nD) (t : Fin cfg0.N) (h : ¬t.val % 3 = 0) (x : Vec Ideal S3x2048x128 .bf16) :
    (hand (F := Ideal) c t h x).1 = [⟨rw0, k0_pay1 (F := Ideal) (View.readAt (Elt Ideal) view17 (rs t).toLoadRect ((Memref.isWhole_whole cc0_scratch3).unread x))⟩] := by
  sl_kernel_rfl

theorem pay1_at (x : FVec Ideal S1x2048x128 .bf16) (r : Fin 2048) (d : Fin 128) : k0_pay1 (F := Ideal) x (ix2 r d) = x (ix3 0 r d) := by
  pointwise [k0_pay1]

theorem out_of (L) (x : FVec Ideal S1x2048x128 .bf16) (hl : L = [⟨rw0, k0_pay1 (F := Ideal) x⟩]) (r : Fin 2048) (d : Fin 128) :
    view11.read (Elt Ideal) (view11.writes (Elt Ideal) view11.junk L) (ix2 r d) = x (ix3 0 r d) := by
  rw [View.read_writes_junk_eq_canon, hl]
  exact (congrFun (View.canon_cons_unit_lit (Val := Elt Ideal) (e := .bf16) (S := S2048x128) (off := ![0, 0]) (by decide) _ [] (by decide)) _).trans (pay1_at x r d)

theorem kept_of (H : List (View.Piece (Elt Ideal) S3x2048x128 .bf16)) (t : Fin cfg0.N) (r : Fin 2048) (d : Fin 128) :
    view17.readCov H (rs t).toLoadRect (ix3 0 r d) = view17.read (Elt Ideal) (view17.writes (Elt Ideal) view17.junk H) (ix3 (jj t) r d) := by
  rw [View.readCov_eq_canon', View.read_writes_junk_eq_canon]
  exact congrArg (View.canon H) (rs_idx t r d)

/-- Every point stores its kept result's block. -/
theorem outAt_eq (c : Dev nD) (t : Fin cfg0.N) (r : Fin 2048) (d : Fin 128) : outAt m c t (ix2 r d) = resAt m c t (ix3 (jj t) r d) := by
  unfold outAt
  by_cases h : t.val % 3 = 0
  · rw [dif_pos h, resAt_work m c t h]
    exact (out_of _ _ (work_out m c t h) r d).trans (kept_of _ t r d)
  · rw [dif_neg h]
    unfold later
    rw [out_of _ _ (hand_out c t h _)]
    exact (Memref.IsWhole.readAt_unread (Memref.isWhole_whole cc0_scratch3) _ _ _).trans (congrArg _ (rs_idx t r d))

theorem idx : ∀ t : Fin cfg0.N, win0_0.index t = ![0, 12 + t.val / 3] ∧ win0_1.index t = ![0, 16 + t.val / 3] ∧ win0_2.index t = ![0, 20 + t.val / 3] ∧ win0_3.index t = ![0, t.val / 3]
    ∧ win0_4.index t = ![0, t.val / 3] ∧ win0_5.index t = ![t.val / 3, 0, 0] ∧ win0_6.index t = ![t.val / 3, 0, 0] ∧ win0_7.index t = ![t.val / 3, 0, 0, 0]
    ∧ win0_8.index t = ![0, 12 + 4 * (t.val % 3) + t.val / 3] ∧ win0_9.index t = ![t.val / 3, 0, 0] ∧ win0_10.index t = ![t.val / 3, 0, 0, 0] :=
  (by decide +kernel : ∀ t : Fin grid0.N, _)

end Cert.Kernel7Ideal.Fox
-- ==== Proof.FoxIn.lean ====
/- The forgetting attention's gradient: what the host hands to the kernel, and what stands in the kernel's three arrays. -/
module

public import proofs.«01_k».proof.Proof.FoxOut
public import proofs.«01_k».proof.Proof.FoxHost

@[expose] public section

set_option maxRecDepth 16384

noncomputable section

namespace Cert.Kernel7Ideal.Value

open Cert.Kernel7Ideal Cert.Kernel7Ideal.Gen Cert.Kernel7Ideal.Fox
open Cert.Reference7Ideal.Value (ln HD MG LG MX SR EX PR HD_at MG_at SR_at Vals Are)
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S1x2048x512 .f32 := m ((c : Thread nD τ).loc main_arg0)
abbrev a1 (c : Dev nD) : FVec Ideal S1x2048x512 .f32 := m ((c : Thread nD τ).loc main_arg1)
abbrev a2 (c : Dev nD) : FVec Ideal S1x2048x512 .f32 := m ((c : Thread nD τ).loc main_arg2)
abbrev a3 (c : Dev nD) : FVec Ideal S1x8x2048 .f32 := m ((c : Thread nD τ).loc main_arg3)
abbrev a4 (c : Dev nD) : FVec Ideal S1x2048x512 .f32 := m ((c : Thread nD τ).loc main_arg4)

/-! ## What the host hands to the kernel -/

def q3 (j : Fin 512) : Fin 3072 := ⟨1536 + j.val, by omega⟩
def k3 (j : Fin 512) : Fin 3072 := ⟨2048 + j.val, by omega⟩
def v3 (j : Fin 512) : Fin 3072 := ⟨2560 + j.val, by omega⟩

abbrev RW (x : FVec Ideal S1x2048x512 .f32) : FVec Ideal S2048x512 .f32 := shapeCast _ x shapeCasts_S1x2048x512_S2048x512
def QKV (q k v : FVec Ideal S1x2048x512 .f32) : FVec Ideal S2048x3072 .f32 :=
  concatenate S2048x3072 1 [⟨S2048x1536, broadcastInDim S2048x1536 ![] bcast_S_S2048x1536 (constant S_ .f32 0x00000000#32)⟩, ⟨S2048x512, mulf (RW q) (broadcastInDim S2048x512 ![] bcast_S_S2048x512 (constant S_ .f32 0x3E000000#32))⟩, ⟨S2048x512, RW k⟩, ⟨S2048x512, RW v⟩] concatenates_S2048x1536_S2048x512_S2048x512_S2048x512_S2048x3072_d1

theorem v47 (c : Dev nD) : V m c main_v47 = truncf .bf16 (QKV (a0 m c) (a1 m c) (a2 m c)) bitsLt_bf16_f32 := by
  simp only [V, V0, hostOps0, hostOps0_1, hostOps0_2, List.flatten_cons, List.flatten_nil, List.append_nil, List.cons_append, List.nil_append]
  after_results
  rfl

theorem QKV_q (q k v) (t : Fin 2048) (j : Fin 512) : QKV q k v (ix2 t (q3 j)) = q (ix3 0 t j) * Ideal.ofBits .f32 0x3E000000#32 := by
  unfold QKV
  pointwise [q3]
theorem QKV_k (q k v) (t : Fin 2048) (j : Fin 512) : QKV q k v (ix2 t (k3 j)) = k (ix3 0 t j) := by
  unfold QKV
  pointwise [k3]
  rw [dif_neg (by omega), dif_neg (by omega), dif_pos (by omega)]
  exact congrArg (fun x => k (ix3 0 t x)) (Fin.ext (show 2048 + j.val - 1536 - 512 = j.val by omega))
theorem QKV_v (q k v) (t : Fin 2048) (j : Fin 512) : QKV q k v (ix2 t (v3 j)) = v (ix3 0 t j) := by
  unfold QKV
  pointwise [v3]
  rw [dif_neg (by omega), dif_neg (by omega), dif_neg (by omega)]
  exact congrArg (fun x => v (ix3 0 t x)) (Fin.ext (show 2560 + j.val - 1536 - 512 - 512 = j.val by omega))

theorem v50 (c : Dev nD) (t : Fin 2048) (j : Fin 512) : V m c main_v50 (ix2 t j) = a4 m c (ix3 0 t j) := by
  simp only [V, V0, hostOps0, hostOps0_1, hostOps0_2, List.flatten_cons, List.flatten_nil, List.append_nil, List.cons_append, List.nil_append]
  after_results
  pointwise

theorem v51 (c : Dev nD) (h : Fin 8) (t : Fin 2048) : V m c main_v51 (ix3 h t 0) = a3 m c (ix3 0 h t) := by
  simp only [V, V0, hostOps0, hostOps0_1, hostOps0_2, List.flatten_cons, List.flatten_nil, List.append_nil, List.cons_append, List.nil_append]
  after_results
  pointwise

theorem v52 (c : Dev nD) (h kc : Fin 8) (s : Fin 256) : V m c main_v52 (ix4 h kc 0 s) = a3 m c (ix3 0 h ⟨kc.val * 256 + s.val, by omega⟩) := by
  simp only [V, V0, hostOps0, hostOps0_1, hostOps0_2, List.flatten_cons, List.flatten_nil, List.append_nil, List.cons_append, List.nil_append]
  after_results
  pointwise

/-- The logits' exponentials as the host takes them. -/
abbrev ex (c : Dev nD) := EX (LG (a0 m c) (a1 m c) (a3 m c)) (MX (LG (a0 m c) (a1 m c) (a3 m c)))

def LS (x y : FVec Ideal S1x8x2048 .f32) : FVec Ideal S8x2048x1 .f32 := shapeCast _ (addf (broadcastInDim S1x8x2048x1 ![0, 1, 2] bcast_S1x8x2048_S1x8x2048x1_0_1_2 x) (Host.log (broadcastInDim S1x8x2048x1 ![0, 1, 2] bcast_S1x8x2048_S1x8x2048x1_0_1_2 y))) shapeCasts_S1x8x2048x1_S8x2048x1
def OT (e : FVec Ideal S1x8x2048x2048 .f32) (v : FVec Ideal S1x8x2048x64 .f32) : FVec Ideal S1x8x2048x64 .f32 := Host.dotGeneral dot_S1x8x2048x2048_S1x8x2048x64_S1x8x2048x64_3_2_2_3_01_01 none e v

theorem LS_at (x y) (h : Fin 8) (t : Fin 2048) : LS x y (ix3 h t 0) = x (ix3 0 h t) + Ideal.log (y (ix3 0 h t)) := by
  pointwise [LS]
theorem OT_at (e v) (h : Fin 8) (t : Fin 2048) (j : Fin 64) : OT e v (ix4 0 h t j) = ∑ s : Fin 2048, e (ix4 0 h t s) * v (ix4 0 h s j) := by
  pointwise [OT]
theorem RW_at (x) (t : Fin 2048) (j : Fin 512) : RW x (ix2 t j) = x (ix3 0 t j) := by
  pointwise [RW]

theorem v36 (c : Dev nD) : V m c main_v36 = truncf .bf16 (RW (MG (OT (PR (ex m c)) (HD (a2 m c))))) bitsLt_bf16_f32 := by
  simp only [V, V0, hostOps0, hostOps0_1, hostOps0_2, List.flatten_cons, List.flatten_nil, List.append_nil, List.cons_append, List.nil_append]
  after_results
  rfl

theorem v39 (c : Dev nD) : V m c main_v39 = LS (MX (LG (a0 m c) (a1 m c) (a3 m c))) (SR (ex m c)) := by
  simp only [V, V0, hostOps0, hostOps0_1, hostOps0_2, List.flatten_cons, List.flatten_nil, List.append_nil, List.cons_append, List.nil_append]
  after_results
  rfl

theorem v36_at (c : Dev nD) (t : Fin 2048) (h : Fin 8) (j : Fin 64) : V m c main_v36 (ix2 t (ln h j)) = ∑ s : Fin 2048, PR (ex m c) (ix4 0 h t s) * a2 m c (ix3 0 s (ln h j)) :=
  (congrFun (v36 m c) _).trans <| (RW_at _ t _).trans <| (MG_at _ t h j).trans <| (OT_at _ _ h t j).trans <|
    Finset.sum_congr rfl fun s _ => congrArg (PR (ex m c) (ix4 0 h t s) * ·) (HD_at (a2 m c) h s j)

/-! ## A working point's blocks, in real numbers -/

/-- Numbers at natural places, zero off the array. -/
def at2 {a b : ℕ} (g : Fin a → Fin b → ℝ) (i j : ℕ) : ℝ := if h : i < a ∧ j < b then g ⟨i, h.1⟩ ⟨j, h.2⟩ else 0
def at1 {a : ℕ} (g : Fin a → ℝ) (i : ℕ) : ℝ := if h : i < a then g ⟨i, h⟩ else 0
theorem at2_fin {a b : ℕ} (g : Fin a → Fin b → ℝ) (i : Fin a) (j : Fin b) : at2 g i.val j.val = g i j := dif_pos ⟨i.isLt, j.isLt⟩
theorem at1_fin {a : ℕ} (g : Fin a → ℝ) (i : Fin a) : at1 g i.val = g i := dif_pos i.isLt

/-- A pair's heads and lanes. -/
def hp (p : Fin 4) (l : Fin 2) : Fin 8 := ⟨p.val * 2 + l.val, by omega⟩
def lp (p : Fin 4) (d : Fin 128) : Fin 512 := ⟨p.val * 128 + d.val, by omega⟩
/-- A lane's head in the pair, and the lane within the head. -/
def hl (d : Fin 128) : Fin 2 := ⟨d.val / 64, by omega⟩
def ll (d : Fin 128) : Fin 64 := ⟨d.val % 64, Nat.mod_lt _ (by decide)⟩
theorem lp_eq (p : Fin 4) (d : Fin 128) : lp p d = ln (hp p (hl d)) (ll d) := Fin.ext (show p.val * 128 + d.val = (p.val * 2 + d.val / 64) * 64 + d.val % 64 by omega)

variable (g : Vals)

/-- The attention's output and the logarithm of its rows' totals. -/
def Y (h : Fin 8) (t : Fin 2048) (j : Fin 64) : ℝ := ∑ s, g.P h t s * g.v s (ln h j)
def L (h : Fin 8) (t : Fin 2048) : ℝ := g.M h t + Real.log (g.T h t)

def fns (p : Fin 4) : Cert.Fox.Fns where
  q := at2 fun t d => g.q t (lp p d) * (1 / 8)
  k := at2 fun t d => g.k t (lp p d)
  v := at2 fun t d => g.v t (lp p d)
  y := at2 fun t d => Y g (hp p (hl d)) t (ll d)
  d := at2 fun t d => g.d t (lp p d)
  lse l := at1 (L g (hp p l))
  cc l := at1 (g.c (hp p l))
  cr l := at1 (g.c (hp p l))

/-- A point's pair of heads. -/
def pp (t : Fin cfg0.N) : Fin 4 := ⟨t.val / 3, by have := lt12 t; omega⟩

theorem b0 (c : Dev nD) (t : Fin cfg0.N) (r : Fin 2048) (d : Fin 128) : iblk m c 0 t (ix2 r d) = a0 m c (ix3 0 r (lp (pp t) d)) * Ideal.ofBits .f32 0x3E000000#32 := by
  unfold iblk
  rw [View.read, cast_eq]
  refine (congrArg (V m c main_v47) (by blk_ext [idx t, q3, lp, pp] : _ = ix2 r (q3 (lp (pp t) d)))).trans ?_
  rw [v47]
  exact QKV_q _ _ _ r _

theorem b1 (c : Dev nD) (t : Fin cfg0.N) (r : Fin 2048) (d : Fin 128) : iblk m c 1 t (ix2 r d) = a1 m c (ix3 0 r (lp (pp t) d)) := by
  unfold iblk
  rw [View.read, cast_eq]
  refine (congrArg (V m c main_v47) (by blk_ext [idx t, k3, lp, pp] : _ = ix2 r (k3 (lp (pp t) d)))).trans ?_
  rw [v47]
  exact QKV_k _ _ _ r _

theorem b2 (c : Dev nD) (t : Fin cfg0.N) (r : Fin 2048) (d : Fin 128) : iblk m c 2 t (ix2 r d) = a2 m c (ix3 0 r (lp (pp t) d)) := by
  unfold iblk
  rw [View.read, cast_eq]
  refine (congrArg (V m c main_v47) (by blk_ext [idx t, v3, lp, pp] : _ = ix2 r (v3 (lp (pp t) d)))).trans ?_
  rw [v47]
  exact QKV_v _ _ _ r _

theorem b3 (c : Dev nD) (t : Fin cfg0.N) (r : Fin 2048) (d : Fin 128) : iblk m c 3 t (ix2 r d) = V m c main_v36 (ix2 r (ln (hp (pp t) (hl d)) (ll d))) := by
  unfold iblk
  rw [View.read, cast_eq, ← lp_eq]
  exact congrArg (V m c main_v36) (by blk_ext [idx t, lp, pp])

theorem b4 (c : Dev nD) (t : Fin cfg0.N) (r : Fin 2048) (d : Fin 128) : iblk m c 4 t (ix2 r d) = a4 m c (ix3 0 r (lp (pp t) d)) := by
  unfold iblk
  rw [View.read, cast_eq]
  exact (congrArg (V m c main_v50) (by blk_ext [idx t, lp, pp])).trans (v50 m c r (lp (pp t) d))

theorem b5 (c : Dev nD) (t : Fin cfg0.N) (l : Fin 2) (r : Fin 2048) : iblk m c 5 t (ix3 l r 0) = V m c main_v39 (ix3 (hp (pp t) l) r 0) := by
  unfold iblk
  rw [View.read, cast_eq]
  exact congrArg (V m c main_v39) (by blk_ext [idx t, hp, pp])

theorem b6 (c : Dev nD) (t : Fin cfg0.N) (l : Fin 2) (r : Fin 2048) : iblk m c 6 t (ix3 l r 0) = a3 m c (ix3 0 (hp (pp t) l) r) := by
  unfold iblk
  rw [View.read, cast_eq]
  exact (congrArg (V m c main_v51) (by blk_ext [idx t, hp, pp])).trans (v51 m c (hp (pp t) l) r)

theorem b7 (c : Dev nD) (t : Fin cfg0.N) (l : Fin 2) (kc : Fin 8) (s : Fin 256) : iblk m c 7 t (ix4 l kc 0 s) = a3 m c (ix3 0 (hp (pp t) l) ⟨kc.val * 256 + s.val, by omega⟩) := by
  unfold iblk
  rw [View.read, cast_eq]
  exact (congrArg (V m c main_v52) (by blk_ext [idx t, hp, pp])).trans (v52 m c (hp (pp t) l) kc s)

/-! ## The two gradients' numbers -/

/-- A lane of a head, in the pair. -/
def hj (l : Fin 2) (j : Fin 64) : Fin 128 := ⟨l.val * 64 + j.val, by omega⟩
theorem lp_hj (p : Fin 4) (l : Fin 2) (j : Fin 64) : lp p (hj l j) = ln (hp p l) j := Fin.ext (by simp only [lp, hj, ln, hp]; omega)
theorem hl_hj (l : Fin 2) (j : Fin 64) : hl (hj l j) = l := Fin.ext (by simp only [hl, hj]; omega)
theorem ll_hj (l : Fin 2) (j : Fin 64) : ll (hj l j) = j := Fin.ext (by simp only [ll, hj]; omega)

theorem sum_head (l : Fin 2) (F : Fin 128 → ℝ) : ∑ d : Fin 128, (if d.val / 64 = l.val then F d else 0) = ∑ j : Fin 64, F (hj l j) := by
  rw [← Finset.sum_filter]
  refine Finset.sum_nbij' ll (hj l) (fun _ _ => Finset.mem_univ _) (fun j _ => ?_) (fun d hd => ?_) (fun j _ => ll_hj l j) (fun d hd => ?_)
  · refine Finset.mem_filter.mpr ⟨Finset.mem_univ _, ?_⟩
    simp only [hj]; omega
  all_goals
    have e := (Finset.mem_filter.mp hd).2
    have : hj l (ll d) = d := Fin.ext (by simp only [hj, ll]; omega)
    rw [this]

theorem sum_range_fin (f : ℕ → ℝ) : ∑ s ∈ Finset.range 2048, f s = ∑ s : Fin 2048, f s.val := Finset.sum_range f

theorem fns_P (p : Fin 4) (l : Fin 2) (t s : Fin 2048) : (fns g p).P l t s = g.P (hp p l) t s := by
  unfold Cert.Fox.Fns.P Vals.P Vals.E
  by_cases h : s.val ≤ t.val
  · rw [if_pos h, if_pos h]
    have e : ∑ d : Fin 128, Cert.Fox.Fns.on l (fns g p).q t d * (fns g p).k s d = (∑ j : Fin 64, g.q t (ln (hp p l) j) * g.k s (ln (hp p l) j)) * (1 / 8) := by
      simp only [fns, Cert.Fox.Fns.on, at2_fin, ite_mul, zero_mul]
      rw [sum_head l fun d => g.q t (lp p d) * (1 / 8) * g.k s (lp p d), Finset.sum_mul]
      exact Finset.sum_congr rfl fun j _ => by rw [lp_hj]; ring
    rw [e]
    simp only [fns, at1_fin]
    rw [L, ← Real.exp_log (g.T_pos (hp p l) t), ← Real.exp_sub, Real.log_exp]
    congr 1
    unfold Vals.X
    ring
  · rw [if_neg h, if_neg h, zero_div]

theorem fns_D (p : Fin 4) (l : Fin 2) (t s : Fin 2048) : (fns g p).D l t s = g.S (hp p l) t s := by
  unfold Cert.Fox.Fns.D Vals.S
  rw [fns_P]
  congr 2
  · simp only [fns, Cert.Fox.Fns.on, at2_fin, ite_mul, zero_mul]
    rw [sum_head l fun d => g.d t (lp p d) * g.v s (lp p d)]
    exact Finset.sum_congr rfl fun j _ => by rw [lp_hj]
  · unfold Cert.Fox.Fns.del
    simp only [fns, Cert.Fox.Fns.on, at2_fin]
    rw [sum_head l fun d => g.d t (lp p d) * Y g (hp p (hl d)) t (ll d)]
    simp only [lp_hj, hl_hj, ll_hj, Y, Vals.G, Finset.mul_sum]
    rw [Finset.sum_comm]
    exact Finset.sum_congr rfl fun r _ => Finset.sum_congr rfl fun j _ => by ring

/-! ## What a working point loads -/

theorem rw0_idx (r : Fin 2048) (d : Fin 128) : rw0.toLoadRect.idx (ix2 r d) = ix2 r d := by
  funext a
  apply Fin.ext
  match a with
  | ⟨0, _⟩ => show 0 + 1 * r.val = r.val; omega
  | ⟨1, _⟩ => show 0 + 1 * d.val = d.val; omega

theorem rq_idx (kc : Fin 8) (s : Fin 256) (d : Fin 128) : (rq kc).toLoadRect.idx (ix2 s d) = ix2 ⟨256 * kc.val + s.val, by omega⟩ d := by
  funext a
  apply Fin.ext
  match a with
  | ⟨0, _⟩ => show 256 * kc.val + 1 * s.val = 256 * kc.val + s.val; omega
  | ⟨1, _⟩ => show 0 + 1 * d.val = d.val; omega

theorem rl_idx (l : Fin 2) (r : Fin 2048) : (rl l).toLoadRect.idx (ix3 0 r 0) = ix3 l r 0 := by
  funext a
  apply Fin.ext
  match a with
  | ⟨0, _⟩ => show l.val + 1 * 0 = l.val; omega
  | ⟨1, _⟩ => show 0 + 1 * r.val = r.val; omega
  | ⟨2, _⟩ => rfl

theorem rc_idx (l : Fin 2) (kc : Fin 8) (s : Fin 256) : (Cert.Fox.rc l kc.val kc.isLt).toLoadRect.idx (ix4 0 0 0 s) = ix4 l kc 0 s := by
  funext a
  apply Fin.ext
  match a with
  | ⟨0, _⟩ => show l.val + 1 * 0 = l.val; omega
  | ⟨1, _⟩ => show kc.val + 1 * 0 = kc.val; omega
  | ⟨2, _⟩ => rfl
  | ⟨3, _⟩ => show 0 + 1 * s.val = s.val; omega

variable {g}
variable {c : Dev nD} (H : Are (a0 m c) (a1 m c) (a2 m c) (a4 m c) (a3 m c) g)
include H

theorem y_is (h : Fin 8) (t : Fin 2048) (j : Fin 64) : V m c main_v36 (ix2 t (ln h j)) = ((Y g h t j : ℝ) : EReal) := by
  rw [v36_at]
  refine (Finset.sum_congr rfl fun s _ => ?_ : _ = ∑ s, ((g.P h t s * g.v s (ln h j) : ℝ) : EReal)).trans (Cert.Real.sum_coe _)
  rw [EReal.coe_mul, H.v]
  exact congrArg (· * _) (Cert.Reference7Ideal.Value.PR_is H _ (Cert.Reference7Ideal.Value.EX_is H) h t s)

theorem lse_is (h : Fin 8) (t : Fin 2048) : V m c main_v39 (ix3 h t 0) = ((L g h t : ℝ) : EReal) := by
  refine ((congrFun (v39 m c) _).trans (LS_at _ _ h t)).trans ?_
  refine (congrArg₂ (fun a b : EReal => a + Ideal.log b) (H.M h t) (Cert.Reference7Ideal.Value.SR_is H _ (Cert.Reference7Ideal.Value.EX_is H) h t)).trans ?_
  show ((g.M h t : ℝ) : EReal) + Ideal.log ((g.T h t : ℝ) : EReal) = _
  rw [Ideal.log_coe, if_neg (not_le.mpr (g.T_pos h t)), ← EReal.coe_add]
  rfl

theorem loads_of (t : Fin cfg0.N) : Cert.Fox.Of (loads m c t) (fns g (pp t)) where
  q r d := by
    refine (Memref.IsWhole.readAt_unread (hstage0_0 _) _ _ _).trans ((congrArg _ (rw0_idx r d)).trans ((b0 m c t r d).trans ?_))
    rw [H.q, Cert.Reference7Ideal.Value.eighth, ← EReal.coe_mul]
    exact congrArg _ (at2_fin (fun r d => g.q r (lp (pp t) d) * (1 / 8)) r d).symm
  y r d := by
    refine (Memref.IsWhole.readAt_unread (hstage0_3 _) _ _ _).trans ((congrArg _ (rw0_idx r d)).trans ((b3 m c t r d).trans ?_))
    rw [y_is m H]
    exact congrArg _ (at2_fin (fun r d => Y g (hp (pp t) (hl d)) r (ll d)) r d).symm
  d r d := by
    refine (Memref.IsWhole.readAt_unread (hstage0_4 _) _ _ _).trans ((congrArg _ (rw0_idx r d)).trans ((b4 m c t r d).trans ?_))
    rw [H.d]
    exact congrArg _ (at2_fin (fun r d => g.d r (lp (pp t) d)) r d).symm
  k kc s d := by
    refine (Memref.IsWhole.readAt_unread (hstage0_1 _) _ _ _).trans ((congrArg _ (rq_idx kc s d)).trans ((b1 m c t _ d).trans ?_))
    rw [H.k]
    exact congrArg _ (at2_fin (fun r d => g.k r (lp (pp t) d)) (⟨256 * kc.val + s.val, by omega⟩ : Fin 2048) d).symm
  v kc s d := by
    refine (Memref.IsWhole.readAt_unread (hstage0_2 _) _ _ _).trans ((congrArg _ (rq_idx kc s d)).trans ((b2 m c t _ d).trans ?_))
    rw [H.v]
    exact congrArg _ (at2_fin (fun r d => g.v r (lp (pp t) d)) (⟨256 * kc.val + s.val, by omega⟩ : Fin 2048) d).symm
  lse l r := by
    refine (Memref.IsWhole.readAt_unread (hstage0_5 _) _ _ _).trans ((congrArg _ (rl_idx l r)).trans ((b5 m c t l r).trans ?_))
    rw [lse_is m H]
    exact congrArg _ (at1_fin (L g (hp (pp t) l)) r).symm
  cc l r := by
    refine (Memref.IsWhole.readAt_unread (hstage0_6 _) _ _ _).trans ((congrArg _ (rl_idx l r)).trans ((b6 m c t l r).trans ?_))
    rw [H.c]
    exact congrArg _ (at1_fin (g.c (hp (pp t) l)) r).symm
  cr l kc s := by
    refine (Memref.IsWhole.readAt_unread (hstage0_7 _) _ _ _).trans ((congrArg _ (rc_idx l kc s)).trans ((b7 m c t l kc s).trans ?_))
    rw [H.c]
    have e : (⟨kc.val * 256 + s.val, by omega⟩ : Fin 2048) = ⟨256 * kc.val + s.val, by omega⟩ := Fin.ext (by show kc.val * 256 + s.val = 256 * kc.val + s.val; omega)
    rw [e]
    exact congrArg _ (at1_fin (g.c (hp (pp t) l)) (⟨256 * kc.val + s.val, by omega⟩ : Fin 2048)).symm

omit H
/-! ## The kernel's three result arrays -/

/-- A pair's working point. -/
def tt (p : Fin 4) : Fin cfg0.N := ⟨3 * p.val, by have := p.isLt; show 3 * p.val < 12; omega⟩
theorem tt_mod (p : Fin 4) : (tt p).val % 3 = 0 := by simp only [tt]; omega
theorem pp_tt (p : Fin 4) : pp (tt p) = p := Fin.ext (by simp only [pp, tt]; omega)
theorem base_tt (t : Fin cfg0.N) : base t = base (tt (pp t)) := Fin.ext (by simp only [base, tt, pp]; omega)

theorem at_base {α : Type} (f : (u : Fin cfg0.N) → u.val % 3 = 0 → α) (t : Fin cfg0.N) : f (base t) (base_mod t) = f (base (tt (pp t))) (base_mod _) := by
  have : ∀ (u v : Fin cfg0.N) (hu : u.val % 3 = 0) (hv : v.val % 3 = 0), u = v → f u hu = f v hv := by rintro u _ _ _ rfl; rfl
  exact this _ _ _ _ (base_tt t)
theorem dcc_tt (c : Dev nD) (t : Fin cfg0.N) : dccAt m c t = dccAt m c (tt (pp t)) := at_base (dcc m c) t
theorem dcr_tt (c : Dev nD) (t : Fin cfg0.N) : dcrAt m c t = dcrAt m c (tt (pp t)) := at_base (dcr m c) t
theorem res_tt (c : Dev nD) (t : Fin cfg0.N) : resAt m c t = resAt m c (tt (pp t)) := at_base (res m c) t

/-- A head's pair, and the head in the pair. -/
def h4 (h : Fin 8) : Fin 4 := ⟨h.val / 2, by omega⟩
def h2 (h : Fin 8) : Fin 2 := ⟨h.val % 2, by omega⟩
/-- A column's pair, kept result, and lane. -/
def c4 (j : Fin 3072) : Fin 4 := ⟨j.val / 128 % 4, by omega⟩
def c3 (j : Fin 3072) : Fin 3 := ⟨(j.val / 128 - 12) / 4, by omega⟩
def cl (j : Fin 3072) : Fin 128 := ⟨j.val % 128, by omega⟩

theorem emb9 (t : Fin cfg0.N) (z : Fin 1) (r : Fin 2048) (d : Fin 128) : ((cfg0.win 9).blk t).view.emb (ix3 z r d) = ix3 (pp t) r d := by blk_ext [idx t, pp]
theorem emb10 (t : Fin cfg0.N) (l : Fin 2) (kc : Fin 8) (z : Fin 1) (s : Fin 256) : ((cfg0.win 10).blk t).view.emb (ix4 l kc z s) = ix4 (hp (pp t) l) kc 0 s := by blk_ext [idx t, pp, hp]
def col (t : Fin cfg0.N) (d : Fin 128) : Fin 3072 := ⟨(12 + 4 * (t.val % 3) + t.val / 3) * 128 + d.val, by have := lt12 t; omega⟩
theorem emb8 (t : Fin cfg0.N) (r : Fin 2048) (d : Fin 128) : ((cfg0.win 8).blk t).view.emb (ix2 r d) = ix2 r (col t d) := by blk_ext [idx t, col]

theorem at9 (c : Dev nD) (t : Fin cfg0.N) (z : Fin 1) (r : Fin 2048) (d : Fin 128) : dccAt m c t (ix3 z r d) = dccAt m c (tt (pp t)) (ix3 0 r d) := by
  obtain rfl : z = 0 := Subsingleton.elim _ _
  rw [dcc_tt]

theorem at10 (c : Dev nD) (t : Fin cfg0.N) (l : Fin 2) (kc : Fin 8) (z : Fin 1) (s : Fin 256) : dcrAt m c t (ix4 l kc z s) = dcrAt m c (tt (h4 (hp (pp t) l))) (ix4 (h2 (hp (pp t) l)) kc 0 s) := by
  obtain rfl : z = 0 := Subsingleton.elim _ _
  have e4 : h4 (hp (pp t) l) = pp t := Fin.ext (by simp only [h4, hp]; omega)
  have e2 : h2 (hp (pp t) l) = l := Fin.ext (by simp only [h2, hp]; omega)
  rw [e4, e2, dcr_tt]

theorem at8 (c : Dev nD) (t : Fin cfg0.N) (r : Fin 2048) (d : Fin 128) : outAt m c t (ix2 r d) = resAt m c (tt (c4 (col t d))) (ix3 (c3 (col t d)) r (cl (col t d))) := by
  have ht := lt12 t
  have e4 : c4 (col t d) = pp t := Fin.ext (by simp only [c4, col, pp]; omega)
  have e3 : c3 (col t d) = jj t := Fin.ext (by simp only [c3, col, jj]; omega)
  have el : cl (col t d) = d := Fin.ext (by simp only [cl, col]; omega)
  rw [e4, e3, el, ← res_tt, outAt_eq]

theorem fin9 (c : Dev nD) : (dats m 0 c).arrAt 9 (cfgs 0).N = fun i => dccAt m c (tt (i 0)) (ix3 0 (i 1) (i 2)) := by
  refine (dats m 0 c).arrAt_eq_of_covers 9 _ (by decide +kernel) fun t hf y => ?_
  blk_simp
  rw [after9]
  idx_vars y
  rw [emb9]
  exact at9 m c t _ _ _

theorem fin10 (c : Dev nD) : (dats m 0 c).arrAt 10 (cfgs 0).N = fun i => dcrAt m c (tt (h4 (i 0))) (ix4 (h2 (i 0)) (i 1) 0 (i 3)) := by
  refine (dats m 0 c).arrAt_eq_of_covers 10 _ (by decide +kernel) fun t hf y => ?_
  blk_simp
  rw [after10]
  idx_vars y
  rw [emb10]
  exact at10 m c t _ _ _ _

theorem fin8 (c : Dev nD) (i : S2048x3072.Idx) (h : 12 ≤ (i 1).val / 128) : (dats m 0 c).arrAt 8 (cfgs 0).N i = resAt m c (tt (c4 (i 1))) (ix3 (c3 (i 1)) (i 0) (cl (i 1))) := by
  refine ((dats m 0 c).arrAt_apply_of_coversWhere 8 (fun i => resAt m c (tt (c4 (i 1))) (ix3 (c3 (i 1)) (i 0) (cl (i 1)))) (P := fun i => 12 ≤ (i 1).val / 128) (fun β => 12 ≤ β (1 : Fin _)) (by decide +kernel) (fun t hf y => ?_) (fun j => Iff.rfl) i).trans (if_pos h)
  blk_simp
  rw [after8]
  idx_vars y
  rw [emb8]
  exact at8 m c t _ _

end Cert.Kernel7Ideal.Value
-- ==== Proof.Fox.lean ====
/- The forgetting attention's gradient: the kernel's results are the reference's. -/
module

public import proofs.«01_k».proof.Proof.FoxIn
public import proofs.«01_k».proof.Pre_finite7

@[expose] public section

set_option maxRecDepth 16384

noncomputable section

namespace Cert.Pre_finite7
instance facts : Facts where
  bcast_S_S1x2048x512 := by decide
  bcast_S_S1x8x2048 := by decide
end Cert.Pre_finite7

namespace Cert.Kernel7Ideal.Value

open Cert.Kernel7Ideal Cert.Kernel7Ideal.Gen Cert.Kernel7Ideal.Fox
open Cert.Reference7Ideal.Value (ln HD DOT EE DS DQ DK DV DC Vals Are)
open Idealize.ShloMosaic Idealize.ShloMosaic.TcCoe Idealize.SL.Sem
open Idealize.ShloMosaic.Pipeline (Dat)

variable (m : (ℓ : Loc nD τ sig) → Buf (Elt Ideal) ℓ)

/-! ## What the host makes of the kernel's arrays -/

theorem arr (c : Dev nD) (w : Fin 11) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

def TH (x : FVec Ideal S2048x3072 .bf16) : FVec Ideal S1x2048x1536 .f32 :=
  extf .f32 (broadcastInDim S1x2048x1536 ![1, 2] bcast_S2048x1536_S1x2048x1536_1_2 (extractStridedSlice S2048x1536 ![0, 1536] x slices_S2048x3072_S2048x1536_0_1536)) bitsLt_bf16_f32
def TQ (x : FVec Ideal S2048x3072 .bf16) : FVec Ideal S1x2048x512 .f32 := extractStridedSlice S1x2048x512 ![0, 0, 0] (TH x) slices_S1x2048x1536_S1x2048x512_0_0_0
def TK (x : FVec Ideal S2048x3072 .bf16) : FVec Ideal S1x2048x512 .f32 := extractStridedSlice S1x2048x512 ![0, 0, 512] (TH x) slices_S1x2048x1536_S1x2048x512_0_0_512
def TV (x : FVec Ideal S2048x3072 .bf16) : FVec Ideal S1x2048x512 .f32 := extractStridedSlice S1x2048x512 ![0, 0, 1024] (TH x) slices_S1x2048x1536_S1x2048x512_0_0_1024
def TC (y : FVec Ideal S4x2048x128 .f32) (z : FVec Ideal S8x8x1x256 .f32) : FVec Ideal S1x8x2048 .f32 :=
  broadcastInDim S1x8x2048 ![1, 2] bcast_S8x2048_S1x8x2048_1_2 (transpose S8x2048 [1, 0] (addf
    (shapeCast S2048x8 (transpose S2048x4x2 [1, 0, 2] (extractStridedSlice S4x2048x2 ![0, 0, 0] y slices_S4x2048x128_S4x2048x2_0_0_0) transposes_S4x2048x2_S2048x4x2_1_0_2) shapeCasts_S2048x4x2_S2048x8)
    (transpose S2048x8 [1, 0] (shapeCast S8x2048 z shapeCasts_S8x8x1x256_S8x2048) transposes_S8x2048_S2048x8_1_0)) transposes_S2048x8_S8x2048_1_0)

/-- A gradient's column among the kernel's. -/
def cc (j : Fin 3) (k : Fin 512) : Fin 3072 := ⟨1536 + j.val * 512 + k.val, by omega⟩

theorem TQ_at (x) (t : Fin 2048) (k : Fin 512) : TQ x (ix3 0 t k) = x (ix2 t (cc 0 k)) := by
  pointwise [TQ, TH, cc]
theorem TK_at (x) (t : Fin 2048) (k : Fin 512) : TK x (ix3 0 t k) = x (ix2 t (cc 1 k)) := by
  pointwise [TK, TH]
  exact congrArg (fun k => x (ix2 t k)) (Fin.ext (by simp only [cc]; omega))
theorem TV_at (x) (t : Fin 2048) (k : Fin 512) : TV x (ix3 0 t k) = x (ix2 t (cc 2 k)) := by
  pointwise [TV, TH]
  exact congrArg (fun k => x (ix2 t k)) (Fin.ext (by simp only [cc]; omega))
theorem TC_at (y z) (h : Fin 8) (t : Fin 2048) : TC y z (ix3 0 h t) = y (ix3 (h4 h) t ⟨(h2 h).val, by omega⟩) + z (ix4 h ⟨t.val / 256, by omega⟩ 0 ⟨t.val % 256, by omega⟩) := by
  pointwise [TC, h4, h2]

theorem tail64 (c : Dev nD) : Pipeline.afterTail₀ cfgs (dats m) 0 (V0 m) [hostOps1] c main_v64 = TQ ((dats m 0 c).arrAt 8 (cfgs 0).N) := by
  unfold Pipeline.afterTail₀
  simp only [hostOps1, List.flatten_cons, List.flatten_nil, List.append_nil, List.cons_append]
  after_results
  exact congrArg TQ (arr m c 8)
theorem tail65 (c : Dev nD) : Pipeline.afterTail₀ cfgs (dats m) 0 (V0 m) [hostOps1] c main_v65 = TK ((dats m 0 c).arrAt 8 (cfgs 0).N) := by
  unfold Pipeline.afterTail₀
  simp only [hostOps1, List.flatten_cons, List.flatten_nil, List.append_nil, List.cons_append]
  after_results
  exact congrArg TK (arr m c 8)
theorem tail66 (c : Dev nD) : Pipeline.afterTail₀ cfgs (dats m) 0 (V0 m) [hostOps1] c main_v66 = TV ((dats m 0 c).arrAt 8 (cfgs 0).N) := by
  unfold Pipeline.afterTail₀
  simp only [hostOps1, List.flatten_cons, List.flatten_nil, List.append_nil, List.cons_append]
  after_results
  exact congrArg TV (arr m c 8)
theorem tail68 (c : Dev nD) : Pipeline.afterTail₀ cfgs (dats m) 0 (V0 m) [hostOps1] c main_v68 = TC ((dats m 0 c).arrAt 9 (cfgs 0).N) ((dats m 0 c).arrAt 10 (cfgs 0).N) := by
  unfold Pipeline.afterTail₀
  simp only [hostOps1, List.flatten_cons, List.flatten_nil, List.append_nil, List.cons_append]
  after_results
  exact congrArg₂ TC (arr m c 9) (arr m c 10)

/-! ## The arrays' numbers -/

theorem hp_h (h : Fin 8) : hp (h4 h) (h2 h) = h := Fin.ext (by simp only [hp, h4, h2]; omega)
theorem ln_of (k : Fin 512) : ∃ (h : Fin 8) (j : Fin 64), k = ln h j :=
  ⟨⟨k.val / 64, by omega⟩, ⟨k.val % 64, by omega⟩, Fin.ext (by simp only [ln]; omega)⟩
theorem hd_hj (l : Fin 2) (j : Fin 64) : hd (hj l j).val = l := by
  apply Fin.ext
  unfold hd
  by_cases e : (hj l j).val / 64 = 0
  · rw [if_pos e]; simp only [hj] at e; show 0 = l.val; omega
  · rw [if_neg e]; simp only [hj] at e; show 1 = l.val; omega

theorem fns_q (g : Vals) (p : Fin 4) (l : Fin 2) (t : Fin 2048) (j : Fin 64) : (fns g p).q t.val (hj l j).val = g.q t (ln (hp p l) j) * (1 / 8) := (at2_fin (fun t d => g.q t (lp p d) * (1 / 8)) t (hj l j)).trans (by beta_reduce; rw [lp_hj])
theorem fns_k (g : Vals) (p : Fin 4) (l : Fin 2) (t : Fin 2048) (j : Fin 64) : (fns g p).k t.val (hj l j).val = g.k t (ln (hp p l) j) := (at2_fin (fun t d => g.k t (lp p d)) t (hj l j)).trans (by beta_reduce; rw [lp_hj])
theorem fns_d (g : Vals) (p : Fin 4) (l : Fin 2) (t : Fin 2048) (j : Fin 64) : (fns g p).d t.val (hj l j).val = g.d t (ln (hp p l) j) := (at2_fin (fun t d => g.d t (lp p d)) t (hj l j)).trans (by beta_reduce; rw [lp_hj])

theorem col_at (c : Dev nD) (n : Fin 3) (t : Fin 2048) (h : Fin 8) (j : Fin 64) : (dats m 0 c).arrAt 8 (cfgs 0).N (ix2 t (cc n (ln h j))) = res m c (tt (h4 h)) (tt_mod _) (ix3 n t (hj (h2 h) j)) := by
  have e : 12 ≤ (cc n (ln h j)).val / 128 := by simp only [cc, ln]; omega
  refine (fin8 m c _ e).trans ?_
  have e4 : c4 (cc n (ln h j)) = h4 h := Fin.ext (by simp only [c4, cc, ln, h4]; omega)
  have e3 : c3 (cc n (ln h j)) = n := Fin.ext (by simp only [c3, cc, ln]; omega)
  have el : cl (cc n (ln h j)) = hj (h2 h) j := Fin.ext (by simp only [cl, cc, ln, hj, h2]; omega)
  show resAt m c (tt (c4 (cc n (ln h j)))) (ix3 (c3 (cc n (ln h j))) t (cl (cc n (ln h j)))) = _
  rw [e4, e3, el, resAt_work m c _ (tt_mod _)]

variable {g : Vals} {c : Dev nD} (H : Are (a0 m c) (a1 m c) (a2 m c) (a4 m c) (a3 m c) g)
include H

theorem loads_tt (p : Fin 4) : Cert.Fox.Of (loads m c (tt p)) (fns g p) := by
  have e := loads_of m H (tt p)
  rwa [pp_tt] at e

theorem kq (t : Fin 2048) (h : Fin 8) (j : Fin 64) : (dats m 0 c).arrAt 8 (cfgs 0).N (ix2 t (cc 0 (ln h j))) = ((∑ s, g.S h t s * (1 / 8) * g.k s (ln h j) : ℝ) : EReal) := by
  refine (col_at m c 0 t h j).trans ((res_q (tt_mod _) (loads_tt m H _) t _).trans (congrArg _ ?_))
  rw [hd_hj, sum_range_fin, Finset.sum_mul]
  refine Finset.sum_congr rfl fun s _ => ?_
  rw [fns_D, fns_k, hp_h]
  ring

theorem kk (s : Fin 2048) (h : Fin 8) (j : Fin 64) : (dats m 0 c).arrAt 8 (cfgs 0).N (ix2 s (cc 1 (ln h j))) = ((∑ t, g.S h t s * (1 / 8) * g.q t (ln h j) : ℝ) : EReal) := by
  refine (col_at m c 1 s h j).trans ((res_k (tt_mod _) (loads_tt m H _) s _).trans (congrArg _ ?_))
  rw [hd_hj, sum_range_fin]
  refine Finset.sum_congr rfl fun t _ => ?_
  rw [fns_D, fns_q, hp_h]
  ring

theorem kv (s : Fin 2048) (h : Fin 8) (j : Fin 64) : (dats m 0 c).arrAt 8 (cfgs 0).N (ix2 s (cc 2 (ln h j))) = ((∑ t, g.d t (ln h j) * g.P h t s : ℝ) : EReal) := by
  refine (col_at m c 2 s h j).trans ((res_v (tt_mod _) (loads_tt m H _) s _).trans (congrArg _ ?_))
  rw [hd_hj, sum_range_fin]
  refine Finset.sum_congr rfl fun t _ => ?_
  rw [fns_P, fns_d, hp_h]

theorem k9 (h : Fin 8) (t : Fin 2048) : (dats m 0 c).arrAt 9 (cfgs 0).N (ix3 (h4 h) t ⟨(h2 h).val, by omega⟩) = ((∑ s, g.S h t s : ℝ) : EReal) := by
  refine (congrFun (fin9 m c) _).trans ?_
  show dccAt m c (tt (h4 h)) (ix3 0 t ⟨(h2 h).val, _⟩) = _
  rw [dccAt_work m c _ (tt_mod _)]
  refine (dcc_is (tt_mod _) (loads_tt m H _) (h2 h) t).trans (congrArg _ ?_)
  rw [sum_range_fin]
  refine Finset.sum_congr rfl fun s _ => ?_
  rw [fns_D, hp_h]

theorem k10 (h : Fin 8) (t : Fin 2048) : (dats m 0 c).arrAt 10 (cfgs 0).N (ix4 h ⟨t.val / 256, by omega⟩ 0 ⟨t.val % 256, by omega⟩) = ((0 - ∑ s, g.S h s t : ℝ) : EReal) := by
  refine (congrFun (fin10 m c) _).trans ?_
  show dcrAt m c (tt (h4 h)) (ix4 (h2 h) ⟨t.val / 256, _⟩ 0 ⟨t.val % 256, _⟩) = _
  rw [dcrAt_work m c _ (tt_mod _)]
  refine (dcr_is (tt_mod _) (loads_tt m H _) (h2 h) _ _).trans (congrArg _ ?_)
  rw [sum_range_fin]
  refine congrArg (0 - ·) (Finset.sum_congr rfl fun s _ => ?_)
  show (fns g (h4 h)).D (h2 h) s.val (256 * (t.val / 256) + t.val % 256) = _
  rw [Nat.div_add_mod, fns_D, hp_h]

/-! ## The results, of the reference's arrays that are the kernel's -/

variable {x0 x1 x2 x4 : FVec Ideal S1x2048x512 .f32} {x3 : FVec Ideal S1x8x2048 .f32} (e0 : x0 = a0 m c) (e1 : x1 = a1 m c) (e2 : x2 = a2 m c) (e3 : x3 = a3 m c) (e4 : x4 = a4 m c)
include e0 e1 e2 e3 e4

theorem eq_q : DQ (DS (EE x0 x1 x3) (DOT (HD x4) (HD x2))) x1 = Pipeline.afterTail₀ cfgs (dats m) 0 (V0 m) [hostOps1] c main_v64 := by
  subst e0 e1 e2 e3 e4
  rw [tail64]
  funext i
  idx_vars i
  obtain rfl : i0 = 0 := Subsingleton.elim _ _
  obtain ⟨h, j, rfl⟩ := ln_of i2
  exact (Cert.Reference7Ideal.Value.dq_is H h i1 j).trans ((kq m H i1 h j).symm.trans (TQ_at _ i1 (ln h j)).symm)

theorem eq_k : DK (DS (EE x0 x1 x3) (DOT (HD x4) (HD x2))) x0 = Pipeline.afterTail₀ cfgs (dats m) 0 (V0 m) [hostOps1] c main_v65 := by
  subst e0 e1 e2 e3 e4
  rw [tail65]
  funext i
  idx_vars i
  obtain rfl : i0 = 0 := Subsingleton.elim _ _
  obtain ⟨h, j, rfl⟩ := ln_of i2
  exact (Cert.Reference7Ideal.Value.dk_is H h i1 j).trans ((kk m H i1 h j).symm.trans (TK_at _ i1 (ln h j)).symm)

theorem eq_v : DV (EE x0 x1 x3) x4 = Pipeline.afterTail₀ cfgs (dats m) 0 (V0 m) [hostOps1] c main_v66 := by
  subst e0 e1 e2 e3 e4
  rw [tail66]
  funext i
  idx_vars i
  obtain rfl : i0 = 0 := Subsingleton.elim _ _
  obtain ⟨h, j, rfl⟩ := ln_of i2
  exact (Cert.Reference7Ideal.Value.dv_is H h i1 j).trans ((kv m H i1 h j).symm.trans (TV_at _ i1 (ln h j)).symm)

theorem eq_c : DC (DS (EE x0 x1 x3) (DOT (HD x4) (HD x2))) = Pipeline.afterTail₀ cfgs (dats m) 0 (V0 m) [hostOps1] c main_v68 := by
  subst e0 e1 e2 e3 e4
  rw [tail68]
  funext i
  idx_vars i
  obtain rfl : i0 = 0 := Subsingleton.elim _ _
  refine (Cert.Reference7Ideal.Value.dc_is H i1 i2).trans (Eq.trans ?_ (TC_at _ _ i1 i2).symm)
  rw [k9 m H, k10 m H, ← EReal.coe_add, Finset.sum_neg_distrib]
  congr 1
  ring

omit H e0 e1 e2 e3 e4

theorem algebraic : Cert.algebraic_Kernel7Ideal_Reference7Ideal_pre_finite7 := by
  pair_intro
  · run_from Cert.Kernel7Ideal.Fox.run_main m g & Gen.frame_of m g (dats m) (A_eq m) (Cert.Kernel7Ideal.Fox.run_main m g)
  · run_from Cert.Reference7Ideal.Value.run m' g'
    all_goals
      obtain ⟨h0, h1, h2, h3, h4⟩ := hagree c
      obtain ⟨q0, q1, q2, q3, q4⟩ := hpre c
      obtain ⟨v, H⟩ := Cert.Reference7Ideal.Value.exists_vals (Cert.Real.of_finite _ _ q0) (Cert.Real.of_finite _ _ q1) (Cert.Real.of_finite _ _ q2) (Cert.Real.of_finite _ _ q3) (Cert.Real.of_finite _ _ q4)
    · exact (Cert.Reference7Ideal.Value.run_dq m' c).trans (eq_q m H h0 h1 h2 h3 h4)
    · exact (Cert.Reference7Ideal.Value.run_dk m' c).trans (eq_k m H h0 h1 h2 h3 h4)
    · exact (Cert.Reference7Ideal.Value.run_dv m' c).trans (eq_v m H h0 h1 h2 h3 h4)
    · exact (Cert.Reference7Ideal.Value.run_dc m' c).trans (eq_c m H h0 h1 h2 h3 h4)

end Cert.Kernel7Ideal.Value
-- ==== Proof.FoxBits.lean ====
/- The same frame for the program as printed: its text is the ideal one's. -/
module

public import proofs.«01_k».proof.Proof.FoxFrame
public import proofs.«01_k».proof.Proof.Gen.Kernel7
public import proofs.«01_k».proof.Defs

@[expose] public section

set_option maxRecDepth 16384

noncomputable section

namespace Cert.Kernel7.Fox

open Cert.Kernel7
open Idealize.ShloMosaic Idealize.ShloMosaic.TcCoe
open Idealize.SL.Sem

/-- The arguments end as they were and every counter at zero, at the machine's own float values. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Eq.mp (by sl_kernel_rfl) (Cert.Kernel7Ideal.Fox.frame (F := Bits) m ρ)

end Cert.Kernel7.Fox

end
-- ==== Proof.FwdLink.lean ====
/- What a point of the forgetting attention leaves, written as one recursion over its chunks of keys: the rows' greatest logits, their sums of exponentials, and the weighted values. -/
module

public import proofs.«01_k».proof.Proof.SbReal
public import proofs.«01_k».proof.Proof.Gen.Kernel9Ideal.Frame

@[expose] public section

set_option maxRecDepth 16384

noncomputable section

namespace Cert.Soft

open Idealize.ShloMosaic Idealize.ShloMosaic.TcCoe Idealize.ShloMosaic.Tactic
open Cert.Kernel9Ideal Cert.Kernel9Ideal.Gen
open Cert.Fox (Sh Tall nn tl bk lanes QT CT cr_cast)
open Cert.Stick (mine none1 none128)

/-- A column of numbers laid over 128 lanes. -/
class Over (n : ℕ) : Prop where
  out : (Sh n 1).Broadcasts (Sh n 128)

instance over (kc : Fin 8) : Over (nn kc) where
  out := by revert kc; decide

section
variable (n : ℕ) [T : Tall n] [O : Over n]

def under : IVec (Sh n 256) 1 := cmpi .sle (iota .tc (Sh n 256) 32 [1] T.i1) (iota .tc (Sh n 256) 32 [0] T.i0)

/-- The tile's logits, and the least number past the diagonal. -/
def ST (q : FVec Ideal (Sh n 128) .bf16) (k : FVec Ideal (Sh 256 128) .bf16) (cc : FVec Ideal (Sh n 1) .f32) (cr : FVec Ideal ⟨4, ![1, 1, 1, 256]⟩ .f32) : FVec Ideal (Sh n 256) .f32 :=
  select (under n)
    (subf (addf (matmul (DotDims.transposedRhs n 128 256) none q k (constant (Sh n 256) .f32 0x00000000#32)) (broadcastTo (Sh n 256) cc T.col)) (broadcastTo (Sh n 256) (shapeCast (Sh 1 256) cr cr_cast) T.row))
    (broadcast (Sh n 256) (Scalar.ofBits (F := Ideal) .f32 0xF149F2CA#32))

/-- The rows' greatest logits, the tile's met. -/
def HT (s : FVec Ideal (Sh n 256) .f32) (x : FVec Ideal (Sh n 1) .f32) : FVec Ideal (Sh n 1) .f32 :=
  maximumf x (shapeCast (Sh n 1) (multiReduction .maximumf [1] ⟨1, ![n]⟩ s 0xFF800000#32 T.r1 (.inl rfl) rfl) T.up)

/-- The tile's exponentials. -/
def ET (s : FVec Ideal (Sh n 256) .f32) (y : FVec Ideal (Sh n 1) .f32) : FVec Ideal (Sh n 256) .f32 :=
  select (under n) (exp (subf s (broadcastTo (Sh n 256) y T.col))) (broadcast (Sh n 256) (Scalar.ofBits (F := Ideal) .f32 0x00000000#32))

/-- A factor for each row, over its lanes. -/
def span (x : FVec Ideal (Sh n 1) .f32) : FVec Ideal (Sh n 128) .f32 := broadcastTo (Sh n 128) x O.out
end

/-- What a point loads. -/
structure Given where
  q : FVec Ideal S2048x128 .bf16
  k : Fin 8 → FVec Ideal S256x128 .bf16
  v : Fin 8 → FVec Ideal S256x128 .bf16
  cc : Fin 2 → FVec Ideal S1x2048x1 .f32
  cr : Fin 2 → Fin 8 → FVec Ideal S1x1x1x256 .f32

variable (L : Given)

def ck (h : Fin 2) : FVec Ideal (Sh 2048 1) .f32 := shapeCast S2048x1 (L.cc h) shapeCasts_S1x2048x1_S2048x1
def kk (kc : Fin 8) : FVec Ideal (Sh 256 128) .bf16 := shapeCast S256x128 (L.k kc) shapeCasts_S256x128_S256x128
def vk (kc : Fin 8) : FVec Ideal (Sh 256 128) .bf16 := shapeCast S256x128 (L.v kc) shapeCasts_S256x128_S256x128
def least : FVec Ideal (Sh 2048 1) .f32 := broadcast S2048x1 (Scalar.ofBits (F := Ideal) .f32 0xF149F2CA#32)

/-- A head's logits against a chunk. -/
def St (h : Fin 2) (kc : Fin 8) : FVec Ideal (Sh (nn kc) 256) .f32 := ST (nn kc) (tl kc (mine h L.q)) (kk L kc) (tl kc (ck L h)) (L.cr h kc)

/-- The rows' greatest logits after `n` chunks. -/
def top (h : Fin 2) : (n : ℕ) → n ≤ 8 → FVec Ideal (Sh 2048 1) .f32
  | 0, _ => least
  | n + 1, e => bk ⟨n, e⟩ (top h n (Nat.le_of_succ_le e)) (HT (nn ⟨n, e⟩) (St L h ⟨n, e⟩) (tl ⟨n, e⟩ (top h n (Nat.le_of_succ_le e))))

def Ht (h : Fin 2) (kc : Fin 8) : FVec Ideal (Sh (nn kc) 1) .f32 := HT (nn kc) (St L h kc) (tl kc (top L h kc.val (Nat.le_of_lt kc.isLt)))
/-- What the rows' earlier sums are scaled by. -/
def At (h : Fin 2) (kc : Fin 8) : FVec Ideal (Sh (nn kc) 1) .f32 := exp (subf (tl kc (top L h kc.val (Nat.le_of_lt kc.isLt))) (Ht L h kc))
def Et (h : Fin 2) (kc : Fin 8) : FVec Ideal (Sh (nn kc) 256) .f32 := ET (nn kc) (St L h kc) (Ht L h kc)

/-- The rows' sums of exponentials after `n` chunks. -/
def mass (h : Fin 2) : (n : ℕ) → n ≤ 8 → FVec Ideal (Sh 2048 1) .f32
  | 0, _ => none1
  | n + 1, e => bk ⟨n, e⟩ (mass h n (Nat.le_of_succ_le e)) (CT (nn ⟨n, e⟩) (Et L h ⟨n, e⟩) (mulf (tl ⟨n, e⟩ (mass h n (Nat.le_of_succ_le e))) (At L h ⟨n, e⟩)))

/-- The rows' weighted values after `n` chunks. -/
def load (h : Fin 2) : (n : ℕ) → n ≤ 8 → FVec Ideal (Sh 2048 128) .f32
  | 0, _ => none128
  | n + 1, e => bk ⟨n, e⟩ (load h n (Nat.le_of_succ_le e)) (QT (nn ⟨n, e⟩) (Et L h ⟨n, e⟩) (vk L ⟨n, e⟩) (mulf (tl ⟨n, e⟩ (load h n (Nat.le_of_succ_le e))) (span (nn ⟨n, e⟩) (At L h ⟨n, e⟩))))

/-- A head's mean values, of all lanes. -/
def mean (h : Fin 2) : FVec Ideal (Sh 2048 128) .f32 := divf (load L h 8 (Nat.le_refl 8)) (span (nn 0) (mass L h 8 (Nat.le_refl 8)))
/-- The two heads' mean values, each in its lanes. -/
def both : FVec Ideal S2048x128 .bf16 := truncf .bf16 (select (lanes 0) (mean L 0) (mean L 1)) bitsLt_bf16_f32
/-- The logarithm of a head's rows' sums. -/
def logs (h : Fin 2) : FVec Ideal S1x2048x1 .f32 := shapeCast S1x2048x1 (addf (top L h 8 (Nat.le_refl 8)) (log (mass L h 8 (Nat.le_refl 8)))) shapeCasts_S2048x1_S1x2048x1

end Cert.Soft

namespace Cert.Kernel9Ideal.Fwd

open Cert.Kernel9Ideal Cert.Kernel9Ideal.Gen Cert.Soft
open Idealize.ShloMosaic Idealize.ShloMosaic.TcCoe Idealize.ShloMosaic.Tactic

/-- The parts of the blocks that a point loads or fills. -/
abbrev rq (kc : Fin 8) : Rect S2048x128 := Rect.unit ![256 * kc.val, 0] S256x128.size (fun a => by
  match a with
  | ⟨0, _⟩ => show 256 * kc.val + 256 ≤ 2048; omega
  | ⟨1, _⟩ => show 0 + 128 ≤ 128; omega)
abbrev rw0 : Rect S2048x128 := Rect.unit ![0, 0] S2048x128.size (by decide)
abbrev rl (h : Fin 2) : Rect S2x2048x1 := Rect.unit ![h.val, 0, 0] S1x2048x1.size (fun a => by
  match a with
  | ⟨0, _⟩ => show h.val + 1 ≤ 2; omega
  | ⟨1, _⟩ => show 0 + 2048 ≤ 2048; omega
  | ⟨2, _⟩ => show 0 + 1 ≤ 1; omega)
abbrev rc (h : Fin 2) (kc : Fin 8) : Rect S2x8x1x256 := Rect.unit ![h.val, kc.val, 0, 0] S1x1x1x256.size (fun a => by
  match a with
  | ⟨0, _⟩ => show h.val + 1 ≤ 2; omega
  | ⟨1, _⟩ => show kc.val + 1 ≤ 8; omega
  | ⟨2, _⟩ => show 0 + 1 ≤ 1; omega
  | ⟨3, _⟩ => show 0 + 256 ≤ 256; omega)

section
variable (c : Dev nD) (i : grid0.Coords) (arg1 : Memref sig .tc .vmem S2048x128 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2x2048x1 .f32) (harg4 : arg4.IsWhole) (arg5 : Memref sig .tc .vmem S2x8x1x256 .f32) (harg5 : arg5.IsWhole)
  (arg6 : Memref sig .tc .vmem S2048x128 .bf16) (harg6 : arg6.IsWhole) (arg7 : Memref sig .tc .vmem S2x2048x1 .f32) (harg7 : arg7.IsWhole)
  (x0 x1 x2 : Vec Ideal S2048x128 .bf16) (x3 : Vec Ideal S2x2048x1 .f32) (x4 : Vec Ideal S2x8x1x256 .f32)

/-- What a point loads from its blocks. -/
def given : Given where
  q := View.readAt (Elt Ideal) arg1.view rw0.toLoadRect (harg1.unread x0)
  k kc := View.readAt (Elt Ideal) arg2.view (rq kc).toLoadRect (harg2.unread x1)
  v kc := View.readAt (Elt Ideal) arg3.view (rq kc).toLoadRect (harg3.unread x2)
  cc h := View.readAt (Elt Ideal) arg4.view (rl h).toLoadRect (harg4.unread x3)
  cr h kc := View.readAt (Elt Ideal) arg5.view (rc h kc).toLoadRect (harg5.unread x4)

theorem run_y : (kernelRun0_A (F := Ideal) c i arg1 harg1 arg2 harg2 arg3 harg3 arg4 harg4 arg5 harg5 arg6 harg6 arg7 harg7 x0 x1 x2 x3 x4).1
    = [⟨rw0, both (given arg1 harg1 arg2 harg2 arg3 harg3 arg4 harg4 arg5 harg5 x0 x1 x2 x3 x4)⟩] := by
  sl_kernel_rfl

theorem run_l : (kernelRun0_A (F := Ideal) c i arg1 harg1 arg2 harg2 arg3 harg3 arg4 harg4 arg5 harg5 arg6 harg6 arg7 harg7 x0 x1 x2 x3 x4).2.1
    = [⟨rl 1, logs (given arg1 harg1 arg2 harg2 arg3 harg3 arg4 harg4 arg5 harg5 x0 x1 x2 x3 x4) 1⟩, ⟨rl 0, logs (given arg1 harg1 arg2 harg2 arg3 harg3 arg4 harg4 arg5 harg5 x0 x1 x2 x3 x4) 0⟩] := by
  sl_kernel_rfl
end

end Cert.Kernel9Ideal.Fwd
-- ==== Proof.FwdReal.lean ====
/- The forgetting attention's recursions in real numbers: whatever the rows' greatest logits are, they cancel in the mean values and in the logarithm of the sums. -/
module

public import proofs.«01_k».proof.Proof.FwdLink
public import proofs.«01_k».proof.Proof.FoxHost

@[expose] public section

set_option maxRecDepth 16384

noncomputable section

namespace Cert.Soft

open Idealize.ShloMosaic Idealize.ShloMosaic.TcCoe
open Cert.Kernel9Ideal Cert.Kernel9Ideal.Gen
open Cert.Fox (Sh Tall nn tl bk lanes QT CT cr_cast Is tl_is bk_is QT_at CT_at mt_at col_at sum_step lanes_at)
open Cert.Stick (mine none1 none128 mine_is none1_is)

/-! ## A tile, entry by entry -/

section
variable (n : ℕ) [T : Tall n] [O : Over n]

theorem under_at (t : Fin n) (s : Fin 256) : under n (ix2 t s) = BitVec.ofBool (decide (s.val ≤ t.val)) := by
  have hn := T.small
  pointwise [under]
  word_cmp

theorem ST_at (q k cc cr) (t : Fin n) (s : Fin 256) : ST n q k cc cr (ix2 t s)
    = if s.val ≤ t.val then ∑ d : Fin 128, q (ix2 t d) * k (ix2 s d) + cc (ix2 t 0) - cr (ix4 0 0 0 s) else Ideal.ofBits .f32 0xF149F2CA#32 := by
  show Scalar.select (under n (ix2 t s)) (matmul (DotDims.transposedRhs n 128 256) none q k (constant (Sh n 256) .f32 0x00000000#32) (ix2 t s) + broadcastTo (Sh n 256) cc T.col (ix2 t s) - broadcastTo (Sh n 256) (shapeCast (Sh 1 256) cr cr_cast) T.row (ix2 t s)) (Ideal.ofBits .f32 0xF149F2CA#32) = _
  have hr : broadcastTo (Sh n 256) (shapeCast (Sh 1 256) cr cr_cast) T.row (ix2 t s) = cr (ix4 0 0 0 s) := by pointwise
  rw [under_at, mt_at, col_at, hr]
  by_cases h : s.val ≤ t.val <;> simp [h, Scalar.select]

theorem ET_at (s y) (t : Fin n) (r : Fin 256) : ET n s y (ix2 t r) = if r.val ≤ t.val then Ideal.exp (s (ix2 t r) - y (ix2 t 0)) else 0 := by
  show Scalar.select (under n (ix2 t r)) (Ideal.exp (s (ix2 t r) - broadcastTo (Sh n 256) y T.col (ix2 t r))) (Ideal.ofBits .f32 0x00000000#32) = _
  rw [under_at, col_at, Ideal.ofBits_zero_f32]
  by_cases h : r.val ≤ t.val <;> simp [h, Scalar.select]

theorem span_at (x) (t : Fin n) (d : Fin 128) : span n x (ix2 t d) = x (ix2 t 0) :=
  broadcastTo_apply x O.out (ix2 t d) (ix2 t 0) (fun a => by
    match a with
    | ⟨0, _⟩ =>
      show t.val = if n = 1 then 0 else t.val
      split
      · omega
      · rfl
    | ⟨1, _⟩ => rfl)

theorem HT_at (s x) (t : Fin n) : HT n s x (ix2 t 0) = max (x (ix2 t 0)) (Finset.fold max ⊥ (fun r : Fin 256 => s (ix2 t r)) Finset.univ) := by
  have e : shapeCast (Sh n 1) (multiReduction .maximumf [1] ⟨1, ![n]⟩ s 0xFF800000#32 T.r1 (.inl rfl) rfl) T.up (ix2 t 0) = multiReduction .maximumf [1] ⟨1, ![n]⟩ s 0xFF800000#32 T.r1 (.inl rfl) rfl (ix1 t) := by
    refine shapeCast_apply _ T.up (ix2 t 0) (ix1 t) ?_
    rw [Shape.rowMajor_val_one, Shape.rowMajor_val_two]
    show t.val = t.val * 1 + 0
    omega
  refine (congrArg (max (x (ix2 t 0)) ·) e).trans (congrArg (max (x (ix2 t 0)) ·) ?_)
  rw [← Cert.Reference7Ideal.Value.bot]
  pointwise
end

theorem least_real : ∃ r : ℝ, Ideal.ofBits .f32 0xF149F2CA#32 = ((r : ℝ) : EReal) := by
  simp [Ideal.ofBits, Ideal.ieee]
  simp only [← EReal.coe_pow, ← EReal.coe_mul, ← EReal.coe_neg]
  exact ⟨_, rfl⟩

/-- The real numbers a point loads. -/
structure Nbr where
  q : ℕ → ℕ → ℝ
  k : ℕ → ℕ → ℝ
  v : ℕ → ℕ → ℝ
  cc : Fin 2 → ℕ → ℝ
  cr : Fin 2 → ℕ → ℝ

namespace Nbr
variable (f : Nbr)

/-- The logit, and its exponential measured from a number for the row. -/
def x (h : Fin 2) (t s : ℕ) : ℝ := ∑ d : Fin 128, Cert.Fox.Fns.on h f.q t d * f.k s d + f.cc h t - f.cr h s
def E (h : Fin 2) (μ : ℕ → ℝ) (t s : ℕ) : ℝ := if s ≤ t then Real.exp (f.x h t s - μ t) else 0
def Z (h : Fin 2) (μ : ℕ → ℝ) (t : ℕ) : ℝ := ∑ s ∈ Finset.range 2048, f.E h μ t s

theorem E_late (h : Fin 2) (μ : ℕ → ℝ) (t s : ℕ) (e : t < s) : f.E h μ t s = 0 := if_neg (Nat.not_le.mpr e)
theorem E_same (h : Fin 2) (μ ν : ℕ → ℝ) (t s : ℕ) (e : ν t = μ t) : f.E h ν t s = f.E h μ t s := by unfold E; rw [e]
theorem E_shift (h : Fin 2) (μ ν : ℕ → ℝ) (t s : ℕ) : f.E h μ t s * Real.exp (μ t - ν t) = f.E h ν t s := by
  unfold E
  split
  · rw [← Real.exp_add]; congr 1; ring
  · rw [zero_mul]
theorem Z_shift (h : Fin 2) (μ ν : ℕ → ℝ) (t : ℕ) : f.Z h μ t * Real.exp (μ t - ν t) = f.Z h ν t := by
  unfold Z
  rw [Finset.sum_mul]
  exact Finset.sum_congr rfl fun s _ => f.E_shift h μ ν t s
theorem Z_pos (h : Fin 2) (μ : ℕ → ℝ) (t : ℕ) (ht : t < 2048) : 0 < f.Z h μ t := by
  refine Finset.sum_pos' (fun s _ => ?_) ⟨t, Finset.mem_range.mpr ht, ?_⟩
  · unfold E; split <;> positivity
  · unfold E; rw [if_pos le_rfl]; positivity
/-- The logarithm of the sum is the same from any number. -/
theorem log_same (h : Fin 2) (μ ν : ℕ → ℝ) (t : ℕ) (ht : t < 2048) : μ t + Real.log (f.Z h μ t) = ν t + Real.log (f.Z h ν t) := by
  rw [← f.Z_shift h μ ν t, Real.log_mul (f.Z_pos h μ t ht).ne' (Real.exp_ne_zero _), Real.log_exp]
  ring
/-- So is a mean. -/
theorem mean_same (h : Fin 2) (μ ν : ℕ → ℝ) (t : ℕ) (g : ℕ → ℝ) :
    (∑ s ∈ Finset.range 2048, f.E h μ t s * g s) / f.Z h μ t = (∑ s ∈ Finset.range 2048, f.E h ν t s * g s) / f.Z h ν t := by
  have e : ∑ s ∈ Finset.range 2048, f.E h ν t s * g s = (∑ s ∈ Finset.range 2048, f.E h μ t s * g s) * Real.exp (μ t - ν t) := by
    rw [Finset.sum_mul]
    exact Finset.sum_congr rfl fun s _ => by rw [← f.E_shift h μ ν t s]; ring
  rw [e, ← f.Z_shift h μ ν t, mul_div_mul_right _ _ (Real.exp_ne_zero _)]
end Nbr

/-- The loads are these real numbers. -/
structure Fits (L : Given) (f : Nbr) : Prop where
  q : ∀ (t : Fin 2048) (d : Fin 128), L.q (ix2 t d) = ((f.q t d : ℝ) : EReal)
  k : ∀ (kc : Fin 8) (s : Fin 256) (d : Fin 128), L.k kc (ix2 s d) = ((f.k (256 * kc.val + s.val) d : ℝ) : EReal)
  v : ∀ (kc : Fin 8) (s : Fin 256) (d : Fin 128), L.v kc (ix2 s d) = ((f.v (256 * kc.val + s.val) d : ℝ) : EReal)
  cc : ∀ (h : Fin 2) (t : Fin 2048), L.cc h (ix3 0 t 0) = ((f.cc h t : ℝ) : EReal)
  cr : ∀ (h : Fin 2) (kc : Fin 8) (s : Fin 256), L.cr h kc (ix4 0 0 0 s) = ((f.cr h (256 * kc.val + s.val) : ℝ) : EReal)

variable {L : Given} {f : Nbr} (hL : Fits L f)
include hL

theorem ck_is (h : Fin 2) : Is 0 (ck L h) (fun t _ => f.cc h t) := by
  intro t d
  obtain rfl : d = 0 := Subsingleton.elim _ _
  show ck L h (ix2 t 0) = ((f.cc h (0 + t.val) : ℝ) : EReal)
  rw [zero_add, ← hL.cc h t]
  pointwise [ck]

theorem kk_is (kc : Fin 8) : Is (256 * kc.val) (kk L kc) f.k := by
  intro s d
  rw [← hL.k kc s d]
  pointwise [kk]

theorem vk_is (kc : Fin 8) : Is (256 * kc.val) (vk L kc) f.v := by
  intro s d
  rw [← hL.v kc s d]
  pointwise [vk]

theorem St_is (h : Fin 2) (kc : Fin 8) (t : Fin (nn kc)) (s : Fin 256) :
    St L h kc (ix2 t s) = if s.val ≤ t.val then ((f.x h (256 * kc.val + t.val) (256 * kc.val + s.val) : ℝ) : EReal) else Ideal.ofBits .f32 0xF149F2CA#32 := by
  rw [St, ST_at]
  have e1 := tl_is kc _ _ (mine_is h L.q f.q hL.q)
  have e2 := kk_is hL kc
  have e3 := tl_is kc _ _ (ck_is hL h) t 0
  rw [e3, hL.cr h kc s, Finset.sum_congr rfl fun d _ => by rw [e1 t d, e2 s d, ← EReal.coe_mul], Cert.Real.sum_coe, ← EReal.coe_add, ← EReal.coe_sub]
  rfl

/-- The greatest logits met are real numbers. -/
theorem Ht_real (h : Fin 2) (kc : Fin 8) (μ : ℕ → ℝ) (hμ : Is 0 (top L h kc.val (Nat.le_of_lt kc.isLt)) (fun t _ => μ t)) : ∃ ν : ℕ → ℝ, Is (256 * kc.val) (Ht L h kc) (fun t _ => ν t) := by
  obtain ⟨b, hb⟩ := least_real
  have hS (t : Fin (nn kc)) (s : Fin 256) : ∃ r : ℝ, St L h kc (ix2 t s) = ((r : ℝ) : EReal) := by
    rw [St_is hL]
    split
    · exact ⟨_, rfl⟩
    · exact ⟨b, hb⟩
  have hH (t : Fin (nn kc)) : ∃ r : ℝ, Ht L h kc (ix2 t 0) = ((r : ℝ) : EReal) := by
    obtain ⟨r, hr⟩ := Cert.Reference7Ideal.Value.max_real (fun s : Fin 256 => St L h kc (ix2 t s)) (fun s => by obtain ⟨r, hr⟩ := hS t s; rw [hr]; exact EReal.coe_lt_top r) 0 (by obtain ⟨r, hr⟩ := hS t 0; rw [hr]; exact EReal.coe_ne_bot r)
    refine ⟨max (μ (256 * kc.val + t.val)) r, ?_⟩
    rw [Ht, HT_at, hr, tl_is kc _ _ hμ t 0]
    exact (EReal.coe_strictMono.monotone.map_max (a := μ (256 * kc.val + t.val)) (b := r)).symm
  refine ⟨fun u => if e : u - 256 * kc.val < nn kc then (hH ⟨u - 256 * kc.val, e⟩).choose else 0, fun t d => ?_⟩
  obtain rfl : d = 0 := Subsingleton.elim _ _
  have e : 256 * kc.val + t.val - 256 * kc.val = t.val := by omega
  show Ht L h kc (ix2 t 0) = (((if e : 256 * kc.val + t.val - 256 * kc.val < nn kc then (hH ⟨256 * kc.val + t.val - 256 * kc.val, e⟩).choose else 0 : ℝ)) : EReal)
  rw [dif_pos (by rw [e]; exact t.isLt)]
  exact (hH t).choose_spec.trans (congrArg (fun u : Fin (nn kc) => (((hH u).choose : ℝ) : EReal)) (Fin.ext e.symm))

omit hL in
theorem At_is (h : Fin 2) (kc : Fin 8) (μ ν : ℕ → ℝ) (hμ : Is 0 (top L h kc.val (Nat.le_of_lt kc.isLt)) (fun t _ => μ t)) (hν : Is (256 * kc.val) (Ht L h kc) (fun t _ => ν t)) (t : Fin (nn kc)) :
    At L h kc (ix2 t 0) = ((Real.exp (μ (256 * kc.val + t.val) - ν (256 * kc.val + t.val)) : ℝ) : EReal) := by
  show Ideal.exp (tl kc (top L h kc.val (Nat.le_of_lt kc.isLt)) (ix2 t 0) - Ht L h kc (ix2 t 0)) = _
  rw [tl_is kc _ _ hμ t 0, hν t 0, ← EReal.coe_sub, Ideal.exp_coe]

theorem Et_is (h : Fin 2) (kc : Fin 8) (ν : ℕ → ℝ) (hν : Is (256 * kc.val) (Ht L h kc) (fun t _ => ν t)) (t : Fin (nn kc)) (s : Fin 256) :
    Et L h kc (ix2 t s) = ((f.E h ν (256 * kc.val + t.val) (256 * kc.val + s.val) : ℝ) : EReal) := by
  rw [Et, ET_at, St_is hL, hν t 0]
  unfold Nbr.E
  by_cases c : s.val ≤ t.val
  · rw [if_pos c, if_pos c, if_pos (by omega), ← EReal.coe_sub, Ideal.exp_coe]
  · rw [if_neg c, if_neg (by omega), EReal.coe_zero]

/-- After some chunks: the sums and the values are measured from the same real numbers, one for each row. -/
theorem so_far (h : Fin 2) : ∀ (n : ℕ) (e : n ≤ 8), ∃ μ : ℕ → ℝ, Is 0 (top L h n e) (fun t _ => μ t)
    ∧ Is 0 (mass L h n e) (fun t _ => ∑ s ∈ Finset.range (256 * n), f.E h μ t s) ∧ Is 0 (load L h n e) (fun t d => ∑ s ∈ Finset.range (256 * n), f.E h μ t s * f.v s d)
  | 0, _ => by
    obtain ⟨b, hb⟩ := least_real
    refine ⟨fun _ => b, fun t d => hb, fun t d => ?_, fun t d => ?_⟩
    · show Ideal.ofBits .f32 0x00000000#32 = ((∑ s ∈ Finset.range (256 * 0), _ : ℝ) : EReal)
      rw [Ideal.ofBits_zero_f32]
      simp
    · show Ideal.ofBits .f32 0x00000000#32 = ((∑ s ∈ Finset.range (256 * 0), _ : ℝ) : EReal)
      rw [Ideal.ofBits_zero_f32]
      simp
  | n + 1, e => by
    obtain ⟨μ, hμ, hm, hl⟩ := so_far h n (Nat.le_of_succ_le e)
    obtain ⟨ν, hν⟩ := Ht_real hL h ⟨n, e⟩ μ hμ
    let w : ℕ → ℝ := fun t => if t < 256 * n then μ t else ν t
    have hlo (t : ℕ) (ht : t < 256 * n) : w t = μ t := if_pos ht
    have hhi (t : ℕ) : w (256 * n + t) = ν (256 * n + t) := if_neg (by omega)
    have hsum (t : ℕ) (g : ℕ → ℝ) : (∑ s ∈ Finset.range (256 * n), f.E h μ (256 * n + t) s * g s) * Real.exp (μ (256 * n + t) - ν (256 * n + t)) = ∑ s ∈ Finset.range (256 * n), f.E h w (256 * n + t) s * g s := by
      rw [Finset.sum_mul]
      exact Finset.sum_congr rfl fun s _ => by rw [f.E_same h ν w _ s (hhi t), ← f.E_shift h μ ν]; ring
    refine ⟨w, bk_is ⟨n, e⟩ _ _ _ (fun t d ht => ?_) (fun t d => ?_), bk_is ⟨n, e⟩ _ _ _ (fun t d ht => ?_) (fun t d => ?_), bk_is ⟨n, e⟩ _ _ _ (fun t d ht => ?_) (fun t d => ?_)⟩
    · rw [hμ t d, zero_add, hlo t.val ht]
    · exact (hν t d).trans (congrArg _ (hhi t.val).symm)
    · rw [hm t d, zero_add, sum_step, Finset.sum_eq_zero (s := Finset.univ) (fun s _ => f.E_late h w _ _ (Nat.lt_of_lt_of_le ht (Nat.le_add_right _ _))), add_zero, Finset.sum_congr rfl fun s _ => f.E_same h μ w _ s (hlo t.val ht)]
    · obtain rfl : d = 0 := Subsingleton.elim _ _
      have e1 := hsum t.val (fun _ => 1)
      simp only [mul_one] at e1
      rw [CT_at]
      show tl ⟨n, e⟩ (mass L h n (Nat.le_of_succ_le e)) (ix2 t 0) * At L h ⟨n, e⟩ (ix2 t 0) + _ = _
      rw [tl_is ⟨n, e⟩ _ _ hm t 0, At_is h ⟨n, e⟩ μ ν hμ hν t, ← EReal.coe_mul, Finset.sum_congr rfl fun s _ => by rw [Et_is hL h ⟨n, e⟩ ν hν, f.E_same h w ν _ _ (hhi t.val).symm], Cert.Real.sum_coe, ← EReal.coe_add, e1, sum_step]
    · rw [hl t d, zero_add, sum_step, Finset.sum_eq_zero (s := Finset.univ) (fun s _ => by rw [f.E_late h w _ _ (Nat.lt_of_lt_of_le ht (Nat.le_add_right _ _)), zero_mul]), add_zero, Finset.sum_congr rfl fun s _ => by rw [f.E_same h μ w _ s (hlo t.val ht)]]
    · have e1 := hsum t.val (fun s => f.v s d)
      have e2 := vk_is hL ⟨n, e⟩
      rw [QT_at]
      show tl ⟨n, e⟩ (load L h n (Nat.le_of_succ_le e)) (ix2 t d) * span (nn ⟨n, e⟩) (At L h ⟨n, e⟩) (ix2 t d) + _ = _
      rw [tl_is ⟨n, e⟩ _ _ hl t d, span_at, At_is h ⟨n, e⟩ μ ν hμ hν t, ← EReal.coe_mul, Finset.sum_congr rfl fun s _ => by rw [Et_is hL h ⟨n, e⟩ ν hν, f.E_same h w ν _ _ (hhi t.val).symm, e2 s d, ← EReal.coe_mul], Cert.Real.sum_coe, ← EReal.coe_add, e1, sum_step]

/-- The mean values, measured from any numbers. -/
theorem mean_is (h : Fin 2) (ν : ℕ → ℝ) (t : Fin 2048) (d : Fin 128) : mean L h (ix2 t d) = (((∑ s ∈ Finset.range 2048, f.E h ν t s * f.v s d) / f.Z h ν t : ℝ) : EReal) := by
  obtain ⟨μ, -, hm, hl⟩ := so_far hL h 8 (Nat.le_refl 8)
  have e1 := hm t 0
  have e2 := hl t d
  rw [zero_add] at e1 e2
  have hz := f.Z_pos h μ t t.isLt
  show Ideal.div (load L h 8 (Nat.le_refl 8) (ix2 t d)) (span (nn 0) (mass L h 8 (Nat.le_refl 8)) (ix2 t d)) = _
  rw [span_at (nn 0) (mass L h 8 (Nat.le_refl 8)) t d, e2]
  refine (congrArg (Ideal.div _ ·) e1).trans ?_
  show Ideal.div _ ((f.Z h μ t : ℝ) : EReal) = _
  rw [Ideal.div_coe hz.ne', ← EReal.coe_mul, mul_one_div, ← f.mean_same h μ ν t (fun s => f.v s d)]

theorem both_is (ν : ℕ → ℝ) (t : Fin 2048) (l : Fin 2) (d : Fin 128) (hd : d.val / 64 = l.val) : both L (ix2 t d) = (((∑ s ∈ Finset.range 2048, f.E l ν t s * f.v s d) / f.Z l ν t : ℝ) : EReal) := by
  show Scalar.select (lanes 0 (ix2 t d)) (mean L 0 (ix2 t d)) (mean L 1 (ix2 t d)) = _
  rw [lanes_at]
  rcases (show l = 0 ∨ l = 1 by omega) with rfl | rfl
  · rw [← mean_is hL 0 ν t d]
    simp [Scalar.select, show d.val / 64 = 0 from hd]
  · rw [← mean_is hL 1 ν t d]
    simp [Scalar.select, show d.val / 64 = 1 from hd]

theorem logs_is (h : Fin 2) (ν : ℕ → ℝ) (z : Fin 1) (t : Fin 2048) (u : Fin 1) : logs L h (ix3 z t u) = ((ν t + Real.log (f.Z h ν t) : ℝ) : EReal) := by
  obtain ⟨μ, ht, hm, -⟩ := so_far hL h 8 (Nat.le_refl 8)
  have e1 := hm t 0
  have e2 := ht t 0
  rw [zero_add] at e1 e2
  have hz := f.Z_pos h μ t t.isLt
  have e : logs L h (ix3 z t u) = top L h 8 (Nat.le_refl 8) (ix2 t 0) + Ideal.log (mass L h 8 (Nat.le_refl 8) (ix2 t 0)) := by
    pointwise [logs]
  rw [e, e2]
  refine (congrArg (_ + Ideal.log ·) e1).trans ?_
  show _ + Ideal.log ((f.Z h μ t : ℝ) : EReal) = _
  rw [Ideal.log_coe, if_neg (not_le.mpr hz), ← EReal.coe_add, f.log_same h μ ν t t.isLt]

end Cert.Soft
-- ==== Proof.SbOut.lean ====
/- What every point of the stick-breaking attention's gradient leaves: a working point's three results in real numbers, and each point's block of them. -/
module

public import proofs.«01_k».proof.Proof.SbReal
public import proofs.«01_k».proof.Proof.FoxPoint
public import Idealize.ShloMosaic.Lib.WholeRead

@[expose] public section

set_option maxRecDepth 16384

noncomputable section

namespace Cert.Kernel8Ideal.Sb

open Cert.Kernel8Ideal Cert.Kernel8Ideal.Gen Cert.Stick
open Cert.Fox (Is rk tp lanes lanes_at sel_at)
open Cert.Kernel7Ideal.Fox (hd on_hd eighth)
open Idealize.ShloMosaic Idealize.ShloMosaic.TcCoe Idealize.ShloMosaic.Tactic
open Idealize.ShloMosaic.Pipeline (Dat)

variable (m : (ℓ : Loc nD τ sig) → Buf (Elt Ideal) ℓ)

/-! ## The kept results -/

theorem rr_disj (j i : Fin 3) (n k : ℕ) (en : n < 8) (ek : k < 8) (e : j ≠ i ∨ n ≠ k) : LoadRect.disj (rr j n en) (rr i k ek).toLoadRect = true := by
  rcases e with e | e
  · have : j.val ≠ i.val := fun q => e (Fin.ext q)
    exact decide_eq_true ⟨0, Or.inr (Or.inr (show j.val + 1 * (1 - 1) < i.val ∨ i.val + 1 * (1 - 1) < j.val by omega))⟩
  · exact decide_eq_true ⟨1, Or.inr (Or.inr (show 256 * n + 1 * (256 - 1) < 256 * k ∨ 256 * k + 1 * (256 - 1) < 256 * n by omega))⟩

/-- The rows laid from a buffer's blocks; rows of another result stay. -/
theorem laid_is (j : Fin 3) (v : View sig .tc .vmem S8x128x256 .f32) (H : List (View.Piece (Elt Ideal) S8x128x256 .f32)) (P : List (View.Piece (Elt Ideal) S3x2048x128 .bf16)) (i : Fin 3) (k : ℕ) (ek : k < 8) : ∀ (n : ℕ) (e : n ≤ 8),
    keptView.readCov (laid j v H P n e) (rr i k ek).toLoadRect = if j = i ∧ k < n then k0_pay942 (F := Ideal) (v.readCov H (rk k ek).toLoadRect) else keptView.readCov P (rr i k ek).toLoadRect
  | 0, _ => by rw [if_neg (fun h => Nat.not_lt_zero _ h.2)]; rfl
  | n + 1, e => by
    unfold laid
    by_cases hh : j = i ∧ n = k
    · obtain ⟨rfl, rfl⟩ := hh
      rw [if_pos ⟨rfl, Nat.lt_succ_self _⟩]
      exact View.readCov_cons_toLoadRect keptView (rr j n e) _ _
    · have hd : j ≠ i ∨ n ≠ k := by
        by_cases q : j = i
        · exact Or.inr fun r => hh ⟨q, r⟩
        · exact Or.inl q
      rw [View.readCov_skip keptView _ _ _ _ (rr_disj j i n k e ek hd), laid_is j v H P i k ek n (Nat.le_of_succ_le e)]
      have : (j = i ∧ k < n) ↔ (j = i ∧ k < n + 1) := ⟨fun ⟨a, b⟩ => ⟨a, by omega⟩, fun ⟨a, b⟩ => ⟨a, by have : n ≠ k := fun r => hh ⟨a, r⟩; omega⟩⟩
      simp only [this]

/-- A kept row, in the chunk it lies in. -/
theorem res_row (c : Dev nD) (t : Fin cfg0.N) (h : t.val % 3 = 0) (j : Fin 3) (r : Fin 2048) (d : Fin 128) :
    res m c t h (ix3 j r d) = keptView.readCov (kept (held m c t)) (rr j (r.val / 256) (by omega)).toLoadRect (ix3 0 ⟨r.val % 256, Nat.mod_lt _ (by decide)⟩ d) := by
  unfold res
  rw [View.read_writes_junk_eq_canon, View.readCov_eq_canon', work_res]
  refine congrArg _ (funext fun a => Fin.ext ?_)
  match a with
  | ⟨0, _⟩ => show j.val = j.val + 1 * 0; omega
  | ⟨1, _⟩ => show r.val = 256 * (r.val / 256) + 1 * (r.val % 256); omega
  | ⟨2, _⟩ => show d.val = 0 + 1 * d.val; omega

theorem turn_at (x : FVec Ideal S1x128x256 .f32) (s : Fin 256) (d : Fin 128) : k0_pay942 (F := Ideal) x (ix3 0 s d) = x (ix3 0 d s) := by
  pointwise [k0_pay942]

variable {m} {c : Dev nD} {t : Fin cfg0.N} (h : t.val % 3 = 0) {f : Lns} (hL : Hold (held m c t) f)
include hL

theorem res_v (r : Fin 2048) (d : Fin 128) : res m c t h (ix3 2 r d) = ((∑ t ∈ Finset.range 2048, f.d t d * f.W (hd d) t r : ℝ) : EReal) := by
  have ek : r.val / 256 < 8 := by omega
  rw [res_row, kept, laid_is, if_pos ⟨rfl, ek⟩, turn_at]
  have b := allV_is hL ⟨r.val / 256, ek⟩ d ⟨r.val % 256, Nat.mod_lt _ (by decide)⟩
  simp only [Nat.div_add_mod] at b
  rw [on_hd f.d (fun h t => f.W h t r) d] at b
  exact b

theorem res_k (r : Fin 2048) (d : Fin 128) : res m c t h (ix3 1 r d) = ((∑ t ∈ Finset.range 2048, f.q t d * f.D (hd d) t r : ℝ) : EReal) := by
  have ek : r.val / 256 < 8 := by omega
  rw [res_row, kept, laid_is, if_neg (fun e => absurd e.1 (by decide)), laid_is, if_pos ⟨rfl, ek⟩, turn_at]
  have b := allK_is hL ⟨r.val / 256, ek⟩ d ⟨r.val % 256, Nat.mod_lt _ (by decide)⟩
  simp only [Nat.div_add_mod] at b
  rw [on_hd f.q (fun h t => f.D h t r) d] at b
  exact b

theorem dq_is (r : Fin 2048) (d : Fin 128) : dq (held m c t) (ix3 0 r d) = (((∑ s ∈ Finset.range 2048, f.D (hd d) r s * f.k s d) * (1 / 8) : ℝ) : EReal) := by
  have q0 := sumQ_is hL 0 8 (Nat.le_refl 8) r d
  have q1 := sumQ_is hL 1 8 (Nat.le_refl 8) r d
  rw [zero_add] at q0 q1
  have : dq (held m c t) (ix3 0 r d) = Scalar.select (lanes 0 (ix2 r d)) (sumQ (held m c t) 0 8 (Nat.le_refl 8) (ix2 r d)) (sumQ (held m c t) 1 8 (Nat.le_refl 8) (ix2 r d)) * Ideal.ofBits .f32 0x3E000000#32 := by
    unfold dq
    pointwise
  rw [this, lanes_at, q0, q1, eighth]
  unfold hd
  by_cases c0 : d.val / 64 = 0
  · simp [c0, Scalar.select]
  · simp [c0, Scalar.select]

theorem res_q (r : Fin 2048) (d : Fin 128) : res m c t h (ix3 0 r d) = (((∑ s ∈ Finset.range 2048, f.D (hd d) r s * f.k s d) * (1 / 8) : ℝ) : EReal) := by
  have ek : r.val / 256 < 8 := by omega
  rw [res_row, kept, laid_is, if_neg (fun e => absurd e.1 (by decide)), laid_is, if_neg (fun e => absurd e.1 (by decide)), View.readCov_eq_canon']
  have hi : (rr 0 (r.val / 256) ek).toLoadRect.idx (ix3 0 ⟨r.val % 256, Nat.mod_lt _ (by decide)⟩ d) = (Rect.unit (s := S3x2048x128) ![0, 0, 0] S1x2048x128.size (by decide)).emb (ix3 0 r d) := by
    refine funext fun a => Fin.ext ?_
    match a with
    | ⟨0, _⟩ => rfl
    | ⟨1, _⟩ => show 256 * (r.val / 256) + 1 * (r.val % 256) = 0 + 1 * r.val; omega
    | ⟨2, _⟩ => rfl
  exact (congrArg (View.canon _) hi).trans ((View.canon_cons_emb _ _ _ _).trans (dq_is hL r d))

omit hL h
variable (m)

/-! ## The blocks that the points hand on -/

/-- The kept result of a point, and where it reads it. -/
def jj (t : Fin cfg0.N) : Fin 3 := ⟨t.val % 3, Nat.mod_lt _ (by decide)⟩
abbrev rs (t : Fin cfg0.N) : Rect S3x2048x128 := Rect.unit (k0_off37 (grid0.coords t)) S1x2048x128.size (k0_off37_inb (grid0.coords t))

theorem rs_off : ∀ t : Fin cfg0.N, k0_off37 (grid0.coords t) = ![t.val % 3, 0, 0] := (by decide +kernel : ∀ t : Fin grid0.N, _)

theorem rs_idx (t : Fin cfg0.N) (r : Fin 2048) (d : Fin 128) : (rs t).toLoadRect.idx (ix3 0 r d) = ix3 (jj t) r d := by
  have e := rs_off t
  refine funext fun a => Fin.ext ?_
  match a with
  | ⟨0, _⟩ => show k0_off37 (grid0.coords t) 0 + 1 * 0 = t.val % 3; rw [e]; rfl
  | ⟨1, _⟩ => show k0_off37 (grid0.coords t) 1 + 1 * r.val = r.val; rw [e]; show 0 + 1 * r.val = r.val; omega
  | ⟨2, _⟩ => show k0_off37 (grid0.coords t) 2 + 1 * d.val = d.val; rw [e]; show 0 + 1 * d.val = d.val; omega

theorem work_out (c : Dev nD) (t : Fin cfg0.N) (h : t.val % 3 = 0) : (work m c t h).1 = [⟨rw0, k0_pay4 (F := Ideal) (keptView.readCov (work m c t h).2.1 (rs t).toLoadRect)⟩] := by
  sl_kernel_rfl

theorem hand_out (c : Dev nD) (t : Fin cfg0.N) (h : ¬t.val % 3 = 0) (x : Vec Ideal S3x2048x128 .bf16) :
    (hand (F := Ideal) c t h x).1 = [⟨rw0, k0_pay4 (F := Ideal) (View.readAt (Elt Ideal) keptView (rs t).toLoadRect ((Memref.isWhole_whole cc0_scratch4).unread x))⟩] := by
  sl_kernel_rfl

theorem pay4_at (x : FVec Ideal S1x2048x128 .bf16) (r : Fin 2048) (d : Fin 128) : k0_pay4 (F := Ideal) x (ix2 r d) = x (ix3 0 r d) := by
  pointwise [k0_pay4]

/-- A block that one store fills. -/
theorem whole_of (B) (x : FVec Ideal S1x2048x128 .bf16) (hB : B = [⟨rw0, k0_pay4 (F := Ideal) x⟩]) (r : Fin 2048) (d : Fin 128) :
    outView.read (Elt Ideal) (outView.writes (Elt Ideal) outView.junk B) (ix2 r d) = x (ix3 0 r d) := by
  subst hB
  rw [View.read_writes_junk_eq_canon]
  exact (congrFun (View.canon_cons_unit_lit (Val := Elt Ideal) (e := .bf16) (S := S2048x128) (off := ![0, 0]) (by decide) _ [] (by decide)) _).trans (pay4_at x r d)

/-- Each point hands on its kept result. -/
theorem outAt_eq (c : Dev nD) (t : Fin cfg0.N) (r : Fin 2048) (d : Fin 128) : outAt m c t (ix2 r d) = resAt m c t (ix3 (jj t) r d) := by
  unfold outAt
  by_cases h : t.val % 3 = 0
  · rw [dif_pos h, resAt_work m c t h]
    refine (whole_of _ _ (work_out m c t h) r d).trans ?_
    unfold res
    rw [View.readCov_eq_canon', View.read_writes_junk_eq_canon]
    exact congrArg (View.canon _) (rs_idx t r d)
  · rw [dif_neg h]
    exact (whole_of _ _ (hand_out c t h _) r d).trans ((Memref.IsWhole.readAt_unread (Memref.isWhole_whole cc0_scratch4) _ _ _).trans (congrArg _ (rs_idx t r d)))

theorem idx : ∀ t : Fin cfg0.N, win0_0.index t = ![0, t.val / 3] ∧ win0_1.index t = ![0, 4 + t.val / 3] ∧ win0_2.index t = ![0, 8 + t.val / 3] ∧ win0_3.index t = ![0, t.val / 3]
    ∧ win0_4.index t = ![0, 4 * (t.val % 3) + t.val / 3] :=
  (by decide +kernel : ∀ t : Fin grid0.N, _)

end Cert.Kernel8Ideal.Sb
-- ==== Proof.SbIn.lean ====
/- The stick-breaking attention's gradient: what the host hands to the kernel, and what stands in the kernel's array after it. -/
module

public import proofs.«01_k».proof.Proof.SbOut
public import proofs.«01_k».proof.Proof.SbHost
public import proofs.«01_k».proof.Proof.Fox

@[expose] public section

set_option maxRecDepth 16384

noncomputable section

namespace Cert.Kernel8Ideal.Value

open Cert.Kernel8Ideal Cert.Kernel8Ideal.Gen Cert.Kernel8Ideal.Sb
open Cert.Stick (Lns Hold lp_neg lp_rest)
open Cert.Kernel7Ideal.Value (RW RW_at at2 at2_fin hp lp hl ll hj lp_hj sum_head sum_range_fin h4 h2 hp_h ln_of hd_hj rw0_idx rq_idx)
open Cert.Kernel7Ideal.Fox (hd)
open Cert.Reference7Ideal.Value (ln eighth)
open Cert.Reference8Ideal.Value (Vals Are)
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S1x2048x512 .f32 := m ((c : Thread nD τ).loc main_arg0)
abbrev a1 (c : Dev nD) : FVec Ideal S1x2048x512 .f32 := m ((c : Thread nD τ).loc main_arg1)
abbrev a2 (c : Dev nD) : FVec Ideal S1x2048x512 .f32 := m ((c : Thread nD τ).loc main_arg2)
abbrev a3 (c : Dev nD) : FVec Ideal S1x2048x512 .f32 := m ((c : Thread nD τ).loc main_arg3)

/-! ## What the host hands to the kernel -/

/-- A column of the queries, of the keys and of the values. -/
def cc (n : Fin 3) (j : Fin 512) : Fin 3072 := ⟨n.val * 512 + j.val, by omega⟩

def ALL (q k v : FVec Ideal S1x2048x512 .f32) : FVec Ideal S2048x3072 .f32 :=
  concatenate S2048x3072 1 [⟨S2048x512, mulf (RW q) (broadcastInDim S2048x512 ![] bcast_S_S2048x512 (constant S_ .f32 0x3E000000#32))⟩, ⟨S2048x512, RW k⟩, ⟨S2048x512, RW v⟩, ⟨S2048x1536, broadcastInDim S2048x1536 ![] bcast_S_S2048x1536 (constant S_ .f32 0x00000000#32)⟩] concatenates_S2048x512_S2048x512_S2048x512_S2048x1536_S2048x3072_d1

theorem v7 (c : Dev nD) : V m c main_v7 = truncf .bf16 (ALL (a0 m c) (a1 m c) (a2 m c)) bitsLt_bf16_f32 := by
  simp only [V, V0, hostOps0, List.flatten_cons, List.flatten_nil, List.append_nil, List.cons_append, List.nil_append]
  after_results
  rfl

theorem v9 (c : Dev nD) (t : Fin 2048) (j : Fin 512) : V m c main_v9 (ix2 t j) = a3 m c (ix3 0 t j) := by
  simp only [V, V0, hostOps0, List.flatten_cons, List.flatten_nil, List.append_nil, List.cons_append, List.nil_append]
  after_results
  pointwise

theorem ALL_q (q k v) (t : Fin 2048) (j : Fin 512) : ALL q k v (ix2 t (cc 0 j)) = q (ix3 0 t j) * Ideal.ofBits .f32 0x3E000000#32 := by
  unfold ALL
  pointwise [cc]
theorem ALL_k (q k v) (t : Fin 2048) (j : Fin 512) : ALL q k v (ix2 t (cc 1 j)) = k (ix3 0 t j) := by
  unfold ALL
  pointwise [cc]
theorem ALL_v (q k v) (t : Fin 2048) (j : Fin 512) : ALL q k v (ix2 t (cc 2 j)) = v (ix3 0 t j) := by
  unfold ALL
  pointwise [cc]
  rw [dif_neg (by omega), dif_neg (by omega), dif_pos (by omega)]
  exact congrArg (fun j => v (ix3 0 t j)) (Fin.ext (by simp only []; omega))

/-! ## A point's blocks -/

theorem lt12 (t : Fin cfg0.N) : t.val < 12 := t.isLt
/-- A point's pair of heads. -/
def pp (t : Fin cfg0.N) : Fin 4 := ⟨t.val / 3, by have := lt12 t; omega⟩

theorem b0 (c : Dev nD) (t : Fin cfg0.N) (r : Fin 2048) (d : Fin 128) : iblk m c 0 t (ix2 r d) = a0 m c (ix3 0 r (lp (pp t) d)) * Ideal.ofBits .f32 0x3E000000#32 := by
  unfold iblk
  rw [View.read, cast_eq]
  refine (congrArg (V m c main_v7) (by blk_ext [idx t, cc, lp, pp] : _ = ix2 r (cc 0 (lp (pp t) d)))).trans ?_
  rw [v7]
  exact ALL_q _ _ _ r _
theorem b1 (c : Dev nD) (t : Fin cfg0.N) (r : Fin 2048) (d : Fin 128) : iblk m c 1 t (ix2 r d) = a1 m c (ix3 0 r (lp (pp t) d)) := by
  unfold iblk
  rw [View.read, cast_eq]
  refine (congrArg (V m c main_v7) (by blk_ext [idx t, cc, lp, pp] : _ = ix2 r (cc 1 (lp (pp t) d)))).trans ?_
  rw [v7]
  exact ALL_k _ _ _ r _
theorem b2 (c : Dev nD) (t : Fin cfg0.N) (r : Fin 2048) (d : Fin 128) : iblk m c 2 t (ix2 r d) = a2 m c (ix3 0 r (lp (pp t) d)) := by
  unfold iblk
  rw [View.read, cast_eq]
  refine (congrArg (V m c main_v7) (by blk_ext [idx t, cc, lp, pp] : _ = ix2 r (cc 2 (lp (pp t) d)))).trans ?_
  rw [v7]
  exact ALL_v _ _ _ r _
theorem b3 (c : Dev nD) (t : Fin cfg0.N) (r : Fin 2048) (d : Fin 128) : iblk m c 3 t (ix2 r d) = a3 m c (ix3 0 r (lp (pp t) d)) := by
  unfold iblk
  rw [View.read, cast_eq]
  exact (congrArg (V m c main_v9) (by blk_ext [idx t, lp, pp])).trans (v9 m c r (lp (pp t) d))

/-- A pair's real numbers. -/
def lns (g : Vals) (p : Fin 4) : Lns where
  q := at2 fun t d => g.q t (lp p d) * (1 / 8)
  k := at2 fun t d => g.k t (lp p d)
  v := at2 fun t d => g.v t (lp p d)
  d := at2 fun t d => g.d t (lp p d)

theorem held_is {g : Vals} {c : Dev nD} (H : Are (a0 m c) (a1 m c) (a2 m c) (a3 m c) g) (t : Fin cfg0.N) : Hold (held m c t) (lns g (pp t)) where
  q r d := by
    refine (Memref.IsWhole.readAt_unread (hstage0_0 _) _ _ _).trans ((congrArg _ (rw0_idx r d)).trans ((b0 m c t r d).trans ?_))
    rw [H.q, eighth, ← EReal.coe_mul]
    exact congrArg _ (at2_fin (fun r d => g.q r (lp (pp t) d) * (1 / 8)) r d).symm
  d r d := by
    refine (Memref.IsWhole.readAt_unread (hstage0_3 _) _ _ _).trans ((congrArg _ (rw0_idx r d)).trans ((b3 m c t r d).trans ?_))
    rw [H.d]
    exact congrArg _ (at2_fin (fun r d => g.d r (lp (pp t) d)) r d).symm
  k kc s d := by
    refine (Memref.IsWhole.readAt_unread (hstage0_1 _) _ _ _).trans ((congrArg _ (rq_idx kc s d)).trans ((b1 m c t _ d).trans ?_))
    rw [H.k]
    exact congrArg _ (at2_fin (fun r d => g.k r (lp (pp t) d)) (⟨256 * kc.val + s.val, by omega⟩ : Fin 2048) d).symm
  v kc s d := by
    refine (Memref.IsWhole.readAt_unread (hstage0_2 _) _ _ _).trans ((congrArg _ (rq_idx kc s d)).trans ((b2 m c t _ d).trans ?_))
    rw [H.v]
    exact congrArg _ (at2_fin (fun r d => g.v r (lp (pp t) d)) (⟨256 * kc.val + s.val, by omega⟩ : Fin 2048) d).symm

/-! ## The kernel's numbers and the reference's -/

section
variable (g : Vals) (p : Fin 4) (l : Fin 2)

theorem lns_q (t : Fin 2048) (j : Fin 64) : (lns g p).q t.val (hj l j).val = g.q t (ln (hp p l) j) * (1 / 8) := (at2_fin (fun t d => g.q t (lp p d) * (1 / 8)) t (hj l j)).trans (by beta_reduce; rw [lp_hj])
theorem lns_k (t : Fin 2048) (j : Fin 64) : (lns g p).k t.val (hj l j).val = g.k t (ln (hp p l) j) := (at2_fin (fun t d => g.k t (lp p d)) t (hj l j)).trans (by beta_reduce; rw [lp_hj])
theorem lns_v (t : Fin 2048) (j : Fin 64) : (lns g p).v t.val (hj l j).val = g.v t (ln (hp p l) j) := (at2_fin (fun t d => g.v t (lp p d)) t (hj l j)).trans (by beta_reduce; rw [lp_hj])
theorem lns_d (t : Fin 2048) (j : Fin 64) : (lns g p).d t.val (hj l j).val = g.d t (ln (hp p l) j) := (at2_fin (fun t d => g.d t (lp p d)) t (hj l j)).trans (by beta_reduce; rw [lp_hj])

/-- A sum over the pair's lanes that only one head enters. -/
theorem on_head (x y : ℕ → ℕ → ℝ) (t s : ℕ) : ∑ d : Fin 128, Cert.Fox.Fns.on l x t d * y s d = ∑ j : Fin 64, x t (hj l j) * y s (hj l j) := by
  simp only [Cert.Fox.Fns.on, ite_mul, zero_mul]
  exact sum_head l fun d => x t d * y s d

theorem lns_z (t s : Fin 2048) : (lns g p).z l t s = g.X (hp p l) t s := by
  rw [Lns.z, on_head, Vals.X, Finset.sum_mul]
  exact Finset.sum_congr rfl fun j _ => by rw [lns_q, lns_k]; ring

theorem lns_y (t s : Fin 2048) : (lns g p).y l t s = g.Y (hp p l) t s := by
  rw [Lns.y, on_head, Vals.Y]
  exact Finset.sum_congr rfl fun j _ => by rw [lns_d, lns_v]

theorem lns_l (t s : Fin 2048) : (lns g p).l l t s = g.L (hp p l) t s := by
  unfold Lns.l Vals.L
  rw [lns_z]

/-- The keys past one, as the reference counts them. -/
theorem past_sum (f : ℕ → ℝ) (s : Fin 2048) : ∑ r ∈ Finset.Ico (s.val + 1) 2048, f r = (∑ r : Fin 2048, if s.val ≤ r.val then f r.val else 0) - f s.val := by
  rw [← Finset.sum_range (fun r => if s.val ≤ r then f r else 0), ← Finset.sum_filter, show (Finset.range 2048).filter (fun r => s.val ≤ r) = Finset.Ico s.val 2048 by ext r; simp only [Finset.mem_filter, Finset.mem_range, Finset.mem_Ico]; omega, Finset.sum_eq_sum_Ico_succ_bot s.isLt]
  ring
theorem fore_sum (f : ℕ → ℝ) (s : Fin 2048) : ∑ r ∈ Finset.range s.val, f r = -f s.val + ∑ r : Fin 2048, if r.val ≤ s.val then f r.val else 0 := by
  rw [← Finset.sum_range (fun r => if r ≤ s.val then f r else 0), ← Finset.sum_filter, show (Finset.range 2048).filter (fun r => r ≤ s.val) = Finset.range (s.val + 1) by ext r; simp only [Finset.mem_filter, Finset.mem_range]; have := s.isLt; omega, Finset.sum_range_succ]
  ring

theorem lns_W (t s : Fin 2048) : (lns g p).W l t s = g.W (hp p l) t s := by
  unfold Lns.W Vals.W Vals.E
  rw [lns_z, past_sum, lns_l, lp_neg, Finset.sum_congr rfl fun r _ => by rw [lns_l]]
  by_cases h : s.val < t.val
  · rw [if_pos h, if_pos h]
    congr 1
    ring
  · rw [if_neg h, if_neg h]

theorem lns_G (t s : Fin 2048) : (lns g p).G l t s = g.G (hp p l) t s := by
  rw [Lns.G, lns_W, lns_y]
  unfold Vals.W Vals.G
  by_cases h : s.val < t.val
  · rw [if_pos h, if_pos h, mul_comm]
  · rw [if_neg h, if_neg h, zero_mul, zero_mul]

theorem lns_D (t s : Fin 2048) : (lns g p).D l t s = g.S (hp p l) t s := by
  unfold Lns.D Lns.B Vals.S
  rw [lns_z, lns_G, fore_sum, lns_G, Finset.sum_congr rfl fun r _ => by rw [lns_G], lp_rest, lp_neg]
  by_cases h : s.val < t.val
  · rw [if_pos h, if_pos h, show -g.X (hp p l) t s - (Cert.Stick.lp (g.X (hp p l) t s) - g.X (hp p l) t s) = -Cert.Stick.lp (g.X (hp p l) t s) by ring]
    ring
  · rw [if_neg h, if_neg h, show g.G (hp p l) t s = 0 by rw [Vals.G, if_neg h, zero_mul]]
    ring
end

/-! ## The kernel's array -/

/-- A pair's working point. -/
def tt (p : Fin 4) : Fin cfg0.N := ⟨3 * p.val, by have := p.isLt; show 3 * p.val < 12; omega⟩
theorem tt_mod (p : Fin 4) : (tt p).val % 3 = 0 := by simp only [tt]; omega
theorem pp_tt (p : Fin 4) : pp (tt p) = p := Fin.ext (by simp only [pp, tt]; omega)
theorem res_tt (c : Dev nD) (t : Fin cfg0.N) : resAt m c t = resAt m c (tt (pp t)) := res_congr m c (Fin.ext (by simp only [base, tt, pp]; omega)) _ _

/-- A column's pair, kept result and lane. -/
def c4 (j : Fin 3072) : Fin 4 := ⟨j.val / 128 % 4, by omega⟩
def c3 (j : Fin 3072) : Fin 3 := ⟨j.val / 512 % 3, by omega⟩
def cl (j : Fin 3072) : Fin 128 := ⟨j.val % 128, by omega⟩
def col (t : Fin cfg0.N) (d : Fin 128) : Fin 3072 := ⟨(4 * (t.val % 3) + t.val / 3) * 128 + d.val, by have := lt12 t; omega⟩
theorem emb4 (t : Fin cfg0.N) (r : Fin 2048) (d : Fin 128) : ((cfg0.win 4).blk t).view.emb (ix2 r d) = ix2 r (col t d) := by blk_ext [idx t, col]

theorem kept_of {x y d : ℕ} (hx : x < 3) (hy : y < 4) (hd : d < 128) : ((4 * x + y) * 128 + d) / 512 % 3 = x := by
  have e : ((4 * x + y) * 128 + d) / 512 = x := by omega
  rw [e]
  exact Nat.mod_eq_of_lt hx

theorem out_at (c : Dev nD) (t : Fin cfg0.N) (r : Fin 2048) (d : Fin 128) : outAt m c t (ix2 r d) = resAt m c (tt (c4 (col t d))) (ix3 (c3 (col t d)) r (cl (col t d))) := by
  have ht := lt12 t
  have e4 : c4 (col t d) = pp t := Fin.ext (by show ((4 * (t.val % 3) + t.val / 3) * 128 + d.val) / 128 % 4 = t.val / 3; omega)
  have e3 : c3 (col t d) = jj t := Fin.ext (kept_of (Nat.mod_lt _ (by decide)) (by omega) d.isLt)
  have el : cl (col t d) = d := Fin.ext (by simp only [cl, col]; omega)
  rw [e4, e3, el, ← res_tt, outAt_eq]

theorem arr4 (c : Dev nD) (i : S2048x3072.Idx) (h : (i 1).val / 128 < 12) : (dats m 0 c).arrAt 4 (cfgs 0).N i = resAt m c (tt (c4 (i 1))) (ix3 (c3 (i 1)) (i 0) (cl (i 1))) := by
  refine ((dats m 0 c).arrAt_apply_of_coversWhere 4 (fun i => resAt m c (tt (c4 (i 1))) (ix3 (c3 (i 1)) (i 0) (cl (i 1)))) (P := fun i => (i 1).val / 128 < 12) (fun β => β (1 : Fin _) < 12) (by decide +kernel) (fun t hf y => ?_) (fun j => Iff.rfl) i).trans (if_pos h)
  blk_simp
  rw [after4]
  idx_vars y
  rw [emb4]
  exact out_at m c t _ _

theorem col_at (c : Dev nD) (n : Fin 3) (t : Fin 2048) (h : Fin 8) (j : Fin 64) : (dats m 0 c).arrAt 4 (cfgs 0).N (ix2 t (cc n (ln h j))) = res m c (tt (h4 h)) (tt_mod _) (ix3 n t (hj (h2 h) j)) := by
  refine (arr4 m c _ (by show (cc n (ln h j)).val / 128 < 12; simp only [cc, ln]; omega)).trans ?_
  have e4 : c4 (cc n (ln h j)) = h4 h := Fin.ext (by simp only [c4, cc, ln, h4]; omega)
  have e3 : c3 (cc n (ln h j)) = n := Fin.ext (by simp only [c3, cc, ln]; omega)
  have el : cl (cc n (ln h j)) = hj (h2 h) j := Fin.ext (by simp only [cl, cc, ln, hj, h2]; omega)
  show resAt m c (tt (c4 (cc n (ln h j)))) (ix3 (c3 (cc n (ln h j))) t (cl (cc n (ln h j)))) = _
  rw [e4, e3, el, resAt_work m c _ (tt_mod _)]

end Cert.Kernel8Ideal.Value
-- ==== Proof.FwdIn.lean ====
/- The forgetting attention: what the host hands to the kernel, and what stands in the kernel's two arrays after it. -/
module

public import proofs.«01_k».proof.Proof.FwdReal
public import proofs.«01_k».proof.Proof.SbIn

@[expose] public section

set_option maxRecDepth 16384

noncomputable section

namespace Cert.Kernel9Ideal.Value

open Cert.Kernel9Ideal Cert.Kernel9Ideal.Gen
open Cert.Kernel9Ideal.Fwd (rq rw0 rl rc given run_y run_l)
open Cert.Soft (Given Nbr Fits both logs)
open Cert.Kernel7Ideal.Value (QKV QKV_q QKV_k QKV_v q3 k3 v3 at2 at2_fin at1 at1_fin hp lp lp_hj sum_head sum_range_fin rw0_idx)
open Cert.Reference7Ideal.Value (ln eighth Vals Are)
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S1x2048x512 .f32 := m ((c : Thread nD τ).loc main_arg0)
abbrev a1 (c : Dev nD) : FVec Ideal S1x2048x512 .f32 := m ((c : Thread nD τ).loc main_arg1)
abbrev a2 (c : Dev nD) : FVec Ideal S1x2048x512 .f32 := m ((c : Thread nD τ).loc main_arg2)
abbrev a3 (c : Dev nD) : FVec Ideal S1x8x2048 .f32 := m ((c : Thread nD τ).loc main_arg3)

/-! ## What the host hands to the kernel -/

theorem v7 (c : Dev nD) : V m c main_v7 = truncf .bf16 (QKV (a0 m c) (a1 m c) (a2 m c)) bitsLt_bf16_f32 := by
  simp only [V, V0, hostOps0, List.flatten_cons, List.flatten_nil, List.append_nil, List.cons_append, List.nil_append]
  after_results
  rfl

theorem v9 (c : Dev nD) (h : Fin 8) (t : Fin 2048) : V m c main_v9 (ix3 h t 0) = a3 m c (ix3 0 h t) := by
  simp only [V, V0, hostOps0, List.flatten_cons, List.flatten_nil, List.append_nil, List.cons_append, List.nil_append]
  after_results
  pointwise

theorem v10 (c : Dev nD) (h kc : Fin 8) (s : Fin 256) : V m c main_v10 (ix4 h kc 0 s) = a3 m c (ix3 0 h ⟨kc.val * 256 + s.val, by omega⟩) := by
  simp only [V, V0, hostOps0, List.flatten_cons, List.flatten_nil, List.append_nil, List.cons_append, List.nil_append]
  after_results
  pointwise

/-! ## A point's blocks -/

theorem idx : ∀ t : Fin cfg0.N, win0_0.index t = ![0, 12 + t.val] ∧ win0_1.index t = ![0, 16 + t.val] ∧ win0_2.index t = ![0, 20 + t.val] ∧ win0_3.index t = ![t.val, 0, 0] ∧ win0_4.index t = ![t.val, 0, 0, 0]
    ∧ win0_5.index t = ![0, t.val] ∧ win0_6.index t = ![t.val, 0, 0] :=
  (by decide +kernel : ∀ t : Fin grid0.N, _)

theorem lt4 (t : Fin cfg0.N) : t.val < 4 := t.isLt
/-- A point's pair of heads, and a pair's point. -/
def pp (t : Fin cfg0.N) : Fin 4 := ⟨t.val, lt4 t⟩
def tt (p : Fin 4) : Fin cfg0.N := ⟨p.val, p.isLt⟩

theorem b0 (c : Dev nD) (t : Fin cfg0.N) (r : Fin 2048) (d : Fin 128) : iblk m c 0 t (ix2 r d) = a0 m c (ix3 0 r (lp (pp t) d)) * Ideal.ofBits .f32 0x3E000000#32 := by
  unfold iblk
  rw [View.read, cast_eq]
  refine (congrArg (V m c main_v7) (by blk_ext [idx t, q3, lp, pp] : _ = ix2 r (q3 (lp (pp t) d)))).trans ?_
  rw [v7]
  exact QKV_q _ _ _ r _
theorem b1 (c : Dev nD) (t : Fin cfg0.N) (r : Fin 2048) (d : Fin 128) : iblk m c 1 t (ix2 r d) = a1 m c (ix3 0 r (lp (pp t) d)) := by
  unfold iblk
  rw [View.read, cast_eq]
  refine (congrArg (V m c main_v7) (by blk_ext [idx t, k3, lp, pp] : _ = ix2 r (k3 (lp (pp t) d)))).trans ?_
  rw [v7]
  exact QKV_k _ _ _ r _
theorem b2 (c : Dev nD) (t : Fin cfg0.N) (r : Fin 2048) (d : Fin 128) : iblk m c 2 t (ix2 r d) = a2 m c (ix3 0 r (lp (pp t) d)) := by
  unfold iblk
  rw [View.read, cast_eq]
  refine (congrArg (V m c main_v7) (by blk_ext [idx t, v3, lp, pp] : _ = ix2 r (v3 (lp (pp t) d)))).trans ?_
  rw [v7]
  exact QKV_v _ _ _ r _
theorem b3 (c : Dev nD) (t : Fin cfg0.N) (l : Fin 2) (r : Fin 2048) : iblk m c 3 t (ix3 l r 0) = a3 m c (ix3 0 (hp (pp t) l) r) := by
  unfold iblk
  rw [View.read, cast_eq]
  exact (congrArg (V m c main_v9) (by blk_ext [idx t, hp, pp])).trans (v9 m c (hp (pp t) l) r)
theorem b4 (c : Dev nD) (t : Fin cfg0.N) (l : Fin 2) (kc : Fin 8) (s : Fin 256) : iblk m c 4 t (ix4 l kc 0 s) = a3 m c (ix3 0 (hp (pp t) l) ⟨kc.val * 256 + s.val, by omega⟩) := by
  unfold iblk
  rw [View.read, cast_eq]
  exact (congrArg (V m c main_v10) (by blk_ext [idx t, hp, pp])).trans (v10 m c (hp (pp t) l) kc s)

/-! ## What a point loads, in real numbers -/

theorem rq_idx (kc : Fin 8) (s : Fin 256) (d : Fin 128) : (rq kc).toLoadRect.idx (ix2 s d) = ix2 ⟨256 * kc.val + s.val, by omega⟩ d := by
  refine funext fun a => Fin.ext ?_
  match a with
  | ⟨0, _⟩ => exact congrArg (256 * kc.val + ·) (Nat.one_mul _)
  | ⟨1, _⟩ => exact (Nat.zero_add _).trans (Nat.one_mul _)
theorem rl_idx (l : Fin 2) (z : Fin 1) (r : Fin 2048) (u : Fin 1) : (rl l).toLoadRect.idx (ix3 z r u) = ix3 l r u := by
  refine funext fun a => Fin.ext ?_
  match a with
  | ⟨0, _⟩ => show l.val + 1 * z.val = l.val; omega
  | ⟨1, _⟩ => exact (Nat.zero_add _).trans (Nat.one_mul _)
  | ⟨2, _⟩ => exact (Nat.zero_add _).trans (Nat.one_mul _)
theorem rc_idx (l : Fin 2) (kc : Fin 8) (s : Fin 256) : (rc l kc).toLoadRect.idx (ix4 0 0 0 s) = ix4 l kc 0 s := by
  refine funext fun a => Fin.ext ?_
  match a with
  | ⟨0, _⟩ => rfl
  | ⟨1, _⟩ => rfl
  | ⟨2, _⟩ => rfl
  | ⟨3, _⟩ => exact (Nat.zero_add _).trans (Nat.one_mul _)

def pt (c : Dev nD) (t : Fin cfg0.N) : Given :=
  given (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)

/-- A pair's real numbers. -/
def nbr (g : Vals) (p : Fin 4) : Nbr where
  q := at2 fun t d => g.q t (lp p d) * (1 / 8)
  k := at2 fun t d => g.k t (lp p d)
  v := at2 fun t d => g.v t (lp p d)
  cc l := at1 (g.c (hp p l))
  cr l := at1 (g.c (hp p l))

theorem pt_is {g : Vals} {c : Dev nD} (H : Are (a0 m c) (a1 m c) (a2 m c) (a2 m c) (a3 m c) g) (t : Fin cfg0.N) : Fits (pt m c t) (nbr g (pp t)) where
  q r d := by
    refine (Memref.IsWhole.readAt_unread (hs0_0 t) _ _ _).trans ((congrArg _ (rw0_idx r d)).trans ((b0 m c t r d).trans ?_))
    rw [H.q, eighth, ← EReal.coe_mul]
    exact congrArg _ (at2_fin (fun r d => g.q r (lp (pp t) d) * (1 / 8)) r d).symm
  k kc s d := by
    refine (Memref.IsWhole.readAt_unread (hs0_1 t) _ _ _).trans ((congrArg _ (rq_idx kc s d)).trans ((b1 m c t _ d).trans ?_))
    rw [H.k]
    exact congrArg _ (at2_fin (fun r d => g.k r (lp (pp t) d)) (⟨256 * kc.val + s.val, by omega⟩ : Fin 2048) d).symm
  v kc s d := by
    refine (Memref.IsWhole.readAt_unread (hs0_2 t) _ _ _).trans ((congrArg _ (rq_idx kc s d)).trans ((b2 m c t _ d).trans ?_))
    rw [H.v]
    exact congrArg _ (at2_fin (fun r d => g.v r (lp (pp t) d)) (⟨256 * kc.val + s.val, by omega⟩ : Fin 2048) d).symm
  cc l r := by
    refine (Memref.IsWhole.readAt_unread (hs0_3 t) _ _ _).trans ((congrArg _ (rl_idx l 0 r 0)).trans ((b3 m c t l r).trans ?_))
    rw [H.c]
    exact congrArg _ (at1_fin (g.c (hp (pp t) l)) r).symm
  cr l kc s := by
    refine (Memref.IsWhole.readAt_unread (hs0_4 t) _ _ _).trans ((congrArg _ (rc_idx l kc s)).trans ((b4 m c t l kc s).trans ?_))
    have e : (⟨kc.val * 256 + s.val, by omega⟩ : Fin 2048) = ⟨256 * kc.val + s.val, by omega⟩ := Fin.ext (by show kc.val * 256 + s.val = 256 * kc.val + s.val; omega)
    rw [H.c, e]
    exact congrArg _ (at1_fin (g.c (hp (pp t) l)) (⟨256 * kc.val + s.val, by omega⟩ : Fin 2048)).symm

variable (g : Vals)

theorem nbr_x (p : Fin 4) (l : Fin 2) (t s : Fin 2048) : (nbr g p).x l t s = g.X (hp p l) t s := by
  have e : ∑ d : Fin 128, Cert.Fox.Fns.on l (nbr g p).q t d * (nbr g p).k s d = (∑ j : Fin 64, g.q t (ln (hp p l) j) * g.k s (ln (hp p l) j)) * (1 / 8) := by
    simp only [nbr, Cert.Fox.Fns.on, at2_fin, ite_mul, zero_mul]
    rw [sum_head l fun d => g.q t (lp p d) * (1 / 8) * g.k s (lp p d), Finset.sum_mul]
    exact Finset.sum_congr rfl fun j _ => by rw [lp_hj, mul_right_comm]
  unfold Nbr.x Vals.X
  rw [e]
  simp only [nbr, at1_fin]

/-- The exponentials measured from a row's number. -/
theorem nbr_E (p : Fin 4) (l : Fin 2) (ν : ℕ → ℝ) (t s : Fin 2048) : (nbr g p).E l ν t s = if s.val ≤ t.val then Real.exp (g.X (hp p l) t s - ν t) else 0 := by
  unfold Nbr.E
  rw [nbr_x]

theorem nbr_M (p : Fin 4) (l : Fin 2) (t s : Fin 2048) : (nbr g p).E l (at1 (g.M (hp p l))) t s = g.E (hp p l) t s := by
  rw [nbr_E, at1_fin]
  rfl

theorem nbr_T (p : Fin 4) (l : Fin 2) (t : Fin 2048) : (nbr g p).Z l (at1 (g.M (hp p l))) t = g.T (hp p l) t := by
  unfold Nbr.Z
  rw [sum_range_fin]
  exact Finset.sum_congr rfl fun s _ => nbr_M g p l t s

/-! ## The blocks that the points leave, and the arrays made of them -/

theorem one_of (P : List (View.Piece (Elt Ideal) S2048x128 .bf16)) (x : FVec Ideal S2048x128 .bf16) (hP : P = [⟨rw0, x⟩]) : VO0_5.read (Elt Ideal) (VO0_5.writes (Elt Ideal) VO0_5.junk P) = x := by
  rw [View.read_writes_junk_eq_canon, hP]
  exact View.canon_cons_unit_lit (Val := Elt Ideal) (e := .bf16) (S := S2048x128) (off := ![0, 0]) (by decide) x [] (by decide)

theorem y_at (c : Dev nD) (t : Fin cfg0.N) : (dats m 0 c).after 5 t = both (pt m c t) := by
  rw [after0_5]
  unfold outsAt0 out0_A_5 pt
  dsimp only
  rw [run_y]
  exact one_of _ _ rfl

theorem rl_disj : LoadRect.disj (rl 1) (rl 0).toLoadRect = true :=
  decide_eq_true ⟨0, Or.inr (Or.inr (show 1 + 1 * (1 - 1) < 0 ∨ 0 + 1 * (1 - 1) < 1 by omega))⟩

/-- The two heads' parts of a block of logarithms. -/
theorem parts (x : Fin 2 → FVec Ideal S1x2048x1 .f32) (l : Fin 2) : VO0_6.readCov (Val := Elt Ideal) [⟨rl 1, x 1⟩, ⟨rl 0, x 0⟩] (rl l).toLoadRect = x l := by
  rcases (show l = 0 ∨ l = 1 by omega) with rfl | rfl
  · rw [View.readCov_skip VO0_6 _ _ _ _ rl_disj]
    exact View.readCov_cons_toLoadRect VO0_6 (rl 0) _ _
  · exact View.readCov_cons_toLoadRect VO0_6 (rl 1) _ _

theorem two_of (P : List (View.Piece (Elt Ideal) S2x2048x1 .f32)) (x : Fin 2 → FVec Ideal S1x2048x1 .f32) (hP : P = [⟨rl 1, x 1⟩, ⟨rl 0, x 0⟩]) (l : Fin 2) (r : Fin 2048) (u : Fin 1) :
    VO0_6.read (Elt Ideal) (VO0_6.writes (Elt Ideal) VO0_6.junk P) (ix3 l r u) = x l (ix3 0 r u) := by
  have e := congrFun (View.readCov_eq_canon' VO0_6 P (rl l).toLoadRect) (ix3 0 r u)
  rw [rl_idx] at e
  rw [View.read_writes_junk_eq_canon, ← e, hP, parts]

theorem l_at (c : Dev nD) (t : Fin cfg0.N) (l : Fin 2) (r : Fin 2048) (u : Fin 1) : (dats m 0 c).after 6 t (ix3 l r u) = logs (pt m c t) l (ix3 0 r u) := by
  rw [after0_6]
  unfold outsAt0 out0_A_6 pt
  dsimp only
  rw [run_l]
  exact two_of _ (logs _) rfl l r u

/-- A column's pair and lane, and a head's pair and place in it. -/
def j4 (j : Fin 512) : Fin 4 := ⟨j.val / 128, by omega⟩
def jl (j : Fin 512) : Fin 128 := ⟨j.val % 128, by omega⟩
theorem j4_lp (p : Fin 4) (d : Fin 128) : j4 (lp p d) = p := Fin.ext (by simp only [j4, lp]; omega)
theorem jl_lp (p : Fin 4) (d : Fin 128) : jl (lp p d) = d := Fin.ext (by simp only [jl, lp]; omega)
def k4 (h : Fin 8) : Fin 4 := ⟨h.val / 2, by omega⟩
def k2 (h : Fin 8) : Fin 2 := ⟨h.val % 2, by omega⟩
theorem k4_hp (p : Fin 4) (l : Fin 2) : k4 (hp p l) = p := Fin.ext (by simp only [k4, hp]; omega)
theorem k2_hp (p : Fin 4) (l : Fin 2) : k2 (hp p l) = l := Fin.ext (by simp only [k2, hp]; omega)

theorem emb5 (t : Fin cfg0.N) (r : Fin 2048) (d : Fin 128) : ((cfg0.win 5).blk t).view.emb (ix2 r d) = ix2 r (lp (pp t) d) := by blk_ext [idx t, lp, pp]
theorem emb6 (t : Fin cfg0.N) (l : Fin 2) (r : Fin 2048) (u : Fin 1) : ((cfg0.win 6).blk t).view.emb (ix3 l r u) = ix3 (hp (pp t) l) r u := by blk_ext [idx t, hp, pp]

theorem y_pair (c : Dev nD) (t : Fin cfg0.N) (r : Fin 2048) (d : Fin 128) : (dats m 0 c).after 5 t (ix2 r d) = both (pt m c (tt (j4 (lp (pp t) d)))) (ix2 r (jl (lp (pp t) d))) := by
  rw [j4_lp, jl_lp]
  exact congrFun (y_at m c t) _
theorem l_pair (c : Dev nD) (t : Fin cfg0.N) (l : Fin 2) (r : Fin 2048) (u : Fin 1) : (dats m 0 c).after 6 t (ix3 l r u) = logs (pt m c (tt (k4 (hp (pp t) l)))) (k2 (hp (pp t) l)) (ix3 0 r u) := by
  rw [k4_hp, k2_hp]
  exact l_at m c t l r u

theorem fin5 (c : Dev nD) : (dats m 0 c).arrAt 5 (cfgs 0).N = fun i => both (pt m c (tt (j4 (i 1)))) (ix2 (i 0) (jl (i 1))) := by
  refine (dats m 0 c).arrAt_eq_of_covers 5 _ (by decide +kernel) fun t hf y => ?_
  blk_simp
  idx_vars y
  rw [emb5]
  exact y_pair m c t _ _

theorem fin6 (c : Dev nD) : (dats m 0 c).arrAt 6 (cfgs 0).N = fun i => logs (pt m c (tt (k4 (i 0)))) (k2 (i 0)) (ix3 0 (i 1) (i 2)) := by
  refine (dats m 0 c).arrAt_eq_of_covers 6 _ (by decide +kernel) fun t hf y => ?_
  blk_simp
  idx_vars y
  rw [emb6]
  exact l_pair m c t _ _ _

end Cert.Kernel9Ideal.Value
-- ==== Proof.Fwd.lean ====
/- The forgetting attention: the kernel's results are the reference's. -/
module

public import proofs.«01_k».proof.Proof.FwdIn
public import proofs.«01_k».proof.Proof.Gen.Reference9Ideal.Run
public import proofs.«01_k».proof.Pre_finite9

@[expose] public section

set_option maxRecDepth 16384

noncomputable section

namespace Cert.Pre_finite9
instance facts : Facts where
  bcast_S_S1x2048x512 := by decide
  bcast_S_S1x8x2048 := by decide
end Cert.Pre_finite9

namespace Cert.Reference9Ideal.Value

open Idealize.ShloMosaic
open Cert.Reference9Ideal Cert.Reference9Ideal.Gen
open Cert.Reference7Ideal.Value (Rows Nums HD MG LG PR EE SR Vals Are HD_at MG_at SR_at PR_is EE_is LG_real ln)
open Cert.Kernel7Ideal.Value (OT OT_at)

/-- The mean values, and the logarithms of the rows' sums. -/
def YS (q k v : Rows) (c : Nums) : Rows := MG (OT (PR (EE q k c)) (HD v))
def LS (q k : Rows) (c : Nums) : Nums := Host.log (SR (Host.exp (LG q k c)))

theorem run_ys (m : (ℓ : Loc nD τ sig) → Buf (Elt Ideal) ℓ) (c : Dev nD) : res_out0 m c = YS (m ((c.tc : Thread nD τ).loc main_arg0)) (m ((c.tc : Thread nD τ).loc main_arg1)) (m ((c.tc : Thread nD τ).loc main_arg2)) (m ((c.tc : Thread nD τ).loc main_arg3)) := by
  unfold res_out0 res_main_v36
  rfl

variable {q k v d : Rows} {c : Nums} {g : Vals} (H : Are q k v d c g)
include H

theorem ys_is (h : Fin 8) (t : Fin 2048) (j : Fin 64) : YS q k v c (ix3 0 t (ln h j)) = ((∑ s, g.P h t s * g.v s (ln h j) : ℝ) : EReal) := by
  refine (MG_at _ t h j).trans ((OT_at _ _ h t j).trans ?_)
  simp only [PR_is H _ (EE_is H), HD_at, H.v, ← EReal.coe_mul, Cert.Real.sum_coe]

theorem ls_is (h : Fin 8) (t : Fin 2048) : LS q k c (ix3 0 h t) = ((Real.log (∑ s : Fin 2048, if s.val ≤ t.val then Real.exp (g.X h t s) else 0) : ℝ) : EReal) := by
  have hx (s : Fin 2048) : Host.exp (LG q k c) (ix4 0 h t s) = (((if s.val ≤ t.val then Real.exp (g.X h t s) else 0) : ℝ) : EReal) := by
    show Ideal.exp (LG q k c (ix4 0 h t s)) = _
    rw [LG_real g H.q H.k H.c]
    split
    · rw [Ideal.exp_coe]
    · rfl
  have hp : 0 < ∑ s : Fin 2048, if s.val ≤ t.val then Real.exp (g.X h t s) else 0 := by
    refine Finset.sum_pos' (fun s _ => ?_) ⟨t, Finset.mem_univ t, ?_⟩
    · split <;> positivity
    · rw [if_pos le_rfl]; positivity
  show Ideal.log (SR (Host.exp (LG q k c)) (ix3 0 h t)) = _
  rw [SR_at, Finset.sum_congr rfl fun s _ => hx s, Cert.Real.sum_coe, Ideal.log_coe, if_neg (not_le.mpr hp)]

end Cert.Reference9Ideal.Value

namespace Cert.Kernel9Ideal.Value

open Cert.Kernel9Ideal Cert.Kernel9Ideal.Gen
open Cert.Soft (Fits both logs both_is logs_is)
open Cert.Reference9Ideal.Value (YS LS ys_is ls_is run_ys)
open Cert.Reference7Ideal.Value (ln Vals Are)
open Cert.Kernel7Ideal.Value (at1 at2_fin hp lp hj lp_hj sum_range_fin ln_of)
open Idealize.ShloMosaic Idealize.ShloMosaic.TcCoe Idealize.SL.Sem
open Idealize.ShloMosaic.Pipeline (Dat)

variable (m : (ℓ : Loc nD τ sig) → Buf (Elt Ideal) ℓ)

/-! ## What the host makes of the kernel's arrays -/

theorem arr (c : Dev nD) (w : Fin 7) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

def TY (x : FVec Ideal S2048x512 .bf16) : FVec Ideal S1x2048x512 .f32 := extf .f32 (broadcastInDim S1x2048x512 ![1, 2] bcast_S2048x512_S1x2048x512_1_2 x) bitsLt_bf16_f32
def TL (x : FVec Ideal S8x2048x1 .f32) : FVec Ideal S1x8x2048 .f32 := broadcastInDim S1x8x2048 ![1, 2] bcast_S8x2048_S1x8x2048_1_2 (shapeCast S8x2048 x shapeCasts_S8x2048x1_S8x2048)

theorem TY_at (x) (t : Fin 2048) (j : Fin 512) : TY x (ix3 0 t j) = x (ix2 t j) := by
  pointwise [TY]
theorem TL_at (x) (h : Fin 8) (t : Fin 2048) : TL x (ix3 0 h t) = x (ix3 h t 0) := by
  pointwise [TL]

theorem tail13 (c : Dev nD) : Pipeline.afterTail₀ cfgs (dats m) 0 (V0 m) [hostOps1] c main_v13 = TY ((dats m 0 c).arrAt 5 (cfgs 0).N) := by
  unfold Pipeline.afterTail₀
  simp only [hostOps1, List.flatten_cons, List.flatten_nil, List.append_nil, List.cons_append]
  after_results
  exact congrArg TY (arr m c 5)
theorem tail15 (c : Dev nD) : Pipeline.afterTail₀ cfgs (dats m) 0 (V0 m) [hostOps1] c main_v15 = TL ((dats m 0 c).arrAt 6 (cfgs 0).N) := by
  unfold Pipeline.afterTail₀
  simp only [hostOps1, List.flatten_cons, List.flatten_nil, List.append_nil, List.cons_append]
  after_results
  exact congrArg TL (arr m c 6)

/-! ## The arrays' numbers -/

theorem k_hp (h : Fin 8) : hp (k4 h) (k2 h) = h := Fin.ext (by simp only [hp, k4, k2]; omega)
theorem ln_lp (h : Fin 8) (j : Fin 64) : ln h j = lp (k4 h) (hj (k2 h) j) := by rw [lp_hj, k_hp]

variable {g : Vals} {c : Dev nD} (H : Are (a0 m c) (a1 m c) (a2 m c) (a2 m c) (a3 m c) g)
include H

theorem pt_tt (p : Fin 4) : Fits (pt m c (tt p)) (nbr g p) := pt_is m H (tt p)

theorem ky (t : Fin 2048) (h : Fin 8) (j : Fin 64) : (dats m 0 c).arrAt 5 (cfgs 0).N (ix2 t (ln h j)) = ((∑ s, g.P h t s * g.v s (ln h j) : ℝ) : EReal) := by
  have hd : (hj (k2 h) j).val / 64 = (k2 h).val := by simp only [hj]; omega
  refine (congrFun (fin5 m c) _).trans ?_
  show both (pt m c (tt (j4 (ln h j)))) (ix2 t (jl (ln h j))) = _
  rw [ln_lp, j4_lp, jl_lp]
  refine (both_is (pt_tt m H (k4 h)) (at1 (g.M (hp (k4 h) (k2 h)))) t (k2 h) _ hd).trans (congrArg _ ?_)
  rw [nbr_T, sum_range_fin, Finset.sum_div]
  refine Finset.sum_congr rfl fun s _ => ?_
  have ev : (nbr g (k4 h)).v s.val (hj (k2 h) j).val = g.v s (lp (k4 h) (hj (k2 h) j)) := at2_fin (fun t d => g.v t (lp (k4 h) d)) s (hj (k2 h) j)
  rw [nbr_M, ev, k_hp, mul_div_right_comm]
  rfl

theorem kl (h : Fin 8) (t : Fin 2048) : (dats m 0 c).arrAt 6 (cfgs 0).N (ix3 h t 0) = ((Real.log (∑ s : Fin 2048, if s.val ≤ t.val then Real.exp (g.X h t s) else 0) : ℝ) : EReal) := by
  refine (congrFun (fin6 m c) _).trans ?_
  show logs (pt m c (tt (k4 h))) (k2 h) (ix3 0 t 0) = _
  refine (logs_is (pt_tt m H (k4 h)) (k2 h) (fun _ => 0) 0 t 0).trans (congrArg _ ?_)
  unfold Cert.Soft.Nbr.Z
  rw [zero_add, sum_range_fin]
  refine congrArg _ (Finset.sum_congr rfl fun s _ => ?_)
  rw [nbr_E, sub_zero, k_hp]

/-! ## The results, of the reference's arrays that are the kernel's -/

variable {x0 x1 x2 : FVec Ideal S1x2048x512 .f32} {x3 : FVec Ideal S1x8x2048 .f32} (e0 : x0 = a0 m c) (e1 : x1 = a1 m c) (e2 : x2 = a2 m c) (e3 : x3 = a3 m c)
include e0 e1 e2 e3

theorem eq_y : YS x0 x1 x2 x3 = Pipeline.afterTail₀ cfgs (dats m) 0 (V0 m) [hostOps1] c main_v13 := by
  subst e0 e1 e2 e3
  rw [tail13]
  funext i
  idx_vars i
  obtain rfl : i0 = 0 := Subsingleton.elim _ _
  obtain ⟨h, j, rfl⟩ := ln_of i2
  exact (ys_is H h i1 j).trans ((ky m H i1 h j).symm.trans (TY_at _ i1 (ln h j)).symm)

omit e2 in
theorem eq_l : LS x0 x1 x3 = Pipeline.afterTail₀ cfgs (dats m) 0 (V0 m) [hostOps1] c main_v15 := by
  subst e0 e1 e3
  rw [tail15]
  funext i
  idx_vars i
  obtain rfl : i0 = 0 := Subsingleton.elim _ _
  exact (ls_is H i1 i2).trans ((kl m H i1 i2).symm.trans (TL_at _ i1 i2).symm)

omit H e0 e1 e2 e3

theorem algebraic : Cert.algebraic_Kernel9Ideal_Reference9Ideal_pre_finite9 := by
  pair_intro
  · run_from Gen.run_main m g & Gen.frame_of m g (dats m) (A_eq m) (Gen.run_main m g)
  · run_from Cert.Reference9Ideal.Value.run m' g'
    all_goals
      obtain ⟨h0, h1, h2, h3⟩ := hagree c
      obtain ⟨q0, q1, q2, q3⟩ := hpre c
      obtain ⟨v, H⟩ := Cert.Reference7Ideal.Value.exists_vals (Cert.Real.of_finite _ _ q0) (Cert.Real.of_finite _ _ q1) (Cert.Real.of_finite _ _ q2) (Cert.Real.of_finite _ _ q3) (Cert.Real.of_finite _ _ q2)
    · exact (run_ys m' c).trans (eq_y m H h0 h1 h2 h3)
    · exact eq_l m H rfl rfl rfl

end Cert.Kernel9Ideal.Value
-- ==== Proof.MixUp.lean ====
module

public import proofs.«01_k».proof.Defs
public import proofs.«01_k».proof.Proof.Gen.Kernel11Ideal.Frame
public import proofs.«01_k».proof.Proof.Gen.Reference11Ideal.Run
public import proofs.«01_k».proof.Proof.ChannelGate

@[expose] public section

set_option maxRecDepth 16384

noncomputable section

/-! The mixers' two products up and their sum under the channel gates. Every product and sum stands as in the reference,
so nothing is asked of the arguments. -/

namespace Cert.Kernel11Ideal.Value

open Idealize.ShloMosaic Idealize.ShloMosaic.TcCoe Idealize.SL.Sem
open Cert.Real (SG)
open Cert.Reference4Ideal.Value (GT SGV SGV_at lo hi)
open Cert.Kernel11Ideal Cert.Kernel11Ideal.Gen

/-- One entry of a product up. -/
def UP (y : FVec Ideal S1x2048x512 .f32) (w : FVec Ideal S1x512x1024 .f32) (t : Fin 2048) (q : Fin 1024) : EReal :=
  ∑ k : Fin 512, y (ix3 0 t k) * w (ix3 0 k q)

/-- One entry of the gated sum. -/
def MX (y z : FVec Ideal S1x2048x512 .f32) (p : FVec Ideal S1x2048x2048 .f32) (bg : FVec Ideal S1x2048 .f32) (u w : FVec Ideal S1x512x1024 .f32) (t : Fin 2048) (q : Fin 1024) : EReal :=
  GT p bg t (lo q) * UP y u t q + GT p bg t (hi q) * UP z w t q

/-- The reference's product up, and its gated sum. -/
def RU (y : FVec Ideal S1x2048x512 .f32) (w : FVec Ideal S1x512x1024 .f32) : FVec Ideal S1x2048x1024 .f32 :=
  Host.dotGeneral Cert.Reference11Ideal.dot_S1x2048x512_S512x1024_S1x2048x1024_2_0_01_1_n_n none y (shapeCast _ w Cert.Reference11Ideal.Gen.shapeCasts_S1x512x1024_S512x1024)
def RM (y z : FVec Ideal S1x2048x512 .f32) (p : FVec Ideal S1x2048x2048 .f32) (bg : FVec Ideal S1x2048 .f32) (u w : FVec Ideal S1x512x1024 .f32) : FVec Ideal S1x2048x1024 .f32 :=
  addf (mulf (extractStridedSlice Cert.Reference11Ideal.S1x2048x1024 ![0, 0, 0] (SGV p bg) Cert.Reference11Ideal.Gen.slices_S1x2048x2048_S1x2048x1024_0_0_0) (RU y u))
    (mulf (extractStridedSlice Cert.Reference11Ideal.S1x2048x1024 ![0, 0, 1024] (SGV p bg) Cert.Reference11Ideal.Gen.slices_S1x2048x2048_S1x2048x1024_0_0_1024) (RU z w))

theorem RU_at (y : FVec Ideal S1x2048x512 .f32) (w : FVec Ideal S1x512x1024 .f32) (t : Fin 2048) (q : Fin 1024) : RU y w (ix3 0 t q) = UP y w t q := by
  pointwise [RU]
  rfl

theorem RM_at (y z : FVec Ideal S1x2048x512 .f32) (p : FVec Ideal S1x2048x2048 .f32) (bg : FVec Ideal S1x2048 .f32) (u w : FVec Ideal S1x512x1024 .f32) (t : Fin 2048) (q : Fin 1024) :
    RM y z p bg u w (ix3 0 t q) = MX y z p bg u w t q := by
  pointwise [RM]
  rw [SGV_at, SGV_at, RU_at, RU_at]
  rfl

/-- What the host makes of the region's results. -/
def TU (A : FVec Ideal S2048x1024 .f32) : FVec Ideal S1x2048x1024 .f32 :=
  broadcastInDim S1x2048x1024 ![1, 2] bcast_S2048x1024_S1x2048x1024_1_2 A
def TM (A : FVec Ideal S2048x1024 .bf16) : FVec Ideal S1x2048x1024 .f32 :=
  extf .f32 (broadcastInDim S1x2048x1024 ![1, 2] bcast_S2048x1024_S1x2048x1024_1_2 A) bitsLt_bf16_f32

theorem TU_at (A : FVec Ideal S2048x1024 .f32) (z : Fin 1) (t : Fin 2048) (q : Fin 1024) : TU A (ix3 z t q) = A (ix2 t q) := by
  pointwise [TU]
theorem TM_at (A : FVec Ideal S2048x1024 .bf16) (z : Fin 1) (t : Fin 2048) (q : Fin 1024) : TM A (ix3 z t q) = A (ix2 t q) := by
  pointwise [TM]

variable (m : (ℓ : Loc nD τ sig) → Buf (Elt Ideal) ℓ)

abbrev ya (c : Dev nD) : FVec Ideal S1x2048x512 .f32 := m ((c : Thread nD τ).loc main_arg0)
abbrev yb (c : Dev nD) : FVec Ideal S1x2048x512 .f32 := m ((c : Thread nD τ).loc main_arg1)
abbrev pp (c : Dev nD) : FVec Ideal S1x2048x2048 .f32 := m ((c : Thread nD τ).loc main_arg2)
abbrev bg (c : Dev nD) : FVec Ideal S1x2048 .f32 := m ((c : Thread nD τ).loc main_arg3)
abbrev wa (c : Dev nD) : FVec Ideal S1x512x1024 .f32 := m ((c : Thread nD τ).loc main_arg4)
abbrev wb (c : Dev nD) : FVec Ideal S1x512x1024 .f32 := m ((c : Thread nD τ).loc main_arg5)

theorem arr (c : Dev nD) (w : Fin 9) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

theorem tail_a (c : Dev nD) : Pipeline.afterTail₀ cfgs (dats m) 0 (V0 m) [hostOps1] c main_v14 = TU ((dats m 0 c).arrAt 6 (cfgs 0).N) := by
  unfold Pipeline.afterTail₀
  simp only [hostOps1, List.flatten_cons, List.flatten_nil, List.append_nil, List.cons_append]
  after_results
  exact congrArg TU (arr m c 6)

theorem tail_b (c : Dev nD) : Pipeline.afterTail₀ cfgs (dats m) 0 (V0 m) [hostOps1] c main_v15 = TU ((dats m 0 c).arrAt 7 (cfgs 0).N) := by
  unfold Pipeline.afterTail₀
  simp only [hostOps1, List.flatten_cons, List.flatten_nil, List.append_nil, List.cons_append]
  after_results
  exact congrArg TU (arr m c 7)

theorem tail_m (c : Dev nD) : Pipeline.afterTail₀ cfgs (dats m) 0 (V0 m) [hostOps1] c main_v17 = TM ((dats m 0 c).arrAt 8 (cfgs 0).N) := by
  unfold Pipeline.afterTail₀
  simp only [hostOps1, List.flatten_cons, List.flatten_nil, List.append_nil, List.cons_append]
  after_results
  exact congrArg TM (arr m c 8)

/-- A column of the weights by its shard and its place there. -/
def sc (j : Fin 4) (f : Fin 256) : Fin 1024 := ⟨j.val * 256 + f.val, by omega⟩

theorem host_a (c : Dev nD) (t : Fin 2048) (k : Fin 512) : V m c main_v7 (ix2 t k) = ya m c (ix3 0 t k) := by
  simp only [V, V0, hostOps0, List.flatten_cons, List.flatten_nil, List.append_nil, List.cons_append, List.nil_append]
  after_results
  pointwise

theorem host_b (c : Dev nD) (t : Fin 2048) (k : Fin 512) : V m c main_v9 (ix2 t k) = yb m c (ix3 0 t k) := by
  simp only [V, V0, hostOps0, List.flatten_cons, List.flatten_nil, List.append_nil, List.cons_append, List.nil_append]
  after_results
  pointwise

theorem host_p (c : Dev nD) (t : Fin 2048) (k : Fin 2048) : V m c main_v12 (ix2 t k) = pp m c (ix3 0 t k) + bg m c (ix2 0 k) := by
  simp only [V, V0, hostOps0, List.flatten_cons, List.flatten_nil, List.append_nil, List.cons_append, List.nil_append]
  after_results
  pointwise

/-- The stacked weights: the first branch's rows above the second's. -/
theorem host_w (c : Dev nD) (j : Fin 4) (k : Fin 1024) (f : Fin 256) : V m c main_v5 (ix3 j k f)
    = if h : k.val < 512 then wa m c (ix3 0 ⟨k.val, h⟩ (sc j f)) else wb m c (ix3 0 ⟨k.val - 512, by omega⟩ (sc j f)) := by
  simp only [V, V0, hostOps0, List.flatten_cons, List.flatten_nil, List.append_nil, List.cons_append, List.nil_append]
  after_results
  pointwise [sc]

theorem idx : ∀ t : Fin cfg0.N, win0_0.index t = ![t.val / 4, 0] ∧ win0_1.index t = ![t.val / 4, 0]
    ∧ win0_2.index t = ![t.val % 4, 0, 0] ∧ win0_3.index t = ![t.val % 4, 1, 0]
    ∧ win0_4.index t = ![t.val / 4, t.val % 4] ∧ win0_5.index t = ![t.val / 4, 4 + t.val % 4]
    ∧ win0_6.index t = ![t.val / 4, t.val % 4] ∧ win0_7.index t = ![t.val / 4, t.val % 4] ∧ win0_8.index t = ![t.val / 4, t.val % 4] :=
  (by decide +kernel : ∀ t : Fin grid0.N, _)

def tt (t : Fin cfg0.N) (r : Fin 512) : Fin 2048 := ⟨t.val / 4 * 512 + r.val, by have : t.val < 16 := t.isLt; omega⟩
def jj (t : Fin cfg0.N) : Fin 4 := ⟨t.val % 4, by omega⟩

theorem blk_a (c : Dev nD) (t : Fin cfg0.N) (r : Fin 512) (k : Fin 512) : iblk m c 0 t (ix2 r k) = ya m c (ix3 0 (tt t r) k) := by
  unfold iblk
  rw [View.read, cast_eq]
  exact (congrArg (V m c main_v7) (by blk_ext [idx t, tt])).trans (host_a m c (tt t r) k)

theorem blk_b (c : Dev nD) (t : Fin cfg0.N) (r : Fin 512) (k : Fin 512) : iblk m c 1 t (ix2 r k) = yb m c (ix3 0 (tt t r) k) := by
  unfold iblk
  rw [View.read, cast_eq]
  exact (congrArg (V m c main_v9) (by blk_ext [idx t, tt])).trans (host_b m c (tt t r) k)

theorem blk_wa (c : Dev nD) (t : Fin cfg0.N) (z : Fin 1) (k : Fin 512) (f : Fin 256) : iblk m c 2 t (ix3 z k f) = wa m c (ix3 0 k (sc (jj t) f)) := by
  unfold iblk
  rw [View.read, cast_eq]
  refine (congrArg (V m c main_v5) (by blk_ext [idx t, jj] : _ = ix3 (jj t) (⟨k.val, by omega⟩ : Fin 1024) f)).trans ?_
  rw [host_w, dif_pos k.isLt]

theorem blk_wb (c : Dev nD) (t : Fin cfg0.N) (z : Fin 1) (k : Fin 512) (f : Fin 256) : iblk m c 3 t (ix3 z k f) = wb m c (ix3 0 k (sc (jj t) f)) := by
  unfold iblk
  rw [View.read, cast_eq]
  refine (congrArg (V m c main_v5) (by blk_ext [idx t, jj] : _ = ix3 (jj t) (⟨512 + k.val, by omega⟩ : Fin 1024) f)).trans ?_
  rw [host_w, dif_neg (by show ¬ 512 + k.val < 512; omega)]
  exact congrArg (wb m c) (congrArg (fun k : Fin 512 => ix3 0 k (sc (jj t) f)) (Fin.ext (by show 512 + k.val - 512 = k.val; omega)))

theorem blk_pa (c : Dev nD) (t : Fin cfg0.N) (r : Fin 512) (f : Fin 256) : iblk m c 4 t (ix2 r f) = pp m c (ix3 0 (tt t r) (lo (sc (jj t) f))) + bg m c (ix2 0 (lo (sc (jj t) f))) := by
  unfold iblk
  rw [View.read, cast_eq]
  exact (congrArg (V m c main_v12) (by blk_ext [idx t, tt, jj, sc, lo])).trans (host_p m c (tt t r) (lo (sc (jj t) f)))

theorem blk_pb (c : Dev nD) (t : Fin cfg0.N) (r : Fin 512) (f : Fin 256) : iblk m c 5 t (ix2 r f) = pp m c (ix3 0 (tt t r) (hi (sc (jj t) f))) + bg m c (ix2 0 (hi (sc (jj t) f))) := by
  unfold iblk
  rw [View.read, cast_eq]
  exact (congrArg (V m c main_v12) (by blk_ext [idx t, tt, jj, sc, hi])).trans (host_p m c (tt t r) (hi (sc (jj t) f)))

theorem emb_a (t : Fin cfg0.N) (r : Fin 512) (f : Fin 256) : ((cfg0.win 6).blk t).view.emb (ix2 r f) = ix2 (tt t r) (sc (jj t) f) := by blk_ext [idx t, tt, jj, sc]
theorem emb_b (t : Fin cfg0.N) (r : Fin 512) (f : Fin 256) : ((cfg0.win 7).blk t).view.emb (ix2 r f) = ix2 (tt t r) (sc (jj t) f) := by blk_ext [idx t, tt, jj, sc]
theorem emb_m (t : Fin cfg0.N) (r : Fin 512) (f : Fin 256) : ((cfg0.win 8).blk t).view.emb (ix2 r f) = ix2 (tt t r) (sc (jj t) f) := by blk_ext [idx t, tt, jj, sc]

theorem up_a (c : Dev nD) (t : Fin cfg0.N) (r : Fin 512) (f : Fin 256) : k0_pay2 (iblk m c 0 t) (iblk m c 2 t) (ix2 r f) = UP (ya m c) (wa m c) (tt t r) (sc (jj t) f) := by
  pointwise [k0_pay2]
  simp only [blk_a, blk_wa]
  rfl

theorem up_b (c : Dev nD) (t : Fin cfg0.N) (r : Fin 512) (f : Fin 256) : k0_pay3 (iblk m c 1 t) (iblk m c 3 t) (ix2 r f) = UP (yb m c) (wb m c) (tt t r) (sc (jj t) f) := by
  pointwise [k0_pay3]
  simp only [blk_b, blk_wb]
  rfl

theorem arr_a (c : Dev nD) : (dats m 0 c).arrAt 6 (cfgs 0).N = fun i => UP (ya m c) (wa m c) (i 0) (i 1) := by
  refine (dats m 0 c).arrAt_eq_of_covers 6 _ (by decide +kernel) fun t _ y => ?_
  blk_simp
  rw [after0_6]; frame_out
  idx_vars y
  rw [emb_a]
  exact up_a m c t _ _

theorem arr_b (c : Dev nD) : (dats m 0 c).arrAt 7 (cfgs 0).N = fun i => UP (yb m c) (wb m c) (i 0) (i 1) := by
  refine (dats m 0 c).arrAt_eq_of_covers 7 _ (by decide +kernel) fun t _ y => ?_
  blk_simp
  rw [after0_7]; frame_out
  idx_vars y
  rw [emb_b]
  exact up_b m c t _ _

theorem arr_m (c : Dev nD) : (dats m 0 c).arrAt 8 (cfgs 0).N = fun i => MX (ya m c) (yb m c) (pp m c) (bg m c) (wa m c) (wb m c) (i 0) (i 1) := by
  refine (dats m 0 c).arrAt_eq_of_covers 8 _ (by decide +kernel) fun t _ y => ?_
  blk_simp
  rw [after0_8]; frame_out
  idx_vars y
  rw [emb_m]
  pointwise [k0_pay1, k0_pay4, k0_pay5, k0_pay6]
  rw [up_a, up_b, blk_pa, blk_pb]
  rfl

theorem res_a (c : Dev nD) : RU (ya m c) (wa m c) = Pipeline.afterTail₀ cfgs (dats m) 0 (V0 m) [hostOps1] c main_v14 := by
  rw [tail_a, arr_a]
  funext i
  idx_vars i
  obtain rfl : i0 = 0 := Subsingleton.elim _ _
  rw [RU_at, TU_at]
  rfl

theorem res_b (c : Dev nD) : RU (yb m c) (wb m c) = Pipeline.afterTail₀ cfgs (dats m) 0 (V0 m) [hostOps1] c main_v15 := by
  rw [tail_b, arr_b]
  funext i
  idx_vars i
  obtain rfl : i0 = 0 := Subsingleton.elim _ _
  rw [RU_at, TU_at]
  rfl

theorem res_m (c : Dev nD) : RM (ya m c) (yb m c) (pp m c) (bg m c) (wa m c) (wb m c) = Pipeline.afterTail₀ cfgs (dats m) 0 (V0 m) [hostOps1] c main_v17 := by
  rw [tail_m, arr_m]
  funext i
  idx_vars i
  obtain rfl : i0 = 0 := Subsingleton.elim _ _
  rw [RM_at, TM_at]
  rfl

theorem algebraic : Cert.algebraic_Kernel11Ideal_Reference11Ideal := by
  pair_intro
  · run_from Cert.Kernel11Ideal.Gen.run_main m g & Cert.Kernel11Ideal.Gen.unchanged m g
  · run_from Cert.Reference11Ideal.Value.run m' g'
    · exact res_a m c
    · exact res_b m c
    · exact res_m m c

end Cert.Kernel11Ideal.Value
-- ==== Proof.MixerInput.lean ====
module

public import proofs.«01_k».proof.Defs
public import proofs.«01_k».proof.Proof.Gen.Kernel6Ideal.Frame
public import proofs.«01_k».proof.Proof.Gen.Reference6Ideal.Run
public import proofs.«01_k».proof.Proof.Norm

@[expose] public section

set_option maxRecDepth 16384

noncomputable section

namespace Cert.Pre_finite6
instance facts : Facts where
  bcast_S_S1x2048x3080 := by decide
  bcast_S_S1x2048x2048 := by decide
  bcast_S_S1x2048x1024 := by decide
  bcast_S_S1x1024 := by decide
  bcast_S_S1x1024x3080 := by decide
  bcast_S_S1x1024x2048 := by decide
end Cert.Pre_finite6

namespace Cert.Reference6Ideal.Value

open Idealize.ShloMosaic
open Cert.Reference6Ideal Cert.Reference6Ideal.Gen

/-- The reference's gradient at the normalised rows: the products with the weights of the projection and of the gates. -/
def DH (dp : FVec Ideal S1x2048x3080 .f32) (dg : FVec Ideal S1x2048x2048 .f32) (wi : FVec Ideal S1x1024x3080 .f32) (wg : FVec Ideal S1x1024x2048 .f32) : FVec Ideal S1x2048x1024 .f32 :=
  addf (Host.dotGeneral dot_S1x2048x2048_S1024x2048_S1x2048x1024_2_1_01_0_n_n none dg (shapeCast _ wg shapeCasts_S1x1024x2048_S1024x2048)) (Host.dotGeneral dot_S1x2048x3080_S1024x3080_S1x2048x1024_2_1_01_0_n_n none dp (shapeCast _ wi shapeCasts_S1x1024x3080_S1024x3080))

theorem DH_at (dp : FVec Ideal S1x2048x3080 .f32) (dg : FVec Ideal S1x2048x2048 .f32) (wi : FVec Ideal S1x1024x3080 .f32) (wg : FVec Ideal S1x1024x2048 .f32) (t : Fin 2048) (q : Fin 1024) :
    DH dp dg wi wg (ix3 0 t q) = ∑ k : Fin 2048, dg (ix3 0 t k) * wg (ix3 0 q k) + ∑ k : Fin 3080, dp (ix3 0 t k) * wi (ix3 0 q k) := by
  pointwise [DH]

theorem DH_real (dp : FVec Ideal S1x2048x3080 .f32) (dg : FVec Ideal S1x2048x2048 .f32) (wi : FVec Ideal S1x1024x3080 .f32) (wg : FVec Ideal S1x1024x2048 .f32)
    (hp : ∃ f : S1x2048x3080.Idx → ℝ, ∀ i, dp i = (f i : EReal)) (hd : ∃ f : S1x2048x2048.Idx → ℝ, ∀ i, dg i = (f i : EReal))
    (hi : ∃ f : S1x1024x3080.Idx → ℝ, ∀ i, wi i = (f i : EReal)) (hg : ∃ f : S1x1024x2048.Idx → ℝ, ∀ i, wg i = (f i : EReal)) :
    ∃ f : Fin 2048 → Fin 1024 → ℝ, ∀ t q, DH dp dg wi wg (ix3 0 t q) = (f t q : EReal) := by
  obtain ⟨p, hp⟩ := hp
  obtain ⟨d, hd⟩ := hd
  obtain ⟨w, hi⟩ := hi
  obtain ⟨g, hg⟩ := hg
  refine ⟨fun t q => ∑ k : Fin 2048, d (ix3 0 t k) * g (ix3 0 q k) + ∑ k : Fin 3080, p (ix3 0 t k) * w (ix3 0 q k), fun t q => ?_⟩
  rw [DH_at, EReal.coe_add]
  simp only [hp, hd, hi, hg, ← EReal.coe_mul, Cert.Real.sum_coe]

end Cert.Reference6Ideal.Value

namespace Cert.Kernel6Ideal.Value

open Idealize.ShloMosaic Idealize.ShloMosaic.TcCoe Idealize.SL.Sem
open Idealize.ShloMosaic.Pipeline (Dat)
open Cert.Real (WIDTH EPS)
open Cert.Norm (KX RX RG RX_at RG_at)
open Cert.Reference2Ideal.Value (AS)
open Cert.Reference6Ideal.Value (DH DH_at DH_real)
open Cert.Kernel6Ideal Cert.Kernel6Ideal.Gen

variable (m : (ℓ : Loc nD τ sig) → Buf (Elt Ideal) ℓ)

abbrev a0 (c : Dev nD) : FVec Ideal S1x2048x1024 .f32 := m ((c : Thread nD τ).loc main_arg0)
abbrev a1 (c : Dev nD) : FVec Ideal S1x2048x3080 .f32 := m ((c : Thread nD τ).loc main_arg1)
abbrev a2 (c : Dev nD) : FVec Ideal S1x2048x2048 .f32 := m ((c : Thread nD τ).loc main_arg2)
abbrev a3 (c : Dev nD) : FVec Ideal S1x2048x1024 .f32 := m ((c : Thread nD τ).loc main_arg3)
abbrev a4 (c : Dev nD) : FVec Ideal S1x1024 .f32 := m ((c : Thread nD τ).loc main_arg4)
abbrev a5 (c : Dev nD) : FVec Ideal S1x1024x3080 .f32 := m ((c : Thread nD τ).loc main_arg5)
abbrev a6 (c : Dev nD) : FVec Ideal S1x1024x2048 .f32 := m ((c : Thread nD τ).loc main_arg6)

/-- What the host makes of the region's rows: a unit axis in front. -/
def TX (A : FVec Ideal S2048x1024 .f32) : FVec Ideal S1x2048x1024 .f32 := broadcastInDim S1x2048x1024 ![1, 2] bcast_S2048x1024_S1x2048x1024_1_2 A

theorem arr (c : Dev nD) (w : Fin 14) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

theorem tail34 (c : Dev nD) : Pipeline.afterTail₀ cfgs (dats m) 0 (V0 m) [hostOps1] c main_v34 = TX ((dats m 0 c).arrAt 12 (cfgs 0).N) := by
  unfold Pipeline.afterTail₀
  simp only [hostOps1, List.flatten_cons, List.flatten_nil, List.append_nil, List.cons_append]
  after_results
  exact congrArg TX (arr m c 12)

def pk (k : Fin 3072) : Fin 3080 := ⟨k.val, by omega⟩
def pf (l : Fin 8) : Fin 3080 := ⟨3072 + l.val, by omega⟩
def lo (k : Fin 1024) : Fin 2048 := ⟨k.val, by omega⟩
def hi (k : Fin 1024) : Fin 2048 := ⟨1024 + k.val, by omega⟩

theorem zero_word (f : FTy) : (FloatOps.sitofp (F := Ideal) f 0#32 : EReal) = 0 := by
  show (((0#32 : BitVec 32).toInt : ℝ) : EReal) = 0
  simp

theorem v10 (c : Dev nD) (t : Fin 2048) (k : Fin 3072) : V m c main_v10 (ix2 t k) = a1 m c (ix3 0 t (pk k)) := by
  simp only [V, V0, hostOps0, hostOps0_1, hostOps0_2, hostOps0_3, hostOps0_4, List.flatten_cons, List.flatten_nil, List.append_nil, List.cons_append, List.nil_append]
  after_results
  pointwise [pk]

theorem v17 (c : Dev nD) (t : Fin 2048) (k : Fin 1024) : V m c main_v17 (ix2 t k) = a2 m c (ix3 0 t (lo k)) := by
  simp only [V, V0, hostOps0, hostOps0_1, hostOps0_2, hostOps0_3, hostOps0_4, List.flatten_cons, List.flatten_nil, List.append_nil, List.cons_append, List.nil_append]
  after_results
  pointwise [lo]

theorem v20 (c : Dev nD) (t : Fin 2048) (k : Fin 1024) : V m c main_v20 (ix2 t k) = a2 m c (ix3 0 t (hi k)) := by
  simp only [V, V0, hostOps0, hostOps0_1, hostOps0_2, hostOps0_3, hostOps0_4, List.flatten_cons, List.flatten_nil, List.append_nil, List.cons_append, List.nil_append]
  after_results
  pointwise [hi]

theorem v14 (c : Dev nD) (t : Fin 2048) (l : Fin 128) : V m c main_v14 (ix2 t l) = if h : l.val < 8 then a1 m c (ix3 0 t (pf ⟨l.val, h⟩)) else 0 := by
  simp only [V, V0, hostOps0, hostOps0_1, hostOps0_2, hostOps0_3, hostOps0_4, List.flatten_cons, List.flatten_nil, List.append_nil, List.cons_append, List.nil_append]
  after_results
  show pad S2048x128 ![0, 0] ![0, 120] ![0, 0] (shapeCast S2048x8 (extractStridedSlice S1x2048x8 ![0, 0, 3072] (a1 m c) slices_S1x2048x3080_S1x2048x8_0_0_3072) shapeCasts_S1x2048x8_S2048x8) (sitofp FTy.f32 (constantI S_ 32 0#32)) pads_S2048x8_S2048x128_000_01200 h_S_ (ix2 t l) = _
  pointwise
  rw [zero_word]
  rfl

theorem v2 (c : Dev nD) (k : Fin 3080) (q : Fin 1024) : V m c main_v2 (ix2 k q) = a5 m c (ix3 0 q k) := by
  simp only [V, V0, hostOps0, hostOps0_1, hostOps0_2, hostOps0_3, hostOps0_4, List.flatten_cons, List.flatten_nil, List.append_nil, List.cons_append, List.nil_append]
  after_results
  pointwise

theorem v5 (c : Dev nD) (k : Fin 2048) (q : Fin 1024) : V m c main_v5 (ix2 k q) = a6 m c (ix3 0 q k) := by
  simp only [V, V0, hostOps0, hostOps0_1, hostOps0_2, hostOps0_3, hostOps0_4, List.flatten_cons, List.flatten_nil, List.append_nil, List.cons_append, List.nil_append]
  after_results
  pointwise

theorem v7 (c : Dev nD) (l : Fin 128) (q : Fin 1024) : V m c main_v7 (ix2 l q) = if h : l.val < 8 then a5 m c (ix3 0 q (pf ⟨l.val, h⟩)) else 0 := by
  simp only [V, V0, hostOps0, hostOps0_1, hostOps0_2, hostOps0_3, hostOps0_4, List.flatten_cons, List.flatten_nil, List.append_nil, List.cons_append, List.nil_append]
  after_results
  show pad S128x1024 ![0, 0] ![120, 0] ![0, 0] (extractStridedSlice S8x1024 ![3072, 0] (truncf FTy.bf16 (transpose S3080x1024 [1, 0] (shapeCast S1024x3080 (a5 m c) shapeCasts_S1x1024x3080_S1024x3080) transposes_S1024x3080_S3080x1024_1_0)) slices_S3080x1024_S8x1024_3072_0) (sitofp FTy.bf16 (constantI S_ 32 0#32)) pads_S8x1024_S128x1024_01200_000 h_S_ (ix2 l q) = _
  pointwise
  rw [zero_word]
  rfl

theorem v31 (c : Dev nD) (t : Fin 2048) (k : Fin 1024) : V m c main_v31 (ix2 t k) = a3 m c (ix3 0 t k) := by
  simp only [V, V0, hostOps0, hostOps0_1, hostOps0_2, hostOps0_3, hostOps0_4, List.flatten_cons, List.flatten_nil, List.append_nil, List.cons_append, List.nil_append]
  after_results
  pointwise

theorem v30 (c : Dev nD) (t : Fin 2048) : V m c main_v30 (ix2 t 0) = Ideal.rsqrt (AS (a3 m c) t) := by
  simp only [V, V0, hostOps0, hostOps0_1, hostOps0_2, hostOps0_3, hostOps0_4, List.flatten_cons, List.flatten_nil, List.append_nil, List.cons_append, List.nil_append]
  after_results
  pointwise [AS]

theorem v32 (c : Dev nD) (t : Fin 2048) (k : Fin 1024) : V m c main_v32 (ix2 t k) = a0 m c (ix3 0 t k) := by
  simp only [V, V0, hostOps0, hostOps0_1, hostOps0_2, hostOps0_3, hostOps0_4, List.flatten_cons, List.flatten_nil, List.append_nil, List.cons_append, List.nil_append]
  after_results
  pointwise

theorem vg (c : Dev nD) (i : S1x1024.Idx) : V m c main_arg4 i = a4 m c i := by
  simp only [V, V0, hostOps0, hostOps0_1, hostOps0_2, hostOps0_3, hostOps0_4, List.flatten_cons, List.flatten_nil, List.append_nil, List.cons_append, List.nil_append]
  after_results

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![1, 0] ∧ win0_7.index t = ![0, 0]
    ∧ win0_8.index t = ![t.val, 0] ∧ win0_9.index t = ![t.val, 0] ∧ win0_10.index t = ![0, 0] ∧ win0_11.index t = ![t.val, 0]
    ∧ win0_12.index t = ![t.val, 0] ∧ win0_13.index t = ![0, 0] :=
  (by decide +kernel : ∀ t : Fin grid0.N, _)

def tt (t : Fin cfg0.N) (r : Fin 256) : Fin 2048 := ⟨t.val * 256 + r.val, by have : t.val < 8 := t.isLt; omega⟩

theorem b0 (c : Dev nD) (t : Fin cfg0.N) (r : Fin 256) (k : Fin 3072) : iblk m c 0 t (ix2 r k) = a1 m c (ix3 0 (tt t r) (pk k)) := by
  unfold iblk
  rw [View.read, cast_eq]
  exact (congrArg (V m c main_v10) (by blk_ext [idx t, tt])).trans (v10 m c (tt t r) k)

theorem b1 (c : Dev nD) (t : Fin cfg0.N) (r : Fin 256) (k : Fin 1024) : iblk m c 1 t (ix2 r k) = a2 m c (ix3 0 (tt t r) (lo k)) := by
  unfold iblk
  rw [View.read, cast_eq]
  exact (congrArg (V m c main_v17) (by blk_ext [idx t, tt])).trans (v17 m c (tt t r) k)

theorem b2 (c : Dev nD) (t : Fin cfg0.N) (r : Fin 256) (k : Fin 1024) : iblk m c 2 t (ix2 r k) = a2 m c (ix3 0 (tt t r) (hi k)) := by
  unfold iblk
  rw [View.read, cast_eq]
  exact (congrArg (V m c main_v20) (by blk_ext [idx t, tt])).trans (v20 m c (tt t r) k)

theorem b3 (c : Dev nD) (t : Fin cfg0.N) (r : Fin 256) (l : Fin 128) : iblk m c 3 t (ix2 r l) = if h : l.val < 8 then a1 m c (ix3 0 (tt t r) (pf ⟨l.val, h⟩)) else 0 := by
  unfold iblk
  rw [View.read, cast_eq]
  exact (congrArg (V m c main_v14) (by blk_ext [idx t, tt])).trans (v14 m c (tt t r) l)

theorem b4 (c : Dev nD) (t : Fin cfg0.N) (k : Fin 3072) (q : Fin 1024) : X0_4 m c t (ix2 k q) = a5 m c (ix3 0 q (pk k)) := by
  unfold X0_4 Pipeline.Window.fill
  rw [dif_pos (moved0_4 t _)]
  unfold iblk
  rw [View.read, cast_eq]
  exact (congrArg (V m c main_v2) (by blk_ext [idx t, pk])).trans (v2 m c (pk k) q)

theorem b5 (c : Dev nD) (t : Fin cfg0.N) (k : Fin 1024) (q : Fin 1024) : iblk m c 5 t (ix2 k q) = a6 m c (ix3 0 q (lo k)) := by
  unfold iblk
  rw [View.read, cast_eq]
  exact (congrArg (V m c main_v5) (by blk_ext [idx t, lo])).trans (v5 m c (lo k) q)

theorem b6 (c : Dev nD) (t : Fin cfg0.N) (k : Fin 1024) (q : Fin 1024) : iblk m c 6 t (ix2 k q) = a6 m c (ix3 0 q (hi k)) := by
  unfold iblk
  rw [View.read, cast_eq]
  exact (congrArg (V m c main_v5) (by blk_ext [idx t, hi])).trans (v5 m c (hi k) q)

theorem b7 (c : Dev nD) (t : Fin cfg0.N) (l : Fin 128) (q : Fin 1024) : iblk m c 7 t (ix2 l q) = if h : l.val < 8 then a5 m c (ix3 0 q (pf ⟨l.val, h⟩)) else 0 := by
  unfold iblk
  rw [View.read, cast_eq]
  exact (congrArg (V m c main_v7) (by blk_ext [idx t])).trans (v7 m c l q)

theorem b8 (c : Dev nD) (t : Fin cfg0.N) (r : Fin 256) (k : Fin 1024) : iblk m c 8 t (ix2 r k) = a3 m c (ix3 0 (tt t r) k) := by
  unfold iblk
  rw [View.read, cast_eq]
  exact (congrArg (V m c main_v31) (by blk_ext [idx t, tt])).trans (v31 m c (tt t r) k)

theorem b9 (c : Dev nD) (t : Fin cfg0.N) (r : Fin 256) (z : Fin 1) : iblk m c 9 t (ix2 r z) = Ideal.rsqrt (AS (a3 m c) (tt t r)) := by
  obtain rfl : z = 0 := Subsingleton.elim _ _
  unfold iblk
  rw [View.read, cast_eq]
  exact (congrArg (V m c main_v30) (by blk_ext [idx t, tt])).trans (v30 m c (tt t r))

theorem b10 (c : Dev nD) (t : Fin cfg0.N) (z : Fin 1) (k : Fin 1024) : iblk m c 10 t (ix2 z k) = a4 m c (ix2 0 k) := by
  unfold iblk
  rw [View.read, cast_eq]
  exact (congrArg (V m c main_arg4) (by blk_ext [idx t])).trans (vg m c (ix2 0 k))

theorem b11 (c : Dev nD) (t : Fin cfg0.N) (r : Fin 256) (k : Fin 1024) : iblk m c 11 t (ix2 r k) = a0 m c (ix3 0 (tt t r) k) := by
  unfold iblk
  rw [View.read, cast_eq]
  exact (congrArg (V m c main_v32) (by blk_ext [idx t, tt])).trans (v32 m c (tt t r) k)

theorem emb12 (t : Fin cfg0.N) (r : Fin 256) (q : Fin 1024) : ((cfg0.win 12).blk t).view.emb (ix2 r q) = ix2 (tt t r) q := by blk_ext [idx t, tt]
theorem emb13 (t : Fin cfg0.N) (z : Fin 1) (q : Fin 1024) : ((cfg0.win 13).blk t).view.emb (ix2 z q) = ix2 0 q := by blk_ext [idx t]

theorem lt8 (t : Fin cfg0.N) : t.val < 8 := t.isLt

theorem sum_halves (f : Fin 2048 → EReal) : ∑ k, f k = ∑ k : Fin 1024, f (lo k) + ∑ k : Fin 1024, f (hi k) := Fin.sum_univ_add (a := 1024) (b := 1024) f

theorem sum_features (f : Fin 3080 → EReal) : ∑ k, f k = ∑ k : Fin 3072, f (pk k) + ∑ l : Fin 8, f (pf l) := Fin.sum_univ_add (a := 3072) (b := 8) f

theorem sum_lanes (f g : Fin 8 → EReal) : (∑ l : Fin 128, (if h : l.val < 8 then f ⟨l.val, h⟩ else 0) * (if h : l.val < 8 then g ⟨l.val, h⟩ else 0)) = ∑ l, f l * g l := by
  have h0 (l : Fin 120) : (if h : (Fin.natAdd 8 l : Fin (8 + 120)).val < 8 then f ⟨(Fin.natAdd 8 l : Fin (8 + 120)).val, h⟩ else 0) * (if h : (Fin.natAdd 8 l : Fin (8 + 120)).val < 8 then g ⟨(Fin.natAdd 8 l : Fin (8 + 120)).val, h⟩ else 0) = 0 := by
    have : ¬(Fin.natAdd 8 l : Fin (8 + 120)).val < 8 := by rw [Fin.val_natAdd]; omega
    rw [dif_neg this, zero_mul]
  refine (Fin.sum_univ_add (a := 8) (b := 120) _).trans ?_
  rw [Finset.sum_eq_zero fun l _ => h0 l, add_zero]
  refine Finset.sum_congr rfl fun l _ => ?_
  rw [dif_pos (show (Fin.castAdd 120 l).val < 8 from l.isLt), dif_pos (show (Fin.castAdd 120 l).val < 8 from l.isLt)]
  rfl

theorem D_at (c : Dev nD) (t : Fin cfg0.N) (r : Fin 256) (q : Fin 1024) : k0_pay4 (iblk m c 0 t) (X0_4 m c t) (iblk m c 1 t) (iblk m c 5 t) (iblk m c 2 t) (iblk m c 6 t) (iblk m c 3 t) (iblk m c 7 t) (ix2 r q) = DH (a1 m c) (a2 m c) (a5 m c) (a6 m c) (ix3 0 (tt t r) q) := by
  pointwise [k0_pay4]
  simp only [b0, b1, b2, b3, b4, b5, b6, b7]
  rw [DH_at, sum_features, sum_halves, sum_lanes (fun l => a1 m c (ix3 0 (tt t r) (pf l))) (fun l => a5 m c (ix3 0 q (pf l)))]
  ac_rfl

/-- One entry's share of the gain's gradient. -/
def KG (d x : FVec Ideal S1x2048x1024 .f32) (t : Fin 2048) (q : Fin 1024) : EReal := d (ix3 0 t q) * (x (ix3 0 t q) * Ideal.rsqrt (AS x t))

theorem p1 (c : Dev nD) (t : Fin cfg0.N) (i : Fin 256) (q : Fin 1024) :
    k0_pay1 (k0_pay5 (iblk m c 9 t)) (k0_pay6 (iblk m c 9 t) (iblk m c 8 t)) (k0_pay7 (iblk m c 0 t) (X0_4 m c t) (iblk m c 1 t) (iblk m c 5 t) (iblk m c 2 t) (iblk m c 6 t) (iblk m c 3 t) (iblk m c 7 t) (iblk m c 10 t)) (iblk m c 11 t) (ix2 i q) = KX (a0 m c (ix3 0 (tt t i) q)) (fun k => DH (a1 m c) (a2 m c) (a5 m c) (a6 m c) (ix3 0 (tt t i) k)) (a3 m c) (a4 m c) (tt t i) q := by
  pointwise [k0_pay1, k0_pay5, k0_pay6, k0_pay7]
  simp only [D_at, b8, b9, b10, b11, KX]

theorem p2 (c : Dev nD) (t : Fin cfg0.N) (y : S1x1024.Idx) : k0_pay2 (k0_pay4 (iblk m c 0 t) (X0_4 m c t) (iblk m c 1 t) (iblk m c 5 t) (iblk m c 2 t) (iblk m c 6 t) (iblk m c 3 t) (iblk m c 7 t)) (k0_pay6 (iblk m c 9 t) (iblk m c 8 t)) y
    = ∑ r : Fin 256, KG (DH (a1 m c) (a2 m c) (a5 m c) (a6 m c)) (a3 m c) (tt t r) (y 1) := by
  idx_vars y
  pointwise [k0_pay2, k0_pay5, k0_pay6]
  simp only [D_at, b8, b9]
  rfl

theorem p3 (d x : FVec Ideal S256x1024 .f32) (s : FVec Ideal S1x1024 .f32) (y) : k0_pay3 d x s y = s y + k0_pay2 d x y := by
  idx_vars y
  pointwise [k0_pay3]

theorem fin12 (c : Dev nD) : (dats m 0 c).arrAt 12 (cfgs 0).N = fun i => KX (a0 m c (ix3 0 (i 0) (i 1))) (fun k => DH (a1 m c) (a2 m c) (a5 m c) (a6 m c) (ix3 0 (i 0) k)) (a3 m c) (a4 m c) (i 0) (i 1) := by
  refine (dats m 0 c).arrAt_eq_of_covers 12 _ (by decide +kernel) fun t _ y => ?_
  blk_simp
  rw [after0_12]
  have hp (y : S256x1024.Idx) : k0_pay1 (k0_pay5 (iblk m c 9 t)) (k0_pay6 (iblk m c 9 t) (iblk m c 8 t)) (k0_pay7 (iblk m c 0 t) (X0_4 m c t) (iblk m c 1 t) (iblk m c 5 t) (iblk m c 2 t) (iblk m c 6 t) (iblk m c 3 t) (iblk m c 7 t) (iblk m c 10 t)) (iblk m c 11 t) y = (fun i : S2048x1024.Idx => KX (a0 m c (ix3 0 (i 0) (i 1))) (fun k => DH (a1 m c) (a2 m c) (a5 m c) (a6 m c) (ix3 0 (i 0) k)) (a3 m c) (a4 m c) (i 0) (i 1)) (((cfg0.win 12).blk t).view.emb y) := by
    idx_vars y; rw [emb12]; exact p1 m c t _ _
  have := lt8 t
  by_cases h : t.val % 8 = 0
  · rw [outsAt0_A m c t h (by omega)]; frame_out; exact hp y
  · rw [outsAt0_B m c t h (by omega)]; frame_out; exact hp y

theorem tt_run (t : Fin cfg0.N) (s : Fin 8) (k : Fin 256) (h1 : 8 * (t.val / 8) + s.val < cfg0.N) (h2 : s.val * 256 + k.val < 2048) : tt ⟨8 * (t.val / 8) + s.val, h1⟩ k = ⟨s.val * 256 + k.val, h2⟩ := by
  apply Fin.ext
  have := lt8 t
  show (8 * (t.val / 8) + s.val) * 256 + k.val = s.val * 256 + k.val
  omega

theorem fin13 (c : Dev nD) : (dats m 0 c).arrAt 13 (cfgs 0).N = fun i => ∑ t : Fin 2048, KG (DH (a1 m c) (a2 m c) (a5 m c) (a6 m c)) (a3 m c) t (i 1) := by
  refine (dats m 0 c).arrAt_eq_of_covers 13 _ (by decide +kernel) fun t hf y => ?_
  blk_simp
  rw [after0_13, Pipeline.eq_sum_fin_of_reset_step_apply_of_flush (fun n h => (outsAt0 m c n h).2) 8 (fun _ => 0)
    (fun t y => ∑ r : Fin 256, KG (DH (a1 m c) (a2 m c) (a5 m c) (a6 m c)) (a3 m c) (tt t r) (y 1))
    (fun t h y => by
      have := lt8 t
      rw [outsAt0_A m c t h (by omega)]; frame_out; rw [zero_add]; exact p2 m c t y)
    (fun t h y => by
      rw [outsAt0_B m c t h (by omega)]; frame_out; rw [p3]; exact congrArg (HAdd.hAdd _) (p2 m c t y))
    t ((flush0_13 t).mp hf) _, zero_add]
  idx_vars y
  rw [emb13]
  refine Fin.sum_mul_add_congr fun s k hl => ?_
  rw [tt_run t s k _ hl]
  rfl

theorem res_x (c : Dev nD) (hd : ∃ f : Fin 2048 → Fin 1024 → ℝ, ∀ t q, DH (a1 m c) (a2 m c) (a5 m c) (a6 m c) (ix3 0 t q) = (f t q : EReal))
    (hx : ∃ f : S1x2048x1024.Idx → ℝ, ∀ i, a3 m c i = (f i : EReal)) (hg : ∃ f : S1x1024.Idx → ℝ, ∀ i, a4 m c i = (f i : EReal)) :
    RX (a0 m c) (DH (a1 m c) (a2 m c) (a5 m c) (a6 m c)) (a3 m c) (a4 m c) = Pipeline.afterTail₀ cfgs (dats m) 0 (V0 m) [hostOps1] c main_v34 := by
  rw [tail34, fin12]
  funext i
  idx_vars i
  obtain rfl : i0 = 0 := Subsingleton.elim _ _
  rw [RX_at _ _ _ _ hd hx hg]
  pointwise [TX]

theorem res_g (c : Dev nD) : RG (DH (a1 m c) (a2 m c) (a5 m c) (a6 m c)) (a3 m c) = (dats m 0 c).arrAt 13 (cfgs 0).N := by
  rw [fin13]
  funext i
  idx_vars i
  obtain rfl : i0 = 0 := Subsingleton.elim _ _
  rw [RG_at]
  rfl

theorem algebraic : Cert.algebraic_Kernel6Ideal_Reference6Ideal_pre_finite6 := by
  pair_intro
  · run_from Cert.Kernel6Ideal.Gen.run_main m g & Cert.Kernel6Ideal.Gen.unchanged m g
  · run_from Cert.Reference6Ideal.Value.run m' g'
    · obtain ⟨h0, h1, h2, h3, h4, h5, h6⟩ := hagree c
      obtain ⟨q1, q2, q3, q4, q5, q6⟩ := hpre c
      exact (show RX _ (DH _ _ _ _) _ _ = RX (a0 m c) (DH (a1 m c) (a2 m c) (a5 m c) (a6 m c)) (a3 m c) (a4 m c) by rw [h0, h1, h2, h3, h4, h5, h6]).trans
        (res_x m c (DH_real _ _ _ _ (Cert.Real.of_finite _ _ q1) (Cert.Real.of_finite _ _ q2) (Cert.Real.of_finite _ _ q5) (Cert.Real.of_finite _ _ q6)) (Cert.Real.of_finite _ _ q3) (Cert.Real.of_finite _ _ q4))
    · exact res_g m c

end Cert.Kernel6Ideal.Value
-- ==== Proof.RmsUp.lean ====
module

public import proofs.«01_k».proof.Defs
public import proofs.«01_k».proof.Proof.Gen.Kernel10Ideal.Frame
public import proofs.«01_k».proof.Proof.Gen.Reference10Ideal.Run
public import proofs.«01_k».proof.Proof.Norm

@[expose] public section

set_option maxRecDepth 16384

noncomputable section

/-! The norm of the rows, and each row's scale. No sum is regrouped, so nothing is asked of the arguments. -/

namespace Cert.Kernel10Ideal.Value

open Idealize.ShloMosaic Idealize.ShloMosaic.TcCoe Idealize.SL.Sem
open Cert.Norm (casts_gain)
open Cert.Reference2Ideal.Value (AS AA RSB GB RSB_at AA_at)
open Cert.Kernel10Ideal Cert.Kernel10Ideal.Gen

/-- A normalised entry times its column's gain. -/
def HN (x : FVec Ideal S1x2048x1024 .f32) (g : FVec Ideal S1x1024 .f32) (t : Fin 2048) (q : Fin 1024) : EReal :=
  x (ix3 0 t q) * Ideal.rsqrt (AS x t) * g (ix2 0 q)

/-- The reference's two results. -/
def RH (x : FVec Ideal S1x2048x1024 .f32) (g : FVec Ideal S1x1024 .f32) : FVec Ideal S1x2048x1024 .f32 :=
  mulf (mulf x (RSB x)) (GB (shapeCast _ g casts_gain))
def RS (x : FVec Ideal S1x2048x1024 .f32) : FVec Ideal S1x2048x1 .f32 := Host.rsqrt (AA x)

theorem RH_at (x : FVec Ideal S1x2048x1024 .f32) (g : FVec Ideal S1x1024 .f32) (t : Fin 2048) (q : Fin 1024) : RH x g (ix3 0 t q) = HN x g t q := by
  pointwise [RH, GB]
  rw [RSB_at]
  rfl

theorem RS_at (x : FVec Ideal S1x2048x1024 .f32) (t : Fin 2048) : RS x (ix3 0 t 0) = Ideal.rsqrt (AS x t) := by
  pointwise [RS]
  rw [AA_at]

/-- What the host makes of the region's two results. -/
def TH (A : FVec Ideal S2048x1024 .bf16) : FVec Ideal S1x2048x1024 .f32 :=
  extf .f32 (broadcastInDim S1x2048x1024 ![1, 2] bcast_S2048x1024_S1x2048x1024_1_2 A) bitsLt_bf16_f32
def TS (A : FVec Ideal S2048x1 .f32) : FVec Ideal S1x2048x1 .f32 :=
  broadcastInDim S1x2048x1 ![1, 2] bcast_S2048x1_S1x2048x1_1_2 A

theorem TH_at (A : FVec Ideal S2048x1024 .bf16) (z : Fin 1) (t : Fin 2048) (q : Fin 1024) : TH A (ix3 z t q) = A (ix2 t q) := by
  pointwise [TH]
theorem TS_at (A : FVec Ideal S2048x1 .f32) (z y : Fin 1) (t : Fin 2048) : TS A (ix3 z t y) = A (ix2 t y) := by
  obtain rfl : y = 0 := Subsingleton.elim _ _
  pointwise [TS]

variable (m : (ℓ : Loc nD τ sig) → Buf (Elt Ideal) ℓ)

abbrev xx (c : Dev nD) : FVec Ideal S1x2048x1024 .f32 := m ((c : Thread nD τ).loc main_arg0)
abbrev gg (c : Dev nD) : FVec Ideal S1x1024 .f32 := m ((c : Thread nD τ).loc main_arg1)

theorem inj : Function.Injective (Pipeline.arrRef spec0) := by decide +kernel

theorem tail_h (c : Dev nD) : Pipeline.afterTail₀ cfgs (dats m) 0 (V0 m) [hostOps1] c main_v3 = TH ((dats m 0 c).arrAt 2 (cfgs 0).N) := by
  unfold Pipeline.afterTail₀
  simp only [hostOps1, List.flatten_cons, List.flatten_nil, List.append_nil, List.cons_append]
  after_results
  exact congrArg TH (Pipeline.withArrays_arr spec0 inj c (V0 m c) (fun w => (dats m 0 c).arrAt w (cfgs 0).N) 2)

theorem tail_s (c : Dev nD) : Pipeline.afterTail₀ cfgs (dats m) 0 (V0 m) [hostOps1] c main_v4 = TS ((dats m 0 c).arrAt 3 (cfgs 0).N) := by
  unfold Pipeline.afterTail₀
  simp only [hostOps1, List.flatten_cons, List.flatten_nil, List.append_nil, List.cons_append]
  after_results
  exact congrArg TS (Pipeline.withArrays_arr spec0 inj c (V0 m c) (fun w => (dats m 0 c).arrAt w (cfgs 0).N) 3)

theorem rows (c : Dev nD) (t : Fin 2048) (k : Fin 1024) : V m c main_v0 (ix2 t k) = xx m c (ix3 0 t k) := by
  simp only [V, V0, hostOps0, List.flatten_cons, List.flatten_nil, List.append_nil, List.cons_append, List.nil_append]
  after_results
  pointwise

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

def tt (t : Fin cfg0.N) (r : Fin 256) : Fin 2048 := ⟨t.val * 256 + r.val, by have : t.val < 8 := t.isLt; omega⟩

theorem b0 (c : Dev nD) (t : Fin cfg0.N) (r : Fin 256) (k : Fin 1024) : iblk m c 0 t (ix2 r k) = xx m c (ix3 0 (tt t r) k) := by
  unfold iblk
  rw [View.read, cast_eq]
  exact (congrArg (V m c main_v0) (by blk_ext [idx t, tt])).trans (rows m c (tt t r) k)

theorem b1 (c : Dev nD) (t : Fin cfg0.N) (z : Fin 1) (k : Fin 1024) : iblk m c 1 t (ix2 z k) = gg m c (ix2 0 k) := by
  unfold iblk
  rw [View.read, cast_eq]
  exact (congrArg (V m c main_arg1) (by blk_ext [idx t] : _ = ix2 0 k)).trans (congrFun (V_main_arg1 m c) _)

theorem emb_h (t : Fin cfg0.N) (r : Fin 256) (q : Fin 1024) : ((cfg0.win 2).blk t).view.emb (ix2 r q) = ix2 (tt t r) q := by blk_ext [idx t, tt]
theorem emb_s (t : Fin cfg0.N) (r : Fin 256) (z : Fin 1) : ((cfg0.win 3).blk t).view.emb (ix2 r z) = ix2 (tt t r) 0 := by blk_ext [idx t, tt]

theorem arr_h (c : Dev nD) : (dats m 0 c).arrAt 2 (cfgs 0).N = fun i => HN (xx m c) (gg m c) (i 0) (i 1) := by
  refine (dats m 0 c).arrAt_eq_of_covers 2 _ (by decide +kernel) fun t _ y => ?_
  blk_simp
  rw [after0_2]; frame_out
  idx_vars y
  rw [emb_h]
  pointwise [k0_pay3, k0_pay1, k0_pay2]
  simp only [b0, b1]
  rfl

theorem arr_s (c : Dev nD) : (dats m 0 c).arrAt 3 (cfgs 0).N = fun i => Ideal.rsqrt (AS (xx m c) (i 0)) := by
  refine (dats m 0 c).arrAt_eq_of_covers 3 _ (by decide +kernel) fun t _ y => ?_
  blk_simp
  rw [after0_3]; frame_out
  idx_vars y
  rw [emb_s]
  pointwise [k0_pay1, k0_pay2]
  simp only [b0]
  rfl

theorem res_h (c : Dev nD) : RH (xx m c) (gg m c) = Pipeline.afterTail₀ cfgs (dats m) 0 (V0 m) [hostOps1] c main_v3 := by
  rw [tail_h, arr_h]
  funext i
  idx_vars i
  obtain rfl : i0 = 0 := Subsingleton.elim _ _
  rw [RH_at, TH_at]
  rfl

theorem res_s (c : Dev nD) : RS (xx m c) = Pipeline.afterTail₀ cfgs (dats m) 0 (V0 m) [hostOps1] c main_v4 := by
  rw [tail_s, arr_s]
  funext i
  idx_vars i
  obtain rfl : i0 = 0 := Subsingleton.elim _ _
  obtain rfl : i2 = 0 := Subsingleton.elim _ _
  rw [RS_at, TS_at]
  rfl

theorem algebraic : Cert.algebraic_Kernel10Ideal_Reference10Ideal := by
  pair_intro
  · run_from Cert.Kernel10Ideal.Gen.run_main m g & Cert.Kernel10Ideal.Gen.unchanged m g
  · run_from Cert.Reference10Ideal.Value.run m' g'
    · exact res_h m c
    · exact res_s m c

end Cert.Kernel10Ideal.Value
-- ==== Proof.Sb.lean ====
/- The stick-breaking attention's gradient: the kernel's results are the reference's. -/
module

public import proofs.«01_k».proof.Proof.SbIn
public import proofs.«01_k».proof.Pre_finite8

@[expose] public section

set_option maxRecDepth 16384

noncomputable section

namespace Cert.Pre_finite8
instance facts : Facts where
  bcast_S_S1x2048x512 := by decide
end Cert.Pre_finite8

namespace Cert.Kernel8Ideal.Value

open Cert.Kernel8Ideal Cert.Kernel8Ideal.Gen Cert.Kernel8Ideal.Sb
open Cert.Kernel7Ideal.Value (hj h4 h2 hp_h ln_of hd_hj sum_range_fin)
open Cert.Reference7Ideal.Value (ln HD DOT DQ DK)
open Cert.Reference8Ideal.Value (ZL GW DZ WT DV8 Vals Are)
open Idealize.ShloMosaic Idealize.ShloMosaic.TcCoe Idealize.SL.Sem
open Idealize.ShloMosaic.Pipeline (Dat)

variable (m : (ℓ : Loc nD τ sig) → Buf (Elt Ideal) ℓ)

/-! ## The host's results -/

theorem arr (c : Dev nD) (w : Fin 5) : Pipeline.withArrays spec0 c (V0 m c) (fun w => (dats m 0 c).arrAt w (cfgs 0).N) (Proc.devRef .tc (Pipeline.arrRef spec0 w)) = (dats m 0 c).arrAt w (cfgs 0).N :=
  Pipeline.withArrays_arr_shared spec0 c (V0 m c) _ ((dats m 0 c).arrAt_sharedIn sharedIn0 (V0 m c) (A_eq m c) (cfgs 0).N) w

/-- The three gradients side by side, and each. -/
def TA (x : FVec Ideal S2048x3072 .bf16) : FVec Ideal S1x2048x1536 .f32 :=
  extf .f32 (broadcastInDim S1x2048x1536 ![1, 2] bcast_S2048x1536_S1x2048x1536_1_2 (extractStridedSlice S2048x1536 ![0, 0] x slices_S2048x3072_S2048x1536_0_0)) bitsLt_bf16_f32
def TQ (x : FVec Ideal S2048x3072 .bf16) : FVec Ideal S1x2048x512 .f32 := extractStridedSlice S1x2048x512 ![0, 0, 0] (TA x) slices_S1x2048x1536_S1x2048x512_0_0_0
def TK (x : FVec Ideal S2048x3072 .bf16) : FVec Ideal S1x2048x512 .f32 := extractStridedSlice S1x2048x512 ![0, 0, 512] (TA x) slices_S1x2048x1536_S1x2048x512_0_0_512
def TV (x : FVec Ideal S2048x3072 .bf16) : FVec Ideal S1x2048x512 .f32 := extractStridedSlice S1x2048x512 ![0, 0, 1024] (TA x) slices_S1x2048x1536_S1x2048x512_0_0_1024

theorem TQ_at (x) (t : Fin 2048) (k : Fin 512) : TQ x (ix3 0 t k) = x (ix2 t (cc 0 k)) := by
  pointwise [TQ, TA, cc]
theorem TK_at (x) (t : Fin 2048) (k : Fin 512) : TK x (ix3 0 t k) = x (ix2 t (cc 1 k)) := by
  pointwise [TK, TA, cc]
theorem TV_at (x) (t : Fin 2048) (k : Fin 512) : TV x (ix3 0 t k) = x (ix2 t (cc 2 k)) := by
  pointwise [TV, TA, cc]

theorem tail15 (c : Dev nD) : Pipeline.afterTail₀ cfgs (dats m) 0 (V0 m) [hostOps1] c main_v15 = TQ ((dats m 0 c).arrAt 4 (cfgs 0).N) := by
  unfold Pipeline.afterTail₀
  simp only [hostOps1, List.flatten_cons, List.flatten_nil, List.append_nil, List.cons_append]
  after_results
  exact congrArg TQ (arr m c 4)
theorem tail16 (c : Dev nD) : Pipeline.afterTail₀ cfgs (dats m) 0 (V0 m) [hostOps1] c main_v16 = TK ((dats m 0 c).arrAt 4 (cfgs 0).N) := by
  unfold Pipeline.afterTail₀
  simp only [hostOps1, List.flatten_cons, List.flatten_nil, List.append_nil, List.cons_append]
  after_results
  exact congrArg TK (arr m c 4)
theorem tail17 (c : Dev nD) : Pipeline.afterTail₀ cfgs (dats m) 0 (V0 m) [hostOps1] c main_v17 = TV ((dats m 0 c).arrAt 4 (cfgs 0).N) := by
  unfold Pipeline.afterTail₀
  simp only [hostOps1, List.flatten_cons, List.flatten_nil, List.append_nil, List.cons_append]
  after_results
  exact congrArg TV (arr m c 4)

/-! ## The array's numbers -/

variable {g : Vals} {c : Dev nD} (H : Are (a0 m c) (a1 m c) (a2 m c) (a3 m c) g)
include H

theorem held_tt (p : Fin 4) : Cert.Stick.Hold (held m c (tt p)) (lns g p) := by
  have e := held_is m H (tt p)
  rwa [pp_tt] at e

theorem kq (t : Fin 2048) (h : Fin 8) (j : Fin 64) : (dats m 0 c).arrAt 4 (cfgs 0).N (ix2 t (cc 0 (ln h j))) = ((∑ s, g.S h t s * (1 / 8) * g.k s (ln h j) : ℝ) : EReal) := by
  refine (col_at m c 0 t h j).trans ((res_q (tt_mod _) (held_tt m H _) t _).trans (congrArg _ ?_))
  rw [hd_hj, sum_range_fin, Finset.sum_mul]
  exact Finset.sum_congr rfl fun s _ => by rw [lns_D, lns_k, hp_h]; ring

theorem kk (s : Fin 2048) (h : Fin 8) (j : Fin 64) : (dats m 0 c).arrAt 4 (cfgs 0).N (ix2 s (cc 1 (ln h j))) = ((∑ t, g.S h t s * (1 / 8) * g.q t (ln h j) : ℝ) : EReal) := by
  refine (col_at m c 1 s h j).trans ((res_k (tt_mod _) (held_tt m H _) s _).trans (congrArg _ ?_))
  rw [hd_hj, sum_range_fin]
  exact Finset.sum_congr rfl fun t _ => by rw [lns_D, lns_q, hp_h]; ring

theorem kv (s : Fin 2048) (h : Fin 8) (j : Fin 64) : (dats m 0 c).arrAt 4 (cfgs 0).N (ix2 s (cc 2 (ln h j))) = ((∑ t, g.d t (ln h j) * g.W h t s : ℝ) : EReal) := by
  refine (col_at m c 2 s h j).trans ((res_v (tt_mod _) (held_tt m H _) s _).trans (congrArg _ ?_))
  rw [hd_hj, sum_range_fin]
  exact Finset.sum_congr rfl fun t _ => by rw [lns_W, lns_d, hp_h]

/-! ## The results, of the reference's arrays that are the kernel's -/

variable {x0 x1 x2 x3 : FVec Ideal S1x2048x512 .f32} (e0 : x0 = a0 m c) (e1 : x1 = a1 m c) (e2 : x2 = a2 m c) (e3 : x3 = a3 m c)
include e0 e1 e2 e3

theorem eq_q : DQ (DZ (ZL x0 x1) (GW (ZL x0 x1) (DOT (HD x3) (HD x2)))) x1 = Pipeline.afterTail₀ cfgs (dats m) 0 (V0 m) [hostOps1] c main_v15 := by
  subst e0 e1 e2 e3
  rw [tail15]
  funext i
  idx_vars i
  obtain rfl : i0 = 0 := Subsingleton.elim _ _
  obtain ⟨h, j, rfl⟩ := ln_of i2
  exact (Cert.Reference8Ideal.Value.dq_is H h i1 j).trans ((kq m H i1 h j).symm.trans (TQ_at _ i1 (ln h j)).symm)

theorem eq_k : DK (DZ (ZL x0 x1) (GW (ZL x0 x1) (DOT (HD x3) (HD x2)))) x0 = Pipeline.afterTail₀ cfgs (dats m) 0 (V0 m) [hostOps1] c main_v16 := by
  subst e0 e1 e2 e3
  rw [tail16]
  funext i
  idx_vars i
  obtain rfl : i0 = 0 := Subsingleton.elim _ _
  obtain ⟨h, j, rfl⟩ := ln_of i2
  exact (Cert.Reference8Ideal.Value.dk_is H h i1 j).trans ((kk m H i1 h j).symm.trans (TK_at _ i1 (ln h j)).symm)

theorem eq_v : DV8 (WT (ZL x0 x1)) x3 = Pipeline.afterTail₀ cfgs (dats m) 0 (V0 m) [hostOps1] c main_v17 := by
  subst e0 e1 e2 e3
  rw [tail17]
  funext i
  idx_vars i
  obtain rfl : i0 = 0 := Subsingleton.elim _ _
  obtain ⟨h, j, rfl⟩ := ln_of i2
  exact (Cert.Reference8Ideal.Value.dv_is H h i1 j).trans ((kv m H i1 h j).symm.trans (TV_at _ i1 (ln h j)).symm)

omit H e0 e1 e2 e3

theorem algebraic : Cert.algebraic_Kernel8Ideal_Reference8Ideal_pre_finite8 := by
  pair_intro
  · run_from Cert.Kernel8Ideal.Sb.run_main m g & Gen.frame_of m g (dats m) (A_eq m) (Cert.Kernel8Ideal.Sb.run_main m g)
  · run_from Cert.Reference8Ideal.Value.run m' g'
    all_goals
      obtain ⟨h0, h1, h2, h3⟩ := hagree c
      obtain ⟨q0, q1, q2, q3⟩ := hpre c
      obtain ⟨v, H⟩ := Cert.Reference8Ideal.Value.exists_vals (Cert.Real.of_finite _ _ q0) (Cert.Real.of_finite _ _ q1) (Cert.Real.of_finite _ _ q2) (Cert.Real.of_finite _ _ q3)
    · exact (Cert.Reference8Ideal.Value.run_dq m' c).trans (eq_q m H h0 h1 h2 h3)
    · exact (Cert.Reference8Ideal.Value.run_dk m' c).trans (eq_k m H h0 h1 h2 h3)
    · exact (Cert.Reference8Ideal.Value.run_dv m' c).trans (eq_v m H h0 h1 h2 h3)

end Cert.Kernel8Ideal.Value
-- ==== Proof.SbBits.lean ====
/- The same frame for the program as printed: its text is the ideal one's, with the words of the constants that are named there. -/
module

public import proofs.«01_k».proof.Proof.SbFrame
public import proofs.«01_k».proof.Proof.Gen.Kernel8
public import proofs.«01_k».proof.Defs

@[expose] public section

set_option maxRecDepth 16384

noncomputable section

namespace Cert.Kernel8.Sb

open Cert.Kernel8
open Idealize.ShloMosaic Idealize.ShloMosaic.TcCoe
open Idealize.SL.Sem

/-- At the machine's own values a named constant is its word. -/
local instance : Named Bits := ⟨fun _ _ {φ} b => FloatOps.ofBits φ b⟩

/-- The arguments end as they were and every counter at zero, at the machine's own float values. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mp (by sl_kernel_rfl) (Cert.Kernel8Ideal.Sb.frame (F := Bits) m ρ)

end Cert.Kernel8.Sb

end
-- ==== Proof.StickRun.lean ====
/- What a point of the stick-breaking attention leaves: its weighted values as a recursion from the last chunk of keys to the first, and in real numbers. -/
module

public import proofs.«01_k».proof.Proof.SbReal
public import proofs.«01_k».proof.Proof.FoxPoint
public import proofs.«01_k».proof.Proof.Gen.Kernel13Ideal.Frame

@[expose] public section

set_option maxRecDepth 16384

noncomputable section

namespace Cert.Stick

open Idealize.ShloMosaic Idealize.ShloMosaic.TcCoe
open Cert.Fox (Sh nn tl bk lanes QT QT_at Is tl_is bk_is lanes_at narrow)
open Cert.Kernel7Ideal.Fox (hd)

/-- The rows' weighted values over the last `n` chunks. -/
def pile (L : Held) (h : Fin 2) : (n : ℕ) → n ≤ 8 → FVec Ideal (Sh 2048 128) .f32
  | 0, _ => none128
  | n + 1, e => bk (rv ⟨n, e⟩) (pile L h n (Nat.le_of_succ_le e)) (QT (nn (rv ⟨n, e⟩)) (Wt L h ⟨n, e⟩) (vp L (rv ⟨n, e⟩)) (tl (rv ⟨n, e⟩) (pile L h n (Nat.le_of_succ_le e))))

/-- Both heads' weighted values, each in its lanes. -/
def duo (L : Held) : FVec Ideal (Sh 2048 128) .bf16 := truncf .bf16 (select (lanes 0) (pile L 0 8 (Nat.le_refl 8)) (pile L 1 8 (Nat.le_refl 8))) narrow

variable {L : Held} {f : Lns} (hL : Hold L f)
include hL

theorem pile_is (h : Fin 2) : ∀ (n : ℕ) (e : n ≤ 8), Is 0 (pile L h n e) (fun t d => ∑ s ∈ Finset.Ico (256 * (8 - n)) 2048, f.W h t s * f.v s d)
  | 0, _ => none128_is _ (fun t d => by simp)
  | n + 1, e => by
    have ih := pile_is h n (Nat.le_of_succ_le e)
    have cut : 8 - n = (7 - n) + 1 := by omega
    rw [cut] at ih
    rw [show 8 - (n + 1) = 7 - n by omega]
    refine bk_is (rv ⟨n, e⟩) _ _ _ (fun t d above => ?_) (fun t d => ?_)
    · have nought : ∑ s : Fin 256, f.W h t.val (256 * (7 - n) + s.val) * f.v (256 * (7 - n) + s.val) d.val = 0 :=
        Finset.sum_eq_zero fun s _ => mul_eq_zero_of_left (f.W_late h _ _ (Nat.lt_of_lt_of_le above (Nat.le_add_right _ _))) _
      rw [ih t d, zero_add, ico_step (7 - n) (by omega), nought, add_zero]
    · rw [QT_at, tl_is (rv ⟨n, e⟩) _ _ ih t d, Finset.sum_congr rfl fun s _ => by rw [Wt_is hL h ⟨n, e⟩, vp_is hL (rv ⟨n, e⟩) s d, ← EReal.coe_mul], Cert.Real.sum_coe, ← EReal.coe_add, ico_step (7 - n) (by omega)]
      rfl

theorem duo_is (r : Fin 2048) (d : Fin 128) : duo L (ix2 r d) = ((∑ s ∈ Finset.range 2048, f.W (hd d) r s * f.v s d : ℝ) : EReal) := by
  have whole (l : Fin 2) : pile L l 8 (Nat.le_refl 8) (ix2 r d) = ((∑ s ∈ Finset.range 2048, f.W l r s * f.v s d : ℝ) : EReal) := by
    have e := pile_is hL l 8 (Nat.le_refl 8) r d
    rwa [zero_add, show 256 * (8 - 8) = 0 from rfl, ← Finset.range_eq_Ico] at e
  show Scalar.select (lanes 0 (ix2 r d)) (pile L 0 8 (Nat.le_refl 8) (ix2 r d)) (pile L 1 8 (Nat.le_refl 8) (ix2 r d)) = _
  rw [lanes_at, whole, whole, hd]
  by_cases low : d.val / 64 = 0 <;> simp [low, Scalar.select]

end Cert.Stick

namespace Cert.Kernel13Ideal.Rows

open Cert.Kernel13Ideal Cert.Kernel13Ideal.Gen
open Cert.Stick (Held duo)
open Idealize.ShloMosaic Idealize.ShloMosaic.TcCoe Idealize.ShloMosaic.Tactic

/-- A chunk's rows of a block, and all rows. -/
abbrev rq (kc : Fin 8) : Rect S2048x128 := Rect.unit ![256 * kc.val, 0] S256x128.size (fun a => by
  match a with
  | ⟨0, _⟩ => show 256 * kc.val + 256 ≤ 2048; omega
  | ⟨1, _⟩ => show 0 + 128 ≤ 128; omega)
abbrev ra : Rect S2048x128 := Rect.unit ![0, 0] S2048x128.size (by decide)

variable (c : Dev nD) (i : grid0.Coords) (arg1 : Memref sig .tc .vmem S2048x128 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x128 .bf16) (harg4 : arg4.IsWhole) (x0 x1 x2 : Vec Ideal S2048x128 .bf16)

/-- What a point loads; no gradient is among it, and the queries stand in its place. -/
def brought : Held where
  q := View.readAt (Elt Ideal) arg1.view ra.toLoadRect (harg1.unread x0)
  d := View.readAt (Elt Ideal) arg1.view ra.toLoadRect (harg1.unread x0)
  k kc := View.readAt (Elt Ideal) arg2.view (rq kc).toLoadRect (harg2.unread x1)
  v kc := View.readAt (Elt Ideal) arg3.view (rq kc).toLoadRect (harg3.unread x2)

theorem run_duo : (kernelRun0_A (F := Ideal) c i arg1 harg1 arg2 harg2 arg3 harg3 arg4 harg4 x0 x1 x2).1 = [⟨ra, duo (brought arg1 harg1 arg2 harg2 arg3 harg3 x0 x1 x2)⟩] := by
  sl_kernel_rfl

end Cert.Kernel13Ideal.Rows
-- ==== Proof.StickFwd.lean ====
/- The stick-breaking attention: the kernel's result is the reference's. -/
module

public import proofs.«01_k».proof.Proof.StickRun
public import proofs.«01_k».proof.Proof.SbIn
public import proofs.«01_k».proof.Proof.Gen.Reference13Ideal.Run
public import proofs.«01_k».proof.Pre_finite13

@[expose] public section

set_option maxRecDepth 16384

noncomputable section

namespace Cert.Pre_finite13
instance facts : Facts where
  bcast_S_S1x2048x512 := by decide
end Cert.Pre_finite13

namespace Cert.Reference13Ideal.Value

open Idealize.ShloMosaic
open Cert.Reference13Ideal Cert.Reference13Ideal.Gen
open Cert.Reference7Ideal.Value (ln Rows HD MG HD_at MG_at)
open Cert.Reference8Ideal.Value (ZL WT WT_is Vals Are)
open Cert.Kernel7Ideal.Value (OT OT_at)

/-- The values under the weights. -/
def SV (q k v : Rows) : Rows := MG (OT (WT (ZL q k)) (HD v))

theorem run_sv (m : (ℓ : Loc nD τ sig) → Buf (Elt Ideal) ℓ) (c : Dev nD) : res_out0 m c = SV (m ((c.tc : Thread nD τ).loc main_arg0)) (m ((c.tc : Thread nD τ).loc main_arg1)) (m ((c.tc : Thread nD τ).loc main_arg2)) := by
  unfold res_out0 res_main_v27
  rfl

theorem sv_is {q k v d : Rows} {g : Vals} (H : Are q k v d g) (h : Fin 8) (t : Fin 2048) (j : Fin 64) : SV q k v (ix3 0 t (ln h j)) = ((∑ s, g.W h t s * g.v s (ln h j) : ℝ) : EReal) := by
  refine (MG_at _ t h j).trans ((OT_at _ _ h t j).trans ?_)
  simp only [WT_is H, HD_at, H.v, ← EReal.coe_mul, Cert.Real.sum_coe]

end Cert.Reference13Ideal.Value

namespace Cert.Kernel13Ideal.Value

open Cert.Kernel13Ideal Cert.Kernel13Ideal.Gen
open Cert.Kernel13Ideal.Rows (rq ra brought run_duo)
open Cert.Stick (Hold duo duo_is)
open Cert.Reference13Ideal.Value (SV sv_is run_sv)
open Cert.Reference7Ideal.Value (ln eighth)
open Cert.Reference8Ideal.Value (Vals Are)
open Cert.Kernel7Ideal.Value (at2_fin hp lp hj lp_hj h4 h2 hp_h hd_hj ln_of sum_range_fin rw0_idx rq_idx)
open Cert.Kernel8Ideal.Value (ALL ALL_q ALL_k ALL_v cc lns lns_W lns_v)
open Idealize.ShloMosaic Idealize.ShloMosaic.TcCoe Idealize.SL.Sem
open Idealize.ShloMosaic.Pipeline (Dat)

variable (m : (ℓ : Loc nD τ sig) → Buf (Elt Ideal) ℓ)

abbrev inQ (c : Dev nD) : FVec Ideal S1x2048x512 .f32 := m ((c : Thread nD τ).loc main_arg0)
abbrev inK (c : Dev nD) : FVec Ideal S1x2048x512 .f32 := m ((c : Thread nD τ).loc main_arg1)
abbrev inV (c : Dev nD) : FVec Ideal S1x2048x512 .f32 := m ((c : Thread nD τ).loc main_arg2)

/-! ## What a point is given -/

theorem handed (c : Dev nD) : V m c main_v7 = truncf .bf16 (ALL (inQ m c) (inK m c) (inV m c)) bitsLt_bf16_f32 := by
  simp only [V, V0, hostOps0, List.flatten_cons, List.flatten_nil, List.append_nil, List.cons_append, List.nil_append]
  after_results
  rfl

theorem idx : ∀ t : Fin cfg0.N, win0_0.index t = ![0, t.val] ∧ win0_1.index t = ![0, 4 + t.val] ∧ win0_2.index t = ![0, 8 + t.val] ∧ win0_3.index t = ![0, t.val] :=
  (by decide +kernel : ∀ t : Fin grid0.N, _)

/-- A point's pair of heads, and back. -/
def pair (t : Fin cfg0.N) : Fin 4 := ⟨t.val, t.isLt⟩
def site (p : Fin 4) : Fin cfg0.N := ⟨p.val, p.isLt⟩

/-- A block's entry is an entry of the columns that the host laid side by side. -/
theorem blk0 (c : Dev nD) (t : Fin cfg0.N) (r : Fin 2048) (d : Fin 128) : iblk m c 0 t (ix2 r d) = ALL (inQ m c) (inK m c) (inV m c) (ix2 r (cc 0 (lp (pair t) d))) := by
  unfold iblk
  rw [View.read, cast_eq]
  exact (congrArg (V m c main_v7) (by blk_ext [idx t, cc, lp, pair])).trans (congrFun (handed m c) _)
theorem blk1 (c : Dev nD) (t : Fin cfg0.N) (r : Fin 2048) (d : Fin 128) : iblk m c 1 t (ix2 r d) = ALL (inQ m c) (inK m c) (inV m c) (ix2 r (cc 1 (lp (pair t) d))) := by
  unfold iblk
  rw [View.read, cast_eq]
  exact (congrArg (V m c main_v7) (by blk_ext [idx t, cc, lp, pair])).trans (congrFun (handed m c) _)
theorem blk2 (c : Dev nD) (t : Fin cfg0.N) (r : Fin 2048) (d : Fin 128) : iblk m c 2 t (ix2 r d) = ALL (inQ m c) (inK m c) (inV m c) (ix2 r (cc 2 (lp (pair t) d))) := by
  unfold iblk
  rw [View.read, cast_eq]
  exact (congrArg (V m c main_v7) (by blk_ext [idx t, cc, lp, pair])).trans (congrFun (handed m c) _)

def at_point (c : Dev nD) (t : Fin cfg0.N) : Cert.Stick.Held := brought (ms0_0 t) (hs0_0 t) (ms0_1 t) (hs0_1 t) (ms0_2 t) (hs0_2 t) (iblk m c 0 t) (iblk m c 1 t) (iblk m c 2 t)

variable {m} {c : Dev nD} {g : Vals} (H : Are (inQ m c) (inK m c) (inV m c) (inV m c) g)

/-- A point's numbers: those of its pair, with the queries in the gradient's place. -/
def own (g : Vals) (p : Fin 4) : Cert.Stick.Lns := { lns g p with d := (lns g p).q }

include H

theorem q_at (t : Fin cfg0.N) (r : Fin 2048) (d : Fin 128) : (at_point m c t).q (ix2 r d) = (((own g (pair t)).q r d : ℝ) : EReal) := by
  refine (Memref.IsWhole.readAt_unread (hs0_0 t) _ _ _).trans ((congrArg _ (rw0_idx r d)).trans ((blk0 m c t r d).trans ?_))
  rw [ALL_q, H.q, eighth, ← EReal.coe_mul]
  exact congrArg _ (at2_fin (fun r d => g.q r (lp (pair t) d) * (1 / 8)) r d).symm

theorem at_point_is (t : Fin cfg0.N) : Hold (at_point m c t) (own g (pair t)) where
  q := q_at H t
  d := q_at H t
  k kc s d := by
    refine (Memref.IsWhole.readAt_unread (hs0_1 t) _ _ _).trans ((congrArg _ (rq_idx kc s d)).trans ((blk1 m c t _ d).trans ?_))
    rw [ALL_k, H.k]
    exact congrArg _ (at2_fin (fun r d => g.k r (lp (pair t) d)) (⟨256 * kc.val + s.val, by omega⟩ : Fin 2048) d).symm
  v kc s d := by
    refine (Memref.IsWhole.readAt_unread (hs0_2 t) _ _ _).trans ((congrArg _ (rq_idx kc s d)).trans ((blk2 m c t _ d).trans ?_))
    rw [ALL_v, H.v]
    exact congrArg _ (at2_fin (fun r d => g.v r (lp (pair t) d)) (⟨256 * kc.val + s.val, by omega⟩ : Fin 2048) d).symm

omit H
variable (m)

/-! ## The array that the points fill -/

theorem left_at (c : Dev nD) (t : Fin cfg0.N) : (dats m 0 c).after 3 t = duo (at_point m c t) := by
  rw [after0_3]
  unfold outsAt0 out0_A_3 at_point
  dsimp only
  rw [run_duo, View.read_writes_junk_eq_canon]
  exact View.canon_cons_unit_lit (Val := Elt Ideal) (e := .bf16) (S := S2048x128) (off := ![0, 0]) (by decide) _ [] (by decide)

theorem put_at (t : Fin cfg0.N) (r : Fin 2048) (d : Fin 128) : ((cfg0.win 3).blk t).view.emb (ix2 r d) = ix2 r (lp (pair t) d) := by blk_ext [idx t, lp, pair]

/-- A column's pair and lane. -/
def side (j : Fin 512) : Fin 4 := ⟨j.val / 128, by omega⟩
def lane (j : Fin 512) : Fin 128 := ⟨j.val % 128, by omega⟩

theorem left_col (c : Dev nD) (t : Fin cfg0.N) (r : Fin 2048) (d : Fin 128) : (dats m 0 c).after 3 t (ix2 r d) = duo (at_point m c (site (side (lp (pair t) d)))) (ix2 r (lane (lp (pair t) d))) := by
  have e1 : site (side (lp (pair t) d)) = t := Fin.ext (by simp only [site, side, lp, pair]; omega)
  have e2 : lane (lp (pair t) d) = d := Fin.ext (by simp only [lane, lp]; omega)
  rw [e1, e2, left_at]

theorem filled (c : Dev nD) : (dats m 0 c).arrAt 3 (cfgs 0).N = fun i => duo (at_point m c (site (side (i 1)))) (ix2 (i 0) (lane (i 1))) := by
  refine (dats m 0 c).arrAt_eq_of_covers 3 _ (by decide +kernel) fun t hf y => ?_
  blk_simp
  idx_vars y
  rw [put_at]
  exact left_col m c t _ _

def TO (x : FVec Ideal S2048x512 .bf16) : FVec Ideal S1x2048x512 .f32 := extf .f32 (broadcastInDim S1x2048x512 ![1, 2] bcast_S2048x512_S1x2048x512_1_2 x) bitsLt_bf16_f32

theorem TO_at (x) (t : Fin 2048) (j : Fin 512) : TO x (ix3 0 t j) = x (ix2 t j) := by
  pointwise [TO]

theorem tail (c : Dev nD) : Pipeline.afterTail₀ cfgs (dats m) 0 (V0 m) [hostOps1] c main_v10 = TO ((dats m 0 c).arrAt 3 (cfgs 0).N) := by
  unfold Pipeline.afterTail₀
  simp only [hostOps1, List.flatten_cons, List.flatten_nil, List.append_nil, List.cons_append]
  after_results
  exact congrArg TO (Pipeline.withArrays_arr_shared spec0 c (V0 m c) _ ((dats m 0 c).arrAt_sharedIn sharedIn0 (V0 m c) (A_eq m c) (cfgs 0).N) 3)

variable {m}

/-- The sums over a head's keys are the reference's. -/
theorem sum_at (g : Vals) (h : Fin 8) (t : Fin 2048) (j : Fin 64) : ∑ s ∈ Finset.range 2048, (own g (h4 h)).W (h2 h) t s * (own g (h4 h)).v s (hj (h2 h) j).val = ∑ s, g.W h t s * g.v s (ln h j) := by
  rw [sum_range_fin]
  refine Finset.sum_congr rfl fun s _ => ?_
  rw [show (own g (h4 h)).W (h2 h) t s = (lns g (h4 h)).W (h2 h) t s from rfl, show (own g (h4 h)).v = (lns g (h4 h)).v from rfl, lns_W, lns_v, hp_h]

include H in
theorem out_is (t : Fin 2048) (h : Fin 8) (j : Fin 64) : (dats m 0 c).arrAt 3 (cfgs 0).N (ix2 t (ln h j)) = ((∑ s, g.W h t s * g.v s (ln h j) : ℝ) : EReal) := by
  refine (congrFun (filled m c) _).trans ?_
  have e1 : side (ln h j) = h4 h := Fin.ext (by simp only [side, ln, h4]; omega)
  have e2 : lane (ln h j) = hj (h2 h) j := Fin.ext (by simp only [lane, ln, hj, h2]; omega)
  show duo (at_point m c (site (side (ln h j)))) (ix2 t (lane (ln h j))) = _
  rw [e1, e2]
  refine (duo_is (at_point_is H (site (h4 h))) t _).trans (congrArg _ ?_)
  rw [hd_hj]
  exact sum_at g h t j

include H in
theorem result {x0 x1 x2 : FVec Ideal S1x2048x512 .f32} (e0 : x0 = inQ m c) (e1 : x1 = inK m c) (e2 : x2 = inV m c) : SV x0 x1 x2 = Pipeline.afterTail₀ cfgs (dats m) 0 (V0 m) [hostOps1] c main_v10 := by
  subst e0 e1 e2
  rw [tail]
  funext i
  idx_vars i
  obtain rfl : i0 = 0 := Subsingleton.elim _ _
  obtain ⟨h, j, rfl⟩ := ln_of i2
  exact (sv_is H h i1 j).trans ((out_is H i1 h j).symm.trans (TO_at _ i1 (ln h j)).symm)

theorem algebraic : Cert.algebraic_Kernel13Ideal_Reference13Ideal_pre_finite13 := by
  pair_intro
  · run_from Gen.run_main m g & Gen.frame_of m g (dats m) (A_eq m) (Gen.run_main m g)
  · run_from Cert.Reference13Ideal.Value.run m' g'
    all_goals
      obtain ⟨h0, h1, h2⟩ := hagree c
      obtain ⟨q0, q1, q2⟩ := hpre c
      obtain ⟨v, H⟩ := Cert.Reference8Ideal.Value.exists_vals (Cert.Real.of_finite _ _ q0) (Cert.Real.of_finite _ _ q1) (Cert.Real.of_finite _ _ q2) (Cert.Real.of_finite _ _ q2)
    · exact (run_sv m' c).trans (result H h0 h1 h2)

end Cert.Kernel13Ideal.Value
-- ==== Proof.lean ====
/- The proof of every claim: the frames and the value claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Act
public import proofs.«01_k».proof.Proof.ChannelGate
public import proofs.«01_k».proof.Proof.Decay
public import proofs.«01_k».proof.Proof.FfnInput
public import proofs.«01_k».proof.Proof.FfnUp
public import proofs.«01_k».proof.Proof.ForgetGate
public import proofs.«01_k».proof.Proof.Fox
public import proofs.«01_k».proof.Proof.FoxBits
public import proofs.«01_k».proof.Proof.FoxFrame
public import proofs.«01_k».proof.Proof.Fwd
public import proofs.«01_k».proof.Proof.LossHead
public import proofs.«01_k».proof.Proof.MixUp
public import proofs.«01_k».proof.Proof.MixerInput
public import proofs.«01_k».proof.Proof.Real
public import proofs.«01_k».proof.Proof.RmsUp
public import proofs.«01_k».proof.Proof.Sb
public import proofs.«01_k».proof.Proof.SbBits
public import proofs.«01_k».proof.Proof.SbFrame
public import proofs.«01_k».proof.Proof.StickFwd
public import Idealize.ShloMosaic.Adequacy
public import Idealize.ShloMosaic.Init

@[expose] public section

noncomputable section

namespace Cert.Proof

open Idealize.ShloMosaic Idealize.SL.Sem

/-- The run of the reference, read at its arguments; it declares no semaphore. -/
theorem reference_frame : Cert.quiescent_ReferenceIdeal := fun m g _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The run of the reference, read at its arguments; it declares no semaphore. -/
theorem reference_frame2 : Cert.quiescent_Reference2Ideal := fun m g _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m g)

/-- The run of the reference, read at its arguments; it declares no semaphore. -/
theorem reference_frame3 : Cert.quiescent_Reference3Ideal := fun m g _ =>
  (θ_run Cert.Reference3Ideal.defs _ _).mono (fun r h => ⟨fun c => (h c).2.2, Idealize.ShloMosaic.sem_eq_zero_of_no_sems (by decide) r.2⟩)
    (Cert.Reference3Ideal.Value.run (F := Ideal) m g)

/-- The run of the reference, read at its arguments; it declares no semaphore. -/
theorem reference_frame4 : Cert.quiescent_Reference4Ideal := fun m g _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m g)

/-- The run of the reference, read at its arguments; it declares no semaphore. -/
theorem reference_frame5 : Cert.quiescent_Reference5Ideal := fun m g _ =>
  (θ_run Cert.Reference5Ideal.defs _ _).mono (fun r h => ⟨fun c => (h c).2.2, Idealize.ShloMosaic.sem_eq_zero_of_no_sems (by decide) r.2⟩)
    (Cert.Reference5Ideal.Value.run (F := Ideal) m g)

/-- The run of the reference, read at its arguments; it declares no semaphore. -/
theorem reference_frame6 : Cert.quiescent_Reference6Ideal := fun m g _ =>
  (θ_run Cert.Reference6Ideal.defs _ _).mono (fun r h => ⟨fun c => (h c).2.2, Idealize.ShloMosaic.sem_eq_zero_of_no_sems (by decide) r.2⟩)
    (Cert.Reference6Ideal.Value.run (F := Ideal) m g)

/-- The run of the reference, read at its arguments; it declares no semaphore. -/
theorem reference_frame7 : Cert.quiescent_Reference7Ideal := fun m g _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m g)

/-- The run of the reference, read at its arguments; it declares no semaphore. -/
theorem reference_frame8 : Cert.quiescent_Reference8Ideal := fun m g _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m g)

/-- The run of the reference, read at its arguments; it declares no semaphore. -/
theorem reference_frame9 : Cert.quiescent_Reference9Ideal := fun m g _ =>
  (θ_run Cert.Reference9Ideal.defs _ _).mono (fun r h => ⟨fun c => (h c).2.2, Idealize.ShloMosaic.sem_eq_zero_of_no_sems (by decide) r.2⟩)
    (Cert.Reference9Ideal.Value.run (F := Ideal) m g)

/-- The run of the reference, read at its arguments; it declares no semaphore. -/
theorem reference_frame10 : Cert.quiescent_Reference10Ideal := fun m g _ =>
  (θ_run Cert.Reference10Ideal.defs _ _).mono (fun r h => ⟨fun c => (h c).2.2, Idealize.ShloMosaic.sem_eq_zero_of_no_sems (by decide) r.2⟩)
    (Cert.Reference10Ideal.Value.run (F := Ideal) m g)

/-- The run of the reference, read at its arguments; it declares no semaphore. -/
theorem reference_frame11 : Cert.quiescent_Reference11Ideal := fun m g _ =>
  (θ_run Cert.Reference11Ideal.defs _ _).mono (fun r h => ⟨fun c => (h c).2.2.2, Idealize.ShloMosaic.sem_eq_zero_of_no_sems (by decide) r.2⟩)
    (Cert.Reference11Ideal.Value.run (F := Ideal) m g)

/-- The run of the reference, read at its arguments; it declares no semaphore. -/
theorem reference_frame12 : Cert.quiescent_Reference12Ideal := fun m g _ =>
  (θ_run Cert.Reference12Ideal.defs _ _).mono (fun r h => ⟨fun c => (h c).2.2.2, Idealize.ShloMosaic.sem_eq_zero_of_no_sems (by decide) r.2⟩)
    (Cert.Reference12Ideal.Value.run (F := Ideal) m g)

/-- The run of the reference, read at its arguments; it declares no semaphore. -/
theorem reference_frame13 : Cert.quiescent_Reference13Ideal := fun m g _ =>
  (θ_run Cert.Reference13Ideal.defs _ _).mono (fun r h => ⟨fun c => (h c).2, Idealize.ShloMosaic.sem_eq_zero_of_no_sems (by decide) r.2⟩)
    (Cert.Reference13Ideal.Value.run (F := Ideal) m g)

/-- The run of the reference, read at its arguments; it declares no semaphore. -/
theorem reference_frame14 : Cert.quiescent_Reference14Ideal := fun m g _ =>
  (θ_run Cert.Reference14Ideal.defs _ _).mono (fun r h => ⟨fun c => (h c).2, Idealize.ShloMosaic.sem_eq_zero_of_no_sems (by decide) r.2⟩)
    (Cert.Reference14Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.facts, Cert.Pre_finite2.facts, Cert.Pre_finite3.facts, Cert.Pre_finite5.facts, Cert.Pre_finite6.facts, Cert.Pre_finite7.facts, Cert.Pre_finite8.facts, Cert.Pre_finite9.facts, Cert.Pre_finite13.facts, Cert.Pre_finite14.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  fun m g _ => Cert.Kernel2Ideal.Gen.frame m g,
  reference_frame2,
  fun m g _ => reference_frame2 m g trivial,
  fun m g _ => Cert.Kernel3.Gen.frame m g,
  fun m g _ => Cert.Kernel3Ideal.Gen.frame m g,
  fun m g _ => Cert.Kernel3Ideal.Gen.frame m g,
  reference_frame3,
  fun m g _ => reference_frame3 m g trivial,
  fun m g _ => Cert.Kernel4.Gen.frame m g,
  fun m g _ => Cert.Kernel4Ideal.Gen.frame m g,
  reference_frame4,
  fun m g _ => Cert.Kernel5.Gen.frame m g,
  fun m g _ => Cert.Kernel5Ideal.Gen.frame m g,
  fun m g _ => Cert.Kernel5Ideal.Gen.frame m g,
  reference_frame5,
  fun m g _ => reference_frame5 m g trivial,
  fun m g _ => Cert.Kernel6.Gen.frame m g,
  fun m g _ => Cert.Kernel6Ideal.Gen.frame m g,
  fun m g _ => Cert.Kernel6Ideal.Gen.frame m g,
  reference_frame6,
  fun m g _ => reference_frame6 m g trivial,
  fun m g _ => Cert.Kernel7.Fox.frame m g,
  fun m g _ => Cert.Kernel7Ideal.Fox.frame m g,
  fun m g _ => Cert.Kernel7Ideal.Fox.frame m g,
  reference_frame7,
  fun m g _ => reference_frame7 m g trivial,
  fun m g _ => Cert.Kernel8.Sb.frame m g,
  fun m g _ => Cert.Kernel8Ideal.Sb.frame m g,
  fun m g _ => Cert.Kernel8Ideal.Sb.frame m g,
  reference_frame8,
  fun m g _ => reference_frame8 m g trivial,
  fun m g _ => Cert.Kernel9.Gen.frame m g,
  fun m g _ => Cert.Kernel9Ideal.Gen.frame m g,
  fun m g _ => Cert.Kernel9Ideal.Gen.frame m g,
  reference_frame9,
  fun m g _ => reference_frame9 m g trivial,
  fun m g _ => Cert.Kernel10.Gen.frame m g,
  fun m g _ => Cert.Kernel10Ideal.Gen.frame m g,
  reference_frame10,
  fun m g _ => Cert.Kernel11.Gen.frame m g,
  fun m g _ => Cert.Kernel11Ideal.Gen.frame m g,
  reference_frame11,
  fun m g _ => Cert.Kernel12.Gen.frame m g,
  fun m g _ => Cert.Kernel12Ideal.Gen.frame m g,
  reference_frame12,
  fun m g _ => Cert.Kernel13.Gen.frame m g,
  fun m g _ => Cert.Kernel13Ideal.Gen.frame m g,
  fun m g _ => Cert.Kernel13Ideal.Gen.frame m g,
  reference_frame13,
  fun m g _ => reference_frame13 m g trivial,
  fun m g _ => Cert.Kernel14.Gen.frame m g,
  fun m g _ => Cert.Kernel14Ideal.Gen.frame m g,
  fun m g _ => Cert.Kernel14Ideal.Gen.frame m g,
  reference_frame14,
  fun m g _ => reference_frame14 m g trivial,
  trivial,
  Cert.KernelIdeal.Value.algebraic,
  trivial,
  Cert.Kernel2Ideal.Value.algebraic,
  trivial,
  Cert.Kernel3Ideal.Value.algebraic,
  trivial,
  Cert.Kernel4Ideal.Value.algebraic,
  trivial,
  Cert.Kernel5Ideal.Value.algebraic,
  trivial,
  Cert.Kernel6Ideal.Value.algebraic,
  trivial,
  Cert.Kernel7Ideal.Value.algebraic,
  (IdealRules.named_const.statement Cert.Kernel8Ideal.κ "log2_e" .f32 0x3FB8AA3B#32 (((Real.log 2)⁻¹ : ℝ) : EReal) rfl),
  Cert.Kernel8Ideal.Value.algebraic,
  trivial,
  Cert.Kernel9Ideal.Value.algebraic,
  trivial,
  Cert.Kernel10Ideal.Value.algebraic,
  trivial,
  Cert.Kernel11Ideal.Value.algebraic,
  trivial,
  Cert.Kernel12Ideal.Value.algebraic,
  (IdealRules.named_const.statement Cert.Kernel13Ideal.κ "log2_e" .f32 0x3FB8AA3B#32 (((Real.log 2)⁻¹ : ℝ) : EReal) rfl),
  Cert.Kernel13Ideal.Value.algebraic,
  trivial,
  Cert.Kernel14Ideal.Value.algebraic⟩

end Cert.Proof

end
